-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDo (m : (ℓ : Loc Cert.ProjDo.nD Cert.ProjDo.τ Cert.ProjDo.sig) → Buf (Elt Bits) ℓ) : Prop :=
  True

def Pre_ProjDoIdeal (m : (ℓ : Loc Cert.ProjDoIdeal.nD Cert.ProjDoIdeal.τ Cert.ProjDoIdeal.sig) → Buf (Elt Ideal) ℓ) : Prop :=
  True

def Pre_ProjDoRefIdeal (m : (ℓ : Loc Cert.ProjDoRefIdeal.nD Cert.ProjDoRefIdeal.τ Cert.ProjDoRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_LruOutBwd (m : (ℓ : Loc Cert.LruOutBwd.nD Cert.LruOutBwd.τ Cert.LruOutBwd.sig) → Buf (Elt Bits) ℓ) : Prop :=
  True

def Pre_LruOutBwdIdeal (m : (ℓ : Loc Cert.LruOutBwdIdeal.nD Cert.LruOutBwdIdeal.τ Cert.LruOutBwdIdeal.sig) → Buf (Elt Ideal) ℓ) : Prop :=
  True

def Pre_LruOutBwdRefIdeal (m : (ℓ : Loc Cert.LruOutBwdRefIdeal.nD Cert.LruOutBwdRefIdeal.τ Cert.LruOutBwdRefIdeal.sig) → Buf (Elt Ideal) ℓ) : Prop :=
  True

def Pre_LruOut (m : (ℓ : Loc Cert.LruOut.nD Cert.LruOut.τ Cert.LruOut.sig) → Buf (Elt Bits) ℓ) : Prop :=
  True

def Pre_LruOutIdeal (m : (ℓ : Loc Cert.LruOutIdeal.nD Cert.LruOutIdeal.τ Cert.LruOutIdeal.sig) → Buf (Elt Ideal) ℓ) : Prop :=
  True

def Pre_LruOutRefIdeal (m : (ℓ : Loc Cert.LruOutRefIdeal.nD Cert.LruOutRefIdeal.τ Cert.LruOutRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ConvDx (m : (ℓ : Loc Cert.ConvDx.nD Cert.ConvDx.τ Cert.ConvDx.sig) → Buf (Elt Bits) ℓ) : Prop :=
  True

def Pre_ConvDxIdeal (m : (ℓ : Loc Cert.ConvDxIdeal.nD Cert.ConvDxIdeal.τ Cert.ConvDxIdeal.sig) → Buf (Elt Ideal) ℓ) : Prop :=
  True

def Pre_ConvDxRefIdeal (m : (ℓ : Loc Cert.ConvDxRefIdeal.nD Cert.ConvDxRefIdeal.τ Cert.ConvDxRefIdeal.sig) → Buf (Elt Ideal) ℓ) : Prop :=
  True

def Pre_ConvDw (m : (ℓ : Loc Cert.ConvDw.nD Cert.ConvDw.τ Cert.ConvDw.sig) → Buf (Elt Bits) ℓ) : Prop :=
  True

def Pre_ConvDwIdeal (m : (ℓ : Loc Cert.ConvDwIdeal.nD Cert.ConvDwIdeal.τ Cert.ConvDwIdeal.sig) → Buf (Elt Ideal) ℓ) : Prop :=
  True

def Pre_ConvDwRefIdeal (m : (ℓ : Loc Cert.ConvDwRefIdeal.nD Cert.ConvDwRefIdeal.τ Cert.ConvDwRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_SkipBwd (m : (ℓ : Loc Cert.SkipBwd.nD Cert.SkipBwd.τ Cert.SkipBwd.sig) → Buf (Elt Bits) ℓ) : Prop :=
  True

def Pre_SkipBwdIdeal (m : (ℓ : Loc Cert.SkipBwdIdeal.nD Cert.SkipBwdIdeal.τ Cert.SkipBwdIdeal.sig) → Buf (Elt Ideal) ℓ) : Prop :=
  True

def Pre_SkipBwdRefIdeal (m : (ℓ : Loc Cert.SkipBwdRefIdeal.nD Cert.SkipBwdRefIdeal.τ Cert.SkipBwdRefIdeal.sig) → Buf (Elt Ideal) ℓ) : Prop :=
  True

def Pre_Skip (m : (ℓ : Loc Cert.Skip.nD Cert.Skip.τ Cert.Skip.sig) → Buf (Elt Bits) ℓ) : Prop :=
  True

def Pre_SkipIdeal (m : (ℓ : Loc Cert.SkipIdeal.nD Cert.SkipIdeal.τ Cert.SkipIdeal.sig) → Buf (Elt Ideal) ℓ) : Prop :=
  True

def Pre_SkipRefIdeal (m : (ℓ : Loc Cert.SkipRefIdeal.nD Cert.SkipRefIdeal.τ Cert.SkipRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_GluPre (m : (ℓ : Loc Cert.GluPre.nD Cert.GluPre.τ Cert.GluPre.sig) → Buf (Elt Bits) ℓ) : Prop :=
  True

def Pre_GluPreIdeal (m : (ℓ : Loc Cert.GluPreIdeal.nD Cert.GluPreIdeal.τ Cert.GluPreIdeal.sig) → Buf (Elt Ideal) ℓ) : Prop :=
  True

def Pre_GluPreRefIdeal (m : (ℓ : Loc Cert.GluPreRefIdeal.nD Cert.GluPreRefIdeal.τ Cert.GluPreRefIdeal.sig) → Buf (Elt Ideal) ℓ) : Prop :=
  True

def Pre_StateInDx (m : (ℓ : Loc Cert.StateInDx.nD Cert.StateInDx.τ Cert.StateInDx.sig) → Buf (Elt Bits) ℓ) : Prop :=
  True

def Pre_StateInDxIdeal (m : (ℓ : Loc Cert.StateInDxIdeal.nD Cert.StateInDxIdeal.τ Cert.StateInDxIdeal.sig) → Buf (Elt Ideal) ℓ) : Prop :=
  True

def Pre_StateInDxRefIdeal (m : (ℓ : Loc Cert.StateInDxRefIdeal.nD Cert.StateInDxRefIdeal.τ Cert.StateInDxRefIdeal.sig) → Buf (Elt Ideal) ℓ) : Prop :=
  True

def Pre_StateInDxLast (m : (ℓ : Loc Cert.StateInDxLast.nD Cert.StateInDxLast.τ Cert.StateInDxLast.sig) → Buf (Elt Bits) ℓ) : Prop :=
  True

def Pre_StateInDxLastIdeal (m : (ℓ : Loc Cert.StateInDxLastIdeal.nD Cert.StateInDxLastIdeal.τ Cert.StateInDxLastIdeal.sig) → Buf (Elt Ideal) ℓ) : Prop :=
  True

def Pre_StateInDxLastRefIdeal (m : (ℓ : Loc Cert.StateInDxLastRefIdeal.nD Cert.StateInDxLastRefIdeal.τ Cert.StateInDxLastRefIdeal.sig) → Buf (Elt Ideal) ℓ) : Prop :=
  True

def Pre_StateInDw (m : (ℓ : Loc Cert.StateInDw.nD Cert.StateInDw.τ Cert.StateInDw.sig) → Buf (Elt Bits) ℓ) : Prop :=
  True

def Pre_StateInDwIdeal (m : (ℓ : Loc Cert.StateInDwIdeal.nD Cert.StateInDwIdeal.τ Cert.StateInDwIdeal.sig) → Buf (Elt Ideal) ℓ) : Prop :=
  True

def Pre_StateInDwRefIdeal (m : (ℓ : Loc Cert.StateInDwRefIdeal.nD Cert.StateInDwRefIdeal.τ Cert.StateInDwRefIdeal.sig) → Buf (Elt Ideal) ℓ) : Prop :=
  True

def Pre_StateIn (m : (ℓ : Loc Cert.StateIn.nD Cert.StateIn.τ Cert.StateIn.sig) → Buf (Elt Bits) ℓ) : Prop :=
  True

def Pre_StateInIdeal (m : (ℓ : Loc Cert.StateInIdeal.nD Cert.StateInIdeal.τ Cert.StateInIdeal.sig) → Buf (Elt Ideal) ℓ) : Prop :=
  True

def Pre_StateInRefIdeal (m : (ℓ : Loc Cert.StateInRefIdeal.nD Cert.StateInRefIdeal.τ Cert.StateInRefIdeal.sig) → Buf (Elt Ideal) ℓ) : Prop :=
  True

def Pre_StateOutDx (m : (ℓ : Loc Cert.StateOutDx.nD Cert.StateOutDx.τ Cert.StateOutDx.sig) → Buf (Elt Bits) ℓ) : Prop :=
  True

def Pre_StateOutDxIdeal (m : (ℓ : Loc Cert.StateOutDxIdeal.nD Cert.StateOutDxIdeal.τ Cert.StateOutDxIdeal.sig) → Buf (Elt Ideal) ℓ) : Prop :=
  True

def Pre_StateOutDxRefIdeal (m : (ℓ : Loc Cert.StateOutDxRefIdeal.nD Cert.StateOutDxRefIdeal.τ Cert.StateOutDxRefIdeal.sig) → Buf (Elt Ideal) ℓ) : Prop :=
  True

def Pre_StateOutDw (m : (ℓ : Loc Cert.StateOutDw.nD Cert.StateOutDw.τ Cert.StateOutDw.sig) → Buf (Elt Bits) ℓ) : Prop :=
  True

def Pre_StateOutDwIdeal (m : (ℓ : Loc Cert.StateOutDwIdeal.nD Cert.StateOutDwIdeal.τ Cert.StateOutDwIdeal.sig) → Buf (Elt Ideal) ℓ) : Prop :=
  True

def Pre_StateOutDwRefIdeal (m : (ℓ : Loc Cert.StateOutDwRefIdeal.nD Cert.StateOutDwRefIdeal.τ Cert.StateOutDwRefIdeal.sig) → Buf (Elt Ideal) ℓ) : Prop :=
  True

def Pre_StateOut (m : (ℓ : Loc Cert.StateOut.nD Cert.StateOut.τ Cert.StateOut.sig) → Buf (Elt Bits) ℓ) : Prop :=
  True

def Pre_StateOutIdeal (m : (ℓ : Loc Cert.StateOutIdeal.nD Cert.StateOutIdeal.τ Cert.StateOutIdeal.sig) → Buf (Elt Ideal) ℓ) : Prop :=
  True

def Pre_StateOutRefIdeal (m : (ℓ : Loc Cert.StateOutRefIdeal.nD Cert.StateOutRefIdeal.τ Cert.StateOutRefIdeal.sig) → Buf (Elt Ideal) ℓ) : Prop :=
  True

def Pre_GateADx (m : (ℓ : Loc Cert.GateADx.nD Cert.GateADx.τ Cert.GateADx.sig) → Buf (Elt Bits) ℓ) : Prop :=
  True

def Pre_GateADxIdeal (m : (ℓ : Loc Cert.GateADxIdeal.nD Cert.GateADxIdeal.τ Cert.GateADxIdeal.sig) → Buf (Elt Ideal) ℓ) : Prop :=
  True

def Pre_GateADxRefIdeal (m : (ℓ : Loc Cert.GateADxRefIdeal.nD Cert.GateADxRefIdeal.τ Cert.GateADxRefIdeal.sig) → Buf (Elt Ideal) ℓ) : Prop :=
  True

def Pre_GateXDx (m : (ℓ : Loc Cert.GateXDx.nD Cert.GateXDx.τ Cert.GateXDx.sig) → Buf (Elt Bits) ℓ) : Prop :=
  True

def Pre_GateXDxIdeal (m : (ℓ : Loc Cert.GateXDxIdeal.nD Cert.GateXDxIdeal.τ Cert.GateXDxIdeal.sig) → Buf (Elt Ideal) ℓ) : Prop :=
  True

def Pre_GateXDxRefIdeal (m : (ℓ : Loc Cert.GateXDxRefIdeal.nD Cert.GateXDxRefIdeal.τ Cert.GateXDxRefIdeal.sig) → Buf (Elt Ideal) ℓ) : Prop :=
  True

def Pre_GateADw (m : (ℓ : Loc Cert.GateADw.nD Cert.GateADw.τ Cert.GateADw.sig) → Buf (Elt Bits) ℓ) : Prop :=
  True

def Pre_GateADwIdeal (m : (ℓ : Loc Cert.GateADwIdeal.nD Cert.GateADwIdeal.τ Cert.GateADwIdeal.sig) → Buf (Elt Ideal) ℓ) : Prop :=
  True

def Pre_GateADwRefIdeal (m : (ℓ : Loc Cert.GateADwRefIdeal.nD Cert.GateADwRefIdeal.τ Cert.GateADwRefIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_GateInRefIdeal (m : (ℓ : Loc Cert.GateInRefIdeal.nD Cert.GateInRefIdeal.τ Cert.GateInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2)
      ∧ r.2.mem ((c.tc : Thread Cert.GateDx.nD Cert.GateDx.τ).loc Cert.GateDx.main_arg3) = m ((c.tc : Thread Cert.GateDx.nD Cert.GateDx.τ).loc Cert.GateDx.main_arg3))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
      ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1)
      ∧ r.2.mem ((c.tc : Thread Cert.GateDxRefIdeal.nD Cert.GateDxRefIdeal.τ).loc Cert.GateDxRefIdeal.main_arg2) = m ((c.tc : Thread Cert.GateDxRefIdeal.nD Cert.GateDxRefIdeal.τ).loc Cert.GateDxRefIdeal.main_arg2)
      ∧ r.2.mem ((c.tc : Thread Cert.GateDxRefIdeal.nD Cert.GateDxRefIdeal.τ).loc Cert.GateDxRefIdeal.main_arg3) = m ((c.tc : Thread Cert.GateDxRefIdeal.nD Cert.GateDxRefIdeal.τ).loc Cert.GateDxRefIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDo [hProjDo : Cert.ProjDo.Facts] : Prop :=
  ∀ (m : (ℓ : Loc Cert.ProjDo.nD Cert.ProjDo.τ Cert.ProjDo.sig) → Buf (Elt Bits) ℓ) (g : Dev Cert.ProjDo.nD → PrngReg), Pre_ProjDo m →
    θ_run (Cert.ProjDo.defs (F := Bits)) (onTc (τ := Cert.ProjDo.τ) (Cert.ProjDo.main (F := Bits))) ⟨m, fun _ => 0, g⟩ (fun r => (∀ c : Dev Cert.ProjDo.nD,
      r.2.mem ((c.tc : Thread Cert.ProjDo.nD Cert.ProjDo.τ).loc Cert.ProjDo.main_arg0) = m ((c.tc : Thread Cert.ProjDo.nD Cert.ProjDo.τ).loc Cert.ProjDo.main_arg0)
      ∧ r.2.mem ((c.tc : Thread Cert.ProjDo.nD Cert.ProjDo.τ).loc Cert.ProjDo.main_arg1) = m ((c.tc : Thread Cert.ProjDo.nD Cert.ProjDo.τ).loc Cert.ProjDo.main_arg1))
      ∧ r.2.sem = fun _ => 0)

def quiescent_ProjDoIdeal [hProjDoIdeal : Cert.ProjDoIdeal.Facts] : Prop :=
  ∀ (m : (ℓ : Loc Cert.ProjDoIdeal.nD Cert.ProjDoIdeal.τ Cert.ProjDoIdeal.sig) → Buf (Elt Ideal) ℓ) (g : Dev Cert.ProjDoIdeal.nD → PrngReg), Pre_ProjDoIdeal m →
    θ_run (Cert.ProjDoIdeal.defs (F := Ideal)) (onTc (τ := Cert.ProjDoIdeal.τ) (Cert.ProjDoIdeal.main (F := Ideal))) ⟨m, fun _ => 0, g⟩ (fun r => (∀ c : Dev Cert.ProjDoIdeal.nD,
      r.2.mem ((c.tc : Thread Cert.ProjDoIdeal.nD Cert.ProjDoIdeal.τ).loc Cert.ProjDoIdeal.main_arg0) = m ((c.tc : Thread Cert.ProjDoIdeal.nD Cert.ProjDoIdeal.τ).loc Cert.ProjDoIdeal.main_arg0)
      ∧ r.2.mem ((c.tc : Thread Cert.ProjDoIdeal.nD Cert.ProjDoIdeal.τ).loc Cert.ProjDoIdeal.main_arg1) = m ((c.tc : Thread Cert.ProjDoIdeal.nD Cert.ProjDoIdeal.τ).loc Cert.ProjDoIdeal.main_arg1))
      ∧ r.2.sem = fun _ => 0)

def quiescent_ProjDoRefIdeal [hProjDoRefIdeal : Cert.ProjDoRefIdeal.Facts] : Prop :=
  ∀ (m : (ℓ : Loc Cert.ProjDoRefIdeal.nD Cert.ProjDoRefIdeal.τ Cert.ProjDoRefIdeal.sig) → Buf (Elt Ideal) ℓ) (g : Dev Cert.ProjDoRefIdeal.nD → PrngReg), Pre_ProjDoRefIdeal m →
    θ_run (Cert.ProjDoRefIdeal.defs (F := Ideal)) (onTc (τ := Cert.ProjDoRefIdeal.τ) (Cert.ProjDoRefIdeal.main (F := Ideal))) ⟨m, fun _ => 0, g⟩ (fun r => (∀ c : Dev Cert.ProjDoRefIdeal.nD,
      r.2.mem ((c.tc : Thread Cert.ProjDoRefIdeal.nD Cert.ProjDoRefIdeal.τ).loc Cert.ProjDoRefIdeal.main_arg0) = m ((c.tc : Thread Cert.ProjDoRefIdeal.nD Cert.ProjDoRefIdeal.τ).loc Cert.ProjDoRefIdeal.main_arg0)
      ∧ r.2.mem ((c.tc : Thread Cert.ProjDoRefIdeal.nD Cert.ProjDoRefIdeal.τ).loc Cert.ProjDoRefIdeal.main_arg1) = m ((c.tc : Thread Cert.ProjDoRefIdeal.nD Cert.ProjDoRefIdeal.τ).loc Cert.ProjDoRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0))
      ∧ r.2.sem = fun _ => 0)

def quiescent_LruOutBwd [hLruOutBwd : Cert.LruOutBwd.Facts] : Prop :=
  ∀ (m : (ℓ : Loc Cert.LruOutBwd.nD Cert.LruOutBwd.τ Cert.LruOutBwd.sig) → Buf (Elt Bits) ℓ) (g : Dev Cert.LruOutBwd.nD → PrngReg), Pre_LruOutBwd m →
    θ_run (Cert.LruOutBwd.defs (F := Bits)) (onTc (τ := Cert.LruOutBwd.τ) (Cert.LruOutBwd.main (F := Bits))) ⟨m, fun _ => 0, g⟩ (fun r => (∀ c : Dev Cert.LruOutBwd.nD,
      r.2.mem ((c.tc : Thread Cert.LruOutBwd.nD Cert.LruOutBwd.τ).loc Cert.LruOutBwd.main_arg0) = m ((c.tc : Thread Cert.LruOutBwd.nD Cert.LruOutBwd.τ).loc Cert.LruOutBwd.main_arg0)
      ∧ r.2.mem ((c.tc : Thread Cert.LruOutBwd.nD Cert.LruOutBwd.τ).loc Cert.LruOutBwd.main_arg1) = m ((c.tc : Thread Cert.LruOutBwd.nD Cert.LruOutBwd.τ).loc Cert.LruOutBwd.main_arg1)
      ∧ r.2.mem ((c.tc : Thread Cert.LruOutBwd.nD Cert.LruOutBwd.τ).loc Cert.LruOutBwd.main_arg2) = m ((c.tc : Thread Cert.LruOutBwd.nD Cert.LruOutBwd.τ).loc Cert.LruOutBwd.main_arg2))
      ∧ r.2.sem = fun _ => 0)

def quiescent_LruOutBwdIdeal [hLruOutBwdIdeal : Cert.LruOutBwdIdeal.Facts] : Prop :=
  ∀ (m : (ℓ : Loc Cert.LruOutBwdIdeal.nD Cert.LruOutBwdIdeal.τ Cert.LruOutBwdIdeal.sig) → Buf (Elt Ideal) ℓ) (g : Dev Cert.LruOutBwdIdeal.nD → PrngReg), Pre_LruOutBwdIdeal m →
    θ_run (Cert.LruOutBwdIdeal.defs (F := Ideal)) (onTc (τ := Cert.LruOutBwdIdeal.τ) (Cert.LruOutBwdIdeal.main (F := Ideal))) ⟨m, fun _ => 0, g⟩ (fun r => (∀ c : Dev Cert.LruOutBwdIdeal.nD,
      r.2.mem ((c.tc : Thread Cert.LruOutBwdIdeal.nD Cert.LruOutBwdIdeal.τ).loc Cert.LruOutBwdIdeal.main_arg0) = m ((c.tc : Thread Cert.LruOutBwdIdeal.nD Cert.LruOutBwdIdeal.τ).loc Cert.LruOutBwdIdeal.main_arg0)
      ∧ r.2.mem ((c.tc : Thread Cert.LruOutBwdIdeal.nD Cert.LruOutBwdIdeal.τ).loc Cert.LruOutBwdIdeal.main_arg1) = m ((c.tc : Thread Cert.LruOutBwdIdeal.nD Cert.LruOutBwdIdeal.τ).loc Cert.LruOutBwdIdeal.main_arg1)
      ∧ r.2.mem ((c.tc : Thread Cert.LruOutBwdIdeal.nD Cert.LruOutBwdIdeal.τ).loc Cert.LruOutBwdIdeal.main_arg2) = m ((c.tc : Thread Cert.LruOutBwdIdeal.nD Cert.LruOutBwdIdeal.τ).loc Cert.LruOutBwdIdeal.main_arg2))
      ∧ r.2.sem = fun _ => 0)

def quiescent_LruOutBwdRefIdeal [hLruOutBwdRefIdeal : Cert.LruOutBwdRefIdeal.Facts] : Prop :=
  ∀ (m : (ℓ : Loc Cert.LruOutBwdRefIdeal.nD Cert.LruOutBwdRefIdeal.τ Cert.LruOutBwdRefIdeal.sig) → Buf (Elt Ideal) ℓ) (g : Dev Cert.LruOutBwdRefIdeal.nD → PrngReg), Pre_LruOutBwdRefIdeal m →
    θ_run (Cert.LruOutBwdRefIdeal.defs (F := Ideal)) (onTc (τ := Cert.LruOutBwdRefIdeal.τ) (Cert.LruOutBwdRefIdeal.main (F := Ideal))) ⟨m, fun _ => 0, g⟩ (fun r => (∀ c : Dev Cert.LruOutBwdRefIdeal.nD,
      r.2.mem ((c.tc : Thread Cert.LruOutBwdRefIdeal.nD Cert.LruOutBwdRefIdeal.τ).loc Cert.LruOutBwdRefIdeal.main_arg0) = m ((c.tc : Thread Cert.LruOutBwdRefIdeal.nD Cert.LruOutBwdRefIdeal.τ).loc Cert.LruOutBwdRefIdeal.main_arg0)
      ∧ r.2.mem ((c.tc : Thread Cert.LruOutBwdRefIdeal.nD Cert.LruOutBwdRefIdeal.τ).loc Cert.LruOutBwdRefIdeal.main_arg1) = m ((c.tc : Thread Cert.LruOutBwdRefIdeal.nD Cert.LruOutBwdRefIdeal.τ).loc Cert.LruOutBwdRefIdeal.main_arg1)
      ∧ r.2.mem ((c.tc : Thread Cert.LruOutBwdRefIdeal.nD Cert.LruOutBwdRefIdeal.τ).loc Cert.LruOutBwdRefIdeal.main_arg2) = m ((c.tc : Thread Cert.LruOutBwdRefIdeal.nD Cert.LruOutBwdRefIdeal.τ).loc Cert.LruOutBwdRefIdeal.main_arg2))
      ∧ r.2.sem = fun _ => 0)

def quiescent_LruOut [hLruOut : Cert.LruOut.Facts] : Prop :=
  ∀ (m : (ℓ : Loc Cert.LruOut.nD Cert.LruOut.τ Cert.LruOut.sig) → Buf (Elt Bits) ℓ) (g : Dev Cert.LruOut.nD → PrngReg), Pre_LruOut m →
    θ_run (Cert.LruOut.defs (F := Bits)) (onTc (τ := Cert.LruOut.τ) (Cert.LruOut.main (F := Bits))) ⟨m, fun _ => 0, g⟩ (fun r => (∀ c : Dev Cert.LruOut.nD,
      r.2.mem ((c.tc : Thread Cert.LruOut.nD Cert.LruOut.τ).loc Cert.LruOut.main_arg0) = m ((c.tc : Thread Cert.LruOut.nD Cert.LruOut.τ).loc Cert.LruOut.main_arg0)
      ∧ r.2.mem ((c.tc : Thread Cert.LruOut.nD Cert.LruOut.τ).loc Cert.LruOut.main_arg1) = m ((c.tc : Thread Cert.LruOut.nD Cert.LruOut.τ).loc Cert.LruOut.main_arg1))
      ∧ r.2.sem = fun _ => 0)

def quiescent_LruOutIdeal [hLruOutIdeal : Cert.LruOutIdeal.Facts] : Prop :=
  ∀ (m : (ℓ : Loc Cert.LruOutIdeal.nD Cert.LruOutIdeal.τ Cert.LruOutIdeal.sig) → Buf (Elt Ideal) ℓ) (g : Dev Cert.LruOutIdeal.nD → PrngReg), Pre_LruOutIdeal m →
    θ_run (Cert.LruOutIdeal.defs (F := Ideal)) (onTc (τ := Cert.LruOutIdeal.τ) (Cert.LruOutIdeal.main (F := Ideal))) ⟨m, fun _ => 0, g⟩ (fun r => (∀ c : Dev Cert.LruOutIdeal.nD,
      r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
      ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1))
      ∧ r.2.sem = fun _ => 0)

def quiescent_LruOutRefIdeal [hLruOutRefIdeal : Cert.LruOutRefIdeal.Facts] : Prop :=
  ∀ (m : (ℓ : Loc Cert.LruOutRefIdeal.nD Cert.LruOutRefIdeal.τ Cert.LruOutRefIdeal.sig) → Buf (Elt Ideal) ℓ) (g : Dev Cert.LruOutRefIdeal.nD → PrngReg), Pre_LruOutRefIdeal m →
    θ_run (Cert.LruOutRefIdeal.defs (F := Ideal)) (onTc (τ := Cert.LruOutRefIdeal.τ) (Cert.LruOutRefIdeal.main (F := Ideal))) ⟨m, fun _ => 0, g⟩ (fun r => (∀ c : Dev Cert.LruOutRefIdeal.nD,
      r.2.mem ((c.tc : Thread Cert.LruOutRefIdeal.nD Cert.LruOutRefIdeal.τ).loc Cert.LruOutRefIdeal.main_arg0) = m ((c.tc : Thread Cert.LruOutRefIdeal.nD Cert.LruOutRefIdeal.τ).loc Cert.LruOutRefIdeal.main_arg0)
      ∧ r.2.mem ((c.tc : Thread Cert.LruOutRefIdeal.nD Cert.LruOutRefIdeal.τ).loc Cert.LruOutRefIdeal.main_arg1) = m ((c.tc : Thread Cert.LruOutRefIdeal.nD Cert.LruOutRefIdeal.τ).loc Cert.LruOutRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_ConvDx [hConvDx : Cert.ConvDx.Facts] : Prop :=
  ∀ (m : (ℓ : Loc Cert.ConvDx.nD Cert.ConvDx.τ Cert.ConvDx.sig) → Buf (Elt Bits) ℓ) (g : Dev Cert.ConvDx.nD → PrngReg), Pre_ConvDx m →
    θ_run (Cert.ConvDx.defs (F := Bits)) (onTc (τ := Cert.ConvDx.τ) (Cert.ConvDx.main (F := Bits))) ⟨m, fun _ => 0, g⟩ (fun r => (∀ c : Dev Cert.ConvDx.nD,
      r.2.mem ((c.tc : Thread Cert.ConvDx.nD Cert.ConvDx.τ).loc Cert.ConvDx.main_arg0) = m ((c.tc : Thread Cert.ConvDx.nD Cert.ConvDx.τ).loc Cert.ConvDx.main_arg0)
      ∧ r.2.mem ((c.tc : Thread Cert.ConvDx.nD Cert.ConvDx.τ).loc Cert.ConvDx.main_arg1) = m ((c.tc : Thread Cert.ConvDx.nD Cert.ConvDx.τ).loc Cert.ConvDx.main_arg1))
      ∧ r.2.sem = fun _ => 0)

def quiescent_ConvDxIdeal [hConvDxIdeal : Cert.ConvDxIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg), Pre_ConvDxIdeal m →
    θ_run (Cert.ConvDxIdeal.defs (F := Ideal)) (onTc (τ := Cert.ConvDxIdeal.τ) (Cert.ConvDxIdeal.main (F := Ideal))) ⟨m, fun _ => 0, g⟩ (fun r => (∀ c : Dev Cert.ConvDxIdeal.nD,
      r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
      ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1))
      ∧ r.2.sem = fun _ => 0)

def quiescent_ConvDxRefIdeal [hConvDxRefIdeal : Cert.ConvDxRefIdeal.Facts] : Prop :=
  ∀ (m : (ℓ : Loc Cert.ConvDxRefIdeal.nD Cert.ConvDxRefIdeal.τ Cert.ConvDxRefIdeal.sig) → Buf (Elt Ideal) ℓ) (g : Dev Cert.ConvDxRefIdeal.nD → PrngReg), Pre_ConvDxRefIdeal m →
    θ_run (Cert.ConvDxRefIdeal.defs (F := Ideal)) (onTc (τ := Cert.ConvDxRefIdeal.τ) (Cert.ConvDxRefIdeal.main (F := Ideal))) ⟨m, fun _ => 0, g⟩ (fun r => (∀ c : Dev Cert.ConvDxRefIdeal.nD,
      r.2.mem ((c.tc : Thread Cert.ConvDxRefIdeal.nD Cert.ConvDxRefIdeal.τ).loc Cert.ConvDxRefIdeal.main_arg0) = m ((c.tc : Thread Cert.ConvDxRefIdeal.nD Cert.ConvDxRefIdeal.τ).loc Cert.ConvDxRefIdeal.main_arg0)
      ∧ r.2.mem ((c.tc : Thread Cert.ConvDxRefIdeal.nD Cert.ConvDxRefIdeal.τ).loc Cert.ConvDxRefIdeal.main_arg1) = m ((c.tc : Thread Cert.ConvDxRefIdeal.nD Cert.ConvDxRefIdeal.τ).loc Cert.ConvDxRefIdeal.main_arg1))
      ∧ r.2.sem = fun _ => 0)

def quiescent_ConvDw [hConvDw : Cert.ConvDw.Facts] : Prop :=
  ∀ (m : (ℓ : Loc Cert.ConvDw.nD Cert.ConvDw.τ Cert.ConvDw.sig) → Buf (Elt Bits) ℓ) (g : Dev Cert.ConvDw.nD → PrngReg), Pre_ConvDw m →
    θ_run (Cert.ConvDw.defs (F := Bits)) (onTc (τ := Cert.ConvDw.τ) (Cert.ConvDw.main (F := Bits))) ⟨m, fun _ => 0, g⟩ (fun r => (∀ c : Dev Cert.ConvDw.nD,
      r.2.mem ((c.tc : Thread Cert.ConvDw.nD Cert.ConvDw.τ).loc Cert.ConvDw.main_arg0) = m ((c.tc : Thread Cert.ConvDw.nD Cert.ConvDw.τ).loc Cert.ConvDw.main_arg0)
      ∧ r.2.mem ((c.tc : Thread Cert.ConvDw.nD Cert.ConvDw.τ).loc Cert.ConvDw.main_arg1) = m ((c.tc : Thread Cert.ConvDw.nD Cert.ConvDw.τ).loc Cert.ConvDw.main_arg1)
      ∧ r.2.mem ((c.tc : Thread Cert.ConvDw.nD Cert.ConvDw.τ).loc Cert.ConvDw.main_arg2) = m ((c.tc : Thread Cert.ConvDw.nD Cert.ConvDw.τ).loc Cert.ConvDw.main_arg2)
      ∧ r.2.mem ((c.tc : Thread Cert.ConvDw.nD Cert.ConvDw.τ).loc Cert.ConvDw.main_arg3) = m ((c.tc : Thread Cert.ConvDw.nD Cert.ConvDw.τ).loc Cert.ConvDw.main_arg3))
      ∧ r.2.sem = fun _ => 0)

def quiescent_ConvDwIdeal [hConvDwIdeal : Cert.ConvDwIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg), Pre_ConvDwIdeal m →
    θ_run (Cert.ConvDwIdeal.defs (F := Ideal)) (onTc (τ := Cert.ConvDwIdeal.τ) (Cert.ConvDwIdeal.main (F := Ideal))) ⟨m, fun _ => 0, g⟩ (fun r => (∀ c : Dev Cert.ConvDwIdeal.nD,
      r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
      ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1)
      ∧ r.2.mem ((c.tc : Thread Cert.ConvDwIdeal.nD Cert.ConvDwIdeal.τ).loc Cert.ConvDwIdeal.main_arg2) = m ((c.tc : Thread Cert.ConvDwIdeal.nD Cert.ConvDwIdeal.τ).loc Cert.ConvDwIdeal.main_arg2)
      ∧ r.2.mem ((c.tc : Thread Cert.ConvDwIdeal.nD Cert.ConvDwIdeal.τ).loc Cert.ConvDwIdeal.main_arg3) = m ((c.tc : Thread Cert.ConvDwIdeal.nD Cert.ConvDwIdeal.τ).loc Cert.ConvDwIdeal.main_arg3))
      ∧ r.2.sem = fun _ => 0)

def quiescent_ConvDwRefIdeal [hConvDwRefIdeal : Cert.ConvDwRefIdeal.Facts] : Prop :=
  ∀ (m : (ℓ : Loc Cert.ConvDwRefIdeal.nD Cert.ConvDwRefIdeal.τ Cert.ConvDwRefIdeal.sig) → Buf (Elt Ideal) ℓ) (g : Dev Cert.ConvDwRefIdeal.nD → PrngReg), Pre_ConvDwRefIdeal m →
    θ_run (Cert.ConvDwRefIdeal.defs (F := Ideal)) (onTc (τ := Cert.ConvDwRefIdeal.τ) (Cert.ConvDwRefIdeal.main (F := Ideal))) ⟨m, fun _ => 0, g⟩ (fun r => (∀ c : Dev Cert.ConvDwRefIdeal.nD,
      r.2.mem ((c.tc : Thread Cert.ConvDwRefIdeal.nD Cert.ConvDwRefIdeal.τ).loc Cert.ConvDwRefIdeal.main_arg0) = m ((c.tc : Thread Cert.ConvDwRefIdeal.nD Cert.ConvDwRefIdeal.τ).loc Cert.ConvDwRefIdeal.main_arg0)
      ∧ r.2.mem ((c.tc : Thread Cert.ConvDwRefIdeal.nD Cert.ConvDwRefIdeal.τ).loc Cert.ConvDwRefIdeal.main_arg1) = m ((c.tc : Thread Cert.ConvDwRefIdeal.nD Cert.ConvDwRefIdeal.τ).loc Cert.ConvDwRefIdeal.main_arg1)
      ∧ r.2.mem ((c.tc : Thread Cert.ConvDwRefIdeal.nD Cert.ConvDwRefIdeal.τ).loc Cert.ConvDwRefIdeal.main_arg2) = m ((c.tc : Thread Cert.ConvDwRefIdeal.nD Cert.ConvDwRefIdeal.τ).loc Cert.ConvDwRefIdeal.main_arg2)
      ∧ r.2.mem ((c.tc : Thread Cert.ConvDwRefIdeal.nD Cert.ConvDwRefIdeal.τ).loc Cert.ConvDwRefIdeal.main_arg3) = m ((c.tc : Thread Cert.ConvDwRefIdeal.nD Cert.ConvDwRefIdeal.τ).loc Cert.ConvDwRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_SkipBwd [hSkipBwd : Cert.SkipBwd.Facts] : Prop :=
  ∀ (m : (ℓ : Loc Cert.SkipBwd.nD Cert.SkipBwd.τ Cert.SkipBwd.sig) → Buf (Elt Bits) ℓ) (g : Dev Cert.SkipBwd.nD → PrngReg), Pre_SkipBwd m →
    θ_run (Cert.SkipBwd.defs (F := Bits)) (onTc (τ := Cert.SkipBwd.τ) (Cert.SkipBwd.main (F := Bits))) ⟨m, fun _ => 0, g⟩ (fun r => (∀ c : Dev Cert.SkipBwd.nD,
      r.2.mem ((c.tc : Thread Cert.SkipBwd.nD Cert.SkipBwd.τ).loc Cert.SkipBwd.main_arg0) = m ((c.tc : Thread Cert.SkipBwd.nD Cert.SkipBwd.τ).loc Cert.SkipBwd.main_arg0)
      ∧ r.2.mem ((c.tc : Thread Cert.SkipBwd.nD Cert.SkipBwd.τ).loc Cert.SkipBwd.main_arg1) = m ((c.tc : Thread Cert.SkipBwd.nD Cert.SkipBwd.τ).loc Cert.SkipBwd.main_arg1)
      ∧ r.2.mem ((c.tc : Thread Cert.SkipBwd.nD Cert.SkipBwd.τ).loc Cert.SkipBwd.main_arg2) = m ((c.tc : Thread Cert.SkipBwd.nD Cert.SkipBwd.τ).loc Cert.SkipBwd.main_arg2)
      ∧ r.2.mem ((c.tc : Thread Cert.SkipBwd.nD Cert.SkipBwd.τ).loc Cert.SkipBwd.main_arg3) = m ((c.tc : Thread Cert.SkipBwd.nD Cert.SkipBwd.τ).loc Cert.SkipBwd.main_arg3)
      ∧ r.2.mem ((c.tc : Thread Cert.SkipBwd.nD Cert.SkipBwd.τ).loc Cert.SkipBwd.main_arg4) = m ((c.tc : Thread Cert.SkipBwd.nD Cert.SkipBwd.τ).loc Cert.SkipBwd.main_arg4))
      ∧ r.2.sem = fun _ => 0)

def quiescent_SkipBwdIdeal [hSkipBwdIdeal : Cert.SkipBwdIdeal.Facts] : Prop :=
  ∀ (m : (ℓ : Loc Cert.SkipBwdIdeal.nD Cert.SkipBwdIdeal.τ Cert.SkipBwdIdeal.sig) → Buf (Elt Ideal) ℓ) (g : Dev Cert.SkipBwdIdeal.nD → PrngReg), Pre_SkipBwdIdeal m →
    θ_run (Cert.SkipBwdIdeal.defs (F := Ideal)) (onTc (τ := Cert.SkipBwdIdeal.τ) (Cert.SkipBwdIdeal.main (F := Ideal))) ⟨m, fun _ => 0, g⟩ (fun r => (∀ c : Dev Cert.SkipBwdIdeal.nD,
      r.2.mem ((c.tc : Thread Cert.SkipBwdIdeal.nD Cert.SkipBwdIdeal.τ).loc Cert.SkipBwdIdeal.main_arg0) = m ((c.tc : Thread Cert.SkipBwdIdeal.nD Cert.SkipBwdIdeal.τ).loc Cert.SkipBwdIdeal.main_arg0)
      ∧ r.2.mem ((c.tc : Thread Cert.SkipBwdIdeal.nD Cert.SkipBwdIdeal.τ).loc Cert.SkipBwdIdeal.main_arg1) = m ((c.tc : Thread Cert.SkipBwdIdeal.nD Cert.SkipBwdIdeal.τ).loc Cert.SkipBwdIdeal.main_arg1)
      ∧ r.2.mem ((c.tc : Thread Cert.SkipBwdIdeal.nD Cert.SkipBwdIdeal.τ).loc Cert.SkipBwdIdeal.main_arg2) = m ((c.tc : Thread Cert.SkipBwdIdeal.nD Cert.SkipBwdIdeal.τ).loc Cert.SkipBwdIdeal.main_arg2)
      ∧ r.2.mem ((c.tc : Thread Cert.SkipBwdIdeal.nD Cert.SkipBwdIdeal.τ).loc Cert.SkipBwdIdeal.main_arg3) = m ((c.tc : Thread Cert.SkipBwdIdeal.nD Cert.SkipBwdIdeal.τ).loc Cert.SkipBwdIdeal.main_arg3)
      ∧ r.2.mem ((c.tc : Thread Cert.SkipBwdIdeal.nD Cert.SkipBwdIdeal.τ).loc Cert.SkipBwdIdeal.main_arg4) = m ((c.tc : Thread Cert.SkipBwdIdeal.nD Cert.SkipBwdIdeal.τ).loc Cert.SkipBwdIdeal.main_arg4))
      ∧ r.2.sem = fun _ => 0)

def quiescent_SkipBwdRefIdeal [hSkipBwdRefIdeal : Cert.SkipBwdRefIdeal.Facts] : Prop :=
  ∀ (m : (ℓ : Loc Cert.SkipBwdRefIdeal.nD Cert.SkipBwdRefIdeal.τ Cert.SkipBwdRefIdeal.sig) → Buf (Elt Ideal) ℓ) (g : Dev Cert.SkipBwdRefIdeal.nD → PrngReg), Pre_SkipBwdRefIdeal m →
    θ_run (Cert.SkipBwdRefIdeal.defs (F := Ideal)) (onTc (τ := Cert.SkipBwdRefIdeal.τ) (Cert.SkipBwdRefIdeal.main (F := Ideal))) ⟨m, fun _ => 0, g⟩ (fun r => (∀ c : Dev Cert.SkipBwdRefIdeal.nD,
      r.2.mem ((c.tc : Thread Cert.SkipBwdRefIdeal.nD Cert.SkipBwdRefIdeal.τ).loc Cert.SkipBwdRefIdeal.main_arg0) = m ((c.tc : Thread Cert.SkipBwdRefIdeal.nD Cert.SkipBwdRefIdeal.τ).loc Cert.SkipBwdRefIdeal.main_arg0)
      ∧ r.2.mem ((c.tc : Thread Cert.SkipBwdRefIdeal.nD Cert.SkipBwdRefIdeal.τ).loc Cert.SkipBwdRefIdeal.main_arg1) = m ((c.tc : Thread Cert.SkipBwdRefIdeal.nD Cert.SkipBwdRefIdeal.τ).loc Cert.SkipBwdRefIdeal.main_arg1)
      ∧ r.2.mem ((c.tc : Thread Cert.SkipBwdRefIdeal.nD Cert.SkipBwdRefIdeal.τ).loc Cert.SkipBwdRefIdeal.main_arg2) = m ((c.tc : Thread Cert.SkipBwdRefIdeal.nD Cert.SkipBwdRefIdeal.τ).loc Cert.SkipBwdRefIdeal.main_arg2)
      ∧ r.2.mem ((c.tc : Thread Cert.SkipBwdRefIdeal.nD Cert.SkipBwdRefIdeal.τ).loc Cert.SkipBwdRefIdeal.main_arg3) = m ((c.tc : Thread Cert.SkipBwdRefIdeal.nD Cert.SkipBwdRefIdeal.τ).loc Cert.SkipBwdRefIdeal.main_arg3)
      ∧ r.2.mem ((c.tc : Thread Cert.SkipBwdRefIdeal.nD Cert.SkipBwdRefIdeal.τ).loc Cert.SkipBwdRefIdeal.main_arg4) = m ((c.tc : Thread Cert.SkipBwdRefIdeal.nD Cert.SkipBwdRefIdeal.τ).loc Cert.SkipBwdRefIdeal.main_arg4))
      ∧ r.2.sem = fun _ => 0)

def quiescent_Skip [hSkip : Cert.Skip.Facts] : Prop :=
  ∀ (m : (ℓ : Loc Cert.Skip.nD Cert.Skip.τ Cert.Skip.sig) → Buf (Elt Bits) ℓ) (g : Dev Cert.Skip.nD → PrngReg), Pre_Skip m →
    θ_run (Cert.Skip.defs (F := Bits)) (onTc (τ := Cert.Skip.τ) (Cert.Skip.main (F := Bits))) ⟨m, fun _ => 0, g⟩ (fun r => (∀ c : Dev Cert.Skip.nD,
      r.2.mem ((c.tc : Thread Cert.Skip.nD Cert.Skip.τ).loc Cert.Skip.main_arg0) = m ((c.tc : Thread Cert.Skip.nD Cert.Skip.τ).loc Cert.Skip.main_arg0)
      ∧ r.2.mem ((c.tc : Thread Cert.Skip.nD Cert.Skip.τ).loc Cert.Skip.main_arg1) = m ((c.tc : Thread Cert.Skip.nD Cert.Skip.τ).loc Cert.Skip.main_arg1)
      ∧ r.2.mem ((c.tc : Thread Cert.Skip.nD Cert.Skip.τ).loc Cert.Skip.main_arg2) = m ((c.tc : Thread Cert.Skip.nD Cert.Skip.τ).loc Cert.Skip.main_arg2)
      ∧ r.2.mem ((c.tc : Thread Cert.Skip.nD Cert.Skip.τ).loc Cert.Skip.main_arg3) = m ((c.tc : Thread Cert.Skip.nD Cert.Skip.τ).loc Cert.Skip.main_arg3))
      ∧ r.2.sem = fun _ => 0)

def quiescent_SkipIdeal [hSkipIdeal : Cert.SkipIdeal.Facts] : Prop :=
  ∀ (m : (ℓ : Loc Cert.SkipIdeal.nD Cert.SkipIdeal.τ Cert.SkipIdeal.sig) → Buf (Elt Ideal) ℓ) (g : Dev Cert.SkipIdeal.nD → PrngReg), Pre_SkipIdeal m →
    θ_run (Cert.SkipIdeal.defs (F := Ideal)) (onTc (τ := Cert.SkipIdeal.τ) (Cert.SkipIdeal.main (F := Ideal))) ⟨m, fun _ => 0, g⟩ (fun r => (∀ c : Dev Cert.SkipIdeal.nD,
      r.2.mem ((c.tc : Thread Cert.SkipIdeal.nD Cert.SkipIdeal.τ).loc Cert.SkipIdeal.main_arg0) = m ((c.tc : Thread Cert.SkipIdeal.nD Cert.SkipIdeal.τ).loc Cert.SkipIdeal.main_arg0)
      ∧ r.2.mem ((c.tc : Thread Cert.SkipIdeal.nD Cert.SkipIdeal.τ).loc Cert.SkipIdeal.main_arg1) = m ((c.tc : Thread Cert.SkipIdeal.nD Cert.SkipIdeal.τ).loc Cert.SkipIdeal.main_arg1)
      ∧ r.2.mem ((c.tc : Thread Cert.SkipIdeal.nD Cert.SkipIdeal.τ).loc Cert.SkipIdeal.main_arg2) = m ((c.tc : Thread Cert.SkipIdeal.nD Cert.SkipIdeal.τ).loc Cert.SkipIdeal.main_arg2)
      ∧ r.2.mem ((c.tc : Thread Cert.SkipIdeal.nD Cert.SkipIdeal.τ).loc Cert.SkipIdeal.main_arg3) = m ((c.tc : Thread Cert.SkipIdeal.nD Cert.SkipIdeal.τ).loc Cert.SkipIdeal.main_arg3))
      ∧ r.2.sem = fun _ => 0)

def quiescent_SkipRefIdeal [hSkipRefIdeal : Cert.SkipRefIdeal.Facts] : Prop :=
  ∀ (m : (ℓ : Loc Cert.SkipRefIdeal.nD Cert.SkipRefIdeal.τ Cert.SkipRefIdeal.sig) → Buf (Elt Ideal) ℓ) (g : Dev Cert.SkipRefIdeal.nD → PrngReg), Pre_SkipRefIdeal m →
    θ_run (Cert.SkipRefIdeal.defs (F := Ideal)) (onTc (τ := Cert.SkipRefIdeal.τ) (Cert.SkipRefIdeal.main (F := Ideal))) ⟨m, fun _ => 0, g⟩ (fun r => (∀ c : Dev Cert.SkipRefIdeal.nD,
      r.2.mem ((c.tc : Thread Cert.SkipRefIdeal.nD Cert.SkipRefIdeal.τ).loc Cert.SkipRefIdeal.main_arg0) = m ((c.tc : Thread Cert.SkipRefIdeal.nD Cert.SkipRefIdeal.τ).loc Cert.SkipRefIdeal.main_arg0)
      ∧ r.2.mem ((c.tc : Thread Cert.SkipRefIdeal.nD Cert.SkipRefIdeal.τ).loc Cert.SkipRefIdeal.main_arg1) = m ((c.tc : Thread Cert.SkipRefIdeal.nD Cert.SkipRefIdeal.τ).loc Cert.SkipRefIdeal.main_arg1)
      ∧ r.2.mem ((c.tc : Thread Cert.SkipRefIdeal.nD Cert.SkipRefIdeal.τ).loc Cert.SkipRefIdeal.main_arg2) = m ((c.tc : Thread Cert.SkipRefIdeal.nD Cert.SkipRefIdeal.τ).loc Cert.SkipRefIdeal.main_arg2)
      ∧ r.2.mem ((c.tc : Thread Cert.SkipRefIdeal.nD Cert.SkipRefIdeal.τ).loc Cert.SkipRefIdeal.main_arg3) = m ((c.tc : Thread Cert.SkipRefIdeal.nD Cert.SkipRefIdeal.τ).loc Cert.SkipRefIdeal.main_arg3))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_GluPre [hGluPre : Cert.GluPre.Facts] : Prop :=
  ∀ (m : (ℓ : Loc Cert.GluPre.nD Cert.GluPre.τ Cert.GluPre.sig) → Buf (Elt Bits) ℓ) (g : Dev Cert.GluPre.nD → PrngReg), Pre_GluPre m →
    θ_run (Cert.GluPre.defs (F := Bits)) (onTc (τ := Cert.GluPre.τ) (Cert.GluPre.main (F := Bits))) ⟨m, fun _ => 0, g⟩ (fun r => (∀ c : Dev Cert.GluPre.nD,
      r.2.mem ((c.tc : Thread Cert.GluPre.nD Cert.GluPre.τ).loc Cert.GluPre.main_arg0) = m ((c.tc : Thread Cert.GluPre.nD Cert.GluPre.τ).loc Cert.GluPre.main_arg0)
      ∧ r.2.mem ((c.tc : Thread Cert.GluPre.nD Cert.GluPre.τ).loc Cert.GluPre.main_arg1) = m ((c.tc : Thread Cert.GluPre.nD Cert.GluPre.τ).loc Cert.GluPre.main_arg1))
      ∧ r.2.sem = fun _ => 0)

def quiescent_GluPreIdeal [hGluPreIdeal : Cert.GluPreIdeal.Facts] : Prop :=
  ∀ (m : (ℓ : Loc Cert.GluPreIdeal.nD Cert.GluPreIdeal.τ Cert.GluPreIdeal.sig) → Buf (Elt Ideal) ℓ) (g : Dev Cert.GluPreIdeal.nD → PrngReg), Pre_GluPreIdeal m →
    θ_run (Cert.GluPreIdeal.defs (F := Ideal)) (onTc (τ := Cert.GluPreIdeal.τ) (Cert.GluPreIdeal.main (F := Ideal))) ⟨m, fun _ => 0, g⟩ (fun r => (∀ c : Dev Cert.GluPreIdeal.nD,
      r.2.mem ((c.tc : Thread Cert.GluPreIdeal.nD Cert.GluPreIdeal.τ).loc Cert.GluPreIdeal.main_arg0) = m ((c.tc : Thread Cert.GluPreIdeal.nD Cert.GluPreIdeal.τ).loc Cert.GluPreIdeal.main_arg0)
      ∧ r.2.mem ((c.tc : Thread Cert.GluPreIdeal.nD Cert.GluPreIdeal.τ).loc Cert.GluPreIdeal.main_arg1) = m ((c.tc : Thread Cert.GluPreIdeal.nD Cert.GluPreIdeal.τ).loc Cert.GluPreIdeal.main_arg1))
      ∧ r.2.sem = fun _ => 0)

def quiescent_GluPreRefIdeal [hGluPreRefIdeal : Cert.GluPreRefIdeal.Facts] : Prop :=
  ∀ (m : (ℓ : Loc Cert.GluPreRefIdeal.nD Cert.GluPreRefIdeal.τ Cert.GluPreRefIdeal.sig) → Buf (Elt Ideal) ℓ) (g : Dev Cert.GluPreRefIdeal.nD → PrngReg), Pre_GluPreRefIdeal m →
    θ_run (Cert.GluPreRefIdeal.defs (F := Ideal)) (onTc (τ := Cert.GluPreRefIdeal.τ) (Cert.GluPreRefIdeal.main (F := Ideal))) ⟨m, fun _ => 0, g⟩ (fun r => (∀ c : Dev Cert.GluPreRefIdeal.nD,
      r.2.mem ((c.tc : Thread Cert.GluPreRefIdeal.nD Cert.GluPreRefIdeal.τ).loc Cert.GluPreRefIdeal.main_arg0) = m ((c.tc : Thread Cert.GluPreRefIdeal.nD Cert.GluPreRefIdeal.τ).loc Cert.GluPreRefIdeal.main_arg0)
      ∧ r.2.mem ((c.tc : Thread Cert.GluPreRefIdeal.nD Cert.GluPreRefIdeal.τ).loc Cert.GluPreRefIdeal.main_arg1) = m ((c.tc : Thread Cert.GluPreRefIdeal.nD Cert.GluPreRefIdeal.τ).loc Cert.GluPreRefIdeal.main_arg1))
      ∧ r.2.sem = fun _ => 0)

def quiescent_StateInDx [hStateInDx : Cert.StateInDx.Facts] : Prop :=
  ∀ (m : (ℓ : Loc Cert.StateInDx.nD Cert.StateInDx.τ Cert.StateInDx.sig) → Buf (Elt Bits) ℓ) (g : Dev Cert.StateInDx.nD → PrngReg), Pre_StateInDx m →
    θ_run (Cert.StateInDx.defs (F := Bits)) (onTc (τ := Cert.StateInDx.τ) (Cert.StateInDx.main (F := Bits))) ⟨m, fun _ => 0, g⟩ (fun r => (∀ c : Dev Cert.StateInDx.nD,
      r.2.mem ((c.tc : Thread Cert.StateInDx.nD Cert.StateInDx.τ).loc Cert.StateInDx.main_arg0) = m ((c.tc : Thread Cert.StateInDx.nD Cert.StateInDx.τ).loc Cert.StateInDx.main_arg0)
      ∧ r.2.mem ((c.tc : Thread Cert.StateInDx.nD Cert.StateInDx.τ).loc Cert.StateInDx.main_arg1) = m ((c.tc : Thread Cert.StateInDx.nD Cert.StateInDx.τ).loc Cert.StateInDx.main_arg1)
      ∧ r.2.mem ((c.tc : Thread Cert.StateInDx.nD Cert.StateInDx.τ).loc Cert.StateInDx.main_arg2) = m ((c.tc : Thread Cert.StateInDx.nD Cert.StateInDx.τ).loc Cert.StateInDx.main_arg2))
      ∧ r.2.sem = fun _ => 0)

def quiescent_StateInDxIdeal [hStateInDxIdeal : Cert.StateInDxIdeal.Facts] : Prop :=
  ∀ (m : (ℓ : Loc Cert.StateInDxIdeal.nD Cert.StateInDxIdeal.τ Cert.StateInDxIdeal.sig) → Buf (Elt Ideal) ℓ) (g : Dev Cert.StateInDxIdeal.nD → PrngReg), Pre_StateInDxIdeal m →
    θ_run (Cert.StateInDxIdeal.defs (F := Ideal)) (onTc (τ := Cert.StateInDxIdeal.τ) (Cert.StateInDxIdeal.main (F := Ideal))) ⟨m, fun _ => 0, g⟩ (fun r => (∀ c : Dev Cert.StateInDxIdeal.nD,
      r.2.mem ((c.tc : Thread Cert.StateInDxIdeal.nD Cert.StateInDxIdeal.τ).loc Cert.StateInDxIdeal.main_arg0) = m ((c.tc : Thread Cert.StateInDxIdeal.nD Cert.StateInDxIdeal.τ).loc Cert.StateInDxIdeal.main_arg0)
      ∧ r.2.mem ((c.tc : Thread Cert.StateInDxIdeal.nD Cert.StateInDxIdeal.τ).loc Cert.StateInDxIdeal.main_arg1) = m ((c.tc : Thread Cert.StateInDxIdeal.nD Cert.StateInDxIdeal.τ).loc Cert.StateInDxIdeal.main_arg1)
      ∧ r.2.mem ((c.tc : Thread Cert.StateInDxIdeal.nD Cert.StateInDxIdeal.τ).loc Cert.StateInDxIdeal.main_arg2) = m ((c.tc : Thread Cert.StateInDxIdeal.nD Cert.StateInDxIdeal.τ).loc Cert.StateInDxIdeal.main_arg2))
      ∧ r.2.sem = fun _ => 0)

def quiescent_StateInDxRefIdeal [hStateInDxRefIdeal : Cert.StateInDxRefIdeal.Facts] : Prop :=
  ∀ (m : (ℓ : Loc Cert.StateInDxRefIdeal.nD Cert.StateInDxRefIdeal.τ Cert.StateInDxRefIdeal.sig) → Buf (Elt Ideal) ℓ) (g : Dev Cert.StateInDxRefIdeal.nD → PrngReg), Pre_StateInDxRefIdeal m →
    θ_run (Cert.StateInDxRefIdeal.defs (F := Ideal)) (onTc (τ := Cert.StateInDxRefIdeal.τ) (Cert.StateInDxRefIdeal.main (F := Ideal))) ⟨m, fun _ => 0, g⟩ (fun r => (∀ c : Dev Cert.StateInDxRefIdeal.nD,
      r.2.mem ((c.tc : Thread Cert.StateInDxRefIdeal.nD Cert.StateInDxRefIdeal.τ).loc Cert.StateInDxRefIdeal.main_arg0) = m ((c.tc : Thread Cert.StateInDxRefIdeal.nD Cert.StateInDxRefIdeal.τ).loc Cert.StateInDxRefIdeal.main_arg0)
      ∧ r.2.mem ((c.tc : Thread Cert.StateInDxRefIdeal.nD Cert.StateInDxRefIdeal.τ).loc Cert.StateInDxRefIdeal.main_arg1) = m ((c.tc : Thread Cert.StateInDxRefIdeal.nD Cert.StateInDxRefIdeal.τ).loc Cert.StateInDxRefIdeal.main_arg1)
      ∧ r.2.mem ((c.tc : Thread Cert.StateInDxRefIdeal.nD Cert.StateInDxRefIdeal.τ).loc Cert.StateInDxRefIdeal.main_arg2) = m ((c.tc : Thread Cert.StateInDxRefIdeal.nD Cert.StateInDxRefIdeal.τ).loc Cert.StateInDxRefIdeal.main_arg2))
      ∧ r.2.sem = fun _ => 0)

def quiescent_StateInDxLast [hStateInDxLast : Cert.StateInDxLast.Facts] : Prop :=
  ∀ (m : (ℓ : Loc Cert.StateInDxLast.nD Cert.StateInDxLast.τ Cert.StateInDxLast.sig) → Buf (Elt Bits) ℓ) (g : Dev Cert.StateInDxLast.nD → PrngReg), Pre_StateInDxLast m →
    θ_run (Cert.StateInDxLast.defs (F := Bits)) (onTc (τ := Cert.StateInDxLast.τ) (Cert.StateInDxLast.main (F := Bits))) ⟨m, fun _ => 0, g⟩ (fun r => (∀ c : Dev Cert.StateInDxLast.nD,
      r.2.mem ((c.tc : Thread Cert.StateInDxLast.nD Cert.StateInDxLast.τ).loc Cert.StateInDxLast.main_arg0) = m ((c.tc : Thread Cert.StateInDxLast.nD Cert.StateInDxLast.τ).loc Cert.StateInDxLast.main_arg0)
      ∧ r.2.mem ((c.tc : Thread Cert.StateInDxLast.nD Cert.StateInDxLast.τ).loc Cert.StateInDxLast.main_arg1) = m ((c.tc : Thread Cert.StateInDxLast.nD Cert.StateInDxLast.τ).loc Cert.StateInDxLast.main_arg1)
      ∧ r.2.mem ((c.tc : Thread Cert.StateInDxLast.nD Cert.StateInDxLast.τ).loc Cert.StateInDxLast.main_arg2) = m ((c.tc : Thread Cert.StateInDxLast.nD Cert.StateInDxLast.τ).loc Cert.StateInDxLast.main_arg2))
      ∧ r.2.sem = fun _ => 0)

def quiescent_StateInDxLastIdeal [hStateInDxLastIdeal : Cert.StateInDxLastIdeal.Facts] : Prop :=
  ∀ (m : (ℓ : Loc Cert.StateInDxLastIdeal.nD Cert.StateInDxLastIdeal.τ Cert.StateInDxLastIdeal.sig) → Buf (Elt Ideal) ℓ) (g : Dev Cert.StateInDxLastIdeal.nD → PrngReg), Pre_StateInDxLastIdeal m →
    θ_run (Cert.StateInDxLastIdeal.defs (F := Ideal)) (onTc (τ := Cert.StateInDxLastIdeal.τ) (Cert.StateInDxLastIdeal.main (F := Ideal))) ⟨m, fun _ => 0, g⟩ (fun r => (∀ c : Dev Cert.StateInDxLastIdeal.nD,
      r.2.mem ((c.tc : Thread Cert.StateInDxLastIdeal.nD Cert.StateInDxLastIdeal.τ).loc Cert.StateInDxLastIdeal.main_arg0) = m ((c.tc : Thread Cert.StateInDxLastIdeal.nD Cert.StateInDxLastIdeal.τ).loc Cert.StateInDxLastIdeal.main_arg0)
      ∧ r.2.mem ((c.tc : Thread Cert.StateInDxLastIdeal.nD Cert.StateInDxLastIdeal.τ).loc Cert.StateInDxLastIdeal.main_arg1) = m ((c.tc : Thread Cert.StateInDxLastIdeal.nD Cert.StateInDxLastIdeal.τ).loc Cert.StateInDxLastIdeal.main_arg1)
      ∧ r.2.mem ((c.tc : Thread Cert.StateInDxLastIdeal.nD Cert.StateInDxLastIdeal.τ).loc Cert.StateInDxLastIdeal.main_arg2) = m ((c.tc : Thread Cert.StateInDxLastIdeal.nD Cert.StateInDxLastIdeal.τ).loc Cert.StateInDxLastIdeal.main_arg2))
      ∧ r.2.sem = fun _ => 0)

def quiescent_StateInDxLastRefIdeal [hStateInDxLastRefIdeal : Cert.StateInDxLastRefIdeal.Facts] : Prop :=
  ∀ (m : (ℓ : Loc Cert.StateInDxLastRefIdeal.nD Cert.StateInDxLastRefIdeal.τ Cert.StateInDxLastRefIdeal.sig) → Buf (Elt Ideal) ℓ) (g : Dev Cert.StateInDxLastRefIdeal.nD → PrngReg), Pre_StateInDxLastRefIdeal m →
    θ_run (Cert.StateInDxLastRefIdeal.defs (F := Ideal)) (onTc (τ := Cert.StateInDxLastRefIdeal.τ) (Cert.StateInDxLastRefIdeal.main (F := Ideal))) ⟨m, fun _ => 0, g⟩ (fun r => (∀ c : Dev Cert.StateInDxLastRefIdeal.nD,
      r.2.mem ((c.tc : Thread Cert.StateInDxLastRefIdeal.nD Cert.StateInDxLastRefIdeal.τ).loc Cert.StateInDxLastRefIdeal.main_arg0) = m ((c.tc : Thread Cert.StateInDxLastRefIdeal.nD Cert.StateInDxLastRefIdeal.τ).loc Cert.StateInDxLastRefIdeal.main_arg0)
      ∧ r.2.mem ((c.tc : Thread Cert.StateInDxLastRefIdeal.nD Cert.StateInDxLastRefIdeal.τ).loc Cert.StateInDxLastRefIdeal.main_arg1) = m ((c.tc : Thread Cert.StateInDxLastRefIdeal.nD Cert.StateInDxLastRefIdeal.τ).loc Cert.StateInDxLastRefIdeal.main_arg1)
      ∧ r.2.mem ((c.tc : Thread Cert.StateInDxLastRefIdeal.nD Cert.StateInDxLastRefIdeal.τ).loc Cert.StateInDxLastRefIdeal.main_arg2) = m ((c.tc : Thread Cert.StateInDxLastRefIdeal.nD Cert.StateInDxLastRefIdeal.τ).loc Cert.StateInDxLastRefIdeal.main_arg2))
      ∧ r.2.sem = fun _ => 0)

def quiescent_StateInDw [hStateInDw : Cert.StateInDw.Facts] : Prop :=
  ∀ (m : (ℓ : Loc Cert.StateInDw.nD Cert.StateInDw.τ Cert.StateInDw.sig) → Buf (Elt Bits) ℓ) (g : Dev Cert.StateInDw.nD → PrngReg), Pre_StateInDw m →
    θ_run (Cert.StateInDw.defs (F := Bits)) (onTc (τ := Cert.StateInDw.τ) (Cert.StateInDw.main (F := Bits))) ⟨m, fun _ => 0, g⟩ (fun r => (∀ c : Dev Cert.StateInDw.nD,
      r.2.mem ((c.tc : Thread Cert.StateInDw.nD Cert.StateInDw.τ).loc Cert.StateInDw.main_arg0) = m ((c.tc : Thread Cert.StateInDw.nD Cert.StateInDw.τ).loc Cert.StateInDw.main_arg0)
      ∧ r.2.mem ((c.tc : Thread Cert.StateInDw.nD Cert.StateInDw.τ).loc Cert.StateInDw.main_arg1) = m ((c.tc : Thread Cert.StateInDw.nD Cert.StateInDw.τ).loc Cert.StateInDw.main_arg1))
      ∧ r.2.sem = fun _ => 0)

def quiescent_StateInDwIdeal [hStateInDwIdeal : Cert.StateInDwIdeal.Facts] : Prop :=
  ∀ (m : (ℓ : Loc Cert.StateInDwIdeal.nD Cert.StateInDwIdeal.τ Cert.StateInDwIdeal.sig) → Buf (Elt Ideal) ℓ) (g : Dev Cert.StateInDwIdeal.nD → PrngReg), Pre_StateInDwIdeal m →
    θ_run (Cert.StateInDwIdeal.defs (F := Ideal)) (onTc (τ := Cert.StateInDwIdeal.τ) (Cert.StateInDwIdeal.main (F := Ideal))) ⟨m, fun _ => 0, g⟩ (fun r => (∀ c : Dev Cert.StateInDwIdeal.nD,
      r.2.mem ((c.tc : Thread Cert.StateInDwIdeal.nD Cert.StateInDwIdeal.τ).loc Cert.StateInDwIdeal.main_arg0) = m ((c.tc : Thread Cert.StateInDwIdeal.nD Cert.StateInDwIdeal.τ).loc Cert.StateInDwIdeal.main_arg0)
      ∧ r.2.mem ((c.tc : Thread Cert.StateInDwIdeal.nD Cert.StateInDwIdeal.τ).loc Cert.StateInDwIdeal.main_arg1) = m ((c.tc : Thread Cert.StateInDwIdeal.nD Cert.StateInDwIdeal.τ).loc Cert.StateInDwIdeal.main_arg1))
      ∧ r.2.sem = fun _ => 0)

def quiescent_StateInDwRefIdeal [hStateInDwRefIdeal : Cert.StateInDwRefIdeal.Facts] : Prop :=
  ∀ (m : (ℓ : Loc Cert.StateInDwRefIdeal.nD Cert.StateInDwRefIdeal.τ Cert.StateInDwRefIdeal.sig) → Buf (Elt Ideal) ℓ) (g : Dev Cert.StateInDwRefIdeal.nD → PrngReg), Pre_StateInDwRefIdeal m →
    θ_run (Cert.StateInDwRefIdeal.defs (F := Ideal)) (onTc (τ := Cert.StateInDwRefIdeal.τ) (Cert.StateInDwRefIdeal.main (F := Ideal))) ⟨m, fun _ => 0, g⟩ (fun r => (∀ c : Dev Cert.StateInDwRefIdeal.nD,
      r.2.mem ((c.tc : Thread Cert.StateInDwRefIdeal.nD Cert.StateInDwRefIdeal.τ).loc Cert.StateInDwRefIdeal.main_arg0) = m ((c.tc : Thread Cert.StateInDwRefIdeal.nD Cert.StateInDwRefIdeal.τ).loc Cert.StateInDwRefIdeal.main_arg0)
      ∧ r.2.mem ((c.tc : Thread Cert.StateInDwRefIdeal.nD Cert.StateInDwRefIdeal.τ).loc Cert.StateInDwRefIdeal.main_arg1) = m ((c.tc : Thread Cert.StateInDwRefIdeal.nD Cert.StateInDwRefIdeal.τ).loc Cert.StateInDwRefIdeal.main_arg1))
      ∧ r.2.sem = fun _ => 0)

def quiescent_StateIn [hStateIn : Cert.StateIn.Facts] : Prop :=
  ∀ (m : (ℓ : Loc Cert.StateIn.nD Cert.StateIn.τ Cert.StateIn.sig) → Buf (Elt Bits) ℓ) (g : Dev Cert.StateIn.nD → PrngReg), Pre_StateIn m →
    θ_run (Cert.StateIn.defs (F := Bits)) (onTc (τ := Cert.StateIn.τ) (Cert.StateIn.main (F := Bits))) ⟨m, fun _ => 0, g⟩ (fun r => (∀ c : Dev Cert.StateIn.nD,
      r.2.mem ((c.tc : Thread Cert.StateIn.nD Cert.StateIn.τ).loc Cert.StateIn.main_arg0) = m ((c.tc : Thread Cert.StateIn.nD Cert.StateIn.τ).loc Cert.StateIn.main_arg0)
      ∧ r.2.mem ((c.tc : Thread Cert.StateIn.nD Cert.StateIn.τ).loc Cert.StateIn.main_arg1) = m ((c.tc : Thread Cert.StateIn.nD Cert.StateIn.τ).loc Cert.StateIn.main_arg1))
      ∧ r.2.sem = fun _ => 0)

def quiescent_StateInIdeal [hStateInIdeal : Cert.StateInIdeal.Facts] : Prop :=
  ∀ (m : (ℓ : Loc Cert.StateInIdeal.nD Cert.StateInIdeal.τ Cert.StateInIdeal.sig) → Buf (Elt Ideal) ℓ) (g : Dev Cert.StateInIdeal.nD → PrngReg), Pre_StateInIdeal m →
    θ_run (Cert.StateInIdeal.defs (F := Ideal)) (onTc (τ := Cert.StateInIdeal.τ) (Cert.StateInIdeal.main (F := Ideal))) ⟨m, fun _ => 0, g⟩ (fun r => (∀ c : Dev Cert.StateInIdeal.nD,
      r.2.mem ((c.tc : Thread Cert.StateInIdeal.nD Cert.StateInIdeal.τ).loc Cert.StateInIdeal.main_arg0) = m ((c.tc : Thread Cert.StateInIdeal.nD Cert.StateInIdeal.τ).loc Cert.StateInIdeal.main_arg0)
      ∧ r.2.mem ((c.tc : Thread Cert.StateInIdeal.nD Cert.StateInIdeal.τ).loc Cert.StateInIdeal.main_arg1) = m ((c.tc : Thread Cert.StateInIdeal.nD Cert.StateInIdeal.τ).loc Cert.StateInIdeal.main_arg1))
      ∧ r.2.sem = fun _ => 0)

def quiescent_StateInRefIdeal [hStateInRefIdeal : Cert.StateInRefIdeal.Facts] : Prop :=
  ∀ (m : (ℓ : Loc Cert.StateInRefIdeal.nD Cert.StateInRefIdeal.τ Cert.StateInRefIdeal.sig) → Buf (Elt Ideal) ℓ) (g : Dev Cert.StateInRefIdeal.nD → PrngReg), Pre_StateInRefIdeal m →
    θ_run (Cert.StateInRefIdeal.defs (F := Ideal)) (onTc (τ := Cert.StateInRefIdeal.τ) (Cert.StateInRefIdeal.main (F := Ideal))) ⟨m, fun _ => 0, g⟩ (fun r => (∀ c : Dev Cert.StateInRefIdeal.nD,
      r.2.mem ((c.tc : Thread Cert.StateInRefIdeal.nD Cert.StateInRefIdeal.τ).loc Cert.StateInRefIdeal.main_arg0) = m ((c.tc : Thread Cert.StateInRefIdeal.nD Cert.StateInRefIdeal.τ).loc Cert.StateInRefIdeal.main_arg0)
      ∧ r.2.mem ((c.tc : Thread Cert.StateInRefIdeal.nD Cert.StateInRefIdeal.τ).loc Cert.StateInRefIdeal.main_arg1) = m ((c.tc : Thread Cert.StateInRefIdeal.nD Cert.StateInRefIdeal.τ).loc Cert.StateInRefIdeal.main_arg1))
      ∧ r.2.sem = fun _ => 0)

def quiescent_StateOutDx [hStateOutDx : Cert.StateOutDx.Facts] : Prop :=
  ∀ (m : (ℓ : Loc Cert.StateOutDx.nD Cert.StateOutDx.τ Cert.StateOutDx.sig) → Buf (Elt Bits) ℓ) (g : Dev Cert.StateOutDx.nD → PrngReg), Pre_StateOutDx m →
    θ_run (Cert.StateOutDx.defs (F := Bits)) (onTc (τ := Cert.StateOutDx.τ) (Cert.StateOutDx.main (F := Bits))) ⟨m, fun _ => 0, g⟩ (fun r => (∀ c : Dev Cert.StateOutDx.nD,
      r.2.mem ((c.tc : Thread Cert.StateOutDx.nD Cert.StateOutDx.τ).loc Cert.StateOutDx.main_arg0) = m ((c.tc : Thread Cert.StateOutDx.nD Cert.StateOutDx.τ).loc Cert.StateOutDx.main_arg0)
      ∧ r.2.mem ((c.tc : Thread Cert.StateOutDx.nD Cert.StateOutDx.τ).loc Cert.StateOutDx.main_arg1) = m ((c.tc : Thread Cert.StateOutDx.nD Cert.StateOutDx.τ).loc Cert.StateOutDx.main_arg1))
      ∧ r.2.sem = fun _ => 0)

def quiescent_StateOutDxIdeal [hStateOutDxIdeal : Cert.StateOutDxIdeal.Facts] : Prop :=
  ∀ (m : (ℓ : Loc Cert.StateOutDxIdeal.nD Cert.StateOutDxIdeal.τ Cert.StateOutDxIdeal.sig) → Buf (Elt Ideal) ℓ) (g : Dev Cert.StateOutDxIdeal.nD → PrngReg), Pre_StateOutDxIdeal m →
    θ_run (Cert.StateOutDxIdeal.defs (F := Ideal)) (onTc (τ := Cert.StateOutDxIdeal.τ) (Cert.StateOutDxIdeal.main (F := Ideal))) ⟨m, fun _ => 0, g⟩ (fun r => (∀ c : Dev Cert.StateOutDxIdeal.nD,
      r.2.mem ((c.tc : Thread Cert.StateOutDxIdeal.nD Cert.StateOutDxIdeal.τ).loc Cert.StateOutDxIdeal.main_arg0) = m ((c.tc : Thread Cert.StateOutDxIdeal.nD Cert.StateOutDxIdeal.τ).loc Cert.StateOutDxIdeal.main_arg0)
      ∧ r.2.mem ((c.tc : Thread Cert.StateOutDxIdeal.nD Cert.StateOutDxIdeal.τ).loc Cert.StateOutDxIdeal.main_arg1) = m ((c.tc : Thread Cert.StateOutDxIdeal.nD Cert.StateOutDxIdeal.τ).loc Cert.StateOutDxIdeal.main_arg1))
      ∧ r.2.sem = fun _ => 0)

def quiescent_StateOutDxRefIdeal [hStateOutDxRefIdeal : Cert.StateOutDxRefIdeal.Facts] : Prop :=
  ∀ (m : (ℓ : Loc Cert.StateOutDxRefIdeal.nD Cert.StateOutDxRefIdeal.τ Cert.StateOutDxRefIdeal.sig) → Buf (Elt Ideal) ℓ) (g : Dev Cert.StateOutDxRefIdeal.nD → PrngReg), Pre_StateOutDxRefIdeal m →
    θ_run (Cert.StateOutDxRefIdeal.defs (F := Ideal)) (onTc (τ := Cert.StateOutDxRefIdeal.τ) (Cert.StateOutDxRefIdeal.main (F := Ideal))) ⟨m, fun _ => 0, g⟩ (fun r => (∀ c : Dev Cert.StateOutDxRefIdeal.nD,
      r.2.mem ((c.tc : Thread Cert.StateOutDxRefIdeal.nD Cert.StateOutDxRefIdeal.τ).loc Cert.StateOutDxRefIdeal.main_arg0) = m ((c.tc : Thread Cert.StateOutDxRefIdeal.nD Cert.StateOutDxRefIdeal.τ).loc Cert.StateOutDxRefIdeal.main_arg0)
      ∧ r.2.mem ((c.tc : Thread Cert.StateOutDxRefIdeal.nD Cert.StateOutDxRefIdeal.τ).loc Cert.StateOutDxRefIdeal.main_arg1) = m ((c.tc : Thread Cert.StateOutDxRefIdeal.nD Cert.StateOutDxRefIdeal.τ).loc Cert.StateOutDxRefIdeal.main_arg1))
      ∧ r.2.sem = fun _ => 0)

def quiescent_StateOutDw [hStateOutDw : Cert.StateOutDw.Facts] : Prop :=
  ∀ (m : (ℓ : Loc Cert.StateOutDw.nD Cert.StateOutDw.τ Cert.StateOutDw.sig) → Buf (Elt Bits) ℓ) (g : Dev Cert.StateOutDw.nD → PrngReg), Pre_StateOutDw m →
    θ_run (Cert.StateOutDw.defs (F := Bits)) (onTc (τ := Cert.StateOutDw.τ) (Cert.StateOutDw.main (F := Bits))) ⟨m, fun _ => 0, g⟩ (fun r => (∀ c : Dev Cert.StateOutDw.nD,
      r.2.mem ((c.tc : Thread Cert.StateOutDw.nD Cert.StateOutDw.τ).loc Cert.StateOutDw.main_arg0) = m ((c.tc : Thread Cert.StateOutDw.nD Cert.StateOutDw.τ).loc Cert.StateOutDw.main_arg0)
      ∧ r.2.mem ((c.tc : Thread Cert.StateOutDw.nD Cert.StateOutDw.τ).loc Cert.StateOutDw.main_arg1) = m ((c.tc : Thread Cert.StateOutDw.nD Cert.StateOutDw.τ).loc Cert.StateOutDw.main_arg1))
      ∧ r.2.sem = fun _ => 0)

def quiescent_StateOutDwIdeal [hStateOutDwIdeal : Cert.StateOutDwIdeal.Facts] : Prop :=
  ∀ (m : (ℓ : Loc Cert.StateOutDwIdeal.nD Cert.StateOutDwIdeal.τ Cert.StateOutDwIdeal.sig) → Buf (Elt Ideal) ℓ) (g : Dev Cert.StateOutDwIdeal.nD → PrngReg), Pre_StateOutDwIdeal m →
    θ_run (Cert.StateOutDwIdeal.defs (F := Ideal)) (onTc (τ := Cert.StateOutDwIdeal.τ) (Cert.StateOutDwIdeal.main (F := Ideal))) ⟨m, fun _ => 0, g⟩ (fun r => (∀ c : Dev Cert.StateOutDwIdeal.nD,
      r.2.mem ((c.tc : Thread Cert.StateOutDwIdeal.nD Cert.StateOutDwIdeal.τ).loc Cert.StateOutDwIdeal.main_arg0) = m ((c.tc : Thread Cert.StateOutDwIdeal.nD Cert.StateOutDwIdeal.τ).loc Cert.StateOutDwIdeal.main_arg0)
      ∧ r.2.mem ((c.tc : Thread Cert.StateOutDwIdeal.nD Cert.StateOutDwIdeal.τ).loc Cert.StateOutDwIdeal.main_arg1) = m ((c.tc : Thread Cert.StateOutDwIdeal.nD Cert.StateOutDwIdeal.τ).loc Cert.StateOutDwIdeal.main_arg1))
      ∧ r.2.sem = fun _ => 0)

def quiescent_StateOutDwRefIdeal [hStateOutDwRefIdeal : Cert.StateOutDwRefIdeal.Facts] : Prop :=
  ∀ (m : (ℓ : Loc Cert.StateOutDwRefIdeal.nD Cert.StateOutDwRefIdeal.τ Cert.StateOutDwRefIdeal.sig) → Buf (Elt Ideal) ℓ) (g : Dev Cert.StateOutDwRefIdeal.nD → PrngReg), Pre_StateOutDwRefIdeal m →
    θ_run (Cert.StateOutDwRefIdeal.defs (F := Ideal)) (onTc (τ := Cert.StateOutDwRefIdeal.τ) (Cert.StateOutDwRefIdeal.main (F := Ideal))) ⟨m, fun _ => 0, g⟩ (fun r => (∀ c : Dev Cert.StateOutDwRefIdeal.nD,
      r.2.mem ((c.tc : Thread Cert.StateOutDwRefIdeal.nD Cert.StateOutDwRefIdeal.τ).loc Cert.StateOutDwRefIdeal.main_arg0) = m ((c.tc : Thread Cert.StateOutDwRefIdeal.nD Cert.StateOutDwRefIdeal.τ).loc Cert.StateOutDwRefIdeal.main_arg0)
      ∧ r.2.mem ((c.tc : Thread Cert.StateOutDwRefIdeal.nD Cert.StateOutDwRefIdeal.τ).loc Cert.StateOutDwRefIdeal.main_arg1) = m ((c.tc : Thread Cert.StateOutDwRefIdeal.nD Cert.StateOutDwRefIdeal.τ).loc Cert.StateOutDwRefIdeal.main_arg1))
      ∧ r.2.sem = fun _ => 0)

def quiescent_StateOut [hStateOut : Cert.StateOut.Facts] : Prop :=
  ∀ (m : (ℓ : Loc Cert.StateOut.nD Cert.StateOut.τ Cert.StateOut.sig) → Buf (Elt Bits) ℓ) (g : Dev Cert.StateOut.nD → PrngReg), Pre_StateOut m →
    θ_run (Cert.StateOut.defs (F := Bits)) (onTc (τ := Cert.StateOut.τ) (Cert.StateOut.main (F := Bits))) ⟨m, fun _ => 0, g⟩ (fun r => (∀ c : Dev Cert.StateOut.nD,
      r.2.mem ((c.tc : Thread Cert.StateOut.nD Cert.StateOut.τ).loc Cert.StateOut.main_arg0) = m ((c.tc : Thread Cert.StateOut.nD Cert.StateOut.τ).loc Cert.StateOut.main_arg0)
      ∧ r.2.mem ((c.tc : Thread Cert.StateOut.nD Cert.StateOut.τ).loc Cert.StateOut.main_arg1) = m ((c.tc : Thread Cert.StateOut.nD Cert.StateOut.τ).loc Cert.StateOut.main_arg1))
      ∧ r.2.sem = fun _ => 0)

def quiescent_StateOutIdeal [hStateOutIdeal : Cert.StateOutIdeal.Facts] : Prop :=
  ∀ (m : (ℓ : Loc Cert.StateOutIdeal.nD Cert.StateOutIdeal.τ Cert.StateOutIdeal.sig) → Buf (Elt Ideal) ℓ) (g : Dev Cert.StateOutIdeal.nD → PrngReg), Pre_StateOutIdeal m →
    θ_run (Cert.StateOutIdeal.defs (F := Ideal)) (onTc (τ := Cert.StateOutIdeal.τ) (Cert.StateOutIdeal.main (F := Ideal))) ⟨m, fun _ => 0, g⟩ (fun r => (∀ c : Dev Cert.StateOutIdeal.nD,
      r.2.mem ((c.tc : Thread Cert.StateOutIdeal.nD Cert.StateOutIdeal.τ).loc Cert.StateOutIdeal.main_arg0) = m ((c.tc : Thread Cert.StateOutIdeal.nD Cert.StateOutIdeal.τ).loc Cert.StateOutIdeal.main_arg0)
      ∧ r.2.mem ((c.tc : Thread Cert.StateOutIdeal.nD Cert.StateOutIdeal.τ).loc Cert.StateOutIdeal.main_arg1) = m ((c.tc : Thread Cert.StateOutIdeal.nD Cert.StateOutIdeal.τ).loc Cert.StateOutIdeal.main_arg1))
      ∧ r.2.sem = fun _ => 0)

def quiescent_StateOutRefIdeal [hStateOutRefIdeal : Cert.StateOutRefIdeal.Facts] : Prop :=
  ∀ (m : (ℓ : Loc Cert.StateOutRefIdeal.nD Cert.StateOutRefIdeal.τ Cert.StateOutRefIdeal.sig) → Buf (Elt Ideal) ℓ) (g : Dev Cert.StateOutRefIdeal.nD → PrngReg), Pre_StateOutRefIdeal m →
    θ_run (Cert.StateOutRefIdeal.defs (F := Ideal)) (onTc (τ := Cert.StateOutRefIdeal.τ) (Cert.StateOutRefIdeal.main (F := Ideal))) ⟨m, fun _ => 0, g⟩ (fun r => (∀ c : Dev Cert.StateOutRefIdeal.nD,
      r.2.mem ((c.tc : Thread Cert.StateOutRefIdeal.nD Cert.StateOutRefIdeal.τ).loc Cert.StateOutRefIdeal.main_arg0) = m ((c.tc : Thread Cert.StateOutRefIdeal.nD Cert.StateOutRefIdeal.τ).loc Cert.StateOutRefIdeal.main_arg0)
      ∧ r.2.mem ((c.tc : Thread Cert.StateOutRefIdeal.nD Cert.StateOutRefIdeal.τ).loc Cert.StateOutRefIdeal.main_arg1) = m ((c.tc : Thread Cert.StateOutRefIdeal.nD Cert.StateOutRefIdeal.τ).loc Cert.StateOutRefIdeal.main_arg1))
      ∧ r.2.sem = fun _ => 0)

def quiescent_GateADx [hGateADx : Cert.GateADx.Facts] : Prop :=
  ∀ (m : (ℓ : Loc Cert.GateADx.nD Cert.GateADx.τ Cert.GateADx.sig) → Buf (Elt Bits) ℓ) (g : Dev Cert.GateADx.nD → PrngReg), Pre_GateADx m →
    θ_run (Cert.GateADx.defs (F := Bits)) (onTc (τ := Cert.GateADx.τ) (Cert.GateADx.main (F := Bits))) ⟨m, fun _ => 0, g⟩ (fun r => (∀ c : Dev Cert.GateADx.nD,
      r.2.mem ((c.tc : Thread Cert.GateADx.nD Cert.GateADx.τ).loc Cert.GateADx.main_arg0) = m ((c.tc : Thread Cert.GateADx.nD Cert.GateADx.τ).loc Cert.GateADx.main_arg0)
      ∧ r.2.mem ((c.tc : Thread Cert.GateADx.nD Cert.GateADx.τ).loc Cert.GateADx.main_arg1) = m ((c.tc : Thread Cert.GateADx.nD Cert.GateADx.τ).loc Cert.GateADx.main_arg1)
      ∧ r.2.mem ((c.tc : Thread Cert.GateADx.nD Cert.GateADx.τ).loc Cert.GateADx.main_arg2) = m ((c.tc : Thread Cert.GateADx.nD Cert.GateADx.τ).loc Cert.GateADx.main_arg2)
      ∧ r.2.mem ((c.tc : Thread Cert.GateADx.nD Cert.GateADx.τ).loc Cert.GateADx.main_arg3) = m ((c.tc : Thread Cert.GateADx.nD Cert.GateADx.τ).loc Cert.GateADx.main_arg3))
      ∧ r.2.sem = fun _ => 0)

def quiescent_GateADxIdeal [hGateADxIdeal : Cert.GateADxIdeal.Facts] : Prop :=
  ∀ (m : (ℓ : Loc Cert.GateADxIdeal.nD Cert.GateADxIdeal.τ Cert.GateADxIdeal.sig) → Buf (Elt Ideal) ℓ) (g : Dev Cert.GateADxIdeal.nD → PrngReg), Pre_GateADxIdeal m →
    θ_run (Cert.GateADxIdeal.defs (F := Ideal)) (onTc (τ := Cert.GateADxIdeal.τ) (Cert.GateADxIdeal.main (F := Ideal))) ⟨m, fun _ => 0, g⟩ (fun r => (∀ c : Dev Cert.GateADxIdeal.nD,
      r.2.mem ((c.tc : Thread Cert.GateADxIdeal.nD Cert.GateADxIdeal.τ).loc Cert.GateADxIdeal.main_arg0) = m ((c.tc : Thread Cert.GateADxIdeal.nD Cert.GateADxIdeal.τ).loc Cert.GateADxIdeal.main_arg0)
      ∧ r.2.mem ((c.tc : Thread Cert.GateADxIdeal.nD Cert.GateADxIdeal.τ).loc Cert.GateADxIdeal.main_arg1) = m ((c.tc : Thread Cert.GateADxIdeal.nD Cert.GateADxIdeal.τ).loc Cert.GateADxIdeal.main_arg1)
      ∧ r.2.mem ((c.tc : Thread Cert.GateADxIdeal.nD Cert.GateADxIdeal.τ).loc Cert.GateADxIdeal.main_arg2) = m ((c.tc : Thread Cert.GateADxIdeal.nD Cert.GateADxIdeal.τ).loc Cert.GateADxIdeal.main_arg2)
      ∧ r.2.mem ((c.tc : Thread Cert.GateADxIdeal.nD Cert.GateADxIdeal.τ).loc Cert.GateADxIdeal.main_arg3) = m ((c.tc : Thread Cert.GateADxIdeal.nD Cert.GateADxIdeal.τ).loc Cert.GateADxIdeal.main_arg3))
      ∧ r.2.sem = fun _ => 0)

def quiescent_GateADxRefIdeal [hGateADxRefIdeal : Cert.GateADxRefIdeal.Facts] : Prop :=
  ∀ (m : (ℓ : Loc Cert.GateADxRefIdeal.nD Cert.GateADxRefIdeal.τ Cert.GateADxRefIdeal.sig) → Buf (Elt Ideal) ℓ) (g : Dev Cert.GateADxRefIdeal.nD → PrngReg), Pre_GateADxRefIdeal m →
    θ_run (Cert.GateADxRefIdeal.defs (F := Ideal)) (onTc (τ := Cert.GateADxRefIdeal.τ) (Cert.GateADxRefIdeal.main (F := Ideal))) ⟨m, fun _ => 0, g⟩ (fun r => (∀ c : Dev Cert.GateADxRefIdeal.nD,
      r.2.mem ((c.tc : Thread Cert.GateADxRefIdeal.nD Cert.GateADxRefIdeal.τ).loc Cert.GateADxRefIdeal.main_arg0) = m ((c.tc : Thread Cert.GateADxRefIdeal.nD Cert.GateADxRefIdeal.τ).loc Cert.GateADxRefIdeal.main_arg0)
      ∧ r.2.mem ((c.tc : Thread Cert.GateADxRefIdeal.nD Cert.GateADxRefIdeal.τ).loc Cert.GateADxRefIdeal.main_arg1) = m ((c.tc : Thread Cert.GateADxRefIdeal.nD Cert.GateADxRefIdeal.τ).loc Cert.GateADxRefIdeal.main_arg1)
      ∧ r.2.mem ((c.tc : Thread Cert.GateADxRefIdeal.nD Cert.GateADxRefIdeal.τ).loc Cert.GateADxRefIdeal.main_arg2) = m ((c.tc : Thread Cert.GateADxRefIdeal.nD Cert.GateADxRefIdeal.τ).loc Cert.GateADxRefIdeal.main_arg2)
      ∧ r.2.mem ((c.tc : Thread Cert.GateADxRefIdeal.nD Cert.GateADxRefIdeal.τ).loc Cert.GateADxRefIdeal.main_arg3) = m ((c.tc : Thread Cert.GateADxRefIdeal.nD Cert.GateADxRefIdeal.τ).loc Cert.GateADxRefIdeal.main_arg3))
      ∧ r.2.sem = fun _ => 0)

def quiescent_GateXDx [hGateXDx : Cert.GateXDx.Facts] : Prop :=
  ∀ (m : (ℓ : Loc Cert.GateXDx.nD Cert.GateXDx.τ Cert.GateXDx.sig) → Buf (Elt Bits) ℓ) (g : Dev Cert.GateXDx.nD → PrngReg), Pre_GateXDx m →
    θ_run (Cert.GateXDx.defs (F := Bits)) (onTc (τ := Cert.GateXDx.τ) (Cert.GateXDx.main (F := Bits))) ⟨m, fun _ => 0, g⟩ (fun r => (∀ c : Dev Cert.GateXDx.nD,
      r.2.mem ((c.tc : Thread Cert.GateXDx.nD Cert.GateXDx.τ).loc Cert.GateXDx.main_arg0) = m ((c.tc : Thread Cert.GateXDx.nD Cert.GateXDx.τ).loc Cert.GateXDx.main_arg0)
      ∧ r.2.mem ((c.tc : Thread Cert.GateXDx.nD Cert.GateXDx.τ).loc Cert.GateXDx.main_arg1) = m ((c.tc : Thread Cert.GateXDx.nD Cert.GateXDx.τ).loc Cert.GateXDx.main_arg1)
      ∧ r.2.mem ((c.tc : Thread Cert.GateXDx.nD Cert.GateXDx.τ).loc Cert.GateXDx.main_arg2) = m ((c.tc : Thread Cert.GateXDx.nD Cert.GateXDx.τ).loc Cert.GateXDx.main_arg2)
      ∧ r.2.mem ((c.tc : Thread Cert.GateXDx.nD Cert.GateXDx.τ).loc Cert.GateXDx.main_arg3) = m ((c.tc : Thread Cert.GateXDx.nD Cert.GateXDx.τ).loc Cert.GateXDx.main_arg3))
      ∧ r.2.sem = fun _ => 0)

def quiescent_GateXDxIdeal [hGateXDxIdeal : Cert.GateXDxIdeal.Facts] : Prop :=
  ∀ (m : (ℓ : Loc Cert.GateXDxIdeal.nD Cert.GateXDxIdeal.τ Cert.GateXDxIdeal.sig) → Buf (Elt Ideal) ℓ) (g : Dev Cert.GateXDxIdeal.nD → PrngReg), Pre_GateXDxIdeal m →
    θ_run (Cert.GateXDxIdeal.defs (F := Ideal)) (onTc (τ := Cert.GateXDxIdeal.τ) (Cert.GateXDxIdeal.main (F := Ideal))) ⟨m, fun _ => 0, g⟩ (fun r => (∀ c : Dev Cert.GateXDxIdeal.nD,
      r.2.mem ((c.tc : Thread Cert.GateXDxIdeal.nD Cert.GateXDxIdeal.τ).loc Cert.GateXDxIdeal.main_arg0) = m ((c.tc : Thread Cert.GateXDxIdeal.nD Cert.GateXDxIdeal.τ).loc Cert.GateXDxIdeal.main_arg0)
      ∧ r.2.mem ((c.tc : Thread Cert.GateXDxIdeal.nD Cert.GateXDxIdeal.τ).loc Cert.GateXDxIdeal.main_arg1) = m ((c.tc : Thread Cert.GateXDxIdeal.nD Cert.GateXDxIdeal.τ).loc Cert.GateXDxIdeal.main_arg1)
      ∧ r.2.mem ((c.tc : Thread Cert.GateXDxIdeal.nD Cert.GateXDxIdeal.τ).loc Cert.GateXDxIdeal.main_arg2) = m ((c.tc : Thread Cert.GateXDxIdeal.nD Cert.GateXDxIdeal.τ).loc Cert.GateXDxIdeal.main_arg2)
      ∧ r.2.mem ((c.tc : Thread Cert.GateXDxIdeal.nD Cert.GateXDxIdeal.τ).loc Cert.GateXDxIdeal.main_arg3) = m ((c.tc : Thread Cert.GateXDxIdeal.nD Cert.GateXDxIdeal.τ).loc Cert.GateXDxIdeal.main_arg3))
      ∧ r.2.sem = fun _ => 0)

def quiescent_GateXDxRefIdeal [hGateXDxRefIdeal : Cert.GateXDxRefIdeal.Facts] : Prop :=
  ∀ (m : (ℓ : Loc Cert.GateXDxRefIdeal.nD Cert.GateXDxRefIdeal.τ Cert.GateXDxRefIdeal.sig) → Buf (Elt Ideal) ℓ) (g : Dev Cert.GateXDxRefIdeal.nD → PrngReg), Pre_GateXDxRefIdeal m →
    θ_run (Cert.GateXDxRefIdeal.defs (F := Ideal)) (onTc (τ := Cert.GateXDxRefIdeal.τ) (Cert.GateXDxRefIdeal.main (F := Ideal))) ⟨m, fun _ => 0, g⟩ (fun r => (∀ c : Dev Cert.GateXDxRefIdeal.nD,
      r.2.mem ((c.tc : Thread Cert.GateXDxRefIdeal.nD Cert.GateXDxRefIdeal.τ).loc Cert.GateXDxRefIdeal.main_arg0) = m ((c.tc : Thread Cert.GateXDxRefIdeal.nD Cert.GateXDxRefIdeal.τ).loc Cert.GateXDxRefIdeal.main_arg0)
      ∧ r.2.mem ((c.tc : Thread Cert.GateXDxRefIdeal.nD Cert.GateXDxRefIdeal.τ).loc Cert.GateXDxRefIdeal.main_arg1) = m ((c.tc : Thread Cert.GateXDxRefIdeal.nD Cert.GateXDxRefIdeal.τ).loc Cert.GateXDxRefIdeal.main_arg1)
      ∧ r.2.mem ((c.tc : Thread Cert.GateXDxRefIdeal.nD Cert.GateXDxRefIdeal.τ).loc Cert.GateXDxRefIdeal.main_arg2) = m ((c.tc : Thread Cert.GateXDxRefIdeal.nD Cert.GateXDxRefIdeal.τ).loc Cert.GateXDxRefIdeal.main_arg2)
      ∧ r.2.mem ((c.tc : Thread Cert.GateXDxRefIdeal.nD Cert.GateXDxRefIdeal.τ).loc Cert.GateXDxRefIdeal.main_arg3) = m ((c.tc : Thread Cert.GateXDxRefIdeal.nD Cert.GateXDxRefIdeal.τ).loc Cert.GateXDxRefIdeal.main_arg3))
      ∧ r.2.sem = fun _ => 0)

def quiescent_GateADw [hGateADw : Cert.GateADw.Facts] : Prop :=
  ∀ (m : (ℓ : Loc Cert.GateADw.nD Cert.GateADw.τ Cert.GateADw.sig) → Buf (Elt Bits) ℓ) (g : Dev Cert.GateADw.nD → PrngReg), Pre_GateADw m →
    θ_run (Cert.GateADw.defs (F := Bits)) (onTc (τ := Cert.GateADw.τ) (Cert.GateADw.main (F := Bits))) ⟨m, fun _ => 0, g⟩ (fun r => (∀ c : Dev Cert.GateADw.nD,
      r.2.mem ((c.tc : Thread Cert.GateADw.nD Cert.GateADw.τ).loc Cert.GateADw.main_arg0) = m ((c.tc : Thread Cert.GateADw.nD Cert.GateADw.τ).loc Cert.GateADw.main_arg0)
      ∧ r.2.mem ((c.tc : Thread Cert.GateADw.nD Cert.GateADw.τ).loc Cert.GateADw.main_arg1) = m ((c.tc : Thread Cert.GateADw.nD Cert.GateADw.τ).loc Cert.GateADw.main_arg1))
      ∧ r.2.sem = fun _ => 0)

def quiescent_GateADwIdeal [hGateADwIdeal : Cert.GateADwIdeal.Facts] : Prop :=
  ∀ (m : (ℓ : Loc Cert.GateADwIdeal.nD Cert.GateADwIdeal.τ Cert.GateADwIdeal.sig) → Buf (Elt Ideal) ℓ) (g : Dev Cert.GateADwIdeal.nD → PrngReg), Pre_GateADwIdeal m →
    θ_run (Cert.GateADwIdeal.defs (F := Ideal)) (onTc (τ := Cert.GateADwIdeal.τ) (Cert.GateADwIdeal.main (F := Ideal))) ⟨m, fun _ => 0, g⟩ (fun r => (∀ c : Dev Cert.GateADwIdeal.nD,
      r.2.mem ((c.tc : Thread Cert.GateADwIdeal.nD Cert.GateADwIdeal.τ).loc Cert.GateADwIdeal.main_arg0) = m ((c.tc : Thread Cert.GateADwIdeal.nD Cert.GateADwIdeal.τ).loc Cert.GateADwIdeal.main_arg0)
      ∧ r.2.mem ((c.tc : Thread Cert.GateADwIdeal.nD Cert.GateADwIdeal.τ).loc Cert.GateADwIdeal.main_arg1) = m ((c.tc : Thread Cert.GateADwIdeal.nD Cert.GateADwIdeal.τ).loc Cert.GateADwIdeal.main_arg1))
      ∧ r.2.sem = fun _ => 0)

def quiescent_GateADwRefIdeal [hGateADwRefIdeal : Cert.GateADwRefIdeal.Facts] : Prop :=
  ∀ (m : (ℓ : Loc Cert.GateADwRefIdeal.nD Cert.GateADwRefIdeal.τ Cert.GateADwRefIdeal.sig) → Buf (Elt Ideal) ℓ) (g : Dev Cert.GateADwRefIdeal.nD → PrngReg), Pre_GateADwRefIdeal m →
    θ_run (Cert.GateADwRefIdeal.defs (F := Ideal)) (onTc (τ := Cert.GateADwRefIdeal.τ) (Cert.GateADwRefIdeal.main (F := Ideal))) ⟨m, fun _ => 0, g⟩ (fun r => (∀ c : Dev Cert.GateADwRefIdeal.nD,
      r.2.mem ((c.tc : Thread Cert.GateADwRefIdeal.nD Cert.GateADwRefIdeal.τ).loc Cert.GateADwRefIdeal.main_arg0) = m ((c.tc : Thread Cert.GateADwRefIdeal.nD Cert.GateADwRefIdeal.τ).loc Cert.GateADwRefIdeal.main_arg0)
      ∧ r.2.mem ((c.tc : Thread Cert.GateADwRefIdeal.nD Cert.GateADwRefIdeal.τ).loc Cert.GateADwRefIdeal.main_arg1) = m ((c.tc : Thread Cert.GateADwRefIdeal.nD Cert.GateADwRefIdeal.τ).loc Cert.GateADwRefIdeal.main_arg1))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1)
      ∧ r.2.mem ((c.tc : Thread Cert.GateIn.nD Cert.GateIn.τ).loc Cert.GateIn.main_arg2) = m ((c.tc : Thread Cert.GateIn.nD Cert.GateIn.τ).loc Cert.GateIn.main_arg2))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1)
      ∧ r.2.mem ((c.tc : Thread Cert.GateInIdeal.nD Cert.GateInIdeal.τ).loc Cert.GateInIdeal.main_arg2) = m ((c.tc : Thread Cert.GateInIdeal.nD Cert.GateInIdeal.τ).loc Cert.GateInIdeal.main_arg2))
      ∧ r.2.sem = fun _ => 0)

def quiescent_GateInRefIdeal [hGateInRefIdeal : Cert.GateInRefIdeal.Facts] : Prop :=
  ∀ (m : (ℓ : Loc Cert.GateInRefIdeal.nD Cert.GateInRefIdeal.τ Cert.GateInRefIdeal.sig) → Buf (Elt Ideal) ℓ) (g : Dev Cert.GateInRefIdeal.nD → PrngReg), Pre_GateInRefIdeal m →
    θ_run (Cert.GateInRefIdeal.defs (F := Ideal)) (onTc (τ := Cert.GateInRefIdeal.τ) (Cert.GateInRefIdeal.main (F := Ideal))) ⟨m, fun _ => 0, g⟩ (fun r => (∀ c : Dev Cert.GateInRefIdeal.nD,
      r.2.mem ((c.tc : Thread Cert.GateInRefIdeal.nD Cert.GateInRefIdeal.τ).loc Cert.GateInRefIdeal.main_arg0) = m ((c.tc : Thread Cert.GateInRefIdeal.nD Cert.GateInRefIdeal.τ).loc Cert.GateInRefIdeal.main_arg0)
      ∧ r.2.mem ((c.tc : Thread Cert.GateInRefIdeal.nD Cert.GateInRefIdeal.τ).loc Cert.GateInRefIdeal.main_arg1) = m ((c.tc : Thread Cert.GateInRefIdeal.nD Cert.GateInRefIdeal.τ).loc Cert.GateInRefIdeal.main_arg1)
      ∧ r.2.mem ((c.tc : Thread Cert.GateInRefIdeal.nD Cert.GateInRefIdeal.τ).loc Cert.GateInRefIdeal.main_arg2) = m ((c.tc : Thread Cert.GateInRefIdeal.nD Cert.GateInRefIdeal.τ).loc Cert.GateInRefIdeal.main_arg2))
      ∧ r.2.sem = fun _ => 0)

def preserves_Kernel_KernelIdeal : Prop :=
  IdealRules.named_const.Statement Cert.KernelIdeal.κ "neg_big" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v82_0)) (v1 : (c : Dev Cert.KernelIdeal.nD) → Buf (Elt Ideal) ((c.tc : Thread Cert.KernelIdeal.nD Cert.KernelIdeal.τ).loc Cert.KernelIdeal.main_v82_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_v82_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v6)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v6) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v6) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v6) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)
      ∧ m' ((c.tc : Thread Cert.GateDxRefIdeal.nD Cert.GateDxRefIdeal.τ).loc Cert.GateDxRefIdeal.main_arg2) = m ((c.tc : Thread Cert.GateDxIdeal.nD Cert.GateDxIdeal.τ).loc Cert.GateDxIdeal.main_arg2)
      ∧ m' ((c.tc : Thread Cert.GateDxRefIdeal.nD Cert.GateDxRefIdeal.τ).loc Cert.GateDxRefIdeal.main_arg3) = m ((c.tc : Thread Cert.GateDxIdeal.nD Cert.GateDxIdeal.τ).loc Cert.GateDxIdeal.main_arg3)) →
    ∃ (v0 : (c : Dev Cert.GateDxIdeal.nD) → Buf (Elt Ideal) ((c.tc : Thread Cert.GateDxIdeal.nD Cert.GateDxIdeal.τ).loc Cert.GateDxIdeal.main_v1)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v1) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
          ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v4) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1)
          ∧ r.2.mem ((c.tc : Thread Cert.GateDxRefIdeal.nD Cert.GateDxRefIdeal.τ).loc Cert.GateDxRefIdeal.main_arg2) = m' ((c.tc : Thread Cert.GateDxRefIdeal.nD Cert.GateDxRefIdeal.τ).loc Cert.GateDxRefIdeal.main_arg2)
          ∧ r.2.mem ((c.tc : Thread Cert.GateDxRefIdeal.nD Cert.GateDxRefIdeal.τ).loc Cert.GateDxRefIdeal.main_arg3) = m' ((c.tc : Thread Cert.GateDxRefIdeal.nD Cert.GateDxRefIdeal.τ).loc Cert.GateDxRefIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)) →
    ∃ (v0 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v6) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v3) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v3) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDo_ProjDoIdeal : Prop :=
  True

def algebraic_ProjDoIdeal_ProjDoRefIdeal [hProjDoIdeal : Cert.ProjDoIdeal.Facts] [hProjDoRefIdeal : Cert.ProjDoRefIdeal.Facts] : Prop :=
  ∀ (m : (ℓ : Loc Cert.ProjDoIdeal.nD Cert.ProjDoIdeal.τ Cert.ProjDoIdeal.sig) → Buf (Elt Ideal) ℓ) (g : Dev Cert.ProjDoIdeal.nD → PrngReg)
    (m' : (ℓ : Loc Cert.ProjDoRefIdeal.nD Cert.ProjDoRefIdeal.τ Cert.ProjDoRefIdeal.sig) → Buf (Elt Ideal) ℓ) (g' : Dev Cert.ProjDoRefIdeal.nD → PrngReg), Pre_ProjDoIdeal m →
    (∀ c : Dev Cert.ProjDoIdeal.nD,
      m' ((c.tc : Thread Cert.ProjDoRefIdeal.nD Cert.ProjDoRefIdeal.τ).loc Cert.ProjDoRefIdeal.main_arg0) = m ((c.tc : Thread Cert.ProjDoIdeal.nD Cert.ProjDoIdeal.τ).loc Cert.ProjDoIdeal.main_arg0)
      ∧ m' ((c.tc : Thread Cert.ProjDoRefIdeal.nD Cert.ProjDoRefIdeal.τ).loc Cert.ProjDoRefIdeal.main_arg1) = m ((c.tc : Thread Cert.ProjDoIdeal.nD Cert.ProjDoIdeal.τ).loc Cert.ProjDoIdeal.main_arg1)) →
    ∃ (v0 : (c : Dev Cert.ProjDoIdeal.nD) → Buf (Elt Ideal) ((c.tc : Thread Cert.ProjDoIdeal.nD Cert.ProjDoIdeal.τ).loc Cert.ProjDoIdeal.main_v0)),
      θ_run (Cert.ProjDoIdeal.defs (F := Ideal)) (onTc (τ := Cert.ProjDoIdeal.τ) (Cert.ProjDoIdeal.main (F := Ideal))) ⟨m, fun _ => 0, g⟩ (fun r => ∀ c : Dev Cert.ProjDoIdeal.nD,
          r.2.mem ((c.tc : Thread Cert.ProjDoIdeal.nD Cert.ProjDoIdeal.τ).loc Cert.ProjDoIdeal.main_v0) = v0 c
          ∧ r.2.mem ((c.tc : Thread Cert.ProjDoIdeal.nD Cert.ProjDoIdeal.τ).loc Cert.ProjDoIdeal.main_arg0) = m ((c.tc : Thread Cert.ProjDoIdeal.nD Cert.ProjDoIdeal.τ).loc Cert.ProjDoIdeal.main_arg0)
          ∧ r.2.mem ((c.tc : Thread Cert.ProjDoIdeal.nD Cert.ProjDoIdeal.τ).loc Cert.ProjDoIdeal.main_arg1) = m ((c.tc : Thread Cert.ProjDoIdeal.nD Cert.ProjDoIdeal.τ).loc Cert.ProjDoIdeal.main_arg1))
      ∧ θ_run (Cert.ProjDoRefIdeal.defs (F := Ideal)) (onTc (τ := Cert.ProjDoRefIdeal.τ) (Cert.ProjDoRefIdeal.main (F := Ideal))) ⟨m', fun _ => 0, g'⟩ (fun r => ∀ c : Dev Cert.ProjDoRefIdeal.nD,
          r.2.mem ((c.tc : Thread Cert.ProjDoRefIdeal.nD Cert.ProjDoRefIdeal.τ).loc Cert.ProjDoRefIdeal.main_v4) = v0 c
          ∧ r.2.mem ((c.tc : Thread Cert.ProjDoRefIdeal.nD Cert.ProjDoRefIdeal.τ).loc Cert.ProjDoRefIdeal.main_arg0) = m' ((c.tc : Thread Cert.ProjDoRefIdeal.nD Cert.ProjDoRefIdeal.τ).loc Cert.ProjDoRefIdeal.main_arg0)
          ∧ r.2.mem ((c.tc : Thread Cert.ProjDoRefIdeal.nD Cert.ProjDoRefIdeal.τ).loc Cert.ProjDoRefIdeal.main_arg1) = m' ((c.tc : Thread Cert.ProjDoRefIdeal.nD Cert.ProjDoRefIdeal.τ).loc Cert.ProjDoRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_SwigluBwd_SwigluBwdIdeal : Prop :=
  True

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v7) = v0 c
          ∧ r.2.mem ((c.tc : Thread Cert.SwigluBwdRefIdeal.nD Cert.SwigluBwdRefIdeal.τ).loc Cert.SwigluBwdRefIdeal.main_v8) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0))

def preserves_LruOutBwd_LruOutBwdIdeal : Prop :=
  True

def algebraic_LruOutBwdIdeal_LruOutBwdRefIdeal [hLruOutBwdIdeal : Cert.LruOutBwdIdeal.Facts] [hLruOutBwdRefIdeal : Cert.LruOutBwdRefIdeal.Facts] : Prop :=
  ∀ (m : (ℓ : Loc Cert.LruOutBwdIdeal.nD Cert.LruOutBwdIdeal.τ Cert.LruOutBwdIdeal.sig) → Buf (Elt Ideal) ℓ) (g : Dev Cert.LruOutBwdIdeal.nD → PrngReg)
    (m' : (ℓ : Loc Cert.LruOutBwdRefIdeal.nD Cert.LruOutBwdRefIdeal.τ Cert.LruOutBwdRefIdeal.sig) → Buf (Elt Ideal) ℓ) (g' : Dev Cert.LruOutBwdRefIdeal.nD → PrngReg), Pre_LruOutBwdIdeal m →
    (∀ c : Dev Cert.LruOutBwdIdeal.nD,
      m' ((c.tc : Thread Cert.LruOutBwdRefIdeal.nD Cert.LruOutBwdRefIdeal.τ).loc Cert.LruOutBwdRefIdeal.main_arg0) = m ((c.tc : Thread Cert.LruOutBwdIdeal.nD Cert.LruOutBwdIdeal.τ).loc Cert.LruOutBwdIdeal.main_arg0)
      ∧ m' ((c.tc : Thread Cert.LruOutBwdRefIdeal.nD Cert.LruOutBwdRefIdeal.τ).loc Cert.LruOutBwdRefIdeal.main_arg1) = m ((c.tc : Thread Cert.LruOutBwdIdeal.nD Cert.LruOutBwdIdeal.τ).loc Cert.LruOutBwdIdeal.main_arg1)
      ∧ m' ((c.tc : Thread Cert.LruOutBwdRefIdeal.nD Cert.LruOutBwdRefIdeal.τ).loc Cert.LruOutBwdRefIdeal.main_arg2) = m ((c.tc : Thread Cert.LruOutBwdIdeal.nD Cert.LruOutBwdIdeal.τ).loc Cert.LruOutBwdIdeal.main_arg2)) →
    ∃ (v0 : (c : Dev Cert.LruOutBwdIdeal.nD) → Buf (Elt Ideal) ((c.tc : Thread Cert.LruOutBwdIdeal.nD Cert.LruOutBwdIdeal.τ).loc Cert.LruOutBwdIdeal.main_v0_0)) (v1 : (c : Dev Cert.LruOutBwdIdeal.nD) → Buf (Elt Ideal) ((c.tc : Thread Cert.LruOutBwdIdeal.nD Cert.LruOutBwdIdeal.τ).loc Cert.LruOutBwdIdeal.main_v0_1)),
      θ_run (Cert.LruOutBwdIdeal.defs (F := Ideal)) (onTc (τ := Cert.LruOutBwdIdeal.τ) (Cert.LruOutBwdIdeal.main (F := Ideal))) ⟨m, fun _ => 0, g⟩ (fun r => ∀ c : Dev Cert.LruOutBwdIdeal.nD,
          r.2.mem ((c.tc : Thread Cert.LruOutBwdIdeal.nD Cert.LruOutBwdIdeal.τ).loc Cert.LruOutBwdIdeal.main_v0_0) = v0 c
          ∧ r.2.mem ((c.tc : Thread Cert.LruOutBwdIdeal.nD Cert.LruOutBwdIdeal.τ).loc Cert.LruOutBwdIdeal.main_v0_1) = v1 c
          ∧ r.2.mem ((c.tc : Thread Cert.LruOutBwdIdeal.nD Cert.LruOutBwdIdeal.τ).loc Cert.LruOutBwdIdeal.main_arg0) = m ((c.tc : Thread Cert.LruOutBwdIdeal.nD Cert.LruOutBwdIdeal.τ).loc Cert.LruOutBwdIdeal.main_arg0)
          ∧ r.2.mem ((c.tc : Thread Cert.LruOutBwdIdeal.nD Cert.LruOutBwdIdeal.τ).loc Cert.LruOutBwdIdeal.main_arg1) = m ((c.tc : Thread Cert.LruOutBwdIdeal.nD Cert.LruOutBwdIdeal.τ).loc Cert.LruOutBwdIdeal.main_arg1)
          ∧ r.2.mem ((c.tc : Thread Cert.LruOutBwdIdeal.nD Cert.LruOutBwdIdeal.τ).loc Cert.LruOutBwdIdeal.main_arg2) = m ((c.tc : Thread Cert.LruOutBwdIdeal.nD Cert.LruOutBwdIdeal.τ).loc Cert.LruOutBwdIdeal.main_arg2))
      ∧ θ_run (Cert.LruOutBwdRefIdeal.defs (F := Ideal)) (onTc (τ := Cert.LruOutBwdRefIdeal.τ) (Cert.LruOutBwdRefIdeal.main (F := Ideal))) ⟨m', fun _ => 0, g'⟩ (fun r => ∀ c : Dev Cert.LruOutBwdRefIdeal.nD,
          r.2.mem ((c.tc : Thread Cert.LruOutBwdRefIdeal.nD Cert.LruOutBwdRefIdeal.τ).loc Cert.LruOutBwdRefIdeal.main_v37) = v0 c
          ∧ r.2.mem ((c.tc : Thread Cert.LruOutBwdRefIdeal.nD Cert.LruOutBwdRefIdeal.τ).loc Cert.LruOutBwdRefIdeal.main_v23) = v1 c
          ∧ r.2.mem ((c.tc : Thread Cert.LruOutBwdRefIdeal.nD Cert.LruOutBwdRefIdeal.τ).loc Cert.LruOutBwdRefIdeal.main_arg0) = m' ((c.tc : Thread Cert.LruOutBwdRefIdeal.nD Cert.LruOutBwdRefIdeal.τ).loc Cert.LruOutBwdRefIdeal.main_arg0)
          ∧ r.2.mem ((c.tc : Thread Cert.LruOutBwdRefIdeal.nD Cert.LruOutBwdRefIdeal.τ).loc Cert.LruOutBwdRefIdeal.main_arg1) = m' ((c.tc : Thread Cert.LruOutBwdRefIdeal.nD Cert.LruOutBwdRefIdeal.τ).loc Cert.LruOutBwdRefIdeal.main_arg1)
          ∧ r.2.mem ((c.tc : Thread Cert.LruOutBwdRefIdeal.nD Cert.LruOutBwdRefIdeal.τ).loc Cert.LruOutBwdRefIdeal.main_arg2) = m' ((c.tc : Thread Cert.LruOutBwdRefIdeal.nD Cert.LruOutBwdRefIdeal.τ).loc Cert.LruOutBwdRefIdeal.main_arg2))

def preserves_LruOut_LruOutIdeal : Prop :=
  True

def algebraic_LruOutIdeal_LruOutRefIdeal [hLruOutIdeal : Cert.LruOutIdeal.Facts] [hLruOutRefIdeal : Cert.LruOutRefIdeal.Facts] : Prop :=
  ∀ (m : (ℓ : Loc Cert.LruOutIdeal.nD Cert.LruOutIdeal.τ Cert.LruOutIdeal.sig) → Buf (Elt Ideal) ℓ) (g : Dev Cert.LruOutIdeal.nD → PrngReg)
    (m' : (ℓ : Loc Cert.LruOutRefIdeal.nD Cert.LruOutRefIdeal.τ Cert.LruOutRefIdeal.sig) → Buf (Elt Ideal) ℓ) (g' : Dev Cert.LruOutRefIdeal.nD → PrngReg), Pre_LruOutIdeal m →
    (∀ c : Dev Cert.LruOutIdeal.nD,
      m' ((c.tc : Thread Cert.LruOutRefIdeal.nD Cert.LruOutRefIdeal.τ).loc Cert.LruOutRefIdeal.main_arg0) = m ((c.tc : Thread Cert.LruOutIdeal.nD Cert.LruOutIdeal.τ).loc Cert.LruOutIdeal.main_arg0)
      ∧ m' ((c.tc : Thread Cert.LruOutRefIdeal.nD Cert.LruOutRefIdeal.τ).loc Cert.LruOutRefIdeal.main_arg1) = m ((c.tc : Thread Cert.LruOutIdeal.nD Cert.LruOutIdeal.τ).loc Cert.LruOutIdeal.main_arg1)) →
    ∃ (v0 : (c : Dev Cert.LruOutIdeal.nD) → Buf (Elt Ideal) ((c.tc : Thread Cert.LruOutIdeal.nD Cert.LruOutIdeal.τ).loc Cert.LruOutIdeal.main_v0)),
      θ_run (Cert.LruOutIdeal.defs (F := Ideal)) (onTc (τ := Cert.LruOutIdeal.τ) (Cert.LruOutIdeal.main (F := Ideal))) ⟨m, fun _ => 0, g⟩ (fun r => ∀ c : Dev Cert.LruOutIdeal.nD,
          r.2.mem ((c.tc : Thread Cert.LruOutIdeal.nD Cert.LruOutIdeal.τ).loc Cert.LruOutIdeal.main_v0) = v0 c
          ∧ r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
          ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1))
      ∧ θ_run (Cert.LruOutRefIdeal.defs (F := Ideal)) (onTc (τ := Cert.LruOutRefIdeal.τ) (Cert.LruOutRefIdeal.main (F := Ideal))) ⟨m', fun _ => 0, g'⟩ (fun r => ∀ c : Dev Cert.LruOutRefIdeal.nD,
          r.2.mem ((c.tc : Thread Cert.LruOutRefIdeal.nD Cert.LruOutRefIdeal.τ).loc Cert.LruOutRefIdeal.main_v15) = v0 c
          ∧ r.2.mem ((c.tc : Thread Cert.LruOutRefIdeal.nD Cert.LruOutRefIdeal.τ).loc Cert.LruOutRefIdeal.main_arg0) = m' ((c.tc : Thread Cert.LruOutRefIdeal.nD Cert.LruOutRefIdeal.τ).loc Cert.LruOutRefIdeal.main_arg0)
          ∧ r.2.mem ((c.tc : Thread Cert.LruOutRefIdeal.nD Cert.LruOutRefIdeal.τ).loc Cert.LruOutRefIdeal.main_arg1) = m' ((c.tc : Thread Cert.LruOutRefIdeal.nD Cert.LruOutRefIdeal.τ).loc Cert.LruOutRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v6_0)) (v1 : (c : Dev Cert.MergeBwdIdeal.nD) → Buf (Elt Ideal) ((c.tc : Thread Cert.MergeBwdIdeal.nD Cert.MergeBwdIdeal.τ).loc Cert.MergeBwdIdeal.main_v6_1)) (v2 : (c : Dev Cert.MergeBwdIdeal.nD) → Buf (Elt Ideal) ((c.tc : Thread Cert.MergeBwdIdeal.nD Cert.MergeBwdIdeal.τ).loc Cert.MergeBwdIdeal.main_v6_2)) (v3 : (c : Dev Cert.MergeBwdIdeal.nD) → Buf (Elt Ideal) ((c.tc : Thread Cert.MergeBwdIdeal.nD Cert.MergeBwdIdeal.τ).loc Cert.MergeBwdIdeal.main_v6_3)) (v4 : (c : Dev Cert.MergeBwdIdeal.nD) → Buf (Elt Ideal) ((c.tc : Thread Cert.MergeBwdIdeal.nD Cert.MergeBwdIdeal.τ).loc Cert.MergeBwdIdeal.main_v6_4)) (v5 : (c : Dev Cert.MergeBwdIdeal.nD) → Buf (Elt Ideal) ((c.tc : Thread Cert.MergeBwdIdeal.nD Cert.MergeBwdIdeal.τ).loc Cert.MergeBwdIdeal.main_v6_5)) (v6 : (c : Dev Cert.MergeBwdIdeal.nD) → Buf (Elt Ideal) ((c.tc : Thread Cert.MergeBwdIdeal.nD Cert.MergeBwdIdeal.τ).loc Cert.MergeBwdIdeal.main_v6_6)) (v7 : (c : Dev Cert.MergeBwdIdeal.nD) → Buf (Elt Ideal) ((c.tc : Thread Cert.MergeBwdIdeal.nD Cert.MergeBwdIdeal.τ).loc Cert.MergeBwdIdeal.main_v6_7)) (v8 : (c : Dev Cert.MergeBwdIdeal.nD) → Buf (Elt Ideal) ((c.tc : Thread Cert.MergeBwdIdeal.nD Cert.MergeBwdIdeal.τ).loc Cert.MergeBwdIdeal.main_v6_8)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v6_0) = v0 c
          ∧ r.2.mem ((c.tc : Thread Cert.MergeBwdIdeal.nD Cert.MergeBwdIdeal.τ).loc Cert.MergeBwdIdeal.main_v6_1) = v1 c
          ∧ r.2.mem ((c.tc : Thread Cert.MergeBwdIdeal.nD Cert.MergeBwdIdeal.τ).loc Cert.MergeBwdIdeal.main_v6_2) = v2 c
          ∧ r.2.mem ((c.tc : Thread Cert.MergeBwdIdeal.nD Cert.MergeBwdIdeal.τ).loc Cert.MergeBwdIdeal.main_v6_3) = v3 c
          ∧ r.2.mem ((c.tc : Thread Cert.MergeBwdIdeal.nD Cert.MergeBwdIdeal.τ).loc Cert.MergeBwdIdeal.main_v6_4) = v4 c
          ∧ r.2.mem ((c.tc : Thread Cert.MergeBwdIdeal.nD Cert.MergeBwdIdeal.τ).loc Cert.MergeBwdIdeal.main_v6_5) = v5 c
          ∧ r.2.mem ((c.tc : Thread Cert.MergeBwdIdeal.nD Cert.MergeBwdIdeal.τ).loc Cert.MergeBwdIdeal.main_v6_6) = v6 c
          ∧ r.2.mem ((c.tc : Thread Cert.MergeBwdIdeal.nD Cert.MergeBwdIdeal.τ).loc Cert.MergeBwdIdeal.main_v6_7) = v7 c
          ∧ r.2.mem ((c.tc : Thread Cert.MergeBwdIdeal.nD Cert.MergeBwdIdeal.τ).loc Cert.MergeBwdIdeal.main_v6_8) = v8 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v41) = v0 c
          ∧ r.2.mem ((c.tc : Thread Cert.MergeBwdRefIdeal.nD Cert.MergeBwdRefIdeal.τ).loc Cert.MergeBwdRefIdeal.main_v42) = v1 c
          ∧ r.2.mem ((c.tc : Thread Cert.MergeBwdRefIdeal.nD Cert.MergeBwdRefIdeal.τ).loc Cert.MergeBwdRefIdeal.main_v43) = v2 c
          ∧ r.2.mem ((c.tc : Thread Cert.MergeBwdRefIdeal.nD Cert.MergeBwdRefIdeal.τ).loc Cert.MergeBwdRefIdeal.main_v44) = v3 c
          ∧ r.2.mem ((c.tc : Thread Cert.MergeBwdRefIdeal.nD Cert.MergeBwdRefIdeal.τ).loc Cert.MergeBwdRefIdeal.main_v45) = v4 c
          ∧ r.2.mem ((c.tc : Thread Cert.MergeBwdRefIdeal.nD Cert.MergeBwdRefIdeal.τ).loc Cert.MergeBwdRefIdeal.main_v46) = v5 c
          ∧ r.2.mem ((c.tc : Thread Cert.MergeBwdRefIdeal.nD Cert.MergeBwdRefIdeal.τ).loc Cert.MergeBwdRefIdeal.main_v48) = v6 c
          ∧ r.2.mem ((c.tc : Thread Cert.MergeBwdRefIdeal.nD Cert.MergeBwdRefIdeal.τ).loc Cert.MergeBwdRefIdeal.main_v50) = v7 c
          ∧ r.2.mem ((c.tc : Thread Cert.MergeBwdRefIdeal.nD Cert.MergeBwdRefIdeal.τ).loc Cert.MergeBwdRefIdeal.main_v52) = v8 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v2_0)) (v1 : (c : Dev Cert.NormBwdIdeal.nD) → Buf (Elt Ideal) ((c.tc : Thread Cert.NormBwdIdeal.nD Cert.NormBwdIdeal.τ).loc Cert.NormBwdIdeal.main_v2_1)) (v2 : (c : Dev Cert.NormBwdIdeal.nD) → Buf (Elt Ideal) ((c.tc : Thread Cert.NormBwdIdeal.nD Cert.NormBwdIdeal.τ).loc Cert.NormBwdIdeal.main_v2_2)) (v3 : (c : Dev Cert.NormBwdIdeal.nD) → Buf (Elt Ideal) ((c.tc : Thread Cert.NormBwdIdeal.nD Cert.NormBwdIdeal.τ).loc Cert.NormBwdIdeal.main_v2_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v2_0) = v0 c
          ∧ r.2.mem ((c.tc : Thread Cert.NormBwdIdeal.nD Cert.NormBwdIdeal.τ).loc Cert.NormBwdIdeal.main_v2_1) = v1 c
          ∧ r.2.mem ((c.tc : Thread Cert.NormBwdIdeal.nD Cert.NormBwdIdeal.τ).loc Cert.NormBwdIdeal.main_v2_2) = v2 c
          ∧ r.2.mem ((c.tc : Thread Cert.NormBwdIdeal.nD Cert.NormBwdIdeal.τ).loc Cert.NormBwdIdeal.main_v2_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v67) = v0 c
          ∧ r.2.mem ((c.tc : Thread Cert.NormBwdRefIdeal.nD Cert.NormBwdRefIdeal.τ).loc Cert.NormBwdRefIdeal.main_v68) = v1 c
          ∧ r.2.mem ((c.tc : Thread Cert.NormBwdRefIdeal.nD Cert.NormBwdRefIdeal.τ).loc Cert.NormBwdRefIdeal.main_v69) = v2 c
          ∧ r.2.mem ((c.tc : Thread Cert.NormBwdRefIdeal.nD Cert.NormBwdRefIdeal.τ).loc Cert.NormBwdRefIdeal.main_v70) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v26) = v0 c
          ∧ r.2.mem ((c.tc : Thread Cert.NormRefIdeal.nD Cert.NormRefIdeal.τ).loc Cert.NormRefIdeal.main_v27) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_ConvDx_ConvDxIdeal : Prop :=
  True

def algebraic_ConvDxIdeal_ConvDxRefIdeal [hConvDxIdeal : Cert.ConvDxIdeal.Facts] [hConvDxRefIdeal : Cert.ConvDxRefIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg)
    (m' : (ℓ : Loc Cert.ConvDxRefIdeal.nD Cert.ConvDxRefIdeal.τ Cert.ConvDxRefIdeal.sig) → Buf (Elt Ideal) ℓ) (g' : Dev Cert.ConvDxRefIdeal.nD → PrngReg), Pre_ConvDxIdeal m →
    (∀ c : Dev Cert.ConvDxIdeal.nD,
      m' ((c.tc : Thread Cert.ConvDxRefIdeal.nD Cert.ConvDxRefIdeal.τ).loc Cert.ConvDxRefIdeal.main_arg0) = m ((c.tc : Thread Cert.ConvDxIdeal.nD Cert.ConvDxIdeal.τ).loc Cert.ConvDxIdeal.main_arg0)
      ∧ m' ((c.tc : Thread Cert.ConvDxRefIdeal.nD Cert.ConvDxRefIdeal.τ).loc Cert.ConvDxRefIdeal.main_arg1) = m ((c.tc : Thread Cert.ConvDxIdeal.nD Cert.ConvDxIdeal.τ).loc Cert.ConvDxIdeal.main_arg1)) →
    ∃ (v0 : (c : Dev Cert.ConvDxIdeal.nD) → Buf (Elt Ideal) ((c.tc : Thread Cert.ConvDxIdeal.nD Cert.ConvDxIdeal.τ).loc Cert.ConvDxIdeal.main_v18)),
      θ_run (Cert.ConvDxIdeal.defs (F := Ideal)) (onTc (τ := Cert.ConvDxIdeal.τ) (Cert.ConvDxIdeal.main (F := Ideal))) ⟨m, fun _ => 0, g⟩ (fun r => ∀ c : Dev Cert.ConvDxIdeal.nD,
          r.2.mem ((c.tc : Thread Cert.ConvDxIdeal.nD Cert.ConvDxIdeal.τ).loc Cert.ConvDxIdeal.main_v18) = v0 c
          ∧ r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
          ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1))
      ∧ θ_run (Cert.ConvDxRefIdeal.defs (F := Ideal)) (onTc (τ := Cert.ConvDxRefIdeal.τ) (Cert.ConvDxRefIdeal.main (F := Ideal))) ⟨m', fun _ => 0, g'⟩ (fun r => ∀ c : Dev Cert.ConvDxRefIdeal.nD,
          r.2.mem ((c.tc : Thread Cert.ConvDxRefIdeal.nD Cert.ConvDxRefIdeal.τ).loc Cert.ConvDxRefIdeal.main_v56) = v0 c
          ∧ r.2.mem ((c.tc : Thread Cert.ConvDxRefIdeal.nD Cert.ConvDxRefIdeal.τ).loc Cert.ConvDxRefIdeal.main_arg0) = m' ((c.tc : Thread Cert.ConvDxRefIdeal.nD Cert.ConvDxRefIdeal.τ).loc Cert.ConvDxRefIdeal.main_arg0)
          ∧ r.2.mem ((c.tc : Thread Cert.ConvDxRefIdeal.nD Cert.ConvDxRefIdeal.τ).loc Cert.ConvDxRefIdeal.main_arg1) = m' ((c.tc : Thread Cert.ConvDxRefIdeal.nD Cert.ConvDxRefIdeal.τ).loc Cert.ConvDxRefIdeal.main_arg1))

def preserves_ConvDw_ConvDwIdeal : Prop :=
  True

def algebraic_ConvDwIdeal_ConvDwRefIdeal [hConvDwIdeal : Cert.ConvDwIdeal.Facts] [hConvDwRefIdeal : Cert.ConvDwRefIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg)
    (m' : (ℓ : Loc Cert.ConvDwRefIdeal.nD Cert.ConvDwRefIdeal.τ Cert.ConvDwRefIdeal.sig) → Buf (Elt Ideal) ℓ) (g' : Dev Cert.ConvDwRefIdeal.nD → PrngReg), Pre_ConvDwIdeal m →
    (∀ c : Dev Cert.ConvDwIdeal.nD,
      m' ((c.tc : Thread Cert.ConvDwRefIdeal.nD Cert.ConvDwRefIdeal.τ).loc Cert.ConvDwRefIdeal.main_arg0) = m ((c.tc : Thread Cert.ConvDwIdeal.nD Cert.ConvDwIdeal.τ).loc Cert.ConvDwIdeal.main_arg0)
      ∧ m' ((c.tc : Thread Cert.ConvDwRefIdeal.nD Cert.ConvDwRefIdeal.τ).loc Cert.ConvDwRefIdeal.main_arg1) = m ((c.tc : Thread Cert.ConvDwIdeal.nD Cert.ConvDwIdeal.τ).loc Cert.ConvDwIdeal.main_arg1)
      ∧ m' ((c.tc : Thread Cert.ConvDwRefIdeal.nD Cert.ConvDwRefIdeal.τ).loc Cert.ConvDwRefIdeal.main_arg2) = m ((c.tc : Thread Cert.ConvDwIdeal.nD Cert.ConvDwIdeal.τ).loc Cert.ConvDwIdeal.main_arg2)
      ∧ m' ((c.tc : Thread Cert.ConvDwRefIdeal.nD Cert.ConvDwRefIdeal.τ).loc Cert.ConvDwRefIdeal.main_arg3) = m ((c.tc : Thread Cert.ConvDwIdeal.nD Cert.ConvDwIdeal.τ).loc Cert.ConvDwIdeal.main_arg3)) →
    ∃ (v0 : (c : Dev Cert.ConvDwIdeal.nD) → Buf (Elt Ideal) ((c.tc : Thread Cert.ConvDwIdeal.nD Cert.ConvDwIdeal.τ).loc Cert.ConvDwIdeal.main_v20_0)) (v1 : (c : Dev Cert.ConvDwIdeal.nD) → Buf (Elt Ideal) ((c.tc : Thread Cert.ConvDwIdeal.nD Cert.ConvDwIdeal.τ).loc Cert.ConvDwIdeal.main_v20_1)) (v2 : (c : Dev Cert.ConvDwIdeal.nD) → Buf (Elt Ideal) ((c.tc : Thread Cert.ConvDwIdeal.nD Cert.ConvDwIdeal.τ).loc Cert.ConvDwIdeal.main_v20_2)) (v3 : (c : Dev Cert.ConvDwIdeal.nD) → Buf (Elt Ideal) ((c.tc : Thread Cert.ConvDwIdeal.nD Cert.ConvDwIdeal.τ).loc Cert.ConvDwIdeal.main_v20_3)) (v4 : (c : Dev Cert.ConvDwIdeal.nD) → Buf (Elt Ideal) ((c.tc : Thread Cert.ConvDwIdeal.nD Cert.ConvDwIdeal.τ).loc Cert.ConvDwIdeal.main_v20_4)),
      θ_run (Cert.ConvDwIdeal.defs (F := Ideal)) (onTc (τ := Cert.ConvDwIdeal.τ) (Cert.ConvDwIdeal.main (F := Ideal))) ⟨m, fun _ => 0, g⟩ (fun r => ∀ c : Dev Cert.ConvDwIdeal.nD,
          r.2.mem ((c.tc : Thread Cert.ConvDwIdeal.nD Cert.ConvDwIdeal.τ).loc Cert.ConvDwIdeal.main_v20_0) = v0 c
          ∧ r.2.mem ((c.tc : Thread Cert.ConvDwIdeal.nD Cert.ConvDwIdeal.τ).loc Cert.ConvDwIdeal.main_v20_1) = v1 c
          ∧ r.2.mem ((c.tc : Thread Cert.ConvDwIdeal.nD Cert.ConvDwIdeal.τ).loc Cert.ConvDwIdeal.main_v20_2) = v2 c
          ∧ r.2.mem ((c.tc : Thread Cert.ConvDwIdeal.nD Cert.ConvDwIdeal.τ).loc Cert.ConvDwIdeal.main_v20_3) = v3 c
          ∧ r.2.mem ((c.tc : Thread Cert.ConvDwIdeal.nD Cert.ConvDwIdeal.τ).loc Cert.ConvDwIdeal.main_v20_4) = v4 c
          ∧ r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
          ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1)
          ∧ r.2.mem ((c.tc : Thread Cert.ConvDwIdeal.nD Cert.ConvDwIdeal.τ).loc Cert.ConvDwIdeal.main_arg2) = m ((c.tc : Thread Cert.ConvDwIdeal.nD Cert.ConvDwIdeal.τ).loc Cert.ConvDwIdeal.main_arg2)
          ∧ r.2.mem ((c.tc : Thread Cert.ConvDwIdeal.nD Cert.ConvDwIdeal.τ).loc Cert.ConvDwIdeal.main_arg3) = m ((c.tc : Thread Cert.ConvDwIdeal.nD Cert.ConvDwIdeal.τ).loc Cert.ConvDwIdeal.main_arg3))
      ∧ θ_run (Cert.ConvDwRefIdeal.defs (F := Ideal)) (onTc (τ := Cert.ConvDwRefIdeal.τ) (Cert.ConvDwRefIdeal.main (F := Ideal))) ⟨m', fun _ => 0, g'⟩ (fun r => ∀ c : Dev Cert.ConvDwRefIdeal.nD,
          r.2.mem ((c.tc : Thread Cert.ConvDwRefIdeal.nD Cert.ConvDwRefIdeal.τ).loc Cert.ConvDwRefIdeal.main_v66) = v0 c
          ∧ r.2.mem ((c.tc : Thread Cert.ConvDwRefIdeal.nD Cert.ConvDwRefIdeal.τ).loc Cert.ConvDwRefIdeal.main_v67) = v1 c
          ∧ r.2.mem ((c.tc : Thread Cert.ConvDwRefIdeal.nD Cert.ConvDwRefIdeal.τ).loc Cert.ConvDwRefIdeal.main_v68) = v2 c
          ∧ r.2.mem ((c.tc : Thread Cert.ConvDwRefIdeal.nD Cert.ConvDwRefIdeal.τ).loc Cert.ConvDwRefIdeal.main_v69) = v3 c
          ∧ r.2.mem ((c.tc : Thread Cert.ConvDwRefIdeal.nD Cert.ConvDwRefIdeal.τ).loc Cert.ConvDwRefIdeal.main_v70) = v4 c
          ∧ r.2.mem ((c.tc : Thread Cert.ConvDwRefIdeal.nD Cert.ConvDwRefIdeal.τ).loc Cert.ConvDwRefIdeal.main_arg0) = m' ((c.tc : Thread Cert.ConvDwRefIdeal.nD Cert.ConvDwRefIdeal.τ).loc Cert.ConvDwRefIdeal.main_arg0)
          ∧ r.2.mem ((c.tc : Thread Cert.ConvDwRefIdeal.nD Cert.ConvDwRefIdeal.τ).loc Cert.ConvDwRefIdeal.main_arg1) = m' ((c.tc : Thread Cert.ConvDwRefIdeal.nD Cert.ConvDwRefIdeal.τ).loc Cert.ConvDwRefIdeal.main_arg1)
          ∧ r.2.mem ((c.tc : Thread Cert.ConvDwRefIdeal.nD Cert.ConvDwRefIdeal.τ).loc Cert.ConvDwRefIdeal.main_arg2) = m' ((c.tc : Thread Cert.ConvDwRefIdeal.nD Cert.ConvDwRefIdeal.τ).loc Cert.ConvDwRefIdeal.main_arg2)
          ∧ r.2.mem ((c.tc : Thread Cert.ConvDwRefIdeal.nD Cert.ConvDwRefIdeal.τ).loc Cert.ConvDwRefIdeal.main_arg3) = m' ((c.tc : Thread Cert.ConvDwRefIdeal.nD Cert.ConvDwRefIdeal.τ).loc Cert.ConvDwRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v20_0)) (v1 : (c : Dev Cert.ConvIdeal.nD) → Buf (Elt Ideal) ((c.tc : Thread Cert.ConvIdeal.nD Cert.ConvIdeal.τ).loc Cert.ConvIdeal.main_v20_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v20_0) = v0 c
          ∧ r.2.mem ((c.tc : Thread Cert.ConvIdeal.nD Cert.ConvIdeal.τ).loc Cert.ConvIdeal.main_v20_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v34) = v0 c
          ∧ r.2.mem ((c.tc : Thread Cert.ConvRefIdeal.nD Cert.ConvRefIdeal.τ).loc Cert.ConvRefIdeal.main_v35) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_SkipBwd_SkipBwdIdeal : Prop :=
  True

def algebraic_SkipBwdIdeal_SkipBwdRefIdeal [hSkipBwdIdeal : Cert.SkipBwdIdeal.Facts] [hSkipBwdRefIdeal : Cert.SkipBwdRefIdeal.Facts] : Prop :=
  ∀ (m : (ℓ : Loc Cert.SkipBwdIdeal.nD Cert.SkipBwdIdeal.τ Cert.SkipBwdIdeal.sig) → Buf (Elt Ideal) ℓ) (g : Dev Cert.SkipBwdIdeal.nD → PrngReg)
    (m' : (ℓ : Loc Cert.SkipBwdRefIdeal.nD Cert.SkipBwdRefIdeal.τ Cert.SkipBwdRefIdeal.sig) → Buf (Elt Ideal) ℓ) (g' : Dev Cert.SkipBwdRefIdeal.nD → PrngReg), Pre_SkipBwdIdeal m →
    (∀ c : Dev Cert.SkipBwdIdeal.nD,
      m' ((c.tc : Thread Cert.SkipBwdRefIdeal.nD Cert.SkipBwdRefIdeal.τ).loc Cert.SkipBwdRefIdeal.main_arg0) = m ((c.tc : Thread Cert.SkipBwdIdeal.nD Cert.SkipBwdIdeal.τ).loc Cert.SkipBwdIdeal.main_arg0)
      ∧ m' ((c.tc : Thread Cert.SkipBwdRefIdeal.nD Cert.SkipBwdRefIdeal.τ).loc Cert.SkipBwdRefIdeal.main_arg1) = m ((c.tc : Thread Cert.SkipBwdIdeal.nD Cert.SkipBwdIdeal.τ).loc Cert.SkipBwdIdeal.main_arg1)
      ∧ m' ((c.tc : Thread Cert.SkipBwdRefIdeal.nD Cert.SkipBwdRefIdeal.τ).loc Cert.SkipBwdRefIdeal.main_arg2) = m ((c.tc : Thread Cert.SkipBwdIdeal.nD Cert.SkipBwdIdeal.τ).loc Cert.SkipBwdIdeal.main_arg2)
      ∧ m' ((c.tc : Thread Cert.SkipBwdRefIdeal.nD Cert.SkipBwdRefIdeal.τ).loc Cert.SkipBwdRefIdeal.main_arg3) = m ((c.tc : Thread Cert.SkipBwdIdeal.nD Cert.SkipBwdIdeal.τ).loc Cert.SkipBwdIdeal.main_arg3)
      ∧ m' ((c.tc : Thread Cert.SkipBwdRefIdeal.nD Cert.SkipBwdRefIdeal.τ).loc Cert.SkipBwdRefIdeal.main_arg4) = m ((c.tc : Thread Cert.SkipBwdIdeal.nD Cert.SkipBwdIdeal.τ).loc Cert.SkipBwdIdeal.main_arg4)) →
    ∃ (v0 : (c : Dev Cert.SkipBwdIdeal.nD) → Buf (Elt Ideal) ((c.tc : Thread Cert.SkipBwdIdeal.nD Cert.SkipBwdIdeal.τ).loc Cert.SkipBwdIdeal.main_v1_0)) (v1 : (c : Dev Cert.SkipBwdIdeal.nD) → Buf (Elt Ideal) ((c.tc : Thread Cert.SkipBwdIdeal.nD Cert.SkipBwdIdeal.τ).loc Cert.SkipBwdIdeal.main_v1_1)) (v2 : (c : Dev Cert.SkipBwdIdeal.nD) → Buf (Elt Ideal) ((c.tc : Thread Cert.SkipBwdIdeal.nD Cert.SkipBwdIdeal.τ).loc Cert.SkipBwdIdeal.main_v1_2)),
      θ_run (Cert.SkipBwdIdeal.defs (F := Ideal)) (onTc (τ := Cert.SkipBwdIdeal.τ) (Cert.SkipBwdIdeal.main (F := Ideal))) ⟨m, fun _ => 0, g⟩ (fun r => ∀ c : Dev Cert.SkipBwdIdeal.nD,
          r.2.mem ((c.tc : Thread Cert.SkipBwdIdeal.nD Cert.SkipBwdIdeal.τ).loc Cert.SkipBwdIdeal.main_v1_0) = v0 c
          ∧ r.2.mem ((c.tc : Thread Cert.SkipBwdIdeal.nD Cert.SkipBwdIdeal.τ).loc Cert.SkipBwdIdeal.main_v1_1) = v1 c
          ∧ r.2.mem ((c.tc : Thread Cert.SkipBwdIdeal.nD Cert.SkipBwdIdeal.τ).loc Cert.SkipBwdIdeal.main_v1_2) = v2 c
          ∧ r.2.mem ((c.tc : Thread Cert.SkipBwdIdeal.nD Cert.SkipBwdIdeal.τ).loc Cert.SkipBwdIdeal.main_arg0) = m ((c.tc : Thread Cert.SkipBwdIdeal.nD Cert.SkipBwdIdeal.τ).loc Cert.SkipBwdIdeal.main_arg0)
          ∧ r.2.mem ((c.tc : Thread Cert.SkipBwdIdeal.nD Cert.SkipBwdIdeal.τ).loc Cert.SkipBwdIdeal.main_arg1) = m ((c.tc : Thread Cert.SkipBwdIdeal.nD Cert.SkipBwdIdeal.τ).loc Cert.SkipBwdIdeal.main_arg1)
          ∧ r.2.mem ((c.tc : Thread Cert.SkipBwdIdeal.nD Cert.SkipBwdIdeal.τ).loc Cert.SkipBwdIdeal.main_arg2) = m ((c.tc : Thread Cert.SkipBwdIdeal.nD Cert.SkipBwdIdeal.τ).loc Cert.SkipBwdIdeal.main_arg2)
          ∧ r.2.mem ((c.tc : Thread Cert.SkipBwdIdeal.nD Cert.SkipBwdIdeal.τ).loc Cert.SkipBwdIdeal.main_arg3) = m ((c.tc : Thread Cert.SkipBwdIdeal.nD Cert.SkipBwdIdeal.τ).loc Cert.SkipBwdIdeal.main_arg3)
          ∧ r.2.mem ((c.tc : Thread Cert.SkipBwdIdeal.nD Cert.SkipBwdIdeal.τ).loc Cert.SkipBwdIdeal.main_arg4) = m ((c.tc : Thread Cert.SkipBwdIdeal.nD Cert.SkipBwdIdeal.τ).loc Cert.SkipBwdIdeal.main_arg4))
      ∧ θ_run (Cert.SkipBwdRefIdeal.defs (F := Ideal)) (onTc (τ := Cert.SkipBwdRefIdeal.τ) (Cert.SkipBwdRefIdeal.main (F := Ideal))) ⟨m', fun _ => 0, g'⟩ (fun r => ∀ c : Dev Cert.SkipBwdRefIdeal.nD,
          r.2.mem ((c.tc : Thread Cert.SkipBwdRefIdeal.nD Cert.SkipBwdRefIdeal.τ).loc Cert.SkipBwdRefIdeal.main_v45) = v0 c
          ∧ r.2.mem ((c.tc : Thread Cert.SkipBwdRefIdeal.nD Cert.SkipBwdRefIdeal.τ).loc Cert.SkipBwdRefIdeal.main_v40) = v1 c
          ∧ r.2.mem ((c.tc : Thread Cert.SkipBwdRefIdeal.nD Cert.SkipBwdRefIdeal.τ).loc Cert.SkipBwdRefIdeal.main_v46) = v2 c
          ∧ r.2.mem ((c.tc : Thread Cert.SkipBwdRefIdeal.nD Cert.SkipBwdRefIdeal.τ).loc Cert.SkipBwdRefIdeal.main_arg0) = m' ((c.tc : Thread Cert.SkipBwdRefIdeal.nD Cert.SkipBwdRefIdeal.τ).loc Cert.SkipBwdRefIdeal.main_arg0)
          ∧ r.2.mem ((c.tc : Thread Cert.SkipBwdRefIdeal.nD Cert.SkipBwdRefIdeal.τ).loc Cert.SkipBwdRefIdeal.main_arg1) = m' ((c.tc : Thread Cert.SkipBwdRefIdeal.nD Cert.SkipBwdRefIdeal.τ).loc Cert.SkipBwdRefIdeal.main_arg1)
          ∧ r.2.mem ((c.tc : Thread Cert.SkipBwdRefIdeal.nD Cert.SkipBwdRefIdeal.τ).loc Cert.SkipBwdRefIdeal.main_arg2) = m' ((c.tc : Thread Cert.SkipBwdRefIdeal.nD Cert.SkipBwdRefIdeal.τ).loc Cert.SkipBwdRefIdeal.main_arg2)
          ∧ r.2.mem ((c.tc : Thread Cert.SkipBwdRefIdeal.nD Cert.SkipBwdRefIdeal.τ).loc Cert.SkipBwdRefIdeal.main_arg3) = m' ((c.tc : Thread Cert.SkipBwdRefIdeal.nD Cert.SkipBwdRefIdeal.τ).loc Cert.SkipBwdRefIdeal.main_arg3)
          ∧ r.2.mem ((c.tc : Thread Cert.SkipBwdRefIdeal.nD Cert.SkipBwdRefIdeal.τ).loc Cert.SkipBwdRefIdeal.main_arg4) = m' ((c.tc : Thread Cert.SkipBwdRefIdeal.nD Cert.SkipBwdRefIdeal.τ).loc Cert.SkipBwdRefIdeal.main_arg4))

def preserves_Skip_SkipIdeal : Prop :=
  True

def algebraic_SkipIdeal_SkipRefIdeal [hSkipIdeal : Cert.SkipIdeal.Facts] [hSkipRefIdeal : Cert.SkipRefIdeal.Facts] : Prop :=
  ∀ (m : (ℓ : Loc Cert.SkipIdeal.nD Cert.SkipIdeal.τ Cert.SkipIdeal.sig) → Buf (Elt Ideal) ℓ) (g : Dev Cert.SkipIdeal.nD → PrngReg)
    (m' : (ℓ : Loc Cert.SkipRefIdeal.nD Cert.SkipRefIdeal.τ Cert.SkipRefIdeal.sig) → Buf (Elt Ideal) ℓ) (g' : Dev Cert.SkipRefIdeal.nD → PrngReg), Pre_SkipIdeal m →
    (∀ c : Dev Cert.SkipIdeal.nD,
      m' ((c.tc : Thread Cert.SkipRefIdeal.nD Cert.SkipRefIdeal.τ).loc Cert.SkipRefIdeal.main_arg0) = m ((c.tc : Thread Cert.SkipIdeal.nD Cert.SkipIdeal.τ).loc Cert.SkipIdeal.main_arg0)
      ∧ m' ((c.tc : Thread Cert.SkipRefIdeal.nD Cert.SkipRefIdeal.τ).loc Cert.SkipRefIdeal.main_arg1) = m ((c.tc : Thread Cert.SkipIdeal.nD Cert.SkipIdeal.τ).loc Cert.SkipIdeal.main_arg1)
      ∧ m' ((c.tc : Thread Cert.SkipRefIdeal.nD Cert.SkipRefIdeal.τ).loc Cert.SkipRefIdeal.main_arg2) = m ((c.tc : Thread Cert.SkipIdeal.nD Cert.SkipIdeal.τ).loc Cert.SkipIdeal.main_arg2)
      ∧ m' ((c.tc : Thread Cert.SkipRefIdeal.nD Cert.SkipRefIdeal.τ).loc Cert.SkipRefIdeal.main_arg3) = m ((c.tc : Thread Cert.SkipIdeal.nD Cert.SkipIdeal.τ).loc Cert.SkipIdeal.main_arg3)) →
    ∃ (v0 : (c : Dev Cert.SkipIdeal.nD) → Buf (Elt Ideal) ((c.tc : Thread Cert.SkipIdeal.nD Cert.SkipIdeal.τ).loc Cert.SkipIdeal.main_v1_0)) (v1 : (c : Dev Cert.SkipIdeal.nD) → Buf (Elt Ideal) ((c.tc : Thread Cert.SkipIdeal.nD Cert.SkipIdeal.τ).loc Cert.SkipIdeal.main_v1_1)),
      θ_run (Cert.SkipIdeal.defs (F := Ideal)) (onTc (τ := Cert.SkipIdeal.τ) (Cert.SkipIdeal.main (F := Ideal))) ⟨m, fun _ => 0, g⟩ (fun r => ∀ c : Dev Cert.SkipIdeal.nD,
          r.2.mem ((c.tc : Thread Cert.SkipIdeal.nD Cert.SkipIdeal.τ).loc Cert.SkipIdeal.main_v1_0) = v0 c
          ∧ r.2.mem ((c.tc : Thread Cert.SkipIdeal.nD Cert.SkipIdeal.τ).loc Cert.SkipIdeal.main_v1_1) = v1 c
          ∧ r.2.mem ((c.tc : Thread Cert.SkipIdeal.nD Cert.SkipIdeal.τ).loc Cert.SkipIdeal.main_arg0) = m ((c.tc : Thread Cert.SkipIdeal.nD Cert.SkipIdeal.τ).loc Cert.SkipIdeal.main_arg0)
          ∧ r.2.mem ((c.tc : Thread Cert.SkipIdeal.nD Cert.SkipIdeal.τ).loc Cert.SkipIdeal.main_arg1) = m ((c.tc : Thread Cert.SkipIdeal.nD Cert.SkipIdeal.τ).loc Cert.SkipIdeal.main_arg1)
          ∧ r.2.mem ((c.tc : Thread Cert.SkipIdeal.nD Cert.SkipIdeal.τ).loc Cert.SkipIdeal.main_arg2) = m ((c.tc : Thread Cert.SkipIdeal.nD Cert.SkipIdeal.τ).loc Cert.SkipIdeal.main_arg2)
          ∧ r.2.mem ((c.tc : Thread Cert.SkipIdeal.nD Cert.SkipIdeal.τ).loc Cert.SkipIdeal.main_arg3) = m ((c.tc : Thread Cert.SkipIdeal.nD Cert.SkipIdeal.τ).loc Cert.SkipIdeal.main_arg3))
      ∧ θ_run (Cert.SkipRefIdeal.defs (F := Ideal)) (onTc (τ := Cert.SkipRefIdeal.τ) (Cert.SkipRefIdeal.main (F := Ideal))) ⟨m', fun _ => 0, g'⟩ (fun r => ∀ c : Dev Cert.SkipRefIdeal.nD,
          r.2.mem ((c.tc : Thread Cert.SkipRefIdeal.nD Cert.SkipRefIdeal.τ).loc Cert.SkipRefIdeal.main_v18) = v0 c
          ∧ r.2.mem ((c.tc : Thread Cert.SkipRefIdeal.nD Cert.SkipRefIdeal.τ).loc Cert.SkipRefIdeal.main_v19) = v1 c
          ∧ r.2.mem ((c.tc : Thread Cert.SkipRefIdeal.nD Cert.SkipRefIdeal.τ).loc Cert.SkipRefIdeal.main_arg0) = m' ((c.tc : Thread Cert.SkipRefIdeal.nD Cert.SkipRefIdeal.τ).loc Cert.SkipRefIdeal.main_arg0)
          ∧ r.2.mem ((c.tc : Thread Cert.SkipRefIdeal.nD Cert.SkipRefIdeal.τ).loc Cert.SkipRefIdeal.main_arg1) = m' ((c.tc : Thread Cert.SkipRefIdeal.nD Cert.SkipRefIdeal.τ).loc Cert.SkipRefIdeal.main_arg1)
          ∧ r.2.mem ((c.tc : Thread Cert.SkipRefIdeal.nD Cert.SkipRefIdeal.τ).loc Cert.SkipRefIdeal.main_arg2) = m' ((c.tc : Thread Cert.SkipRefIdeal.nD Cert.SkipRefIdeal.τ).loc Cert.SkipRefIdeal.main_arg2)
          ∧ r.2.mem ((c.tc : Thread Cert.SkipRefIdeal.nD Cert.SkipRefIdeal.τ).loc Cert.SkipRefIdeal.main_arg3) = m' ((c.tc : Thread Cert.SkipRefIdeal.nD Cert.SkipRefIdeal.τ).loc Cert.SkipRefIdeal.main_arg3))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)
      ∧ m' ((c.tc : Thread Cert.GluBwdRefIdeal.nD Cert.GluBwdRefIdeal.τ).loc Cert.GluBwdRefIdeal.main_arg3) = m ((c.tc : Thread Cert.GluBwdIdeal.nD Cert.GluBwdIdeal.τ).loc Cert.GluBwdIdeal.main_arg3)) →
    ∃ (v0 : (c : Dev Cert.GluBwdIdeal.nD) → Buf (Elt Ideal) ((c.tc : Thread Cert.GluBwdIdeal.nD Cert.GluBwdIdeal.τ).loc Cert.GluBwdIdeal.main_v1_0)) (v1 : (c : Dev Cert.GluBwdIdeal.nD) → Buf (Elt Ideal) ((c.tc : Thread Cert.GluBwdIdeal.nD Cert.GluBwdIdeal.τ).loc Cert.GluBwdIdeal.main_v1_1)) (v2 : (c : Dev Cert.GluBwdIdeal.nD) → Buf (Elt Ideal) ((c.tc : Thread Cert.GluBwdIdeal.nD Cert.GluBwdIdeal.τ).loc Cert.GluBwdIdeal.main_v1_2)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v1_0) = v0 c
          ∧ r.2.mem ((c.tc : Thread Cert.GluBwdIdeal.nD Cert.GluBwdIdeal.τ).loc Cert.GluBwdIdeal.main_v1_1) = v1 c
          ∧ r.2.mem ((c.tc : Thread Cert.GluBwdIdeal.nD Cert.GluBwdIdeal.τ).loc Cert.GluBwdIdeal.main_v1_2) = v2 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v14) = v0 c
          ∧ r.2.mem ((c.tc : Thread Cert.GluBwdRefIdeal.nD Cert.GluBwdRefIdeal.τ).loc Cert.GluBwdRefIdeal.main_v19) = v1 c
          ∧ r.2.mem ((c.tc : Thread Cert.GluBwdRefIdeal.nD Cert.GluBwdRefIdeal.τ).loc Cert.GluBwdRefIdeal.main_v20) = v2 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2)
          ∧ r.2.mem ((c.tc : Thread Cert.GluBwdRefIdeal.nD Cert.GluBwdRefIdeal.τ).loc Cert.GluBwdRefIdeal.main_arg3) = m' ((c.tc : Thread Cert.GluBwdRefIdeal.nD Cert.GluBwdRefIdeal.τ).loc Cert.GluBwdRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v10) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)
      ∧ m' ((c.tc : Thread Cert.GluDxRefIdeal.nD Cert.GluDxRefIdeal.τ).loc Cert.GluDxRefIdeal.main_arg2) = m ((c.tc : Thread Cert.GluDxIdeal.nD Cert.GluDxIdeal.τ).loc Cert.GluDxIdeal.main_arg2)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v4) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1)
          ∧ r.2.mem ((c.tc : Thread Cert.GluDxRefIdeal.nD Cert.GluDxRefIdeal.τ).loc Cert.GluDxRefIdeal.main_arg2) = m' ((c.tc : Thread Cert.GluDxRefIdeal.nD Cert.GluDxRefIdeal.τ).loc Cert.GluDxRefIdeal.main_arg2))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v6) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_GluPre_GluPreIdeal : Prop :=
  True

def algebraic_GluPreIdeal_GluPreRefIdeal [hGluPreIdeal : Cert.GluPreIdeal.Facts] [hGluPreRefIdeal : Cert.GluPreRefIdeal.Facts] : Prop :=
  ∀ (m : (ℓ : Loc Cert.GluPreIdeal.nD Cert.GluPreIdeal.τ Cert.GluPreIdeal.sig) → Buf (Elt Ideal) ℓ) (g : Dev Cert.GluPreIdeal.nD → PrngReg)
    (m' : (ℓ : Loc Cert.GluPreRefIdeal.nD Cert.GluPreRefIdeal.τ Cert.GluPreRefIdeal.sig) → Buf (Elt Ideal) ℓ) (g' : Dev Cert.GluPreRefIdeal.nD → PrngReg), Pre_GluPreIdeal m →
    (∀ c : Dev Cert.GluPreIdeal.nD,
      m' ((c.tc : Thread Cert.GluPreRefIdeal.nD Cert.GluPreRefIdeal.τ).loc Cert.GluPreRefIdeal.main_arg0) = m ((c.tc : Thread Cert.GluPreIdeal.nD Cert.GluPreIdeal.τ).loc Cert.GluPreIdeal.main_arg0)
      ∧ m' ((c.tc : Thread Cert.GluPreRefIdeal.nD Cert.GluPreRefIdeal.τ).loc Cert.GluPreRefIdeal.main_arg1) = m ((c.tc : Thread Cert.GluPreIdeal.nD Cert.GluPreIdeal.τ).loc Cert.GluPreIdeal.main_arg1)) →
    ∃ (v0 : (c : Dev Cert.GluPreIdeal.nD) → Buf (Elt Ideal) ((c.tc : Thread Cert.GluPreIdeal.nD Cert.GluPreIdeal.τ).loc Cert.GluPreIdeal.main_v0)),
      θ_run (Cert.GluPreIdeal.defs (F := Ideal)) (onTc (τ := Cert.GluPreIdeal.τ) (Cert.GluPreIdeal.main (F := Ideal))) ⟨m, fun _ => 0, g⟩ (fun r => ∀ c : Dev Cert.GluPreIdeal.nD,
          r.2.mem ((c.tc : Thread Cert.GluPreIdeal.nD Cert.GluPreIdeal.τ).loc Cert.GluPreIdeal.main_v0) = v0 c
          ∧ r.2.mem ((c.tc : Thread Cert.GluPreIdeal.nD Cert.GluPreIdeal.τ).loc Cert.GluPreIdeal.main_arg0) = m ((c.tc : Thread Cert.GluPreIdeal.nD Cert.GluPreIdeal.τ).loc Cert.GluPreIdeal.main_arg0)
          ∧ r.2.mem ((c.tc : Thread Cert.GluPreIdeal.nD Cert.GluPreIdeal.τ).loc Cert.GluPreIdeal.main_arg1) = m ((c.tc : Thread Cert.GluPreIdeal.nD Cert.GluPreIdeal.τ).loc Cert.GluPreIdeal.main_arg1))
      ∧ θ_run (Cert.GluPreRefIdeal.defs (F := Ideal)) (onTc (τ := Cert.GluPreRefIdeal.τ) (Cert.GluPreRefIdeal.main (F := Ideal))) ⟨m', fun _ => 0, g'⟩ (fun r => ∀ c : Dev Cert.GluPreRefIdeal.nD,
          r.2.mem ((c.tc : Thread Cert.GluPreRefIdeal.nD Cert.GluPreRefIdeal.τ).loc Cert.GluPreRefIdeal.main_v1) = v0 c
          ∧ r.2.mem ((c.tc : Thread Cert.GluPreRefIdeal.nD Cert.GluPreRefIdeal.τ).loc Cert.GluPreRefIdeal.main_arg0) = m' ((c.tc : Thread Cert.GluPreRefIdeal.nD Cert.GluPreRefIdeal.τ).loc Cert.GluPreRefIdeal.main_arg0)
          ∧ r.2.mem ((c.tc : Thread Cert.GluPreRefIdeal.nD Cert.GluPreRefIdeal.τ).loc Cert.GluPreRefIdeal.main_arg1) = m' ((c.tc : Thread Cert.GluPreRefIdeal.nD Cert.GluPreRefIdeal.τ).loc Cert.GluPreRefIdeal.main_arg1))

def preserves_StateInDx_StateInDxIdeal : Prop :=
  True

def algebraic_StateInDxIdeal_StateInDxRefIdeal [hStateInDxIdeal : Cert.StateInDxIdeal.Facts] [hStateInDxRefIdeal : Cert.StateInDxRefIdeal.Facts] : Prop :=
  ∀ (m : (ℓ : Loc Cert.StateInDxIdeal.nD Cert.StateInDxIdeal.τ Cert.StateInDxIdeal.sig) → Buf (Elt Ideal) ℓ) (g : Dev Cert.StateInDxIdeal.nD → PrngReg)
    (m' : (ℓ : Loc Cert.StateInDxRefIdeal.nD Cert.StateInDxRefIdeal.τ Cert.StateInDxRefIdeal.sig) → Buf (Elt Ideal) ℓ) (g' : Dev Cert.StateInDxRefIdeal.nD → PrngReg), Pre_StateInDxIdeal m →
    (∀ c : Dev Cert.StateInDxIdeal.nD,
      m' ((c.tc : Thread Cert.StateInDxRefIdeal.nD Cert.StateInDxRefIdeal.τ).loc Cert.StateInDxRefIdeal.main_arg0) = m ((c.tc : Thread Cert.StateInDxIdeal.nD Cert.StateInDxIdeal.τ).loc Cert.StateInDxIdeal.main_arg0)
      ∧ m' ((c.tc : Thread Cert.StateInDxRefIdeal.nD Cert.StateInDxRefIdeal.τ).loc Cert.StateInDxRefIdeal.main_arg1) = m ((c.tc : Thread Cert.StateInDxIdeal.nD Cert.StateInDxIdeal.τ).loc Cert.StateInDxIdeal.main_arg1)
      ∧ m' ((c.tc : Thread Cert.StateInDxRefIdeal.nD Cert.StateInDxRefIdeal.τ).loc Cert.StateInDxRefIdeal.main_arg2) = m ((c.tc : Thread Cert.StateInDxIdeal.nD Cert.StateInDxIdeal.τ).loc Cert.StateInDxIdeal.main_arg2)) →
    ∃ (v0 : (c : Dev Cert.StateInDxIdeal.nD) → Buf (Elt Ideal) ((c.tc : Thread Cert.StateInDxIdeal.nD Cert.StateInDxIdeal.τ).loc Cert.StateInDxIdeal.main_v15)),
      θ_run (Cert.StateInDxIdeal.defs (F := Ideal)) (onTc (τ := Cert.StateInDxIdeal.τ) (Cert.StateInDxIdeal.main (F := Ideal))) ⟨m, fun _ => 0, g⟩ (fun r => ∀ c : Dev Cert.StateInDxIdeal.nD,
          r.2.mem ((c.tc : Thread Cert.StateInDxIdeal.nD Cert.StateInDxIdeal.τ).loc Cert.StateInDxIdeal.main_v15) = v0 c
          ∧ r.2.mem ((c.tc : Thread Cert.StateInDxIdeal.nD Cert.StateInDxIdeal.τ).loc Cert.StateInDxIdeal.main_arg0) = m ((c.tc : Thread Cert.StateInDxIdeal.nD Cert.StateInDxIdeal.τ).loc Cert.StateInDxIdeal.main_arg0)
          ∧ r.2.mem ((c.tc : Thread Cert.StateInDxIdeal.nD Cert.StateInDxIdeal.τ).loc Cert.StateInDxIdeal.main_arg1) = m ((c.tc : Thread Cert.StateInDxIdeal.nD Cert.StateInDxIdeal.τ).loc Cert.StateInDxIdeal.main_arg1)
          ∧ r.2.mem ((c.tc : Thread Cert.StateInDxIdeal.nD Cert.StateInDxIdeal.τ).loc Cert.StateInDxIdeal.main_arg2) = m ((c.tc : Thread Cert.StateInDxIdeal.nD Cert.StateInDxIdeal.τ).loc Cert.StateInDxIdeal.main_arg2))
      ∧ θ_run (Cert.StateInDxRefIdeal.defs (F := Ideal)) (onTc (τ := Cert.StateInDxRefIdeal.τ) (Cert.StateInDxRefIdeal.main (F := Ideal))) ⟨m', fun _ => 0, g'⟩ (fun r => ∀ c : Dev Cert.StateInDxRefIdeal.nD,
          r.2.mem ((c.tc : Thread Cert.StateInDxRefIdeal.nD Cert.StateInDxRefIdeal.τ).loc Cert.StateInDxRefIdeal.main_v11) = v0 c
          ∧ r.2.mem ((c.tc : Thread Cert.StateInDxRefIdeal.nD Cert.StateInDxRefIdeal.τ).loc Cert.StateInDxRefIdeal.main_arg0) = m' ((c.tc : Thread Cert.StateInDxRefIdeal.nD Cert.StateInDxRefIdeal.τ).loc Cert.StateInDxRefIdeal.main_arg0)
          ∧ r.2.mem ((c.tc : Thread Cert.StateInDxRefIdeal.nD Cert.StateInDxRefIdeal.τ).loc Cert.StateInDxRefIdeal.main_arg1) = m' ((c.tc : Thread Cert.StateInDxRefIdeal.nD Cert.StateInDxRefIdeal.τ).loc Cert.StateInDxRefIdeal.main_arg1)
          ∧ r.2.mem ((c.tc : Thread Cert.StateInDxRefIdeal.nD Cert.StateInDxRefIdeal.τ).loc Cert.StateInDxRefIdeal.main_arg2) = m' ((c.tc : Thread Cert.StateInDxRefIdeal.nD Cert.StateInDxRefIdeal.τ).loc Cert.StateInDxRefIdeal.main_arg2))

def preserves_StateInDxLast_StateInDxLastIdeal : Prop :=
  True

def algebraic_StateInDxLastIdeal_StateInDxLastRefIdeal [hStateInDxLastIdeal : Cert.StateInDxLastIdeal.Facts] [hStateInDxLastRefIdeal : Cert.StateInDxLastRefIdeal.Facts] : Prop :=
  ∀ (m : (ℓ : Loc Cert.StateInDxLastIdeal.nD Cert.StateInDxLastIdeal.τ Cert.StateInDxLastIdeal.sig) → Buf (Elt Ideal) ℓ) (g : Dev Cert.StateInDxLastIdeal.nD → PrngReg)
    (m' : (ℓ : Loc Cert.StateInDxLastRefIdeal.nD Cert.StateInDxLastRefIdeal.τ Cert.StateInDxLastRefIdeal.sig) → Buf (Elt Ideal) ℓ) (g' : Dev Cert.StateInDxLastRefIdeal.nD → PrngReg), Pre_StateInDxLastIdeal m →
    (∀ c : Dev Cert.StateInDxLastIdeal.nD,
      m' ((c.tc : Thread Cert.StateInDxLastRefIdeal.nD Cert.StateInDxLastRefIdeal.τ).loc Cert.StateInDxLastRefIdeal.main_arg0) = m ((c.tc : Thread Cert.StateInDxLastIdeal.nD Cert.StateInDxLastIdeal.τ).loc Cert.StateInDxLastIdeal.main_arg0)
      ∧ m' ((c.tc : Thread Cert.StateInDxLastRefIdeal.nD Cert.StateInDxLastRefIdeal.τ).loc Cert.StateInDxLastRefIdeal.main_arg1) = m ((c.tc : Thread Cert.StateInDxLastIdeal.nD Cert.StateInDxLastIdeal.τ).loc Cert.StateInDxLastIdeal.main_arg1)
      ∧ m' ((c.tc : Thread Cert.StateInDxLastRefIdeal.nD Cert.StateInDxLastRefIdeal.τ).loc Cert.StateInDxLastRefIdeal.main_arg2) = m ((c.tc : Thread Cert.StateInDxLastIdeal.nD Cert.StateInDxLastIdeal.τ).loc Cert.StateInDxLastIdeal.main_arg2)) →
    ∃ (v0 : (c : Dev Cert.StateInDxLastIdeal.nD) → Buf (Elt Ideal) ((c.tc : Thread Cert.StateInDxLastIdeal.nD Cert.StateInDxLastIdeal.τ).loc Cert.StateInDxLastIdeal.main_v15)),
      θ_run (Cert.StateInDxLastIdeal.defs (F := Ideal)) (onTc (τ := Cert.StateInDxLastIdeal.τ) (Cert.StateInDxLastIdeal.main (F := Ideal))) ⟨m, fun _ => 0, g⟩ (fun r => ∀ c : Dev Cert.StateInDxLastIdeal.nD,
          r.2.mem ((c.tc : Thread Cert.StateInDxLastIdeal.nD Cert.StateInDxLastIdeal.τ).loc Cert.StateInDxLastIdeal.main_v15) = v0 c
          ∧ r.2.mem ((c.tc : Thread Cert.StateInDxLastIdeal.nD Cert.StateInDxLastIdeal.τ).loc Cert.StateInDxLastIdeal.main_arg0) = m ((c.tc : Thread Cert.StateInDxLastIdeal.nD Cert.StateInDxLastIdeal.τ).loc Cert.StateInDxLastIdeal.main_arg0)
          ∧ r.2.mem ((c.tc : Thread Cert.StateInDxLastIdeal.nD Cert.StateInDxLastIdeal.τ).loc Cert.StateInDxLastIdeal.main_arg1) = m ((c.tc : Thread Cert.StateInDxLastIdeal.nD Cert.StateInDxLastIdeal.τ).loc Cert.StateInDxLastIdeal.main_arg1)
          ∧ r.2.mem ((c.tc : Thread Cert.StateInDxLastIdeal.nD Cert.StateInDxLastIdeal.τ).loc Cert.StateInDxLastIdeal.main_arg2) = m ((c.tc : Thread Cert.StateInDxLastIdeal.nD Cert.StateInDxLastIdeal.τ).loc Cert.StateInDxLastIdeal.main_arg2))
      ∧ θ_run (Cert.StateInDxLastRefIdeal.defs (F := Ideal)) (onTc (τ := Cert.StateInDxLastRefIdeal.τ) (Cert.StateInDxLastRefIdeal.main (F := Ideal))) ⟨m', fun _ => 0, g'⟩ (fun r => ∀ c : Dev Cert.StateInDxLastRefIdeal.nD,
          r.2.mem ((c.tc : Thread Cert.StateInDxLastRefIdeal.nD Cert.StateInDxLastRefIdeal.τ).loc Cert.StateInDxLastRefIdeal.main_v12) = v0 c
          ∧ r.2.mem ((c.tc : Thread Cert.StateInDxLastRefIdeal.nD Cert.StateInDxLastRefIdeal.τ).loc Cert.StateInDxLastRefIdeal.main_arg0) = m' ((c.tc : Thread Cert.StateInDxLastRefIdeal.nD Cert.StateInDxLastRefIdeal.τ).loc Cert.StateInDxLastRefIdeal.main_arg0)
          ∧ r.2.mem ((c.tc : Thread Cert.StateInDxLastRefIdeal.nD Cert.StateInDxLastRefIdeal.τ).loc Cert.StateInDxLastRefIdeal.main_arg1) = m' ((c.tc : Thread Cert.StateInDxLastRefIdeal.nD Cert.StateInDxLastRefIdeal.τ).loc Cert.StateInDxLastRefIdeal.main_arg1)
          ∧ r.2.mem ((c.tc : Thread Cert.StateInDxLastRefIdeal.nD Cert.StateInDxLastRefIdeal.τ).loc Cert.StateInDxLastRefIdeal.main_arg2) = m' ((c.tc : Thread Cert.StateInDxLastRefIdeal.nD Cert.StateInDxLastRefIdeal.τ).loc Cert.StateInDxLastRefIdeal.main_arg2))

def preserves_StateInDw_StateInDwIdeal : Prop :=
  True

def algebraic_StateInDwIdeal_StateInDwRefIdeal [hStateInDwIdeal : Cert.StateInDwIdeal.Facts] [hStateInDwRefIdeal : Cert.StateInDwRefIdeal.Facts] : Prop :=
  ∀ (m : (ℓ : Loc Cert.StateInDwIdeal.nD Cert.StateInDwIdeal.τ Cert.StateInDwIdeal.sig) → Buf (Elt Ideal) ℓ) (g : Dev Cert.StateInDwIdeal.nD → PrngReg)
    (m' : (ℓ : Loc Cert.StateInDwRefIdeal.nD Cert.StateInDwRefIdeal.τ Cert.StateInDwRefIdeal.sig) → Buf (Elt Ideal) ℓ) (g' : Dev Cert.StateInDwRefIdeal.nD → PrngReg), Pre_StateInDwIdeal m →
    (∀ c : Dev Cert.StateInDwIdeal.nD,
      m' ((c.tc : Thread Cert.StateInDwRefIdeal.nD Cert.StateInDwRefIdeal.τ).loc Cert.StateInDwRefIdeal.main_arg0) = m ((c.tc : Thread Cert.StateInDwIdeal.nD Cert.StateInDwIdeal.τ).loc Cert.StateInDwIdeal.main_arg0)
      ∧ m' ((c.tc : Thread Cert.StateInDwRefIdeal.nD Cert.StateInDwRefIdeal.τ).loc Cert.StateInDwRefIdeal.main_arg1) = m ((c.tc : Thread Cert.StateInDwIdeal.nD Cert.StateInDwIdeal.τ).loc Cert.StateInDwIdeal.main_arg1)) →
    ∃ (v0 : (c : Dev Cert.StateInDwIdeal.nD) → Buf (Elt Ideal) ((c.tc : Thread Cert.StateInDwIdeal.nD Cert.StateInDwIdeal.τ).loc Cert.StateInDwIdeal.main_v0)),
      θ_run (Cert.StateInDwIdeal.defs (F := Ideal)) (onTc (τ := Cert.StateInDwIdeal.τ) (Cert.StateInDwIdeal.main (F := Ideal))) ⟨m, fun _ => 0, g⟩ (fun r => ∀ c : Dev Cert.StateInDwIdeal.nD,
          r.2.mem ((c.tc : Thread Cert.StateInDwIdeal.nD Cert.StateInDwIdeal.τ).loc Cert.StateInDwIdeal.main_v0) = v0 c
          ∧ r.2.mem ((c.tc : Thread Cert.StateInDwIdeal.nD Cert.StateInDwIdeal.τ).loc Cert.StateInDwIdeal.main_arg0) = m ((c.tc : Thread Cert.StateInDwIdeal.nD Cert.StateInDwIdeal.τ).loc Cert.StateInDwIdeal.main_arg0)
          ∧ r.2.mem ((c.tc : Thread Cert.StateInDwIdeal.nD Cert.StateInDwIdeal.τ).loc Cert.StateInDwIdeal.main_arg1) = m ((c.tc : Thread Cert.StateInDwIdeal.nD Cert.StateInDwIdeal.τ).loc Cert.StateInDwIdeal.main_arg1))
      ∧ θ_run (Cert.StateInDwRefIdeal.defs (F := Ideal)) (onTc (τ := Cert.StateInDwRefIdeal.τ) (Cert.StateInDwRefIdeal.main (F := Ideal))) ⟨m', fun _ => 0, g'⟩ (fun r => ∀ c : Dev Cert.StateInDwRefIdeal.nD,
          r.2.mem ((c.tc : Thread Cert.StateInDwRefIdeal.nD Cert.StateInDwRefIdeal.τ).loc Cert.StateInDwRefIdeal.main_v4) = v0 c
          ∧ r.2.mem ((c.tc : Thread Cert.StateInDwRefIdeal.nD Cert.StateInDwRefIdeal.τ).loc Cert.StateInDwRefIdeal.main_arg0) = m' ((c.tc : Thread Cert.StateInDwRefIdeal.nD Cert.StateInDwRefIdeal.τ).loc Cert.StateInDwRefIdeal.main_arg0)
          ∧ r.2.mem ((c.tc : Thread Cert.StateInDwRefIdeal.nD Cert.StateInDwRefIdeal.τ).loc Cert.StateInDwRefIdeal.main_arg1) = m' ((c.tc : Thread Cert.StateInDwRefIdeal.nD Cert.StateInDwRefIdeal.τ).loc Cert.StateInDwRefIdeal.main_arg1))

def preserves_StateIn_StateInIdeal : Prop :=
  True

def algebraic_StateInIdeal_StateInRefIdeal [hStateInIdeal : Cert.StateInIdeal.Facts] [hStateInRefIdeal : Cert.StateInRefIdeal.Facts] : Prop :=
  ∀ (m : (ℓ : Loc Cert.StateInIdeal.nD Cert.StateInIdeal.τ Cert.StateInIdeal.sig) → Buf (Elt Ideal) ℓ) (g : Dev Cert.StateInIdeal.nD → PrngReg)
    (m' : (ℓ : Loc Cert.StateInRefIdeal.nD Cert.StateInRefIdeal.τ Cert.StateInRefIdeal.sig) → Buf (Elt Ideal) ℓ) (g' : Dev Cert.StateInRefIdeal.nD → PrngReg), Pre_StateInIdeal m →
    (∀ c : Dev Cert.StateInIdeal.nD,
      m' ((c.tc : Thread Cert.StateInRefIdeal.nD Cert.StateInRefIdeal.τ).loc Cert.StateInRefIdeal.main_arg0) = m ((c.tc : Thread Cert.StateInIdeal.nD Cert.StateInIdeal.τ).loc Cert.StateInIdeal.main_arg0)
      ∧ m' ((c.tc : Thread Cert.StateInRefIdeal.nD Cert.StateInRefIdeal.τ).loc Cert.StateInRefIdeal.main_arg1) = m ((c.tc : Thread Cert.StateInIdeal.nD Cert.StateInIdeal.τ).loc Cert.StateInIdeal.main_arg1)) →
    ∃ (v0 : (c : Dev Cert.StateInIdeal.nD) → Buf (Elt Ideal) ((c.tc : Thread Cert.StateInIdeal.nD Cert.StateInIdeal.τ).loc Cert.StateInIdeal.main_v15)),
      θ_run (Cert.StateInIdeal.defs (F := Ideal)) (onTc (τ := Cert.StateInIdeal.τ) (Cert.StateInIdeal.main (F := Ideal))) ⟨m, fun _ => 0, g⟩ (fun r => ∀ c : Dev Cert.StateInIdeal.nD,
          r.2.mem ((c.tc : Thread Cert.StateInIdeal.nD Cert.StateInIdeal.τ).loc Cert.StateInIdeal.main_v15) = v0 c
          ∧ r.2.mem ((c.tc : Thread Cert.StateInIdeal.nD Cert.StateInIdeal.τ).loc Cert.StateInIdeal.main_arg0) = m ((c.tc : Thread Cert.StateInIdeal.nD Cert.StateInIdeal.τ).loc Cert.StateInIdeal.main_arg0)
          ∧ r.2.mem ((c.tc : Thread Cert.StateInIdeal.nD Cert.StateInIdeal.τ).loc Cert.StateInIdeal.main_arg1) = m ((c.tc : Thread Cert.StateInIdeal.nD Cert.StateInIdeal.τ).loc Cert.StateInIdeal.main_arg1))
      ∧ θ_run (Cert.StateInRefIdeal.defs (F := Ideal)) (onTc (τ := Cert.StateInRefIdeal.τ) (Cert.StateInRefIdeal.main (F := Ideal))) ⟨m', fun _ => 0, g'⟩ (fun r => ∀ c : Dev Cert.StateInRefIdeal.nD,
          r.2.mem ((c.tc : Thread Cert.StateInRefIdeal.nD Cert.StateInRefIdeal.τ).loc Cert.StateInRefIdeal.main_v5) = v0 c
          ∧ r.2.mem ((c.tc : Thread Cert.StateInRefIdeal.nD Cert.StateInRefIdeal.τ).loc Cert.StateInRefIdeal.main_arg0) = m' ((c.tc : Thread Cert.StateInRefIdeal.nD Cert.StateInRefIdeal.τ).loc Cert.StateInRefIdeal.main_arg0)
          ∧ r.2.mem ((c.tc : Thread Cert.StateInRefIdeal.nD Cert.StateInRefIdeal.τ).loc Cert.StateInRefIdeal.main_arg1) = m' ((c.tc : Thread Cert.StateInRefIdeal.nD Cert.StateInRefIdeal.τ).loc Cert.StateInRefIdeal.main_arg1))

def preserves_StateOutDx_StateOutDxIdeal : Prop :=
  True

def algebraic_StateOutDxIdeal_StateOutDxRefIdeal [hStateOutDxIdeal : Cert.StateOutDxIdeal.Facts] [hStateOutDxRefIdeal : Cert.StateOutDxRefIdeal.Facts] : Prop :=
  ∀ (m : (ℓ : Loc Cert.StateOutDxIdeal.nD Cert.StateOutDxIdeal.τ Cert.StateOutDxIdeal.sig) → Buf (Elt Ideal) ℓ) (g : Dev Cert.StateOutDxIdeal.nD → PrngReg)
    (m' : (ℓ : Loc Cert.StateOutDxRefIdeal.nD Cert.StateOutDxRefIdeal.τ Cert.StateOutDxRefIdeal.sig) → Buf (Elt Ideal) ℓ) (g' : Dev Cert.StateOutDxRefIdeal.nD → PrngReg), Pre_StateOutDxIdeal m →
    (∀ c : Dev Cert.StateOutDxIdeal.nD,
      m' ((c.tc : Thread Cert.StateOutDxRefIdeal.nD Cert.StateOutDxRefIdeal.τ).loc Cert.StateOutDxRefIdeal.main_arg0) = m ((c.tc : Thread Cert.StateOutDxIdeal.nD Cert.StateOutDxIdeal.τ).loc Cert.StateOutDxIdeal.main_arg0)
      ∧ m' ((c.tc : Thread Cert.StateOutDxRefIdeal.nD Cert.StateOutDxRefIdeal.τ).loc Cert.StateOutDxRefIdeal.main_arg1) = m ((c.tc : Thread Cert.StateOutDxIdeal.nD Cert.StateOutDxIdeal.τ).loc Cert.StateOutDxIdeal.main_arg1)) →
    ∃ (v0 : (c : Dev Cert.StateOutDxIdeal.nD) → Buf (Elt Ideal) ((c.tc : Thread Cert.StateOutDxIdeal.nD Cert.StateOutDxIdeal.τ).loc Cert.StateOutDxIdeal.main_v14)),
      θ_run (Cert.StateOutDxIdeal.defs (F := Ideal)) (onTc (τ := Cert.StateOutDxIdeal.τ) (Cert.StateOutDxIdeal.main (F := Ideal))) ⟨m, fun _ => 0, g⟩ (fun r => ∀ c : Dev Cert.StateOutDxIdeal.nD,
          r.2.mem ((c.tc : Thread Cert.StateOutDxIdeal.nD Cert.StateOutDxIdeal.τ).loc Cert.StateOutDxIdeal.main_v14) = v0 c
          ∧ r.2.mem ((c.tc : Thread Cert.StateOutDxIdeal.nD Cert.StateOutDxIdeal.τ).loc Cert.StateOutDxIdeal.main_arg0) = m ((c.tc : Thread Cert.StateOutDxIdeal.nD Cert.StateOutDxIdeal.τ).loc Cert.StateOutDxIdeal.main_arg0)
          ∧ r.2.mem ((c.tc : Thread Cert.StateOutDxIdeal.nD Cert.StateOutDxIdeal.τ).loc Cert.StateOutDxIdeal.main_arg1) = m ((c.tc : Thread Cert.StateOutDxIdeal.nD Cert.StateOutDxIdeal.τ).loc Cert.StateOutDxIdeal.main_arg1))
      ∧ θ_run (Cert.StateOutDxRefIdeal.defs (F := Ideal)) (onTc (τ := Cert.StateOutDxRefIdeal.τ) (Cert.StateOutDxRefIdeal.main (F := Ideal))) ⟨m', fun _ => 0, g'⟩ (fun r => ∀ c : Dev Cert.StateOutDxRefIdeal.nD,
          r.2.mem ((c.tc : Thread Cert.StateOutDxRefIdeal.nD Cert.StateOutDxRefIdeal.τ).loc Cert.StateOutDxRefIdeal.main_v10) = v0 c
          ∧ r.2.mem ((c.tc : Thread Cert.StateOutDxRefIdeal.nD Cert.StateOutDxRefIdeal.τ).loc Cert.StateOutDxRefIdeal.main_arg0) = m' ((c.tc : Thread Cert.StateOutDxRefIdeal.nD Cert.StateOutDxRefIdeal.τ).loc Cert.StateOutDxRefIdeal.main_arg0)
          ∧ r.2.mem ((c.tc : Thread Cert.StateOutDxRefIdeal.nD Cert.StateOutDxRefIdeal.τ).loc Cert.StateOutDxRefIdeal.main_arg1) = m' ((c.tc : Thread Cert.StateOutDxRefIdeal.nD Cert.StateOutDxRefIdeal.τ).loc Cert.StateOutDxRefIdeal.main_arg1))

def preserves_StateOutDw_StateOutDwIdeal : Prop :=
  True

def algebraic_StateOutDwIdeal_StateOutDwRefIdeal [hStateOutDwIdeal : Cert.StateOutDwIdeal.Facts] [hStateOutDwRefIdeal : Cert.StateOutDwRefIdeal.Facts] : Prop :=
  ∀ (m : (ℓ : Loc Cert.StateOutDwIdeal.nD Cert.StateOutDwIdeal.τ Cert.StateOutDwIdeal.sig) → Buf (Elt Ideal) ℓ) (g : Dev Cert.StateOutDwIdeal.nD → PrngReg)
    (m' : (ℓ : Loc Cert.StateOutDwRefIdeal.nD Cert.StateOutDwRefIdeal.τ Cert.StateOutDwRefIdeal.sig) → Buf (Elt Ideal) ℓ) (g' : Dev Cert.StateOutDwRefIdeal.nD → PrngReg), Pre_StateOutDwIdeal m →
    (∀ c : Dev Cert.StateOutDwIdeal.nD,
      m' ((c.tc : Thread Cert.StateOutDwRefIdeal.nD Cert.StateOutDwRefIdeal.τ).loc Cert.StateOutDwRefIdeal.main_arg0) = m ((c.tc : Thread Cert.StateOutDwIdeal.nD Cert.StateOutDwIdeal.τ).loc Cert.StateOutDwIdeal.main_arg0)
      ∧ m' ((c.tc : Thread Cert.StateOutDwRefIdeal.nD Cert.StateOutDwRefIdeal.τ).loc Cert.StateOutDwRefIdeal.main_arg1) = m ((c.tc : Thread Cert.StateOutDwIdeal.nD Cert.StateOutDwIdeal.τ).loc Cert.StateOutDwIdeal.main_arg1)) →
    ∃ (v0 : (c : Dev Cert.StateOutDwIdeal.nD) → Buf (Elt Ideal) ((c.tc : Thread Cert.StateOutDwIdeal.nD Cert.StateOutDwIdeal.τ).loc Cert.StateOutDwIdeal.main_v0)),
      θ_run (Cert.StateOutDwIdeal.defs (F := Ideal)) (onTc (τ := Cert.StateOutDwIdeal.τ) (Cert.StateOutDwIdeal.main (F := Ideal))) ⟨m, fun _ => 0, g⟩ (fun r => ∀ c : Dev Cert.StateOutDwIdeal.nD,
          r.2.mem ((c.tc : Thread Cert.StateOutDwIdeal.nD Cert.StateOutDwIdeal.τ).loc Cert.StateOutDwIdeal.main_v0) = v0 c
          ∧ r.2.mem ((c.tc : Thread Cert.StateOutDwIdeal.nD Cert.StateOutDwIdeal.τ).loc Cert.StateOutDwIdeal.main_arg0) = m ((c.tc : Thread Cert.StateOutDwIdeal.nD Cert.StateOutDwIdeal.τ).loc Cert.StateOutDwIdeal.main_arg0)
          ∧ r.2.mem ((c.tc : Thread Cert.StateOutDwIdeal.nD Cert.StateOutDwIdeal.τ).loc Cert.StateOutDwIdeal.main_arg1) = m ((c.tc : Thread Cert.StateOutDwIdeal.nD Cert.StateOutDwIdeal.τ).loc Cert.StateOutDwIdeal.main_arg1))
      ∧ θ_run (Cert.StateOutDwRefIdeal.defs (F := Ideal)) (onTc (τ := Cert.StateOutDwRefIdeal.τ) (Cert.StateOutDwRefIdeal.main (F := Ideal))) ⟨m', fun _ => 0, g'⟩ (fun r => ∀ c : Dev Cert.StateOutDwRefIdeal.nD,
          r.2.mem ((c.tc : Thread Cert.StateOutDwRefIdeal.nD Cert.StateOutDwRefIdeal.τ).loc Cert.StateOutDwRefIdeal.main_v4) = v0 c
          ∧ r.2.mem ((c.tc : Thread Cert.StateOutDwRefIdeal.nD Cert.StateOutDwRefIdeal.τ).loc Cert.StateOutDwRefIdeal.main_arg0) = m' ((c.tc : Thread Cert.StateOutDwRefIdeal.nD Cert.StateOutDwRefIdeal.τ).loc Cert.StateOutDwRefIdeal.main_arg0)
          ∧ r.2.mem ((c.tc : Thread Cert.StateOutDwRefIdeal.nD Cert.StateOutDwRefIdeal.τ).loc Cert.StateOutDwRefIdeal.main_arg1) = m' ((c.tc : Thread Cert.StateOutDwRefIdeal.nD Cert.StateOutDwRefIdeal.τ).loc Cert.StateOutDwRefIdeal.main_arg1))

def preserves_StateOut_StateOutIdeal : Prop :=
  True

def algebraic_StateOutIdeal_StateOutRefIdeal [hStateOutIdeal : Cert.StateOutIdeal.Facts] [hStateOutRefIdeal : Cert.StateOutRefIdeal.Facts] : Prop :=
  ∀ (m : (ℓ : Loc Cert.StateOutIdeal.nD Cert.StateOutIdeal.τ Cert.StateOutIdeal.sig) → Buf (Elt Ideal) ℓ) (g : Dev Cert.StateOutIdeal.nD → PrngReg)
    (m' : (ℓ : Loc Cert.StateOutRefIdeal.nD Cert.StateOutRefIdeal.τ Cert.StateOutRefIdeal.sig) → Buf (Elt Ideal) ℓ) (g' : Dev Cert.StateOutRefIdeal.nD → PrngReg), Pre_StateOutIdeal m →
    (∀ c : Dev Cert.StateOutIdeal.nD,
      m' ((c.tc : Thread Cert.StateOutRefIdeal.nD Cert.StateOutRefIdeal.τ).loc Cert.StateOutRefIdeal.main_arg0) = m ((c.tc : Thread Cert.StateOutIdeal.nD Cert.StateOutIdeal.τ).loc Cert.StateOutIdeal.main_arg0)
      ∧ m' ((c.tc : Thread Cert.StateOutRefIdeal.nD Cert.StateOutRefIdeal.τ).loc Cert.StateOutRefIdeal.main_arg1) = m ((c.tc : Thread Cert.StateOutIdeal.nD Cert.StateOutIdeal.τ).loc Cert.StateOutIdeal.main_arg1)) →
    ∃ (v0 : (c : Dev Cert.StateOutIdeal.nD) → Buf (Elt Ideal) ((c.tc : Thread Cert.StateOutIdeal.nD Cert.StateOutIdeal.τ).loc Cert.StateOutIdeal.main_v14)),
      θ_run (Cert.StateOutIdeal.defs (F := Ideal)) (onTc (τ := Cert.StateOutIdeal.τ) (Cert.StateOutIdeal.main (F := Ideal))) ⟨m, fun _ => 0, g⟩ (fun r => ∀ c : Dev Cert.StateOutIdeal.nD,
          r.2.mem ((c.tc : Thread Cert.StateOutIdeal.nD Cert.StateOutIdeal.τ).loc Cert.StateOutIdeal.main_v14) = v0 c
          ∧ r.2.mem ((c.tc : Thread Cert.StateOutIdeal.nD Cert.StateOutIdeal.τ).loc Cert.StateOutIdeal.main_arg0) = m ((c.tc : Thread Cert.StateOutIdeal.nD Cert.StateOutIdeal.τ).loc Cert.StateOutIdeal.main_arg0)
          ∧ r.2.mem ((c.tc : Thread Cert.StateOutIdeal.nD Cert.StateOutIdeal.τ).loc Cert.StateOutIdeal.main_arg1) = m ((c.tc : Thread Cert.StateOutIdeal.nD Cert.StateOutIdeal.τ).loc Cert.StateOutIdeal.main_arg1))
      ∧ θ_run (Cert.StateOutRefIdeal.defs (F := Ideal)) (onTc (τ := Cert.StateOutRefIdeal.τ) (Cert.StateOutRefIdeal.main (F := Ideal))) ⟨m', fun _ => 0, g'⟩ (fun r => ∀ c : Dev Cert.StateOutRefIdeal.nD,
          r.2.mem ((c.tc : Thread Cert.StateOutRefIdeal.nD Cert.StateOutRefIdeal.τ).loc Cert.StateOutRefIdeal.main_v3) = v0 c
          ∧ r.2.mem ((c.tc : Thread Cert.StateOutRefIdeal.nD Cert.StateOutRefIdeal.τ).loc Cert.StateOutRefIdeal.main_arg0) = m' ((c.tc : Thread Cert.StateOutRefIdeal.nD Cert.StateOutRefIdeal.τ).loc Cert.StateOutRefIdeal.main_arg0)
          ∧ r.2.mem ((c.tc : Thread Cert.StateOutRefIdeal.nD Cert.StateOutRefIdeal.τ).loc Cert.StateOutRefIdeal.main_arg1) = m' ((c.tc : Thread Cert.StateOutRefIdeal.nD Cert.StateOutRefIdeal.τ).loc Cert.StateOutRefIdeal.main_arg1))

def preserves_GateADx_GateADxIdeal : Prop :=
  True

def algebraic_GateADxIdeal_GateADxRefIdeal [hGateADxIdeal : Cert.GateADxIdeal.Facts] [hGateADxRefIdeal : Cert.GateADxRefIdeal.Facts] : Prop :=
  ∀ (m : (ℓ : Loc Cert.GateADxIdeal.nD Cert.GateADxIdeal.τ Cert.GateADxIdeal.sig) → Buf (Elt Ideal) ℓ) (g : Dev Cert.GateADxIdeal.nD → PrngReg)
    (m' : (ℓ : Loc Cert.GateADxRefIdeal.nD Cert.GateADxRefIdeal.τ Cert.GateADxRefIdeal.sig) → Buf (Elt Ideal) ℓ) (g' : Dev Cert.GateADxRefIdeal.nD → PrngReg), Pre_GateADxIdeal m →
    (∀ c : Dev Cert.GateADxIdeal.nD,
      m' ((c.tc : Thread Cert.GateADxRefIdeal.nD Cert.GateADxRefIdeal.τ).loc Cert.GateADxRefIdeal.main_arg0) = m ((c.tc : Thread Cert.GateADxIdeal.nD Cert.GateADxIdeal.τ).loc Cert.GateADxIdeal.main_arg0)
      ∧ m' ((c.tc : Thread Cert.GateADxRefIdeal.nD Cert.GateADxRefIdeal.τ).loc Cert.GateADxRefIdeal.main_arg1) = m ((c.tc : Thread Cert.GateADxIdeal.nD Cert.GateADxIdeal.τ).loc Cert.GateADxIdeal.main_arg1)
      ∧ m' ((c.tc : Thread Cert.GateADxRefIdeal.nD Cert.GateADxRefIdeal.τ).loc Cert.GateADxRefIdeal.main_arg2) = m ((c.tc : Thread Cert.GateADxIdeal.nD Cert.GateADxIdeal.τ).loc Cert.GateADxIdeal.main_arg2)
      ∧ m' ((c.tc : Thread Cert.GateADxRefIdeal.nD Cert.GateADxRefIdeal.τ).loc Cert.GateADxRefIdeal.main_arg3) = m ((c.tc : Thread Cert.GateADxIdeal.nD Cert.GateADxIdeal.τ).loc Cert.GateADxIdeal.main_arg3)) →
    ∃ (v0 : (c : Dev Cert.GateADxIdeal.nD) → Buf (Elt Ideal) ((c.tc : Thread Cert.GateADxIdeal.nD Cert.GateADxIdeal.τ).loc Cert.GateADxIdeal.main_v26)),
      θ_run (Cert.GateADxIdeal.defs (F := Ideal)) (onTc (τ := Cert.GateADxIdeal.τ) (Cert.GateADxIdeal.main (F := Ideal))) ⟨m, fun _ => 0, g⟩ (fun r => ∀ c : Dev Cert.GateADxIdeal.nD,
          r.2.mem ((c.tc : Thread Cert.GateADxIdeal.nD Cert.GateADxIdeal.τ).loc Cert.GateADxIdeal.main_v26) = v0 c
          ∧ r.2.mem ((c.tc : Thread Cert.GateADxIdeal.nD Cert.GateADxIdeal.τ).loc Cert.GateADxIdeal.main_arg0) = m ((c.tc : Thread Cert.GateADxIdeal.nD Cert.GateADxIdeal.τ).loc Cert.GateADxIdeal.main_arg0)
          ∧ r.2.mem ((c.tc : Thread Cert.GateADxIdeal.nD Cert.GateADxIdeal.τ).loc Cert.GateADxIdeal.main_arg1) = m ((c.tc : Thread Cert.GateADxIdeal.nD Cert.GateADxIdeal.τ).loc Cert.GateADxIdeal.main_arg1)
          ∧ r.2.mem ((c.tc : Thread Cert.GateADxIdeal.nD Cert.GateADxIdeal.τ).loc Cert.GateADxIdeal.main_arg2) = m ((c.tc : Thread Cert.GateADxIdeal.nD Cert.GateADxIdeal.τ).loc Cert.GateADxIdeal.main_arg2)
          ∧ r.2.mem ((c.tc : Thread Cert.GateADxIdeal.nD Cert.GateADxIdeal.τ).loc Cert.GateADxIdeal.main_arg3) = m ((c.tc : Thread Cert.GateADxIdeal.nD Cert.GateADxIdeal.τ).loc Cert.GateADxIdeal.main_arg3))
      ∧ θ_run (Cert.GateADxRefIdeal.defs (F := Ideal)) (onTc (τ := Cert.GateADxRefIdeal.τ) (Cert.GateADxRefIdeal.main (F := Ideal))) ⟨m', fun _ => 0, g'⟩ (fun r => ∀ c : Dev Cert.GateADxRefIdeal.nD,
          r.2.mem ((c.tc : Thread Cert.GateADxRefIdeal.nD Cert.GateADxRefIdeal.τ).loc Cert.GateADxRefIdeal.main_v11) = v0 c
          ∧ r.2.mem ((c.tc : Thread Cert.GateADxRefIdeal.nD Cert.GateADxRefIdeal.τ).loc Cert.GateADxRefIdeal.main_arg0) = m' ((c.tc : Thread Cert.GateADxRefIdeal.nD Cert.GateADxRefIdeal.τ).loc Cert.GateADxRefIdeal.main_arg0)
          ∧ r.2.mem ((c.tc : Thread Cert.GateADxRefIdeal.nD Cert.GateADxRefIdeal.τ).loc Cert.GateADxRefIdeal.main_arg1) = m' ((c.tc : Thread Cert.GateADxRefIdeal.nD Cert.GateADxRefIdeal.τ).loc Cert.GateADxRefIdeal.main_arg1)
          ∧ r.2.mem ((c.tc : Thread Cert.GateADxRefIdeal.nD Cert.GateADxRefIdeal.τ).loc Cert.GateADxRefIdeal.main_arg2) = m' ((c.tc : Thread Cert.GateADxRefIdeal.nD Cert.GateADxRefIdeal.τ).loc Cert.GateADxRefIdeal.main_arg2)
          ∧ r.2.mem ((c.tc : Thread Cert.GateADxRefIdeal.nD Cert.GateADxRefIdeal.τ).loc Cert.GateADxRefIdeal.main_arg3) = m' ((c.tc : Thread Cert.GateADxRefIdeal.nD Cert.GateADxRefIdeal.τ).loc Cert.GateADxRefIdeal.main_arg3))

def preserves_GateXDx_GateXDxIdeal : Prop :=
  True

def algebraic_GateXDxIdeal_GateXDxRefIdeal [hGateXDxIdeal : Cert.GateXDxIdeal.Facts] [hGateXDxRefIdeal : Cert.GateXDxRefIdeal.Facts] : Prop :=
  ∀ (m : (ℓ : Loc Cert.GateXDxIdeal.nD Cert.GateXDxIdeal.τ Cert.GateXDxIdeal.sig) → Buf (Elt Ideal) ℓ) (g : Dev Cert.GateXDxIdeal.nD → PrngReg)
    (m' : (ℓ : Loc Cert.GateXDxRefIdeal.nD Cert.GateXDxRefIdeal.τ Cert.GateXDxRefIdeal.sig) → Buf (Elt Ideal) ℓ) (g' : Dev Cert.GateXDxRefIdeal.nD → PrngReg), Pre_GateXDxIdeal m →
    (∀ c : Dev Cert.GateXDxIdeal.nD,
      m' ((c.tc : Thread Cert.GateXDxRefIdeal.nD Cert.GateXDxRefIdeal.τ).loc Cert.GateXDxRefIdeal.main_arg0) = m ((c.tc : Thread Cert.GateXDxIdeal.nD Cert.GateXDxIdeal.τ).loc Cert.GateXDxIdeal.main_arg0)
      ∧ m' ((c.tc : Thread Cert.GateXDxRefIdeal.nD Cert.GateXDxRefIdeal.τ).loc Cert.GateXDxRefIdeal.main_arg1) = m ((c.tc : Thread Cert.GateXDxIdeal.nD Cert.GateXDxIdeal.τ).loc Cert.GateXDxIdeal.main_arg1)
      ∧ m' ((c.tc : Thread Cert.GateXDxRefIdeal.nD Cert.GateXDxRefIdeal.τ).loc Cert.GateXDxRefIdeal.main_arg2) = m ((c.tc : Thread Cert.GateXDxIdeal.nD Cert.GateXDxIdeal.τ).loc Cert.GateXDxIdeal.main_arg2)
      ∧ m' ((c.tc : Thread Cert.GateXDxRefIdeal.nD Cert.GateXDxRefIdeal.τ).loc Cert.GateXDxRefIdeal.main_arg3) = m ((c.tc : Thread Cert.GateXDxIdeal.nD Cert.GateXDxIdeal.τ).loc Cert.GateXDxIdeal.main_arg3)) →
    ∃ (v0 : (c : Dev Cert.GateXDxIdeal.nD) → Buf (Elt Ideal) ((c.tc : Thread Cert.GateXDxIdeal.nD Cert.GateXDxIdeal.τ).loc Cert.GateXDxIdeal.main_v26)),
      θ_run (Cert.GateXDxIdeal.defs (F := Ideal)) (onTc (τ := Cert.GateXDxIdeal.τ) (Cert.GateXDxIdeal.main (F := Ideal))) ⟨m, fun _ => 0, g⟩ (fun r => ∀ c : Dev Cert.GateXDxIdeal.nD,
          r.2.mem ((c.tc : Thread Cert.GateXDxIdeal.nD Cert.GateXDxIdeal.τ).loc Cert.GateXDxIdeal.main_v26) = v0 c
          ∧ r.2.mem ((c.tc : Thread Cert.GateXDxIdeal.nD Cert.GateXDxIdeal.τ).loc Cert.GateXDxIdeal.main_arg0) = m ((c.tc : Thread Cert.GateXDxIdeal.nD Cert.GateXDxIdeal.τ).loc Cert.GateXDxIdeal.main_arg0)
          ∧ r.2.mem ((c.tc : Thread Cert.GateXDxIdeal.nD Cert.GateXDxIdeal.τ).loc Cert.GateXDxIdeal.main_arg1) = m ((c.tc : Thread Cert.GateXDxIdeal.nD Cert.GateXDxIdeal.τ).loc Cert.GateXDxIdeal.main_arg1)
          ∧ r.2.mem ((c.tc : Thread Cert.GateXDxIdeal.nD Cert.GateXDxIdeal.τ).loc Cert.GateXDxIdeal.main_arg2) = m ((c.tc : Thread Cert.GateXDxIdeal.nD Cert.GateXDxIdeal.τ).loc Cert.GateXDxIdeal.main_arg2)
          ∧ r.2.mem ((c.tc : Thread Cert.GateXDxIdeal.nD Cert.GateXDxIdeal.τ).loc Cert.GateXDxIdeal.main_arg3) = m ((c.tc : Thread Cert.GateXDxIdeal.nD Cert.GateXDxIdeal.τ).loc Cert.GateXDxIdeal.main_arg3))
      ∧ θ_run (Cert.GateXDxRefIdeal.defs (F := Ideal)) (onTc (τ := Cert.GateXDxRefIdeal.τ) (Cert.GateXDxRefIdeal.main (F := Ideal))) ⟨m', fun _ => 0, g'⟩ (fun r => ∀ c : Dev Cert.GateXDxRefIdeal.nD,
          r.2.mem ((c.tc : Thread Cert.GateXDxRefIdeal.nD Cert.GateXDxRefIdeal.τ).loc Cert.GateXDxRefIdeal.main_v11) = v0 c
          ∧ r.2.mem ((c.tc : Thread Cert.GateXDxRefIdeal.nD Cert.GateXDxRefIdeal.τ).loc Cert.GateXDxRefIdeal.main_arg0) = m' ((c.tc : Thread Cert.GateXDxRefIdeal.nD Cert.GateXDxRefIdeal.τ).loc Cert.GateXDxRefIdeal.main_arg0)
          ∧ r.2.mem ((c.tc : Thread Cert.GateXDxRefIdeal.nD Cert.GateXDxRefIdeal.τ).loc Cert.GateXDxRefIdeal.main_arg1) = m' ((c.tc : Thread Cert.GateXDxRefIdeal.nD Cert.GateXDxRefIdeal.τ).loc Cert.GateXDxRefIdeal.main_arg1)
          ∧ r.2.mem ((c.tc : Thread Cert.GateXDxRefIdeal.nD Cert.GateXDxRefIdeal.τ).loc Cert.GateXDxRefIdeal.main_arg2) = m' ((c.tc : Thread Cert.GateXDxRefIdeal.nD Cert.GateXDxRefIdeal.τ).loc Cert.GateXDxRefIdeal.main_arg2)
          ∧ r.2.mem ((c.tc : Thread Cert.GateXDxRefIdeal.nD Cert.GateXDxRefIdeal.τ).loc Cert.GateXDxRefIdeal.main_arg3) = m' ((c.tc : Thread Cert.GateXDxRefIdeal.nD Cert.GateXDxRefIdeal.τ).loc Cert.GateXDxRefIdeal.main_arg3))

def preserves_GateADw_GateADwIdeal : Prop :=
  True

def algebraic_GateADwIdeal_GateADwRefIdeal [hGateADwIdeal : Cert.GateADwIdeal.Facts] [hGateADwRefIdeal : Cert.GateADwRefIdeal.Facts] : Prop :=
  ∀ (m : (ℓ : Loc Cert.GateADwIdeal.nD Cert.GateADwIdeal.τ Cert.GateADwIdeal.sig) → Buf (Elt Ideal) ℓ) (g : Dev Cert.GateADwIdeal.nD → PrngReg)
    (m' : (ℓ : Loc Cert.GateADwRefIdeal.nD Cert.GateADwRefIdeal.τ Cert.GateADwRefIdeal.sig) → Buf (Elt Ideal) ℓ) (g' : Dev Cert.GateADwRefIdeal.nD → PrngReg), Pre_GateADwIdeal m →
    (∀ c : Dev Cert.GateADwIdeal.nD,
      m' ((c.tc : Thread Cert.GateADwRefIdeal.nD Cert.GateADwRefIdeal.τ).loc Cert.GateADwRefIdeal.main_arg0) = m ((c.tc : Thread Cert.GateADwIdeal.nD Cert.GateADwIdeal.τ).loc Cert.GateADwIdeal.main_arg0)
      ∧ m' ((c.tc : Thread Cert.GateADwRefIdeal.nD Cert.GateADwRefIdeal.τ).loc Cert.GateADwRefIdeal.main_arg1) = m ((c.tc : Thread Cert.GateADwIdeal.nD Cert.GateADwIdeal.τ).loc Cert.GateADwIdeal.main_arg1)) →
    ∃ (v0 : (c : Dev Cert.GateADwIdeal.nD) → Buf (Elt Ideal) ((c.tc : Thread Cert.GateADwIdeal.nD Cert.GateADwIdeal.τ).loc Cert.GateADwIdeal.main_v0)),
      θ_run (Cert.GateADwIdeal.defs (F := Ideal)) (onTc (τ := Cert.GateADwIdeal.τ) (Cert.GateADwIdeal.main (F := Ideal))) ⟨m, fun _ => 0, g⟩ (fun r => ∀ c : Dev Cert.GateADwIdeal.nD,
          r.2.mem ((c.tc : Thread Cert.GateADwIdeal.nD Cert.GateADwIdeal.τ).loc Cert.GateADwIdeal.main_v0) = v0 c
          ∧ r.2.mem ((c.tc : Thread Cert.GateADwIdeal.nD Cert.GateADwIdeal.τ).loc Cert.GateADwIdeal.main_arg0) = m ((c.tc : Thread Cert.GateADwIdeal.nD Cert.GateADwIdeal.τ).loc Cert.GateADwIdeal.main_arg0)
          ∧ r.2.mem ((c.tc : Thread Cert.GateADwIdeal.nD Cert.GateADwIdeal.τ).loc Cert.GateADwIdeal.main_arg1) = m ((c.tc : Thread Cert.GateADwIdeal.nD Cert.GateADwIdeal.τ).loc Cert.GateADwIdeal.main_arg1))
      ∧ θ_run (Cert.GateADwRefIdeal.defs (F := Ideal)) (onTc (τ := Cert.GateADwRefIdeal.τ) (Cert.GateADwRefIdeal.main (F := Ideal))) ⟨m', fun _ => 0, g'⟩ (fun r => ∀ c : Dev Cert.GateADwRefIdeal.nD,
          r.2.mem ((c.tc : Thread Cert.GateADwRefIdeal.nD Cert.GateADwRefIdeal.τ).loc Cert.GateADwRefIdeal.main_v5) = v0 c
          ∧ r.2.mem ((c.tc : Thread Cert.GateADwRefIdeal.nD Cert.GateADwRefIdeal.τ).loc Cert.GateADwRefIdeal.main_arg0) = m' ((c.tc : Thread Cert.GateADwRefIdeal.nD Cert.GateADwRefIdeal.τ).loc Cert.GateADwRefIdeal.main_arg0)
          ∧ r.2.mem ((c.tc : Thread Cert.GateADwRefIdeal.nD Cert.GateADwRefIdeal.τ).loc Cert.GateADwRefIdeal.main_arg1) = m' ((c.tc : Thread Cert.GateADwRefIdeal.nD Cert.GateADwRefIdeal.τ).loc Cert.GateADwRefIdeal.main_arg1))

def preserves_GateIn_GateInIdeal : Prop :=
  True

def algebraic_GateInIdeal_GateInRefIdeal [hGateInIdeal : Cert.GateInIdeal.Facts] [hGateInRefIdeal : Cert.GateInRefIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.GateInRefIdeal.nD Cert.GateInRefIdeal.τ Cert.GateInRefIdeal.sig) → Buf (Elt Ideal) ℓ) (g' : Dev Cert.GateInRefIdeal.nD → PrngReg), Pre_GateInIdeal m →
    (∀ c : Dev Cert.GateInIdeal.nD,
      m' ((c.tc : Thread Cert.GateInRefIdeal.nD Cert.GateInRefIdeal.τ).loc Cert.GateInRefIdeal.main_arg0) = m ((c.tc : Thread Cert.GateInIdeal.nD Cert.GateInIdeal.τ).loc Cert.GateInIdeal.main_arg0)
      ∧ m' ((c.tc : Thread Cert.GateInRefIdeal.nD Cert.GateInRefIdeal.τ).loc Cert.GateInRefIdeal.main_arg1) = m ((c.tc : Thread Cert.GateInIdeal.nD Cert.GateInIdeal.τ).loc Cert.GateInIdeal.main_arg1)
      ∧ m' ((c.tc : Thread Cert.GateInRefIdeal.nD Cert.GateInRefIdeal.τ).loc Cert.GateInRefIdeal.main_arg2) = m ((c.tc : Thread Cert.GateInIdeal.nD Cert.GateInIdeal.τ).loc Cert.GateInIdeal.main_arg2)) →
    ∃ (v0 : (c : Dev Cert.GateInIdeal.nD) → Buf (Elt Ideal) ((c.tc : Thread Cert.GateInIdeal.nD Cert.GateInIdeal.τ).loc Cert.GateInIdeal.main_v26)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v26) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1)
          ∧ r.2.mem ((c.tc : Thread Cert.GateInIdeal.nD Cert.GateInIdeal.τ).loc Cert.GateInIdeal.main_arg2) = m ((c.tc : Thread Cert.GateInIdeal.nD Cert.GateInIdeal.τ).loc Cert.GateInIdeal.main_arg2))
      ∧ θ_run (Cert.GateInRefIdeal.defs (F := Ideal)) (onTc (τ := Cert.GateInRefIdeal.τ) (Cert.GateInRefIdeal.main (F := Ideal))) ⟨m', fun _ => 0, g'⟩ (fun r => ∀ c : Dev Cert.GateInRefIdeal.nD,
          r.2.mem ((c.tc : Thread Cert.GateInRefIdeal.nD Cert.GateInRefIdeal.τ).loc Cert.GateInRefIdeal.main_v9) = v0 c
          ∧ r.2.mem ((c.tc : Thread Cert.GateInRefIdeal.nD Cert.GateInRefIdeal.τ).loc Cert.GateInRefIdeal.main_arg0) = m' ((c.tc : Thread Cert.GateInRefIdeal.nD Cert.GateInRefIdeal.τ).loc Cert.GateInRefIdeal.main_arg0)
          ∧ r.2.mem ((c.tc : Thread Cert.GateInRefIdeal.nD Cert.GateInRefIdeal.τ).loc Cert.GateInRefIdeal.main_arg1) = m' ((c.tc : Thread Cert.GateInRefIdeal.nD Cert.GateInRefIdeal.τ).loc Cert.GateInRefIdeal.main_arg1)
          ∧ r.2.mem ((c.tc : Thread Cert.GateInRefIdeal.nD Cert.GateInRefIdeal.τ).loc Cert.GateInRefIdeal.main_arg2) = m' ((c.tc : Thread Cert.GateInRefIdeal.nD Cert.GateInRefIdeal.τ).loc Cert.GateInRefIdeal.main_arg2))

def Claim : Prop :=
  ∃ (hKernel : Cert.Kernel.Facts) (hKernelIdeal : Cert.KernelIdeal.Facts) (hReferenceIdeal : Cert.ReferenceIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hIn : Cert.In.Facts) (hInIdeal : Cert.InIdeal.Facts) (hInRefIdeal : Cert.InRefIdeal.Facts) (hGateDx : Cert.GateDx.Facts) (hGateDxIdeal : Cert.GateDxIdeal.Facts) (hGateDxRefIdeal : Cert.GateDxRefIdeal.Facts) (hUpDx : Cert.UpDx.Facts) (hUpDxIdeal : Cert.UpDxIdeal.Facts) (hUpDxRefIdeal : Cert.UpDxRefIdeal.Facts) (hGateDw : Cert.GateDw.Facts) (hGateDwIdeal : Cert.GateDwIdeal.Facts) (hGateDwRefIdeal : Cert.GateDwRefIdeal.Facts) (hFfn : Cert.Ffn.Facts) (hFfnIdeal : Cert.FfnIdeal.Facts) (hFfnRefIdeal : Cert.FfnRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hDown : Cert.Down.Facts) (hDownIdeal : Cert.DownIdeal.Facts) (hDownRefIdeal : Cert.DownRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hOut : Cert.Out.Facts) (hOutIdeal : Cert.OutIdeal.Facts) (hOutRefIdeal : Cert.OutRefIdeal.Facts) (hProjDx : Cert.ProjDx.Facts) (hProjDxIdeal : Cert.ProjDxIdeal.Facts) (hProjDxRefIdeal : Cert.ProjDxRefIdeal.Facts) (hProjDo : Cert.ProjDo.Facts) (hProjDoIdeal : Cert.ProjDoIdeal.Facts) (hProjDoRefIdeal : Cert.ProjDoRefIdeal.Facts) (hProjDw : Cert.ProjDw.Facts) (hProjDwIdeal : Cert.ProjDwIdeal.Facts) (hProjDwRefIdeal : Cert.ProjDwRefIdeal.Facts) (hProj : Cert.Proj.Facts) (hProjIdeal : Cert.ProjIdeal.Facts) (hProjRefIdeal : Cert.ProjRefIdeal.Facts) (hSwigluBwd : Cert.SwigluBwd.Facts) (hSwigluBwdIdeal : Cert.SwigluBwdIdeal.Facts) (hSwigluBwdRefIdeal : Cert.SwigluBwdRefIdeal.Facts) (hSwiglu : Cert.Swiglu.Facts) (hSwigluIdeal : Cert.SwigluIdeal.Facts) (hSwigluRefIdeal : Cert.SwigluRefIdeal.Facts) (hLruOutBwd : Cert.LruOutBwd.Facts) (hLruOutBwdIdeal : Cert.LruOutBwdIdeal.Facts) (hLruOutBwdRefIdeal : Cert.LruOutBwdRefIdeal.Facts) (hLruOut : Cert.LruOut.Facts) (hLruOutIdeal : Cert.LruOutIdeal.Facts) (hLruOutRefIdeal : Cert.LruOutRefIdeal.Facts) (hMergeBwd : Cert.MergeBwd.Facts) (hMergeBwdIdeal : Cert.MergeBwdIdeal.Facts) (hMergeBwdRefIdeal : Cert.MergeBwdRefIdeal.Facts) (hMerge : Cert.Merge.Facts) (hMergeIdeal : Cert.MergeIdeal.Facts) (hMergeRefIdeal : Cert.MergeRefIdeal.Facts) (hNormBwd : Cert.NormBwd.Facts) (hNormBwdIdeal : Cert.NormBwdIdeal.Facts) (hNormBwdRefIdeal : Cert.NormBwdRefIdeal.Facts) (hNorm : Cert.Norm.Facts) (hNormIdeal : Cert.NormIdeal.Facts) (hNormRefIdeal : Cert.NormRefIdeal.Facts) (hConvDx : Cert.ConvDx.Facts) (hConvDxIdeal : Cert.ConvDxIdeal.Facts) (hConvDxRefIdeal : Cert.ConvDxRefIdeal.Facts) (hConvDw : Cert.ConvDw.Facts) (hConvDwIdeal : Cert.ConvDwIdeal.Facts) (hConvDwRefIdeal : Cert.ConvDwRefIdeal.Facts) (hConv : Cert.Conv.Facts) (hConvIdeal : Cert.ConvIdeal.Facts) (hConvRefIdeal : Cert.ConvRefIdeal.Facts) (hSkipBwd : Cert.SkipBwd.Facts) (hSkipBwdIdeal : Cert.SkipBwdIdeal.Facts) (hSkipBwdRefIdeal : Cert.SkipBwdRefIdeal.Facts) (hSkip : Cert.Skip.Facts) (hSkipIdeal : Cert.SkipIdeal.Facts) (hSkipRefIdeal : Cert.SkipRefIdeal.Facts) (hGluBwd : Cert.GluBwd.Facts) (hGluBwdIdeal : Cert.GluBwdIdeal.Facts) (hGluBwdRefIdeal : Cert.GluBwdRefIdeal.Facts) (hGlu : Cert.Glu.Facts) (hGluIdeal : Cert.GluIdeal.Facts) (hGluRefIdeal : Cert.GluRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hGluPre : Cert.GluPre.Facts) (hGluPreIdeal : Cert.GluPreIdeal.Facts) (hGluPreRefIdeal : Cert.GluPreRefIdeal.Facts) (hStateInDx : Cert.StateInDx.Facts) (hStateInDxIdeal : Cert.StateInDxIdeal.Facts) (hStateInDxRefIdeal : Cert.StateInDxRefIdeal.Facts) (hStateInDxLast : Cert.StateInDxLast.Facts) (hStateInDxLastIdeal : Cert.StateInDxLastIdeal.Facts) (hStateInDxLastRefIdeal : Cert.StateInDxLastRefIdeal.Facts) (hStateInDw : Cert.StateInDw.Facts) (hStateInDwIdeal : Cert.StateInDwIdeal.Facts) (hStateInDwRefIdeal : Cert.StateInDwRefIdeal.Facts) (hStateIn : Cert.StateIn.Facts) (hStateInIdeal : Cert.StateInIdeal.Facts) (hStateInRefIdeal : Cert.StateInRefIdeal.Facts) (hStateOutDx : Cert.StateOutDx.Facts) (hStateOutDxIdeal : Cert.StateOutDxIdeal.Facts) (hStateOutDxRefIdeal : Cert.StateOutDxRefIdeal.Facts) (hStateOutDw : Cert.StateOutDw.Facts) (hStateOutDwIdeal : Cert.StateOutDwIdeal.Facts) (hStateOutDwRefIdeal : Cert.StateOutDwRefIdeal.Facts) (hStateOut : Cert.StateOut.Facts) (hStateOutIdeal : Cert.StateOutIdeal.Facts) (hStateOutRefIdeal : Cert.StateOutRefIdeal.Facts) (hGateADx : Cert.GateADx.Facts) (hGateADxIdeal : Cert.GateADxIdeal.Facts) (hGateADxRefIdeal : Cert.GateADxRefIdeal.Facts) (hGateXDx : Cert.GateXDx.Facts) (hGateXDxIdeal : Cert.GateXDxIdeal.Facts) (hGateXDxRefIdeal : Cert.GateXDxRefIdeal.Facts) (hGateADw : Cert.GateADw.Facts) (hGateADwIdeal : Cert.GateADwIdeal.Facts) (hGateADwRefIdeal : Cert.GateADwRefIdeal.Facts) (hGateIn : Cert.GateIn.Facts) (hGateInIdeal : Cert.GateInIdeal.Facts) (hGateInRefIdeal : Cert.GateInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_In (hIn := hIn)
    ∧ quiescent_InIdeal (hInIdeal := hInIdeal)
    ∧ quiescent_InRefIdeal (hInRefIdeal := hInRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_Ffn (hFfn := hFfn)
    ∧ quiescent_FfnIdeal (hFfnIdeal := hFfnIdeal)
    ∧ quiescent_FfnRefIdeal (hFfnRefIdeal := hFfnRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Down (hDown := hDown)
    ∧ quiescent_DownIdeal (hDownIdeal := hDownIdeal)
    ∧ quiescent_DownRefIdeal (hDownRefIdeal := hDownRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Out (hOut := hOut)
    ∧ quiescent_OutIdeal (hOutIdeal := hOutIdeal)
    ∧ quiescent_OutRefIdeal (hOutRefIdeal := hOutRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDo (hProjDo := hProjDo)
    ∧ quiescent_ProjDoIdeal (hProjDoIdeal := hProjDoIdeal)
    ∧ quiescent_ProjDoRefIdeal (hProjDoRefIdeal := hProjDoRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_Proj (hProj := hProj)
    ∧ quiescent_ProjIdeal (hProjIdeal := hProjIdeal)
    ∧ quiescent_ProjRefIdeal (hProjRefIdeal := hProjRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_LruOutBwd (hLruOutBwd := hLruOutBwd)
    ∧ quiescent_LruOutBwdIdeal (hLruOutBwdIdeal := hLruOutBwdIdeal)
    ∧ quiescent_LruOutBwdRefIdeal (hLruOutBwdRefIdeal := hLruOutBwdRefIdeal)
    ∧ quiescent_LruOut (hLruOut := hLruOut)
    ∧ quiescent_LruOutIdeal (hLruOutIdeal := hLruOutIdeal)
    ∧ quiescent_LruOutRefIdeal (hLruOutRefIdeal := hLruOutRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Norm (hNorm := hNorm)
    ∧ quiescent_NormIdeal (hNormIdeal := hNormIdeal)
    ∧ quiescent_NormRefIdeal (hNormRefIdeal := hNormRefIdeal)
    ∧ quiescent_ConvDx (hConvDx := hConvDx)
    ∧ quiescent_ConvDxIdeal (hConvDxIdeal := hConvDxIdeal)
    ∧ quiescent_ConvDxRefIdeal (hConvDxRefIdeal := hConvDxRefIdeal)
    ∧ quiescent_ConvDw (hConvDw := hConvDw)
    ∧ quiescent_ConvDwIdeal (hConvDwIdeal := hConvDwIdeal)
    ∧ quiescent_ConvDwRefIdeal (hConvDwRefIdeal := hConvDwRefIdeal)
    ∧ quiescent_Conv (hConv := hConv)
    ∧ quiescent_ConvIdeal (hConvIdeal := hConvIdeal)
    ∧ quiescent_ConvRefIdeal (hConvRefIdeal := hConvRefIdeal)
    ∧ quiescent_SkipBwd (hSkipBwd := hSkipBwd)
    ∧ quiescent_SkipBwdIdeal (hSkipBwdIdeal := hSkipBwdIdeal)
    ∧ quiescent_SkipBwdRefIdeal (hSkipBwdRefIdeal := hSkipBwdRefIdeal)
    ∧ quiescent_Skip (hSkip := hSkip)
    ∧ quiescent_SkipIdeal (hSkipIdeal := hSkipIdeal)
    ∧ quiescent_SkipRefIdeal (hSkipRefIdeal := hSkipRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_Glu (hGlu := hGlu)
    ∧ quiescent_GluIdeal (hGluIdeal := hGluIdeal)
    ∧ quiescent_GluRefIdeal (hGluRefIdeal := hGluRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_GluPre (hGluPre := hGluPre)
    ∧ quiescent_GluPreIdeal (hGluPreIdeal := hGluPreIdeal)
    ∧ quiescent_GluPreRefIdeal (hGluPreRefIdeal := hGluPreRefIdeal)
    ∧ quiescent_StateInDx (hStateInDx := hStateInDx)
    ∧ quiescent_StateInDxIdeal (hStateInDxIdeal := hStateInDxIdeal)
    ∧ quiescent_StateInDxRefIdeal (hStateInDxRefIdeal := hStateInDxRefIdeal)
    ∧ quiescent_StateInDxLast (hStateInDxLast := hStateInDxLast)
    ∧ quiescent_StateInDxLastIdeal (hStateInDxLastIdeal := hStateInDxLastIdeal)
    ∧ quiescent_StateInDxLastRefIdeal (hStateInDxLastRefIdeal := hStateInDxLastRefIdeal)
    ∧ quiescent_StateInDw (hStateInDw := hStateInDw)
    ∧ quiescent_StateInDwIdeal (hStateInDwIdeal := hStateInDwIdeal)
    ∧ quiescent_StateInDwRefIdeal (hStateInDwRefIdeal := hStateInDwRefIdeal)
    ∧ quiescent_StateIn (hStateIn := hStateIn)
    ∧ quiescent_StateInIdeal (hStateInIdeal := hStateInIdeal)
    ∧ quiescent_StateInRefIdeal (hStateInRefIdeal := hStateInRefIdeal)
    ∧ quiescent_StateOutDx (hStateOutDx := hStateOutDx)
    ∧ quiescent_StateOutDxIdeal (hStateOutDxIdeal := hStateOutDxIdeal)
    ∧ quiescent_StateOutDxRefIdeal (hStateOutDxRefIdeal := hStateOutDxRefIdeal)
    ∧ quiescent_StateOutDw (hStateOutDw := hStateOutDw)
    ∧ quiescent_StateOutDwIdeal (hStateOutDwIdeal := hStateOutDwIdeal)
    ∧ quiescent_StateOutDwRefIdeal (hStateOutDwRefIdeal := hStateOutDwRefIdeal)
    ∧ quiescent_StateOut (hStateOut := hStateOut)
    ∧ quiescent_StateOutIdeal (hStateOutIdeal := hStateOutIdeal)
    ∧ quiescent_StateOutRefIdeal (hStateOutRefIdeal := hStateOutRefIdeal)
    ∧ quiescent_GateADx (hGateADx := hGateADx)
    ∧ quiescent_GateADxIdeal (hGateADxIdeal := hGateADxIdeal)
    ∧ quiescent_GateADxRefIdeal (hGateADxRefIdeal := hGateADxRefIdeal)
    ∧ quiescent_GateXDx (hGateXDx := hGateXDx)
    ∧ quiescent_GateXDxIdeal (hGateXDxIdeal := hGateXDxIdeal)
    ∧ quiescent_GateXDxRefIdeal (hGateXDxRefIdeal := hGateXDxRefIdeal)
    ∧ quiescent_GateADw (hGateADw := hGateADw)
    ∧ quiescent_GateADwIdeal (hGateADwIdeal := hGateADwIdeal)
    ∧ quiescent_GateADwRefIdeal (hGateADwRefIdeal := hGateADwRefIdeal)
    ∧ quiescent_GateIn (hGateIn := hGateIn)
    ∧ quiescent_GateInIdeal (hGateInIdeal := hGateInIdeal)
    ∧ quiescent_GateInRefIdeal (hGateInRefIdeal := hGateInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_In_InIdeal
    ∧ algebraic_InIdeal_InRefIdeal (hInIdeal := hInIdeal) (hInRefIdeal := hInRefIdeal)
    ∧ preserves_GateDx_GateDxIdeal
    ∧ algebraic_GateDxIdeal_GateDxRefIdeal (hGateDxIdeal := hGateDxIdeal) (hGateDxRefIdeal := hGateDxRefIdeal)
    ∧ preserves_UpDx_UpDxIdeal
    ∧ algebraic_UpDxIdeal_UpDxRefIdeal (hUpDxIdeal := hUpDxIdeal) (hUpDxRefIdeal := hUpDxRefIdeal)
    ∧ preserves_GateDw_GateDwIdeal
    ∧ algebraic_GateDwIdeal_GateDwRefIdeal (hGateDwIdeal := hGateDwIdeal) (hGateDwRefIdeal := hGateDwRefIdeal)
    ∧ preserves_Ffn_FfnIdeal
    ∧ algebraic_FfnIdeal_FfnRefIdeal (hFfnIdeal := hFfnIdeal) (hFfnRefIdeal := hFfnRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Down_DownIdeal
    ∧ algebraic_DownIdeal_DownRefIdeal (hDownIdeal := hDownIdeal) (hDownRefIdeal := hDownRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Out_OutIdeal
    ∧ algebraic_OutIdeal_OutRefIdeal (hOutIdeal := hOutIdeal) (hOutRefIdeal := hOutRefIdeal)
    ∧ preserves_ProjDx_ProjDxIdeal
    ∧ algebraic_ProjDxIdeal_ProjDxRefIdeal (hProjDxIdeal := hProjDxIdeal) (hProjDxRefIdeal := hProjDxRefIdeal)
    ∧ preserves_ProjDo_ProjDoIdeal
    ∧ algebraic_ProjDoIdeal_ProjDoRefIdeal (hProjDoIdeal := hProjDoIdeal) (hProjDoRefIdeal := hProjDoRefIdeal)
    ∧ preserves_ProjDw_ProjDwIdeal
    ∧ algebraic_ProjDwIdeal_ProjDwRefIdeal (hProjDwIdeal := hProjDwIdeal) (hProjDwRefIdeal := hProjDwRefIdeal)
    ∧ preserves_Proj_ProjIdeal
    ∧ algebraic_ProjIdeal_ProjRefIdeal (hProjIdeal := hProjIdeal) (hProjRefIdeal := hProjRefIdeal)
    ∧ preserves_SwigluBwd_SwigluBwdIdeal
    ∧ algebraic_SwigluBwdIdeal_SwigluBwdRefIdeal (hSwigluBwdIdeal := hSwigluBwdIdeal) (hSwigluBwdRefIdeal := hSwigluBwdRefIdeal)
    ∧ preserves_Swiglu_SwigluIdeal
    ∧ algebraic_SwigluIdeal_SwigluRefIdeal (hSwigluIdeal := hSwigluIdeal) (hSwigluRefIdeal := hSwigluRefIdeal)
    ∧ preserves_LruOutBwd_LruOutBwdIdeal
    ∧ algebraic_LruOutBwdIdeal_LruOutBwdRefIdeal (hLruOutBwdIdeal := hLruOutBwdIdeal) (hLruOutBwdRefIdeal := hLruOutBwdRefIdeal)
    ∧ preserves_LruOut_LruOutIdeal
    ∧ algebraic_LruOutIdeal_LruOutRefIdeal (hLruOutIdeal := hLruOutIdeal) (hLruOutRefIdeal := hLruOutRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Merge_MergeIdeal
    ∧ algebraic_MergeIdeal_MergeRefIdeal (hMergeIdeal := hMergeIdeal) (hMergeRefIdeal := hMergeRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Norm_NormIdeal
    ∧ algebraic_NormIdeal_NormRefIdeal (hNormIdeal := hNormIdeal) (hNormRefIdeal := hNormRefIdeal)
    ∧ preserves_ConvDx_ConvDxIdeal
    ∧ algebraic_ConvDxIdeal_ConvDxRefIdeal (hConvDxIdeal := hConvDxIdeal) (hConvDxRefIdeal := hConvDxRefIdeal)
    ∧ preserves_ConvDw_ConvDwIdeal
    ∧ algebraic_ConvDwIdeal_ConvDwRefIdeal (hConvDwIdeal := hConvDwIdeal) (hConvDwRefIdeal := hConvDwRefIdeal)
    ∧ preserves_Conv_ConvIdeal
    ∧ algebraic_ConvIdeal_ConvRefIdeal (hConvIdeal := hConvIdeal) (hConvRefIdeal := hConvRefIdeal)
    ∧ preserves_SkipBwd_SkipBwdIdeal
    ∧ algebraic_SkipBwdIdeal_SkipBwdRefIdeal (hSkipBwdIdeal := hSkipBwdIdeal) (hSkipBwdRefIdeal := hSkipBwdRefIdeal)
    ∧ preserves_Skip_SkipIdeal
    ∧ algebraic_SkipIdeal_SkipRefIdeal (hSkipIdeal := hSkipIdeal) (hSkipRefIdeal := hSkipRefIdeal)
    ∧ preserves_GluBwd_GluBwdIdeal
    ∧ algebraic_GluBwdIdeal_GluBwdRefIdeal (hGluBwdIdeal := hGluBwdIdeal) (hGluBwdRefIdeal := hGluBwdRefIdeal)
    ∧ preserves_Glu_GluIdeal
    ∧ algebraic_GluIdeal_GluRefIdeal (hGluIdeal := hGluIdeal) (hGluRefIdeal := hGluRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_GluPre_GluPreIdeal
    ∧ algebraic_GluPreIdeal_GluPreRefIdeal (hGluPreIdeal := hGluPreIdeal) (hGluPreRefIdeal := hGluPreRefIdeal)
    ∧ preserves_StateInDx_StateInDxIdeal
    ∧ algebraic_StateInDxIdeal_StateInDxRefIdeal (hStateInDxIdeal := hStateInDxIdeal) (hStateInDxRefIdeal := hStateInDxRefIdeal)
    ∧ preserves_StateInDxLast_StateInDxLastIdeal
    ∧ algebraic_StateInDxLastIdeal_StateInDxLastRefIdeal (hStateInDxLastIdeal := hStateInDxLastIdeal) (hStateInDxLastRefIdeal := hStateInDxLastRefIdeal)
    ∧ preserves_StateInDw_StateInDwIdeal
    ∧ algebraic_StateInDwIdeal_StateInDwRefIdeal (hStateInDwIdeal := hStateInDwIdeal) (hStateInDwRefIdeal := hStateInDwRefIdeal)
    ∧ preserves_StateIn_StateInIdeal
    ∧ algebraic_StateInIdeal_StateInRefIdeal (hStateInIdeal := hStateInIdeal) (hStateInRefIdeal := hStateInRefIdeal)
    ∧ preserves_StateOutDx_StateOutDxIdeal
    ∧ algebraic_StateOutDxIdeal_StateOutDxRefIdeal (hStateOutDxIdeal := hStateOutDxIdeal) (hStateOutDxRefIdeal := hStateOutDxRefIdeal)
    ∧ preserves_StateOutDw_StateOutDwIdeal
    ∧ algebraic_StateOutDwIdeal_StateOutDwRefIdeal (hStateOutDwIdeal := hStateOutDwIdeal) (hStateOutDwRefIdeal := hStateOutDwRefIdeal)
    ∧ preserves_StateOut_StateOutIdeal
    ∧ algebraic_StateOutIdeal_StateOutRefIdeal (hStateOutIdeal := hStateOutIdeal) (hStateOutRefIdeal := hStateOutRefIdeal)
    ∧ preserves_GateADx_GateADxIdeal
    ∧ algebraic_GateADxIdeal_GateADxRefIdeal (hGateADxIdeal := hGateADxIdeal) (hGateADxRefIdeal := hGateADxRefIdeal)
    ∧ preserves_GateXDx_GateXDxIdeal
    ∧ algebraic_GateXDxIdeal_GateXDxRefIdeal (hGateXDxIdeal := hGateXDxIdeal) (hGateXDxRefIdeal := hGateXDxRefIdeal)
    ∧ preserves_GateADw_GateADwIdeal
    ∧ algebraic_GateADwIdeal_GateADwRefIdeal (hGateADwIdeal := hGateADwIdeal) (hGateADwRefIdeal := hGateADwRefIdeal)
    ∧ preserves_GateIn_GateInIdeal
    ∧ algebraic_GateInIdeal_GateInRefIdeal (hGateInIdeal := hGateInIdeal) (hGateInRefIdeal := hGateInRefIdeal)
-- ==== Pre_finite.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x512 .f32) (main_v3 : IVec S_ 1) (main_v7 : IVec S_ 1) (main_v11 : IVec S_ 1) (main_v15 : IVec S_ 1) : IVec S_ 1 :=
  let main_v16 : FVec F S4096x512 .f32 := Host.absf main_arg4
  let main_cst_6 : FVec F S_ .f32 := constant S_ .f32 0x7F800000#32
  let main_v17 : FVec F S4096x512 .f32 := broadcastInDim S4096x512 ![] bcast_S_S4096x512 main_cst_6
  let main_v18 : IVec S4096x512 1 := cmpf .olt main_v16 main_v17
  let main_c_7 : IVec S_ 1 := constantI S_ 1 1#1
  let main_v19 : IVec S_ 1 := (fun x v => Host.reduce IntOp.andi x v reducesTo_S4096x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S4096x8 .f32 := Host.absf main_arg3
  let main_cst_4 : FVec F S_ .f32 := constant S_ .f32 0x7F800000#32
  let main_v13 : FVec F S4096x8 .f32 := broadcastInDim S4096x8 ![] bcast_S_S4096x8 main_cst_4
  let main_v14 : IVec S4096x8 1 := cmpf .olt main_v12 main_v13
  let main_c_5 : IVec S_ 1 := constantI S_ 1 1#1
  let main_v15 : IVec S_ 1 := (fun x v => Host.reduce IntOp.andi x v reducesTo_S4096x8_S_d0_1 h_S_) main_v14 main_c_5
  fn_part1 (F := F) main_arg4 main_v3 main_v7 main_v11 main_v15
-- ==== Kernel.lean ====
abbrev S4096x512 : Shape := ⟨2, ![4096, 512]⟩
abbrev S4096x8 : Shape := ⟨2, ![4096, 8]⟩
abbrev S4096x8x64 : Shape := ⟨3, ![4096, 8, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S512x4096 : Shape := ⟨2, ![512, 4096]⟩
abbrev S8x4096x3 : Shape := ⟨3, ![8, 4096, 3]⟩
abbrev S8x4096x58 : Shape := ⟨3, ![8, 4096, 58]⟩
abbrev S8x4096x64 : Shape := ⟨3, ![8, 4096, 64]⟩
abbrev S8x4096x128 : Shape := ⟨3, ![8, 4096, 128]⟩
abbrev S8x128x4096 : Shape := ⟨3, ![8, 128, 4096]⟩
abbrev S8x512x128 : Shape := ⟨3, ![8, 512, 128]⟩
abbrev S8x128x512 : Shape := ⟨3, ![8, 128, 512]⟩
abbrev S8x512x64 : Shape := ⟨3, ![8, 512, 64]⟩
abbrev S8x64x512 : Shape := ⟨3, ![8, 64, 512]⟩
abbrev S8x1x512 : Shape := ⟨3, ![8, 1, 512]⟩
abbrev S128x512 : Shape := ⟨2, ![128, 512]⟩
abbrev S1x128x512 : Shape := ⟨3, ![1, 128, 512]⟩
abbrev S1x512x128 : Shape := ⟨3, ![1, 512, 128]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S1x512x64 : Shape := ⟨3, ![1, 512, 64]⟩
abbrev S512x64 : Shape := ⟨2, ![512, 64]⟩
abbrev S1x64x512 : Shape := ⟨3, ![1, 64, 512]⟩
abbrev S64x512 : Shape := ⟨2, ![64, 512]⟩
abbrev S512 : Shape := ⟨1, ![512]⟩

abbrev nBuf : Space → Nat
  | .hbm => 102
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .f32⟩
  | .hbm, ⟨5, _⟩ => ⟨S4096x8x64, .f32⟩
  | .hbm, ⟨6, _⟩ => ⟨S4096x8x64, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096, .f32⟩
  | .hbm, ⟨12, _⟩ => ⟨S8x4096x1, .f32⟩
  | .hbm, ⟨13, _⟩ => ⟨S8x4096x4096, .f32⟩
  | .hbm, ⟨14, _⟩ => ⟨S8x4096x4096, .f32⟩
  | .hbm, ⟨15, _⟩ => ⟨S8x4096, .f32⟩
  | .hbm, ⟨16, _⟩ => ⟨S8x1x4096, .f32⟩
  | .hbm, ⟨17, _⟩ => ⟨S8x4096x4096, .f32⟩
  | .hbm, ⟨18, _⟩ => ⟨S8x4096x4096, .f32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S4096x8x64, .f32⟩
  | .hbm, ⟨45, _⟩ => ⟨S8x64x4096, .f32⟩
  | .hbm, ⟨46, _⟩ => ⟨S4096x8x64, .f32⟩
  | .hbm, ⟨47, _⟩ => ⟨S4096x512, .f32⟩
  | .hbm, ⟨48, _⟩ => ⟨S512x4096, .f32⟩
  | .hbm, ⟨49, _⟩ => ⟨S8x64x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S8x1x4096, .f32⟩
  | .hbm, ⟨61, _⟩ => ⟨S8x4096, .f32⟩
  | .hbm, ⟨62, _⟩ => ⟨S8x4096, .bf16⟩
  | .hbm, ⟨63, _⟩ => ⟨S8x4096, .f32⟩
  | .hbm, ⟨64, _⟩ => ⟨S8x4096, .f32⟩
  | .hbm, ⟨65, _⟩ => ⟨S8x4096, .bf16⟩
  | .hbm, ⟨66, _⟩ => ⟨S8x4096, .f32⟩
  | .hbm, ⟨67, _⟩ => ⟨S8x4096, .f32⟩
  | .hbm, ⟨68, _⟩ => ⟨S8x4096, .f32⟩
  | .hbm, ⟨69, _⟩ => ⟨S8x4096, .bf16⟩
  | .hbm, ⟨70, _⟩ => ⟨S8x4096, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x3, .f32⟩
  | .hbm, ⟨75, _⟩ => ⟨S_, .f32⟩
  | .hbm, ⟨76, _⟩ => ⟨S8x4096x3, .f32⟩
  | .hbm, ⟨77, _⟩ => ⟨S_, .f32⟩
  | .hbm, ⟨78, _⟩ => ⟨S8x4096x58, .f32⟩
  | .hbm, ⟨79, _⟩ => ⟨S4096x8x64, .f32⟩
  | .hbm, ⟨80, _⟩ => ⟨S8x4096x64, .f32⟩
  | .hbm, ⟨81, _⟩ => ⟨S_, .f32⟩
  | .hbm, ⟨82, _⟩ => ⟨S8x4096x64, .f32⟩
  | .hbm, ⟨83, _⟩ => ⟨S8x4096x64, .f32⟩
  | .hbm, ⟨84, _⟩ => ⟨S8x4096x128, .f32⟩
  | .hbm, ⟨85, _⟩ => ⟨S8x4096x128, .bf16⟩
  | .hbm, ⟨86, _⟩ => ⟨S4096x8x64, .f32⟩
  | .hbm, ⟨87, _⟩ => ⟨S8x4096x64, .f32⟩
  | .hbm, ⟨88, _⟩ => ⟨S8x4096x3, .f32⟩
  | .hbm, ⟨89, _⟩ => ⟨S8x4096x128, .f32⟩
  | .hbm, ⟨90, _⟩ => ⟨S8x4096x128, .bf16⟩
  | .hbm, ⟨91, _⟩ => ⟨S4096x8x64, .f32⟩
  | .hbm, ⟨92, _⟩ => ⟨S8x4096x64, .f32⟩
  | .hbm, ⟨93, _⟩ => ⟨S8x4096x64, .bf16⟩
  | .hbm, ⟨94, _⟩ => ⟨S8x128x4096, .bf16⟩
  | .hbm, ⟨95, _⟩ => ⟨S8x64x4096, .bf16⟩
  | .hbm, ⟨96, _⟩ => ⟨S4096x512, .bf16⟩
  | .hbm, ⟨97, _⟩ => ⟨S4096x8x64, .bf16⟩
  | .hbm, ⟨98, _⟩ => ⟨S8x4096x64, .bf16⟩
  | .hbm, ⟨99, _⟩ => ⟨S8x64x4096, .bf16⟩
  | .hbm, ⟨100, _⟩ => ⟨S8x64x4096, .bf16⟩
  | .hbm, ⟨101, _⟩ => ⟨S8x1x4096, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x128x512, .bf16⟩
  | .local _ .vmem, ⟨5, _⟩ => ⟨S8x128x512, .bf16⟩
  | .local _ .vmem, ⟨6, _⟩ => ⟨S8x512x64, .bf16⟩
  | .local _ .vmem, ⟨7, _⟩ => ⟨S8x512x64, .bf16⟩
  | .local _ .vmem, ⟨8, _⟩ => ⟨S8x64x512, .bf16⟩
  | .local _ .vmem, ⟨9, _⟩ => ⟨S8x64x512, .bf16⟩
  | .local _ .vmem, ⟨10, _⟩ => ⟨S8x64x512, .f32⟩
  | .local _ .vmem, ⟨11, _⟩ => ⟨S8x64x512, .f32⟩
  | .local _ .vmem, ⟨12, _⟩ => ⟨S8x1x512, .f32⟩
  | .local _ .vmem, ⟨13, _⟩ => ⟨S8x1x512, .f32⟩
  | .local _ .vmem, ⟨14, _⟩ => ⟨S8x64x512, .bf16⟩
  | .local _ .vmem, ⟨15, _⟩ => ⟨S8x64x512, .bf16⟩
  | .local _ .vmem, ⟨16, _⟩ => ⟨S8x1x512, .f32⟩
  | .local _ .vmem, ⟨17, _⟩ => ⟨S8x1x512, .f32⟩
  | .local _ .vmem, ⟨18, _⟩ => ⟨S8x128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82_0 : Ref sig .tc := ⟨.hbm, 100, rfl⟩
abbrev main_v82_1 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 36], ![false, false]⟩

def k0_cond4 (i : grid0.Coords) : BitVec 1 :=
  let arg1 : BitVec 32 := BitVec.ofNat 32 (i 1).val
  let c0_i32 : BitVec 32 := 0#32
  let c1_i32 : BitVec 32 := 1#32
  let v0 : BitVec 1 := Scalar.cmpi .sge arg1 c1_i32
  let v1 : BitVec 32 := Scalar.extui v0
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c1_i32_1 : BitVec 32 := 1#32
  let v23 : BitVec 32 := Scalar.shrsi v22 c1_i32_1
  let v24 : BitVec 32 := Scalar.subi arg1 v23
  let v34 : BitVec 1 := Scalar.cmpi .eq v24 v20
  let v35 : BitVec 32 := Scalar.extui v34
  let c0_i32_6 : BitVec 32 := 0#32
  let v36 : BitVec 1 := Scalar.cmpi .ne v35 c0_i32_6
  v36

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c1_i32_1 : BitVec 32 := 1#32
  let v23 : BitVec 32 := Scalar.shrsi v22 c1_i32_1
  let v24 : BitVec 32 := Scalar.subi arg1 v23
  let c0_i32_2 : BitVec 32 := 0#32
  let c0_i32_3 : BitVec 32 := 0#32
  ![arg0.toNat, v20.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c1_i32_1 : BitVec 32 := 1#32
  let v23 : BitVec 32 := Scalar.shrsi v22 c1_i32_1
  let v24 : BitVec 32 := Scalar.subi arg1 v23
  let c0_i32_2 : BitVec 32 := 0#32
  let c0_i32_3 : BitVec 32 := 0#32
  ![arg0.toNat, v24.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c1_i32_1 : BitVec 32 := 1#32
  let v23 : BitVec 32 := Scalar.shrsi v22 c1_i32_1
  let v24 : BitVec 32 := Scalar.subi arg1 v23
  let c0_i32_2 : BitVec 32 := 0#32
  let c0_i32_3 : BitVec 32 := 0#32
  ![arg0.toNat, c0_i32_2.toNat, v24.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c1_i32_1 : BitVec 32 := 1#32
  let v23 : BitVec 32 := Scalar.shrsi v22 c1_i32_1
  let v24 : BitVec 32 := Scalar.subi arg1 v23
  let c0_i32_2 : BitVec 32 := 0#32
  let c0_i32_3 : BitVec 32 := 0#32
  ![arg0.toNat, v24.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c1_i32_1 : BitVec 32 := 1#32
  let v23 : BitVec 32 := Scalar.shrsi v22 c1_i32_1
  let v24 : BitVec 32 := Scalar.subi arg1 v23
  let c0_i32_2 : BitVec 32 := 0#32
  let c0_i32_3 : BitVec 32 := 0#32
  ![arg0.toNat, c0_i32_2.toNat, v20.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c1_i32_1 : BitVec 32 := 1#32
  let v23 : BitVec 32 := Scalar.shrsi v22 c1_i32_1
  let v24 : BitVec 32 := Scalar.subi arg1 v23
  let c0_i32_2 : BitVec 32 := 0#32
  let c0_i32_3 : BitVec 32 := 0#32
  ![arg0.toNat, c0_i32_2.toNat, v20.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c1_i32_1 : BitVec 32 := 1#32
  let v23 : BitVec 32 := Scalar.shrsi v22 c1_i32_1
  let v24 : BitVec 32 := Scalar.subi arg1 v23
  let c0_i32_2 : BitVec 32 := 0#32
  let c0_i32_3 : BitVec 32 := 0#32
  ![arg0.toNat, c0_i32_2.toNat, v20.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c1_i32_1 : BitVec 32 := 1#32
  let v23 : BitVec 32 := Scalar.shrsi v22 c1_i32_1
  let v24 : BitVec 32 := Scalar.subi arg1 v23
  let c0_i32_2 : BitVec 32 := 0#32
  let c0_i32_3 : BitVec 32 := 0#32
  ![arg0.toNat, c0_i32_2.toNat, v20.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c1_i32_1 : BitVec 32 := 1#32
  let v23 : BitVec 32 := Scalar.shrsi v22 c1_i32_1
  let v24 : BitVec 32 := Scalar.subi arg1 v23
  let c0_i32_2 : BitVec 32 := 0#32
  let c0_i32_3 : BitVec 32 := 0#32
  ![arg0.toNat, c0_i32_2.toNat, v20.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "neg_big" => some ⊥
  | _ => none
-- ==== ReferenceIdeal.lean ====
abbrev S4096x512 : Shape := ⟨2, ![4096, 512]⟩
abbrev S4096x8 : Shape := ⟨2, ![4096, 8]⟩
abbrev S4096x8x64 : Shape := ⟨3, ![4096, 8, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩
abbrev S512x4096 : Shape := ⟨2, ![512, 4096]⟩

abbrev nBuf : Space → Nat
  | .hbm => 124
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .f32⟩
  | .hbm, ⟨5, _⟩ => ⟨S4096x8x64, .f32⟩
  | .hbm, ⟨6, _⟩ => ⟨S4096x8x64, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096, .f32⟩
  | .hbm, ⟨12, _⟩ => ⟨S8x4096x1, .f32⟩
  | .hbm, ⟨13, _⟩ => ⟨S8x4096x4096, .f32⟩
  | .hbm, ⟨14, _⟩ => ⟨S8x4096x4096, .f32⟩
  | .hbm, ⟨15, _⟩ => ⟨S8x4096, .f32⟩
  | .hbm, ⟨16, _⟩ => ⟨S8x1x4096, .f32⟩
  | .hbm, ⟨17, _⟩ => ⟨S8x4096x4096, .f32⟩
  | .hbm, ⟨18, _⟩ => ⟨S8x4096x4096, .f32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .i1⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .i1⟩
  | .hbm, ⟨46, _⟩ => ⟨S_, .f32⟩
  | .hbm, ⟨47, _⟩ => ⟨S8x4096, .f32⟩
  | .hbm, ⟨48, _⟩ => ⟨S8x4096, .i1⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S_, .f32⟩
  | .hbm, ⟨54, _⟩ => ⟨S8x4096, .f32⟩
  | .hbm, ⟨55, _⟩ => ⟨S8x4096, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S8x4096x4096, .f32⟩
  | .hbm, ⟨65, _⟩ => ⟨S8x4096x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S4096x8x64, .f32⟩
  | .hbm, ⟨71, _⟩ => ⟨S8x64x4096, .f32⟩
  | .hbm, ⟨72, _⟩ => ⟨S4096x8x64, .f32⟩
  | .hbm, ⟨73, _⟩ => ⟨S4096x512, .f32⟩
  | .hbm, ⟨74, _⟩ => ⟨S4096x8x64, .f32⟩
  | .hbm, ⟨75, _⟩ => ⟨S8x64x4096, .f32⟩
  | .hbm, ⟨76, _⟩ => ⟨S8x4096x4096, .f32⟩
  | .hbm, ⟨77, _⟩ => ⟨S8x64x4096, .f32⟩
  | .hbm, ⟨78, _⟩ => ⟨S4096x8x64, .f32⟩
  | .hbm, ⟨79, _⟩ => ⟨S4096x512, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x1, .f32⟩
  | .hbm, ⟨86, _⟩ => ⟨S8x4096x1, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096, .f32⟩
  | .hbm, ⟨91, _⟩ => ⟨S8x4096x4096, .f32⟩
  | .hbm, ⟨92, _⟩ => ⟨S8x4096x4096, .f32⟩
  | .hbm, ⟨93, _⟩ => ⟨S8x4096x4096, .f32⟩
  | .hbm, ⟨94, _⟩ => ⟨S_, .f32⟩
  | .hbm, ⟨95, _⟩ => ⟨S8x4096x4096, .f32⟩
  | .hbm, ⟨96, _⟩ => ⟨S8x4096x4096, .f32⟩
  | .hbm, ⟨97, _⟩ => ⟨S8x4096x4096, .f32⟩
  | .hbm, ⟨98, _⟩ => ⟨S_, .f32⟩
  | .hbm, ⟨99, _⟩ => ⟨S8x4096, .f32⟩
  | .hbm, ⟨100, _⟩ => ⟨S8x1x4096, .f32⟩
  | .hbm, ⟨101, _⟩ => ⟨S_, .f32⟩
  | .hbm, ⟨102, _⟩ => ⟨S8x4096, .f32⟩
  | .hbm, ⟨103, _⟩ => ⟨S4096x8, .f32⟩
  | .hbm, ⟨104, _⟩ => ⟨S_, .f32⟩
  | .hbm, ⟨105, _⟩ => ⟨S8x4096, .f32⟩
  | .hbm, ⟨106, _⟩ => ⟨S8x4096x1, .f32⟩
  | .hbm, ⟨107, _⟩ => ⟨S_, .f32⟩
  | .hbm, ⟨108, _⟩ => ⟨S8x4096, .f32⟩
  | .hbm, ⟨109, _⟩ => ⟨S4096x8, .f32⟩
  | .hbm, ⟨110, _⟩ => ⟨S_, .f32⟩
  | .hbm, ⟨111, _⟩ => ⟨S8x4096x4096, .f32⟩
  | .hbm, ⟨112, _⟩ => ⟨S8x4096x4096, .f32⟩
  | .hbm, ⟨113, _⟩ => ⟨S8x4096x64, .f32⟩
  | .hbm, ⟨114, _⟩ => ⟨S4096x8x64, .f32⟩
  | .hbm, ⟨115, _⟩ => ⟨S8x4096x64, .f32⟩
  | .hbm, ⟨116, _⟩ => ⟨S4096x8x64, .f32⟩
  | .hbm, ⟨117, _⟩ => ⟨S4096x512, .f32⟩
  | .hbm, ⟨118, _⟩ => ⟨S4096x512, .f32⟩
  | .hbm, ⟨119, _⟩ => ⟨S512x4096, .f32⟩
  | .hbm, ⟨120, _⟩ => ⟨S8x64x4096, .f32⟩
  | .hbm, ⟨121, _⟩ => ⟨S8x64x4096, .bf16⟩
  | .hbm, ⟨122, _⟩ => ⟨S8x4096, .f32⟩
  | .hbm, ⟨123, _⟩ => ⟨S8x1x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== InDx.lean ====
abbrev S4096x3072 : Shape := ⟨2, ![4096, 3072]⟩
abbrev S4096x128 : Shape := ⟨2, ![4096, 128]⟩
abbrev S1024x6152 : Shape := ⟨2, ![1024, 6152]⟩
abbrev S4096x1024 : Shape := ⟨2, ![4096, 1024]⟩
abbrev S4096x6272 : Shape := ⟨2, ![4096, 6272]⟩
abbrev S1024x3072 : Shape := ⟨2, ![1024, 3072]⟩
abbrev S1024x8 : Shape := ⟨2, ![1024, 8]⟩
abbrev S_ : Shape := ⟨0, ![]⟩
abbrev S1024x120 : Shape := ⟨2, ![1024, 120]⟩
abbrev S1024x6272 : Shape := ⟨2, ![1024, 6272]⟩
abbrev S512x6272 : Shape := ⟨2, ![512, 6272]⟩
abbrev S256x6272 : Shape := ⟨2, ![256, 6272]⟩
abbrev S512x256 : Shape := ⟨2, ![512, 256]⟩

abbrev nBuf : Space → Nat
  | .hbm => 13
  | .vmem => 8
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S4096x128, .bf16⟩
  | .hbm, ⟨3, _⟩ => ⟨S1024x6152, .f32⟩
  | .hbm, ⟨4, _⟩ => ⟨S4096x1024, .f32⟩
  | .hbm, ⟨5, _⟩ => ⟨S4096x6272, .bf16⟩
  | .hbm, ⟨6, _⟩ => ⟨S1024x3072, .f32⟩
  | .hbm, ⟨7, _⟩ => ⟨S1024x3072, .f32⟩
  | .hbm, ⟨8, _⟩ => ⟨S1024x8, .f32⟩
  | .hbm, ⟨9, _⟩ => ⟨S_, .f32⟩
  | .hbm, ⟨10, _⟩ => ⟨S1024x120, .f32⟩
  | .hbm, ⟨11, _⟩ => ⟨S1024x6272, .f32⟩
  | .hbm, ⟨12, _⟩ => ⟨S4096x1024, .f32⟩
  | .local _ .vmem, ⟨0, _⟩ => ⟨S512x6272, .bf16⟩
  | .local _ .vmem, ⟨1, _⟩ => ⟨S512x6272, .bf16⟩
  | .local _ .vmem, ⟨2, _⟩ => ⟨S256x6272, .f32⟩
  | .local _ .vmem, ⟨3, _⟩ => ⟨S256x6272, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x6272 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxRefIdeal.lean ====
abbrev S4096x3072 : Shape := ⟨2, ![4096, 3072]⟩
abbrev S4096x128 : Shape := ⟨2, ![4096, 128]⟩
abbrev S1024x6152 : Shape := ⟨2, ![1024, 6152]⟩
abbrev S4096x1024 : Shape := ⟨2, ![4096, 1024]⟩
abbrev S4096x8 : Shape := ⟨2, ![4096, 8]⟩
abbrev S4096x6152 : Shape := ⟨2, ![4096, 6152]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S4096x128, .bf16⟩
  | .hbm, ⟨3, _⟩ => ⟨S1024x6152, .f32⟩
  | .hbm, ⟨4, _⟩ => ⟨S4096x1024, .f32⟩
  | .hbm, ⟨5, _⟩ => ⟨S4096x8, .bf16⟩
  | .hbm, ⟨6, _⟩ => ⟨S4096x6152, .bf16⟩
  | .hbm, ⟨7, _⟩ => ⟨S_, .f32⟩
  | .hbm, ⟨8, _⟩ => ⟨S4096x1024, .f32⟩
  | .hbm, ⟨9, _⟩ => ⟨S4096x6152, .f32⟩
  | .hbm, ⟨10, _⟩ => ⟨S4096x6152, .f32⟩
  | .hbm, ⟨11, _⟩ => ⟨S4096x1024, .f32⟩
  | .hbm, ⟨12, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== InDw.lean ====
abbrev S4096x1024 : Shape := ⟨2, ![4096, 1024]⟩
abbrev S4096x6272 : Shape := ⟨2, ![4096, 6272]⟩
abbrev S1024x6272 : Shape := ⟨2, ![1024, 6272]⟩
abbrev S4096x512 : Shape := ⟨2, ![4096, 512]⟩
abbrev S4096x896 : Shape := ⟨2, ![4096, 896]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x6272, .bf16⟩
  | .hbm, ⟨2, _⟩ => ⟨S1024x6272, .bf16⟩
  | .local _ .vmem, ⟨0, _⟩ => ⟨S4096x512, .bf16⟩
  | .local _ .vmem, ⟨1, _⟩ => ⟨S4096x512, .bf16⟩
  | .local _ .vmem, ⟨2, _⟩ => ⟨S4096x896, .bf16⟩
  | .local _ .vmem, ⟨3, _⟩ => ⟨S4096x896, .bf16⟩
  | .local _ .vmem, ⟨4, _⟩ => ⟨S512x896, .bf16⟩
  | .local _ .vmem, ⟨5, _⟩ => ⟨S512x896, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S4096x6272 : Shape := ⟨2, ![4096, 6272]⟩
abbrev S_ : Shape := ⟨0, ![]⟩
abbrev S1024x6272 : Shape := ⟨2, ![1024, 6272]⟩
abbrev S6272x1024 : Shape := ⟨2, ![6272, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6272, .bf16⟩
  | .hbm, ⟨2, _⟩ => ⟨S_, .f32⟩
  | .hbm, ⟨3, _⟩ => ⟨S1024x6272, .f32⟩
  | .hbm, ⟨4, _⟩ => ⟨S4096x1024, .f32⟩
  | .hbm, ⟨5, _⟩ => ⟨S4096x6272, .f32⟩
  | .hbm, ⟨6, _⟩ => ⟨S4096x6272, .f32⟩
  | .hbm, ⟨7, _⟩ => ⟨S6272x1024, .f32⟩
  | .hbm, ⟨8, _⟩ => ⟨S1024x6272, .f32⟩
  | .hbm, ⟨9, _⟩ => ⟨S1024x6272, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S4096x1024 : Shape := ⟨2, ![4096, 1024]⟩
abbrev S1024x6152 : Shape := ⟨2, ![1024, 6152]⟩
abbrev S1024x3072 : Shape := ⟨2, ![1024, 3072]⟩
abbrev S1024x8 : Shape := ⟨2, ![1024, 8]⟩
abbrev S_ : Shape := ⟨0, ![]⟩
abbrev S1024x120 : Shape := ⟨2, ![1024, 120]⟩
abbrev S1024x6272 : Shape := ⟨2, ![1024, 6272]⟩
abbrev S4096x6272 : Shape := ⟨2, ![4096, 6272]⟩
abbrev S1024x1024 : Shape := ⟨2, ![1024, 1024]⟩
abbrev S1024x896 : Shape := ⟨2, ![1024, 896]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6152, .f32⟩
  | .hbm, ⟨2, _⟩ => ⟨S1024x3072, .f32⟩
  | .hbm, ⟨3, _⟩ => ⟨S1024x3072, .f32⟩
  | .hbm, ⟨4, _⟩ => ⟨S1024x8, .f32⟩
  | .hbm, ⟨5, _⟩ => ⟨S_, .f32⟩
  | .hbm, ⟨6, _⟩ => ⟨S1024x120, .f32⟩
  | .hbm, ⟨7, _⟩ => ⟨S1024x6272, .f32⟩
  | .hbm, ⟨8, _⟩ => ⟨S4096x6272, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .f32⟩
  | .local _ .vmem, ⟨3, _⟩ => ⟨S1024x896, .f32⟩
  | .local _ .vmem, ⟨4, _⟩ => ⟨S1024x896, .f32⟩
  | .local _ .vmem, ⟨5, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x1024 : Shape := ⟨2, ![4096, 1024]⟩
abbrev S1024x6152 : Shape := ⟨2, ![1024, 6152]⟩
abbrev S4096x6152 : Shape := ⟨2, ![4096, 6152]⟩
abbrev S4096x3072 : Shape := ⟨2, ![4096, 3072]⟩
abbrev S4096x8 : Shape := ⟨2, ![4096, 8]⟩
abbrev S_ : Shape := ⟨0, ![]⟩
abbrev S4096x120 : Shape := ⟨2, ![4096, 120]⟩
abbrev S4096x6272 : Shape := ⟨2, ![4096, 6272]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6152, .f32⟩
  | .hbm, ⟨2, _⟩ => ⟨S4096x1024, .f32⟩
  | .hbm, ⟨3, _⟩ => ⟨S4096x6152, .f32⟩
  | .hbm, ⟨4, _⟩ => ⟨S4096x3072, .f32⟩
  | .hbm, ⟨5, _⟩ => ⟨S4096x3072, .f32⟩
  | .hbm, ⟨6, _⟩ => ⟨S4096x8, .f32⟩
  | .hbm, ⟨7, _⟩ => ⟨S_, .f32⟩
  | .hbm, ⟨8, _⟩ => ⟨S4096x120, .f32⟩
  | .hbm, ⟨9, _⟩ => ⟨S4096x6272, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateDx.lean ====
abbrev S4096x2816 : Shape := ⟨2, ![4096, 2816]⟩
abbrev S1024x2816 : Shape := ⟨2, ![1024, 2816]⟩
abbrev S4096x1024 : Shape := ⟨2, ![4096, 1024]⟩
abbrev S1024x5632 : Shape := ⟨2, ![1024, 5632]⟩
abbrev S512x2816 : Shape := ⟨2, ![512, 2816]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S1024x5632, .f32⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .f32⟩
  | .local _ .vmem, ⟨3, _⟩ => ⟨S512x2816, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateDxRefIdeal.lean ====
abbrev S4096x2816 : Shape := ⟨2, ![4096, 2816]⟩
abbrev S1024x2816 : Shape := ⟨2, ![1024, 2816]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== UpDx.lean ====
abbrev S4096x2816 : Shape := ⟨2, ![4096, 2816]⟩
abbrev S1024x2816 : Shape := ⟨2, ![1024, 2816]⟩
abbrev S4096x1024 : Shape := ⟨2, ![4096, 1024]⟩
abbrev S1024x5632 : Shape := ⟨2, ![1024, 5632]⟩
abbrev S512x2816 : Shape := ⟨2, ![512, 2816]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S1024x5632, .f32⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .f32⟩
  | .local _ .vmem, ⟨3, _⟩ => ⟨S512x2816, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S4096x2816 : Shape := ⟨2, ![4096, 2816]⟩
abbrev S1024x2816 : Shape := ⟨2, ![1024, 2816]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== GateDw.lean ====
abbrev S4096x1024 : Shape := ⟨2, ![4096, 1024]⟩
abbrev S4096x2816 : Shape := ⟨2, ![4096, 2816]⟩
abbrev S1024x2816 : Shape := ⟨2, ![1024, 2816]⟩
abbrev S4096x256 : Shape := ⟨2, ![4096, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ffn.lean ====
abbrev S4096x1024 : Shape := ⟨2, ![4096, 1024]⟩
abbrev S1024x2816 : Shape := ⟨2, ![1024, 2816]⟩
abbrev S1024x5632 : Shape := ⟨2, ![1024, 5632]⟩
abbrev S4096x5632 : Shape := ⟨2, ![4096, 5632]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S1024x5632, .f32⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnRefIdeal.lean ====
abbrev S4096x1024 : Shape := ⟨2, ![4096, 1024]⟩
abbrev S1024x2816 : Shape := ⟨2, ![1024, 2816]⟩
abbrev S4096x2816 : Shape := ⟨2, ![4096, 2816]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | .local _ .vmem, ⟨4, _⟩ => ⟨S1024x256, .f32⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x1024, .f32⟩
  | .hbm, ⟨6, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .f32⟩
  | .local _ .vmem, ⟨3, _⟩ => ⟨S2816x512, .f32⟩
  | .local _ .vmem, ⟨4, _⟩ => ⟨S1024x512, .f32⟩
  | .local _ .vmem, ⟨5, _⟩ => ⟨S1024x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x2816, .f32⟩
  | .hbm, ⟨3, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjDx.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .f32⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDo.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .f32⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDoRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDw.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x1024, .bf16⟩
  | .local _ .vmem, ⟨2, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S1024x1024, .f32⟩
  | .local _ .vmem, ⟨4, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .f32⟩
  | .hbm, ⟨3, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SwigluBwd.lean ====
abbrev S4096x5632 : Shape := ⟨2, ![4096, 5632]⟩
abbrev S4096x2816 : Shape := ⟨2, ![4096, 2816]⟩
abbrev S128x2816 : Shape := ⟨2, ![128, 2816]⟩

abbrev nBuf : Space → Nat
  | .hbm => 4
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .bf16⟩
  | .hbm, ⟨3, _⟩ => ⟨S4096x2816, .bf16⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .bf16⟩
  | .local _ .vmem, ⟨7, _⟩ => ⟨S128x2816, .bf16⟩
  | .local _ .vmem, ⟨8, _⟩ => ⟨S128x2816, .bf16⟩
  | .local _ .vmem, ⟨9, _⟩ => ⟨S128x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluBwdRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .bf16⟩
  | .hbm, ⟨25, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Swiglu.lean ====
abbrev S4096x5632 : Shape := ⟨2, ![4096, 5632]⟩
abbrev S4096x2816 : Shape := ⟨2, ![4096, 2816]⟩
abbrev S128x2816 : Shape := ⟨2, ![128, 2816]⟩

abbrev nBuf : Space → Nat
  | .hbm => 2
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .bf16⟩
  | .local _ .vmem, ⟨5, _⟩ => ⟨S128x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== LruOutBwd.lean ====
abbrev S4096x6272 : Shape := ⟨2, ![4096, 6272]⟩
abbrev S4096x512 : Shape := ⟨2, ![4096, 512]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x6272, .f32⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LruOutBwdRefIdeal.lean ====
abbrev S4096x6272 : Shape := ⟨2, ![4096, 6272]⟩
abbrev S4096x512 : Shape := ⟨2, ![4096, 512]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .bf16⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== LruOut.lean ====
abbrev S4096x6272 : Shape := ⟨2, ![4096, 6272]⟩
abbrev S4096x512 : Shape := ⟨2, ![4096, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x6272, .f32⟩
  | .hbm, ⟨1, _⟩ => ⟨S4096x512, .f32⟩
  | .hbm, ⟨2, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LruOutRefIdeal.lean ====
abbrev S4096x6272 : Shape := ⟨2, ![4096, 6272]⟩
abbrev S4096x512 : Shape := ⟨2, ![4096, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .bf16⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MergeBwd.lean ====
abbrev S4096x1024 : Shape := ⟨2, ![4096, 1024]⟩
abbrev S4096x6272 : Shape := ⟨2, ![4096, 6272]⟩
abbrev S3072 : Shape := ⟨1, ![3072]⟩
abbrev S1024 : Shape := ⟨1, ![1024]⟩
abbrev S1x1024 : Shape := ⟨2, ![1, 1024]⟩
abbrev S128x1024 : Shape := ⟨2, ![128, 1024]⟩

abbrev nBuf : Space → Nat
  | .hbm => 21
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x6272, .f32⟩
  | .hbm, ⟨4, _⟩ => ⟨S3072, .f32⟩
  | .hbm, ⟨5, _⟩ => ⟨S4096x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S128x1024, .bf16⟩
  | .local _ .vmem, ⟨28, _⟩ => ⟨S128x1024, .bf16⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v6_6 : Ref sig .tc := ⟨.hbm, 18, rfl⟩
abbrev main_v6_7 : Ref sig .tc := ⟨.hbm, 19, rfl⟩
abbrev main_v6_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MergeBwdRefIdeal.lean ====
abbrev S4096x1024 : Shape := ⟨2, ![4096, 1024]⟩
abbrev S4096x6272 : Shape := ⟨2, ![4096, 6272]⟩
abbrev S3072 : Shape := ⟨1, ![3072]⟩
abbrev S4096x3072 : Shape := ⟨2, ![4096, 3072]⟩
abbrev S1x3072 : Shape := ⟨2, ![1, 3072]⟩
abbrev S_ : Shape := ⟨0, ![]⟩
abbrev S4096x3x1024 : Shape := ⟨3, ![4096, 3, 1024]⟩
abbrev S4096x1x1024 : Shape := ⟨3, ![4096, 1, 1024]⟩
abbrev S1024 : Shape := ⟨1, ![1024]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x6272, .f32⟩
  | .hbm, ⟨4, _⟩ => ⟨S3072, .f32⟩
  | .hbm, ⟨5, _⟩ => ⟨S4096x1024, .f32⟩
  | .hbm, ⟨6, _⟩ => ⟨S4096x3072, .f32⟩
  | .hbm, ⟨7, _⟩ => ⟨S1x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S4096x3x1024, .f32⟩
  | .hbm, ⟨23, _⟩ => ⟨S4096x1x1024, .f32⟩
  | .hbm, ⟨24, _⟩ => ⟨S4096x1x1024, .f32⟩
  | .hbm, ⟨25, _⟩ => ⟨S4096x1x1024, .f32⟩
  | .hbm, ⟨26, _⟩ => ⟨S4096x3x1024, .f32⟩
  | .hbm, ⟨27, _⟩ => ⟨S4096x3x1024, .f32⟩
  | .hbm, ⟨28, _⟩ => ⟨S_, .f32⟩
  | .hbm, ⟨29, _⟩ => ⟨S4096x1024, .f32⟩
  | .hbm, ⟨30, _⟩ => ⟨S4096x3x1024, .f32⟩
  | .hbm, ⟨31, _⟩ => ⟨S4096x3x1024, .f32⟩
  | .hbm, ⟨32, _⟩ => ⟨S4096x3x1024, .f32⟩
  | .hbm, ⟨33, _⟩ => ⟨S4096x1x1024, .f32⟩
  | .hbm, ⟨34, _⟩ => ⟨S4096x1024, .f32⟩
  | .hbm, ⟨35, _⟩ => ⟨S4096x1x1024, .f32⟩
  | .hbm, ⟨36, _⟩ => ⟨S4096x1024, .f32⟩
  | .hbm, ⟨37, _⟩ => ⟨S4096x1x1024, .f32⟩
  | .hbm, ⟨38, _⟩ => ⟨S4096x1024, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S3072, .f32⟩
  | .hbm, ⟨43, _⟩ => ⟨S1x3072, .f32⟩
  | .hbm, ⟨44, _⟩ => ⟨S_, .f32⟩
  | .hbm, ⟨45, _⟩ => ⟨S3072, .f32⟩
  | .hbm, ⟨46, _⟩ => ⟨S4096x3x1024, .f32⟩
  | .hbm, ⟨47, _⟩ => ⟨S4096x1x1024, .f32⟩
  | .hbm, ⟨48, _⟩ => ⟨S4096x1024, .f32⟩
  | .hbm, ⟨49, _⟩ => ⟨S4096x1x1024, .f32⟩
  | .hbm, ⟨50, _⟩ => ⟨S4096x1024, .f32⟩
  | .hbm, ⟨51, _⟩ => ⟨S4096x1x1024, .f32⟩
  | .hbm, ⟨52, _⟩ => ⟨S4096x1024, .f32⟩
  | .hbm, ⟨53, _⟩ => ⟨S4096x1024, .bf16⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x1024, .bf16⟩
  | .hbm, ⟨58, _⟩ => ⟨S4096x1024, .bf16⟩
  | .hbm, ⟨59, _⟩ => ⟨S1024, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S1024, .f32⟩
  | .hbm, ⟨64, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Merge.lean ====
abbrev S4096x1024 : Shape := ⟨2, ![4096, 1024]⟩
abbrev S4096x6272 : Shape := ⟨2, ![4096, 6272]⟩
abbrev S3072 : Shape := ⟨1, ![3072]⟩
abbrev S1024 : Shape := ⟨1, ![1024]⟩
abbrev S1x1024 : Shape := ⟨2, ![1, 1024]⟩
abbrev S128x1024 : Shape := ⟨2, ![128, 1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x6272, .f32⟩
  | .hbm, ⟨4, _⟩ => ⟨S3072, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S128x1024, .bf16⟩
  | .local _ .vmem, ⟨16, _⟩ => ⟨S128x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S4096x1024 : Shape := ⟨2, ![4096, 1024]⟩
abbrev S4096x6272 : Shape := ⟨2, ![4096, 6272]⟩
abbrev S3072 : Shape := ⟨1, ![3072]⟩
abbrev S4096x3072 : Shape := ⟨2, ![4096, 3072]⟩
abbrev S1x3072 : Shape := ⟨2, ![1, 3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x6272, .f32⟩
  | .hbm, ⟨4, _⟩ => ⟨S3072, .f32⟩
  | .hbm, ⟨5, _⟩ => ⟨S4096x3072, .f32⟩
  | .hbm, ⟨6, _⟩ => ⟨S1x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S4096x3x1024, .f32⟩
  | .hbm, ⟨18, _⟩ => ⟨S4096x1x1024, .f32⟩
  | .hbm, ⟨19, _⟩ => ⟨S4096x1x1024, .f32⟩
  | .hbm, ⟨20, _⟩ => ⟨S4096x1x1024, .f32⟩
  | .hbm, ⟨21, _⟩ => ⟨S4096x3x1024, .f32⟩
  | .hbm, ⟨22, _⟩ => ⟨S4096x3x1024, .f32⟩
  | .hbm, ⟨23, _⟩ => ⟨S_, .f32⟩
  | .hbm, ⟨24, _⟩ => ⟨S4096x1024, .f32⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== NormBwd.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormBwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S4096x1024, .bf16⟩
  | .hbm, ⟨94, _⟩ => ⟨S1x1024, .f32⟩
  | .hbm, ⟨95, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Norm.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== ConvDx.lean ====
abbrev S4096x512 : Shape := ⟨2, ![4096, 512]⟩
abbrev S4x512 : Shape := ⟨2, ![4, 512]⟩
abbrev S1x512 : Shape := ⟨2, ![1, 512]⟩
abbrev S512 : Shape := ⟨1, ![512]⟩
abbrev S_ : Shape := ⟨0, ![]⟩
abbrev S4097x512 : Shape := ⟨2, ![4097, 512]⟩
abbrev S4098x512 : Shape := ⟨2, ![4098, 512]⟩
abbrev S4099x512 : Shape := ⟨2, ![4099, 512]⟩
abbrev S256x512 : Shape := ⟨2, ![256, 512]⟩

abbrev nBuf : Space → Nat
  | .hbm => 27
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4x512, .f32⟩
  | .hbm, ⟨2, _⟩ => ⟨S1x512, .f32⟩
  | .hbm, ⟨3, _⟩ => ⟨S512, .f32⟩
  | .hbm, ⟨4, _⟩ => ⟨S1x512, .f32⟩
  | .hbm, ⟨5, _⟩ => ⟨S1x512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S_, .i32⟩
  | .hbm, ⟨15, _⟩ => ⟨S_, .f32⟩
  | .hbm, ⟨16, _⟩ => ⟨S4097x512, .f32⟩
  | .hbm, ⟨17, _⟩ => ⟨S4096x512, .f32⟩
  | .hbm, ⟨18, _⟩ => ⟨S_, .i32⟩
  | .hbm, ⟨19, _⟩ => ⟨S_, .f32⟩
  | .hbm, ⟨20, _⟩ => ⟨S4098x512, .f32⟩
  | .hbm, ⟨21, _⟩ => ⟨S4096x512, .f32⟩
  | .hbm, ⟨22, _⟩ => ⟨S_, .i32⟩
  | .hbm, ⟨23, _⟩ => ⟨S_, .f32⟩
  | .hbm, ⟨24, _⟩ => ⟨S4099x512, .f32⟩
  | .hbm, ⟨25, _⟩ => ⟨S4096x512, .f32⟩
  | .hbm, ⟨26, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .bf16⟩
  | .local _ .vmem, ⟨13, _⟩ => ⟨S256x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_call2_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvDxRefIdeal.lean ====
abbrev S4096x512 : Shape := ⟨2, ![4096, 512]⟩
abbrev S4x512 : Shape := ⟨2, ![4, 512]⟩
abbrev S_ : Shape := ⟨0, ![]⟩
abbrev S512 : Shape := ⟨1, ![512]⟩
abbrev S3x512 : Shape := ⟨2, ![3, 512]⟩
abbrev S4099x512 : Shape := ⟨2, ![4099, 512]⟩
abbrev S1x512 : Shape := ⟨2, ![1, 512]⟩

abbrev nBuf : Space → Nat
  | .hbm => 68
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x512, .f32⟩
  | .hbm, ⟨2, _⟩ => ⟨S_, .f32⟩
  | .hbm, ⟨3, _⟩ => ⟨S4096x512, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S3x512, .f32⟩
  | .hbm, ⟨8, _⟩ => ⟨S4099x512, .f32⟩
  | .hbm, ⟨9, _⟩ => ⟨S_, .f32⟩
  | .hbm, ⟨10, _⟩ => ⟨S3x512, .f32⟩
  | .hbm, ⟨11, _⟩ => ⟨S1x512, .f32⟩
  | .hbm, ⟨12, _⟩ => ⟨S512, .f32⟩
  | .hbm, ⟨13, _⟩ => ⟨S4096x512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S1x512, .f32⟩
  | .hbm, ⟨28, _⟩ => ⟨S512, .f32⟩
  | .hbm, ⟨29, _⟩ => ⟨S4096x512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S1x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4099x512, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S4099x512, .f32⟩
  | .hbm, ⟨54, _⟩ => ⟨S4099x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4099x512, .f32⟩
  | .hbm, ⟨59, _⟩ => ⟨S4099x512, .f32⟩
  | .hbm, ⟨60, _⟩ => ⟨S4096x512, .f32⟩
  | .hbm, ⟨61, _⟩ => ⟨S4096x512, .f32⟩
  | .hbm, ⟨62, _⟩ => ⟨S_, .f32⟩
  | .hbm, ⟨63, _⟩ => ⟨S4099x512, .f32⟩
  | .hbm, ⟨64, _⟩ => ⟨S4099x512, .f32⟩
  | .hbm, ⟨65, _⟩ => ⟨S3x512, .f32⟩
  | .hbm, ⟨66, _⟩ => ⟨S4096x512, .f32⟩
  | .hbm, ⟨67, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_4 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_7 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩

abbrev nD : Nat := 1
abbrev τ : Topo := Topo.v7x

variable {F : FTy → Type} [FloatOps F]
-- ==== ConvDw.lean ====
abbrev S4096x6272 : Shape := ⟨2, ![4096, 6272]⟩
abbrev S4x512 : Shape := ⟨2, ![4, 512]⟩
abbrev S512 : Shape := ⟨1, ![512]⟩
abbrev S4096x512 : Shape := ⟨2, ![4096, 512]⟩
abbrev S1x512 : Shape := ⟨2, ![1, 512]⟩
abbrev S_ : Shape := ⟨0, ![]⟩
abbrev S4097x512 : Shape := ⟨2, ![4097, 512]⟩
abbrev S4098x512 : Shape := ⟨2, ![4098, 512]⟩
abbrev S4099x512 : Shape := ⟨2, ![4099, 512]⟩
abbrev S256x512 : Shape := ⟨2, ![256, 512]⟩

abbrev nBuf : Space → Nat
  | .hbm => 35
  | .vmem => 20
  | .smem => 0
  | _ => 0

abbrev bufTy : (tb : Table) → Fin (tcTables nBuf tb) → BufTy
  | .hbm, ⟨0, _⟩ => ⟨S4096x6272, .f32⟩
  | .hbm, ⟨1, _⟩ => ⟨S4x512, .f32⟩
  | .hbm, ⟨2, _⟩ => ⟨S512, .f32⟩
  | .hbm, ⟨3, _⟩ => ⟨S4096x512, .f32⟩
  | .hbm, ⟨4, _⟩ => ⟨S1x512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S4096x512, .f32⟩
  | .hbm, ⟨17, _⟩ => ⟨S_, .i32⟩
  | .hbm, ⟨18, _⟩ => ⟨S_, .f32⟩
  | .hbm, ⟨19, _⟩ => ⟨S4097x512, .f32⟩
  | .hbm, ⟨20, _⟩ => ⟨S4096x512, .f32⟩
  | .hbm, ⟨21, _⟩ => ⟨S_, .i32⟩
  | .hbm, ⟨22, _⟩ => ⟨S_, .f32⟩
  | .hbm, ⟨23, _⟩ => ⟨S4098x512, .f32⟩
  | .hbm, ⟨24, _⟩ => ⟨S4096x512, .f32⟩
  | .hbm, ⟨25, _⟩ => ⟨S_, .i32⟩
  | .hbm, ⟨26, _⟩ => ⟨S_, .f32⟩
  | .hbm, ⟨27, _⟩ => ⟨S4099x512, .f32⟩
  | .hbm, ⟨28, _⟩ => ⟨S4096x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S256x512, .f32⟩
  | .local _ .vmem, ⟨14, _⟩ => ⟨S256x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_call2_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConvDwRefIdeal.lean ====
abbrev S4096x6272 : Shape := ⟨2, ![4096, 6272]⟩
abbrev S4x512 : Shape := ⟨2, ![4, 512]⟩
abbrev S512 : Shape := ⟨1, ![512]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x512 : Shape := ⟨2, ![1, 512]⟩

abbrev nBuf : Space → Nat
  | .hbm => 91
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S4x512, .f32⟩
  | .hbm, ⟨2, _⟩ => ⟨S512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S3x512, .f32⟩
  | .hbm, ⟨7, _⟩ => ⟨S4099x512, .f32⟩
  | .hbm, ⟨8, _⟩ => ⟨S1x512, .f32⟩
  | .hbm, ⟨9, _⟩ => ⟨S512, .f32⟩
  | .hbm, ⟨10, _⟩ => ⟨S4096x512, .f32⟩
  | .hbm, ⟨11, _⟩ => ⟨S1x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S1x512, .f32⟩
  | .hbm, ⟨18, _⟩ => ⟨S512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S1x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S4096x512, .f32⟩
  | .hbm, ⟨45, _⟩ => ⟨S_, .f32⟩
  | .hbm, ⟨46, _⟩ => ⟨S512, .f32⟩
  | .hbm, ⟨47, _⟩ => ⟨S4096x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S_, .f32⟩
  | .hbm, ⟨55, _⟩ => ⟨S4x512, .f32⟩
  | .hbm, ⟨56, _⟩ => ⟨S4096x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S_, .f32⟩
  | .hbm, ⟨64, _⟩ => ⟨S4x512, .f32⟩
  | .hbm, ⟨65, _⟩ => ⟨S4x512, .f32⟩
  | .hbm, ⟨66, _⟩ => ⟨S4096x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S4x512, .f32⟩
  | .hbm, ⟨75, _⟩ => ⟨S4x512, .f32⟩
  | .hbm, ⟨76, _⟩ => ⟨S4096x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S_, .f32⟩
  | .hbm, ⟨81, _⟩ => ⟨S512, .f32⟩
  | .hbm, ⟨82, _⟩ => ⟨S1x512, .f32⟩
  | .hbm, ⟨83, _⟩ => ⟨S_, .f32⟩
  | .hbm, ⟨84, _⟩ => ⟨S4x512, .f32⟩
  | .hbm, ⟨85, _⟩ => ⟨S4x512, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S1x512, .f32⟩
  | .hbm, ⟨90, _⟩ => ⟨S1x512, .f32⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Conv.lean ====
abbrev S4096x6272 : Shape := ⟨2, ![4096, 6272]⟩
abbrev S4x512 : Shape := ⟨2, ![4, 512]⟩
abbrev S512 : Shape := ⟨1, ![512]⟩
abbrev S1x512 : Shape := ⟨2, ![1, 512]⟩
abbrev S4096x512 : Shape := ⟨2, ![4096, 512]⟩
abbrev S_ : Shape := ⟨0, ![]⟩
abbrev S4097x512 : Shape := ⟨2, ![4097, 512]⟩
abbrev S4098x512 : Shape := ⟨2, ![4098, 512]⟩
abbrev S4099x512 : Shape := ⟨2, ![4099, 512]⟩
abbrev S256x512 : Shape := ⟨2, ![256, 512]⟩

abbrev nBuf : Space → Nat
  | .hbm => 31
  | .vmem => 17
  | .smem => 0
  | _ => 0

abbrev bufTy : (tb : Table) → Fin (tcTables nBuf tb) → BufTy
  | .hbm, ⟨0, _⟩ => ⟨S4096x6272, .f32⟩
  | .hbm, ⟨1, _⟩ => ⟨S4x512, .f32⟩
  | .hbm, ⟨2, _⟩ => ⟨S512, .f32⟩
  | .hbm, ⟨3, _⟩ => ⟨S1x512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S512, .f32⟩
  | .hbm, ⟨8, _⟩ => ⟨S1x512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S4096x512, .f32⟩
  | .hbm, ⟨16, _⟩ => ⟨S_, .i32⟩
  | .hbm, ⟨17, _⟩ => ⟨S_, .f32⟩
  | .hbm, ⟨18, _⟩ => ⟨S4097x512, .f32⟩
  | .hbm, ⟨19, _⟩ => ⟨S4096x512, .f32⟩
  | .hbm, ⟨20, _⟩ => ⟨S_, .i32⟩
  | .hbm, ⟨21, _⟩ => ⟨S_, .f32⟩
  | .hbm, ⟨22, _⟩ => ⟨S4098x512, .f32⟩
  | .hbm, ⟨23, _⟩ => ⟨S4096x512, .f32⟩
  | .hbm, ⟨24, _⟩ => ⟨S_, .i32⟩
  | .hbm, ⟨25, _⟩ => ⟨S_, .f32⟩
  | .hbm, ⟨26, _⟩ => ⟨S4099x512, .f32⟩
  | .hbm, ⟨27, _⟩ => ⟨S4096x512, .f32⟩
  | .hbm, ⟨28, _⟩ => ⟨S1x512, .f32⟩
  | .hbm, ⟨29, _⟩ => ⟨S4096x512, .f32⟩
  | .hbm, ⟨30, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_call2_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S4096x6272 : Shape := ⟨2, ![4096, 6272]⟩
abbrev S4x512 : Shape := ⟨2, ![4, 512]⟩
abbrev S512 : Shape := ⟨1, ![512]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x512 : Shape := ⟨2, ![1, 512]⟩

abbrev nBuf : Space → Nat
  | .hbm => 41
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S4x512, .f32⟩
  | .hbm, ⟨2, _⟩ => ⟨S512, .f32⟩
  | .hbm, ⟨3, _⟩ => ⟨S4096x512, .f32⟩
  | .hbm, ⟨4, _⟩ => ⟨S_, .f32⟩
  | .hbm, ⟨5, _⟩ => ⟨S3x512, .f32⟩
  | .hbm, ⟨6, _⟩ => ⟨S4099x512, .f32⟩
  | .hbm, ⟨7, _⟩ => ⟨S1x512, .f32⟩
  | .hbm, ⟨8, _⟩ => ⟨S512, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S1x512, .f32⟩
  | .hbm, ⟨31, _⟩ => ⟨S512, .f32⟩
  | .hbm, ⟨32, _⟩ => ⟨S4096x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S4096x512, .bf16⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== SkipBwd.lean ====
abbrev S4096x512 : Shape := ⟨2, ![4096, 512]⟩
abbrev S4096x6272 : Shape := ⟨2, ![4096, 6272]⟩
abbrev S512 : Shape := ⟨1, ![512]⟩
abbrev S1x512 : Shape := ⟨2, ![1, 512]⟩
abbrev S256x512 : Shape := ⟨2, ![256, 512]⟩

abbrev nBuf : Space → Nat
  | .hbm => 9
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x6272, .f32⟩
  | .hbm, ⟨3, _⟩ => ⟨S512, .f32⟩
  | .hbm, ⟨4, _⟩ => ⟨S4096x512, .f32⟩
  | .hbm, ⟨5, _⟩ => ⟨S1x512, .f32⟩
  | .hbm, ⟨6, _⟩ => ⟨S4096x512, .bf16⟩
  | .hbm, ⟨7, _⟩ => ⟨S4096x512, .f32⟩
  | .hbm, ⟨8, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S256x512, .bf16⟩
  | .local _ .vmem, ⟨10, _⟩ => ⟨S256x512, .bf16⟩
  | .local _ .vmem, ⟨11, _⟩ => ⟨S256x512, .f32⟩
  | .local _ .vmem, ⟨12, _⟩ => ⟨S256x512, .f32⟩
  | .local _ .vmem, ⟨13, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SkipBwdRefIdeal.lean ====
abbrev S4096x512 : Shape := ⟨2, ![4096, 512]⟩
abbrev S4096x6272 : Shape := ⟨2, ![4096, 6272]⟩
abbrev S512 : Shape := ⟨1, ![512]⟩
abbrev S1x512 : Shape := ⟨2, ![1, 512]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x6272, .f32⟩
  | .hbm, ⟨3, _⟩ => ⟨S512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S512, .f32⟩
  | .hbm, ⟨62, _⟩ => ⟨S4096x512, .bf16⟩
  | .hbm, ⟨63, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Skip.lean ====
abbrev S4096x512 : Shape := ⟨2, ![4096, 512]⟩
abbrev S4096x6272 : Shape := ⟨2, ![4096, 6272]⟩
abbrev S512 : Shape := ⟨1, ![512]⟩
abbrev S1x512 : Shape := ⟨2, ![1, 512]⟩
abbrev S256x512 : Shape := ⟨2, ![256, 512]⟩

abbrev nBuf : Space → Nat
  | .hbm => 7
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x6272, .f32⟩
  | .hbm, ⟨3, _⟩ => ⟨S512, .f32⟩
  | .hbm, ⟨4, _⟩ => ⟨S1x512, .f32⟩
  | .hbm, ⟨5, _⟩ => ⟨S4096x512, .f32⟩
  | .hbm, ⟨6, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S256x512, .bf16⟩
  | .local _ .vmem, ⟨10, _⟩ => ⟨S256x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SkipRefIdeal.lean ====
abbrev S4096x512 : Shape := ⟨2, ![4096, 512]⟩
abbrev S4096x6272 : Shape := ⟨2, ![4096, 6272]⟩
abbrev S512 : Shape := ⟨1, ![512]⟩
abbrev S1x512 : Shape := ⟨2, ![1, 512]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x6272, .f32⟩
  | .hbm, ⟨3, _⟩ => ⟨S512, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== GluBwd.lean ====
abbrev S4096x512 : Shape := ⟨2, ![4096, 512]⟩
abbrev S512 : Shape := ⟨1, ![512]⟩
abbrev S1x512 : Shape := ⟨2, ![1, 512]⟩
abbrev S256x512 : Shape := ⟨2, ![256, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S4096x512, .f32⟩
  | .hbm, ⟨4, _⟩ => ⟨S1x512, .f32⟩
  | .hbm, ⟨5, _⟩ => ⟨S4096x512, .f32⟩
  | .hbm, ⟨6, _⟩ => ⟨S4096x512, .bf16⟩
  | .hbm, ⟨7, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .bf16⟩
  | .local _ .vmem, ⟨10, _⟩ => ⟨S256x512, .bf16⟩
  | .local _ .vmem, ⟨11, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluBwdRefIdeal.lean ====
abbrev S4096x512 : Shape := ⟨2, ![4096, 512]⟩
abbrev S512 : Shape := ⟨1, ![512]⟩
abbrev S1x512 : Shape := ⟨2, ![1, 512]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S4096x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S_, .f32⟩
  | .hbm, ⟨27, _⟩ => ⟨S512, .f32⟩
  | .hbm, ⟨28, _⟩ => ⟨S4096x512, .bf16⟩
  | .hbm, ⟨29, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Glu.lean ====
abbrev S4096x512 : Shape := ⟨2, ![4096, 512]⟩
abbrev S512 : Shape := ⟨1, ![512]⟩
abbrev S1x512 : Shape := ⟨2, ![1, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S1x512, .f32⟩
  | .hbm, ⟨4, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluRefIdeal.lean ====
abbrev S4096x512 : Shape := ⟨2, ![4096, 512]⟩
abbrev S512 : Shape := ⟨1, ![512]⟩
abbrev S1x512 : Shape := ⟨2, ![1, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== GluDx.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x512, .f32⟩
  | .hbm, ⟨2, _⟩ => ⟨S4096x512, .f32⟩
  | .hbm, ⟨3, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GluDxRefIdeal.lean ====
abbrev S4096x512 : Shape := ⟨2, ![4096, 512]⟩
abbrev S512x512 : Shape := ⟨2, ![512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .f32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GluDw.lean ====
abbrev S4096x512 : Shape := ⟨2, ![4096, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x512, .bf16⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S4096x512 : Shape := ⟨2, ![4096, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluPre.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x512, .f32⟩
  | .hbm, ⟨2, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluPreRefIdeal.lean ====
abbrev S4096x512 : Shape := ⟨2, ![4096, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .f32⟩
  | .hbm, ⟨2, _⟩ => ⟨S4096x512, .f32⟩
  | .hbm, ⟨3, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== StateInDx.lean ====
abbrev S4096x2048 : Shape := ⟨2, ![4096, 2048]⟩
abbrev S2048x16 : Shape := ⟨2, ![2048, 16]⟩
abbrev S4096x512 : Shape := ⟨2, ![4096, 512]⟩
abbrev S32x64x16 : Shape := ⟨3, ![32, 64, 16]⟩
abbrev S32x16x64 : Shape := ⟨3, ![32, 16, 64]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S1024x2048 : Shape := ⟨2, ![1024, 2048]⟩
abbrev S1024x512 : Shape := ⟨2, ![1024, 512]⟩

abbrev nBuf : Space → Nat
  | .hbm => 20
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x16, .f32⟩
  | .hbm, ⟨2, _⟩ => ⟨S4096x512, .f32⟩
  | .hbm, ⟨3, _⟩ => ⟨S32x64x16, .f32⟩
  | .hbm, ⟨4, _⟩ => ⟨S32x16x64, .f32⟩
  | .hbm, ⟨5, _⟩ => ⟨S32x32, .i32⟩
  | .hbm, ⟨6, _⟩ => ⟨S32x32, .i32⟩
  | .hbm, ⟨7, _⟩ => ⟨S_, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S32x32, .f32⟩
  | .hbm, ⟨12, _⟩ => ⟨S32x16x1x64, .f32⟩
  | .hbm, ⟨13, _⟩ => ⟨S32x1x32x1, .f32⟩
  | .hbm, ⟨14, _⟩ => ⟨S32x16x32x64, .f32⟩
  | .hbm, ⟨15, _⟩ => ⟨S32x16x32x64, .f32⟩
  | .hbm, ⟨16, _⟩ => ⟨S32x16x32x64, .f32⟩
  | .hbm, ⟨17, _⟩ => ⟨S512x2048, .f32⟩
  | .hbm, ⟨18, _⟩ => ⟨S512x2048, .bf16⟩
  | .hbm, ⟨19, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== StateInDxRefIdeal.lean ====
abbrev S4096x2048 : Shape := ⟨2, ![4096, 2048]⟩
abbrev S2048x16 : Shape := ⟨2, ![2048, 16]⟩
abbrev S4096x512 : Shape := ⟨2, ![4096, 512]⟩
abbrev S32x64x16 : Shape := ⟨3, ![32, 64, 16]⟩
abbrev S_ : Shape := ⟨0, ![]⟩
abbrev S4096x32x16 : Shape := ⟨3, ![4096, 32, 16]⟩
abbrev S32x64x4096 : Shape := ⟨3, ![32, 64, 4096]⟩
abbrev S4096x32x64 : Shape := ⟨3, ![4096, 32, 64]⟩
abbrev S32x4096x16 : Shape := ⟨3, ![32, 4096, 16]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x16, .f32⟩
  | .hbm, ⟨2, _⟩ => ⟨S4096x512, .f32⟩
  | .hbm, ⟨3, _⟩ => ⟨S32x64x16, .f32⟩
  | .hbm, ⟨4, _⟩ => ⟨S_, .f32⟩
  | .hbm, ⟨5, _⟩ => ⟨S4096x512, .f32⟩
  | .hbm, ⟨6, _⟩ => ⟨S4096x32x16, .f32⟩
  | .hbm, ⟨7, _⟩ => ⟨S32x64x4096, .f32⟩
  | .hbm, ⟨8, _⟩ => ⟨S4096x32x64, .f32⟩
  | .hbm, ⟨9, _⟩ => ⟨S4096x2048, .f32⟩
  | .hbm, ⟨10, _⟩ => ⟨S4096x32x64, .f32⟩
  | .hbm, ⟨11, _⟩ => ⟨S32x64x4096, .f32⟩
  | .hbm, ⟨12, _⟩ => ⟨S32x4096x16, .f32⟩
  | .hbm, ⟨13, _⟩ => ⟨S4096x32x16, .f32⟩
  | .hbm, ⟨14, _⟩ => ⟨S4096x512, .f32⟩
  | .hbm, ⟨15, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== StateInDxLast.lean ====
abbrev S4096x2048 : Shape := ⟨2, ![4096, 2048]⟩
abbrev S2048x16 : Shape := ⟨2, ![2048, 16]⟩
abbrev S4096x512 : Shape := ⟨2, ![4096, 512]⟩
abbrev S32x64x16 : Shape := ⟨3, ![32, 64, 16]⟩
abbrev S32x16x64 : Shape := ⟨3, ![32, 16, 64]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S1024x2048 : Shape := ⟨2, ![1024, 2048]⟩
abbrev S1024x512 : Shape := ⟨2, ![1024, 512]⟩

abbrev nBuf : Space → Nat
  | .hbm => 20
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x16, .f32⟩
  | .hbm, ⟨2, _⟩ => ⟨S4096x512, .f32⟩
  | .hbm, ⟨3, _⟩ => ⟨S32x64x16, .f32⟩
  | .hbm, ⟨4, _⟩ => ⟨S32x16x64, .f32⟩
  | .hbm, ⟨5, _⟩ => ⟨S32x32, .i32⟩
  | .hbm, ⟨6, _⟩ => ⟨S32x32, .i32⟩
  | .hbm, ⟨7, _⟩ => ⟨S_, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S32x32, .f32⟩
  | .hbm, ⟨12, _⟩ => ⟨S32x16x1x64, .f32⟩
  | .hbm, ⟨13, _⟩ => ⟨S32x1x32x1, .f32⟩
  | .hbm, ⟨14, _⟩ => ⟨S32x16x32x64, .f32⟩
  | .hbm, ⟨15, _⟩ => ⟨S32x16x32x64, .f32⟩
  | .hbm, ⟨16, _⟩ => ⟨S32x16x32x64, .f32⟩
  | .hbm, ⟨17, _⟩ => ⟨S512x2048, .f32⟩
  | .hbm, ⟨18, _⟩ => ⟨S512x2048, .bf16⟩
  | .hbm, ⟨19, _⟩ => ⟨S4096x512, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== StateInDxLastRefIdeal.lean ====
abbrev S4096x2048 : Shape := ⟨2, ![4096, 2048]⟩
abbrev S2048x16 : Shape := ⟨2, ![2048, 16]⟩
abbrev S4096x512 : Shape := ⟨2, ![4096, 512]⟩
abbrev S32x64x16 : Shape := ⟨3, ![32, 64, 16]⟩
abbrev S_ : Shape := ⟨0, ![]⟩
abbrev S4096x32x16 : Shape := ⟨3, ![4096, 32, 16]⟩
abbrev S32x64x4096 : Shape := ⟨3, ![32, 64, 4096]⟩
abbrev S4096x32x64 : Shape := ⟨3, ![4096, 32, 64]⟩
abbrev S32x4096x16 : Shape := ⟨3, ![32, 4096, 16]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x16, .f32⟩
  | .hbm, ⟨2, _⟩ => ⟨S4096x512, .f32⟩
  | .hbm, ⟨3, _⟩ => ⟨S32x64x16, .f32⟩
  | .hbm, ⟨4, _⟩ => ⟨S_, .f32⟩
  | .hbm, ⟨5, _⟩ => ⟨S4096x512, .f32⟩
  | .hbm, ⟨6, _⟩ => ⟨S4096x32x16, .f32⟩
  | .hbm, ⟨7, _⟩ => ⟨S32x64x4096, .f32⟩
  | .hbm, ⟨8, _⟩ => ⟨S4096x32x64, .f32⟩
  | .hbm, ⟨9, _⟩ => ⟨S4096x2048, .f32⟩
  | .hbm, ⟨10, _⟩ => ⟨S4096x32x64, .f32⟩
  | .hbm, ⟨11, _⟩ => ⟨S32x64x4096, .f32⟩
  | .hbm, ⟨12, _⟩ => ⟨S32x4096x16, .f32⟩
  | .hbm, ⟨13, _⟩ => ⟨S4096x32x16, .f32⟩
  | .hbm, ⟨14, _⟩ => ⟨S4096x512, .f32⟩
  | .hbm, ⟨15, _⟩ => ⟨S4096x512, .f32⟩
  | .hbm, ⟨16, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== StateInDw.lean ====
abbrev S4096x6272 : Shape := ⟨2, ![4096, 6272]⟩
abbrev S4096x2048 : Shape := ⟨2, ![4096, 2048]⟩
abbrev S512x2048 : Shape := ⟨2, ![512, 2048]⟩
abbrev S4096x512 : Shape := ⟨2, ![4096, 512]⟩
abbrev S4096x256 : Shape := ⟨2, ![4096, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x6272, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S4096x256, .f32⟩
  | .local _ .vmem, ⟨2, _⟩ => ⟨S4096x256, .f32⟩
  | .local _ .vmem, ⟨3, _⟩ => ⟨S512x256, .f32⟩
  | .local _ .vmem, ⟨4, _⟩ => ⟨S512x256, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StateInDwRefIdeal.lean ====
abbrev S4096x6272 : Shape := ⟨2, ![4096, 6272]⟩
abbrev S4096x2048 : Shape := ⟨2, ![4096, 2048]⟩
abbrev S4096x512 : Shape := ⟨2, ![4096, 512]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S4096x2048, .f32⟩
  | .hbm, ⟨2, _⟩ => ⟨S4096x512, .f32⟩
  | .hbm, ⟨3, _⟩ => ⟨S_, .f32⟩
  | .hbm, ⟨4, _⟩ => ⟨S512x2048, .f32⟩
  | .hbm, ⟨5, _⟩ => ⟨S4096x2048, .f32⟩
  | .hbm, ⟨6, _⟩ => ⟨S2048x512, .f32⟩
  | .hbm, ⟨7, _⟩ => ⟨S512x2048, .f32⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== StateIn.lean ====
abbrev S4096x6272 : Shape := ⟨2, ![4096, 6272]⟩
abbrev S2048x16 : Shape := ⟨2, ![2048, 16]⟩
abbrev S32x64x16 : Shape := ⟨3, ![32, 64, 16]⟩
abbrev S32x16x64 : Shape := ⟨3, ![32, 16, 64]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 19
  | .vmem => 6
  | .smem => 0
  | _ => 0

abbrev bufTy : (tb : Table) → Fin (tcTables nBuf tb) → BufTy
  | .hbm, ⟨0, _⟩ => ⟨S4096x6272, .f32⟩
  | .hbm, ⟨1, _⟩ => ⟨S2048x16, .f32⟩
  | .hbm, ⟨2, _⟩ => ⟨S32x64x16, .f32⟩
  | .hbm, ⟨3, _⟩ => ⟨S32x16x64, .f32⟩
  | .hbm, ⟨4, _⟩ => ⟨S32x32, .i32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S32x32, .f32⟩
  | .hbm, ⟨11, _⟩ => ⟨S32x16x1x64, .f32⟩
  | .hbm, ⟨12, _⟩ => ⟨S32x1x32x1, .f32⟩
  | .hbm, ⟨13, _⟩ => ⟨S32x16x32x64, .f32⟩
  | .hbm, ⟨14, _⟩ => ⟨S32x16x32x64, .f32⟩
  | .hbm, ⟨15, _⟩ => ⟨S32x16x32x64, .f32⟩
  | .hbm, ⟨16, _⟩ => ⟨S512x2048, .f32⟩
  | .hbm, ⟨17, _⟩ => ⟨S512x2048, .bf16⟩
  | .hbm, ⟨18, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StateInRefIdeal.lean ====
abbrev S4096x6272 : Shape := ⟨2, ![4096, 6272]⟩
abbrev S2048x16 : Shape := ⟨2, ![2048, 16]⟩
abbrev S4096x512 : Shape := ⟨2, ![4096, 512]⟩
abbrev S32x64x16 : Shape := ⟨3, ![32, 64, 16]⟩
abbrev S4096x32x16 : Shape := ⟨3, ![4096, 32, 16]⟩
abbrev S32x64x4096 : Shape := ⟨3, ![32, 64, 4096]⟩
abbrev S4096x32x64 : Shape := ⟨3, ![4096, 32, 64]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S2048x16, .f32⟩
  | .hbm, ⟨2, _⟩ => ⟨S4096x512, .f32⟩
  | .hbm, ⟨3, _⟩ => ⟨S32x64x16, .f32⟩
  | .hbm, ⟨4, _⟩ => ⟨S4096x32x16, .f32⟩
  | .hbm, ⟨5, _⟩ => ⟨S32x64x4096, .f32⟩
  | .hbm, ⟨6, _⟩ => ⟨S4096x32x64, .f32⟩
  | .hbm, ⟨7, _⟩ => ⟨S4096x2048, .f32⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== StateOutDx.lean ====
abbrev S4096x512 : Shape := ⟨2, ![4096, 512]⟩
abbrev S32x16x64 : Shape := ⟨3, ![32, 16, 64]⟩
abbrev S32x64x16 : Shape := ⟨3, ![32, 64, 16]⟩
abbrev S32x32 : Shape := ⟨2, ![32, 32]⟩
abbrev S_ : Shape := ⟨0, ![]⟩
abbrev S32x64x1x16 : Shape := ⟨4, ![32, 64, 1, 16]⟩
abbrev S32x1x32x1 : Shape := ⟨4, ![32, 1, 32, 1]⟩
abbrev S32x64x32x16 : Shape := ⟨4, ![32, 64, 32, 16]⟩
abbrev S2048x512 : Shape := ⟨2, ![2048, 512]⟩
abbrev S4096x2048 : Shape := ⟨2, ![4096, 2048]⟩
abbrev S1024x512 : Shape := ⟨2, ![1024, 512]⟩
abbrev S1024x1024 : Shape := ⟨2, ![1024, 1024]⟩

abbrev nBuf : Space → Nat
  | .hbm => 18
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S32x16x64, .f32⟩
  | .hbm, ⟨2, _⟩ => ⟨S32x64x16, .f32⟩
  | .hbm, ⟨3, _⟩ => ⟨S32x32, .i32⟩
  | .hbm, ⟨4, _⟩ => ⟨S32x32, .i32⟩
  | .hbm, ⟨5, _⟩ => ⟨S_, .i32⟩
  | .hbm, ⟨6, _⟩ => ⟨S32x32, .i32⟩
  | .hbm, ⟨7, _⟩ => ⟨S32x32, .i32⟩
  | .hbm, ⟨8, _⟩ => ⟨S32x32, .i1⟩
  | .hbm, ⟨9, _⟩ => ⟨S32x32, .f32⟩
  | .hbm, ⟨10, _⟩ => ⟨S32x64x1x16, .f32⟩
  | .hbm, ⟨11, _⟩ => ⟨S32x1x32x1, .f32⟩
  | .hbm, ⟨12, _⟩ => ⟨S32x64x32x16, .f32⟩
  | .hbm, ⟨13, _⟩ => ⟨S32x64x32x16, .f32⟩
  | .hbm, ⟨14, _⟩ => ⟨S32x64x32x16, .f32⟩
  | .hbm, ⟨15, _⟩ => ⟨S2048x512, .f32⟩
  | .hbm, ⟨16, _⟩ => ⟨S2048x512, .bf16⟩
  | .hbm, ⟨17, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StateOutDxRefIdeal.lean ====
abbrev S4096x512 : Shape := ⟨2, ![4096, 512]⟩
abbrev S32x16x64 : Shape := ⟨3, ![32, 16, 64]⟩
abbrev S_ : Shape := ⟨0, ![]⟩
abbrev S4096x2048 : Shape := ⟨2, ![4096, 2048]⟩
abbrev S4096x32x64 : Shape := ⟨3, ![4096, 32, 64]⟩
abbrev S32x16x4096 : Shape := ⟨3, ![32, 16, 4096]⟩
abbrev S4096x32x16 : Shape := ⟨3, ![4096, 32, 16]⟩
abbrev S32x4096x64 : Shape := ⟨3, ![32, 4096, 64]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S32x16x64, .f32⟩
  | .hbm, ⟨2, _⟩ => ⟨S_, .f32⟩
  | .hbm, ⟨3, _⟩ => ⟨S4096x2048, .f32⟩
  | .hbm, ⟨4, _⟩ => ⟨S4096x32x64, .f32⟩
  | .hbm, ⟨5, _⟩ => ⟨S32x16x4096, .f32⟩
  | .hbm, ⟨6, _⟩ => ⟨S4096x32x16, .f32⟩
  | .hbm, ⟨7, _⟩ => ⟨S4096x512, .f32⟩
  | .hbm, ⟨8, _⟩ => ⟨S4096x512, .f32⟩
  | .hbm, ⟨9, _⟩ => ⟨S4096x32x16, .f32⟩
  | .hbm, ⟨10, _⟩ => ⟨S32x16x4096, .f32⟩
  | .hbm, ⟨11, _⟩ => ⟨S32x4096x64, .f32⟩
  | .hbm, ⟨12, _⟩ => ⟨S4096x32x64, .f32⟩
  | .hbm, ⟨13, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== StateOutDw.lean ====
abbrev S4096x2048 : Shape := ⟨2, ![4096, 2048]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x512, .bf16⟩
  | .hbm, ⟨2, _⟩ => ⟨S2048x512, .f32⟩
  | .local _ .vmem, ⟨0, _⟩ => ⟨S4096x512, .f32⟩
  | .local _ .vmem, ⟨1, _⟩ => ⟨S4096x512, .f32⟩
  | .local _ .vmem, ⟨2, _⟩ => ⟨S4096x512, .bf16⟩
  | .local _ .vmem, ⟨3, _⟩ => ⟨S512x512, .f32⟩
  | .local _ .vmem, ⟨4, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StateOutDwRefIdeal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .bf16⟩
  | .hbm, ⟨2, _⟩ => ⟨S_, .f32⟩
  | .hbm, ⟨3, _⟩ => ⟨S2048x512, .f32⟩
  | .hbm, ⟨4, _⟩ => ⟨S4096x512, .f32⟩
  | .hbm, ⟨5, _⟩ => ⟨S4096x512, .f32⟩
  | .hbm, ⟨6, _⟩ => ⟨S512x2048, .f32⟩
  | .hbm, ⟨7, _⟩ => ⟨S2048x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== StateOut.lean ====
abbrev S4096x2048 : Shape := ⟨2, ![4096, 2048]⟩
abbrev S32x16x64 : Shape := ⟨3, ![32, 16, 64]⟩
abbrev S32x64x16 : Shape := ⟨3, ![32, 64, 16]⟩
abbrev S32x32 : Shape := ⟨2, ![32, 32]⟩
abbrev S_ : Shape := ⟨0, ![]⟩
abbrev S32x64x1x16 : Shape := ⟨4, ![32, 64, 1, 16]⟩
abbrev S32x1x32x1 : Shape := ⟨4, ![32, 1, 32, 1]⟩
abbrev S32x64x32x16 : Shape := ⟨4, ![32, 64, 32, 16]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 18
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S32x16x64, .f32⟩
  | .hbm, ⟨2, _⟩ => ⟨S32x64x16, .f32⟩
  | .hbm, ⟨3, _⟩ => ⟨S32x32, .i32⟩
  | .hbm, ⟨4, _⟩ => ⟨S32x32, .i32⟩
  | .hbm, ⟨5, _⟩ => ⟨S_, .i32⟩
  | .hbm, ⟨6, _⟩ => ⟨S32x32, .i32⟩
  | .hbm, ⟨7, _⟩ => ⟨S32x32, .i32⟩
  | .hbm, ⟨8, _⟩ => ⟨S32x32, .i1⟩
  | .hbm, ⟨9, _⟩ => ⟨S32x32, .f32⟩
  | .hbm, ⟨10, _⟩ => ⟨S32x64x1x16, .f32⟩
  | .hbm, ⟨11, _⟩ => ⟨S32x1x32x1, .f32⟩
  | .hbm, ⟨12, _⟩ => ⟨S32x64x32x16, .f32⟩
  | .hbm, ⟨13, _⟩ => ⟨S32x64x32x16, .f32⟩
  | .hbm, ⟨14, _⟩ => ⟨S32x64x32x16, .f32⟩
  | .hbm, ⟨15, _⟩ => ⟨S2048x512, .f32⟩
  | .hbm, ⟨16, _⟩ => ⟨S2048x512, .bf16⟩
  | .hbm, ⟨17, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StateOutRefIdeal.lean ====
abbrev S4096x2048 : Shape := ⟨2, ![4096, 2048]⟩
abbrev S32x16x64 : Shape := ⟨3, ![32, 16, 64]⟩
abbrev S4096x32x64 : Shape := ⟨3, ![4096, 32, 64]⟩
abbrev S32x16x4096 : Shape := ⟨3, ![32, 16, 4096]⟩
abbrev S4096x32x16 : Shape := ⟨3, ![4096, 32, 16]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S32x16x64, .f32⟩
  | .hbm, ⟨2, _⟩ => ⟨S4096x32x64, .f32⟩
  | .hbm, ⟨3, _⟩ => ⟨S32x16x4096, .f32⟩
  | .hbm, ⟨4, _⟩ => ⟨S4096x32x16, .f32⟩
  | .hbm, ⟨5, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateADx.lean ====
abbrev S4096x512 : Shape := ⟨2, ![4096, 512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 33
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S8x64x64, .f32⟩
  | .hbm, ⟨2, _⟩ => ⟨S8x64x64, .f32⟩
  | .hbm, ⟨3, _⟩ => ⟨S4096x512, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S8x64x1x64, .f32⟩
  | .hbm, ⟨12, _⟩ => ⟨S8x1x8x1, .f32⟩
  | .hbm, ⟨13, _⟩ => ⟨S8x64x8x64, .f32⟩
  | .hbm, ⟨14, _⟩ => ⟨S8x64x8x64, .f32⟩
  | .hbm, ⟨15, _⟩ => ⟨S8x64x8x64, .f32⟩
  | .hbm, ⟨16, _⟩ => ⟨S512x512, .f32⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .f32⟩
  | .hbm, ⟨24, _⟩ => ⟨S8x64x1x64, .f32⟩
  | .hbm, ⟨25, _⟩ => ⟨S8x1x8x1, .f32⟩
  | .hbm, ⟨26, _⟩ => ⟨S8x64x8x64, .f32⟩
  | .hbm, ⟨27, _⟩ => ⟨S8x64x8x64, .f32⟩
  | .hbm, ⟨28, _⟩ => ⟨S8x64x8x64, .f32⟩
  | .hbm, ⟨29, _⟩ => ⟨S512x512, .f32⟩
  | .hbm, ⟨30, _⟩ => ⟨S512x1024, .f32⟩
  | .hbm, ⟨31, _⟩ => ⟨S512x1024, .bf16⟩
  | .hbm, ⟨32, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateADxRefIdeal.lean ====
abbrev S4096x512 : Shape := ⟨2, ![4096, 512]⟩
abbrev S8x64x64 : Shape := ⟨3, ![8, 64, 64]⟩
abbrev S_ : Shape := ⟨0, ![]⟩
abbrev S4096x8x64 : Shape := ⟨3, ![4096, 8, 64]⟩
abbrev S8x64x4096 : Shape := ⟨3, ![8, 64, 4096]⟩
abbrev S8x4096x64 : Shape := ⟨3, ![8, 4096, 64]⟩

abbrev nBuf : Space → Nat
  | .hbm => 17
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S8x64x64, .f32⟩
  | .hbm, ⟨2, _⟩ => ⟨S8x64x64, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x8x64, .f32⟩
  | .hbm, ⟨7, _⟩ => ⟨S8x64x4096, .f32⟩
  | .hbm, ⟨8, _⟩ => ⟨S4096x8x64, .f32⟩
  | .hbm, ⟨9, _⟩ => ⟨S4096x512, .f32⟩
  | .hbm, ⟨10, _⟩ => ⟨S4096x512, .f32⟩
  | .hbm, ⟨11, _⟩ => ⟨S4096x8x64, .f32⟩
  | .hbm, ⟨12, _⟩ => ⟨S8x64x4096, .f32⟩
  | .hbm, ⟨13, _⟩ => ⟨S8x4096x64, .f32⟩
  | .hbm, ⟨14, _⟩ => ⟨S4096x8x64, .f32⟩
  | .hbm, ⟨15, _⟩ => ⟨S4096x512, .f32⟩
  | .hbm, ⟨16, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== GateXDx.lean ====
abbrev S4096x512 : Shape := ⟨2, ![4096, 512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 33
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S8x64x64, .f32⟩
  | .hbm, ⟨2, _⟩ => ⟨S8x64x64, .f32⟩
  | .hbm, ⟨3, _⟩ => ⟨S4096x512, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S8x64x1x64, .f32⟩
  | .hbm, ⟨12, _⟩ => ⟨S8x1x8x1, .f32⟩
  | .hbm, ⟨13, _⟩ => ⟨S8x64x8x64, .f32⟩
  | .hbm, ⟨14, _⟩ => ⟨S8x64x8x64, .f32⟩
  | .hbm, ⟨15, _⟩ => ⟨S8x64x8x64, .f32⟩
  | .hbm, ⟨16, _⟩ => ⟨S512x512, .f32⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .f32⟩
  | .hbm, ⟨24, _⟩ => ⟨S8x64x1x64, .f32⟩
  | .hbm, ⟨25, _⟩ => ⟨S8x1x8x1, .f32⟩
  | .hbm, ⟨26, _⟩ => ⟨S8x64x8x64, .f32⟩
  | .hbm, ⟨27, _⟩ => ⟨S8x64x8x64, .f32⟩
  | .hbm, ⟨28, _⟩ => ⟨S8x64x8x64, .f32⟩
  | .hbm, ⟨29, _⟩ => ⟨S512x512, .f32⟩
  | .hbm, ⟨30, _⟩ => ⟨S512x1024, .f32⟩
  | .hbm, ⟨31, _⟩ => ⟨S512x1024, .bf16⟩
  | .hbm, ⟨32, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateXDxRefIdeal.lean ====
abbrev S4096x512 : Shape := ⟨2, ![4096, 512]⟩
abbrev S8x64x64 : Shape := ⟨3, ![8, 64, 64]⟩
abbrev S_ : Shape := ⟨0, ![]⟩
abbrev S4096x8x64 : Shape := ⟨3, ![4096, 8, 64]⟩
abbrev S8x64x4096 : Shape := ⟨3, ![8, 64, 4096]⟩
abbrev S8x4096x64 : Shape := ⟨3, ![8, 4096, 64]⟩

abbrev nBuf : Space → Nat
  | .hbm => 17
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S8x64x64, .f32⟩
  | .hbm, ⟨2, _⟩ => ⟨S8x64x64, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x8x64, .f32⟩
  | .hbm, ⟨7, _⟩ => ⟨S8x64x4096, .f32⟩
  | .hbm, ⟨8, _⟩ => ⟨S4096x8x64, .f32⟩
  | .hbm, ⟨9, _⟩ => ⟨S4096x512, .f32⟩
  | .hbm, ⟨10, _⟩ => ⟨S4096x512, .f32⟩
  | .hbm, ⟨11, _⟩ => ⟨S4096x8x64, .f32⟩
  | .hbm, ⟨12, _⟩ => ⟨S8x64x4096, .f32⟩
  | .hbm, ⟨13, _⟩ => ⟨S8x4096x64, .f32⟩
  | .hbm, ⟨14, _⟩ => ⟨S4096x8x64, .f32⟩
  | .hbm, ⟨15, _⟩ => ⟨S4096x512, .f32⟩
  | .hbm, ⟨16, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== GateADw.lean ====
abbrev S4096x512 : Shape := ⟨2, ![4096, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x512, .f32⟩
  | .local _ .vmem, ⟨0, _⟩ => ⟨S4096x512, .bf16⟩
  | .local _ .vmem, ⟨1, _⟩ => ⟨S4096x512, .bf16⟩
  | .local _ .vmem, ⟨2, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateADwRefIdeal.lean ====
abbrev S4096x512 : Shape := ⟨2, ![4096, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateIn.lean ====
abbrev S4096x512 : Shape := ⟨2, ![4096, 512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 32
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S8x64x64, .f32⟩
  | .hbm, ⟨2, _⟩ => ⟨S8x64x64, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S8x64x1x64, .f32⟩
  | .hbm, ⟨11, _⟩ => ⟨S8x1x8x1, .f32⟩
  | .hbm, ⟨12, _⟩ => ⟨S8x64x8x64, .f32⟩
  | .hbm, ⟨13, _⟩ => ⟨S8x64x8x64, .f32⟩
  | .hbm, ⟨14, _⟩ => ⟨S8x64x8x64, .f32⟩
  | .hbm, ⟨15, _⟩ => ⟨S512x512, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S8x64x1x64, .f32⟩
  | .hbm, ⟨24, _⟩ => ⟨S8x1x8x1, .f32⟩
  | .hbm, ⟨25, _⟩ => ⟨S8x64x8x64, .f32⟩
  | .hbm, ⟨26, _⟩ => ⟨S8x64x8x64, .f32⟩
  | .hbm, ⟨27, _⟩ => ⟨S8x64x8x64, .f32⟩
  | .hbm, ⟨28, _⟩ => ⟨S512x512, .f32⟩
  | .hbm, ⟨29, _⟩ => ⟨S512x1024, .f32⟩
  | .hbm, ⟨30, _⟩ => ⟨S512x1024, .bf16⟩
  | .hbm, ⟨31, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateInRefIdeal.lean ====
abbrev S4096x512 : Shape := ⟨2, ![4096, 512]⟩
abbrev S8x64x64 : Shape := ⟨3, ![8, 64, 64]⟩
abbrev S4096x8x64 : Shape := ⟨3, ![4096, 8, 64]⟩
abbrev S8x64x4096 : Shape := ⟨3, ![8, 64, 4096]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S8x64x64, .f32⟩
  | .hbm, ⟨2, _⟩ => ⟨S8x64x64, .f32⟩
  | .hbm, ⟨3, _⟩ => ⟨S4096x512, .f32⟩
  | .hbm, ⟨4, _⟩ => ⟨S4096x8x64, .f32⟩
  | .hbm, ⟨5, _⟩ => ⟨S8x64x4096, .f32⟩
  | .hbm, ⟨6, _⟩ => ⟨S4096x8x64, .f32⟩
  | .hbm, ⟨7, _⟩ => ⟨S4096x512, .f32⟩
  | .hbm, ⟨8, _⟩ => ⟨S4096x8x64, .f32⟩
  | .hbm, ⟨9, _⟩ => ⟨S8x64x4096, .f32⟩
  | .hbm, ⟨10, _⟩ => ⟨S4096x8x64, .f32⟩
  | .hbm, ⟨11, _⟩ => ⟨S4096x512, .f32⟩
  | .hbm, ⟨12, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.DqK.Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.subi (BitVec.ofNat 32 (i 1).val) (Scalar.shrsi (Scalar.muli (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) (Scalar.addi (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) 1#32)) 1#32)) 0#32)) 0#32) = 1#1
/-- It holds at points 0, 1, 3, 6, 10, 15, 21 and 28 only — decided over the grid. -/
theorem hcond0_0 : ∀ t : Fin cfg0.N, cond0_0 (grid0.coords t) ↔ (t.val % 36 = 0 ∨ t.val % 36 = 1 ∨ t.val % 36 = 3 ∨ t.val % 36 = 6 ∨ t.val % 36 = 10 ∨ t.val % 36 = 15 ∨ t.val % 36 = 21 ∨ t.val % 36 = 28) :=
  (by decide +kernel : ∀ t : Fin grid0.N, cond0_0 (grid0.coords t) ↔ (t.val % 36 = 0 ∨ t.val % 36 = 1 ∨ t.val % 36 = 3 ∨ t.val % 36 = 6 ∨ t.val % 36 = 10 ∨ t.val % 36 = 15 ∨ t.val % 36 = 21 ∨ t.val % 36 = 28))

/-- The condition of the body's `scf.if` 1 (`k0_h2`), from the grid coordinates (the skeleton's scalar
    chain substituted). -/
abbrev cond0_1 (i : grid0.Coords) : Prop := (Scalar.cmpi .ne (Scalar.extui (Scalar.cmpi .slt (Scalar.subi (BitVec.ofNat 32 (i 1).val) (Scalar.shrsi (Scalar.muli (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) (Scalar.addi (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) 1#32)) 1#32)) (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))))) 0#32) = 1#1
/-- It holds at every point but points 0, 2, 5, 9, 14, 20, 27 and 35 — decided over the grid. -/
theorem hcond0_1 : ∀ t : Fin cfg0.N, cond0_1 (grid0.coords t) ↔ ¬(t.val % 36 = 0 ∨ t.val % 36 = 2 ∨ t.val % 36 = 5 ∨ t.val % 36 = 9 ∨ t.val % 36 = 14 ∨ t.val % 36 = 20 ∨ t.val % 36 = 27 ∨ t.val % 36 = 35) :=
  (by decide +kernel : ∀ t : Fin grid0.N, cond0_1 (grid0.coords t) ↔ ¬(t.val % 36 = 0 ∨ t.val % 36 = 2 ∨ t.val % 36 = 5 ∨ t.val % 36 = 9 ∨ t.val % 36 = 14 ∨ t.val % 36 = 20 ∨ t.val % 36 = 27 ∨ t.val % 36 = 35))

/-- The condition of the body's `scf.if` 2 (`k0_h3`), from the grid coordinates (the skeleton's scalar
    chain substituted). -/
abbrev cond0_2 (i : grid0.Coords) : Prop := (Scalar.cmpi .ne (Scalar.extui (Scalar.cmpi .eq (Scalar.subi (BitVec.ofNat 32 (i 1).val) (Scalar.shrsi (Scalar.muli (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) (Scalar.addi (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) 1#32)) 1#32)) (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))))) 0#32) = 1#1
/-- It holds at points 0, 2, 5, 9, 14, 20, 27 and 35 only — decided over the grid. -/
theorem hcond0_2 : ∀ t : Fin cfg0.N, cond0_2 (grid0.coords t) ↔ (t.val % 36 = 0 ∨ t.val % 36 = 2 ∨ t.val % 36 = 5 ∨ t.val % 36 = 9 ∨ t.val % 36 = 14 ∨ t.val % 36 = 20 ∨ t.val % 36 = 27 ∨ t.val % 36 = 35) :=
  (by decide +kernel : ∀ t : Fin grid0.N, cond0_2 (grid0.coords t) ↔ (t.val % 36 = 0 ∨ t.val % 36 = 2 ∨ t.val % 36 = 5 ∨ t.val % 36 = 9 ∨ t.val % 36 = 14 ∨ t.val % 36 = 20 ∨ t.val % 36 = 27 ∨ t.val % 36 = 35))

/-- The condition of the body's `scf.if` 3 (`k0_h4`), from the grid coordinates (the skeleton's scalar
    chain substituted). -/
abbrev cond0_3 (i : grid0.Coords) : Prop := k0_cond4 i = 1#1
/-- It holds at points 0, 2, 5, 9, 14, 20, 27 and 35 only — decided over the grid. -/
theorem hcond0_3 : ∀ t : Fin cfg0.N, cond0_3 (grid0.coords t) ↔ (t.val % 36 = 0 ∨ t.val % 36 = 2 ∨ t.val % 36 = 5 ∨ t.val % 36 = 9 ∨ t.val % 36 = 14 ∨ t.val % 36 = 20 ∨ t.val % 36 = 27 ∨ t.val % 36 = 35) :=
  (by decide +kernel : ∀ t : Fin grid0.N, cond0_3 (grid0.coords t) ↔ (t.val % 36 = 0 ∨ t.val % 36 = 2 ∨ t.val % 36 = 5 ∨ t.val % 36 = 9 ∨ t.val % 36 = 14 ∨ t.val % 36 = 20 ∨ t.val % 36 = 27 ∨ t.val % 36 = 35))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S8x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x64x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x64x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x64x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x1x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S8x128x512 .f32 := Memref.whole cc0_scratch0
/-- The scratch `arg11` the kernel carries between points, as a view: what it holds is stated through it. -/
abbrev VS0_0 : View sig .tc .vmem S8x128x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.DqK.RunA.lean ====
module

public import proofs.«01_k».proof.Proof.DqK.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1072000 in
/-- What the body's stores leave in each output's staging memref, as pieces (last first) IN CASE A (`scf.if` 0 taken, `scf.if` 1 not taken, `scf.if` 2 taken, `scf.if` 3 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_A (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole) (hc0 : cond0_0 i) (hc1 : ¬cond0_1 i) (hc2 : cond0_2 i) (hc3 : cond0_3 i)
    (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32) :
    { LS0 : List (View.Piece (Elt F) S8x128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0)) -∗ K ⟨⟩))
          ⊢ wp frame (wpE (defs₀ (F := F)) Variants.none c none) E (cc0_fox_bwd_q i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_bwd_q_eq_skeleton]; unfold cc0_fox_bwd_q_skel
    simp only [k0_part1_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    iexists _; iexact HS0

end Cert.Kernel.Gen

end
-- ==== Proof.DqK.RunB.lean ====
module

public import proofs.«01_k».proof.Proof.DqK.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 taken, `scf.if` 1 taken, `scf.if` 2 not taken, `scf.if` 3 not taken: points 1, 3, … 28: 7 of 36), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_B (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole) (hc0 : cond0_0 i) (hc1 : cond0_1 i) (hc2 : ¬cond0_2 i) (hc3 : ¬cond0_3 i)
    (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32) :
    { LS0 : List (View.Piece (Elt F) S8x128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0)) -∗ K ⟨⟩))
          ⊢ wp frame (wpE (defs₀ (F := F)) Variants.none c none) E (cc0_fox_bwd_q i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_bwd_q_eq_skeleton]; unfold cc0_fox_bwd_q_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    iexists _; iexact HS0

end Cert.Kernel.Gen

end
-- ==== Proof.DqK.RunC.lean ====
module

public import proofs.«01_k».proof.Proof.DqK.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 taken: points 2, 5, … 35: 7 of 36), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_C (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole) (hc0 : ¬cond0_0 i) (hc1 : ¬cond0_1 i) (hc2 : cond0_2 i) (hc3 : cond0_3 i)
    (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32) (xs0 : Vec F S8x128x512 .f32) :
    { LS0 : List (View.Piece (Elt F) S8x128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0)) -∗ K ⟨⟩))
          ⊢ wp frame (wpE (defs₀ (F := F)) Variants.none c none) E (cc0_fox_bwd_q i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_bwd_q_eq_skeleton]; unfold cc0_fox_bwd_q_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    iexists _; iexact HS0

end Cert.Kernel.Gen

end
-- ==== Proof.DqK.RunD.lean ====
module

public import proofs.«01_k».proof.Proof.DqK.RunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 not taken, `scf.if` 3 not taken: points 4, 7, … 34: 21 of 36), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_D (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole) (hc0 : ¬cond0_0 i) (hc1 : cond0_1 i) (hc2 : ¬cond0_2 i) (hc3 : ¬cond0_3 i)
    (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32) (xs0 : Vec F S8x128x512 .f32) :
    { LS0 : List (View.Piece (Elt F) S8x128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0)) -∗ K ⟨⟩))
          ⊢ wp frame (wpE (defs₀ (F := F)) Variants.none c none) E (cc0_fox_bwd_q i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_bwd_q_eq_skeleton]; unfold cc0_fox_bwd_q_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    iexists _; iexact HS0

end Cert.Kernel.Gen

end
-- ==== Proof.DqK.Frame.lean ====
module

public import proofs.«01_k».proof.Proof.DqK.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole)

section
variable (hc0 : cond0_0 i) (hc1 : ¬cond0_1 i) (hc2 : cond0_2 i) (hc3 : cond0_3 i)
  (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32)

/-- Case A's pieces for scratch `arg11`, which the kernel carries between points, cover it: 16 pieces of `S1x128x512` tiling it (Lib/Ring.lean `Piece.tiledL`). -/
theorem scover0_A_0 (y : S8x128x512.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).1 S1x128x512.size (by sl_kernel_rfl) y

/-- What case A leaves in scratch `arg11`: its pieces read back over junk. -/
def sout0_A_0 : Vec F S8x128x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).1)

end

section
variable (hc0 : cond0_0 i) (hc1 : cond0_1 i) (hc2 : ¬cond0_2 i) (hc3 : ¬cond0_3 i)
  (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32)

/-- Case B's pieces for scratch `arg11`, which the kernel carries between points, cover it: 16 pieces of `S1x128x512` tiling it (Lib/Ring.lean `Piece.tiledL`). -/
theorem scover0_B_0 (y : S8x128x512.Idx) :
    ∃ pc ∈ (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 x6).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 x6).1 S1x128x512.size (by sl_kernel_rfl) y

/-- What case B leaves in scratch `arg11`: its pieces read back over junk. -/
def sout0_B_0 : Vec F S8x128x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 x6).1)

end

section
variable (hc0 : ¬cond0_0 i) (hc1 : ¬cond0_1 i) (hc2 : cond0_2 i) (hc3 : cond0_3 i)
  (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32)

/-- Case C's pieces for scratch `arg11`, which the kernel carries between points, cover it: 8 pieces of `S1x128x512` tiling it (Lib/Ring.lean `Piece.tiledL`). -/
theorem scover0_C_0 (xs0 : Vec F S8x128x512 .f32) (y : S8x128x512.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).1 S1x128x512.size (by sl_kernel_rfl) y

/-- What case C leaves in scratch `arg11`: its pieces read back over junk. -/
def sout0_C_0 (xs0 : Vec F S8x128x512 .f32) : Vec F S8x128x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).1)

end

section
variable (hc0 : ¬cond0_0 i) (hc1 : cond0_1 i) (hc2 : ¬cond0_2 i) (hc3 : ¬cond0_3 i)
  (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32)

/-- Case D's pieces for scratch `arg11`, which the kernel carries between points, cover it: 8 pieces of `S1x128x512` tiling it (Lib/Ring.lean `Piece.tiledL`). -/
theorem scover0_D_0 (xs0 : Vec F S8x128x512 .f32) (y : S8x128x512.Idx) :
    ∃ pc ∈ (kernelRun0_D c i arg2 harg2 arg3 harg3 arg4 harg4 arg5 harg5 arg6 harg6 arg7 harg7 arg8 harg8 arg9 harg9 arg10 harg10 arg11 harg11 hc0 hc1 hc2 hc3 x0 x1 x2 x3 x4 x5 x6 xs0).1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 hc3 x0 x1 x2 x3 x4 x5 x6 xs0).1 S1x128x512.size (by sl_kernel_rfl) y

/-- What case D leaves in scratch `arg11`: its pieces read back over junk. -/
def sout0_D_0 (xs0 : Vec F S8x128x512 .f32) : Vec F S8x128x512 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 hc0 hc1 hc2 hc3 x0 x1 x2 x3 x4 x5 x6 xs0).1)

end

end

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x128x512 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (by (try dsimp only); omega)) (fun h => (fun h => by (try dsimp only at h); omega) ((hcond0_1 ⟨0, hn⟩).mp h)) ((hcond0_2 ⟨0, hn⟩).mpr (by (try dsimp only); omega)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : ((n + 1) % 36 = 0 ∨ (n + 1) % 36 = 1 ∨ (n + 1) % 36 = 3 ∨ (n + 1) % 36 = 6 ∨ (n + 1) % 36 = 10 ∨ (n + 1) % 36 = 15 ∨ (n + 1) % 36 = 21 ∨ (n + 1) % 36 = 28) then
      if h1 : ¬((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
        if h2 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
          False.elim (by have hN : n + 1 < 36 := lt_of_lt_of_eq hn (show cfg0.N = 36 from N_0); omega)
        else
          if h3 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
            False.elim (by have hN : n + 1 < 36 := lt_of_lt_of_eq hn (show cfg0.N = 36 from N_0); omega)
          else
            sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
      else
        if h2 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
          if h3 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
            sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
          else
            False.elim (by have hN : n + 1 < 36 := lt_of_lt_of_eq hn (show cfg0.N = 36 from N_0); omega)
        else
          False.elim (by have hN : n + 1 < 36 := lt_of_lt_of_eq hn (show cfg0.N = 36 from N_0); omega)
    else
      if h1 : ¬((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
        if h2 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
          False.elim (by have hN : n + 1 < 36 := lt_of_lt_of_eq hn (show cfg0.N = 36 from N_0); omega)
        else
          if h3 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
            False.elim (by have hN : n + 1 < 36 := lt_of_lt_of_eq hn (show cfg0.N = 36 from N_0); omega)
          else
            sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))
      else
        if h2 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
          if h3 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
            sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))
          else
            False.elim (by have hN : n + 1 < 36 := lt_of_lt_of_eq hn (show cfg0.N = 36 from N_0); omega)
        else
          False.elim (by have hN : n + 1 < 36 := lt_of_lt_of_eq hn (show cfg0.N = 36 from N_0); omega)

/-- `outsAt0` at a point of case A: that case's contents. -/
theorem outsAt0_A (c : Dev nD) (t : Fin cfg0.N) (h0 : (t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : (t.val % 36 = 0 ∨ t.val % 36 = 2 ∨ t.val % 36 = 5 ∨ t.val % 36 = 9 ∨ t.val % 36 = 14 ∨ t.val % 36 = 20 ∨ t.val % 36 = 27 ∨ t.val % 36 = 35)) (h3 : (t.val % 36 = 0 ∨ t.val % 36 = 2 ∨ t.val % 36 = 5 ∨ t.val % 36 = 9 ∨ t.val % 36 = 14 ∨ t.val % 36 = 20 ∨ t.val % 36 = 27 ∨ t.val % 36 = 35)) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans ((dif_neg h1).trans ((dif_pos h2).trans ((dif_pos h3).trans rfl)))

/-- `outsAt0` at a point of case B: that case's contents. -/
theorem outsAt0_B (c : Dev nD) (t : Fin cfg0.N) (h0 : (t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h3 : ¬(t.val % 36 = 0 ∨ t.val % 36 = 2 ∨ t.val % 36 = 5 ∨ t.val % 36 = 9 ∨ t.val % 36 = 14 ∨ t.val % 36 = 20 ∨ t.val % 36 = 27 ∨ t.val % 36 = 35)) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) := by
  obtain ⟨n, hn⟩ := t
  cases n with
  | zero => exact (by exfalso; (try dsimp only at h1); exact by omega)
  | succ n => exact (dif_pos h0).trans ((dif_pos h1).trans ((dif_neg h2).trans ((dif_neg h3).trans rfl)))

/-- `outsAt0` at a point of case C: that case's contents, over what the point before left. -/
theorem outsAt0_C (c : Dev nD) (t : Fin cfg0.N) (h0 : ¬(t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : (t.val % 36 = 0 ∨ t.val % 36 = 2 ∨ t.val % 36 = 5 ∨ t.val % 36 = 9 ∨ t.val % 36 = 14 ∨ t.val % 36 = 20 ∨ t.val % 36 = 27 ∨ t.val % 36 = 35)) (h3 : (t.val % 36 = 0 ∨ t.val % 36 = 2 ∨ t.val % 36 = 5 ∨ t.val % 36 = 9 ∨ t.val % 36 = 14 ∨ t.val % 36 = 20 ∨ t.val % 36 = 27 ∨ t.val % 36 = 35)) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact by omega)
  | succ n => exact (dif_neg h0).trans ((dif_neg h1).trans ((dif_pos h2).trans ((dif_pos h3).trans rfl)))

/-- `outsAt0` at a point of case D: that case's contents, over what the point before left. -/
theorem outsAt0_D (c : Dev nD) (t : Fin cfg0.N) (h0 : ¬(t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h3 : ¬(t.val % 36 = 0 ∨ t.val % 36 = 2 ∨ t.val % 36 = 5 ∨ t.val % 36 = 9 ∨ t.val % 36 = 14 ∨ t.val % 36 = 20 ∨ t.val % 36 = 27 ∨ t.val % 36 = 35)) :
    outsAt0 m c t.val t.isLt = sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact by omega)
  | succ n => exact (dif_neg h0).trans ((dif_pos h1).trans ((dif_neg h2).trans ((dif_neg h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  by_cases h0 : (t.val % 36 = 0 ∨ t.val % 36 = 1 ∨ t.val % 36 = 3 ∨ t.val % 36 = 6 ∨ t.val % 36 = 10 ∨ t.val % 36 = 15 ∨ t.val % 36 = 21 ∨ t.val % 36 = 28)
  · by_cases h1 : ¬(t.val % 36 = 0 ∨ t.val % 36 = 2 ∨ t.val % 36 = 5 ∨ t.val % 36 = 9 ∨ t.val % 36 = 14 ∨ t.val % 36 = 20 ∨ t.val % 36 = 27 ∨ t.val % 36 = 35)
    · by_cases h2 : (t.val % 36 = 0 ∨ t.val % 36 = 2 ∨ t.val % 36 = 5 ∨ t.val % 36 = 9 ∨ t.val % 36 = 14 ∨ t.val % 36 = 20 ∨ t.val % 36 = 27 ∨ t.val % 36 = 35)
      · exfalso; omega
      · by_cases h3 : (t.val % 36 = 0 ∨ t.val % 36 = 2 ∨ t.val % 36 = 5 ∨ t.val % 36 = 9 ∨ t.val % 36 = 14 ∨ t.val % 36 = 20 ∨ t.val % 36 = 27 ∨ t.val % 36 = 35)
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          by_cases hz : t.val = 0
          · exfalso; have hN : t.val < 36 := lt_of_lt_of_eq t.isLt (show cfg0.N = 36 from N_0); omega
          · rw [PhiS_castSucc m c t, PhiS_pos m c _ _ hz]
            rw [outsAt0_B m c t h0 h1 h2 h3]
            unfold sout0_B_0
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_B c (grid0.coords t) _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t)).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [H8]; · iexists _; iexact H8
            isplitl [HS0]; · iexists _; iexact HS0
            iintro ⟨H0, H1, H2, H3, H4, H5, H6, H7, H8, ⟨%es0, HS0⟩⟩
            isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            iexact H8
    · by_cases h2 : (t.val % 36 = 0 ∨ t.val % 36 = 2 ∨ t.val % 36 = 5 ∨ t.val % 36 = 9 ∨ t.val % 36 = 14 ∨ t.val % 36 = 20 ∨ t.val % 36 = 27 ∨ t.val % 36 = 35)
      · by_cases h3 : (t.val % 36 = 0 ∨ t.val % 36 = 2 ∨ t.val % 36 = 5 ∨ t.val % 36 = 9 ∨ t.val % 36 = 14 ∨ t.val % 36 = 20 ∨ t.val % 36 = 27 ∨ t.val % 36 = 35)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          by_cases hz : t.val = 0
          · rw [PhiS_castSucc m c t, PhiS_zero m c _ _ hz, PhiA0_eq]
            rw [outsAt0_A m c t h0 h1 h2 h3]
            unfold sout0_A_0
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_A c (grid0.coords t) _ _ _ _ _ _ _ _ _ _ _ _ _ _ _ _ _ _ _ _ ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t)).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [H8]; · iexists _; iexact H8
            isplitl [HS0]; · iexact HS0
            iintro ⟨H0, H1, H2, H3, H4, H5, H6, H7, H8, ⟨%es0, HS0⟩⟩
            isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            iexact H8
          · exfalso; have hN : t.val < 36 := lt_of_lt_of_eq t.isLt (show cfg0.N = 36 from N_0); omega
        · exfalso; omega
      · exfalso; omega
  · by_cases h1 : ¬(t.val % 36 = 0 ∨ t.val % 36 = 2 ∨ t.val % 36 = 5 ∨ t.val % 36 = 9 ∨ t.val % 36 = 14 ∨ t.val % 36 = 20 ∨ t.val % 36 = 27 ∨ t.val % 36 = 35)
    · by_cases h2 : (t.val % 36 = 0 ∨ t.val % 36 = 2 ∨ t.val % 36 = 5 ∨ t.val % 36 = 9 ∨ t.val % 36 = 14 ∨ t.val % 36 = 20 ∨ t.val % 36 = 27 ∨ t.val % 36 = 35)
      · exfalso; omega
      · by_cases h3 : (t.val % 36 = 0 ∨ t.val % 36 = 2 ∨ t.val % 36 = 5 ∨ t.val % 36 = 9 ∨ t.val % 36 = 14 ∨ t.val % 36 = 20 ∨ t.val % 36 = 27 ∨ t.val % 36 = 35)
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          by_cases hz : t.val = 0
          · exfalso; have hN : t.val < 36 := lt_of_lt_of_eq t.isLt (show cfg0.N = 36 from N_0); omega
          · rw [PhiS_castSucc m c t, PhiS_pos m c _ _ hz]
            rw [outsAt0_D m c t h0 h1 h2 h3]
            unfold sout0_D_0
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_D c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) _).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [H8]; · iexists _; iexact H8
            isplitl [HS0]; · iexact HS0
            iintro ⟨H0, H1, H2, H3, H4, H5, H6, H7, H8, ⟨%es0, HS0⟩⟩
            isplitl [HS0 Hg]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            iexact H8
    · by_cases h2 : (t.val % 36 = 0 ∨ t.val % 36 = 2 ∨ t.val % 36 = 5 ∨ t.val % 36 = 9 ∨ t.val % 36 = 14 ∨ t.val % 36 = 20 ∨ t.val % 36 = 27 ∨ t.val % 36 = 35)
      · by_cases h3 : (t.val % 36 = 0 ∨ t.val % 36 = 2 ∨ t.val % 36 = 5 ∨ t.val % 36 = 9 ∨ t.val % 36 = 14 ∨ t.val % 36 = 20 ∨ t.val % 36 = 27 ∨ t.val % 36 = 35)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          by_cases hz : t.val = 0
          · exfalso; have hN : t.val < 36 := lt_of_lt_of_eq t.isLt (show cfg0.N = 36 from N_0); omega
          · rw [PhiS_castSucc m c t, PhiS_pos m c _ _ hz]
            rw [outsAt0_C m c t h0 h1 h2 h3]
            unfold sout0_C_0
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) _).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [H8]; · iexists _; iexact H8
            isplitl [HS0]; · iexact HS0
            iintro ⟨H0, H1, H2, H3, H4, H5, H6, H7, H8, ⟨%es0, HS0⟩⟩
            isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            iexact H8
        · exfalso; omega
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.DqI.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.subi (BitVec.ofNat 32 (i 1).val) (Scalar.shrsi (Scalar.muli (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) (Scalar.addi (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) 1#32)) 1#32)) 0#32)) 0#32) = 1#1
/-- It holds at points 0, 1, 3, 6, 10, 15, 21 and 28 only — decided over the grid. -/
theorem hcond0_0 : ∀ t : Fin cfg0.N, cond0_0 (grid0.coords t) ↔ (t.val % 36 = 0 ∨ t.val % 36 = 1 ∨ t.val % 36 = 3 ∨ t.val % 36 = 6 ∨ t.val % 36 = 10 ∨ t.val % 36 = 15 ∨ t.val % 36 = 21 ∨ t.val % 36 = 28) :=
  (by decide +kernel : ∀ t : Fin grid0.N, cond0_0 (grid0.coords t) ↔ (t.val % 36 = 0 ∨ t.val % 36 = 1 ∨ t.val % 36 = 3 ∨ t.val % 36 = 6 ∨ t.val % 36 = 10 ∨ t.val % 36 = 15 ∨ t.val % 36 = 21 ∨ t.val % 36 = 28))

/-- The condition of the body's `scf.if` 1 (`k0_h2`), from the grid coordinates (the skeleton's scalar
    chain substituted). -/
abbrev cond0_1 (i : grid0.Coords) : Prop := (Scalar.cmpi .ne (Scalar.extui (Scalar.cmpi .slt (Scalar.subi (BitVec.ofNat 32 (i 1).val) (Scalar.shrsi (Scalar.muli (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) (Scalar.addi (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) 1#32)) 1#32)) (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))))) 0#32) = 1#1
/-- It holds at every point but points 0, 2, 5, 9, 14, 20, 27 and 35 — decided over the grid. -/
theorem hcond0_1 : ∀ t : Fin cfg0.N, cond0_1 (grid0.coords t) ↔ ¬(t.val % 36 = 0 ∨ t.val % 36 = 2 ∨ t.val % 36 = 5 ∨ t.val % 36 = 9 ∨ t.val % 36 = 14 ∨ t.val % 36 = 20 ∨ t.val % 36 = 27 ∨ t.val % 36 = 35) :=
  (by decide +kernel : ∀ t : Fin grid0.N, cond0_1 (grid0.coords t) ↔ ¬(t.val % 36 = 0 ∨ t.val % 36 = 2 ∨ t.val % 36 = 5 ∨ t.val % 36 = 9 ∨ t.val % 36 = 14 ∨ t.val % 36 = 20 ∨ t.val % 36 = 27 ∨ t.val % 36 = 35))

/-- The condition of the body's `scf.if` 2 (`k0_h3`), from the grid coordinates (the skeleton's scalar
    chain substituted). -/
abbrev cond0_2 (i : grid0.Coords) : Prop := (Scalar.cmpi .ne (Scalar.extui (Scalar.cmpi .eq (Scalar.subi (BitVec.ofNat 32 (i 1).val) (Scalar.shrsi (Scalar.muli (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) (Scalar.addi (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))) 1#32)) 1#32)) (Scalar.addi (Scalar.addi (Scalar.addi (Scalar.addi (Scalar.addi (Scalar.addi (Scalar.addi 0#32 (Scalar.extui (Scalar.cmpi .sge (BitVec.ofNat 32 (i 1).val) 1#32))) (Scalar.extui (Scalar.cmpi .sge (BitVec.ofNat 32 (i 1).val) 3#32))) (Scalar.extui (Scalar.cmpi .sge (BitVec.ofNat 32 (i 1).val) 6#32))) (Scalar.extui (Scalar.cmpi .sge (BitVec.ofNat 32 (i 1).val) 10#32))) (Scalar.extui (Scalar.cmpi .sge (BitVec.ofNat 32 (i 1).val) 15#32))) (Scalar.extui (Scalar.cmpi .sge (BitVec.ofNat 32 (i 1).val) 21#32))) (Scalar.extui (Scalar.cmpi .sge (BitVec.ofNat 32 (i 1).val) 28#32))))) 0#32) = 1#1
/-- It holds at points 0, 2, 5, 9, 14, 20, 27 and 35 only — decided over the grid. -/
theorem hcond0_2 : ∀ t : Fin cfg0.N, cond0_2 (grid0.coords t) ↔ (t.val % 36 = 0 ∨ t.val % 36 = 2 ∨ t.val % 36 = 5 ∨ t.val % 36 = 9 ∨ t.val % 36 = 14 ∨ t.val % 36 = 20 ∨ t.val % 36 = 27 ∨ t.val % 36 = 35) :=
  (by decide +kernel : ∀ t : Fin grid0.N, cond0_2 (grid0.coords t) ↔ (t.val % 36 = 0 ∨ t.val % 36 = 2 ∨ t.val % 36 = 5 ∨ t.val % 36 = 9 ∨ t.val % 36 = 14 ∨ t.val % 36 = 20 ∨ t.val % 36 = 27 ∨ t.val % 36 = 35))

/-- The condition of the body's `scf.if` 3 (`k0_h4`), from the grid coordinates (the skeleton's scalar
    chain substituted). -/
abbrev cond0_3 (i : grid0.Coords) : Prop := k0_cond4 i = 1#1
/-- It holds at points 0, 2, 5, 9, 14, 20, 27 and 35 only — decided over the grid. -/
theorem hcond0_3 : ∀ t : Fin cfg0.N, cond0_3 (grid0.coords t) ↔ (t.val % 36 = 0 ∨ t.val % 36 = 2 ∨ t.val % 36 = 5 ∨ t.val % 36 = 9 ∨ t.val % 36 = 14 ∨ t.val % 36 = 20 ∨ t.val % 36 = 27 ∨ t.val % 36 = 35) :=
  (by decide +kernel : ∀ t : Fin grid0.N, cond0_3 (grid0.coords t) ↔ (t.val % 36 = 0 ∨ t.val % 36 = 2 ∨ t.val % 36 = 5 ∨ t.val % 36 = 9 ∨ t.val % 36 = 14 ∨ t.val % 36 = 20 ∨ t.val % 36 = 27 ∨ t.val % 36 = 35))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ cond0_2 i ∧ cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ cond0_1 i ∧ ¬cond0_2 i ∧ ¬cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 7 live: the case stores into it. -/
theorem liveAt0_7_A : ∀ t : Fin cfg0.N, cond0_0 (grid0.coords t) → ¬cond0_1 (grid0.coords t) → cond0_2 (grid0.coords t) → cond0_3 (grid0.coords t) → cfg0.idle 7 (grid0.coords t) = false :=
  fun t h0 h1 h2 h3 => (by decide +kernel : ∀ t : Fin cfg0.N, conds0_A (grid0.coords t) → cfg0.idle 7 (grid0.coords t) = false) t ⟨h0, h1, h2, h3⟩
/-- At the points of case B the printed configuration (`Cfg.idle`) calls output 7 idle: the case stores nothing into it. -/
theorem idleAt0_7_B : ∀ t : Fin cfg0.N, cond0_0 (grid0.coords t) → cond0_1 (grid0.coords t) → ¬cond0_2 (grid0.coords t) → ¬cond0_3 (grid0.coords t) → cfg0.idle 7 (grid0.coords t) = true :=
  fun t h0 h1 h2 h3 => (by decide +kernel : ∀ t : Fin cfg0.N, conds0_B (grid0.coords t) → cfg0.idle 7 (grid0.coords t) = true) t ⟨h0, h1, h2, h3⟩
/-- At the points of case B the pipeline does not write output 7's block back. -/
theorem noFlush0_7_B : ∀ t : Fin cfg0.N, cond0_0 (grid0.coords t) → cond0_1 (grid0.coords t) → ¬cond0_2 (grid0.coords t) → ¬cond0_3 (grid0.coords t) → (cfg0.win 7).flush t = false :=
  fun t h0 h1 h2 h3 => (by decide +kernel : ∀ t : Fin cfg0.N, conds0_B (grid0.coords t) → (cfg0.win 7).flush t = false) t ⟨h0, h1, h2, h3⟩
/-- At the points of case C the printed configuration (`Cfg.idle`) calls output 7 live: the case stores into it. -/
theorem liveAt0_7_C : ∀ t : Fin cfg0.N, ¬cond0_0 (grid0.coords t) → ¬cond0_1 (grid0.coords t) → cond0_2 (grid0.coords t) → cond0_3 (grid0.coords t) → cfg0.idle 7 (grid0.coords t) = false :=
  fun t h0 h1 h2 h3 => (by decide +kernel : ∀ t : Fin cfg0.N, conds0_C (grid0.coords t) → cfg0.idle 7 (grid0.coords t) = false) t ⟨h0, h1, h2, h3⟩
/-- At the points of case D the printed configuration (`Cfg.idle`) calls output 7 idle: the case stores nothing into it. -/
theorem idleAt0_7_D : ∀ t : Fin cfg0.N, ¬cond0_0 (grid0.coords t) → cond0_1 (grid0.coords t) → ¬cond0_2 (grid0.coords t) → ¬cond0_3 (grid0.coords t) → cfg0.idle 7 (grid0.coords t) = true :=
  fun t h0 h1 h2 h3 => (by decide +kernel : ∀ t : Fin cfg0.N, conds0_D (grid0.coords t) → cfg0.idle 7 (grid0.coords t) = true) t ⟨h0, h1, h2, h3⟩
/-- At the points of case D the pipeline does not write output 7's block back. -/
theorem noFlush0_7_D : ∀ t : Fin cfg0.N, ¬cond0_0 (grid0.coords t) → cond0_1 (grid0.coords t) → ¬cond0_2 (grid0.coords t) → ¬cond0_3 (grid0.coords t) → (cfg0.win 7).flush t = false :=
  fun t h0 h1 h2 h3 => (by decide +kernel : ∀ t : Fin cfg0.N, conds0_D (grid0.coords t) → (cfg0.win 7).flush t = false) t ⟨h0, h1, h2, h3⟩
/-- At the points of case A the printed configuration (`Cfg.idle`) calls output 8 live: the case stores into it. -/
theorem liveAt0_8_A : ∀ t : Fin cfg0.N, cond0_0 (grid0.coords t) → ¬cond0_1 (grid0.coords t) → cond0_2 (grid0.coords t) → cond0_3 (grid0.coords t) → cfg0.idle 8 (grid0.coords t) = false :=
  fun t h0 h1 h2 h3 => (by decide +kernel : ∀ t : Fin cfg0.N, conds0_A (grid0.coords t) → cfg0.idle 8 (grid0.coords t) = false) t ⟨h0, h1, h2, h3⟩
/-- At the points of case B the printed configuration (`Cfg.idle`) calls output 8 idle: the case stores nothing into it. -/
theorem idleAt0_8_B : ∀ t : Fin cfg0.N, cond0_0 (grid0.coords t) → cond0_1 (grid0.coords t) → ¬cond0_2 (grid0.coords t) → ¬cond0_3 (grid0.coords t) → cfg0.idle 8 (grid0.coords t) = true :=
  fun t h0 h1 h2 h3 => (by decide +kernel : ∀ t : Fin cfg0.N, conds0_B (grid0.coords t) → cfg0.idle 8 (grid0.coords t) = true) t ⟨h0, h1, h2, h3⟩
/-- At the points of case B the pipeline does not write output 8's block back. -/
theorem noFlush0_8_B : ∀ t : Fin cfg0.N, cond0_0 (grid0.coords t) → cond0_1 (grid0.coords t) → ¬cond0_2 (grid0.coords t) → ¬cond0_3 (grid0.coords t) → (cfg0.win 8).flush t = false :=
  fun t h0 h1 h2 h3 => (by decide +kernel : ∀ t : Fin cfg0.N, conds0_B (grid0.coords t) → (cfg0.win 8).flush t = false) t ⟨h0, h1, h2, h3⟩
/-- At the points of case C the printed configuration (`Cfg.idle`) calls output 8 live: the case stores into it. -/
theorem liveAt0_8_C : ∀ t : Fin cfg0.N, ¬cond0_0 (grid0.coords t) → ¬cond0_1 (grid0.coords t) → cond0_2 (grid0.coords t) → cond0_3 (grid0.coords t) → cfg0.idle 8 (grid0.coords t) = false :=
  fun t h0 h1 h2 h3 => (by decide +kernel : ∀ t : Fin cfg0.N, conds0_C (grid0.coords t) → cfg0.idle 8 (grid0.coords t) = false) t ⟨h0, h1, h2, h3⟩
/-- At the points of case D the printed configuration (`Cfg.idle`) calls output 8 idle: the case stores nothing into it. -/
theorem idleAt0_8_D : ∀ t : Fin cfg0.N, ¬cond0_0 (grid0.coords t) → cond0_1 (grid0.coords t) → ¬cond0_2 (grid0.coords t) → ¬cond0_3 (grid0.coords t) → cfg0.idle 8 (grid0.coords t) = true :=
  fun t h0 h1 h2 h3 => (by decide +kernel : ∀ t : Fin cfg0.N, conds0_D (grid0.coords t) → cfg0.idle 8 (grid0.coords t) = true) t ⟨h0, h1, h2, h3⟩
/-- At the points of case D the pipeline does not write output 8's block back. -/
theorem noFlush0_8_D : ∀ t : Fin cfg0.N, ¬cond0_0 (grid0.coords t) → cond0_1 (grid0.coords t) → ¬cond0_2 (grid0.coords t) → ¬cond0_3 (grid0.coords t) → (cfg0.win 8).flush t = false :=
  fun t h0 h1 h2 h3 => (by decide +kernel : ∀ t : Fin cfg0.N, conds0_D (grid0.coords t) → (cfg0.win 8).flush t = false) t ⟨h0, h1, h2, h3⟩

/-! ## The kernel body on any staging memrefs: a subtype the run finds -/

/-- One staging buffer of output window 7, through which its contents are stated (`View.read_writes_of_cover`: the
    choice does not matter). -/
abbrev VO0_7 : View sig .tc .vmem S8x64x512 .bf16 := (Memref.whole cc0_stg7_0 : Memref sig .tc .vmem S8x64x512 .bf16).view
/-- One staging buffer of output window 8, through which its contents are stated (`View.read_writes_of_cover`: the
    choice does not matter). -/
abbrev VO0_8 : View sig .tc .vmem S8x1x512 .f32 := (Memref.whole cc0_stg8_0 : Memref sig .tc .vmem S8x1x512 .f32).view
/-- Each window's current staging memref at point `t`, spelled as the pipeline passes it (`bodyAt0`), and its wholeness. -/
abbrev ms0_0 (t : Fin cfg0.N) : Memref sig .tc .vmem S8x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x64x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x64x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x64x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x1x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S8x128x512 .f32 := Memref.whole cc0_scratch0
/-- The scratch `arg11` the kernel carries between points, as a view: what it holds is stated through it. -/
abbrev VS0_0 : View sig .tc .vmem S8x128x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.DqI.RunA.lean ====
module

public import proofs.«01_k».proof.Proof.DqI.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1072000 in
/-- What the body's stores leave in each output's staging memref, as pieces (last first) IN CASE A (`scf.if` 0 taken, `scf.if` 1 not taken, `scf.if` 2 taken, `scf.if` 3 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole) (hc0 : cond0_0 i) (hc1 : ¬cond0_1 i) (hc2 : cond0_2 i) (hc3 : cond0_3 i)
    (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32) :
    Σ' (L7 : List (View.Piece (Elt F) S8x64x512 .bf16)), Σ' (L8 : List (View.Piece (Elt F) S8x1x512 .f32)), { LS0 : List (View.Piece (Elt F) S8x128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_fox_bwd_q i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_fox_bwd_q_eq_skeleton]; unfold cc0_fox_bwd_q_skel
    simp only [k0_part1_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.KernelIdeal.Gen

end
-- ==== Proof.DqI.RunB.lean ====
module

public import proofs.«01_k».proof.Proof.DqI.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 taken, `scf.if` 1 taken, `scf.if` 2 not taken, `scf.if` 3 not taken: points 1, 3, … 28: 7 of 36), WITH the
    proof that on whole staging memrefs — the inputs' at their contents, the outputs it leaves idle (7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole) (hc0 : cond0_0 i) (hc1 : cond0_1 i) (hc2 : ¬cond0_2 i) (hc3 : ¬cond0_3 i)
    (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32) :
    Σ' (L7 : List (View.Piece (Elt F) S8x64x512 .bf16)), Σ' (L8 : List (View.Piece (Elt F) S8x1x512 .f32)), { LS0 : List (View.Piece (Elt F) S8x128x512 .f32) //
      ∀ (xi7 : Vec F S8x64x512 .bf16) (xi8 : Vec F S8x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0_fox_bwd_q i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc0_fox_bwd_q_eq_skeleton]; unfold cc0_fox_bwd_q_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Gen

end
-- ==== Proof.DqI.RunC.lean ====
module

public import proofs.«01_k».proof.Proof.DqI.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 taken: points 2, 5, … 35: 7 of 36), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole) (hc0 : ¬cond0_0 i) (hc1 : ¬cond0_1 i) (hc2 : cond0_2 i) (hc3 : cond0_3 i)
    (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32) (xs0 : Vec F S8x128x512 .f32) :
    Σ' (L7 : List (View.Piece (Elt F) S8x64x512 .bf16)), Σ' (L8 : List (View.Piece (Elt F) S8x1x512 .f32)), { LS0 : List (View.Piece (Elt F) S8x128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_fox_bwd_q i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_fox_bwd_q_eq_skeleton]; unfold cc0_fox_bwd_q_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.KernelIdeal.Gen

end
-- ==== Proof.DqI.RunD.lean ====
module

public import proofs.«01_k».proof.Proof.DqI.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 not taken, `scf.if` 3 not taken: points 4, 7, … 34: 21 of 36), WITH the
    proof that on whole staging memrefs — the inputs' at their contents, the outputs it leaves idle (7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole) (hc0 : ¬cond0_0 i) (hc1 : cond0_1 i) (hc2 : ¬cond0_2 i) (hc3 : ¬cond0_3 i)
    (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32) (xs0 : Vec F S8x128x512 .f32) :
    Σ' (L7 : List (View.Piece (Elt F) S8x64x512 .bf16)), Σ' (L8 : List (View.Piece (Elt F) S8x1x512 .f32)), { LS0 : List (View.Piece (Elt F) S8x128x512 .f32) //
      ∀ (xi7 : Vec F S8x64x512 .bf16) (xi8 : Vec F S8x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0_fox_bwd_q i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc0_fox_bwd_q_eq_skeleton]; unfold cc0_fox_bwd_q_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Gen

end
-- ==== Proof.DqI.Frame.lean ====
module

public import proofs.«01_k».proof.Proof.DqI.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole)

section
variable (hc0 : cond0_0 i) (hc1 : ¬cond0_1 i) (hc2 : cond0_2 i) (hc3 : cond0_3 i)
  (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32)

/-- Case A's pieces for output 7 tile its block (8 stores of `S1x64x512`, checked by the kernel's evaluation: Lib/Ring.lean `Piece.tiledL`, linear in the pieces, through a loop's `@[irreducible]` trip theorem too), so they cover it. -/
theorem cover0_A_7 (y : S8x64x512.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).1 S1x64x512.size (by sl_kernel_rfl) y

/-- What case A leaves in output 7's staging buffer: its pieces read back over junk. -/
def out0_A_7 : Vec F S8x64x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).1)

/-- Case A's pieces for output 8 tile its block (8 stores of `S1x1x512`, checked by the kernel's evaluation: Lib/Ring.lean `Piece.tiledL`, linear in the pieces, through a loop's `@[irreducible]` trip theorem too), so they cover it. -/
theorem cover0_A_8 (y : S8x1x512.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).2.1 S1x1x512.size (by sl_kernel_rfl) y

/-- What case A leaves in output 8's staging buffer: its pieces read back over junk. -/
def out0_A_8 : Vec F S8x1x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).2.1)

/-- Case A's pieces for scratch `arg11`, which the kernel carries between points, cover it: 16 pieces of `S1x128x512` tiling it (Lib/Ring.lean `Piece.tiledL`). -/
theorem scover0_A_0 (y : S8x128x512.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).2.2.1 S1x128x512.size (by sl_kernel_rfl) y

/-- What case A leaves in scratch `arg11`: its pieces read back over junk. -/
def sout0_A_0 : Vec F S8x128x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 hc3 x0 x1 x2 x3 x4 x5 x6).2.2.1)

end

section
variable (hc0 : cond0_0 i) (hc1 : cond0_1 i) (hc2 : ¬cond0_2 i) (hc3 : ¬cond0_3 i)
  (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32)

/-- Case B stores nothing into output 7 (the window is idle at its points and not written back there):
    no pieces — a placeholder (junk read back) that nothing consults, since at these points the window is neither
    written back nor read at the next point (Lib/Pipeline.lean "Idle points"). -/
def out0_B_7 : Vec F S8x64x512 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 x6).1)

/-- Case B stores nothing into output 8 (the window is idle at its points and not written back there):
    no pieces — a placeholder (junk read back) that nothing consults, since at these points the window is neither
    written back nor read at the next point (Lib/Pipeline.lean "Idle points"). -/
def out0_B_8 : Vec F S8x1x512 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 x6).2.1)

/-- Case B's pieces for scratch `arg11`, which the kernel carries between points, cover it: 16 pieces of `S1x128x512` tiling it (Lib/Ring.lean `Piece.tiledL`). -/
theorem scover0_B_0 (y : S8x128x512.Idx) :
    ∃ pc ∈ (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 x6).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 x6).2.2.1 S1x128x512.size (by sl_kernel_rfl) y

/-- What case B leaves in scratch `arg11`: its pieces read back over junk. -/
def sout0_B_0 : Vec F S8x128x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 x6).2.2.1)

end

section
variable (hc0 : ¬cond0_0 i) (hc1 : ¬cond0_1 i) (hc2 : cond0_2 i) (hc3 : cond0_3 i)
  (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32)

/-- Case C's pieces for output 7 tile its block (8 stores of `S1x64x512`, checked by the kernel's evaluation: Lib/Ring.lean `Piece.tiledL`, linear in the pieces, through a loop's `@[irreducible]` trip theorem too), so they cover it. -/
theorem cover0_C_7 (xs0 : Vec F S8x128x512 .f32) (y : S8x64x512.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).1 S1x64x512.size (by sl_kernel_rfl) y

/-- What case C leaves in output 7's staging buffer: its pieces read back over junk. -/
def out0_C_7 (xs0 : Vec F S8x128x512 .f32) : Vec F S8x64x512 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).1)

/-- Case C's pieces for output 8 tile its block (8 stores of `S1x1x512`, checked by the kernel's evaluation: Lib/Ring.lean `Piece.tiledL`, linear in the pieces, through a loop's `@[irreducible]` trip theorem too), so they cover it. -/
theorem cover0_C_8 (xs0 : Vec F S8x128x512 .f32) (y : S8x1x512.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).2.1 S1x1x512.size (by sl_kernel_rfl) y

/-- What case C leaves in output 8's staging buffer: its pieces read back over junk. -/
def out0_C_8 (xs0 : Vec F S8x128x512 .f32) : Vec F S8x1x512 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).2.1)

/-- Case C's pieces for scratch `arg11`, which the kernel carries between points, cover it: 8 pieces of `S1x128x512` tiling it (Lib/Ring.lean `Piece.tiledL`). -/
theorem scover0_C_0 (xs0 : Vec F S8x128x512 .f32) (y : S8x128x512.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).2.2.1 S1x128x512.size (by sl_kernel_rfl) y

/-- What case C leaves in scratch `arg11`: its pieces read back over junk. -/
def sout0_C_0 (xs0 : Vec F S8x128x512 .f32) : Vec F S8x128x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 x6 xs0).2.2.1)

end

section
variable (hc0 : ¬cond0_0 i) (hc1 : cond0_1 i) (hc2 : ¬cond0_2 i) (hc3 : ¬cond0_3 i)
  (x0 : Vec F S8x512x128 .bf16) (x1 : Vec F S8x512x128 .bf16) (x2 : Vec F S8x128x512 .bf16) (x3 : Vec F S8x512x64 .bf16) (x4 : Vec F S8x64x512 .bf16) (x5 : Vec F S8x64x512 .f32) (x6 : Vec F S8x1x512 .f32)

/-- Case D stores nothing into output 7 (the window is idle at its points and not written back there):
    no pieces — a placeholder (junk read back) that nothing consults, since at these points the window is neither
    written back nor read at the next point (Lib/Pipeline.lean "Idle points"). -/
def out0_D_7 (xs0 : Vec F S8x128x512 .f32) : Vec F S8x64x512 .bf16 :=
  VO0_7.read (Elt F) (VO0_7.writes (Elt F) VO0_7.junk (kernelRun0_D c i arg2 harg2 arg3 harg3 arg4 harg4 arg5 harg5 arg6 harg6 arg7 harg7 arg8 harg8 arg9 harg9 arg10 harg10 arg11 harg11 hc0 hc1 hc2 hc3 x0 x1 x2 x3 x4 x5 x6 xs0).1)

/-- Case D stores nothing into output 8 (the window is idle at its points and not written back there):
    no pieces — a placeholder (junk read back) that nothing consults, since at these points the window is neither
    written back nor read at the next point (Lib/Pipeline.lean "Idle points"). -/
def out0_D_8 (xs0 : Vec F S8x128x512 .f32) : Vec F S8x1x512 .f32 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 hc0 hc1 hc2 hc3 x0 x1 x2 x3 x4 x5 x6 xs0).2.1)

/-- Case D's pieces for scratch `arg11`, which the kernel carries between points, cover it: 8 pieces of `S1x128x512` tiling it (Lib/Ring.lean `Piece.tiledL`). -/
theorem scover0_D_0 (xs0 : Vec F S8x128x512 .f32) (y : S8x128x512.Idx) :
    ∃ pc ∈ (kernelRun0_D c i arg2 harg2 arg3 harg3 arg4 harg4 arg5 harg5 arg6 harg6 arg7 harg7 arg8 harg8 arg9 harg9 arg10 harg10 arg11 harg11 hc0 hc1 hc2 hc3 x0 x1 x2 x3 x4 x5 x6 xs0).2.2.1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 hc3 x0 x1 x2 x3 x4 x5 x6 xs0).2.2.1 S1x128x512.size (by sl_kernel_rfl) y

/-- What case D leaves in scratch `arg11`: its pieces read back over junk. -/
def sout0_D_0 (xs0 : Vec F S8x128x512 .f32) : Vec F S8x128x512 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 hc0 hc1 hc2 hc3 x0 x1 x2 x3 x4 x5 x6 xs0).2.2.1)

end

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x64x512 .bf16 × Vec F S8x1x512 .f32 × Vec F S8x128x512 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (by (try dsimp only); omega)) (fun h => (fun h => by (try dsimp only at h); omega) ((hcond0_1 ⟨0, hn⟩).mp h)) ((hcond0_2 ⟨0, hn⟩).mpr (by (try dsimp only); omega)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (by (try dsimp only); omega)) (fun h => (fun h => by (try dsimp only at h); omega) ((hcond0_1 ⟨0, hn⟩).mp h)) ((hcond0_2 ⟨0, hn⟩).mpr (by (try dsimp only); omega)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (by (try dsimp only); omega)) (fun h => (fun h => by (try dsimp only at h); omega) ((hcond0_1 ⟨0, hn⟩).mp h)) ((hcond0_2 ⟨0, hn⟩).mpr (by (try dsimp only); omega)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : ((n + 1) % 36 = 0 ∨ (n + 1) % 36 = 1 ∨ (n + 1) % 36 = 3 ∨ (n + 1) % 36 = 6 ∨ (n + 1) % 36 = 10 ∨ (n + 1) % 36 = 15 ∨ (n + 1) % 36 = 21 ∨ (n + 1) % 36 = 28) then
      if h1 : ¬((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
        if h2 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
          False.elim (by have hN : n + 1 < 36 := lt_of_lt_of_eq hn (show cfg0.N = 36 from N_0); omega)
        else
          if h3 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
            False.elim (by have hN : n + 1 < 36 := lt_of_lt_of_eq hn (show cfg0.N = 36 from N_0); omega)
          else
            (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
      else
        if h2 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
          if h3 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
            (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
          else
            False.elim (by have hN : n + 1 < 36 := lt_of_lt_of_eq hn (show cfg0.N = 36 from N_0); omega)
        else
          False.elim (by have hN : n + 1 < 36 := lt_of_lt_of_eq hn (show cfg0.N = 36 from N_0); omega)
    else
      if h1 : ¬((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
        if h2 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
          False.elim (by have hN : n + 1 < 36 := lt_of_lt_of_eq hn (show cfg0.N = 36 from N_0); omega)
        else
          if h3 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
            False.elim (by have hN : n + 1 < 36 := lt_of_lt_of_eq hn (show cfg0.N = 36 from N_0); omega)
          else
            (out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2)
      else
        if h2 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
          if h3 : ((n + 1) % 36 = 0 ∨ (n + 1) % 36 = 2 ∨ (n + 1) % 36 = 5 ∨ (n + 1) % 36 = 9 ∨ (n + 1) % 36 = 14 ∨ (n + 1) % 36 = 20 ∨ (n + 1) % 36 = 27 ∨ (n + 1) % 36 = 35) then
            (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2)
          else
            False.elim (by have hN : n + 1 < 36 := lt_of_lt_of_eq hn (show cfg0.N = 36 from N_0); omega)
        else
          False.elim (by have hN : n + 1 < 36 := lt_of_lt_of_eq hn (show cfg0.N = 36 from N_0); omega)

/-- `outsAt0` at a point of case A: that case's contents. -/
theorem outsAt0_A (c : Dev nD) (t : Fin cfg0.N) (h0 : (t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : (t.val % 36 = 0 ∨ t.val % 36 = 2 ∨ t.val % 36 = 5 ∨ t.val % 36 = 9 ∨ t.val % 36 = 14 ∨ t.val % 36 = 20 ∨ t.val % 36 = 27 ∨ t.val % 36 = 35)) (h3 : (t.val % 36 = 0 ∨ t.val % 36 = 2 ∨ t.val % 36 = 5 ∨ t.val % 36 = 9 ∨ t.val % 36 = 14 ∨ t.val % 36 = 20 ∨ t.val % 36 = 27 ∨ t.val % 36 = 35)) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans ((dif_pos h2).trans ((dif_pos h3).trans rfl)))

/-- `outsAt0` at a point of case B: that case's contents. -/
theorem outsAt0_B (c : Dev nD) (t : Fin cfg0.N) (h0 : (t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h3 : ¬(t.val % 36 = 0 ∨ t.val % 36 = 2 ∨ t.val % 36 = 5 ∨ t.val % 36 = 9 ∨ t.val % 36 = 14 ∨ t.val % 36 = 20 ∨ t.val % 36 = 27 ∨ t.val % 36 = 35)) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t)) := by
  obtain ⟨n, hn⟩ := t
  cases n with
  | zero => exact (by exfalso; (try dsimp only at h1); exact by omega)
  | succ n => exact (dif_pos h0).trans ((dif_pos h1).trans ((dif_neg h2).trans ((dif_neg h3).trans rfl)))

/-- `outsAt0` at a point of case C: that case's contents, over what the point before left. -/
theorem outsAt0_C (c : Dev nD) (t : Fin cfg0.N) (h0 : ¬(t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : (t.val % 36 = 0 ∨ t.val % 36 = 2 ∨ t.val % 36 = 5 ∨ t.val % 36 = 9 ∨ t.val % 36 = 14 ∨ t.val % 36 = 20 ∨ t.val % 36 = 27 ∨ t.val % 36 = 35)) (h3 : (t.val % 36 = 0 ∨ t.val % 36 = 2 ∨ t.val % 36 = 5 ∨ t.val % 36 = 9 ∨ t.val % 36 = 14 ∨ t.val % 36 = 20 ∨ t.val % 36 = 27 ∨ t.val % 36 = 35)) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact by omega)
  | succ n => exact (dif_neg h0).trans ((dif_neg h1).trans ((dif_pos h2).trans ((dif_pos h3).trans rfl)))

/-- `outsAt0` at a point of case D: that case's contents, over what the point before left. -/
theorem outsAt0_D (c : Dev nD) (t : Fin cfg0.N) (h0 : ¬(t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h3 : ¬(t.val % 36 = 0 ∨ t.val % 36 = 2 ∨ t.val % 36 = 5 ∨ t.val % 36 = 9 ∨ t.val % 36 = 14 ∨ t.val % 36 = 20 ∨ t.val % 36 = 27 ∨ t.val % 36 = 35)) :
    outsAt0 m c t.val t.isLt = (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact by omega)
  | succ n => exact (dif_neg h0).trans ((dif_pos h1).trans ((dif_neg h2).trans ((dif_neg h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  by_cases h0 : (t.val % 36 = 0 ∨ t.val % 36 = 1 ∨ t.val % 36 = 3 ∨ t.val % 36 = 6 ∨ t.val % 36 = 10 ∨ t.val % 36 = 15 ∨ t.val % 36 = 21 ∨ t.val % 36 = 28)
  · by_cases h1 : ¬(t.val % 36 = 0 ∨ t.val % 36 = 2 ∨ t.val % 36 = 5 ∨ t.val % 36 = 9 ∨ t.val % 36 = 14 ∨ t.val % 36 = 20 ∨ t.val % 36 = 27 ∨ t.val % 36 = 35)
    · by_cases h2 : (t.val % 36 = 0 ∨ t.val % 36 = 2 ∨ t.val % 36 = 5 ∨ t.val % 36 = 9 ∨ t.val % 36 = 14 ∨ t.val % 36 = 20 ∨ t.val % 36 = 27 ∨ t.val % 36 = 35)
      · exfalso; omega
      · by_cases h3 : (t.val % 36 = 0 ∨ t.val % 36 = 2 ∨ t.val % 36 = 5 ∨ t.val % 36 = 9 ∨ t.val % 36 = 14 ∨ t.val % 36 = 20 ∨ t.val % 36 = 27 ∨ t.val % 36 = 35)
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [Dat.leavesExact_idle (dats m 0 c) 7 t (idleAt0_7_B t ((hcond0_0 t).mpr h0) ((hcond0_1 t).mpr h1) (fun h => h2 ((hcond0_2 t).mp h)) (fun h => h3 ((hcond0_3 t).mp h))) (noFlush0_7_B t ((hcond0_0 t).mpr h0) ((hcond0_1 t).mpr h1) (fun h => h2 ((hcond0_2 t).mp h)) (fun h => h3 ((hcond0_3 t).mp h)))]
          rw [Dat.leavesExact_idle (dats m 0 c) 8 t (idleAt0_8_B t ((hcond0_0 t).mpr h0) ((hcond0_1 t).mpr h1) (fun h => h2 ((hcond0_2 t).mp h)) (fun h => h3 ((hcond0_3 t).mp h))) (noFlush0_8_B t ((hcond0_0 t).mpr h0) ((hcond0_1 t).mpr h1) (fun h => h2 ((hcond0_2 t).mp h)) (fun h => h3 ((hcond0_3 t).mp h)))]
          by_cases hz : t.val = 0
          · exfalso; have hN : t.val < 36 := lt_of_lt_of_eq t.isLt (show cfg0.N = 36 from N_0); omega
          · rw [PhiS_castSucc m c t, PhiS_pos m c _ _ hz]
            rw [outsAt0_B m c t h0 h1 h2 h3]
            unfold sout0_B_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_B c (grid0.coords t) _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t)).2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [HS0]; · iexists _; iexact HS0
            iintro ⟨H0, H1, H2, H3, H4, H5, H6, H7, H8, ⟨%es0, HS0⟩⟩
            isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            iexists _; iexact H8
    · by_cases h2 : (t.val % 36 = 0 ∨ t.val % 36 = 2 ∨ t.val % 36 = 5 ∨ t.val % 36 = 9 ∨ t.val % 36 = 14 ∨ t.val % 36 = 20 ∨ t.val % 36 = 27 ∨ t.val % 36 = 35)
      · by_cases h3 : (t.val % 36 = 0 ∨ t.val % 36 = 2 ∨ t.val % 36 = 5 ∨ t.val % 36 = 9 ∨ t.val % 36 = 14 ∨ t.val % 36 = 20 ∨ t.val % 36 = 27 ∨ t.val % 36 = 35)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h)) ((hcond0_2 t).mpr h2) ((hcond0_3 t).mpr h3)], after0_7]
          rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h)) ((hcond0_2 t).mpr h2) ((hcond0_3 t).mpr h3)], after0_8]
          by_cases hz : t.val = 0
          · rw [PhiS_castSucc m c t, PhiS_zero m c _ _ hz, PhiA0_eq]
            rw [outsAt0_A m c t h0 h1 h2 h3]
            unfold out0_A_7 out0_A_8 sout0_A_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_A c (grid0.coords t) _ _ _ _ _ _ _ _ _ _ _ _ _ _ _ _ _ _ _ _ ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t)).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [H8]; · iexists _; iexact H8
            isplitl [HS0]; · iexact HS0
            iintro ⟨H0, H1, H2, H3, H4, H5, H6, ⟨%e7, H7⟩, ⟨%e8, H8⟩, ⟨%es0, HS0⟩⟩
            isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]
            · unfold owns; iexists _; isplitr
              swap; · iexact H7
              ipureintro; exact View.read_writes_of_cover _ _ _ _ _ (cover0_A_7 c _ _ _ _ _ _ _ _ _ _ _ _ _ _ _ _ _ _ _ _ _ _ _ _ _ _ _ _ _ _ _ _)
            unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _)
          · exfalso; have hN : t.val < 36 := lt_of_lt_of_eq t.isLt (show cfg0.N = 36 from N_0); omega
        · exfalso; omega
      · exfalso; omega
  · by_cases h1 : ¬(t.val % 36 = 0 ∨ t.val % 36 = 2 ∨ t.val % 36 = 5 ∨ t.val % 36 = 9 ∨ t.val % 36 = 14 ∨ t.val % 36 = 20 ∨ t.val % 36 = 27 ∨ t.val % 36 = 35)
    · by_cases h2 : (t.val % 36 = 0 ∨ t.val % 36 = 2 ∨ t.val % 36 = 5 ∨ t.val % 36 = 9 ∨ t.val % 36 = 14 ∨ t.val % 36 = 20 ∨ t.val % 36 = 27 ∨ t.val % 36 = 35)
      · exfalso; omega
      · by_cases h3 : (t.val % 36 = 0 ∨ t.val % 36 = 2 ∨ t.val % 36 = 5 ∨ t.val % 36 = 9 ∨ t.val % 36 = 14 ∨ t.val % 36 = 20 ∨ t.val % 36 = 27 ∨ t.val % 36 = 35)
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [Dat.leavesExact_idle (dats m 0 c) 7 t (idleAt0_7_D t (fun h => h0 ((hcond0_0 t).mp h)) ((hcond0_1 t).mpr h1) (fun h => h2 ((hcond0_2 t).mp h)) (fun h => h3 ((hcond0_3 t).mp h))) (noFlush0_7_D t (fun h => h0 ((hcond0_0 t).mp h)) ((hcond0_1 t).mpr h1) (fun h => h2 ((hcond0_2 t).mp h)) (fun h => h3 ((hcond0_3 t).mp h)))]
          rw [Dat.leavesExact_idle (dats m 0 c) 8 t (idleAt0_8_D t (fun h => h0 ((hcond0_0 t).mp h)) ((hcond0_1 t).mpr h1) (fun h => h2 ((hcond0_2 t).mp h)) (fun h => h3 ((hcond0_3 t).mp h))) (noFlush0_8_D t (fun h => h0 ((hcond0_0 t).mp h)) ((hcond0_1 t).mpr h1) (fun h => h2 ((hcond0_2 t).mp h)) (fun h => h3 ((hcond0_3 t).mp h)))]
          by_cases hz : t.val = 0
          · exfalso; have hN : t.val < 36 := lt_of_lt_of_eq t.isLt (show cfg0.N = 36 from N_0); omega
          · rw [PhiS_castSucc m c t, PhiS_pos m c _ _ hz]
            rw [outsAt0_D m c t h0 h1 h2 h3]
            unfold sout0_D_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_D c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) _).2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [HS0]; · iexact HS0
            iintro ⟨H0, H1, H2, H3, H4, H5, H6, H7, H8, ⟨%es0, HS0⟩⟩
            isplitl [HS0 Hg]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            iexists _; iexact H8
    · by_cases h2 : (t.val % 36 = 0 ∨ t.val % 36 = 2 ∨ t.val % 36 = 5 ∨ t.val % 36 = 9 ∨ t.val % 36 = 14 ∨ t.val % 36 = 20 ∨ t.val % 36 = 27 ∨ t.val % 36 = 35)
      · by_cases h3 : (t.val % 36 = 0 ∨ t.val % 36 = 2 ∨ t.val % 36 = 5 ∨ t.val % 36 = 9 ∨ t.val % 36 = 14 ∨ t.val % 36 = 20 ∨ t.val % 36 = 27 ∨ t.val % 36 = 35)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2) ((hcond0_3 t).mpr h3)], after0_7]
          rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2) ((hcond0_3 t).mpr h3)], after0_8]
          by_cases hz : t.val = 0
          · exfalso; have hN : t.val < 36 := lt_of_lt_of_eq t.isLt (show cfg0.N = 36 from N_0); omega
          · rw [PhiS_castSucc m c t, PhiS_pos m c _ _ hz]
            rw [outsAt0_C m c t h0 h1 h2 h3]
            unfold out0_C_7 out0_C_8 sout0_C_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [H8]; · iexists _; iexact H8
            isplitl [HS0]; · iexact HS0
            iintro ⟨H0, H1, H2, H3, H4, H5, H6, ⟨%e7, H7⟩, ⟨%e8, H8⟩, ⟨%es0, HS0⟩⟩
            isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]
            · unfold owns; iexists _; isplitr
              swap; · iexact H7
              ipureintro; exact View.read_writes_of_cover _ _ _ _ _ (cover0_C_7 c _ _ _ _ _ _ _ _ _ _ _ _ _ _ _ _ _ _ _ _ _ _ _ _ _ _ _ _ _ _ _ _ _)
            unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _)
        · exfalso; omega
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.DqI.Value.lean ====
module

public import proofs.«01_k».proof.Proof.DqI.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : (t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : (t.val % 36 = 0 ∨ t.val % 36 = 2 ∨ t.val % 36 = 5 ∨ t.val % 36 = 9 ∨ t.val % 36 = 14 ∨ t.val % 36 = 20 ∨ t.val % 36 = 27 ∨ t.val % 36 = 35)) (h3 : (t.val % 36 = 0 ∨ t.val % 36 = 2 ∨ t.val % 36 = 5 ∨ t.val % 36 = 9 ∨ t.val % 36 = 14 ∨ t.val % 36 = 20 ∨ t.val % 36 = 27 ∨ t.val % 36 = 35)) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t)) := by
  simp only [flushed7, outsAt0_A m c t h0 h1 h2 h3]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : (t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h3 : ¬(t.val % 36 = 0 ∨ t.val % 36 = 2 ∨ t.val % 36 = 5 ∨ t.val % 36 = 9 ∨ t.val % 36 = 14 ∨ t.val % 36 = 20 ∨ t.val % 36 = 27 ∨ t.val % 36 = 35)) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t)) := by
  simp only [flushed7, outsAt0_B m c t h0 h1 h2 h3]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬(t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : (t.val % 36 = 0 ∨ t.val % 36 = 2 ∨ t.val % 36 = 5 ∨ t.val % 36 = 9 ∨ t.val % 36 = 14 ∨ t.val % 36 = 20 ∨ t.val % 36 = 27 ∨ t.val % 36 = 35)) (h3 : (t.val % 36 = 0 ∨ t.val % 36 = 2 ∨ t.val % 36 = 5 ∨ t.val % 36 = 9 ∨ t.val % 36 = 14 ∨ t.val % 36 = 20 ∨ t.val % 36 = 27 ∨ t.val % 36 = 35)) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  simp only [flushed7, outsAt0_C m c t h0 h1 h2 h3]

/-- … so at a point where case D runs, what its write-back would write is that case's NAMED TERM for the window (`Gen.out0_D_7`: the pieces
    its run found, read back) at the point's memrefs and input blocks, and for an output the case reads back what the point before left (`Gen.outsAt0` at `t - 1`) — by the frame's rewriting lemma for the case. -/
theorem flushed7_D (c : Dev nD) (t : Fin cfg0.N) (h0 : ¬(t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h3 : ¬(t.val % 36 = 0 ∨ t.val % 36 = 2 ∨ t.val % 36 = 5 ∨ t.val % 36 = 9 ∨ t.val % 36 = 14 ∨ t.val % 36 = 20 ∨ t.val % 36 = 27 ∨ t.val % 36 = 35)) :
    (dats m 0 c).flushed 7 t = (cfg0.win 7).cut (grid0.coords t) (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  simp only [flushed7, outsAt0_D m c t h0 h1 h2 h3]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S8x64x4096.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : (t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : (t.val % 36 = 0 ∨ t.val % 36 = 2 ∨ t.val % 36 = 5 ∨ t.val % 36 = 9 ∨ t.val % 36 = 14 ∨ t.val % 36 = 20 ∨ t.val % 36 = 27 ∨ t.val % 36 = 35)) (h3 : (t.val % 36 = 0 ∨ t.val % 36 = 2 ∨ t.val % 36 = 5 ∨ t.val % 36 = 9 ∨ t.val % 36 = 14 ∨ t.val % 36 = 20 ∨ t.val % 36 = 27 ∨ t.val % 36 = 35)) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t)) := by
  simp only [flushed8, outsAt0_A m c t h0 h1 h2 h3]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : (t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h3 : ¬(t.val % 36 = 0 ∨ t.val % 36 = 2 ∨ t.val % 36 = 5 ∨ t.val % 36 = 9 ∨ t.val % 36 = 14 ∨ t.val % 36 = 20 ∨ t.val % 36 = 27 ∨ t.val % 36 = 35)) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t)) := by
  simp only [flushed8, outsAt0_B m c t h0 h1 h2 h3]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬(t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : (t.val % 36 = 0 ∨ t.val % 36 = 2 ∨ t.val % 36 = 5 ∨ t.val % 36 = 9 ∨ t.val % 36 = 14 ∨ t.val % 36 = 20 ∨ t.val % 36 = 27 ∨ t.val % 36 = 35)) (h3 : (t.val % 36 = 0 ∨ t.val % 36 = 2 ∨ t.val % 36 = 5 ∨ t.val % 36 = 9 ∨ t.val % 36 = 14 ∨ t.val % 36 = 20 ∨ t.val % 36 = 27 ∨ t.val % 36 = 35)) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  simp only [flushed8, outsAt0_C m c t h0 h1 h2 h3]

/-- … so at a point where case D runs, what its write-back would write is that case's NAMED TERM for the window (`Gen.out0_D_8`: the pieces
    its run found, read back) at the point's memrefs and input blocks, and for an output the case reads back what the point before left (`Gen.outsAt0` at `t - 1`) — by the frame's rewriting lemma for the case. -/
theorem flushed8_D (c : Dev nD) (t : Fin cfg0.N) (h0 : ¬(t.val % 36 = 0 ∨ t.val % 36 = 1 ∨ t.val % 36 = 3 ∨ t.val % 36 = 6 ∨ t.val % 36 = 10 ∨ t.val % 36 = 15 ∨ t.val % 36 = 21 ∨ t.val % 36 = 28)) (h1 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h2 : ¬(t.val % 36 = 0 ∨ t.val % 36 = 2 ∨ t.val % 36 = 5 ∨ t.val % 36 = 9 ∨ t.val % 36 = 14 ∨ t.val % 36 = 20 ∨ t.val % 36 = 27 ∨ t.val % 36 = 35)) (h3 : ¬(t.val % 36 = 0 ∨ t.val % 36 = 2 ∨ t.val % 36 = 5 ∨ t.val % 36 = 9 ∨ t.val % 36 = 14 ∨ t.val % 36 = 20 ∨ t.val % 36 = 27 ∨ t.val % 36 = 35)) :
    (dats m 0 c).flushed 8 t = (cfg0.win 8).cut (grid0.coords t) (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  simp only [flushed8, outsAt0_D m c t h0 h1 h2 h3]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S8x1x4096.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v82_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v82_1) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v82_0) = (dats m 0 c).arrAt 7 cfg0.N
      ∧ r.2.mem ((c : Thread nD τ).loc main_v82_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c⟩)
    (run_main m ρ)

end Cert.KernelIdeal.Value

end
-- ==== Proof.Fox.Real.lean ====
/- The causal attention with a decay, over the real numbers, one head: the scores, the softmax weights below the diagonal,
   the gradient of the scores, and the facts about extended reals by which sums, exponentials and quotients of real numbers
   stay real numbers. -/
module

public import Idealize.ShloMosaic.PureOps.Ideal
public import Idealize.ShloMosaic.PureOps.Ideal.Laws

@[expose] public section

noncomputable section

namespace Cert.Fox

open Idealize.ShloMosaic

/-! ## Extended reals that are real numbers -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_div {x y : ℝ} (h : y ≠ 0) : Ideal.div (x : EReal) (y : EReal) = ((x / y : ℝ) : EReal) := by
  rw [Ideal.div_coe h, ← EReal.coe_mul, mul_one_div]

theorem exp_bot_sub (r : ℝ) : Ideal.exp ((⊥ : EReal) - (r : EReal)) = ((0 : ℝ) : EReal) := by
  rw [EReal.bot_sub]; rfl

theorem exp_coe_sub (x r : ℝ) : Ideal.exp ((x : EReal) - (r : EReal)) = ((Real.exp (x - r) : ℝ) : EReal) := by
  rw [← EReal.coe_sub]; rfl

theorem log_coe_pos {x : ℝ} (h : 0 < x) : Ideal.log (x : EReal) = ((Real.log x : ℝ) : EReal) := by
  rw [Ideal.log_coe, if_neg (not_le.mpr h)]

theorem ofBits_eighth : Ideal.ofBits .f32 0x3E000000#32 = ((1 / 8 : ℝ) : EReal) := by
  simp [Ideal.ofBits, Ideal.ieee]
  rw [← EReal.coe_mul]; norm_num

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

/-- The greatest of finitely many values below `⊤`, one of them a real number, is a real number. -/
theorem fold_max_coe {n : ℕ} (f : Fin n → EReal) (ht : ∀ j, f j < ⊤) (j : Fin n) (x : ℝ) (hj : f j = x) :
    Finset.univ.fold max (⊥ : EReal) f = ((Finset.univ.fold max (⊥ : EReal) f).toReal : EReal) := by
  refine (EReal.coe_toReal (ne_of_lt ?_) (ne_of_gt ?_)).symm
  · exact (Finset.fold_max_lt (s := Finset.univ) (f := f) (b := (⊥ : EReal)) ⊤).mpr ⟨bot_lt_top, fun k _ => ht k⟩
  · exact lt_of_lt_of_le (by rw [hj]; exact EReal.bot_lt_coe x) ((Finset.le_fold_max (f j)).mpr (.inr ⟨j, Finset.mem_univ j, le_rfl⟩))

/-! ## One head -/

variable {n d : ℕ}

/-- The score of query `i` against key `j`. -/
def score (Q K : Fin n → Fin d → ℝ) (C C' : Fin n → ℝ) (i j : Fin n) : ℝ := (∑ e, Q i e * K j e) * (1 / 8) + C i - C' j

/-- The weight of key `j` for query `i` before it is divided by the sum: none above the diagonal. -/
def weight (s : Fin n → Fin n → ℝ) (M : Fin n → ℝ) (i j : Fin n) : ℝ := if j ≤ i then Real.exp (s i j - M i) else 0

def total (s : Fin n → Fin n → ℝ) (M : Fin n → ℝ) (i : Fin n) : ℝ := ∑ j, weight s M i j

def prob (s : Fin n → Fin n → ℝ) (M : Fin n → ℝ) (i j : Fin n) : ℝ := weight s M i j / total s M i

/-- The logarithm of the sum of the exponentials of a row's scores. -/
def logTotal (s : Fin n → Fin n → ℝ) (M : Fin n → ℝ) (i : Fin n) : ℝ := M i + Real.log (total s M i)

theorem weight_nonneg (s : Fin n → Fin n → ℝ) (M : Fin n → ℝ) (i j : Fin n) : 0 ≤ weight s M i j := by
  unfold weight; split
  · exact (Real.exp_pos _).le
  · exact le_rfl

theorem total_pos (s : Fin n → Fin n → ℝ) (M : Fin n → ℝ) (i : Fin n) : 0 < total s M i :=
  Finset.sum_pos' (fun j _ => weight_nonneg s M i j) ⟨i, Finset.mem_univ i, by
    unfold weight; rw [if_pos le_rfl]; exact Real.exp_pos _⟩

theorem total_ne (s : Fin n → Fin n → ℝ) (M : Fin n → ℝ) (i : Fin n) : total s M i ≠ 0 := (total_pos s M i).ne'

/-- The weight divided by the sum, from the logarithm of the sum. -/
theorem prob_eq (s : Fin n → Fin n → ℝ) (M : Fin n → ℝ) (i j : Fin n) :
    prob s M i j = if j ≤ i then Real.exp (s i j - logTotal s M i) else 0 := by
  unfold prob weight logTotal
  split
  · rw [← sub_sub, Real.exp_sub (s i j - M i), Real.exp_log (total_pos s M i)]
  · exact zero_div _

/-- The output of query `i`. -/
def out (s : Fin n → Fin n → ℝ) (M : Fin n → ℝ) (V : Fin n → Fin d → ℝ) (i : Fin n) (e : Fin d) : ℝ := ∑ j, V j e * prob s M i j

/-- The gradient of the weights: the output's gradient against the values. -/
def dprob (V D : Fin n → Fin d → ℝ) (i j : Fin n) : ℝ := ∑ e, V j e * D i e

/-- The gradient of the scores. -/
def dscore (s : Fin n → Fin n → ℝ) (M : Fin n → ℝ) (V D : Fin n → Fin d → ℝ) (i j : Fin n) : ℝ :=
  prob s M i j * (dprob V D i j - ∑ e, D i e * out s M V i e)

theorem sum_out (s : Fin n → Fin n → ℝ) (M : Fin n → ℝ) (V D : Fin n → Fin d → ℝ) (i : Fin n) :
    ∑ e, D i e * out s M V i e = ∑ j, dprob V D i j * prob s M i j := by
  simp only [out, dprob, Finset.mul_sum, Finset.sum_mul]
  rw [Finset.sum_comm]
  exact Finset.sum_congr rfl fun j _ => Finset.sum_congr rfl fun e _ => by ring

/-- The gradient of the scores as the softmax's derivative is written, quotient by quotient. -/
theorem dscore_eq (s : Fin n → Fin n → ℝ) (M : Fin n → ℝ) (V D : Fin n → Fin d → ℝ) (i j : Fin n) :
    (if j ≤ i then (dprob V D i j / total s M i
        + -(∑ k, dprob V D i k * (1 / (total s M i * total s M i)) * weight s M i k)) * weight s M i j else 0)
      = dscore s M V D i j := by
  have h := total_ne s M i
  have e : ∑ k, dprob V D i k * (1 / (total s M i * total s M i)) * weight s M i k
      = (∑ k, dprob V D i k * prob s M i k) / total s M i := by
    rw [Finset.sum_div]
    exact Finset.sum_congr rfl fun k _ => by unfold prob; field_simp
  unfold dscore
  rw [e, sum_out]
  by_cases hj : j ≤ i
  · rw [if_pos hj]; unfold prob; field_simp; ring
  · rw [if_neg hj]; unfold prob weight; rw [if_neg hj]; simp

theorem dscore_above (s : Fin n → Fin n → ℝ) (M : Fin n → ℝ) (V D : Fin n → Fin d → ℝ) {i j : Fin n} (h : ¬j ≤ i) :
    dscore s M V D i j = 0 := by
  unfold dscore prob weight; rw [if_neg h]; simp

/-- The gradient of query `i`. -/
def dquery (s : Fin n → Fin n → ℝ) (M : Fin n → ℝ) (K V D : Fin n → Fin d → ℝ) (i : Fin n) (e : Fin d) : ℝ :=
  (∑ j, K j e * dscore s M V D i j) * (1 / 8)

/-- The gradient of query `i`'s decay. -/
def ddecay (s : Fin n → Fin n → ℝ) (M : Fin n → ℝ) (V D : Fin n → Fin d → ℝ) (i : Fin n) : ℝ := ∑ j, dscore s M V D i j

end Cert.Fox

end
-- ==== Proof.Fox.Arrays.lean ====
/- The host lines of the attention as functions of the arguments' arrays: the masked scores, the softmax, the output of the
   forward pass and the logarithm of the softmax's sum. Each is read at an index, over the extended reals. -/
module

public import proofs.«01_k».proof.Proof.Gen.KernelIdeal
public import proofs.«01_k».proof.Proof.Fox.Real
public import Idealize.ShloMosaic.Lib.Pointwise
public import Idealize.ShloMosaic.Lib.WordCmp

@[expose] public section

set_option maxRecDepth 16384

noncomputable section

namespace Cert.Fox

open Idealize.ShloMosaic Cert.KernelIdeal Cert.KernelIdeal.Facts₀

/-- Column `e` of head `h` among the 512 columns. -/
abbrev col (h : Fin 8) (e : Fin 64) : Fin 512 := ⟨h.val * 64 + e.val, by omega⟩

/-- Which keys a query sees: those not after it. -/
def mask : IVec S8x4096x4096 1 :=
  broadcastInDim S8x4096x4096 ![1, 2] bcast_S4096x4096_S8x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The masked scores. -/
def logits (q k : FVec Ideal S4096x512 .f32) (c c' : FVec Ideal S4096x8 .f32) : FVec Ideal S8x4096x4096 .f32 :=
  select mask
    (subf
      (addf
        (mulf
          (Host.dotGeneral dot_S4096x8x64_S4096x8x64_S8x4096x4096_2_2_0_0_1_1 none (shapeCast S4096x8x64 q shapeCasts_S4096x512_S4096x8x64)
            (shapeCast S4096x8x64 k shapeCasts_S4096x512_S4096x8x64))
          (broadcastInDim S8x4096x4096 ![] bcast_S_S8x4096x4096 (constant S_ .f32 0x3E000000#32)))
        (broadcastInDim S8x4096x4096 ![0, 1, 2] bcast_S8x4096x1_S8x4096x4096_0_1_2
          (broadcastInDim S8x4096x1 ![0, 1] bcast_S8x4096_S8x4096x1_0_1 (transpose S8x4096 [1, 0] c transposes_S4096x8_S8x4096_1_0))))
      (broadcastInDim S8x4096x4096 ![0, 1, 2] bcast_S8x1x4096_S8x4096x4096_0_1_2
        (broadcastInDim S8x1x4096 ![0, 2] bcast_S8x4096_S8x1x4096_0_2 (transpose S8x4096 [1, 0] c' transposes_S4096x8_S8x4096_1_0))))
    (broadcastInDim S8x4096x4096 ![] bcast_S_S8x4096x4096 (constant S_ .f32 0xFF800000#32))

/-- The greatest score of each row. -/
def rowMax (s : FVec Ideal S8x4096x4096 .f32) : FVec Ideal S8x4096 .f32 :=
  Host.reduce FloatOps.maximumf s (constant S_ .f32 0xFF800000#32) reducesTo_S8x4096x4096_S8x4096_d2 h_S_

/-- The exponentials of the scores less a row's value. -/
def expLess (s : FVec Ideal S8x4096x4096 .f32) (m : FVec Ideal S8x4096 .f32) : FVec Ideal S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 m)))

/-- The sum of each row. -/
def rowSum (s : FVec Ideal S8x4096x4096 .f32) : FVec Ideal S8x4096 .f32 :=
  Host.reduceAdd s (constant S_ .f32 0x00000000#32) reducesTo_S8x4096x4096_S8x4096_d2 h_S_

/-- Rows of columns as heads: `[8, 4096, 64]`. -/
def heads {t : FTy} (x : FVec Ideal S4096x512 t) : FVec Ideal S8x4096x64 t :=
  transpose S8x4096x64 [1, 0, 2] (shapeCast S4096x8x64 x shapeCasts_S4096x512_S4096x8x64) transposes_S4096x8x64_S8x4096x64_1_0_2

/-- A row's value once more, compared with minus infinity. -/
def rowTop (m : FVec Ideal S8x4096 .f32) : FVec Ideal S8x4096 .f32 :=
  maximumf (broadcastInDim S8x4096 ![] bcast_S_S8x4096 (constant S_ .f32 0xFF800000#32)) m

/-- Each row divided by its sum. -/
def normed (x : FVec Ideal S8x4096x4096 .f32) : FVec Ideal S8x4096x4096 .f32 :=
  Host.divf x (broadcastInDim S8x4096x4096 ![0, 1, 2] bcast_S8x4096x1_S8x4096x4096_0_1_2
    (broadcastInDim S8x4096x1 ![0, 1] bcast_S8x4096_S8x4096x1_0_1 (rowSum x)))

/-- The values weighed by `p`, a head's columns along rows: `[8, 64, 4096]`. -/
def attended (p : FVec Ideal S8x4096x4096 .f32) (v : FVec Ideal S4096x512 .f32) : FVec Ideal S8x64x4096 .f32 :=
  let o := Host.dotGeneral dot_S4096x8x64_S8x4096x4096_S8x64x4096_0_2_2_1_1_0 none (shapeCast S4096x8x64 v shapeCasts_S4096x512_S4096x8x64) p
  let r := shapeCast S4096x512 (transpose S4096x8x64 [2, 0, 1] o transposes_S8x64x4096_S4096x8x64_2_0_1) shapeCasts_S4096x8x64_S4096x512
  shapeCast S8x64x4096 (transpose S512x4096 [1, 0] r transposes_S4096x512_S512x4096_1_0) shapeCasts_S512x4096_S8x64x4096

/-- A row's value and the logarithm of another, added. -/
def addLog (m t : FVec Ideal S8x4096 .f32) : FVec Ideal S8x1x4096 .f32 :=
  broadcastInDim S8x1x4096 ![0, 2] bcast_S8x4096_S8x1x4096_0_2 (addf m (Host.log t))

/-- The decay as three parts, each the rounding of what the parts before it leave. -/
def parts (c : FVec Ideal S4096x8 .f32) : FVec Ideal S8x4096x3 .f32 :=
  let x := transpose S8x4096 [1, 0] c transposes_S4096x8_S8x4096_1_0
  let hi := extf .f32 (truncf .bf16 x bitsLt_bf16_f32) bitsLt_bf16_f32
  let mid := extf .f32 (truncf .bf16 (subf x hi) bitsLt_bf16_f32) bitsLt_bf16_f32
  let lo := extf .f32 (truncf .bf16 (subf (subf x hi) mid) bitsLt_bf16_f32) bitsLt_bf16_f32
  concatenate S8x4096x3 2
    [⟨S8x4096x1, broadcastInDim S8x4096x1 ![0, 1] bcast_S8x4096_S8x4096x1_0_1 hi⟩, ⟨S8x4096x1, broadcastInDim S8x4096x1 ![0, 1] bcast_S8x4096_S8x4096x1_0_1 mid⟩,
      ⟨S8x4096x1, broadcastInDim S8x4096x1 ![0, 1] bcast_S8x4096_S8x4096x1_0_1 lo⟩] concatenates_S8x4096x1_S8x4096x1_S8x4096x1_S8x4096x3_d2

/-- The queries with the decay's parts and ones beside them. -/
def queries (q : FVec Ideal S4096x512 .f32) (c : FVec Ideal S4096x8 .f32) : FVec Ideal S8x4096x128 .bf16 :=
  truncf .bf16 (concatenate S8x4096x128 2
    [⟨S8x4096x64, mulf (heads q) (broadcastInDim S8x4096x64 ![] bcast_S_S8x4096x64 (constant S_ .f32 0x3E000000#32))⟩, ⟨S8x4096x3, parts c⟩,
      ⟨S8x4096x3, broadcastInDim S8x4096x3 ![] bcast_S_S8x4096x3 (constant S_ .f32 0x3F800000#32)⟩,
      ⟨S8x4096x58, broadcastInDim S8x4096x58 ![] bcast_S_S8x4096x58 (constant S_ .f32 0x00000000#32)⟩]
    concatenates_S8x4096x64_S8x4096x3_S8x4096x3_S8x4096x58_S8x4096x128_d2) bitsLt_bf16_f32

/-- The keys with ones and the negated decay's parts beside them. -/
def keys (k : FVec Ideal S4096x512 .f32) (c : FVec Ideal S4096x8 .f32) : FVec Ideal S8x4096x128 .bf16 :=
  truncf .bf16 (concatenate S8x4096x128 2
    [⟨S8x4096x64, heads k⟩, ⟨S8x4096x3, broadcastInDim S8x4096x3 ![] bcast_S_S8x4096x3 (constant S_ .f32 0x3F800000#32)⟩,
      ⟨S8x4096x3, Host.negf (parts c)⟩, ⟨S8x4096x58, broadcastInDim S8x4096x58 ![] bcast_S_S8x4096x58 (constant S_ .f32 0x00000000#32)⟩]
    concatenates_S8x4096x64_S8x4096x3_S8x4096x3_S8x4096x58_S8x4096x128_d2) bitsLt_bf16_f32

/-- The keys with rows and columns exchanged. -/
def keysT (k : FVec Ideal S4096x512 .f32) (c : FVec Ideal S4096x8 .f32) : FVec Ideal S8x128x4096 .bf16 :=
  transpose S8x128x4096 [0, 2, 1] (keys k c) transposes_S8x4096x128_S8x128x4096_0_2_1

/-- The values, rounded, as heads. -/
def values (v : FVec Ideal S4096x512 .f32) : FVec Ideal S8x4096x64 .bf16 := truncf .bf16 (heads v) bitsLt_bf16_f32

/-- The output's gradient, rounded, as heads with a head's columns along rows. -/
def gradT (d : FVec Ideal S4096x512 .f32) : FVec Ideal S8x64x4096 .bf16 :=
  transpose S8x64x4096 [0, 2, 1] (heads (truncf .bf16 d bitsLt_bf16_f32)) transposes_S8x4096x64_S8x64x4096_0_2_1

/-! ## Each at an index -/

theorem select_sle {α : Type} (i j : Fin 4096) (x y : α) :
    Scalar.select (IntOp.cmpi CmpIPredicate.sle (BitVec.ofNat 32 j.val) (BitVec.ofNat 32 i.val)) x y = if j ≤ i then x else y := by
  unfold Scalar.select
  exact if_congr (WordCmp.cmpi_sle_ofNat_eq_one_iff (by omega) (by omega)) rfl rfl

theorem logits_apply (q k : FVec Ideal S4096x512 .f32) (c c' : FVec Ideal S4096x8 .f32) (h : Fin 8) (i j : Fin 4096) :
    logits q k c c' (ix3 h i j) = if j ≤ i then
      (∑ e : Fin 64, q (ix2 i (col h e)) * k (ix2 j (col h e))) * ((1 / 8 : ℝ) : EReal) + c (ix2 i h) - c' (ix2 j h) else ⊥ := by
  pointwise [logits, mask]
  rw [select_sle, ofBits_eighth, ofBits_bot]

theorem rowMax_apply (s : FVec Ideal S8x4096x4096 .f32) (h : Fin 8) (i : Fin 4096) :
    rowMax s (ix2 h i) = Finset.univ.fold max ⊥ (fun j : Fin 4096 => s (ix3 h i j)) := by
  pointwise [rowMax]
  rw [ofBits_bot]

theorem rowTop_apply (m : FVec Ideal S8x4096 .f32) (h : Fin 8) (i : Fin 4096) : rowTop m (ix2 h i) = m (ix2 h i) := by
  pointwise [rowTop]
  rw [ofBits_bot, max_eq_right bot_le]

theorem expLess_apply (s : FVec Ideal S8x4096x4096 .f32) (m : FVec Ideal S8x4096 .f32) (h : Fin 8) (i j : Fin 4096) :
    expLess s m (ix3 h i j) = Ideal.exp (s (ix3 h i j) - m (ix2 h i)) := by
  pointwise [expLess]

theorem rowSum_apply (s : FVec Ideal S8x4096x4096 .f32) (h : Fin 8) (i : Fin 4096) :
    rowSum s (ix2 h i) = ∑ j : Fin 4096, s (ix3 h i j) := by
  pointwise [rowSum]

theorem normed_apply (x : FVec Ideal S8x4096x4096 .f32) (h : Fin 8) (i j : Fin 4096) :
    normed x (ix3 h i j) = Ideal.div (x (ix3 h i j)) (rowSum x (ix2 h i)) := by
  pointwise [normed]

theorem attended_apply (p : FVec Ideal S8x4096x4096 .f32) (v : FVec Ideal S4096x512 .f32) (h : Fin 8) (e : Fin 64) (i : Fin 4096) :
    attended p v (ix3 h e i) = ∑ j : Fin 4096, v (ix2 j (col h e)) * p (ix3 h i j) := by
  pointwise [attended]

theorem addLog_apply (m t : FVec Ideal S8x4096 .f32) (h : Fin 8) (i : Fin 4096) :
    addLog m t (ix3 h 0 i) = m (ix2 h i) + Ideal.log (t (ix2 h i)) := by
  pointwise [addLog]

theorem parts_apply (c : FVec Ideal S4096x8 .f32) (h : Fin 8) (i : Fin 4096) (a : Fin 3) :
    parts c (ix3 h i a) = if a.val < 1 then c (ix2 i h) else if a.val - 1 < 1 then c (ix2 i h) - c (ix2 i h)
      else c (ix2 i h) - c (ix2 i h) - (c (ix2 i h) - c (ix2 i h)) := by
  pointwise [parts]
  simp only [dite_eq_ite]

theorem queries_apply (q : FVec Ideal S4096x512 .f32) (c : FVec Ideal S4096x8 .f32) (h : Fin 8) (i : Fin 4096) (a : Fin 128) :
    queries q c (ix3 h i a) = if h1 : a.val < 64 then q (ix2 i (col h ⟨a.val, h1⟩)) * ((1 / 8 : ℝ) : EReal)
      else if h2 : a.val - 64 < 3 then parts c (ix3 h i ⟨a.val - 64, h2⟩) else if a.val - 64 - 3 < 3 then 1 else 0 := by
  pointwise [queries, heads]
  rw [ofBits_eighth]
  rfl

theorem keys_apply (k : FVec Ideal S4096x512 .f32) (c : FVec Ideal S4096x8 .f32) (h : Fin 8) (i : Fin 4096) (a : Fin 128) :
    keys k c (ix3 h i a) = if h1 : a.val < 64 then k (ix2 i (col h ⟨a.val, h1⟩))
      else if a.val - 64 < 3 then 1 else if h2 : a.val - 64 - 3 < 3 then -parts c (ix3 h i ⟨a.val - 64 - 3, h2⟩) else 0 := by
  pointwise [keys, heads]
  rfl

theorem keysT_apply (q : FVec Ideal S4096x512 .f32) (c : FVec Ideal S4096x8 .f32) (h : Fin 8) (i : Fin 4096) (a : Fin 128) :
    keysT q c (ix3 h a i) = keys q c (ix3 h i a) := by
  pointwise [keysT]

theorem values_apply (v : FVec Ideal S4096x512 .f32) (h : Fin 8) (i : Fin 4096) (e : Fin 64) :
    values v (ix3 h i e) = v (ix2 i (col h e)) := by
  pointwise [values, heads]

theorem gradT_apply (d : FVec Ideal S4096x512 .f32) (h : Fin 8) (i : Fin 4096) (e : Fin 64) :
    gradT d (ix3 h e i) = d (ix2 i (col h e)) := by
  pointwise [gradT, heads]

end Cert.Fox

end
-- ==== Proof.Fox.Finite.lean ====
/- The host lines at finite arguments: what they hold is the real numbers of `Proof.Fox.Real`, head by head. -/
module

public import proofs.«01_k».proof.Proof.Fox.Arrays

@[expose] public section

set_option maxRecDepth 16384

noncomputable section

namespace Cert.Fox

open Idealize.ShloMosaic Cert.KernelIdeal

/-- Every entry is a real number. -/
def Finite {ι : Type} (x : ι → EReal) : Prop := ∀ i, x i = ((x i).toReal : EReal)

/-- Head `h` of an array of 512 columns, as real numbers. -/
def head (x : S4096x512.Idx → EReal) (h : Fin 8) (i : Fin 4096) (e : Fin 64) : ℝ := (x (ix2 i (col h e))).toReal

/-- Head `h`'s decay, as real numbers. -/
def decay (c : S4096x8.Idx → EReal) (h : Fin 8) (i : Fin 4096) : ℝ := (c (ix2 i h)).toReal

section

variable {q k v d : FVec Ideal S4096x512 .f32} {c c' : FVec Ideal S4096x8 .f32}

theorem head_coe (hq : Finite q) (h : Fin 8) (i : Fin 4096) (e : Fin 64) : q (ix2 i (col h e)) = (head q h i e : EReal) := hq _
theorem decay_coe (hc : Finite c) (h : Fin 8) (i : Fin 4096) : c (ix2 i h) = (decay c h i : EReal) := hc _

variable (q k c c') in
/-- Head `h`'s scores. -/
def scores (h : Fin 8) : Fin 4096 → Fin 4096 → ℝ := score (head q h) (head k h) (decay c h) (decay c' h)

variable (q k c c') in
/-- Head `h`'s greatest scores. -/
def tops (h : Fin 8) (i : Fin 4096) : ℝ := (rowMax (logits q k c c') (ix2 h i)).toReal

theorem logits_real (hq : Finite q) (hk : Finite k) (hc : Finite c) (hc' : Finite c') (h : Fin 8) (i j : Fin 4096) :
    logits q k c c' (ix3 h i j) = if j ≤ i then (scores q k c c' h i j : EReal) else ⊥ := by
  rw [logits_apply]
  refine if_congr Iff.rfl ?_ rfl
  unfold scores score
  rw [EReal.coe_sub, EReal.coe_add, EReal.coe_mul, coe_sum, ← decay_coe hc, ← decay_coe hc']
  simp only [EReal.coe_mul, head_coe hq, head_coe hk]

theorem rowMax_real (hq : Finite q) (hk : Finite k) (hc : Finite c) (hc' : Finite c') (h : Fin 8) (i : Fin 4096) :
    rowMax (logits q k c c') (ix2 h i) = (tops q k c c' h i : EReal) := by
  unfold tops
  rw [rowMax_apply]
  refine fold_max_coe _ (fun j => ?_) i (scores q k c c' h i i) (by rw [logits_real hq hk hc hc', if_pos le_rfl])
  rw [logits_real hq hk hc hc']
  split
  · exact EReal.coe_lt_top _
  · exact bot_lt_top

/-- The exponentials less the rows' greatest scores. -/
theorem expLess_real (hq : Finite q) (hk : Finite k) (hc : Finite c) (hc' : Finite c') (m : FVec Ideal S8x4096 .f32) (h : Fin 8) (i j : Fin 4096)
    (hm : m (ix2 h i) = (tops q k c c' h i : EReal)) :
    expLess (logits q k c c') m (ix3 h i j) = (weight (scores q k c c' h) (tops q k c c' h) i j : EReal) := by
  rw [expLess_apply, hm, logits_real hq hk hc hc']
  unfold weight
  split
  · exact exp_coe_sub _ _
  · exact exp_bot_sub _

theorem rowSum_real (hq : Finite q) (hk : Finite k) (hc : Finite c) (hc' : Finite c') (m : FVec Ideal S8x4096 .f32) (h : Fin 8) (i : Fin 4096)
    (hm : m (ix2 h i) = (tops q k c c' h i : EReal)) :
    rowSum (expLess (logits q k c c') m) (ix2 h i) = (total (scores q k c c' h) (tops q k c c' h) i : EReal) := by
  rw [rowSum_apply]
  unfold total
  rw [coe_sum]
  exact Finset.sum_congr rfl fun j _ => expLess_real hq hk hc hc' m h i j hm

theorem attended_real (hq : Finite q) (hk : Finite k) (hv : Finite v) (hc : Finite c) (hc' : Finite c') (h : Fin 8) (e : Fin 64) (i : Fin 4096) :
    attended (normed (expLess (logits q k c c') (rowTop (rowMax (logits q k c c'))))) v (ix3 h e i)
      = (out (scores q k c c' h) (tops q k c c' h) (head v h) i e : EReal) := by
  have hm : rowTop (rowMax (logits q k c c')) (ix2 h i) = (tops q k c c' h i : EReal) := by
    rw [rowTop_apply, rowMax_real hq hk hc hc']
  rw [attended_apply]
  unfold out
  rw [coe_sum]
  refine Finset.sum_congr rfl fun j _ => ?_
  rw [normed_apply, expLess_real hq hk hc hc' _ h i j hm, rowSum_real hq hk hc hc' _ h i hm, coe_div (total_ne _ _ _), EReal.coe_mul,
    head_coe hv]
  rfl

theorem addLog_real (hq : Finite q) (hk : Finite k) (hc : Finite c) (hc' : Finite c') (h : Fin 8) (i : Fin 4096) :
    addLog (rowMax (logits q k c c')) (rowSum (expLess (logits q k c c') (rowMax (logits q k c c')))) (ix3 h 0 i)
      = (logTotal (scores q k c c' h) (tops q k c c' h) i : EReal) := by
  have hm := rowMax_real hq hk hc hc' h i
  rw [addLog_apply, rowSum_real hq hk hc hc' _ h i hm, hm, log_coe_pos (total_pos _ _ _), ← EReal.coe_add]
  rfl

/-! ## The operands with the decay's parts beside them -/

theorem parts_real (hc : Finite c) (h : Fin 8) (i : Fin 4096) (a : Fin 3) :
    parts c (ix3 h i a) = if a.val = 0 then (decay c h i : EReal) else 0 := by
  rw [parts_apply, decay_coe hc, ← EReal.coe_sub, sub_self]
  by_cases ha : a.val = 0
  · rw [if_pos ha, if_pos (by omega)]
  · rw [if_neg ha, if_neg (by omega), EReal.coe_zero, sub_zero, ite_self]

/-- Beside the query: the decay, in its first part, then ones, then zeros. -/
theorem queries_tail (hc : Finite c) (h : Fin 8) (i : Fin 4096) (a : Fin 64) :
    queries q c (ix3 h i (Fin.natAdd 64 a))
      = ((if a.val < 3 then (if a.val = 0 then decay c h i else 0) else if a.val < 6 then 1 else 0 : ℝ) : EReal) := by
  have e : (Fin.natAdd 64 a).val = 64 + a.val := rfl
  rw [queries_apply, dif_neg (by omega)]
  simp only [e, Nat.add_sub_cancel_left, parts_real hc]
  by_cases h3 : a.val < 3
  · rw [dif_pos h3, if_pos h3]; split <;> rfl
  · rw [dif_neg h3, if_neg h3]
    by_cases h6 : a.val < 6
    · rw [if_pos h6, if_pos (by omega)]; rfl
    · rw [if_neg h6, if_neg (by omega)]; rfl

/-- Beside the key: ones, then the negated decay, in its first part, then zeros. -/
theorem keys_tail (hc : Finite c) (h : Fin 8) (j : Fin 4096) (a : Fin 64) :
    keys k c (ix3 h j (Fin.natAdd 64 a))
      = ((if a.val < 3 then 1 else -(if a.val = 3 then decay c h j else 0) : ℝ) : EReal) := by
  have e : (Fin.natAdd 64 a).val = 64 + a.val := rfl
  rw [keys_apply, dif_neg (by omega)]
  simp only [e, Nat.add_sub_cancel_left, parts_real hc]
  by_cases h3 : a.val < 3
  · rw [if_pos h3, if_pos h3]; rfl
  · rw [if_neg h3, if_neg h3]
    by_cases h6 : a.val - 3 < 3
    · rw [dif_pos h6]
      by_cases h0 : a.val = 3
      · rw [if_pos (by omega), if_pos h0, EReal.coe_neg]
      · rw [if_neg (by omega), if_neg h0]; simp
    · rw [dif_neg h6, if_neg (by omega)]; simp

/-- A query's row against a key's row is their score: the decay's parts meet the ones. -/
theorem sum_operands (hq : Finite q) (hk : Finite k) (hc : Finite c) (hc' : Finite c') (h : Fin 8) (i j : Fin 4096) :
    ∑ a : Fin 128, keys k c' (ix3 h j a) * queries q c (ix3 h i a) = (scores q k c c' h i j : EReal) := by
  have h1 : ∀ e : Fin 64, keys k c' (ix3 h j (Fin.castAdd 64 e)) * queries q c (ix3 h i (Fin.castAdd 64 e))
      = ((head q h i e * head k h j e * (1 / 8) : ℝ) : EReal) := fun e => by
    rw [keys_apply, queries_apply, dif_pos (show (Fin.castAdd 64 e).val < 64 from e.isLt), dif_pos (show (Fin.castAdd 64 e).val < 64 from e.isLt)]
    rw [show (⟨(Fin.castAdd 64 e).val, e.isLt⟩ : Fin 64) = e from rfl, head_coe hq, head_coe hk, ← EReal.coe_mul, ← EReal.coe_mul]
    congr 1; ring
  have h2 : ∀ a : Fin 64, keys k c' (ix3 h j (Fin.natAdd 64 a)) * queries q c (ix3 h i (Fin.natAdd 64 a))
      = (((if a.val = 0 then decay c h i else 0) - (if a.val = 3 then decay c' h j else 0) : ℝ) : EReal) := fun a => by
    rw [keys_tail hc', queries_tail hc, ← EReal.coe_mul]
    congr 1
    by_cases h3 : a.val < 3
    · rw [if_pos h3, if_pos h3, if_neg (by omega : ¬ a.val = 3), one_mul, sub_zero]
    · rw [if_neg h3, if_neg h3, if_neg (by omega : ¬ a.val = 0), zero_sub]
      by_cases h6 : a.val < 6
      · rw [if_pos h6, mul_one]
      · rw [if_neg h6, mul_zero, if_neg (by omega), neg_zero]
  refine (Fin.sum_univ_add (a := 64) (b := 64) (fun a : Fin (64 + 64) => keys k c' (ix3 h j a) * queries q c (ix3 h i a))).trans ?_
  rw [Finset.sum_congr rfl fun e _ => h1 e, Finset.sum_congr rfl fun a _ => h2 a, ← coe_sum, ← coe_sum, ← EReal.coe_add]
  congr 1
  unfold scores score
  rw [Finset.sum_sub_distrib, ← Finset.sum_mul]
  have e0 : ∑ a : Fin 64, (if a.val = 0 then decay c h i else 0) = decay c h i :=
    (Finset.sum_eq_single (0 : Fin 64) (fun b _ hb => if_neg fun h => hb (Fin.ext h)) (fun h => absurd (Finset.mem_univ _) h)).trans (if_pos rfl)
  have e3 : ∑ a : Fin 64, (if a.val = 3 then decay c' h j else 0) = decay c' h j :=
    (Finset.sum_eq_single (3 : Fin 64) (fun b _ hb => if_neg fun h => hb (Fin.ext h)) (fun h => absurd (Finset.mem_univ _) h)).trans (if_pos rfl)
  rw [e0, e3]; ring

/-- The first 64 rows of the exchanged keys are the keys. -/
theorem keysT_head (hk : Finite k) (h : Fin 8) (j : Fin 4096) (e : Fin 64) :
    keysT k c (ix3 h (Fin.castAdd 64 e) j) = (head k h j e : EReal) := by
  rw [keysT_apply, keys_apply, dif_pos (show (Fin.castAdd 64 e).val < 64 from e.isLt)]
  exact head_coe hk h j e

/-- The row after them is ones. -/
theorem keysT_ones (h : Fin 8) (j : Fin 4096) : keysT k c (ix3 h (64 : Fin 128) j) = ((1 : ℝ) : EReal) := by
  rw [keysT_apply, keys_apply, dif_neg (by decide), if_pos (by decide)]
  rfl

/-- Every row of the exchanged keys is real. -/
theorem keysT_real (hk : Finite k) (hc : Finite c) (h : Fin 8) (a : Fin 128) (j : Fin 4096) :
    keysT k c (ix3 h a j) = ((keysT k c (ix3 h a j)).toReal : EReal) := by
  rw [keysT_apply, keys_apply]
  split
  · exact hk _
  · split
    · exact (EReal.toReal_coe 1).symm ▸ rfl
    · split
      · rw [parts_real hc]; split
        · rw [← EReal.coe_neg, EReal.toReal_coe]
        · simp
      · simp

end

end Cert.Fox

end
-- ==== Proof.Fox.Pre.lean ====
/- What the precondition says: every entry of every argument is a real number. -/
module

public import proofs.«01_k».proof.Proof.Gen.Pre_finite
public import proofs.«01_k».proof.Proof.Fox.Finite
public import Idealize.ShloMosaic.Lib.ReduceAll
public import Idealize.ShloMosaic.Lib.Affine

@[expose] public section

noncomputable section

namespace Cert.Fox

open Idealize.ShloMosaic

/-- An entry whose absolute value is below `⊤` is a real number. -/
theorem real_of_abs_lt {x : EReal} (h : max x (-x) < ⊤) : x = (x.toReal : EReal) := by
  induction x with
  | bot => exact absurd h (by simp)
  | top => exact absurd h (by simp)
  | coe r => rfl

/-- One conjunct of the precondition: all absolute values of an array below infinity. -/
theorem finite_of_all {s u t : Shape} {axes : List (Fin s.rank)} [Subsingleton t.Idx] (x y : FVec Ideal s .f32)
    (hy : ∀ i, y i = Ideal.ofBits .f32 0x7F800000#32) (init : IVec u 1) (h : s.ReducesTo axes t) (hu : 0 < u.numel) (j : t.Idx)
    (e : Host.reduce IntOp.andi (cmpf .olt (Host.absf x) y) init h hu j = 1#1) : Finite x := fun i => by
  have hi : Ideal.cmp .olt (max (x i) (-(x i))) (y i) = 1#1 := Host.reduce_andi_all _ init h hu j e i
  rw [hy, ofBits_top] at hi
  refine real_of_abs_lt ?_
  by_contra hn
  have h0 : Ideal.cmp .olt (max (x i) (-(x i))) ⊤ = 0#1 := by simp [Ideal.cmp, hn]
  rw [h0] at hi
  exact absurd hi (by decide)

instance : Subsingleton Cert.Pre_finite.S_.Idx := ⟨fun _ _ => funext fun a => a.elim0⟩

theorem of_andi {s : Shape} (a b : IVec s 1) (j : s.Idx) (e : andi a b j = 1#1) : a j = 1#1 ∧ b j = 1#1 := IntOp.andi_eq_one.mp e

theorem bcast_top {s : Shape} (h : Cert.Pre_finite.S_.BroadcastsInDim s (![] : Fin 0 → Fin s.rank)) (i : s.Idx) :
    broadcastInDim (α := Ideal .f32) s ![] h (constant Cert.Pre_finite.S_ .f32 0x7F800000#32) i = Ideal.ofBits .f32 0x7F800000#32 := rfl

theorem finite_of_pre (q k v : FVec Ideal Cert.Pre_finite.S4096x512 .f32) (c : FVec Ideal Cert.Pre_finite.S4096x8 .f32)
    (d : FVec Ideal Cert.Pre_finite.S4096x512 .f32) (j : Cert.Pre_finite.S_.Idx) (e : Cert.Pre_finite.fn (F := Ideal) q k v c d j = 1#1) :
    Finite q ∧ Finite k ∧ Finite v ∧ Finite c ∧ Finite d := by
  dsimp only [Cert.Pre_finite.fn, Cert.Pre_finite.fn_part1] at e
  have h4 := of_andi _ _ _ e
  have h3 := of_andi _ _ _ h4.1
  have h2 := of_andi _ _ _ h3.1
  have h1 := of_andi _ _ _ h2.1
  exact ⟨finite_of_all q _ (bcast_top _) _ _ _ _ h1.1, finite_of_all k _ (bcast_top _) _ _ _ _ h1.2, finite_of_all v _ (bcast_top _) _ _ _ _ h2.2,
    finite_of_all c _ (bcast_top _) _ _ _ _ h3.2, finite_of_all d _ (bcast_top _) _ _ _ _ h4.2⟩

end Cert.Fox

end
-- ==== Proof.Fox.RefRun.lean ====
/- The reference's run: its lines as two lists of operations, the value each line writes as a function of the arguments, and the
   run's end, each result at the value of its line and the arguments unchanged. -/
module

public import proofs.«01_k».proof.Proof.Gen.ReferenceIdeal
public import Idealize.ShloMosaic.Lib.StableHlo.RunRead
public import Idealize.ShloMosaic.Lib.StableHlo.RunHlo
public import Idealize.ShloMosaic.Lib.ValueIdx

@[expose] public section

noncomputable section

namespace Cert.ReferenceIdeal.Lines

open Cert.ReferenceIdeal Cert.ReferenceIdeal.Gen Idealize.ShloMosaic Idealize.ShloMosaic.TcCoe Idealize.SL.Sem Idealize.ShloMosaic.StableHlo

variable {F : FTy → Type} [FloatOps F]

/-! ## The value each line writes -/

def val_main_v0 (x0 : (⟨S4096x512, .f32⟩ : BufTy).Contents (Elt F)) : (⟨S4096x8x64, .f32⟩ : BufTy).Contents (Elt F) :=
  shapeCast _ (x0) shapeCasts_S4096x512_S4096x8x64
def val_main_v1 (x1 : (⟨S4096x512, .f32⟩ : BufTy).Contents (Elt F)) : (⟨S4096x8x64, .f32⟩ : BufTy).Contents (Elt F) :=
  shapeCast _ (x1) shapeCasts_S4096x512_S4096x8x64
def val_main_v2 (x0 x1 : (⟨S4096x512, .f32⟩ : BufTy).Contents (Elt F)) : (⟨S8x4096x4096, .f32⟩ : BufTy).Contents (Elt F) :=
  Host.dotGeneral dot_S4096x8x64_S4096x8x64_S8x4096x4096_2_2_0_0_1_1 none (val_main_v0 (F := F) x0) (val_main_v1 (F := F) x1)
def val_main_cst : (⟨S_, .f32⟩ : BufTy).Contents (Elt F) :=
  constant S_ .f32 0x3E000000#32
def val_main_v3 : (⟨S8x4096x4096, .f32⟩ : BufTy).Contents (Elt F) :=
  broadcastInDim S8x4096x4096 ![] bcast_S_S8x4096x4096 (val_main_cst (F := F))
def val_main_v4 (x0 x1 : (⟨S4096x512, .f32⟩ : BufTy).Contents (Elt F)) : (⟨S8x4096x4096, .f32⟩ : BufTy).Contents (Elt F) :=
  mulf (val_main_v2 (F := F) x0 x1) (val_main_v3 (F := F))
def val_main_v5 (x3 : (⟨S4096x8, .f32⟩ : BufTy).Contents (Elt F)) : (⟨S8x4096, .f32⟩ : BufTy).Contents (Elt F) :=
  transpose S8x4096 [1, 0] (x3) transposes_S4096x8_S8x4096_1_0
def val_main_v6 (x3 : (⟨S4096x8, .f32⟩ : BufTy).Contents (Elt F)) : (⟨S8x4096x1, .f32⟩ : BufTy).Contents (Elt F) :=
  broadcastInDim S8x4096x1 ![0, 1] bcast_S8x4096_S8x4096x1_0_1 (val_main_v5 (F := F) x3)
def val_main_v7 (x3 : (⟨S4096x8, .f32⟩ : BufTy).Contents (Elt F)) : (⟨S8x4096x4096, .f32⟩ : BufTy).Contents (Elt F) :=
  broadcastInDim S8x4096x4096 ![0, 1, 2] bcast_S8x4096x1_S8x4096x4096_0_1_2 (val_main_v6 (F := F) x3)
def val_main_v8 (x0 x1 : (⟨S4096x512, .f32⟩ : BufTy).Contents (Elt F)) (x3 : (⟨S4096x8, .f32⟩ : BufTy).Contents (Elt F)) : (⟨S8x4096x4096, .f32⟩ : BufTy).Contents (Elt F) :=
  addf (val_main_v4 (F := F) x0 x1) (val_main_v7 (F := F) x3)
def val_main_v9 (x3 : (⟨S4096x8, .f32⟩ : BufTy).Contents (Elt F)) : (⟨S8x4096, .f32⟩ : BufTy).Contents (Elt F) :=
  transpose S8x4096 [1, 0] (x3) transposes_S4096x8_S8x4096_1_0
def val_main_v10 (x3 : (⟨S4096x8, .f32⟩ : BufTy).Contents (Elt F)) : (⟨S8x1x4096, .f32⟩ : BufTy).Contents (Elt F) :=
  broadcastInDim S8x1x4096 ![0, 2] bcast_S8x4096_S8x1x4096_0_2 (val_main_v9 (F := F) x3)
def val_main_v11 (x3 : (⟨S4096x8, .f32⟩ : BufTy).Contents (Elt F)) : (⟨S8x4096x4096, .f32⟩ : BufTy).Contents (Elt F) :=
  broadcastInDim S8x4096x4096 ![0, 1, 2] bcast_S8x1x4096_S8x4096x4096_0_1_2 (val_main_v10 (F := F) x3)
def val_main_v12 (x0 x1 : (⟨S4096x512, .f32⟩ : BufTy).Contents (Elt F)) (x3 : (⟨S4096x8, .f32⟩ : BufTy).Contents (Elt F)) : (⟨S8x4096x4096, .f32⟩ : BufTy).Contents (Elt F) :=
  subf (val_main_v8 (F := F) x0 x1 x3) (val_main_v11 (F := F) x3)
def val_main_v13 : (⟨S4096, .i32⟩ : BufTy).Contents (Elt F) :=
  iotaInDim S4096 32 0
def val_main_v14 : (⟨S1x4096, .i32⟩ : BufTy).Contents (Elt F) :=
  broadcastInDim S1x4096 ![1] bcast_S4096_S1x4096_1 (val_main_v13 (F := F))
def val_main_v15 : (⟨S4096x1, .i32⟩ : BufTy).Contents (Elt F) :=
  broadcastInDim S4096x1 ![0] bcast_S4096_S4096x1_0 (val_main_v13 (F := F))
def val_main_v16 : (⟨S4096x4096, .i32⟩ : BufTy).Contents (Elt F) :=
  broadcastInDim S4096x4096 ![0, 1] bcast_S1x4096_S4096x4096_0_1 (val_main_v14 (F := F))
def val_main_v17 : (⟨S4096x4096, .i32⟩ : BufTy).Contents (Elt F) :=
  broadcastInDim S4096x4096 ![0, 1] bcast_S4096x1_S4096x4096_0_1 (val_main_v15 (F := F))
def val_main_v18 : (⟨S4096x4096, .i1⟩ : BufTy).Contents (Elt F) :=
  cmpi .sle (val_main_v16 (F := F)) (val_main_v17 (F := F))
def val_main_cst_0 : (⟨S_, .f32⟩ : BufTy).Contents (Elt F) :=
  constant S_ .f32 0xFF800000#32
def val_main_call0_v0 : (⟨S_, .f32⟩ : BufTy).Contents (Elt F) :=
  id (val_main_cst_0 (F := F))
def val_main_v19_1 : (⟨S8x4096x4096, .i1⟩ : BufTy).Contents (Elt F) :=
  broadcastInDim S8x4096x4096 ![1, 2] bcast_S4096x4096_S8x4096x4096_1_2 (val_main_v18 (F := F))
def val_main_call0_v2 : (⟨S8x4096x4096, .f32⟩ : BufTy).Contents (Elt F) :=
  broadcastInDim S8x4096x4096 ![] bcast_S_S8x4096x4096 (val_main_call0_v0 (F := F))
def val_main_v19_0 (x0 x1 : (⟨S4096x512, .f32⟩ : BufTy).Contents (Elt F)) (x3 : (⟨S4096x8, .f32⟩ : BufTy).Contents (Elt F)) : (⟨S8x4096x4096, .f32⟩ : BufTy).Contents (Elt F) :=
  select (val_main_v19_1 (F := F)) (val_main_v12 (F := F) x0 x1 x3) (val_main_call0_v2 (F := F))
def val_main_call0_cst : (⟨S_, .f32⟩ : BufTy).Contents (Elt F) :=
  constant S_ .f32 0x00000000#32
def val_main_v19_2 : (⟨S8x4096x4096, .f32⟩ : BufTy).Contents (Elt F) :=
  broadcastInDim S8x4096x4096 ![] bcast_S_S8x4096x4096 (val_main_call0_cst (F := F))
def val_main_cst_1 : (⟨S_, .f32⟩ : BufTy).Contents (Elt F) :=
  constant S_ .f32 0xFF800000#32
def val_main_v20 (x0 x1 : (⟨S4096x512, .f32⟩ : BufTy).Contents (Elt F)) (x3 : (⟨S4096x8, .f32⟩ : BufTy).Contents (Elt F)) : (⟨S8x4096, .f32⟩ : BufTy).Contents (Elt F) :=
  Host.reduce FloatOps.maximumf (val_main_v19_0 (F := F) x0 x1 x3) (val_main_cst_1 (F := F)) reducesTo_S8x4096x4096_S8x4096_d2 h_S_
def val_main_v21 (x0 x1 : (⟨S4096x512, .f32⟩ : BufTy).Contents (Elt F)) (x3 : (⟨S4096x8, .f32⟩ : BufTy).Contents (Elt F)) : (⟨S8x4096x1, .f32⟩ : BufTy).Contents (Elt F) :=
  shapeCast _ (val_main_v20 (F := F) x0 x1 x3) shapeCasts_S8x4096_S8x4096x1
def val_main_v22 (x0 x1 : (⟨S4096x512, .f32⟩ : BufTy).Contents (Elt F)) (x3 : (⟨S4096x8, .f32⟩ : BufTy).Contents (Elt F)) : (⟨S8x4096x4096, .f32⟩ : BufTy).Contents (Elt F) :=
  broadcastInDim S8x4096x4096 ![0, 1, 2] bcast_S8x4096x1_S8x4096x4096_0_1_2 (val_main_v21 (F := F) x0 x1 x3)
def val_main_v23 (x0 x1 : (⟨S4096x512, .f32⟩ : BufTy).Contents (Elt F)) (x3 : (⟨S4096x8, .f32⟩ : BufTy).Contents (Elt F)) : (⟨S8x4096x4096, .i1⟩ : BufTy).Contents (Elt F) :=
  cmpf .oeq (val_main_v19_0 (F := F) x0 x1 x3) (val_main_v22 (F := F) x0 x1 x3)
def val_main_v24 (x0 x1 : (⟨S4096x512, .f32⟩ : BufTy).Contents (Elt F)) (x3 : (⟨S4096x8, .f32⟩ : BufTy).Contents (Elt F)) : (⟨S8x4096x4096, .f32⟩ : BufTy).Contents (Elt F) :=
  uitofp .f32 (val_main_v23 (F := F) x0 x1 x3)
def val_main_cst_2 : (⟨S_, .f32⟩ : BufTy).Contents (Elt F) :=
  constant S_ .f32 0x00000000#32
def val_main_v25 (x0 x1 : (⟨S4096x512, .f32⟩ : BufTy).Contents (Elt F)) (x3 : (⟨S4096x8, .f32⟩ : BufTy).Contents (Elt F)) : (⟨S8x4096, .f32⟩ : BufTy).Contents (Elt F) :=
  Host.reduceAdd (val_main_v24 (F := F) x0 x1 x3) (val_main_cst_2 (F := F)) reducesTo_S8x4096x4096_S8x4096_d2 h_S_
def val_main_cst_3 : (⟨S_, .f32⟩ : BufTy).Contents (Elt F) :=
  constant S_ .f32 0xFF800000#32
def val_main_v26 : (⟨S8x4096, .f32⟩ : BufTy).Contents (Elt F) :=
  broadcastInDim S8x4096 ![] bcast_S_S8x4096 (val_main_cst_3 (F := F))
def val_main_v27 (x0 x1 : (⟨S4096x512, .f32⟩ : BufTy).Contents (Elt F)) (x3 : (⟨S4096x8, .f32⟩ : BufTy).Contents (Elt F)) : (⟨S8x4096, .f32⟩ : BufTy).Contents (Elt F) :=
  maximumf (val_main_v26 (F := F)) (val_main_v20 (F := F) x0 x1 x3)
def val_main_cst_4 : (⟨S_, .f32⟩ : BufTy).Contents (Elt F) :=
  constant S_ .f32 0xFF800000#32
def val_main_v28 : (⟨S8x4096, .f32⟩ : BufTy).Contents (Elt F) :=
  broadcastInDim S8x4096 ![] bcast_S_S8x4096 (val_main_cst_4 (F := F))
def val_main_v29 (x0 x1 : (⟨S4096x512, .f32⟩ : BufTy).Contents (Elt F)) (x3 : (⟨S4096x8, .f32⟩ : BufTy).Contents (Elt F)) : (⟨S8x4096, .i1⟩ : BufTy).Contents (Elt F) :=
  cmpf .ogt (val_main_v20 (F := F) x0 x1 x3) (val_main_v28 (F := F))
def val_main_cst_5 : (⟨S_, .f32⟩ : BufTy).Contents (Elt F) :=
  constant S_ .f32 0xFF800000#32
def val_main_v30 : (⟨S8x4096, .f32⟩ : BufTy).Contents (Elt F) :=
  broadcastInDim S8x4096 ![] bcast_S_S8x4096 (val_main_cst_5 (F := F))
def val_main_v31 (x0 x1 : (⟨S4096x512, .f32⟩ : BufTy).Contents (Elt F)) (x3 : (⟨S4096x8, .f32⟩ : BufTy).Contents (Elt F)) : (⟨S8x4096, .i1⟩ : BufTy).Contents (Elt F) :=
  cmpf .oeq (val_main_v20 (F := F) x0 x1 x3) (val_main_v30 (F := F))
def val_main_cst_6 : (⟨S_, .f32⟩ : BufTy).Contents (Elt F) :=
  constant S_ .f32 0x3F800000#32
def val_main_v32 : (⟨S8x4096, .f32⟩ : BufTy).Contents (Elt F) :=
  broadcastInDim S8x4096 ![] bcast_S_S8x4096 (val_main_cst_6 (F := F))
def val_main_cst_7 : (⟨S_, .f32⟩ : BufTy).Contents (Elt F) :=
  constant S_ .f32 0x00000000#32
def val_main_v33 : (⟨S8x4096, .f32⟩ : BufTy).Contents (Elt F) :=
  broadcastInDim S8x4096 ![] bcast_S_S8x4096 (val_main_cst_7 (F := F))
def val_main_cst_8 : (⟨S_, .f32⟩ : BufTy).Contents (Elt F) :=
  constant S_ .f32 0x3F000000#32
def val_main_v34 : (⟨S8x4096, .f32⟩ : BufTy).Contents (Elt F) :=
  broadcastInDim S8x4096 ![] bcast_S_S8x4096 (val_main_cst_8 (F := F))
def val_main_v35 (x0 x1 : (⟨S4096x512, .f32⟩ : BufTy).Contents (Elt F)) (x3 : (⟨S4096x8, .f32⟩ : BufTy).Contents (Elt F)) : (⟨S8x4096, .f32⟩ : BufTy).Contents (Elt F) :=
  select (val_main_v31 (F := F) x0 x1 x3) (val_main_v34 (F := F)) (val_main_v33 (F := F))
def val_main_v36 (x0 x1 : (⟨S4096x512, .f32⟩ : BufTy).Contents (Elt F)) (x3 : (⟨S4096x8, .f32⟩ : BufTy).Contents (Elt F)) : (⟨S8x4096, .f32⟩ : BufTy).Contents (Elt F) :=
  select (val_main_v29 (F := F) x0 x1 x3) (val_main_v32 (F := F)) (val_main_v35 (F := F) x0 x1 x3)
def val_main_v37 (x0 x1 : (⟨S4096x512, .f32⟩ : BufTy).Contents (Elt F)) (x3 : (⟨S4096x8, .f32⟩ : BufTy).Contents (Elt F)) : (⟨S8x4096x1, .f32⟩ : BufTy).Contents (Elt F) :=
  broadcastInDim S8x4096x1 ![0, 1] bcast_S8x4096_S8x4096x1_0_1 (val_main_v27 (F := F) x0 x1 x3)
def val_main_v38 (x0 x1 : (⟨S4096x512, .f32⟩ : BufTy).Contents (Elt F)) (x3 : (⟨S4096x8, .f32⟩ : BufTy).Contents (Elt F)) : (⟨S8x4096x4096, .f32⟩ : BufTy).Contents (Elt F) :=
  broadcastInDim S8x4096x4096 ![0, 1, 2] bcast_S8x4096x1_S8x4096x4096_0_1_2 (val_main_v37 (F := F) x0 x1 x3)
def val_main_v39 (x0 x1 : (⟨S4096x512, .f32⟩ : BufTy).Contents (Elt F)) (x3 : (⟨S4096x8, .f32⟩ : BufTy).Contents (Elt F)) : (⟨S8x4096x4096, .f32⟩ : BufTy).Contents (Elt F) :=
  subf (val_main_v19_0 (F := F) x0 x1 x3) (val_main_v38 (F := F) x0 x1 x3)
def val_main_v40 (x0 x1 : (⟨S4096x512, .f32⟩ : BufTy).Contents (Elt F)) (x3 : (⟨S4096x8, .f32⟩ : BufTy).Contents (Elt F)) : (⟨S8x4096x4096, .f32⟩ : BufTy).Contents (Elt F) :=
  Host.exp (val_main_v39 (F := F) x0 x1 x3)
def val_main_cst_9 : (⟨S_, .f32⟩ : BufTy).Contents (Elt F) :=
  constant S_ .f32 0x00000000#32
def val_main_v41 (x0 x1 : (⟨S4096x512, .f32⟩ : BufTy).Contents (Elt F)) (x3 : (⟨S4096x8, .f32⟩ : BufTy).Contents (Elt F)) : (⟨S8x4096, .f32⟩ : BufTy).Contents (Elt F) :=
  Host.reduceAdd (val_main_v40 (F := F) x0 x1 x3) (val_main_cst_9 (F := F)) reducesTo_S8x4096x4096_S8x4096_d2 h_S_
def val_main_v42 (x0 x1 : (⟨S4096x512, .f32⟩ : BufTy).Contents (Elt F)) (x3 : (⟨S4096x8, .f32⟩ : BufTy).Contents (Elt F)) : (⟨S8x4096x1, .f32⟩ : BufTy).Contents (Elt F) :=
  broadcastInDim S8x4096x1 ![0, 1] bcast_S8x4096_S8x4096x1_0_1 (val_main_v41 (F := F) x0 x1 x3)
def val_main_v43 (x0 x1 : (⟨S4096x512, .f32⟩ : BufTy).Contents (Elt F)) (x3 : (⟨S4096x8, .f32⟩ : BufTy).Contents (Elt F)) : (⟨S8x4096x4096, .f32⟩ : BufTy).Contents (Elt F) :=
  broadcastInDim S8x4096x4096 ![0, 1, 2] bcast_S8x4096x1_S8x4096x4096_0_1_2 (val_main_v42 (F := F) x0 x1 x3)
def val_main_v44 (x0 x1 : (⟨S4096x512, .f32⟩ : BufTy).Contents (Elt F)) (x3 : (⟨S4096x8, .f32⟩ : BufTy).Contents (Elt F)) : (⟨S8x4096x4096, .f32⟩ : BufTy).Contents (Elt F) :=
  Host.divf (val_main_v40 (F := F) x0 x1 x3) (val_main_v43 (F := F) x0 x1 x3)
def val_main_v45 (x0 x1 : (⟨S4096x512, .f32⟩ : BufTy).Contents (Elt F)) (x3 : (⟨S4096x8, .f32⟩ : BufTy).Contents (Elt F)) : (⟨S8x4096x1, .f32⟩ : BufTy).Contents (Elt F) :=
  mulf (val_main_v42 (F := F) x0 x1 x3) (val_main_v42 (F := F) x0 x1 x3)
def val_main_cst_10 : (⟨S_, .f32⟩ : BufTy).Contents (Elt F) :=
  constant S_ .f32 0x3F800000#32
def val_main_v46 : (⟨S8x4096x1, .f32⟩ : BufTy).Contents (Elt F) :=
  broadcastInDim S8x4096x1 ![] bcast_S_S8x4096x1 (val_main_cst_10 (F := F))
def val_main_v47 (x0 x1 : (⟨S4096x512, .f32⟩ : BufTy).Contents (Elt F)) (x3 : (⟨S4096x8, .f32⟩ : BufTy).Contents (Elt F)) : (⟨S8x4096x1, .f32⟩ : BufTy).Contents (Elt F) :=
  Host.divf (val_main_v46 (F := F)) (val_main_v45 (F := F) x0 x1 x3)
def val_main_v48 (x2 : (⟨S4096x512, .f32⟩ : BufTy).Contents (Elt F)) : (⟨S4096x8x64, .f32⟩ : BufTy).Contents (Elt F) :=
  shapeCast _ (x2) shapeCasts_S4096x512_S4096x8x64
def val_main_v49 (x0 x1 x2 : (⟨S4096x512, .f32⟩ : BufTy).Contents (Elt F)) (x3 : (⟨S4096x8, .f32⟩ : BufTy).Contents (Elt F)) : (⟨S8x64x4096, .f32⟩ : BufTy).Contents (Elt F) :=
  Host.dotGeneral dot_S4096x8x64_S8x4096x4096_S8x64x4096_0_2_2_1_1_0 none (val_main_v48 (F := F) x2) (val_main_v44 (F := F) x0 x1 x3)
def val_main_v50 (x0 x1 x2 : (⟨S4096x512, .f32⟩ : BufTy).Contents (Elt F)) (x3 : (⟨S4096x8, .f32⟩ : BufTy).Contents (Elt F)) : (⟨S4096x8x64, .f32⟩ : BufTy).Contents (Elt F) :=
  transpose S4096x8x64 [2, 0, 1] (val_main_v49 (F := F) x0 x1 x2 x3) transposes_S8x64x4096_S4096x8x64_2_0_1
def val_main_v51 (x0 x1 x2 : (⟨S4096x512, .f32⟩ : BufTy).Contents (Elt F)) (x3 : (⟨S4096x8, .f32⟩ : BufTy).Contents (Elt F)) : (⟨S4096x512, .f32⟩ : BufTy).Contents (Elt F) :=
  shapeCast _ (val_main_v50 (F := F) x0 x1 x2 x3) shapeCasts_S4096x8x64_S4096x512
def val_main_v52 (x4 : (⟨S4096x512, .f32⟩ : BufTy).Contents (Elt F)) : (⟨S4096x8x64, .f32⟩ : BufTy).Contents (Elt F) :=
  shapeCast _ (x4) shapeCasts_S4096x512_S4096x8x64
def val_main_v53 (x4 : (⟨S4096x512, .f32⟩ : BufTy).Contents (Elt F)) : (⟨S8x64x4096, .f32⟩ : BufTy).Contents (Elt F) :=
  transpose S8x64x4096 [1, 2, 0] (val_main_v52 (F := F) x4) transposes_S4096x8x64_S8x64x4096_1_2_0
def val_main_v54 (x2 x4 : (⟨S4096x512, .f32⟩ : BufTy).Contents (Elt F)) : (⟨S8x4096x4096, .f32⟩ : BufTy).Contents (Elt F) :=
  Host.dotGeneral dot_S8x64x4096_S4096x8x64_S8x4096x4096_1_2_2_0_0_1 none (val_main_v53 (F := F) x4) (val_main_v48 (F := F) x2)
def val_main_v55 (x0 x1 : (⟨S4096x512, .f32⟩ : BufTy).Contents (Elt F)) (x3 : (⟨S4096x8, .f32⟩ : BufTy).Contents (Elt F)) (x4 : (⟨S4096x512, .f32⟩ : BufTy).Contents (Elt F)) : (⟨S8x64x4096, .f32⟩ : BufTy).Contents (Elt F) :=
  Host.dotGeneral dot_S8x64x4096_S8x4096x4096_S8x64x4096_2_1_1_2_0_0 none (val_main_v53 (F := F) x4) (val_main_v44 (F := F) x0 x1 x3)
def val_main_v56 (x0 x1 : (⟨S4096x512, .f32⟩ : BufTy).Contents (Elt F)) (x3 : (⟨S4096x8, .f32⟩ : BufTy).Contents (Elt F)) (x4 : (⟨S4096x512, .f32⟩ : BufTy).Contents (Elt F)) : (⟨S4096x8x64, .f32⟩ : BufTy).Contents (Elt F) :=
  transpose S4096x8x64 [2, 0, 1] (val_main_v55 (F := F) x0 x1 x3 x4) transposes_S8x64x4096_S4096x8x64_2_0_1
def val_main_v57 (x0 x1 : (⟨S4096x512, .f32⟩ : BufTy).Contents (Elt F)) (x3 : (⟨S4096x8, .f32⟩ : BufTy).Contents (Elt F)) (x4 : (⟨S4096x512, .f32⟩ : BufTy).Contents (Elt F)) : (⟨S4096x512, .f32⟩ : BufTy).Contents (Elt F) :=
  shapeCast _ (val_main_v56 (F := F) x0 x1 x3 x4) shapeCasts_S4096x8x64_S4096x512
def val_main_v58 (x0 x1 : (⟨S4096x512, .f32⟩ : BufTy).Contents (Elt F)) (x3 : (⟨S4096x8, .f32⟩ : BufTy).Contents (Elt F)) : (⟨S8x4096x4096, .f32⟩ : BufTy).Contents (Elt F) :=
  broadcastInDim S8x4096x4096 ![0, 1, 2] bcast_S8x4096x1_S8x4096x4096_0_1_2 (val_main_v47 (F := F) x0 x1 x3)
def val_main_v59 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x4096, .f32⟩ : BufTy).Contents (Elt F) :=
  mulf (val_main_v54 (F := F) x2 x4) (val_main_v58 (F := F) x0 x1 x3)
def val_main_v60 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x4096, .f32⟩ : BufTy).Contents (Elt F) :=
  mulf (val_main_v59 (F := F) x0 x1 x2 x3 x4) (val_main_v40 (F := F) x0 x1 x3)
def val_main_cst_11 : (⟨S_, .f32⟩ : BufTy).Contents (Elt F) :=
  constant S_ .f32 0x00000000#32
def val_main_v61 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096, .f32⟩ : BufTy).Contents (Elt F) :=
  Host.reduceAdd (val_main_v60 (F := F) x0 x1 x2 x3 x4) (val_main_cst_11 (F := F)) reducesTo_S8x4096x4096_S8x4096_d2 h_S_
def val_main_v62 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x1, .f32⟩ : BufTy).Contents (Elt F) :=
  shapeCast _ (val_main_v61 (F := F) x0 x1 x2 x3 x4) shapeCasts_S8x4096_S8x4096x1
def val_main_v63 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x1, .f32⟩ : BufTy).Contents (Elt F) :=
  Host.negf (val_main_v62 (F := F) x0 x1 x2 x3 x4)
def val_main_v64 (x0 x1 : (⟨S4096x512, .f32⟩ : BufTy).Contents (Elt F)) (x3 : (⟨S4096x8, .f32⟩ : BufTy).Contents (Elt F)) : (⟨S8x4096x4096, .f32⟩ : BufTy).Contents (Elt F) :=
  broadcastInDim S8x4096x4096 ![0, 1, 2] bcast_S8x4096x1_S8x4096x4096_0_1_2 (val_main_v42 (F := F) x0 x1 x3)
def val_main_v65 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x4096, .f32⟩ : BufTy).Contents (Elt F) :=
  Host.divf (val_main_v54 (F := F) x2 x4) (val_main_v64 (F := F) x0 x1 x3)
def val_main_cst_12 : (⟨S_, .f32⟩ : BufTy).Contents (Elt F) :=
  constant S_ .f32 0x00000000#32
def val_main_v66 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096, .f32⟩ : BufTy).Contents (Elt F) :=
  Host.reduceAdd (val_main_v63 (F := F) x0 x1 x2 x3 x4) (val_main_cst_12 (F := F)) reducesTo_S8x4096x1_S8x4096_d2 h_S_
def val_main_v67 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x4096, .f32⟩ : BufTy).Contents (Elt F) :=
  broadcastInDim S8x4096x4096 ![0, 1] bcast_S8x4096_S8x4096x4096_0_1 (val_main_v66 (F := F) x0 x1 x2 x3 x4)
def val_main_v68 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x4096, .f32⟩ : BufTy).Contents (Elt F) :=
  addf (val_main_v65 (F := F) x0 x1 x2 x3 x4) (val_main_v67 (F := F) x0 x1 x2 x3 x4)
def val_main_v69 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x4096, .f32⟩ : BufTy).Contents (Elt F) :=
  mulf (val_main_v68 (F := F) x0 x1 x2 x3 x4) (val_main_v40 (F := F) x0 x1 x3)
def val_main_call1_cst : (⟨S_, .f32⟩ : BufTy).Contents (Elt F) :=
  constant S_ .f32 0x00000000#32
def val_main_call1_v0 : (⟨S8x4096x4096, .f32⟩ : BufTy).Contents (Elt F) :=
  broadcastInDim S8x4096x4096 ![] bcast_S_S8x4096x4096 (val_main_call1_cst (F := F))
def val_main_v70 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x4096, .f32⟩ : BufTy).Contents (Elt F) :=
  select (val_main_v19_1 (F := F)) (val_main_v69 (F := F) x0 x1 x2 x3 x4) (val_main_call1_v0 (F := F))
def val_main_v71 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x4096, .f32⟩ : BufTy).Contents (Elt F) :=
  Host.negf (val_main_v70 (F := F) x0 x1 x2 x3 x4)
def val_main_cst_13 : (⟨S_, .f32⟩ : BufTy).Contents (Elt F) :=
  constant S_ .f32 0x00000000#32
def val_main_v72 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096, .f32⟩ : BufTy).Contents (Elt F) :=
  Host.reduceAdd (val_main_v71 (F := F) x0 x1 x2 x3 x4) (val_main_cst_13 (F := F)) reducesTo_S8x4096x4096_S8x4096_d1 h_S_
def val_main_v73 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x1x4096, .f32⟩ : BufTy).Contents (Elt F) :=
  shapeCast _ (val_main_v72 (F := F) x0 x1 x2 x3 x4) shapeCasts_S8x4096_S8x1x4096
def val_main_cst_14 : (⟨S_, .f32⟩ : BufTy).Contents (Elt F) :=
  constant S_ .f32 0x00000000#32
def val_main_v74 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096, .f32⟩ : BufTy).Contents (Elt F) :=
  Host.reduceAdd (val_main_v73 (F := F) x0 x1 x2 x3 x4) (val_main_cst_14 (F := F)) reducesTo_S8x1x4096_S8x4096_d1 h_S_
def val_main_v75 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S4096x8, .f32⟩ : BufTy).Contents (Elt F) :=
  transpose S4096x8 [1, 0] (val_main_v74 (F := F) x0 x1 x2 x3 x4) transposes_S8x4096_S4096x8_1_0
def val_main_cst_15 : (⟨S_, .f32⟩ : BufTy).Contents (Elt F) :=
  constant S_ .f32 0x00000000#32
def val_main_v76 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096, .f32⟩ : BufTy).Contents (Elt F) :=
  Host.reduceAdd (val_main_v70 (F := F) x0 x1 x2 x3 x4) (val_main_cst_15 (F := F)) reducesTo_S8x4096x4096_S8x4096_d2 h_S_
def val_main_v77 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x1, .f32⟩ : BufTy).Contents (Elt F) :=
  shapeCast _ (val_main_v76 (F := F) x0 x1 x2 x3 x4) shapeCasts_S8x4096_S8x4096x1
def val_main_cst_16 : (⟨S_, .f32⟩ : BufTy).Contents (Elt F) :=
  constant S_ .f32 0x00000000#32
def val_main_v78 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096, .f32⟩ : BufTy).Contents (Elt F) :=
  Host.reduceAdd (val_main_v77 (F := F) x0 x1 x2 x3 x4) (val_main_cst_16 (F := F)) reducesTo_S8x4096x1_S8x4096_d2 h_S_
def val_main_v79 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S4096x8, .f32⟩ : BufTy).Contents (Elt F) :=
  transpose S4096x8 [1, 0] (val_main_v78 (F := F) x0 x1 x2 x3 x4) transposes_S8x4096_S4096x8_1_0
def val_main_cst_17 : (⟨S_, .f32⟩ : BufTy).Contents (Elt F) :=
  constant S_ .f32 0x3E000000#32
def val_main_v80 : (⟨S8x4096x4096, .f32⟩ : BufTy).Contents (Elt F) :=
  broadcastInDim S8x4096x4096 ![] bcast_S_S8x4096x4096 (val_main_cst_17 (F := F))
def val_main_v81 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x4096, .f32⟩ : BufTy).Contents (Elt F) :=
  mulf (val_main_v70 (F := F) x0 x1 x2 x3 x4) (val_main_v80 (F := F))
def val_main_v82 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x64, .f32⟩ : BufTy).Contents (Elt F) :=
  Host.dotGeneral dot_S8x4096x4096_S4096x8x64_S8x4096x64_1_0_2_2_0_1 none (val_main_v81 (F := F) x0 x1 x2 x3 x4) (val_main_v0 (F := F) x0)
def val_main_v83 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S4096x8x64, .f32⟩ : BufTy).Contents (Elt F) :=
  transpose S4096x8x64 [1, 0, 2] (val_main_v82 (F := F) x0 x1 x2 x3 x4) transposes_S8x4096x64_S4096x8x64_1_0_2
def val_main_v84 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096x64, .f32⟩ : BufTy).Contents (Elt F) :=
  Host.dotGeneral dot_S8x4096x4096_S4096x8x64_S8x4096x64_2_0_1_2_0_1 none (val_main_v81 (F := F) x0 x1 x2 x3 x4) (val_main_v1 (F := F) x1)
def val_main_v85 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S4096x8x64, .f32⟩ : BufTy).Contents (Elt F) :=
  transpose S4096x8x64 [1, 0, 2] (val_main_v84 (F := F) x0 x1 x2 x3 x4) transposes_S8x4096x64_S4096x8x64_1_0_2
def val_main_v86 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S4096x512, .f32⟩ : BufTy).Contents (Elt F) :=
  shapeCast _ (val_main_v83 (F := F) x0 x1 x2 x3 x4) shapeCasts_S4096x8x64_S4096x512
def val_main_v87 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S4096x512, .f32⟩ : BufTy).Contents (Elt F) :=
  shapeCast _ (val_main_v85 (F := F) x0 x1 x2 x3 x4) shapeCasts_S4096x8x64_S4096x512
def val_main_v88 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S512x4096, .f32⟩ : BufTy).Contents (Elt F) :=
  transpose S512x4096 [1, 0] (val_main_v87 (F := F) x0 x1 x2 x3 x4) transposes_S4096x512_S512x4096_1_0
def val_main_v89 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x64x4096, .f32⟩ : BufTy).Contents (Elt F) :=
  shapeCast _ (val_main_v88 (F := F) x0 x1 x2 x3 x4) shapeCasts_S512x4096_S8x64x4096
def val_main_v90 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x64x4096, .bf16⟩ : BufTy).Contents (Elt F) :=
  truncf .bf16 (val_main_v89 (F := F) x0 x1 x2 x3 x4) bitsLt_bf16_f32
def val_main_v91 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x4096, .f32⟩ : BufTy).Contents (Elt F) :=
  transpose S8x4096 [1, 0] (val_main_v79 (F := F) x0 x1 x2 x3 x4) transposes_S4096x8_S8x4096_1_0
def val_main_v92 (x0 x1 x2 : (⟨S4096x512, .f32⟩ : BufTy).Contents (Elt F)) (x3 : (⟨S4096x8, .f32⟩ : BufTy).Contents (Elt F)) (x4 : (⟨S4096x512, .f32⟩ : BufTy).Contents (Elt F)) : (⟨S8x1x4096, .f32⟩ : BufTy).Contents (Elt F) :=
  broadcastInDim S8x1x4096 ![0, 2] bcast_S8x4096_S8x1x4096_0_2 (val_main_v91 (F := F) x0 x1 x2 x3 x4)

/-! ## The lines -/

abbrev ops0 : List (HloOp τ sig (Elt F)) :=
  [ reshape main_arg0 main_v0 (rfl : (.f32 : EltTy) = .f32) shapeCasts_S4096x512_S4096x8x64,
    reshape main_arg1 main_v1 (rfl : (.f32 : EltTy) = .f32) shapeCasts_S4096x512_S4096x8x64,
    binary main_v0 main_v1 main_v2 ((fun l r => Host.dotGeneral dot_S4096x8x64_S4096x8x64_S8x4096x4096_2_2_0_0_1_1 none l r) : (⟨S4096x8x64, .f32⟩ : BufTy).Contents (Elt F) → (⟨S4096x8x64, .f32⟩ : BufTy).Contents (Elt F) → (⟨S8x4096x4096, .f32⟩ : BufTy).Contents (Elt F)),
    nullary main_cst (constant S_ .f32 0x3E000000#32),
    unary main_cst main_v3 (broadcastInDim S8x4096x4096 ![] bcast_S_S8x4096x4096 : (⟨S_, .f32⟩ : BufTy).Contents (Elt F) → (⟨S8x4096x4096, .f32⟩ : BufTy).Contents (Elt F)),
    binary main_v2 main_v3 main_v4 (mulf : (⟨S8x4096x4096, .f32⟩ : BufTy).Contents (Elt F) → (⟨S8x4096x4096, .f32⟩ : BufTy).Contents (Elt F) → (⟨S8x4096x4096, .f32⟩ : BufTy).Contents (Elt F)),
    unary main_arg3 main_v5 ((transpose S8x4096 [1, 0] · transposes_S4096x8_S8x4096_1_0) : (⟨S4096x8, .f32⟩ : BufTy).Contents (Elt F) → (⟨S8x4096, .f32⟩ : BufTy).Contents (Elt F)),
    unary main_v5 main_v6 (broadcastInDim S8x4096x1 ![0, 1] bcast_S8x4096_S8x4096x1_0_1 : (⟨S8x4096, .f32⟩ : BufTy).Contents (Elt F) → (⟨S8x4096x1, .f32⟩ : BufTy).Contents (Elt F)),
    unary main_v6 main_v7 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v4 main_v7 main_v8 (addf : (⟨S8x4096x4096, .f32⟩ : BufTy).Contents (Elt F) → (⟨S8x4096x4096, .f32⟩ : BufTy).Contents (Elt F) → (⟨S8x4096x4096, .f32⟩ : BufTy).Contents (Elt F)),
    unary main_arg3 main_v9 ((transpose S8x4096 [1, 0] · transposes_S4096x8_S8x4096_1_0) : (⟨S4096x8, .f32⟩ : BufTy).Contents (Elt F) → (⟨S8x4096, .f32⟩ : BufTy).Contents (Elt F)),
    unary main_v9 main_v10 (broadcastInDim S8x1x4096 ![0, 2] bcast_S8x4096_S8x1x4096_0_2 : (⟨S8x4096, .f32⟩ : BufTy).Contents (Elt F) → (⟨S8x1x4096, .f32⟩ : BufTy).Contents (Elt F)),
    unary main_v10 main_v11 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v8 main_v11 main_v12 (subf : (⟨S8x4096x4096, .f32⟩ : BufTy).Contents (Elt F) → (⟨S8x4096x4096, .f32⟩ : BufTy).Contents (Elt F) → (⟨S8x4096x4096, .f32⟩ : BufTy).Contents (Elt F)),
    nullary main_v13 (iotaInDim S4096 32 0),
    unary main_v13 main_v14 (broadcastInDim S1x4096 ![1] bcast_S4096_S1x4096_1 : (⟨S4096, .i32⟩ : BufTy).Contents (Elt F) → (⟨S1x4096, .i32⟩ : BufTy).Contents (Elt F)),
    unary main_v13 main_v15 (broadcastInDim S4096x1 ![0] bcast_S4096_S4096x1_0 : (⟨S4096, .i32⟩ : BufTy).Contents (Elt F) → (⟨S4096x1, .i32⟩ : BufTy).Contents (Elt F)),
    unary main_v14 main_v16 (broadcastInDim S4096x4096 ![0, 1] bcast_S1x4096_S4096x4096_0_1 : (⟨S1x4096, .i32⟩ : BufTy).Contents (Elt F) → (⟨S4096x4096, .i32⟩ : BufTy).Contents (Elt F)),
    unary main_v15 main_v17 (broadcastInDim S4096x4096 ![0, 1] bcast_S4096x1_S4096x4096_0_1 : (⟨S4096x1, .i32⟩ : BufTy).Contents (Elt F) → (⟨S4096x4096, .i32⟩ : BufTy).Contents (Elt F)),
    binary main_v16 main_v17 main_v18 (cmpi .sle : (⟨S4096x4096, .i32⟩ : BufTy).Contents (Elt F) → (⟨S4096x4096, .i32⟩ : BufTy).Contents (Elt F) → (⟨S4096x4096, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S4096x4096, .i1⟩) main_v18) (TRef.of (T := ⟨S8x4096x4096, .i1⟩) main_v19_1) (broadcastInDim S8x4096x4096 ![1, 2] bcast_S4096x4096_S8x4096x4096_1_2),
    TRef.unary (TRef.of (T := ⟨S_, .f32⟩) main_call0_v0) (TRef.of (T := ⟨S8x4096x4096, .f32⟩) main_call0_v2) (broadcastInDim S8x4096x4096 ![] bcast_S_S8x4096x4096),
    TRef.ternary (TRef.of (T := ⟨S8x4096x4096, .i1⟩) main_v19_1) (TRef.of (T := ⟨S8x4096x4096, .f32⟩) main_v12) (TRef.of (T := ⟨S8x4096x4096, .f32⟩) main_call0_v2) (TRef.of (T := ⟨S8x4096x4096, .f32⟩) main_v19_0) select,
    TRef.nullary (TRef.of (T := ⟨S_, .f32⟩) main_call0_cst) (constant S_ .f32 0x00000000#32),
    TRef.unary (TRef.of (T := ⟨S_, .f32⟩) main_call0_cst) (TRef.of (T := ⟨S8x4096x4096, .f32⟩) main_v19_2) (broadcastInDim S8x4096x4096 ![] bcast_S_S8x4096x4096),
    nullary main_cst_1 (constant S_ .f32 0xFF800000#32),
    binary main_v19_0 main_cst_1 main_v20 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v20 main_v21 (rfl : (.f32 : EltTy) = .f32) shapeCasts_S8x4096_S8x4096x1,
    unary main_v21 main_v22 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v19_0 main_v22 main_v23 (cmpf .oeq : (⟨S8x4096x4096, .f32⟩ : BufTy).Contents (Elt F) → (⟨S8x4096x4096, .f32⟩ : BufTy).Contents (Elt F) → (⟨S8x4096x4096, .i1⟩ : BufTy).Contents (Elt F)),
    unary main_v23 main_v24 (uitofp .f32 : (⟨S8x4096x4096, .i1⟩ : BufTy).Contents (Elt F) → (⟨S8x4096x4096, .f32⟩ : BufTy).Contents (Elt F)),
    nullary main_cst_2 (constant S_ .f32 0x00000000#32),
    binary main_v24 main_cst_2 main_v25 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    nullary main_cst_3 (constant S_ .f32 0xFF800000#32),
    unary main_cst_3 main_v26 (broadcastInDim S8x4096 ![] bcast_S_S8x4096 : (⟨S_, .f32⟩ : BufTy).Contents (Elt F) → (⟨S8x4096, .f32⟩ : BufTy).Contents (Elt F)),
    binary main_v26 main_v20 main_v27 (maximumf : (⟨S8x4096, .f32⟩ : BufTy).Contents (Elt F) → (⟨S8x4096, .f32⟩ : BufTy).Contents (Elt F) → (⟨S8x4096, .f32⟩ : BufTy).Contents (Elt F)),
    nullary main_cst_4 (constant S_ .f32 0xFF800000#32),
    unary main_cst_4 main_v28 (broadcastInDim S8x4096 ![] bcast_S_S8x4096 : (⟨S_, .f32⟩ : BufTy).Contents (Elt F) → (⟨S8x4096, .f32⟩ : BufTy).Contents (Elt F)),
    binary main_v20 main_v28 main_v29 (cmpf .ogt : (⟨S8x4096, .f32⟩ : BufTy).Contents (Elt F) → (⟨S8x4096, .f32⟩ : BufTy).Contents (Elt F) → (⟨S8x4096, .i1⟩ : BufTy).Contents (Elt F)),
    nullary main_cst_5 (constant S_ .f32 0xFF800000#32),
    unary main_cst_5 main_v30 (broadcastInDim S8x4096 ![] bcast_S_S8x4096 : (⟨S_, .f32⟩ : BufTy).Contents (Elt F) → (⟨S8x4096, .f32⟩ : BufTy).Contents (Elt F)),
    binary main_v20 main_v30 main_v31 (cmpf .oeq : (⟨S8x4096, .f32⟩ : BufTy).Contents (Elt F) → (⟨S8x4096, .f32⟩ : BufTy).Contents (Elt F) → (⟨S8x4096, .i1⟩ : BufTy).Contents (Elt F)),
    nullary main_cst_6 (constant S_ .f32 0x3F800000#32),
    unary main_cst_6 main_v32 (broadcastInDim S8x4096 ![] bcast_S_S8x4096 : (⟨S_, .f32⟩ : BufTy).Contents (Elt F) → (⟨S8x4096, .f32⟩ : BufTy).Contents (Elt F)),
    nullary main_cst_7 (constant S_ .f32 0x00000000#32),
    unary main_cst_7 main_v33 (broadcastInDim S8x4096 ![] bcast_S_S8x4096 : (⟨S_, .f32⟩ : BufTy).Contents (Elt F) → (⟨S8x4096, .f32⟩ : BufTy).Contents (Elt F)),
    nullary main_cst_8 (constant S_ .f32 0x3F000000#32),
    unary main_cst_8 main_v34 (broadcastInDim S8x4096 ![] bcast_S_S8x4096 : (⟨S_, .f32⟩ : BufTy).Contents (Elt F) → (⟨S8x4096, .f32⟩ : BufTy).Contents (Elt F)),
    ternary main_v31 main_v34 main_v33 main_v35 (select : (⟨S8x4096, .i1⟩ : BufTy).Contents (Elt F) → (⟨S8x4096, .f32⟩ : BufTy).Contents (Elt F) → (⟨S8x4096, .f32⟩ : BufTy).Contents (Elt F) → (⟨S8x4096, .f32⟩ : BufTy).Contents (Elt F)),
    ternary main_v29 main_v32 main_v35 main_v36 (select : (⟨S8x4096, .i1⟩ : BufTy).Contents (Elt F) → (⟨S8x4096, .f32⟩ : BufTy).Contents (Elt F) → (⟨S8x4096, .f32⟩ : BufTy).Contents (Elt F) → (⟨S8x4096, .f32⟩ : BufTy).Contents (Elt F)),
    unary main_v27 main_v37 (broadcastInDim S8x4096x1 ![0, 1] bcast_S8x4096_S8x4096x1_0_1 : (⟨S8x4096, .f32⟩ : BufTy).Contents (Elt F) → (⟨S8x4096x1, .f32⟩ : BufTy).Contents (Elt F)),
    unary main_v37 main_v38 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v19_0 main_v38 main_v39 (subf : (⟨S8x4096x4096, .f32⟩ : BufTy).Contents (Elt F) → (⟨S8x4096x4096, .f32⟩ : BufTy).Contents (Elt F) → (⟨S8x4096x4096, .f32⟩ : BufTy).Contents (Elt F)),
    unary main_v39 main_v40 (Host.exp : (⟨S8x4096x4096, .f32⟩ : BufTy).Contents (Elt F) → (⟨S8x4096x4096, .f32⟩ : BufTy).Contents (Elt F)),
    nullary main_cst_9 (constant S_ .f32 0x00000000#32),
    binary main_v40 main_cst_9 main_v41 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v41 main_v42 (broadcastInDim S8x4096x1 ![0, 1] bcast_S8x4096_S8x4096x1_0_1 : (⟨S8x4096, .f32⟩ : BufTy).Contents (Elt F) → (⟨S8x4096x1, .f32⟩ : BufTy).Contents (Elt F)),
    unary main_v42 main_v43 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v40 main_v43 main_v44 (Host.divf : (⟨S8x4096x4096, .f32⟩ : BufTy).Contents (Elt F) → (⟨S8x4096x4096, .f32⟩ : BufTy).Contents (Elt F) → (⟨S8x4096x4096, .f32⟩ : BufTy).Contents (Elt F)),
    binary main_v42 main_v42 main_v45 (mulf : (⟨S8x4096x1, .f32⟩ : BufTy).Contents (Elt F) → (⟨S8x4096x1, .f32⟩ : BufTy).Contents (Elt F) → (⟨S8x4096x1, .f32⟩ : BufTy).Contents (Elt F)),
    nullary main_cst_10 (constant S_ .f32 0x3F800000#32),
    unary main_cst_10 main_v46 (broadcastInDim S8x4096x1 ![] bcast_S_S8x4096x1 : (⟨S_, .f32⟩ : BufTy).Contents (Elt F) → (⟨S8x4096x1, .f32⟩ : BufTy).Contents (Elt F)),
    binary main_v46 main_v45 main_v47 (Host.divf : (⟨S8x4096x1, .f32⟩ : BufTy).Contents (Elt F) → (⟨S8x4096x1, .f32⟩ : BufTy).Contents (Elt F) → (⟨S8x4096x1, .f32⟩ : BufTy).Contents (Elt F)) ]

abbrev ops1 : List (HloOp τ sig (Elt F)) :=
  [ reshape main_arg2 main_v48 (rfl : (.f32 : EltTy) = .f32) shapeCasts_S4096x512_S4096x8x64,
    binary main_v48 main_v44 main_v49 ((fun l r => Host.dotGeneral dot_S4096x8x64_S8x4096x4096_S8x64x4096_0_2_2_1_1_0 none l r) : (⟨S4096x8x64, .f32⟩ : BufTy).Contents (Elt F) → (⟨S8x4096x4096, .f32⟩ : BufTy).Contents (Elt F) → (⟨S8x64x4096, .f32⟩ : BufTy).Contents (Elt F)),
    unary main_v49 main_v50 ((transpose S4096x8x64 [2, 0, 1] · transposes_S8x64x4096_S4096x8x64_2_0_1) : (⟨S8x64x4096, .f32⟩ : BufTy).Contents (Elt F) → (⟨S4096x8x64, .f32⟩ : BufTy).Contents (Elt F)),
    reshape main_v50 main_v51 (rfl : (.f32 : EltTy) = .f32) shapeCasts_S4096x8x64_S4096x512,
    reshape main_arg4 main_v52 (rfl : (.f32 : EltTy) = .f32) shapeCasts_S4096x512_S4096x8x64,
    unary main_v52 main_v53 ((transpose S8x64x4096 [1, 2, 0] · transposes_S4096x8x64_S8x64x4096_1_2_0) : (⟨S4096x8x64, .f32⟩ : BufTy).Contents (Elt F) → (⟨S8x64x4096, .f32⟩ : BufTy).Contents (Elt F)),
    binary main_v53 main_v48 main_v54 ((fun l r => Host.dotGeneral dot_S8x64x4096_S4096x8x64_S8x4096x4096_1_2_2_0_0_1 none l r) : (⟨S8x64x4096, .f32⟩ : BufTy).Contents (Elt F) → (⟨S4096x8x64, .f32⟩ : BufTy).Contents (Elt F) → (⟨S8x4096x4096, .f32⟩ : BufTy).Contents (Elt F)),
    binary main_v53 main_v44 main_v55 ((fun l r => Host.dotGeneral dot_S8x64x4096_S8x4096x4096_S8x64x4096_2_1_1_2_0_0 none l r) : (⟨S8x64x4096, .f32⟩ : BufTy).Contents (Elt F) → (⟨S8x4096x4096, .f32⟩ : BufTy).Contents (Elt F) → (⟨S8x64x4096, .f32⟩ : BufTy).Contents (Elt F)),
    unary main_v55 main_v56 ((transpose S4096x8x64 [2, 0, 1] · transposes_S8x64x4096_S4096x8x64_2_0_1) : (⟨S8x64x4096, .f32⟩ : BufTy).Contents (Elt F) → (⟨S4096x8x64, .f32⟩ : BufTy).Contents (Elt F)),
    reshape main_v56 main_v57 (rfl : (.f32 : EltTy) = .f32) shapeCasts_S4096x8x64_S4096x512,
    unary main_v47 main_v58 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v54 main_v58 main_v59 (mulf : (⟨S8x4096x4096, .f32⟩ : BufTy).Contents (Elt F) → (⟨S8x4096x4096, .f32⟩ : BufTy).Contents (Elt F) → (⟨S8x4096x4096, .f32⟩ : BufTy).Contents (Elt F)),
    binary main_v59 main_v40 main_v60 (mulf : (⟨S8x4096x4096, .f32⟩ : BufTy).Contents (Elt F) → (⟨S8x4096x4096, .f32⟩ : BufTy).Contents (Elt F) → (⟨S8x4096x4096, .f32⟩ : BufTy).Contents (Elt F)),
    nullary main_cst_11 (constant S_ .f32 0x00000000#32),
    binary main_v60 main_cst_11 main_v61 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v61 main_v62 (rfl : (.f32 : EltTy) = .f32) shapeCasts_S8x4096_S8x4096x1,
    unary main_v62 main_v63 (Host.negf : (⟨S8x4096x1, .f32⟩ : BufTy).Contents (Elt F) → (⟨S8x4096x1, .f32⟩ : BufTy).Contents (Elt F)),
    unary main_v42 main_v64 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v54 main_v64 main_v65 (Host.divf : (⟨S8x4096x4096, .f32⟩ : BufTy).Contents (Elt F) → (⟨S8x4096x4096, .f32⟩ : BufTy).Contents (Elt F) → (⟨S8x4096x4096, .f32⟩ : BufTy).Contents (Elt F)),
    nullary main_cst_12 (constant S_ .f32 0x00000000#32),
    binary main_v63 main_cst_12 main_v66 ((fun x v => Host.reduceAdd x v reducesTo_S8x4096x1_S8x4096_d2 h_S_) : (⟨S8x4096x1, .f32⟩ : BufTy).Contents (Elt F) → (⟨S_, .f32⟩ : BufTy).Contents (Elt F) → (⟨S8x4096, .f32⟩ : BufTy).Contents (Elt F)),
    unary main_v66 main_v67 (broadcastInDim S8x4096x4096 ![0, 1] bcast_S8x4096_S8x4096x4096_0_1 : (⟨S8x4096, .f32⟩ : BufTy).Contents (Elt F) → (⟨S8x4096x4096, .f32⟩ : BufTy).Contents (Elt F)),
    binary main_v65 main_v67 main_v68 (addf : (⟨S8x4096x4096, .f32⟩ : BufTy).Contents (Elt F) → (⟨S8x4096x4096, .f32⟩ : BufTy).Contents (Elt F) → (⟨S8x4096x4096, .f32⟩ : BufTy).Contents (Elt F)),
    binary main_v68 main_v40 main_v69 (mulf : (⟨S8x4096x4096, .f32⟩ : BufTy).Contents (Elt F) → (⟨S8x4096x4096, .f32⟩ : BufTy).Contents (Elt F) → (⟨S8x4096x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x4096x4096, .f32⟩) main_call1_v0) (broadcastInDim S8x4096x4096 ![] bcast_S_S8x4096x4096),
    TRef.ternary (TRef.of (T := ⟨S8x4096x4096, .i1⟩) main_v19_1) (TRef.of (T := ⟨S8x4096x4096, .f32⟩) main_v69) (TRef.of (T := ⟨S8x4096x4096, .f32⟩) main_call1_v0) (TRef.of (T := ⟨S8x4096x4096, .f32⟩) main_v70) select,
    unary main_v70 main_v71 (Host.negf : (⟨S8x4096x4096, .f32⟩ : BufTy).Contents (Elt F) → (⟨S8x4096x4096, .f32⟩ : BufTy).Contents (Elt F)),
    nullary main_cst_13 (constant S_ .f32 0x00000000#32),
    binary main_v71 main_cst_13 main_v72 ((fun x v => Host.reduceAdd x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)),
    reshape main_v72 main_v73 (rfl : (.f32 : EltTy) = .f32) shapeCasts_S8x4096_S8x1x4096,
    nullary main_cst_14 (constant S_ .f32 0x00000000#32),
    binary main_v73 main_cst_14 main_v74 ((fun x v => Host.reduceAdd x v reducesTo_S8x1x4096_S8x4096_d1 h_S_) : (⟨S8x1x4096, .f32⟩ : BufTy).Contents (Elt F) → (⟨S_, .f32⟩ : BufTy).Contents (Elt F) → (⟨S8x4096, .f32⟩ : BufTy).Contents (Elt F)),
    unary main_v74 main_v75 ((transpose S4096x8 [1, 0] · transposes_S8x4096_S4096x8_1_0) : (⟨S8x4096, .f32⟩ : BufTy).Contents (Elt F) → (⟨S4096x8, .f32⟩ : BufTy).Contents (Elt F)),
    nullary main_cst_15 (constant S_ .f32 0x00000000#32),
    binary main_v70 main_cst_15 main_v76 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v76 main_v77 (rfl : (.f32 : EltTy) = .f32) shapeCasts_S8x4096_S8x4096x1,
    nullary main_cst_16 (constant S_ .f32 0x00000000#32),
    binary main_v77 main_cst_16 main_v78 ((fun x v => Host.reduceAdd x v reducesTo_S8x4096x1_S8x4096_d2 h_S_) : (⟨S8x4096x1, .f32⟩ : BufTy).Contents (Elt F) → (⟨S_, .f32⟩ : BufTy).Contents (Elt F) → (⟨S8x4096, .f32⟩ : BufTy).Contents (Elt F)),
    unary main_v78 main_v79 ((transpose S4096x8 [1, 0] · transposes_S8x4096_S4096x8_1_0) : (⟨S8x4096, .f32⟩ : BufTy).Contents (Elt F) → (⟨S4096x8, .f32⟩ : BufTy).Contents (Elt F)),
    nullary main_cst_17 (constant S_ .f32 0x3E000000#32),
    unary main_cst_17 main_v80 (broadcastInDim S8x4096x4096 ![] bcast_S_S8x4096x4096 : (⟨S_, .f32⟩ : BufTy).Contents (Elt F) → (⟨S8x4096x4096, .f32⟩ : BufTy).Contents (Elt F)),
    binary main_v70 main_v80 main_v81 (mulf : (⟨S8x4096x4096, .f32⟩ : BufTy).Contents (Elt F) → (⟨S8x4096x4096, .f32⟩ : BufTy).Contents (Elt F) → (⟨S8x4096x4096, .f32⟩ : BufTy).Contents (Elt F)),
    binary main_v81 main_v0 main_v82 ((fun l r => Host.dotGeneral dot_S8x4096x4096_S4096x8x64_S8x4096x64_1_0_2_2_0_1 none l r) : (⟨S8x4096x4096, .f32⟩ : BufTy).Contents (Elt F) → (⟨S4096x8x64, .f32⟩ : BufTy).Contents (Elt F) → (⟨S8x4096x64, .f32⟩ : BufTy).Contents (Elt F)),
    unary main_v82 main_v83 ((transpose S4096x8x64 [1, 0, 2] · transposes_S8x4096x64_S4096x8x64_1_0_2) : (⟨S8x4096x64, .f32⟩ : BufTy).Contents (Elt F) → (⟨S4096x8x64, .f32⟩ : BufTy).Contents (Elt F)),
    binary main_v81 main_v1 main_v84 ((fun l r => Host.dotGeneral dot_S8x4096x4096_S4096x8x64_S8x4096x64_2_0_1_2_0_1 none l r) : (⟨S8x4096x4096, .f32⟩ : BufTy).Contents (Elt F) → (⟨S4096x8x64, .f32⟩ : BufTy).Contents (Elt F) → (⟨S8x4096x64, .f32⟩ : BufTy).Contents (Elt F)),
    unary main_v84 main_v85 ((transpose S4096x8x64 [1, 0, 2] · transposes_S8x4096x64_S4096x8x64_1_0_2) : (⟨S8x4096x64, .f32⟩ : BufTy).Contents (Elt F) → (⟨S4096x8x64, .f32⟩ : BufTy).Contents (Elt F)),
    reshape main_v83 main_v86 (rfl : (.f32 : EltTy) = .f32) shapeCasts_S4096x8x64_S4096x512,
    reshape main_v85 main_v87 (rfl : (.f32 : EltTy) = .f32) shapeCasts_S4096x8x64_S4096x512,
    unary main_v87 main_v88 ((transpose S512x4096 [1, 0] · transposes_S4096x512_S512x4096_1_0) : (⟨S4096x512, .f32⟩ : BufTy).Contents (Elt F) → (⟨S512x4096, .f32⟩ : BufTy).Contents (Elt F)),
    reshape main_v88 main_v89 (rfl : (.f32 : EltTy) = .f32) shapeCasts_S512x4096_S8x64x4096,
    unary main_v89 main_v90 ((truncf .bf16 · bitsLt_bf16_f32) : (⟨S8x64x4096, .f32⟩ : BufTy).Contents (Elt F) → (⟨S8x64x4096, .bf16⟩ : BufTy).Contents (Elt F)),
    unary main_v79 main_v91 ((transpose S8x4096 [1, 0] · transposes_S4096x8_S8x4096_1_0) : (⟨S4096x8, .f32⟩ : BufTy).Contents (Elt F) → (⟨S8x4096, .f32⟩ : BufTy).Contents (Elt F)),
    unary main_v91 main_v92 (broadcastInDim S8x1x4096 ![0, 2] bcast_S8x4096_S8x1x4096_0_2 : (⟨S8x4096, .f32⟩ : BufTy).Contents (Elt F) → (⟨S8x1x4096, .f32⟩ : BufTy).Contents (Elt F)) ]

set_option maxRecDepth 8192 in
theorem part0_eq (c : Dev nD) : main_part0 (F := F) c = seq ops0 := rfl

set_option maxRecDepth 8192 in
theorem part1_eq (c : Dev nD) : main_part1 (F := F) c = seq ops1 := rfl

theorem main_eq (c : Dev nD) : main (F := F) c = seq (ops0 ++ ops1) := by
  rw [seq_append, ← part0_eq c, ← part1_eq c]; rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨reshape_bufs_sub .., reshape_bufs_sub .., binary_bufs_sub .., nullary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., unary_bufs_sub .., nullary_bufs_sub .., binary_bufs_sub .., reshape_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub ..⟩
set_option maxRecDepth 8192 in
theorem ops1_sub : (ops1 : List (HloOp τ sig (Elt F))).Forall fun op => op.bufs ⊆ tcRefs τ sig :=
  ⟨reshape_bufs_sub .., binary_bufs_sub .., unary_bufs_sub .., reshape_bufs_sub .., reshape_bufs_sub .., unary_bufs_sub .., binary_bufs_sub .., binary_bufs_sub .., unary_bufs_sub .., reshape_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub .., nullary_bufs_sub .., unary_bufs_sub .., ternary_bufs_sub .., unary_bufs_sub .., nullary_bufs_sub .., binary_bufs_sub .., reshape_bufs_sub .., nullary_bufs_sub .., binary_bufs_sub .., unary_bufs_sub .., nullary_bufs_sub .., binary_bufs_sub .., reshape_bufs_sub .., nullary_bufs_sub .., binary_bufs_sub .., unary_bufs_sub .., nullary_bufs_sub .., unary_bufs_sub .., binary_bufs_sub .., binary_bufs_sub .., unary_bufs_sub .., binary_bufs_sub .., unary_bufs_sub .., reshape_bufs_sub .., reshape_bufs_sub .., unary_bufs_sub .., reshape_bufs_sub .., unary_bufs_sub .., unary_bufs_sub .., unary_bufs_sub ..⟩

theorem ops_sub : (ops0 ++ ops1 : List (HloOp τ sig (Elt F))).Forall fun op => op.bufs ⊆ tcRefs τ sig :=
  List.forall_append.mpr ⟨ops0_sub, ops1_sub⟩

/-! ## The run -/

section

variable (m : (ℓ : Loc nD τ sig) → Buf (Elt F) ℓ) (c : Dev nD)

set_option maxRecDepth 65536 in
set_option maxHeartbeats 4000000 in
theorem after_main_v90 : after (ops0 ++ ops1) (launchContents m c) (Proc.devRef .tc main_v90)
    = val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops0, ops1, List.cons_append, List.nil_append, TRef.nullary, TRef.ternary, TRef.unary, TRef.toBuf, TRef.ofBuf, cast_eq]
  after_reads_simp
  rfl

set_option maxRecDepth 65536 in
set_option maxHeartbeats 4000000 in
theorem after_main_v92 : after (ops0 ++ ops1) (launchContents m c) (Proc.devRef .tc main_v92)
    = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops0, ops1, List.cons_append, List.nil_append, TRef.nullary, TRef.ternary, TRef.unary, TRef.toBuf, TRef.ofBuf, cast_eq]
  after_reads_simp
  rfl

set_option maxRecDepth 65536 in
theorem after_args : after (ops0 ++ ops1) (launchContents m c) (Proc.devRef .tc main_arg0) = m ((c.tc : Thread nD τ).loc main_arg0)
    ∧ after (ops0 ++ ops1) (launchContents m c) (Proc.devRef .tc main_arg1) = m ((c.tc : Thread nD τ).loc main_arg1)
    ∧ after (ops0 ++ ops1) (launchContents m c) (Proc.devRef .tc main_arg2) = m ((c.tc : Thread nD τ).loc main_arg2)
    ∧ after (ops0 ++ ops1) (launchContents m c) (Proc.devRef .tc main_arg3) = m ((c.tc : Thread nD τ).loc main_arg3)
    ∧ after (ops0 ++ ops1) (launchContents m c) (Proc.devRef .tc main_arg4) = m ((c.tc : Thread nD τ).loc main_arg4) := by
  simp only [ops0, ops1, List.cons_append, List.nil_append, TRef.nullary, TRef.ternary, TRef.unary, TRef.toBuf, TRef.ofBuf, cast_eq]
  refine ⟨?_, ?_, ?_, ?_, ?_⟩ <;> after_reads_simp

end

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90) = val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v92) = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨a0, a1, a2, a3, a4⟩ := after_args m c
    exact ⟨(h c main_v90).trans (after_main_v90 m c), (h c main_v92).trans (after_main_v92 m c), (h c main_arg0).trans a0,
      (h c main_arg1).trans a1, (h c main_arg2).trans a2, (h c main_arg3).trans a3, (h c main_arg4).trans a4⟩)
    (run_seq scopedRefs_eq scopedSems_eq defs main (fun _ => ops0 ++ ops1) main_eq (fun _ => ops_sub) m ρ)

end Cert.ReferenceIdeal.Lines

end
-- ==== Proof.DqI.Step.lean ====
/- One point of the query gradient's grid, head by head: what a tile of keys adds to a tile of queries' sums, as a formula over
   the blocks' entries. -/
module

public import proofs.«01_k».proof.Proof.Gen.KernelIdeal.Skeleton
public import proofs.«01_k».proof.Proof.Fox.Arrays

@[expose] public section

set_option maxRecDepth 16384

noncomputable section

namespace Cert.Fox

open Idealize.ShloMosaic Cert.KernelIdeal Cert.KernelIdeal.Gen

/-- The gradient of one score in its tile: the exponential of `s` times the weights' gradient less the output's. -/
def tileScore (s : EReal) (lse : Vec Ideal S8x1x512 .f32) (v : Vec Ideal S8x512x64 .bf16) (d : Vec Ideal S8x64x512 .bf16) (o : Vec Ideal S8x64x512 .f32)
    (h : Fin 8) (i j : Fin 512) : EReal :=
  Ideal.exp (s - lse (ix3 h 0 j)) * ((∑ e : Fin 64, v (ix3 h i e) * d (ix3 h e j)) - ∑ e : Fin 64, d (ix3 h e j) * o (ix3 h e j))

/-- A key's row against a query's row. -/
def tileDot (qa ka : Vec Ideal S8x512x128 .bf16) (h : Fin 8) (i j : Fin 512) : EReal := ∑ a : Fin 128, ka (ix3 h i a) * qa (ix3 h j a)

/-- What a tile of keys before the tile of queries leaves in the sums. -/
def stepOff (qa ka : Vec Ideal S8x512x128 .bf16) (kat : Vec Ideal S8x128x512 .bf16) (v : Vec Ideal S8x512x64 .bf16) (d : Vec Ideal S8x64x512 .bf16)
    (o : Vec Ideal S8x64x512 .f32) (lse : Vec Ideal S8x1x512 .f32) (acc : Vec Ideal S8x128x512 .f32) : Vec Ideal S8x128x512 .f32 := fun y =>
  acc (ix3 (y 0) (y 1) (y 2)) + ∑ i : Fin 512, kat (ix3 (y 0) (y 1) i) * tileScore (tileDot qa ka (y 0) i (y 2)) lse v d o (y 0) i (y 2)

/-- What the tile of keys beside the tile of queries leaves in the sums: keys after a query do not count. -/
def stepDiag (qa ka : Vec Ideal S8x512x128 .bf16) (kat : Vec Ideal S8x128x512 .bf16) (v : Vec Ideal S8x512x64 .bf16) (d : Vec Ideal S8x64x512 .bf16)
    (o : Vec Ideal S8x64x512 .f32) (lse : Vec Ideal S8x1x512 .f32) (acc : Vec Ideal S8x128x512 .f32) : Vec Ideal S8x128x512 .f32 := fun y =>
  acc (ix3 (y 0) (y 1) (y 2)) + ∑ i : Fin 512, kat (ix3 (y 0) (y 1) i) *
    tileScore (if i ≤ y 2 then tileDot qa ka (y 0) i (y 2) else ⊥) lse v d o (y 0) i (y 2)

/-- Head `h` of a block of eight. -/
def slab {a b : ℕ} {α : Type} (X : (Shape.mk 3 ![8, a, b]).Idx → α) (h : Fin 8) : (Shape.mk 3 ![1, a, b]).Idx → α := fun x => X (ix3 h (x 1) (x 2))

theorem emb_slab {a b : ℕ} (h : Fin 8) (inb : ∀ x, (![h.val, 0, 0] : Fin 3 → ℕ) x + (![1, a, b] : Fin 3 → ℕ) x ≤ (Shape.mk 3 ![8, a, b]).size x)
    (x : (Shape.mk 3 ![1, a, b]).Idx) : (Rect.unit (s := Shape.mk 3 ![8, a, b]) ![h.val, 0, 0] ![1, a, b] inb).emb x = ix3 h (x 1) (x 2) := by
  refine funext fun d => Fin.ext ?_
  rw [Rect.emb_apply]
  match d with
  | ⟨0, _⟩ => show h.val + 1 * (x 0).val = h.val; have := (x 0).isLt; have : (x 0).val < 1 := this; omega
  | ⟨1, _⟩ => show 0 + 1 * (x 1).val = (x 1).val; omega
  | ⟨2, _⟩ => show 0 + 1 * (x 2).val = (x 2).val; omega

theorem ld_slab {a b : ℕ} {e : EltTy} (X : Vec Ideal (Shape.mk 3 ![8, a, b]) e) (h : Fin 8)
    (inb : ∀ x, (![h.val, 0, 0] : Fin 3 → ℕ) x + (![1, a, b] : Fin 3 → ℕ) x ≤ (Shape.mk 3 ![8, a, b]).size x) :
    View.ld X (Rect.unit ![h.val, 0, 0] ![1, a, b] inb) = slab X h := by
  funext x
  exact congrArg X (emb_slab h inb x)

section

variable (ka qa : Vec Ideal S1x512x128 .bf16) (lse : Vec Ideal S1x1x512 .f32) (v : Vec Ideal S1x512x64 .bf16) (d d' : Vec Ideal S1x64x512 .bf16)
  (o : Vec Ideal S1x64x512 .f32) (acc : Vec Ideal S1x128x512 .f32) (kat : Vec Ideal S1x128x512 .bf16)

/-- The kernel's term for one head at a tile of keys before the tile of queries. -/
abbrev headOff : Vec Ideal S1x128x512 .f32 := k0_pay19 (k0_pay16 ka qa lse v d d' o) (k0_pay17 acc) (k0_pay18 kat)

/-- The kernel's term for one head at the tile of keys beside the tile of queries. -/
abbrev headDiag : Vec Ideal S1x128x512 .f32 := k0_pay42 (k0_pay41 ka qa lse v d d' o) acc kat

theorem scoreOff_apply (i j : Fin 512) : k0_pay16 ka qa lse v d d' o (ix2 i j)
    = Ideal.exp ((∑ a : Fin 128, ka (ix3 0 i a) * qa (ix3 0 j a)) - lse (ix3 0 0 j)) *
      ((∑ e : Fin 64, v (ix3 0 i e) * d (ix3 0 e j)) - ∑ e : Fin 64, d' (ix3 0 e j) * o (ix3 0 e j)) := by
  pointwise [k0_pay16]

theorem select_tile {α : Type} (i j : Fin 512) (x y : α) :
    Scalar.select (IntOp.cmpi CmpIPredicate.sle (BitVec.ofNat 32 i.val) (BitVec.ofNat 32 j.val)) x y = if i ≤ j then x else y := by
  unfold Scalar.select
  exact if_congr (WordCmp.cmpi_sle_ofNat_eq_one_iff (by omega) (by omega)) rfl rfl

theorem scoreDiag_apply (i j : Fin 512) : k0_pay41 ka qa lse v d d' o (ix2 i j)
    = Ideal.exp ((if i ≤ j then ∑ a : Fin 128, ka (ix3 0 i a) * qa (ix3 0 j a) else ⊥) - lse (ix3 0 0 j)) *
      ((∑ e : Fin 64, v (ix3 0 i e) * d (ix3 0 e j)) - ∑ e : Fin 64, d' (ix3 0 e j) * o (ix3 0 e j)) := by
  pointwise [k0_pay41]
  rw [select_tile]
  rfl

theorem addOff_apply (w : FVec Ideal S512x512 .f32) (r : Fin 128) (j : Fin 512) : k0_pay19 w (k0_pay17 acc) (k0_pay18 kat) (ix3 0 r j)
    = acc (ix3 0 r j) + ∑ i : Fin 512, kat (ix3 0 r i) * w (ix2 i j) := by
  pointwise [k0_pay19, k0_pay17, k0_pay18]

theorem addDiag_apply (w : FVec Ideal S512x512 .f32) (r : Fin 128) (j : Fin 512) : k0_pay42 w acc kat (ix3 0 r j)
    = acc (ix3 0 r j) + ∑ i : Fin 512, kat (ix3 0 r i) * w (ix2 i j) := by
  pointwise [k0_pay42]

theorem zero_apply (x : S1x128x512.Idx) : (k0_pay2 : FVec Ideal S1x128x512 .f32) x = 0 := by
  idx_vars x
  pointwise [k0_pay2]

theorem finish_apply (a : Vec Ideal S1x64x512 .f32) (e : Fin 64) (j : Fin 512) : k0_pay7 a (ix3 0 e j) = a (ix3 0 e j) * ((1 / 8 : ℝ) : EReal) := by
  pointwise [k0_pay7]
  rw [ofBits_eighth]

theorem finishDecay_apply (a : Vec Ideal S1x1x512 .f32) (j : Fin 512) : k0_pay8 a (ix3 0 0 j) = a (ix3 0 0 j) := by
  pointwise [k0_pay8]

end

variable (qa ka : Vec Ideal S8x512x128 .bf16) (kat : Vec Ideal S8x128x512 .bf16) (v : Vec Ideal S8x512x64 .bf16) (d : Vec Ideal S8x64x512 .bf16)
  (o : Vec Ideal S8x64x512 .f32) (lse : Vec Ideal S8x1x512 .f32) (acc : Vec Ideal S8x128x512 .f32)

theorem headOff_slab (h : Fin 8) (x : S1x128x512.Idx) :
    headOff (slab ka h) (slab qa h) (slab lse h) (slab v h) (slab d h) (slab d h) (slab o h) (slab acc h) (slab kat h) x
      = stepOff qa ka kat v d o lse acc (ix3 h (x 1) (x 2)) := by
  idx_vars x
  obtain rfl : x0 = 0 := Subsingleton.elim _ _
  unfold headOff
  rw [addOff_apply]
  simp only [scoreOff_apply]
  rfl

theorem headDiag_slab (h : Fin 8) (x : S1x128x512.Idx) :
    headDiag (slab ka h) (slab qa h) (slab lse h) (slab v h) (slab d h) (slab d h) (slab o h) (slab acc h) (slab kat h) x
      = stepDiag qa ka kat v d o lse acc (ix3 h (x 1) (x 2)) := by
  idx_vars x
  obtain rfl : x0 = 0 := Subsingleton.elim _ _
  unfold headDiag
  rw [addDiag_apply]
  simp only [scoreDiag_apply]
  rfl

end Cert.Fox

end
-- ==== Proof.DqI.Blocks.lean ====
/- What each of the four kinds of grid point leaves in the running sums, and what the last point of a tile of queries writes out. -/
module

public import proofs.«01_k».proof.Proof.DqI.Frame
public import proofs.«01_k».proof.Proof.DqI.Step
public import Idealize.ShloMosaic.Lib.Pipeline.ReadBack

@[expose] public section

set_option maxRecDepth 16384

noncomputable section

namespace Cert.Fox

open Idealize.ShloMosaic Idealize.ShloMosaic.TcCoe Idealize.ShloMosaic.Tactic Cert.KernelIdeal Cert.KernelIdeal.Gen

variable (x0 x1 : Vec Ideal S8x512x128 .bf16) (x2 : Vec Ideal S8x128x512 .bf16) (x3 : Vec Ideal S8x512x64 .bf16) (x4 : Vec Ideal S8x64x512 .bf16)
  (x5 : Vec Ideal S8x64x512 .f32) (x6 : Vec Ideal S8x1x512 .f32) (xs0 : Vec Ideal S8x128x512 .f32)

/-- The sums a tile of queries starts from. -/
def noSums : Vec Ideal S8x128x512 .f32 := fun _ => 0

/-- The gradient of the queries, from the first sixty-four rows of the sums. -/
def finished (acc : Vec Ideal S8x128x512 .f32) : Vec Ideal S8x64x512 .bf16 := fun y =>
  acc (ix3 (y 0) (Fin.castAdd 64 (y 1)) (y 2)) * ((1 / 8 : ℝ) : EReal)

/-- The decay's gradient on the queries' side: row sixty-four of the sums. -/
def finishedDecay (acc : Vec Ideal S8x128x512 .f32) : Vec Ideal S8x1x512 .f32 := fun y => acc (ix3 (y 0) 64 (y 2))

theorem piece_off (h : Fin 8) (i1 i2 i3 i4 i5 i6 i7 i8) (x : S1x128x512.Idx) :
    headOff (View.ld x1 (Rect.unit (s := S8x512x128) ![h.val, 0, 0] ![1, 512, 128] i1)) (View.ld x0 (Rect.unit (s := S8x512x128) ![h.val, 0, 0] ![1, 512, 128] i1))
      (View.ld x6 (Rect.unit (s := S8x1x512) ![h.val, 0, 0] ![1, 1, 512] i2)) (View.ld x3 (Rect.unit (s := S8x512x64) ![h.val, 0, 0] ![1, 512, 64] i3))
      (View.ld x4 (Rect.unit (s := S8x64x512) ![h.val, 0, 0] ![1, 64, 512] i4)) (View.ld x4 (Rect.unit (s := S8x64x512) ![h.val, 0, 0] ![1, 64, 512] i4))
      (View.ld x5 (Rect.unit (s := S8x64x512) ![h.val, 0, 0] ![1, 64, 512] i5)) (View.ld xs0 (Rect.unit (s := S8x128x512) ![h.val, 0, 0] ![1, 128, 512] i6))
      (View.ld x2 (Rect.unit (s := S8x128x512) ![h.val, 0, 0] ![1, 128, 512] i7)) x
      = stepOff x0 x1 x2 x3 x4 x5 x6 xs0 ((Rect.unit (s := S8x128x512) ![h.val, 0, 0] ![1, 128, 512] i8).emb x) := by
  rw [emb_slab]
  simp only [ld_slab]
  exact headOff_slab x0 x1 x2 x3 x4 x5 x6 xs0 h x

theorem piece_diag (h : Fin 8) (i1 i2 i3 i4 i5 i6 i7 i8) (x : S1x128x512.Idx) :
    headDiag (View.ld x1 (Rect.unit (s := S8x512x128) ![h.val, 0, 0] ![1, 512, 128] i1)) (View.ld x0 (Rect.unit (s := S8x512x128) ![h.val, 0, 0] ![1, 512, 128] i1))
      (View.ld x6 (Rect.unit (s := S8x1x512) ![h.val, 0, 0] ![1, 1, 512] i2)) (View.ld x3 (Rect.unit (s := S8x512x64) ![h.val, 0, 0] ![1, 512, 64] i3))
      (View.ld x4 (Rect.unit (s := S8x64x512) ![h.val, 0, 0] ![1, 64, 512] i4)) (View.ld x4 (Rect.unit (s := S8x64x512) ![h.val, 0, 0] ![1, 64, 512] i4))
      (View.ld x5 (Rect.unit (s := S8x64x512) ![h.val, 0, 0] ![1, 64, 512] i5)) (View.ld xs0 (Rect.unit (s := S8x128x512) ![h.val, 0, 0] ![1, 128, 512] i6))
      (View.ld x2 (Rect.unit (s := S8x128x512) ![h.val, 0, 0] ![1, 128, 512] i7)) x
      = stepDiag x0 x1 x2 x3 x4 x5 x6 xs0 ((Rect.unit (s := S8x128x512) ![h.val, 0, 0] ![1, 128, 512] i8).emb x) := by
  rw [emb_slab]
  simp only [ld_slab]
  exact headDiag_slab x0 x1 x2 x3 x4 x5 x6 xs0 h x

theorem k0_zero (h : Fin 8) : (k0_pay2 : FVec Ideal S1x128x512 .f32) = slab noSums h := by
  funext x
  exact zero_apply x

theorem readCov_rows {sig : RefSig} {κ : Kind} {sp : Space} (w : View sig κ sp S8x128x512 .f32) {n r len : ℕ} (hr : r + len ≤ 128)
    (i : ∀ a, (![n, r, 0] : Fin 3 → ℕ) a + (![1, len, 512] : Fin 3 → ℕ) a ≤ S8x128x512.size a)
    (i' : ∀ a, (![n, 0, 0] : Fin 3 → ℕ) a + (![1, 128, 512] : Fin 3 → ℕ) a ≤ S8x128x512.size a) (u : S1x128x512.Idx → Ideal .f32)
    (L : List (View.Piece (Elt Ideal) S8x128x512 .f32)) :
    w.readCov (⟨Rect.unit ![n, 0, 0] ![1, 128, 512] i', u⟩ :: L) (Rect.unit (s := S8x128x512) ![n, r, 0] ![1, len, 512] i).toLoadRect
      = fun x : (Shape.mk 3 ![1, len, 512]).Idx => u (ix3 0 ⟨r + (x 1).val, by have : (x 1).val < len := (x 1).isLt; omega⟩ (x 2)) := by
  rw [View.readCov_eq_canon']
  funext x
  have hx : (Rect.unit (s := S8x128x512) ![n, r, 0] ![1, len, 512] i).toLoadRect.idx x
      = (Rect.unit (s := S8x128x512) ![n, 0, 0] ![1, 128, 512] i').emb (ix3 0 ⟨r + (x 1).val, by have : (x 1).val < len := (x 1).isLt; omega⟩ (x 2)) := by
    refine funext fun d => Fin.ext ?_
    rw [Rect.emb_apply]
    match d with
    | ⟨0, _⟩ => show n + 1 * (x 0).val = n + 1 * 0; have : (x 0).val < 1 := (x 0).isLt; omega
    | ⟨1, _⟩ => show r + 1 * (x 1).val = 0 + 1 * (r + (x 1).val); omega
    | ⟨2, _⟩ => show 0 + 1 * (x 2).val = 0 + 1 * (x 2).val; rfl
  show View.canon _ _ = _
  rw [hx]
  exact View.canon_cons_emb (Rect.unit (s := S8x128x512) ![n, 0, 0] ![1, 128, 512] i') u L _

theorem eight_over (G : S8x128x512.Idx → Ideal .f32) (L : List (View.Piece (Elt Ideal) S8x128x512 .f32)) (p0 p1 p2 p3 p4 p5 p6 p7 : View.Piece (Elt Ideal) S8x128x512 .f32)
    (y : S8x128x512.Idx) (hc : ∃ p ∈ [p7, p6, p5, p4, p3, p2, p1, p0], y ∈ p.1.set) (h : View.PiecesOf (Val := Elt Ideal) (e := .f32) G [p7, p6, p5, p4, p3, p2, p1, p0]) :
    View.canon (p7 :: p6 :: p5 :: p4 :: p3 :: p2 :: p1 :: p0 :: L) y = G y :=
  View.canon_append_of_piecesOf (Val := Elt Ideal) (e := .f32) G L [p7, p6, p5, p4, p3, p2, p1, p0] h y hc

theorem slab_inb (h : Fin 8) (a : Fin S8x128x512.rank) : (![h.val, 0, 0] : Fin 3 → ℕ) a + (![1, 128, 512] : Fin 3 → ℕ) a ≤ S8x128x512.size a := by
  match a with
  | ⟨0, _⟩ => show h.val + 1 ≤ 8; omega
  | ⟨1, _⟩ => show 0 + 128 ≤ 128; omega
  | ⟨2, _⟩ => show 0 + 512 ≤ 512; omega

theorem piece_finish (h : Fin 8) (G : Vec Ideal S8x128x512 .f32) (T : S1x128x512.Idx → Ideal .f32) (i')
    (hT : ∀ i x, T x = G ((Rect.unit (s := S8x128x512) ![h.val, 0, 0] ![1, 128, 512] i).emb x)) (x : S1x64x512.Idx) :
    k0_pay7 (F := Ideal) (fun x : S1x64x512.Idx => T (ix3 0 ⟨0 + (x 1).val, by have : (x 1).val < 64 := (x 1).isLt; omega⟩ (x 2))) x
      = finished G ((Rect.unit (s := S8x64x512) ![h.val, 0, 0] ![1, 64, 512] i').emb x) := by
  rw [emb_slab]
  idx_vars x
  obtain rfl : x0 = 0 := Subsingleton.elim _ _
  rw [finish_apply, hT (slab_inb h), emb_slab]
  unfold finished
  refine congrArg (fun t => G (ix3 h t x2) * _) (Fin.ext ?_)
  show 0 + x1.val = x1.val
  omega

theorem piece_finishDecay (h : Fin 8) (G : Vec Ideal S8x128x512 .f32) (T : S1x128x512.Idx → Ideal .f32) (i')
    (hT : ∀ i x, T x = G ((Rect.unit (s := S8x128x512) ![h.val, 0, 0] ![1, 128, 512] i).emb x)) (x : S1x1x512.Idx) :
    k0_pay8 (F := Ideal) (fun x : S1x1x512.Idx => T (ix3 0 ⟨64 + (x 1).val, by have : (x 1).val < 1 := (x 1).isLt; omega⟩ (x 2))) x
      = finishedDecay G ((Rect.unit (s := S8x1x512) ![h.val, 0, 0] ![1, 1, 512] i').emb x) := by
  rw [emb_slab]
  idx_vars x
  obtain rfl : x0 = 0 := Subsingleton.elim _ _
  obtain rfl : x1 = 0 := Subsingleton.elim _ _
  rw [finishDecay_apply, hT (slab_inb h), emb_slab]
  rfl

theorem piece_off_zero (h : Fin 8) (i1 i2 i3 i4 i5 i7 i8) (x : S1x128x512.Idx) :
    headOff (View.ld x1 (Rect.unit (s := S8x512x128) ![h.val, 0, 0] ![1, 512, 128] i1)) (View.ld x0 (Rect.unit (s := S8x512x128) ![h.val, 0, 0] ![1, 512, 128] i1))
      (View.ld x6 (Rect.unit (s := S8x1x512) ![h.val, 0, 0] ![1, 1, 512] i2)) (View.ld x3 (Rect.unit (s := S8x512x64) ![h.val, 0, 0] ![1, 512, 64] i3))
      (View.ld x4 (Rect.unit (s := S8x64x512) ![h.val, 0, 0] ![1, 64, 512] i4)) (View.ld x4 (Rect.unit (s := S8x64x512) ![h.val, 0, 0] ![1, 64, 512] i4))
      (View.ld x5 (Rect.unit (s := S8x64x512) ![h.val, 0, 0] ![1, 64, 512] i5)) (k0_pay2 (F := Ideal))
      (View.ld x2 (Rect.unit (s := S8x128x512) ![h.val, 0, 0] ![1, 128, 512] i7)) x
      = stepOff x0 x1 x2 x3 x4 x5 x6 noSums ((Rect.unit (s := S8x128x512) ![h.val, 0, 0] ![1, 128, 512] i8).emb x) := by
  rw [emb_slab, k0_zero h]
  simp only [ld_slab]
  exact headOff_slab x0 x1 x2 x3 x4 x5 x6 noSums h x

theorem piece_diag_zero (h : Fin 8) (i1 i2 i3 i4 i5 i7 i8) (x : S1x128x512.Idx) :
    headDiag (View.ld x1 (Rect.unit (s := S8x512x128) ![h.val, 0, 0] ![1, 512, 128] i1)) (View.ld x0 (Rect.unit (s := S8x512x128) ![h.val, 0, 0] ![1, 512, 128] i1))
      (View.ld x6 (Rect.unit (s := S8x1x512) ![h.val, 0, 0] ![1, 1, 512] i2)) (View.ld x3 (Rect.unit (s := S8x512x64) ![h.val, 0, 0] ![1, 512, 64] i3))
      (View.ld x4 (Rect.unit (s := S8x64x512) ![h.val, 0, 0] ![1, 64, 512] i4)) (View.ld x4 (Rect.unit (s := S8x64x512) ![h.val, 0, 0] ![1, 64, 512] i4))
      (View.ld x5 (Rect.unit (s := S8x64x512) ![h.val, 0, 0] ![1, 64, 512] i5)) (k0_pay2 (F := Ideal))
      (View.ld x2 (Rect.unit (s := S8x128x512) ![h.val, 0, 0] ![1, 128, 512] i7)) x
      = stepDiag x0 x1 x2 x3 x4 x5 x6 noSums ((Rect.unit (s := S8x128x512) ![h.val, 0, 0] ![1, 128, 512] i8).emb x) := by
  rw [emb_slab, k0_zero h]
  simp only [ld_slab]
  exact headDiag_slab x0 x1 x2 x3 x4 x5 x6 noSums h x

variable (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x512x64 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole)
  (arg9 : Memref sig .tc .vmem S8x64x512 .bf16) (harg9 : arg9.IsWhole) (arg10 : Memref sig .tc .vmem S8x1x512 .f32) (harg10 : arg10.IsWhole) (arg11 : Memref sig .tc .vmem S8x128x512 .f32) (harg11 : arg11.IsWhole)
theorem sums_A (hc0 : cond0_0 i) (hc1 : ¬cond0_1 i) (hc2 : cond0_2 i) (hc3 : cond0_3 i) :
    sout0_A_0 c i arg2 harg2 arg3 harg3 arg4 harg4 arg5 harg5 arg6 harg6 arg7 harg7 arg8 harg8 arg9 harg9 arg10 harg10 arg11 harg11 hc0 hc1 hc2 hc3 x0 x1 x2 x3 x4 x5 x6 = stepDiag x0 x1 x2 x3 x4 x5 x6 noSums := by
  funext y
  unfold sout0_A_0
  refine (View.read_writes_apply_eq_canon _ _ y _ (scover0_A_0 c i arg2 harg2 arg3 harg3 arg4 harg4 arg5 harg5 arg6 harg6 arg7 harg7 arg8 harg8 arg9 harg9 arg10 harg10 arg11 harg11 hc0 hc1 hc2 hc3 x0 x1 x2 x3 x4 x5 x6 y)).trans ?_
  unfold kernelRun0_A
  dsimp only
  sl_unfold_words
  simp only [View.readAt_eq_ld, harg2.read_unread, harg3.read_unread, harg4.read_unread, harg5.read_unread, harg6.read_unread, harg7.read_unread,
    harg8.read_unread, harg11.read_unread]
  simp (discharger := decide) only [↓View.readCov_skip, View.readCov_cons_toLoadRect]
  refine eight_over _ _ _ _ _ _ _ _ _ _ y ?_ ⟨?_, ?_, ?_, ?_, ?_, ?_, ?_, ?_, trivial⟩
  · exact View.cover_of_tiledL (s := S8x128x512) _ S1x128x512.size (by sl_kernel_rfl) y
  · exact piece_diag_zero x0 x1 x2 x3 x4 x5 x6 7 _ _ _ _ _ _ (slab_inb 7)
  · exact piece_diag_zero x0 x1 x2 x3 x4 x5 x6 6 _ _ _ _ _ _ (slab_inb 6)
  · exact piece_diag_zero x0 x1 x2 x3 x4 x5 x6 5 _ _ _ _ _ _ (slab_inb 5)
  · exact piece_diag_zero x0 x1 x2 x3 x4 x5 x6 4 _ _ _ _ _ _ (slab_inb 4)
  · exact piece_diag_zero x0 x1 x2 x3 x4 x5 x6 3 _ _ _ _ _ _ (slab_inb 3)
  · exact piece_diag_zero x0 x1 x2 x3 x4 x5 x6 2 _ _ _ _ _ _ (slab_inb 2)
  · exact piece_diag_zero x0 x1 x2 x3 x4 x5 x6 1 _ _ _ _ _ _ (slab_inb 1)
  · exact piece_diag_zero x0 x1 x2 x3 x4 x5 x6 0 _ _ _ _ _ _ (slab_inb 0)

theorem sums_B (hc0 : cond0_0 i) (hc1 : cond0_1 i) (hc2 : ¬cond0_2 i) (hc3 : ¬cond0_3 i) :
    sout0_B_0 c i arg2 harg2 arg3 harg3 arg4 harg4 arg5 harg5 arg6 harg6 arg7 harg7 arg8 harg8 arg9 harg9 arg10 harg10 arg11 harg11 hc0 hc1 hc2 hc3 x0 x1 x2 x3 x4 x5 x6 = stepOff x0 x1 x2 x3 x4 x5 x6 noSums := by
  funext y
  unfold sout0_B_0
  refine (View.read_writes_apply_eq_canon _ _ y _ (scover0_B_0 c i arg2 harg2 arg3 harg3 arg4 harg4 arg5 harg5 arg6 harg6 arg7 harg7 arg8 harg8 arg9 harg9 arg10 harg10 arg11 harg11 hc0 hc1 hc2 hc3 x0 x1 x2 x3 x4 x5 x6 y)).trans ?_
  unfold kernelRun0_B
  dsimp only
  sl_unfold_words
  simp only [View.readAt_eq_ld, harg2.read_unread, harg3.read_unread, harg4.read_unread, harg5.read_unread, harg6.read_unread, harg7.read_unread,
    harg8.read_unread, harg11.read_unread]
  simp (discharger := decide) only [↓View.readCov_skip, View.readCov_cons_toLoadRect]
  refine eight_over _ _ _ _ _ _ _ _ _ _ y ?_ ⟨?_, ?_, ?_, ?_, ?_, ?_, ?_, ?_, trivial⟩
  · exact View.cover_of_tiledL (s := S8x128x512) _ S1x128x512.size (by sl_kernel_rfl) y
  · exact piece_off_zero x0 x1 x2 x3 x4 x5 x6 7 _ _ _ _ _ _ (slab_inb 7)
  · exact piece_off_zero x0 x1 x2 x3 x4 x5 x6 6 _ _ _ _ _ _ (slab_inb 6)
  · exact piece_off_zero x0 x1 x2 x3 x4 x5 x6 5 _ _ _ _ _ _ (slab_inb 5)
  · exact piece_off_zero x0 x1 x2 x3 x4 x5 x6 4 _ _ _ _ _ _ (slab_inb 4)
  · exact piece_off_zero x0 x1 x2 x3 x4 x5 x6 3 _ _ _ _ _ _ (slab_inb 3)
  · exact piece_off_zero x0 x1 x2 x3 x4 x5 x6 2 _ _ _ _ _ _ (slab_inb 2)
  · exact piece_off_zero x0 x1 x2 x3 x4 x5 x6 1 _ _ _ _ _ _ (slab_inb 1)
  · exact piece_off_zero x0 x1 x2 x3 x4 x5 x6 0 _ _ _ _ _ _ (slab_inb 0)

theorem sums_C (hc0 : ¬cond0_0 i) (hc1 : ¬cond0_1 i) (hc2 : cond0_2 i) (hc3 : cond0_3 i) :
    sout0_C_0 c i arg2 harg2 arg3 harg3 arg4 harg4 arg5 harg5 arg6 harg6 arg7 harg7 arg8 harg8 arg9 harg9 arg10 harg10 arg11 harg11 hc0 hc1 hc2 hc3 x0 x1 x2 x3 x4 x5 x6 xs0 = stepDiag x0 x1 x2 x3 x4 x5 x6 xs0 := by
  funext y
  unfold sout0_C_0
  refine View.read_writes_apply_of_pieces _ _ _ _ ?_ y (scover0_C_0 c i arg2 harg2 arg3 harg3 arg4 harg4 arg5 harg5 arg6 harg6 arg7 harg7 arg8 harg8 arg9 harg9 arg10 harg10 arg11 harg11 hc0 hc1 hc2 hc3 x0 x1 x2 x3 x4 x5 x6 xs0 y)
  unfold kernelRun0_C
  dsimp only
  sl_unfold_words
  simp only [View.readAt_eq_ld, harg2.read_unread, harg3.read_unread, harg4.read_unread, harg5.read_unread, harg6.read_unread, harg7.read_unread,
    harg8.read_unread, harg11.read_unread]
  simp only [List.forall_mem_cons]
  refine ⟨?_, ?_, ?_, ?_, ?_, ?_, ?_, ?_, ?_⟩
  · exact piece_diag x0 x1 x2 x3 x4 x5 x6 xs0 7 _ _ _ _ _ _ _ _
  · exact piece_diag x0 x1 x2 x3 x4 x5 x6 xs0 6 _ _ _ _ _ _ _ _
  · exact piece_diag x0 x1 x2 x3 x4 x5 x6 xs0 5 _ _ _ _ _ _ _ _
  · exact piece_diag x0 x1 x2 x3 x4 x5 x6 xs0 4 _ _ _ _ _ _ _ _
  · exact piece_diag x0 x1 x2 x3 x4 x5 x6 xs0 3 _ _ _ _ _ _ _ _
  · exact piece_diag x0 x1 x2 x3 x4 x5 x6 xs0 2 _ _ _ _ _ _ _ _
  · exact piece_diag x0 x1 x2 x3 x4 x5 x6 xs0 1 _ _ _ _ _ _ _ _
  · exact piece_diag x0 x1 x2 x3 x4 x5 x6 xs0 0 _ _ _ _ _ _ _ _
  · simp

theorem sums_D (hc0 : ¬cond0_0 i) (hc1 : cond0_1 i) (hc2 : ¬cond0_2 i) (hc3 : ¬cond0_3 i) :
    sout0_D_0 c i arg2 harg2 arg3 harg3 arg4 harg4 arg5 harg5 arg6 harg6 arg7 harg7 arg8 harg8 arg9 harg9 arg10 harg10 arg11 harg11 hc0 hc1 hc2 hc3 x0 x1 x2 x3 x4 x5 x6 xs0 = stepOff x0 x1 x2 x3 x4 x5 x6 xs0 := by
  funext y
  unfold sout0_D_0
  refine View.read_writes_apply_of_pieces _ _ _ _ ?_ y (scover0_D_0 c i arg2 harg2 arg3 harg3 arg4 harg4 arg5 harg5 arg6 harg6 arg7 harg7 arg8 harg8 arg9 harg9 arg10 harg10 arg11 harg11 hc0 hc1 hc2 hc3 x0 x1 x2 x3 x4 x5 x6 xs0 y)
  unfold kernelRun0_D
  dsimp only
  sl_unfold_words
  simp only [View.readAt_eq_ld, harg2.read_unread, harg3.read_unread, harg4.read_unread, harg5.read_unread, harg6.read_unread, harg7.read_unread,
    harg8.read_unread, harg11.read_unread]
  simp only [List.forall_mem_cons]
  refine ⟨?_, ?_, ?_, ?_, ?_, ?_, ?_, ?_, ?_⟩
  · exact piece_off x0 x1 x2 x3 x4 x5 x6 xs0 7 _ _ _ _ _ _ _ _
  · exact piece_off x0 x1 x2 x3 x4 x5 x6 xs0 6 _ _ _ _ _ _ _ _
  · exact piece_off x0 x1 x2 x3 x4 x5 x6 xs0 5 _ _ _ _ _ _ _ _
  · exact piece_off x0 x1 x2 x3 x4 x5 x6 xs0 4 _ _ _ _ _ _ _ _
  · exact piece_off x0 x1 x2 x3 x4 x5 x6 xs0 3 _ _ _ _ _ _ _ _
  · exact piece_off x0 x1 x2 x3 x4 x5 x6 xs0 2 _ _ _ _ _ _ _ _
  · exact piece_off x0 x1 x2 x3 x4 x5 x6 xs0 1 _ _ _ _ _ _ _ _
  · exact piece_off x0 x1 x2 x3 x4 x5 x6 xs0 0 _ _ _ _ _ _ _ _
  · simp

theorem out_A (hc0 : cond0_0 i) (hc1 : ¬cond0_1 i) (hc2 : cond0_2 i) (hc3 : cond0_3 i) :
    out0_A_7 c i arg2 harg2 arg3 harg3 arg4 harg4 arg5 harg5 arg6 harg6 arg7 harg7 arg8 harg8 arg9 harg9 arg10 harg10 arg11 harg11 hc0 hc1 hc2 hc3 x0 x1 x2 x3 x4 x5 x6 = finished (stepDiag x0 x1 x2 x3 x4 x5 x6 noSums) := by
  funext y
  unfold out0_A_7
  refine View.read_writes_apply_of_pieces _ _ _ _ ?_ y (cover0_A_7 c i arg2 harg2 arg3 harg3 arg4 harg4 arg5 harg5 arg6 harg6 arg7 harg7 arg8 harg8 arg9 harg9 arg10 harg10 arg11 harg11 hc0 hc1 hc2 hc3 x0 x1 x2 x3 x4 x5 x6 y)
  unfold kernelRun0_A
  dsimp only
  sl_unfold_words
  simp only [View.readAt_eq_ld, harg2.read_unread, harg3.read_unread, harg4.read_unread, harg5.read_unread, harg6.read_unread, harg7.read_unread,
    harg8.read_unread, harg11.read_unread]
  simp (discharger := decide) only [↓View.readCov_skip, View.readCov_cons_toLoadRect]
  simp only [readCov_rows _ (by decide : 0 + 64 ≤ 128)]
  simp only [List.forall_mem_cons]
  refine ⟨?_, ?_, ?_, ?_, ?_, ?_, ?_, ?_, ?_⟩
  · exact piece_finish 7 _ _ _ (piece_diag_zero x0 x1 x2 x3 x4 x5 x6 7 _ _ _ _ _ _)
  · exact piece_finish 6 _ _ _ (piece_diag_zero x0 x1 x2 x3 x4 x5 x6 6 _ _ _ _ _ _)
  · exact piece_finish 5 _ _ _ (piece_diag_zero x0 x1 x2 x3 x4 x5 x6 5 _ _ _ _ _ _)
  · exact piece_finish 4 _ _ _ (piece_diag_zero x0 x1 x2 x3 x4 x5 x6 4 _ _ _ _ _ _)
  · exact piece_finish 3 _ _ _ (piece_diag_zero x0 x1 x2 x3 x4 x5 x6 3 _ _ _ _ _ _)
  · exact piece_finish 2 _ _ _ (piece_diag_zero x0 x1 x2 x3 x4 x5 x6 2 _ _ _ _ _ _)
  · exact piece_finish 1 _ _ _ (piece_diag_zero x0 x1 x2 x3 x4 x5 x6 1 _ _ _ _ _ _)
  · exact piece_finish 0 _ _ _ (piece_diag_zero x0 x1 x2 x3 x4 x5 x6 0 _ _ _ _ _ _)
  · simp

theorem outDecay_A (hc0 : cond0_0 i) (hc1 : ¬cond0_1 i) (hc2 : cond0_2 i) (hc3 : cond0_3 i) :
    out0_A_8 c i arg2 harg2 arg3 harg3 arg4 harg4 arg5 harg5 arg6 harg6 arg7 harg7 arg8 harg8 arg9 harg9 arg10 harg10 arg11 harg11 hc0 hc1 hc2 hc3 x0 x1 x2 x3 x4 x5 x6 = finishedDecay (stepDiag x0 x1 x2 x3 x4 x5 x6 noSums) := by
  funext y
  unfold out0_A_8
  refine View.read_writes_apply_of_pieces _ _ _ _ ?_ y (cover0_A_8 c i arg2 harg2 arg3 harg3 arg4 harg4 arg5 harg5 arg6 harg6 arg7 harg7 arg8 harg8 arg9 harg9 arg10 harg10 arg11 harg11 hc0 hc1 hc2 hc3 x0 x1 x2 x3 x4 x5 x6 y)
  unfold kernelRun0_A
  dsimp only
  sl_unfold_words
  simp only [View.readAt_eq_ld, harg2.read_unread, harg3.read_unread, harg4.read_unread, harg5.read_unread, harg6.read_unread, harg7.read_unread,
    harg8.read_unread, harg11.read_unread]
  simp (discharger := decide) only [↓View.readCov_skip, View.readCov_cons_toLoadRect]
  simp only [readCov_rows _ (by decide : 64 + 1 ≤ 128)]
  simp only [List.forall_mem_cons]
  refine ⟨?_, ?_, ?_, ?_, ?_, ?_, ?_, ?_, ?_⟩
  · exact piece_finishDecay 7 _ _ _ (piece_diag_zero x0 x1 x2 x3 x4 x5 x6 7 _ _ _ _ _ _)
  · exact piece_finishDecay 6 _ _ _ (piece_diag_zero x0 x1 x2 x3 x4 x5 x6 6 _ _ _ _ _ _)
  · exact piece_finishDecay 5 _ _ _ (piece_diag_zero x0 x1 x2 x3 x4 x5 x6 5 _ _ _ _ _ _)
  · exact piece_finishDecay 4 _ _ _ (piece_diag_zero x0 x1 x2 x3 x4 x5 x6 4 _ _ _ _ _ _)
  · exact piece_finishDecay 3 _ _ _ (piece_diag_zero x0 x1 x2 x3 x4 x5 x6 3 _ _ _ _ _ _)
  · exact piece_finishDecay 2 _ _ _ (piece_diag_zero x0 x1 x2 x3 x4 x5 x6 2 _ _ _ _ _ _)
  · exact piece_finishDecay 1 _ _ _ (piece_diag_zero x0 x1 x2 x3 x4 x5 x6 1 _ _ _ _ _ _)
  · exact piece_finishDecay 0 _ _ _ (piece_diag_zero x0 x1 x2 x3 x4 x5 x6 0 _ _ _ _ _ _)
  · simp

theorem out_C (hc0 : ¬cond0_0 i) (hc1 : ¬cond0_1 i) (hc2 : cond0_2 i) (hc3 : cond0_3 i) :
    out0_C_7 c i arg2 harg2 arg3 harg3 arg4 harg4 arg5 harg5 arg6 harg6 arg7 harg7 arg8 harg8 arg9 harg9 arg10 harg10 arg11 harg11 hc0 hc1 hc2 hc3 x0 x1 x2 x3 x4 x5 x6 xs0 = finished (stepDiag x0 x1 x2 x3 x4 x5 x6 xs0) := by
  funext y
  unfold out0_C_7
  refine View.read_writes_apply_of_pieces _ _ _ _ ?_ y (cover0_C_7 c i arg2 harg2 arg3 harg3 arg4 harg4 arg5 harg5 arg6 harg6 arg7 harg7 arg8 harg8 arg9 harg9 arg10 harg10 arg11 harg11 hc0 hc1 hc2 hc3 x0 x1 x2 x3 x4 x5 x6 xs0 y)
  unfold kernelRun0_C
  dsimp only
  sl_unfold_words
  simp only [View.readAt_eq_ld, harg2.read_unread, harg3.read_unread, harg4.read_unread, harg5.read_unread, harg6.read_unread, harg7.read_unread,
    harg8.read_unread, harg11.read_unread]
  simp (discharger := decide) only [↓View.readCov_skip, View.readCov_cons_toLoadRect]
  simp only [readCov_rows _ (by decide : 0 + 64 ≤ 128)]
  simp only [List.forall_mem_cons]
  refine ⟨?_, ?_, ?_, ?_, ?_, ?_, ?_, ?_, ?_⟩
  · exact piece_finish 7 _ _ _ (piece_diag x0 x1 x2 x3 x4 x5 x6 xs0 7 _ _ _ _ _ _ _)
  · exact piece_finish 6 _ _ _ (piece_diag x0 x1 x2 x3 x4 x5 x6 xs0 6 _ _ _ _ _ _ _)
  · exact piece_finish 5 _ _ _ (piece_diag x0 x1 x2 x3 x4 x5 x6 xs0 5 _ _ _ _ _ _ _)
  · exact piece_finish 4 _ _ _ (piece_diag x0 x1 x2 x3 x4 x5 x6 xs0 4 _ _ _ _ _ _ _)
  · exact piece_finish 3 _ _ _ (piece_diag x0 x1 x2 x3 x4 x5 x6 xs0 3 _ _ _ _ _ _ _)
  · exact piece_finish 2 _ _ _ (piece_diag x0 x1 x2 x3 x4 x5 x6 xs0 2 _ _ _ _ _ _ _)
  · exact piece_finish 1 _ _ _ (piece_diag x0 x1 x2 x3 x4 x5 x6 xs0 1 _ _ _ _ _ _ _)
  · exact piece_finish 0 _ _ _ (piece_diag x0 x1 x2 x3 x4 x5 x6 xs0 0 _ _ _ _ _ _ _)
  · simp

theorem outDecay_C (hc0 : ¬cond0_0 i) (hc1 : ¬cond0_1 i) (hc2 : cond0_2 i) (hc3 : cond0_3 i) :
    out0_C_8 c i arg2 harg2 arg3 harg3 arg4 harg4 arg5 harg5 arg6 harg6 arg7 harg7 arg8 harg8 arg9 harg9 arg10 harg10 arg11 harg11 hc0 hc1 hc2 hc3 x0 x1 x2 x3 x4 x5 x6 xs0 = finishedDecay (stepDiag x0 x1 x2 x3 x4 x5 x6 xs0) := by
  funext y
  unfold out0_C_8
  refine View.read_writes_apply_of_pieces _ _ _ _ ?_ y (cover0_C_8 c i arg2 harg2 arg3 harg3 arg4 harg4 arg5 harg5 arg6 harg6 arg7 harg7 arg8 harg8 arg9 harg9 arg10 harg10 arg11 harg11 hc0 hc1 hc2 hc3 x0 x1 x2 x3 x4 x5 x6 xs0 y)
  unfold kernelRun0_C
  dsimp only
  sl_unfold_words
  simp only [View.readAt_eq_ld, harg2.read_unread, harg3.read_unread, harg4.read_unread, harg5.read_unread, harg6.read_unread, harg7.read_unread,
    harg8.read_unread, harg11.read_unread]
  simp (discharger := decide) only [↓View.readCov_skip, View.readCov_cons_toLoadRect]
  simp only [readCov_rows _ (by decide : 64 + 1 ≤ 128)]
  simp only [List.forall_mem_cons]
  refine ⟨?_, ?_, ?_, ?_, ?_, ?_, ?_, ?_, ?_⟩
  · exact piece_finishDecay 7 _ _ _ (piece_diag x0 x1 x2 x3 x4 x5 x6 xs0 7 _ _ _ _ _ _ _)
  · exact piece_finishDecay 6 _ _ _ (piece_diag x0 x1 x2 x3 x4 x5 x6 xs0 6 _ _ _ _ _ _ _)
  · exact piece_finishDecay 5 _ _ _ (piece_diag x0 x1 x2 x3 x4 x5 x6 xs0 5 _ _ _ _ _ _ _)
  · exact piece_finishDecay 4 _ _ _ (piece_diag x0 x1 x2 x3 x4 x5 x6 xs0 4 _ _ _ _ _ _ _)
  · exact piece_finishDecay 3 _ _ _ (piece_diag x0 x1 x2 x3 x4 x5 x6 xs0 3 _ _ _ _ _ _ _)
  · exact piece_finishDecay 2 _ _ _ (piece_diag x0 x1 x2 x3 x4 x5 x6 xs0 2 _ _ _ _ _ _ _)
  · exact piece_finishDecay 1 _ _ _ (piece_diag x0 x1 x2 x3 x4 x5 x6 xs0 1 _ _ _ _ _ _ _)
  · exact piece_finishDecay 0 _ _ _ (piece_diag x0 x1 x2 x3 x4 x5 x6 xs0 0 _ _ _ _ _ _ _)
  · simp

end Cert.Fox

end
-- ==== Proof.DqI.Sums.lean ====
/- The running sums over the whole grid: after the point of query tile `q` and key tile `k` they hold the terms of the key tiles up to
   `k`, and what a tile of queries writes out is the sum over every key. -/
module

public import proofs.«01_k».proof.Proof.DqI.Blocks
public import proofs.«01_k».proof.Proof.DqI.Value
public import Idealize.ShloMosaic.Lib.Pipeline.ValueKit

@[expose] public section

set_option maxRecDepth 16384

noncomputable section

namespace Cert.Fox

open Idealize.ShloMosaic Idealize.ShloMosaic.TcCoe Idealize.ShloMosaic.Tactic Cert.KernelIdeal Cert.KernelIdeal.Gen

/-- The tile of queries of the grid's `n`-th point: the points run through a triangle row by row. -/
def rowOf (n : ℕ) : ℕ := if n < 1 then 0 else if n < 3 then 1 else if n < 6 then 2 else if n < 10 then 3 else if n < 15 then 4 else if n < 21 then 5 else if n < 28 then 6 else 7

/-- The tile of keys of the grid's `n`-th point. -/
def colOf (n : ℕ) : ℕ := n - rowOf n * (rowOf n + 1) / 2

/-- Element `x` of tile `b`, along an axis cut in eight tiles. -/
def place (b : ℕ) (x : Fin 512) : Fin 4096 := ⟨(b * 512 + x.val) % 4096, Nat.mod_lt _ (by decide)⟩

theorem place_val {b : ℕ} (hb : b < 8) (x : Fin 512) : (place b x).val = b * 512 + x.val := by
  show (b * 512 + x.val) % 4096 = _
  omega

theorem colOf_zero : colOf 0 = 0 := rfl

theorem rowOf_lt (n : ℕ) : rowOf n < 8 := by
  unfold rowOf
  split_ifs <;> omega

theorem colOf_le : ∀ t : Fin cfg0.N, colOf t.val ≤ rowOf t.val := (by decide +kernel : ∀ t : Fin grid0.N, colOf t.val ≤ rowOf t.val)

theorem index0 : ∀ t : Fin cfg0.N, win0_0.index t = ![0, rowOf t.val, 0] := (by decide +kernel : ∀ t : Fin grid0.N, win0_0.index t = ![0, rowOf t.val, 0])
theorem index1 : ∀ t : Fin cfg0.N, win0_1.index t = ![0, colOf t.val, 0] := (by decide +kernel : ∀ t : Fin grid0.N, win0_1.index t = ![0, colOf t.val, 0])
theorem index2 : ∀ t : Fin cfg0.N, win0_2.index t = ![0, 0, colOf t.val] := (by decide +kernel : ∀ t : Fin grid0.N, win0_2.index t = ![0, 0, colOf t.val])
theorem index3 : ∀ t : Fin cfg0.N, win0_3.index t = ![0, colOf t.val, 0] := (by decide +kernel : ∀ t : Fin grid0.N, win0_3.index t = ![0, colOf t.val, 0])
theorem index4 : ∀ t : Fin cfg0.N, win0_4.index t = ![0, 0, rowOf t.val] := (by decide +kernel : ∀ t : Fin grid0.N, win0_4.index t = ![0, 0, rowOf t.val])
theorem index5 : ∀ t : Fin cfg0.N, win0_5.index t = ![0, 0, rowOf t.val] := (by decide +kernel : ∀ t : Fin grid0.N, win0_5.index t = ![0, 0, rowOf t.val])
theorem index6 : ∀ t : Fin cfg0.N, win0_6.index t = ![0, 0, rowOf t.val] := (by decide +kernel : ∀ t : Fin grid0.N, win0_6.index t = ![0, 0, rowOf t.val])
theorem index7 : ∀ t : Fin cfg0.N, win0_7.index t = ![0, 0, rowOf t.val] := (by decide +kernel : ∀ t : Fin grid0.N, win0_7.index t = ![0, 0, rowOf t.val])
theorem index8 : ∀ t : Fin cfg0.N, win0_8.index t = ![0, 0, rowOf t.val] := (by decide +kernel : ∀ t : Fin grid0.N, win0_8.index t = ![0, 0, rowOf t.val])

variable (m : (ℓ : Loc nD τ sig) → Buf (Elt Ideal) ℓ) (c : Dev nD) (t : Fin cfg0.N)

abbrev arrQ : FVec Ideal S8x4096x128 .bf16 := V m c main_v67
abbrev arrK : FVec Ideal S8x4096x128 .bf16 := V m c main_v72
abbrev arrKT : FVec Ideal S8x128x4096 .bf16 := V m c main_v76
abbrev arrV : FVec Ideal S8x4096x64 .bf16 := V m c main_v75
abbrev arrD : FVec Ideal S8x64x4096 .bf16 := V m c main_v81
abbrev arrO : FVec Ideal S8x64x4096 .f32 := V m c main_v36
abbrev arrL : FVec Ideal S8x1x4096 .f32 := V m c main_v45

theorem at_zero (n x : ℕ) : 0 * n + x = x := by omega

theorem read0 (X : Vec Ideal S8x4096x128 .bf16) (h : Fin 8) (i : Fin 512) (a : Fin 128) : ((cfg0.win 0).blk t).view.read (Elt Ideal) X (ix3 h i a) = X (ix3 h (place (rowOf t.val) i) a) := by
  have hp := place_val (rowOf_lt t.val) i
  blk_simp
  refine congrArg X (funext fun d => Fin.ext ?_)
  blk_simp [index0]
  match d with
  | ⟨0, _⟩ => exact at_zero 8 h.val
  | ⟨1, _⟩ => exact hp.symm
  | ⟨2, _⟩ => exact at_zero 128 a.val

theorem block0 (h : Fin 8) (i : Fin 512) (a : Fin 128) : iblk m c 0 t (ix3 h i a) = arrQ m c (ix3 h (place (rowOf t.val) i) a) :=
  read0 t (arrQ m c) h i a

theorem read1 (X : Vec Ideal S8x4096x128 .bf16) (h : Fin 8) (i : Fin 512) (a : Fin 128) : ((cfg0.win 1).blk t).view.read (Elt Ideal) X (ix3 h i a) = X (ix3 h (place (colOf t.val) i) a) := by
  have hp := place_val (Nat.lt_of_le_of_lt (colOf_le t) (rowOf_lt t.val)) i
  blk_simp
  refine congrArg X (funext fun d => Fin.ext ?_)
  blk_simp [index1]
  match d with
  | ⟨0, _⟩ => exact at_zero 8 h.val
  | ⟨1, _⟩ => exact hp.symm
  | ⟨2, _⟩ => exact at_zero 128 a.val

theorem block1 (h : Fin 8) (i : Fin 512) (a : Fin 128) : iblk m c 1 t (ix3 h i a) = arrK m c (ix3 h (place (colOf t.val) i) a) :=
  read1 t (arrK m c) h i a

theorem read2 (X : Vec Ideal S8x128x4096 .bf16) (h : Fin 8) (a : Fin 128) (i : Fin 512) : ((cfg0.win 2).blk t).view.read (Elt Ideal) X (ix3 h a i) = X (ix3 h a (place (colOf t.val) i)) := by
  have hp := place_val (Nat.lt_of_le_of_lt (colOf_le t) (rowOf_lt t.val)) i
  blk_simp
  refine congrArg X (funext fun d => Fin.ext ?_)
  blk_simp [index2]
  match d with
  | ⟨0, _⟩ => exact at_zero 8 h.val
  | ⟨1, _⟩ => exact at_zero 128 a.val
  | ⟨2, _⟩ => exact hp.symm

theorem block2 (h : Fin 8) (a : Fin 128) (i : Fin 512) : iblk m c 2 t (ix3 h a i) = arrKT m c (ix3 h a (place (colOf t.val) i)) :=
  read2 t (arrKT m c) h a i

theorem read3 (X : Vec Ideal S8x4096x64 .bf16) (h : Fin 8) (i : Fin 512) (a : Fin 64) : ((cfg0.win 3).blk t).view.read (Elt Ideal) X (ix3 h i a) = X (ix3 h (place (colOf t.val) i) a) := by
  have hp := place_val (Nat.lt_of_le_of_lt (colOf_le t) (rowOf_lt t.val)) i
  blk_simp
  refine congrArg X (funext fun d => Fin.ext ?_)
  blk_simp [index3]
  match d with
  | ⟨0, _⟩ => exact at_zero 8 h.val
  | ⟨1, _⟩ => exact hp.symm
  | ⟨2, _⟩ => exact at_zero 64 a.val

theorem block3 (h : Fin 8) (i : Fin 512) (a : Fin 64) : iblk m c 3 t (ix3 h i a) = arrV m c (ix3 h (place (colOf t.val) i) a) :=
  read3 t (arrV m c) h i a

theorem read4 (X : Vec Ideal S8x64x4096 .bf16) (h : Fin 8) (a : Fin 64) (i : Fin 512) : ((cfg0.win 4).blk t).view.read (Elt Ideal) X (ix3 h a i) = X (ix3 h a (place (rowOf t.val) i)) := by
  have hp := place_val (rowOf_lt t.val) i
  blk_simp
  refine congrArg X (funext fun d => Fin.ext ?_)
  blk_simp [index4]
  match d with
  | ⟨0, _⟩ => exact at_zero 8 h.val
  | ⟨1, _⟩ => exact at_zero 64 a.val
  | ⟨2, _⟩ => exact hp.symm

theorem block4 (h : Fin 8) (a : Fin 64) (i : Fin 512) : iblk m c 4 t (ix3 h a i) = arrD m c (ix3 h a (place (rowOf t.val) i)) :=
  read4 t (arrD m c) h a i

theorem read5 (X : Vec Ideal S8x64x4096 .f32) (h : Fin 8) (a : Fin 64) (i : Fin 512) : ((cfg0.win 5).blk t).view.read (Elt Ideal) X (ix3 h a i) = X (ix3 h a (place (rowOf t.val) i)) := by
  have hp := place_val (rowOf_lt t.val) i
  blk_simp
  refine congrArg X (funext fun d => Fin.ext ?_)
  blk_simp [index5]
  match d with
  | ⟨0, _⟩ => exact at_zero 8 h.val
  | ⟨1, _⟩ => exact at_zero 64 a.val
  | ⟨2, _⟩ => exact hp.symm

theorem block5 (h : Fin 8) (a : Fin 64) (i : Fin 512) : iblk m c 5 t (ix3 h a i) = arrO m c (ix3 h a (place (rowOf t.val) i)) :=
  read5 t (arrO m c) h a i

theorem read6 (X : Vec Ideal S8x1x4096 .f32) (h : Fin 8) (a : Fin 1) (i : Fin 512) : ((cfg0.win 6).blk t).view.read (Elt Ideal) X (ix3 h a i) = X (ix3 h a (place (rowOf t.val) i)) := by
  have hp := place_val (rowOf_lt t.val) i
  blk_simp
  refine congrArg X (funext fun d => Fin.ext ?_)
  blk_simp [index6]
  match d with
  | ⟨0, _⟩ => exact at_zero 8 h.val
  | ⟨1, _⟩ => exact at_zero 1 a.val
  | ⟨2, _⟩ => exact hp.symm

theorem block6 (h : Fin 8) (a : Fin 1) (i : Fin 512) : iblk m c 6 t (ix3 h a i) = arrL m c (ix3 h a (place (rowOf t.val) i)) :=
  read6 t (arrL m c) h a i

section

variable (qa ka : Vec Ideal S8x512x128 .bf16) (kat : Vec Ideal S8x128x512 .bf16) (v : Vec Ideal S8x512x64 .bf16) (d : Vec Ideal S8x64x512 .bf16)
  (o : Vec Ideal S8x64x512 .f32) (lse : Vec Ideal S8x1x512 .f32) (acc : Vec Ideal S8x128x512 .f32) (h : Fin 8) (r : Fin 128) (j : Fin 512)

theorem stepOff_apply : stepOff qa ka kat v d o lse acc (ix3 h r j)
    = acc (ix3 h r j) + ∑ i : Fin 512, kat (ix3 h r i) * (Ideal.exp ((∑ a : Fin 128, ka (ix3 h i a) * qa (ix3 h j a)) - lse (ix3 h 0 j)) *
      ((∑ e : Fin 64, v (ix3 h i e) * d (ix3 h e j)) - ∑ e : Fin 64, d (ix3 h e j) * o (ix3 h e j))) := rfl

theorem stepDiag_apply : stepDiag qa ka kat v d o lse acc (ix3 h r j)
    = acc (ix3 h r j) + ∑ i : Fin 512, kat (ix3 h r i) * (Ideal.exp ((if i ≤ j then ∑ a : Fin 128, ka (ix3 h i a) * qa (ix3 h j a) else ⊥) - lse (ix3 h 0 j)) *
      ((∑ e : Fin 64, v (ix3 h i e) * d (ix3 h e j)) - ∑ e : Fin 64, d (ix3 h e j) * o (ix3 h e j))) := rfl

end

/-- What key `j` adds to row `r` of query `i`'s sums. -/
def term (h : Fin 8) (r : Fin 128) (i j : Fin 4096) : EReal :=
  arrKT m c (ix3 h r j) * (Ideal.exp ((if j ≤ i then ∑ a : Fin 128, arrK m c (ix3 h j a) * arrQ m c (ix3 h i a) else ⊥) - arrL m c (ix3 h 0 i)) *
    ((∑ e : Fin 64, arrV m c (ix3 h j e) * arrD m c (ix3 h e i)) - ∑ e : Fin 64, arrD m c (ix3 h e i) * arrO m c (ix3 h e i)))

/-- What the tile of keys `k` adds to the sums of the tile of queries `q`. -/
def tile (q k : ℕ) (h : Fin 8) (r : Fin 128) (j : Fin 512) : EReal := ∑ i : Fin 512, term m c h r (place q j) (place k i)

theorem stepOff_tile (hlt : colOf t.val < rowOf t.val) (acc : Vec Ideal S8x128x512 .f32) (h : Fin 8) (r : Fin 128) (j : Fin 512) :
    stepOff (iblk m c 0 t) (iblk m c 1 t) (iblk m c 2 t) (iblk m c 3 t) (iblk m c 4 t) (iblk m c 5 t) (iblk m c 6 t) acc (ix3 h r j)
      = acc (ix3 h r j) + tile m c (rowOf t.val) (colOf t.val) h r j := by
  rw [stepOff_apply]
  unfold tile
  refine congrArg (acc (ix3 h r j) + ·) (Finset.sum_congr rfl fun i _ => ?_)
  have hle : place (colOf t.val) i ≤ place (rowOf t.val) j := by
    rw [Fin.le_def, place_val (rowOf_lt _), place_val (Nat.lt_trans hlt (rowOf_lt _))]
    omega
  unfold term
  rw [if_pos hle, block2, block6]
  simp only [block0, block1, block3, block4, block5]

theorem stepDiag_tile (heq : colOf t.val = rowOf t.val) (acc : Vec Ideal S8x128x512 .f32) (h : Fin 8) (r : Fin 128) (j : Fin 512) :
    stepDiag (iblk m c 0 t) (iblk m c 1 t) (iblk m c 2 t) (iblk m c 3 t) (iblk m c 4 t) (iblk m c 5 t) (iblk m c 6 t) acc (ix3 h r j)
      = acc (ix3 h r j) + tile m c (rowOf t.val) (colOf t.val) h r j := by
  rw [stepDiag_apply]
  unfold tile
  refine congrArg (acc (ix3 h r j) + ·) (Finset.sum_congr rfl fun i _ => ?_)
  have hle : (i ≤ j) = (place (colOf t.val) i ≤ place (rowOf t.val) j) := by
    rw [heq, Fin.le_def, Fin.le_def, place_val (rowOf_lt _), place_val (rowOf_lt _)]
    exact propext (by omega)
  unfold term
  simp only [hle]
  rw [block2, block6]
  simp only [block0, block1, block3, block4, block5]

/-- The points where a tile of queries starts. -/
abbrev Starts (t : Fin cfg0.N) : Prop :=
  (t.val % 36 = 0 ∨ t.val % 36 = 1 ∨ t.val % 36 = 3 ∨ t.val % 36 = 6 ∨ t.val % 36 = 10 ∨ t.val % 36 = 15 ∨ t.val % 36 = 21 ∨ t.val % 36 = 28)

/-- The points where a tile of queries ends: the tile of keys beside it. -/
abbrev Ends (t : Fin cfg0.N) : Prop :=
  (t.val % 36 = 0 ∨ t.val % 36 = 2 ∨ t.val % 36 = 5 ∨ t.val % 36 = 9 ∨ t.val % 36 = 14 ∨ t.val % 36 = 20 ∨ t.val % 36 = 27 ∨ t.val % 36 = 35)

theorem starts_iff : ∀ t : Fin cfg0.N, Starts t ↔ colOf t.val = 0 := (by decide +kernel : ∀ t : Fin grid0.N, (t.val % 36 = 0 ∨ t.val % 36 = 1 ∨ t.val % 36 = 3 ∨ t.val % 36 = 6 ∨ t.val % 36 = 10 ∨ t.val % 36 = 15 ∨ t.val % 36 = 21 ∨ t.val % 36 = 28) ↔ colOf t.val = 0)

theorem ends_iff : ∀ t : Fin cfg0.N, Ends t ↔ colOf t.val = rowOf t.val := (by decide +kernel : ∀ t : Fin grid0.N, (t.val % 36 = 0 ∨ t.val % 36 = 2 ∨ t.val % 36 = 5 ∨ t.val % 36 = 9 ∨ t.val % 36 = 14 ∨ t.val % 36 = 20 ∨ t.val % 36 = 27 ∨ t.val % 36 = 35) ↔ colOf t.val = rowOf t.val)

theorem before : ∀ t : Fin cfg0.N, colOf t.val ≠ 0 → rowOf (t.val - 1) = rowOf t.val ∧ colOf (t.val - 1) + 1 = colOf t.val :=
  (by decide +kernel : ∀ t : Fin grid0.N, colOf t.val ≠ 0 → rowOf (t.val - 1) = rowOf t.val ∧ colOf (t.val - 1) + 1 = colOf t.val)

/-- The running sums after a point. -/
def sumsAt (n : ℕ) (hn : n < cfg0.N) : Vec Ideal S8x128x512 .f32 := (outsAt0 m c n hn).2.2

def sumsBefore : Vec Ideal S8x128x512 .f32 := sumsAt m c (t.val - 1) (Nat.lt_of_le_of_lt (Nat.sub_le _ _) t.isLt)

theorem sumsAt_A (h0 : Starts t) (h2 : Ends t) : sumsAt m c t.val t.isLt
    = stepDiag (iblk m c 0 t) (iblk m c 1 t) (iblk m c 2 t) (iblk m c 3 t) (iblk m c 4 t) (iblk m c 5 t) (iblk m c 6 t) noSums := by
  unfold sumsAt
  rw [outsAt0_A m c t h0 (not_not.mpr h2) h2 h2]
  dsimp only
  rw [sums_A]

theorem sumsAt_B (h0 : Starts t) (h2 : ¬Ends t) : sumsAt m c t.val t.isLt
    = stepOff (iblk m c 0 t) (iblk m c 1 t) (iblk m c 2 t) (iblk m c 3 t) (iblk m c 4 t) (iblk m c 5 t) (iblk m c 6 t) noSums := by
  unfold sumsAt
  rw [outsAt0_B m c t h0 h2 h2 h2]
  dsimp only
  rw [sums_B]

theorem sumsAt_C (h0 : ¬Starts t) (h2 : Ends t) : sumsAt m c t.val t.isLt
    = stepDiag (iblk m c 0 t) (iblk m c 1 t) (iblk m c 2 t) (iblk m c 3 t) (iblk m c 4 t) (iblk m c 5 t) (iblk m c 6 t) (sumsBefore m c t) := by
  unfold sumsBefore sumsAt
  rw [outsAt0_C m c t h0 (not_not.mpr h2) h2 h2]
  dsimp only
  rw [sums_C]

theorem sumsAt_D (h0 : ¬Starts t) (h2 : ¬Ends t) : sumsAt m c t.val t.isLt
    = stepOff (iblk m c 0 t) (iblk m c 1 t) (iblk m c 2 t) (iblk m c 3 t) (iblk m c 4 t) (iblk m c 5 t) (iblk m c 6 t) (sumsBefore m c t) := by
  unfold sumsBefore sumsAt
  rw [outsAt0_D m c t h0 h2 h2 h2]
  dsimp only
  rw [sums_D]

/-- What the point that ends a tile of queries writes out is made of the sums it leaves. -/
theorem written (h2 : Ends t) : (outsAt0 m c t.val t.isLt).1 = finished (sumsAt m c t.val t.isLt) := by
  by_cases h0 : Starts t
  · rw [sumsAt_A m c t h0 h2, outsAt0_A m c t h0 (not_not.mpr h2) h2 h2]
    dsimp only
    rw [out_A]
  · rw [sumsAt_C m c t h0 h2, outsAt0_C m c t h0 (not_not.mpr h2) h2 h2]
    dsimp only
    rw [out_C]
    rfl

theorem writtenDecay (h2 : Ends t) : (outsAt0 m c t.val t.isLt).2.1 = finishedDecay (sumsAt m c t.val t.isLt) := by
  by_cases h0 : Starts t
  · rw [sumsAt_A m c t h0 h2, outsAt0_A m c t h0 (not_not.mpr h2) h2 h2]
    dsimp only
    rw [outDecay_A]
  · rw [sumsAt_C m c t h0 h2, outsAt0_C m c t h0 (not_not.mpr h2) h2 h2]
    dsimp only
    rw [outDecay_C]
    rfl

/-- After a point the sums hold the terms of the tiles of keys so far. -/
theorem sumsAt_eq (h : Fin 8) (r : Fin 128) (j : Fin 512) : ∀ (n : ℕ) (hn : n < cfg0.N),
    sumsAt m c n hn (ix3 h r j) = ∑ k ∈ Finset.range (colOf n + 1), tile m c (rowOf n) k h r j := by
  intro n
  induction n with
  | zero =>
    intro hn
    have h0 : Starts ⟨0, hn⟩ := Or.inl rfl
    have h2 : Ends ⟨0, hn⟩ := Or.inl rfl
    have e := congrFun (sumsAt_A m c ⟨0, hn⟩ h0 h2) (ix3 h r j)
    rw [stepDiag_tile m c ⟨0, hn⟩ ((ends_iff ⟨0, hn⟩).mp h2)] at e
    have e' : sumsAt m c 0 hn (ix3 h r j) = (0 : EReal) + tile m c (rowOf 0) (colOf 0) h r j := e
    rw [e', colOf_zero, zero_add, zero_add, Finset.sum_range_one]
  | succ n ih =>
    intro hn
    have hs : sumsAt m c (n + 1) hn (ix3 h r j) = (if colOf (n + 1) = 0 then (0 : EReal) else sumsBefore m c ⟨n + 1, hn⟩ (ix3 h r j))
        + tile m c (rowOf (n + 1)) (colOf (n + 1)) h r j := by
      by_cases h0 : Starts ⟨n + 1, hn⟩ <;> by_cases h2 : Ends ⟨n + 1, hn⟩
      · rw [if_pos ((starts_iff ⟨n + 1, hn⟩).mp h0)]
        exact (congrFun (sumsAt_A m c ⟨n + 1, hn⟩ h0 h2) (ix3 h r j)).trans (stepDiag_tile m c ⟨n + 1, hn⟩ ((ends_iff ⟨n + 1, hn⟩).mp h2) _ h r j)
      · rw [if_pos ((starts_iff ⟨n + 1, hn⟩).mp h0)]
        exact (congrFun (sumsAt_B m c ⟨n + 1, hn⟩ h0 h2) (ix3 h r j)).trans
          (stepOff_tile m c ⟨n + 1, hn⟩ (lt_of_le_of_ne (colOf_le _) (fun e => h2 ((ends_iff ⟨n + 1, hn⟩).mpr e))) _ h r j)
      · rw [if_neg (fun e => h0 ((starts_iff ⟨n + 1, hn⟩).mpr e))]
        exact (congrFun (sumsAt_C m c ⟨n + 1, hn⟩ h0 h2) (ix3 h r j)).trans (stepDiag_tile m c ⟨n + 1, hn⟩ ((ends_iff ⟨n + 1, hn⟩).mp h2) _ h r j)
      · rw [if_neg (fun e => h0 ((starts_iff ⟨n + 1, hn⟩).mpr e))]
        exact (congrFun (sumsAt_D m c ⟨n + 1, hn⟩ h0 h2) (ix3 h r j)).trans
          (stepOff_tile m c ⟨n + 1, hn⟩ (lt_of_le_of_ne (colOf_le _) (fun e => h2 ((ends_iff ⟨n + 1, hn⟩).mpr e))) _ h r j)
    rw [hs]
    by_cases h0 : colOf (n + 1) = 0
    · rw [if_pos h0, zero_add, h0]
      rw [zero_add, Finset.sum_range_one]
    · obtain ⟨hr, hc⟩ := before ⟨n + 1, hn⟩ h0
      have hr' : rowOf n = rowOf (n + 1) := hr
      have hc' : colOf n + 1 = colOf (n + 1) := hc
      rw [if_neg h0, Finset.sum_range_succ]
      have e := ih (Nat.lt_of_succ_lt hn)
      rw [hr', hc'] at e
      exact congrArg (· + _) e

theorem exp_bot_less (x : EReal) : Ideal.exp (⊥ - x) = 0 := by
  rw [sub_eq_add_neg, EReal.bot_add]
  rfl

/-- A key after the query adds nothing. -/
theorem term_after (h : Fin 8) (r : Fin 128) {i j : Fin 4096} (hij : i < j) : term m c h r i j = 0 := by
  unfold term
  rw [if_neg (not_le.mpr hij), exp_bot_less, zero_mul, mul_zero]

/-- A sum over eight tiles is a sum over the axis. -/
theorem sum_tiles (f : Fin 4096 → EReal) : ∑ k ∈ Finset.range 8, ∑ i : Fin 512, f (place k i) = ∑ j : Fin 4096, f j := by
  rw [Finset.sum_range, ← Fintype.sum_prod_type' (f := fun (k : Fin 8) (i : Fin 512) => f (place k.val i))]
  refine Fintype.sum_equiv (finProdFinEquiv (m := 8) (n := 512)) _ _ fun x => congrArg f (Fin.ext ?_)
  rw [place_val x.1.isLt]
  show x.1.val * 512 + x.2.val = x.2.val + 512 * x.1.val
  omega

/-- Where a tile of queries ends, its sums run over every key. -/
theorem sums_end (h2 : Ends t) (h : Fin 8) (r : Fin 128) (j : Fin 512) :
    sumsAt m c t.val t.isLt (ix3 h r j) = ∑ k : Fin 4096, term m c h r (place (rowOf t.val) j) k := by
  rw [sumsAt_eq, (ends_iff t).mp h2, ← sum_tiles]
  refine Finset.sum_subset (fun x hx => ?_) fun x hx hx' => ?_
  · have := rowOf_lt t.val
    simp only [Finset.mem_range] at hx ⊢
    omega
  · simp only [Finset.mem_range] at hx hx'
    refine Finset.sum_eq_zero fun i _ => term_after m c h r ?_
    rw [Fin.lt_def, place_val (rowOf_lt _), place_val hx]
    omega

end Cert.Fox

end
-- ==== Proof.DqI.Host.lean ====
/- What the host lines before the call leave in its operands' buffers, as the functions of the arguments named in
   `Proof.Fox.Arrays`. -/
module

public import proofs.«01_k».proof.Proof.DqI.Runs
public import proofs.«01_k».proof.Proof.Fox.Arrays
public import Idealize.ShloMosaic.Lib.StableHlo.RunRead

@[expose] public section

set_option maxRecDepth 16384

noncomputable section

namespace Cert.Fox

open Idealize.ShloMosaic Idealize.ShloMosaic.TcCoe Cert.KernelIdeal Cert.KernelIdeal.Gen

variable (m : (ℓ : Loc nD τ sig) → Buf (Elt Ideal) ℓ) (c : Dev nD)

/-- The arguments' arrays on core `c`. -/
abbrev argQ : FVec Ideal S4096x512 .f32 := m ((c : Thread nD τ).loc main_arg0)
abbrev argK : FVec Ideal S4096x512 .f32 := m ((c : Thread nD τ).loc main_arg1)
abbrev argV : FVec Ideal S4096x512 .f32 := m ((c : Thread nD τ).loc main_arg2)
abbrev argC : FVec Ideal S4096x8 .f32 := m ((c : Thread nD τ).loc main_arg3)
abbrev argD : FVec Ideal S4096x512 .f32 := m ((c : Thread nD τ).loc main_arg4)

theorem V_logits : V m c main_v19 = logits (argQ m c) (argK m c) (argC m c) (argC m c) := by
  after_reads_simp
  rfl

theorem V_queries : V m c main_v67 = queries (argQ m c) (argC m c) := by
  after_reads_simp
  rfl

theorem V_keys : V m c main_v72 = keys (argK m c) (argC m c) := by
  after_reads_simp
  rfl

theorem V_keysT : V m c main_v76 = keysT (argK m c) (argC m c) := by
  after_reads_simp
  rfl

theorem V_values : V m c main_v75 = values (argV m c) := by
  after_reads_simp
  rfl

theorem V_gradT : V m c main_v81 = gradT (argD m c) := by
  after_reads_simp
  rfl

theorem V_attended : V m c main_v36 = attended (normed (expLess (logits (argQ m c) (argK m c) (argC m c) (argC m c))
    (rowTop (rowMax (logits (argQ m c) (argK m c) (argC m c) (argC m c)))))) (argV m c) := by
  after_reads_simp
  rfl

theorem V_addLog : V m c main_v45 = addLog (rowMax (logits (argQ m c) (argK m c) (argC m c) (argC m c)))
    (rowSum (expLess (logits (argQ m c) (argK m c) (argC m c) (argC m c)) (rowMax (logits (argQ m c) (argK m c) (argC m c) (argC m c))))) := by
  after_reads_simp
  rfl

end Cert.Fox

end
-- ==== Proof.DqI.Final.lean ====
/- The arrays the kernel leaves: the gradient of the queries and of their decay, from finite arguments. -/
module

public import proofs.«01_k».proof.Proof.DqI.Sums
public import proofs.«01_k».proof.Proof.DqI.Host
public import proofs.«01_k».proof.Proof.Fox.Finite

@[expose] public section

set_option maxRecDepth 16384

noncomputable section

namespace Cert.Fox

open Idealize.ShloMosaic Idealize.ShloMosaic.TcCoe Idealize.ShloMosaic.Tactic Cert.KernelIdeal Cert.KernelIdeal.Gen

section

variable (q k v d : FVec Ideal S4096x512 .f32) (c : FVec Ideal S4096x8 .f32)

/-- The gradient of the queries, head by head. -/
def queryGrad : FVec Ideal S8x64x4096 .bf16 := fun y =>
  ((dquery (scores q k c c (y 0)) (tops q k c c (y 0)) (head k (y 0)) (head v (y 0)) (head d (y 0)) (y 2) (y 1) : ℝ) : EReal)

/-- The gradient of the decay on the queries' side. -/
def decayGrad : FVec Ideal S8x1x4096 .f32 := fun y =>
  ((ddecay (scores q k c c (y 0)) (tops q k c c (y 0)) (head v (y 0)) (head d (y 0)) (y 2) : ℝ) : EReal)

end

variable (m : (ℓ : Loc nD τ sig) → Buf (Elt Ideal) ℓ) (c : Dev nD)

theorem emb7 (t : Fin cfg0.N) (h : Fin 8) (e : Fin 64) (j : Fin 512) : (win0_7.blk t).view.emb (ix3 h e j) = ix3 h e (place (rowOf t.val) j) := by
  have hp := place_val (rowOf_lt t.val) j
  refine funext fun d => Fin.ext ?_
  blk_simp [index7]
  match d with
  | ⟨0, _⟩ => exact at_zero 8 h.val
  | ⟨1, _⟩ => exact at_zero 64 e.val
  | ⟨2, _⟩ => exact hp.symm

theorem emb8 (t : Fin cfg0.N) (h : Fin 8) (e : Fin 1) (j : Fin 512) : (win0_8.blk t).view.emb (ix3 h e j) = ix3 h e (place (rowOf t.val) j) := by
  have hp := place_val (rowOf_lt t.val) j
  refine funext fun d => Fin.ext ?_
  blk_simp [index8]
  match d with
  | ⟨0, _⟩ => exact at_zero 8 h.val
  | ⟨1, _⟩ => exact at_zero 1 e.val
  | ⟨2, _⟩ => exact hp.symm

theorem flush7 : ∀ t : Fin cfg0.N, win0_7.flush t = true → Ends t := fun t h =>
  (ends_iff t).mpr ((by decide +kernel : ∀ t : Fin grid0.N, win0_7.flush t = true → colOf t.val = rowOf t.val) t h)

theorem flush8 : ∀ t : Fin cfg0.N, win0_8.flush t = true → Ends t := fun t h =>
  (ends_iff t).mpr ((by decide +kernel : ∀ t : Fin grid0.N, win0_8.flush t = true → colOf t.val = rowOf t.val) t h)

/-- What the kernel leaves for the queries: the sums over every key, times an eighth. -/
def sumGrad : FVec Ideal S8x64x4096 .bf16 := fun y => (∑ k : Fin 4096, term m c (y 0) (Fin.castAdd 64 (y 1)) (y 2) k) * ((1 / 8 : ℝ) : EReal)

def sumDecay : FVec Ideal S8x1x4096 .f32 := fun y => ∑ k : Fin 4096, term m c (y 0) 64 (y 2) k

theorem finished_apply (acc : Vec Ideal S8x128x512 .f32) (h : Fin 8) (e : Fin 64) (j : Fin 512) :
    finished acc (ix3 h e j) = acc (ix3 h (Fin.castAdd 64 e) j) * ((1 / 8 : ℝ) : EReal) := rfl

theorem finishedDecay_apply (acc : Vec Ideal S8x128x512 .f32) (h : Fin 8) (e : Fin 1) (j : Fin 512) :
    finishedDecay acc (ix3 h e j) = acc (ix3 h 64 j) := rfl

theorem array7 : (dats m 0 c).arrAt 7 cfg0.N = sumGrad m c := by
  refine (dats m 0 c).arrAt_eq_of_covers 7 _ (by decide +kernel) fun t hf y => ?_
  blk_simp
  rw [after0_7]
  have h2 := flush7 t hf
  rw [written m c t h2]
  idx_vars y
  rw [emb7]
  rw [finished_apply, sums_end m c t h2]
  rfl

theorem array8 : (dats m 0 c).arrAt 8 cfg0.N = sumDecay m c := by
  refine (dats m 0 c).arrAt_eq_of_covers 8 _ (by decide +kernel) fun t hf y => ?_
  blk_simp
  rw [after0_8]
  have h2 := flush8 t hf
  rw [writtenDecay m c t h2]
  idx_vars y
  rw [emb8]
  rw [finishedDecay_apply, sums_end m c t h2]
  rfl

section

variable (hq : Finite (argQ m c)) (hk : Finite (argK m c)) (hv : Finite (argV m c)) (hc : Finite (argC m c)) (hd : Finite (argD m c))

include hq hk hv hc hd

/-- What a key adds is its row times the gradient of its score. -/
theorem term_real (h : Fin 8) (r : Fin 128) (i j : Fin 4096) :
    term m c h r i j = keysT (argK m c) (argC m c) (ix3 h r j) * ((dscore (scores (argQ m c) (argK m c) (argC m c) (argC m c) h) (tops (argQ m c) (argK m c) (argC m c) (argC m c) h) (head (argV m c) h) (head (argD m c) h) i j : ℝ) : EReal) := by
  unfold term arrKT arrK arrQ arrL arrV arrD arrO
  rw [V_keysT, V_keys, V_queries, V_addLog, V_values, V_gradT, V_attended, sum_operands hq hk hc hc, addLog_real hq hk hc hc]
  have hw : Ideal.exp ((if j ≤ i then ((scores (argQ m c) (argK m c) (argC m c) (argC m c) h i j : ℝ) : EReal) else ⊥) - ((logTotal (scores (argQ m c) (argK m c) (argC m c) (argC m c) h) (tops (argQ m c) (argK m c) (argC m c) (argC m c) h) i : ℝ) : EReal)) = ((prob (scores (argQ m c) (argK m c) (argC m c) (argC m c) h) (tops (argQ m c) (argK m c) (argC m c) (argC m c) h) i j : ℝ) : EReal) := by
    rw [prob_eq]
    split
    · exact exp_coe_sub _ _
    · exact exp_bot_sub _
  have hp : ∑ e : Fin 64, values (argV m c) (ix3 h j e) * gradT (argD m c) (ix3 h e i) = ((dprob (head (argV m c) h) (head (argD m c) h) i j : ℝ) : EReal) := by
    unfold dprob
    rw [coe_sum]
    exact Finset.sum_congr rfl fun e _ => by rw [values_apply, gradT_apply, head_coe hv, head_coe hd, EReal.coe_mul]
  have ho : ∑ e : Fin 64, gradT (argD m c) (ix3 h e i) * attended (normed (expLess (logits (argQ m c) (argK m c) (argC m c) (argC m c))
      (rowTop (rowMax (logits (argQ m c) (argK m c) (argC m c) (argC m c)))))) (argV m c) (ix3 h e i)
      = ((∑ e, head (argD m c) h i e * out (scores (argQ m c) (argK m c) (argC m c) (argC m c) h) (tops (argQ m c) (argK m c) (argC m c) (argC m c) h) (head (argV m c) h) i e : ℝ) : EReal) := by
    rw [coe_sum]
    exact Finset.sum_congr rfl fun e _ => by rw [gradT_apply, attended_real hq hk hv hc hc, head_coe hd, EReal.coe_mul]
  rw [hw, hp, ho, ← EReal.coe_sub, ← EReal.coe_mul]
  rfl

theorem sumGrad_apply (h : Fin 8) (e : Fin 64) (i : Fin 4096) : sumGrad m c (ix3 h e i)
    = queryGrad (argQ m c) (argK m c) (argV m c) (argD m c) (argC m c) (ix3 h e i) := by
  have hs : ∑ k : Fin 4096, term m c h (Fin.castAdd 64 e) i k
      = ((∑ j, head (argK m c) h j e * dscore (scores (argQ m c) (argK m c) (argC m c) (argC m c) h) (tops (argQ m c) (argK m c) (argC m c) (argC m c) h) (head (argV m c) h) (head (argD m c) h) i j : ℝ) : EReal) := by
    rw [coe_sum]
    refine Finset.sum_congr rfl fun j _ => ?_
    rw [term_real m c hq hk hv hc hd, keysT_head hk, EReal.coe_mul]
  refine (congrArg (· * ((1 / 8 : ℝ) : EReal)) hs).trans ?_
  exact (EReal.coe_mul _ _).symm

theorem sumGrad_eq : sumGrad m c = queryGrad (argQ m c) (argK m c) (argV m c) (argD m c) (argC m c) := by
  funext y
  idx_vars y
  exact sumGrad_apply m c hq hk hv hc hd y0 y1 y2

theorem sumDecay_eq : sumDecay m c = decayGrad (argQ m c) (argK m c) (argV m c) (argD m c) (argC m c) := by
  funext y
  idx_vars y
  show (∑ k : Fin 4096, term m c y0 64 y2 k) = ((ddecay (scores (argQ m c) (argK m c) (argC m c) (argC m c) y0) (tops (argQ m c) (argK m c) (argC m c) (argC m c) y0) (head (argV m c) y0) (head (argD m c) y0) y2 : ℝ) : EReal)
  unfold ddecay
  rw [coe_sum]
  refine Finset.sum_congr rfl fun j _ => ?_
  rw [term_real m c hq hk hv hc hd, keysT_ones, EReal.coe_one, one_mul]

end

end Cert.Fox

end
-- ==== Proof.Fox.Reference.lean ====
/- The reference's two results for finite arguments: the gradient of the queries and of the decay on their side, read off its
   lines one after another. -/
module

public import proofs.«01_k».proof.Proof.Fox.RefRun
public import proofs.«01_k».proof.Proof.DqI.Final

@[expose] public section

set_option maxRecDepth 16384

noncomputable section

namespace Cert.Fox

open Idealize.ShloMosaic Idealize.ShloMosaic.Tactic Cert.KernelIdeal Cert.ReferenceIdeal.Lines

variable {q k v d : FVec Ideal S4096x512 .f32} {c : FVec Ideal S4096x8 .f32}

section

variable (q k v d c)

theorem exps_eq : val_main_v40 (F := Ideal) q k c = expLess (logits q k c c) (rowTop (rowMax (logits q k c c))) := rfl

theorem sums_eq : val_main_v41 (F := Ideal) q k c = rowSum (val_main_v40 (F := Ideal) q k c) := rfl

theorem sum_apply (h : Fin 8) (i : Fin 4096) : val_main_v42 (F := Ideal) q k c (ix3 h i 0) = val_main_v41 (F := Ideal) q k c (ix2 h i) := by
  pointwise [val_main_v42]

theorem dot_apply (h : Fin 8) (i j : Fin 4096) : val_main_v54 (F := Ideal) v d (ix3 h i j)
    = ∑ e : Fin 64, d (ix2 i (col h e)) * v (ix2 j (col h e)) := by
  pointwise [val_main_v54, val_main_v53, val_main_v52, val_main_v48]

theorem part_apply (h : Fin 8) (i j : Fin 4096) : val_main_v60 (F := Ideal) q k v c d (ix3 h i j)
    = val_main_v54 (F := Ideal) v d (ix3 h i j)
      * Ideal.div ((1 : ℝ) : EReal) (val_main_v42 (F := Ideal) q k c (ix3 h i 0) * val_main_v42 (F := Ideal) q k c (ix3 h i 0))
      * val_main_v40 (F := Ideal) q k c (ix3 h i j) := by
  pointwise [val_main_v60, val_main_v59, val_main_v58, val_main_v47, val_main_v46, val_main_v45, val_main_cst_10]
  rw [EReal.coe_one]

theorem parts_sum (h : Fin 8) (i : Fin 4096) : val_main_v61 (F := Ideal) q k v c d (ix2 h i)
    = ∑ j : Fin 4096, val_main_v60 (F := Ideal) q k v c d (ix3 h i j) := by
  pointwise [val_main_v61, val_main_cst_11]

theorem whole_apply (h : Fin 8) (i j : Fin 4096) : val_main_v68 (F := Ideal) q k v c d (ix3 h i j)
    = Ideal.div (val_main_v54 (F := Ideal) v d (ix3 h i j)) (val_main_v42 (F := Ideal) q k c (ix3 h i 0))
      + -val_main_v61 (F := Ideal) q k v c d (ix2 h i) := by
  pointwise [val_main_v68, val_main_v65, val_main_v64, val_main_v67, val_main_v66, val_main_v63, val_main_v62, val_main_cst_12]
  rw [Fin.sum_univ_one]

theorem score_apply (h : Fin 8) (i j : Fin 4096) : val_main_v70 (F := Ideal) q k v c d (ix3 h i j)
    = if j ≤ i then val_main_v68 (F := Ideal) q k v c d (ix3 h i j) * val_main_v40 (F := Ideal) q k c (ix3 h i j) else 0 := by
  pointwise [val_main_v70, val_main_v69, val_main_v19_1, val_main_v18, val_main_v17, val_main_v16, val_main_v15, val_main_v14, val_main_v13,
    val_main_call1_v0, val_main_call1_cst]
  rw [select_sle]

theorem query_apply (h : Fin 8) (e : Fin 64) (i : Fin 4096) : val_main_v90 (F := Ideal) q k v c d (ix3 h e i)
    = ∑ j : Fin 4096, val_main_v70 (F := Ideal) q k v c d (ix3 h i j) * ((1 / 8 : ℝ) : EReal) * k (ix2 j (col h e)) := by
  pointwise [val_main_v90, val_main_v89, val_main_v88, val_main_v87, val_main_v85, val_main_v84, val_main_v81, val_main_v80, val_main_cst_17, val_main_v1]
  rw [ofBits_eighth]

theorem decay_apply (h : Fin 8) (i : Fin 4096) : val_main_v92 (F := Ideal) q k v c d (ix3 h 0 i)
    = ∑ j : Fin 4096, val_main_v70 (F := Ideal) q k v c d (ix3 h i j) := by
  pointwise [val_main_v92, val_main_v91, val_main_v79, val_main_v78, val_main_v77, val_main_v76, val_main_cst_15, val_main_cst_16]
  rw [Fin.sum_univ_one]

end

section

variable (hq : Finite q) (hk : Finite k) (hv : Finite v) (hc : Finite c) (hd : Finite d)

include hq hk hc in
theorem top_real (h : Fin 8) (i : Fin 4096) : rowTop (rowMax (logits q k c c)) (ix2 h i) = (tops q k c c h i : EReal) := by
  rw [rowTop_apply, rowMax_real hq hk hc hc]

include hq hk hc in
theorem exps_real (h : Fin 8) (i j : Fin 4096) : val_main_v40 (F := Ideal) q k c (ix3 h i j) = (weight (scores q k c c h) (tops q k c c h) i j : EReal) := by
  rw [exps_eq]
  exact expLess_real hq hk hc hc _ h i j (top_real hq hk hc h i)

include hq hk hc in
theorem sum_real (h : Fin 8) (i : Fin 4096) : val_main_v42 (F := Ideal) q k c (ix3 h i 0) = (total (scores q k c c h) (tops q k c c h) i : EReal) := by
  rw [sum_apply, sums_eq, exps_eq]
  exact rowSum_real hq hk hc hc _ h i (top_real hq hk hc h i)

include hv hd in
theorem dot_real (h : Fin 8) (i j : Fin 4096) : val_main_v54 (F := Ideal) v d (ix3 h i j) = (dprob (head v h) (head d h) i j : EReal) := by
  rw [dot_apply]
  unfold dprob
  rw [coe_sum]
  exact Finset.sum_congr rfl fun e _ => by rw [head_coe hv, head_coe hd, EReal.coe_mul, mul_comm]

include hq hk hv hc hd

theorem part_real (h : Fin 8) (i j : Fin 4096) : val_main_v60 (F := Ideal) q k v c d (ix3 h i j)
    = ((dprob (head v h) (head d h) i j * (1 / (total (scores q k c c h) (tops q k c c h) i * total (scores q k c c h) (tops q k c c h) i)) * weight (scores q k c c h) (tops q k c c h) i j : ℝ) : EReal) := by
  rw [part_apply, dot_real hv hd, sum_real hq hk hc, exps_real hq hk hc, ← EReal.coe_mul,
    coe_div (mul_ne_zero (total_ne _ _ _) (total_ne _ _ _)), ← EReal.coe_mul, ← EReal.coe_mul]

theorem score_real (h : Fin 8) (i j : Fin 4096) : val_main_v70 (F := Ideal) q k v c d (ix3 h i j)
    = (dscore (scores q k c c h) (tops q k c c h) (head v h) (head d h) i j : EReal) := by
  rw [score_apply, ← dscore_eq]
  split
  · rw [whole_apply, parts_sum, dot_real hv hd, sum_real hq hk hc, exps_real hq hk hc, coe_div (total_ne _ _ _), EReal.coe_mul, EReal.coe_add,
      EReal.coe_neg, coe_sum]
    simp only [part_real hq hk hv hc hd]
  · rfl

theorem query_eq : val_main_v90 (F := Ideal) q k v c d = queryGrad q k v d c := by
  funext y
  idx_vars y
  rw [query_apply]
  have hs : ∑ j : Fin 4096, val_main_v70 (F := Ideal) q k v c d (ix3 y0 y2 j) * ((1 / 8 : ℝ) : EReal) * k (ix2 j (col y0 y1))
      = ((dquery (scores q k c c y0) (tops q k c c y0) (head k y0) (head v y0) (head d y0) y2 y1 : ℝ) : EReal) := by
    unfold dquery
    rw [Finset.sum_mul, coe_sum]
    refine Finset.sum_congr rfl fun j _ => ?_
    rw [score_real hq hk hv hc hd, head_coe hk, ← EReal.coe_mul, ← EReal.coe_mul]
    exact congrArg _ (by ring)
  exact hs

theorem decay_eq : val_main_v92 (F := Ideal) q k v c d = decayGrad q k v d c := by
  funext y
  idx_vars y
  obtain rfl : y1 = 0 := Subsingleton.elim _ _
  rw [decay_apply]
  have hs : ∑ j : Fin 4096, val_main_v70 (F := Ideal) q k v c d (ix3 y0 y2 j)
      = ((ddecay (scores q k c c y0) (tops q k c c y0) (head v y0) (head d y0) y2 : ℝ) : EReal) := by
    unfold ddecay
    rw [coe_sum]
    exact Finset.sum_congr rfl fun j _ => score_real hq hk hv hc hd _ _ _
  exact hs

end

end Cert.Fox

end
-- ==== Proof.Products.Common.lean ====
/- The three ways a product is taken, as sums over the entries of its two factors, and what a block
   of such a product is: the same product of the blocks of its factors. -/
module

public import Idealize.ShloMosaic.Lib.Pointwise
public import Idealize.ShloMosaic.Lib.Pipeline.ValueKit

@[expose] public section

noncomputable section

namespace Cert.Products

open Idealize.ShloMosaic Idealize.ShloMosaic.Tactic

/-- A matrix with `a` rows and `b` columns. -/
abbrev Mat (a b : ℕ) : Type := (⟨2, ![a, b]⟩ : Shape).Idx → EReal

variable {M N K m n : ℕ}

/-- `x w`: entry `(i, j)` sums row `i` of `x` against column `j` of `w`. -/
def nn (x : Mat M K) (w : Mat K N) : Mat M N := fun y => ∑ k : Fin K, x (ix2 (y 0) k) * w (ix2 k (y 1))

/-- `x wᵀ`: entry `(i, j)` sums row `i` of `x` against row `j` of `w`. -/
def nt (x : Mat M K) (w : Mat N K) : Mat M N := fun y => ∑ k : Fin K, x (ix2 (y 0) k) * w (ix2 (y 1) k)

/-- `xᵀ w`: entry `(i, j)` sums column `i` of `x` against column `j` of `w`. -/
def tn (x : Mat K M) (w : Mat K N) : Mat M N := fun y => ∑ k : Fin K, x (ix2 k (y 0)) * w (ix2 k (y 1))

/-- `d + x wᵀ`. -/
def ntAdd (d : Mat M N) (x : Mat M K) (w : Mat N K) : Mat M N := fun y => d y + nt x w y

theorem nn_apply (x : Mat M K) (w : Mat K N) (i : Fin M) (j : Fin N) : nn x w (ix2 i j) = ∑ k : Fin K, x (ix2 i k) * w (ix2 k j) := rfl

theorem nt_apply (x : Mat M K) (w : Mat N K) (i : Fin M) (j : Fin N) : nt x w (ix2 i j) = ∑ k : Fin K, x (ix2 i k) * w (ix2 j k) := rfl

theorem tn_apply (x : Mat K M) (w : Mat K N) (i : Fin M) (j : Fin N) : tn x w (ix2 i j) = ∑ k : Fin K, x (ix2 k i) * w (ix2 k j) := rfl

/-- Two places of a matrix are one when they agree on the row and on the column. -/
theorem place_ext {a b : ℕ} (p q : (⟨2, ![a, b]⟩ : Shape).Idx) (h0 : (p 0).val = (q 0).val) (h1 : (p 1).val = (q 1).val) : p = q :=
  funext fun d => Fin.ext (match d with | ⟨0, _⟩ => h0 | ⟨1, _⟩ => h1)

section
variable (e : (⟨2, ![m, n]⟩ : Shape).Idx → (⟨2, ![M, N]⟩ : Shape).Idx)

/-- A block of `x w` is the product of a band of rows of `x` and a band of columns of `w`. -/
theorem nn_block (x : Mat M K) (w : Mat K N) (a : Mat m K) (b : Mat K n) (y : (⟨2, ![m, n]⟩ : Shape).Idx)
    (ha : ∀ k, a (ix2 (y 0) k) = x (ix2 (e y 0) k)) (hb : ∀ k, b (ix2 k (y 1)) = w (ix2 k (e y 1))) : nn a b y = nn x w (e y) :=
  Finset.sum_congr rfl fun k _ => congrArg₂ (· * ·) (ha k) (hb k)

/-- A block of `x wᵀ` is the product of a band of rows of `x` and a band of rows of `w`. -/
theorem nt_block (x : Mat M K) (w : Mat N K) (a : Mat m K) (b : Mat n K) (y : (⟨2, ![m, n]⟩ : Shape).Idx)
    (ha : ∀ k, a (ix2 (y 0) k) = x (ix2 (e y 0) k)) (hb : ∀ k, b (ix2 (y 1) k) = w (ix2 (e y 1) k)) : nt a b y = nt x w (e y) :=
  Finset.sum_congr rfl fun k _ => congrArg₂ (· * ·) (ha k) (hb k)

/-- A block of `xᵀ w` is the product of a band of columns of `x` and a band of columns of `w`. -/
theorem tn_block (x : Mat K M) (w : Mat K N) (a : Mat K m) (b : Mat K n) (y : (⟨2, ![m, n]⟩ : Shape).Idx)
    (ha : ∀ k, a (ix2 k (y 0)) = x (ix2 k (e y 0))) (hb : ∀ k, b (ix2 k (y 1)) = w (ix2 k (e y 1))) : tn a b y = tn x w (e y) :=
  Finset.sum_congr rfl fun k _ => congrArg₂ (· * ·) (ha k) (hb k)

end

end Cert.Products

end
-- ==== Proof.Products.In.lean ====
/- A layer's input projection and its two gradients. The kernel lays the weights out anew: the decay
   logits' eight columns come last, followed by columns of zeros up to a whole block. -/
module

public import proofs.«01_k».proof.Defs
public import proofs.«01_k».proof.Proof.Products.Common
public import proofs.«01_k».proof.Proof.Gen.InIdeal.Value
public import proofs.«01_k».proof.Proof.Gen.InRefIdeal.Run
public import proofs.«01_k».proof.Proof.Gen.InDxIdeal.Value
public import proofs.«01_k».proof.Proof.Gen.InDxRefIdeal.Run
public import proofs.«01_k».proof.Proof.Gen.InDwIdeal.Value
public import proofs.«01_k».proof.Proof.Gen.InDwRefIdeal.Run
public import Idealize.ShloMosaic.Lib.StableHlo.RunRead

@[expose] public section

set_option maxRecDepth 16384

noncomputable section

namespace Cert.Products

open Idealize.ShloMosaic Idealize.ShloMosaic.TcCoe Idealize.SL.Sem Idealize.ShloMosaic.Tactic

/-! ## The weights as the kernel lays them out -/

section
open Cert.InIdeal Cert.InIdeal.Gen

def laidOut (w : FVec Ideal S1024x6152 .f32) : FVec Ideal S1024x6272 .f32 :=
  concatenate S1024x6272 1 [⟨S1024x3072, extractStridedSlice S1024x3072 ![0, 0] w slices_S1024x6152_S1024x3072_0_0⟩,
    ⟨S1024x3072, extractStridedSlice S1024x3072 ![0, 3080] w slices_S1024x6152_S1024x3072_0_3080⟩,
    ⟨S1024x8, extractStridedSlice S1024x8 ![0, 3072] w slices_S1024x6152_S1024x8_0_3072⟩,
    ⟨S1024x120, broadcastInDim S1024x120 ![] bcast_S_S1024x120 (constant (F := Ideal) S_ .f32 0x00000000#32)⟩]
    concatenates_S1024x3072_S1024x3072_S1024x8_S1024x120_S1024x6272_d1

end

/-! ## The product -/

namespace In

section
open Cert.InIdeal Cert.InIdeal.Gen

theorem stored (x w) : out0_2 (F := Ideal) x w = nn x w := by
  refine funext fun y => ?_
  idx_vars y
  rw [nn_apply]
  unfold out0_2
  frame_out
  unfold_payloads
  pointwise

theorem places : ∀ t : Fin cfg0.N, win0_0.index t 0 = win0_2.index t 0 ∧ win0_0.index t 1 = 0 ∧ win0_1.index t 0 = 0 ∧ win0_1.index t 1 = win0_2.index t 1 := by
  decide +kernel

theorem block (t : Fin cfg0.N) (x : Vec Ideal S4096x1024 .bf16) (w : Vec Ideal S1024x6272 .f32) (y : S1024x896.Idx) :
    out0_2 (((cfg0.win 0).blk t).view.read (Elt Ideal) x) (((cfg0.win 1).blk t).view.read (Elt Ideal) w) y = nn x w ((win0_2.blk t).view.emb y) := by
  obtain ⟨h0, h1, h2, h3⟩ := places t
  rw [stored]
  refine nn_block _ x w _ _ y (fun k => congrArg x (place_ext _ _ ?_ ?_)) fun k => congrArg w (place_ext _ _ ?_ ?_) <;> blk_simp <;> omega

theorem host (m : (ℓ : Loc nD τ sig) → Buf (Elt Ideal) ℓ) (c : Dev nD) :
    V m c main_v4 = laidOut (m ((c.tc : Thread nD τ).loc main_arg1)) := by
  after_reads_simp
  rfl

theorem array (m : (ℓ : Loc nD τ sig) → Buf (Elt Ideal) ℓ) (c : Dev nD) :
    (dats m 0 c).arrAt 2 cfg0.N = nn (m ((c.tc : Thread nD τ).loc main_arg0)) (laidOut (m ((c.tc : Thread nD τ).loc main_arg1))) := by
  rw [← V_main_arg0 m c, ← host]
  refine (dats m 0 c).arrAt_eq_of_covers 2 _ (by decide +kernel) fun t hf y => ?_
  blk_simp
  rw [after0_2]
  exact block t (V m c main_arg0) (V m c main_v4) y

end

section
open Cert.InRefIdeal Cert.InRefIdeal.Gen

/-- The product with the weights as they are given. -/
abbrev given (x : FVec Ideal S4096x1024 .bf16) (w : FVec Ideal S1024x6152 .f32) : FVec Ideal S4096x6152 .f32 :=
  Host.dotGeneral (F := Ideal) dot_S4096x1024_S1024x6152_S4096x6152_1_0_0_1_n_n none (extf .f32 x bitsLt_bf16_f32) w

theorem reference (x : FVec Ideal S4096x1024 .bf16) (w : FVec Ideal S1024x6152 .f32) :
    concatenate S4096x6272 1 [⟨S4096x3072, extractStridedSlice S4096x3072 ![0, 0] (given x w) slices_S4096x6152_S4096x3072_0_0⟩,
      ⟨S4096x3072, extractStridedSlice S4096x3072 ![0, 3080] (given x w) slices_S4096x6152_S4096x3072_0_3080⟩,
      ⟨S4096x8, extractStridedSlice S4096x8 ![0, 3072] (given x w) slices_S4096x6152_S4096x8_0_3072⟩,
      ⟨S4096x120, broadcastInDim S4096x120 ![] bcast_S_S4096x120 (constant (F := Ideal) S_ .f32 0x00000000#32)⟩]
      concatenates_S4096x3072_S4096x3072_S4096x8_S4096x120_S4096x6272_d1 = nn x (laidOut w) := by
  refine funext fun y => ?_
  idx_vars y
  rw [nn_apply]
  unfold laidOut
  pointwise
  split_ifs <;> simp

end

theorem value : Cert.algebraic_InIdeal_InRefIdeal := fun m g m' g' _ hm =>
  ⟨_, (θ_run _ _ _).mono (fun r h c => ⟨(h c).1.trans (array m c), (h c).2⟩) (Cert.InIdeal.Value.run_blocks m g),
    (θ_run _ _ _).mono (fun r h c => by
      obtain ⟨h0, ha⟩ := h c
      rw [(hm c).1, (hm c).2] at h0
      exact ⟨h0.trans (reference _ _), ha⟩) (Cert.InRefIdeal.Value.run m' g')⟩

end In

/-! ## The gradient at its left factor -/

namespace InDx

section
open Cert.InDxIdeal Cert.InDxIdeal.Gen

theorem stored (x w d) : out0_3 (F := Ideal) x w d = ntAdd d x w := by
  refine funext fun y => ?_
  idx_vars y
  rw [ntAdd, nt_apply]
  unfold out0_3
  frame_out
  unfold_payloads
  pointwise
  exact add_comm _ _

theorem places : ∀ t : Fin cfg0.N, win0_0.index t 0 = win0_3.index t 0 ∧ win0_0.index t 1 = 0 ∧ win0_1.index t 0 = win0_3.index t 1 ∧ win0_1.index t 1 = 0
    ∧ win0_2.index t 0 = win0_3.index t 0 ∧ win0_2.index t 1 = win0_3.index t 1 := by
  decide +kernel

theorem block (t : Fin cfg0.N) (x : Vec Ideal S4096x6272 .bf16) (w : Vec Ideal S1024x6272 .f32) (d : Vec Ideal S4096x1024 .f32) (y : S512x256.Idx) :
    out0_3 (((cfg0.win 0).blk t).view.read (Elt Ideal) x) (((cfg0.win 1).blk t).view.read (Elt Ideal) w) (((cfg0.win 2).blk t).view.read (Elt Ideal) d) y
      = ntAdd d x w ((win0_3.blk t).view.emb y) := by
  obtain ⟨h0, h1, h2, h3, h4, h5⟩ := places t
  rw [stored]
  refine congrArg₂ (· + ·) (congrArg d (place_ext _ _ ?_ ?_))
    (nt_block _ x w _ _ y (fun k => congrArg x (place_ext _ _ ?_ ?_)) fun k => congrArg w (place_ext _ _ ?_ ?_)) <;> blk_simp <;> omega

/-- A sum cut in two. -/
theorem sum_cut (p q : ℕ) {n : ℕ} (h : p + q = n) (g : Fin n → EReal) :
    ∑ k, g k = ∑ i : Fin p, g ⟨i.val, by omega⟩ + ∑ i : Fin q, g ⟨p + i.val, by omega⟩ := by
  subst h
  exact Fin.sum_univ_add g

/-- The gradient at the product's result, its three parts side by side. -/
def parts (a b : FVec Ideal S4096x3072 .bf16) (f : FVec Ideal S4096x128 .bf16) : FVec Ideal S4096x6272 .bf16 :=
  concatenate S4096x6272 1 [⟨S4096x3072, a⟩, ⟨S4096x3072, b⟩, ⟨S4096x128, f⟩] concatenates_S4096x3072_S4096x3072_S4096x128_S4096x6272_d1

theorem host_parts (m : (ℓ : Loc nD τ sig) → Buf (Elt Ideal) ℓ) (c : Dev nD) :
    V m c main_v0 = parts (m ((c.tc : Thread nD τ).loc main_arg0)) (m ((c.tc : Thread nD τ).loc main_arg1)) (m ((c.tc : Thread nD τ).loc main_arg2)) := by
  after_reads_simp
  rfl

theorem host_weights (m : (ℓ : Loc nD τ sig) → Buf (Elt Ideal) ℓ) (c : Dev nD) : V m c main_v5 = laidOut (m ((c.tc : Thread nD τ).loc main_arg3)) := by
  after_reads_simp
  rfl

theorem array (m : (ℓ : Loc nD τ sig) → Buf (Elt Ideal) ℓ) (c : Dev nD) :
    (dats m 0 c).arrAt 3 cfg0.N = ntAdd (m ((c.tc : Thread nD τ).loc main_arg4))
      (parts (m ((c.tc : Thread nD τ).loc main_arg0)) (m ((c.tc : Thread nD τ).loc main_arg1)) (m ((c.tc : Thread nD τ).loc main_arg2)))
      (laidOut (m ((c.tc : Thread nD τ).loc main_arg3))) := by
  rw [← V_main_arg4 m c, ← host_parts, ← host_weights]
  refine (dats m 0 c).arrAt_eq_of_covers 3 _ (by decide +kernel) fun t hf y => ?_
  blk_simp
  rw [after0_3]
  exact block t (V m c main_v0) (V m c main_v5) (V m c main_arg4) y

end

section
open Cert.InDxRefIdeal Cert.InDxRefIdeal.Gen

theorem reference (a b : FVec Ideal S4096x3072 .bf16) (f : FVec Ideal S4096x128 .bf16) (w : FVec Ideal S1024x6152 .f32) (d : FVec Ideal S4096x1024 .f32) :
    addf (F := Ideal) d (Host.dotGeneral (F := Ideal) dot_S4096x6152_S1024x6152_S4096x1024_1_1_0_0_n_n none
      (extf .f32 (concatenate S4096x6152 1 [⟨S4096x3072, a⟩, ⟨S4096x8, extractStridedSlice S4096x8 ![0, 0] f slices_S4096x128_S4096x8_0_0⟩, ⟨S4096x3072, b⟩]
        concatenates_S4096x3072_S4096x8_S4096x3072_S4096x6152_d1) bitsLt_bf16_f32) w) = ntAdd d (parts a b f) (laidOut w) := by
  refine funext fun y => ?_
  idx_vars y
  rw [ntAdd, nt_apply]
  unfold parts laidOut
  pointwise
  refine congrArg (d (ix2 y0 y1) + ·) ?_
  rw [sum_cut 3072 3080 (n := 6152) rfl, sum_cut 8 3072 (n := 3080) rfl, sum_cut 3072 3200 (n := 6272) rfl, sum_cut 3072 128 (n := 3200) rfl, sum_cut 8 120 (n := 128) rfl]
  simp [Nat.add_sub_cancel_left, Nat.add_assoc]
  refine congrArg (_ + ·) ((add_comm _ _).trans (congrArg (· + _) (Finset.sum_congr rfl fun k _ => congrArg (_ * ·) (congrArg w (place_ext _ _ rfl ?_)))))
  exact (Nat.add_assoc 3072 8 k.val).symm

end

theorem value : Cert.algebraic_InDxIdeal_InDxRefIdeal := fun m g m' g' _ hm =>
  ⟨_, (θ_run _ _ _).mono (fun r h c => ⟨(h c).1.trans (array m c), (h c).2⟩) (Cert.InDxIdeal.Value.run_blocks m g),
    (θ_run _ _ _).mono (fun r h c => by
      obtain ⟨e0, e1, e2, e3, e4⟩ := hm c
      obtain ⟨h0, ha⟩ := h c
      rw [e0, e1, e2, e3, e4] at h0
      exact ⟨h0.trans (reference _ _ _ _ _), ha⟩) (Cert.InDxRefIdeal.Value.run m' g')⟩

end InDx

/-! ## The gradient at its right factor -/

namespace InDw

section
open Cert.InDwIdeal Cert.InDwIdeal.Gen

theorem stored (x w) : out0_2 (F := Ideal) x w = tn x w := by
  refine funext fun y => ?_
  idx_vars y
  rw [tn_apply]
  unfold out0_2
  frame_out
  unfold_payloads
  pointwise

theorem places : ∀ t : Fin cfg0.N, win0_0.index t 0 = 0 ∧ win0_0.index t 1 = win0_2.index t 0 ∧ win0_1.index t 0 = 0 ∧ win0_1.index t 1 = win0_2.index t 1 := by
  decide +kernel

theorem block (t : Fin cfg0.N) (x : Vec Ideal S4096x1024 .bf16) (w : Vec Ideal S4096x6272 .bf16) (y : S512x896.Idx) :
    out0_2 (((cfg0.win 0).blk t).view.read (Elt Ideal) x) (((cfg0.win 1).blk t).view.read (Elt Ideal) w) y = tn x w ((win0_2.blk t).view.emb y) := by
  obtain ⟨h0, h1, h2, h3⟩ := places t
  rw [stored]
  refine tn_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = tn (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.InDwRefIdeal Cert.InDwRefIdeal.Gen

theorem reference (x : FVec Ideal _ .bf16) (w : FVec Ideal _ .bf16) :
    truncf .bf16 (transpose S1024x6272 [1, 0] (Host.dotGeneral (F := Ideal) dot_S4096x6272_S4096x1024_S6272x1024_0_0_1_1_n_n none (extf .f32 w bitsLt_bf16_f32)
      (extf .f32 x bitsLt_bf16_f32)) transposes_S6272x1024_S1024x6272_1_0) bitsLt_bf16_f32 = tn x w := by
  refine funext fun y => ?_
  idx_vars y
  rw [tn_apply]
  pointwise
  exact Finset.sum_congr rfl fun k _ => mul_comm _ _

end

theorem value : Cert.algebraic_InDwIdeal_InDwRefIdeal := fun m g m' g' _ hm =>
  ⟨_, (θ_run _ _ _).mono (fun r h c => ⟨(h c).1.trans (array m c), (h c).2⟩) (Cert.InDwIdeal.Value.run_blocks m g),
    (θ_run _ _ _).mono (fun r h c => by
      obtain ⟨h0, ha⟩ := h c
      rw [(hm c).1, (hm c).2] at h0
      exact ⟨h0.trans (reference _ _), ha⟩) (Cert.InDwRefIdeal.Value.run m' g')⟩

end InDw

end Cert.Products

end
-- ==== Proof.Products.Channel.lean ====
/- The channel mixer's products into its hidden width — the gate's and the up path's, from the joined
   weights — and their gradients. -/
module

public import proofs.«01_k».proof.Defs
public import proofs.«01_k».proof.Proof.Products.Common
public import proofs.«01_k».proof.Proof.Gen.FfnIdeal.Value
public import proofs.«01_k».proof.Proof.Gen.FfnRefIdeal.Run
public import proofs.«01_k».proof.Proof.Gen.GateDxIdeal.Value
public import proofs.«01_k».proof.Proof.Gen.GateDxRefIdeal.Run
public import proofs.«01_k».proof.Proof.Gen.UpDxIdeal.Value
public import proofs.«01_k».proof.Proof.Gen.UpDxRefIdeal.Run
public import proofs.«01_k».proof.Proof.Gen.GateDwIdeal.Value
public import proofs.«01_k».proof.Proof.Gen.GateDwRefIdeal.Run
public import Idealize.ShloMosaic.Lib.StableHlo.RunRead

@[expose] public section

set_option maxRecDepth 16384

noncomputable section

namespace Cert.Products

open Idealize.ShloMosaic Idealize.ShloMosaic.TcCoe Idealize.SL.Sem Idealize.ShloMosaic.Tactic

/-! ## The joined weights -/

section
open Cert.FfnIdeal Cert.FfnIdeal.Gen

/-- The gate's weights with the up path's weights to their right. -/
def joint (a b : FVec Ideal S1024x2816 .f32) : FVec Ideal S1024x5632 .f32 :=
  concatenate S1024x5632 1 [⟨S1024x2816, a⟩, ⟨S1024x2816, b⟩] concatenates_S1024x2816_S1024x2816_S1024x5632_d1

theorem joint_apply (a b : FVec Ideal S1024x2816 .f32) (i : Fin 1024) (j : Fin 5632) :
    joint a b (ix2 i j) = if h : j.val < 2816 then a (ix2 i ⟨j.val, h⟩) else b (ix2 i ⟨j.val - 2816, by omega⟩) := by
  unfold joint
  pointwise

theorem joint_left (a b : FVec Ideal S1024x2816 .f32) (i : Fin 1024) (k : Fin 2816) : joint a b (ix2 i ⟨k.val, by omega⟩) = a (ix2 i k) :=
  (joint_apply a b _ _).trans (dif_pos k.isLt)

theorem joint_right (a b : FVec Ideal S1024x2816 .f32) (i : Fin 1024) (k : Fin 2816) : joint a b (ix2 i ⟨k.val + 2816, by omega⟩) = b (ix2 i k) :=
  (joint_apply a b _ _).trans ((dif_neg (Nat.not_lt.2 (Nat.le_add_left _ _))).trans
    (congrArg (fun j => b (ix2 i j)) (Fin.ext (Nat.add_sub_cancel k.val 2816))))

end

/-! ## The product -/

namespace Ffn

section
open Cert.FfnIdeal Cert.FfnIdeal.Gen

theorem stored (x w) : out0_2 (F := Ideal) x w = nn x w := by
  refine funext fun y => ?_
  idx_vars y
  rw [nn_apply]
  unfold out0_2
  frame_out
  unfold_payloads
  pointwise

theorem places : ∀ t : Fin cfg0.N, win0_0.index t 0 = win0_2.index t 0 ∧ win0_0.index t 1 = 0 ∧ win0_1.index t 0 = 0 ∧ win0_1.index t 1 = win0_2.index t 1 := by
  decide +kernel

theorem block (t : Fin cfg0.N) (x : Vec Ideal S4096x1024 .bf16) (w : Vec Ideal S1024x5632 .f32) (y : S1024x512.Idx) :
    out0_2 (((cfg0.win 0).blk t).view.read (Elt Ideal) x) (((cfg0.win 1).blk t).view.read (Elt Ideal) w) y = nn x w ((win0_2.blk t).view.emb y) := by
  obtain ⟨h0, h1, h2, h3⟩ := places t
  rw [stored]
  refine nn_block _ x w _ _ y (fun k => congrArg x (place_ext _ _ ?_ ?_)) fun k => congrArg w (place_ext _ _ ?_ ?_) <;> blk_simp <;> omega

theorem host (m : (ℓ : Loc nD τ sig) → Buf (Elt Ideal) ℓ) (c : Dev nD) :
    V m c main_v0 = joint (m ((c.tc : Thread nD τ).loc main_arg1)) (m ((c.tc : Thread nD τ).loc main_arg2)) := by
  after_reads_simp
  rfl

theorem array (m : (ℓ : Loc nD τ sig) → Buf (Elt Ideal) ℓ) (c : Dev nD) :
    (dats m 0 c).arrAt 2 cfg0.N = nn (m ((c.tc : Thread nD τ).loc main_arg0)) (joint (m ((c.tc : Thread nD τ).loc main_arg1)) (m ((c.tc : Thread nD τ).loc main_arg2))) := by
  rw [← V_main_arg0 m c, ← host]
  refine (dats m 0 c).arrAt_eq_of_covers 2 _ (by decide +kernel) fun t hf y => ?_
  blk_simp
  rw [after0_2]
  exact block t (V m c main_arg0) (V m c main_v0) y

end

section
open Cert.FfnRefIdeal Cert.FfnRefIdeal.Gen

theorem reference (x : FVec Ideal _ .bf16) (a b : FVec Ideal _ .f32) :
    concatenate S4096x5632 1 [⟨S4096x2816, Host.dotGeneral (F := Ideal) dot_S4096x1024_S1024x2816_S4096x2816_1_0_0_1_n_n none (extf .f32 x bitsLt_bf16_f32) a⟩,
      ⟨S4096x2816, Host.dotGeneral (F := Ideal) dot_S4096x1024_S1024x2816_S4096x2816_1_0_0_1_n_n none (extf .f32 x bitsLt_bf16_f32) b⟩] concatenates_S4096x2816_S4096x2816_S4096x5632_d1
      = nn x (joint a b) := by
  refine funext fun y => ?_
  idx_vars y
  rw [nn_apply]
  simp only [joint_apply]
  pointwise
  split <;> rfl

end

theorem value : Cert.algebraic_FfnIdeal_FfnRefIdeal := fun m g m' g' _ hm =>
  ⟨_, (θ_run _ _ _).mono (fun r h c => ⟨(h c).1.trans (array m c), (h c).2⟩) (Cert.FfnIdeal.Value.run_blocks m g),
    (θ_run _ _ _).mono (fun r h c => by
      obtain ⟨h0, ha⟩ := h c
      rw [(hm c).1, (hm c).2.1, (hm c).2.2] at h0
      exact ⟨h0.trans (reference _ _ _), ha⟩) (Cert.FfnRefIdeal.Value.run m' g')⟩

end Ffn

/-! ## The gradient at its left factor: the gate's part -/

namespace GateDx

section
open Cert.GateDxIdeal Cert.GateDxIdeal.Gen

theorem stored (x w d) : out0_3 (F := Ideal) x w d = ntAdd d x w := by
  refine funext fun y => ?_
  idx_vars y
  rw [ntAdd, nt_apply]
  unfold out0_3
  frame_out
  unfold_payloads
  pointwise
  exact add_comm _ _

theorem places : ∀ t : Fin cfg0.N, win0_0.index t 0 = win0_3.index t 0 ∧ win0_0.index t 1 = 0 ∧ win0_1.index t 0 = win0_3.index t 1 ∧ win0_1.index t 1 = 0
    ∧ win0_2.index t 0 = win0_3.index t 0 ∧ win0_2.index t 1 = win0_3.index t 1 := by
  decide +kernel

theorem block (t : Fin cfg0.N) (x : Vec Ideal S4096x2816 .bf16) (a b : FVec Ideal S1024x2816 .f32) (d : Vec Ideal S4096x1024 .f32) (y : S512x512.Idx) :
    out0_3 (((cfg0.win 0).blk t).view.read (Elt Ideal) x) (((cfg0.win 1).blk t).view.read (Elt Ideal) (joint a b)) (((cfg0.win 2).blk t).view.read (Elt Ideal) d) y
      = ntAdd d x a ((win0_3.blk t).view.emb y) := by
  obtain ⟨h0, h1, h2, h3, h4, h5⟩ := places t
  rw [stored]
  refine congrArg₂ (· + ·) (congrArg d (place_ext _ _ ?_ ?_))
    (nt_block _ x a _ _ y (fun k => congrArg x (place_ext _ _ ?_ ?_)) fun k => (congrArg (joint a b) (place_ext _ (ix2 ((win0_3.blk t).view.emb y 1) ⟨k.val, by omega⟩) ?_ ?_)).trans
      (joint_left a b _ k)) <;> blk_simp <;> (try dsimp only) <;> omega

theorem host (m : (ℓ : Loc nD τ sig) → Buf (Elt Ideal) ℓ) (c : Dev nD) :
    V m c main_v0 = joint (m ((c.tc : Thread nD τ).loc main_arg1)) (m ((c.tc : Thread nD τ).loc main_arg2)) := by
  after_reads_simp
  rfl

theorem array (m : (ℓ : Loc nD τ sig) → Buf (Elt Ideal) ℓ) (c : Dev nD) :
    (dats m 0 c).arrAt 3 cfg0.N = ntAdd (m ((c.tc : Thread nD τ).loc main_arg3)) (m ((c.tc : Thread nD τ).loc main_arg0)) (m ((c.tc : Thread nD τ).loc main_arg1)) := by
  rw [← V_main_arg0 m c, ← V_main_arg3 m c]
  refine (dats m 0 c).arrAt_eq_of_covers 3 _ (by decide +kernel) fun t hf y => ?_
  blk_simp
  rw [after0_3]
  refine Eq.trans ?_ (block t (V m c main_arg0) _ (m ((c.tc : Thread nD τ).loc main_arg2)) (V m c main_arg3) y)
  rw [← host]
  rfl

end

section
open Cert.GateDxRefIdeal Cert.GateDxRefIdeal.Gen

theorem reference (x : FVec Ideal _ .bf16) (w d : FVec Ideal _ .f32) :
    addf (F := Ideal) d (Host.dotGeneral (F := Ideal) dot_S4096x2816_S1024x2816_S4096x1024_1_1_0_0_n_n none (extf .f32 x bitsLt_bf16_f32) w) = ntAdd d x w := by
  refine funext fun y => ?_
  idx_vars y
  rw [ntAdd, nt_apply]
  pointwise

end

theorem value : Cert.algebraic_GateDxIdeal_GateDxRefIdeal := fun m g m' g' _ hm =>
  ⟨_, (θ_run _ _ _).mono (fun r h c => ⟨(h c).1.trans (array m c), (h c).2⟩) (Cert.GateDxIdeal.Value.run_blocks m g),
    (θ_run _ _ _).mono (fun r h c => by
      obtain ⟨h0, ha⟩ := h c
      rw [(hm c).1, (hm c).2.1, (hm c).2.2.2] at h0
      exact ⟨h0.trans (reference _ _ _), ha⟩) (Cert.GateDxRefIdeal.Value.run m' g')⟩

end GateDx

/-! ## The gradient at its left factor: the up path's part -/

namespace UpDx

section
open Cert.UpDxIdeal Cert.UpDxIdeal.Gen

theorem stored (x w d) : out0_3 (F := Ideal) x w d = ntAdd d x w := by
  refine funext fun y => ?_
  idx_vars y
  rw [ntAdd, nt_apply]
  unfold out0_3
  frame_out
  unfold_payloads
  pointwise
  exact add_comm _ _

theorem places : ∀ t : Fin cfg0.N, win0_0.index t 0 = win0_3.index t 0 ∧ win0_0.index t 1 = 0 ∧ win0_1.index t 0 = win0_3.index t 1 ∧ win0_1.index t 1 = 1
    ∧ win0_2.index t 0 = win0_3.index t 0 ∧ win0_2.index t 1 = win0_3.index t 1 := by
  decide +kernel

theorem block (t : Fin cfg0.N) (x : Vec Ideal S4096x2816 .bf16) (a b : FVec Ideal S1024x2816 .f32) (d : Vec Ideal S4096x1024 .f32) (y : S512x512.Idx) :
    out0_3 (((cfg0.win 0).blk t).view.read (Elt Ideal) x) (((cfg0.win 1).blk t).view.read (Elt Ideal) (joint a b)) (((cfg0.win 2).blk t).view.read (Elt Ideal) d) y
      = ntAdd d x b ((win0_3.blk t).view.emb y) := by
  obtain ⟨h0, h1, h2, h3, h4, h5⟩ := places t
  rw [stored]
  refine congrArg₂ (· + ·) (congrArg d (place_ext _ _ ?_ ?_))
    (nt_block _ x b _ _ y (fun k => congrArg x (place_ext _ _ ?_ ?_)) fun k => (congrArg (joint a b) (place_ext _ (ix2 ((win0_3.blk t).view.emb y 1) ⟨k.val + 2816, by omega⟩) ?_ ?_)).trans
      (joint_right a b _ k)) <;> blk_simp <;> (try dsimp only) <;> omega

theorem host (m : (ℓ : Loc nD τ sig) → Buf (Elt Ideal) ℓ) (c : Dev nD) :
    V m c main_v0 = joint (m ((c.tc : Thread nD τ).loc main_arg1)) (m ((c.tc : Thread nD τ).loc main_arg2)) := by
  after_reads_simp
  rfl

theorem array (m : (ℓ : Loc nD τ sig) → Buf (Elt Ideal) ℓ) (c : Dev nD) :
    (dats m 0 c).arrAt 3 cfg0.N = ntAdd (m ((c.tc : Thread nD τ).loc main_arg3)) (m ((c.tc : Thread nD τ).loc main_arg0)) (m ((c.tc : Thread nD τ).loc main_arg2)) := by
  rw [← V_main_arg0 m c, ← V_main_arg3 m c]
  refine (dats m 0 c).arrAt_eq_of_covers 3 _ (by decide +kernel) fun t hf y => ?_
  blk_simp
  rw [after0_3]
  refine Eq.trans ?_ (block t (V m c main_arg0) (m ((c.tc : Thread nD τ).loc main_arg1)) _ (V m c main_arg3) y)
  rw [← host]
  rfl

end

section
open Cert.UpDxRefIdeal Cert.UpDxRefIdeal.Gen

theorem reference (x : FVec Ideal _ .bf16) (w d : FVec Ideal _ .f32) :
    addf (F := Ideal) d (Host.dotGeneral (F := Ideal) dot_S4096x2816_S1024x2816_S4096x1024_1_1_0_0_n_n none (extf .f32 x bitsLt_bf16_f32) w) = ntAdd d x w := by
  refine funext fun y => ?_
  idx_vars y
  rw [ntAdd, nt_apply]
  pointwise

end

theorem value : Cert.algebraic_UpDxIdeal_UpDxRefIdeal := fun m g m' g' _ hm =>
  ⟨_, (θ_run _ _ _).mono (fun r h c => ⟨(h c).1.trans (array m c), (h c).2⟩) (Cert.UpDxIdeal.Value.run_blocks m g),
    (θ_run _ _ _).mono (fun r h c => by
      obtain ⟨h0, ha⟩ := h c
      rw [(hm c).1, (hm c).2.2.1, (hm c).2.2.2] at h0
      exact ⟨h0.trans (reference _ _ _), ha⟩) (Cert.UpDxRefIdeal.Value.run m' g')⟩

end UpDx

/-! ## The gradient at the right factor, of either path -/

namespace GateDw

section
open Cert.GateDwIdeal Cert.GateDwIdeal.Gen

theorem stored (x w) : out0_2 (F := Ideal) x w = tn x w := by
  refine funext fun y => ?_
  idx_vars y
  rw [tn_apply]
  unfold out0_2
  frame_out
  unfold_payloads
  pointwise

theorem places : ∀ t : Fin cfg0.N, win0_0.index t 0 = 0 ∧ win0_0.index t 1 = win0_2.index t 0 ∧ win0_1.index t 0 = 0 ∧ win0_1.index t 1 = win0_2.index t 1 := by
  decide +kernel

theorem block (t : Fin cfg0.N) (x : Vec Ideal S4096x1024 .bf16) (w : Vec Ideal S4096x2816 .bf16) (y : S1024x256.Idx) :
    out0_2 (((cfg0.win 0).blk t).view.read (Elt Ideal) x) (((cfg0.win 1).blk t).view.read (Elt Ideal) w) y = tn x w ((win0_2.blk t).view.emb y) := by
  obtain ⟨h0, h1, h2, h3⟩ := places t
  rw [stored]
  refine tn_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = tn (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.GateDwRefIdeal Cert.GateDwRefIdeal.Gen

theorem reference (x : FVec Ideal _ .bf16) (w : FVec Ideal _ .bf16) :
    truncf .bf16 (transpose S1024x2816 [1, 0] (Host.dotGeneral (F := Ideal) dot_S4096x2816_S4096x1024_S2816x1024_0_0_1_1_n_n none (extf .f32 w bitsLt_bf16_f32)
      (extf .f32 x bitsLt_bf16_f32)) transposes_S2816x1024_S1024x2816_1_0) bitsLt_bf16_f32 = tn x w := by
  refine funext fun y => ?_
  idx_vars y
  rw [tn_apply]
  pointwise
  exact Finset.sum_congr rfl fun k _ => mul_comm _ _

end

theorem value : Cert.algebraic_GateDwIdeal_GateDwRefIdeal := fun m g m' g' _ hm =>
  ⟨_, (θ_run _ _ _).mono (fun r h c => ⟨(h c).1.trans (array m c), (h c).2⟩) (Cert.GateDwIdeal.Value.run_blocks m g),
    (θ_run _ _ _).mono (fun r h c => by
      obtain ⟨h0, ha⟩ := h c
      rw [(hm c).1, (hm c).2] at h0
      exact ⟨h0.trans (reference _ _), ha⟩) (Cert.GateDwRefIdeal.Value.run m' g')⟩

end GateDw

end Cert.Products

end
-- ==== Proof.Products.Down.lean ====
/- The channel mixer's product out of its hidden width, and its two gradients. For each of the three
   calls: `stored`, what one grid point stores; `places`, where its blocks lie; `block` and `array`,
   the array the call leaves; `reference`, the reference's array; and the value claim. -/
module

public import proofs.«01_k».proof.Defs
public import proofs.«01_k».proof.Proof.Products.Common
public import proofs.«01_k».proof.Proof.Gen.DownDxIdeal.Value
public import proofs.«01_k».proof.Proof.Gen.DownDxRefIdeal.Run
public import proofs.«01_k».proof.Proof.Gen.DownDwIdeal.Value
public import proofs.«01_k».proof.Proof.Gen.DownDwRefIdeal.Run
public import proofs.«01_k».proof.Proof.Gen.DownIdeal.Value
public import proofs.«01_k».proof.Proof.Gen.DownRefIdeal.Run

@[expose] public section

set_option maxRecDepth 16384

noncomputable section

namespace Cert.Products

open Idealize.ShloMosaic Idealize.ShloMosaic.TcCoe Idealize.SL.Sem Idealize.ShloMosaic.Tactic

/-! ## The product -/

namespace Down

section
open Cert.DownIdeal Cert.DownIdeal.Gen

theorem stored (x w) : out0_2 (F := Ideal) x w = nn x w := by
  refine funext fun y => ?_
  idx_vars y
  rw [nn_apply]
  unfold out0_2
  frame_out
  unfold_payloads
  pointwise

theorem places : ∀ t : Fin cfg0.N, win0_0.index t 0 = win0_2.index t 0 ∧ win0_0.index t 1 = 0 ∧ win0_1.index t 0 = 0 ∧ win0_1.index t 1 = win0_2.index t 1 := by
  decide +kernel

theorem block (t : Fin cfg0.N) (x : Vec Ideal S4096x2816 .bf16) (w : Vec Ideal S2816x1024 .f32) (y : S1024x512.Idx) :
    out0_2 (((cfg0.win 0).blk t).view.read (Elt Ideal) x) (((cfg0.win 1).blk t).view.read (Elt Ideal) w) y = nn x w ((win0_2.blk t).view.emb y) := by
  obtain ⟨h0, h1, h2, h3⟩ := places t
  rw [stored]
  refine nn_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = nn (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.DownRefIdeal Cert.DownRefIdeal.Gen

theorem reference (x : FVec Ideal _ .bf16) (w : FVec Ideal _ .f32) :
    Host.dotGeneral (F := Ideal) dot_S4096x2816_S2816x1024_S4096x1024_1_0_0_1_n_n none (extf .f32 x bitsLt_bf16_f32) w = nn x w := by
  refine funext fun y => ?_
  idx_vars y
  rw [nn_apply]
  pointwise

end

theorem value : Cert.algebraic_DownIdeal_DownRefIdeal := fun m g m' g' _ hm =>
  ⟨_, (θ_run _ _ _).mono (fun r h c => ⟨(h c).1.trans (array m c), (h c).2⟩) (Cert.DownIdeal.Value.run_blocks m g),
    (θ_run _ _ _).mono (fun r h c => by
      obtain ⟨h0, ha⟩ := h c
      rw [(hm c).1, (hm c).2] at h0
      exact ⟨h0.trans (reference _ _), ha⟩) (Cert.DownRefIdeal.Value.run m' g')⟩

end Down

/-! ## The gradient at its left factor -/

namespace DownDx

section
open Cert.DownDxIdeal Cert.DownDxIdeal.Gen

theorem stored (x w) : out0_2 (F := Ideal) x w = nt x w := by
  refine funext fun y => ?_
  idx_vars y
  rw [nt_apply]
  unfold out0_2
  frame_out
  unfold_payloads
  pointwise

theorem places : ∀ t : Fin cfg0.N, win0_0.index t 0 = win0_2.index t 0 ∧ win0_0.index t 1 = 0 ∧ win0_1.index t 0 = win0_2.index t 1 ∧ win0_1.index t 1 = 0 := by
  decide +kernel

theorem block (t : Fin cfg0.N) (x : Vec Ideal S4096x1024 .bf16) (w : Vec Ideal S2816x1024 .f32) (y : S1024x256.Idx) :
    out0_2 (((cfg0.win 0).blk t).view.read (Elt Ideal) x) (((cfg0.win 1).blk t).view.read (Elt Ideal) w) y = nt x w ((win0_2.blk t).view.emb y) := by
  obtain ⟨h0, h1, h2, h3⟩ := places t
  rw [stored]
  refine nt_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = nt (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.DownDxRefIdeal Cert.DownDxRefIdeal.Gen

theorem reference (x : FVec Ideal _ .bf16) (w : FVec Ideal _ .f32) :
    Host.dotGeneral (F := Ideal) dot_S4096x1024_S2816x1024_S4096x2816_1_1_0_0_n_n none (extf .f32 x bitsLt_bf16_f32) w = nt x w := by
  refine funext fun y => ?_
  idx_vars y
  rw [nt_apply]
  pointwise

end

theorem value : Cert.algebraic_DownDxIdeal_DownDxRefIdeal := fun m g m' g' _ hm =>
  ⟨_, (θ_run _ _ _).mono (fun r h c => ⟨(h c).1.trans (array m c), (h c).2⟩) (Cert.DownDxIdeal.Value.run_blocks m g),
    (θ_run _ _ _).mono (fun r h c => by
      obtain ⟨h0, ha⟩ := h c
      rw [(hm c).1, (hm c).2] at h0
      exact ⟨h0.trans (reference _ _), ha⟩) (Cert.DownDxRefIdeal.Value.run m' g')⟩

end DownDx

/-! ## The gradient at its right factor -/

namespace DownDw

section
open Cert.DownDwIdeal Cert.DownDwIdeal.Gen

theorem stored (x w) : out0_2 (F := Ideal) x w = tn x w := by
  refine funext fun y => ?_
  idx_vars y
  rw [tn_apply]
  unfold out0_2
  frame_out
  unfold_payloads
  pointwise

theorem places : ∀ t : Fin cfg0.N, win0_0.index t 0 = 0 ∧ win0_0.index t 1 = win0_2.index t 0 ∧ win0_1.index t 0 = 0 ∧ win0_1.index t 1 = win0_2.index t 1 := by
  decide +kernel

theorem block (t : Fin cfg0.N) (x : Vec Ideal S4096x2816 .bf16) (w : Vec Ideal S4096x1024 .bf16) (y : S256x1024.Idx) :
    out0_2 (((cfg0.win 0).blk t).view.read (Elt Ideal) x) (((cfg0.win 1).blk t).view.read (Elt Ideal) w) y = tn x w ((win0_2.blk t).view.emb y) := by
  obtain ⟨h0, h1, h2, h3⟩ := places t
  rw [stored]
  refine tn_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = tn (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.DownDwRefIdeal Cert.DownDwRefIdeal.Gen

theorem reference (x : FVec Ideal _ .bf16) (w : FVec Ideal _ .bf16) :
    truncf .bf16 (transpose S2816x1024 [1, 0] (Host.dotGeneral (F := Ideal) dot_S4096x1024_S4096x2816_S1024x2816_0_0_1_1_n_n none (extf .f32 w bitsLt_bf16_f32)
      (extf .f32 x bitsLt_bf16_f32)) transposes_S1024x2816_S2816x1024_1_0) bitsLt_bf16_f32 = tn x w := by
  refine funext fun y => ?_
  idx_vars y
  rw [tn_apply]
  pointwise
  exact Finset.sum_congr rfl fun k _ => mul_comm _ _

end

theorem value : Cert.algebraic_DownDwIdeal_DownDwRefIdeal := fun m g m' g' _ hm =>
  ⟨_, (θ_run _ _ _).mono (fun r h c => ⟨(h c).1.trans (array m c), (h c).2⟩) (Cert.DownDwIdeal.Value.run_blocks m g),
    (θ_run _ _ _).mono (fun r h c => by
      obtain ⟨h0, ha⟩ := h c
      rw [(hm c).1, (hm c).2] at h0
      exact ⟨h0.trans (reference _ _), ha⟩) (Cert.DownDwRefIdeal.Value.run m' g')⟩

end DownDw

end Cert.Products

end
-- ==== Proof.Products.Out.lean ====
/- The product out of the token mixer, and its two gradients. For each of the three
   calls: `stored`, what one grid point stores; `places`, where its blocks lie; `block` and `array`,
   the array the call leaves; `reference`, the reference's array; and the value claim. -/
module

public import proofs.«01_k».proof.Defs
public import proofs.«01_k».proof.Proof.Products.Common
public import proofs.«01_k».proof.Proof.Gen.OutDxIdeal.Value
public import proofs.«01_k».proof.Proof.Gen.OutDxRefIdeal.Run
public import proofs.«01_k».proof.Proof.Gen.OutDwIdeal.Value
public import proofs.«01_k».proof.Proof.Gen.OutDwRefIdeal.Run
public import proofs.«01_k».proof.Proof.Gen.OutIdeal.Value
public import proofs.«01_k».proof.Proof.Gen.OutRefIdeal.Run

@[expose] public section

set_option maxRecDepth 16384

noncomputable section

namespace Cert.Products

open Idealize.ShloMosaic Idealize.ShloMosaic.TcCoe Idealize.SL.Sem Idealize.ShloMosaic.Tactic

/-! ## The product -/

namespace Out

section
open Cert.OutIdeal Cert.OutIdeal.Gen

theorem stored (x w) : out0_2 (F := Ideal) x w = nn x w := by
  refine funext fun y => ?_
  idx_vars y
  rw [nn_apply]
  unfold out0_2
  frame_out
  unfold_payloads
  pointwise

theorem places : ∀ t : Fin cfg0.N, win0_0.index t 0 = win0_2.index t 0 ∧ win0_0.index t 1 = 0 ∧ win0_1.index t 0 = 0 ∧ win0_1.index t 1 = win0_2.index t 1 := by
  decide +kernel

theorem block (t : Fin cfg0.N) (x : Vec Ideal S4096x1024 .bf16) (w : Vec Ideal S1024x1024 .f32) (y : S1024x1024.Idx) :
    out0_2 (((cfg0.win 0).blk t).view.read (Elt Ideal) x) (((cfg0.win 1).blk t).view.read (Elt Ideal) w) y = nn x w ((win0_2.blk t).view.emb y) := by
  obtain ⟨h0, h1, h2, h3⟩ := places t
  rw [stored]
  refine nn_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = nn (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.OutRefIdeal Cert.OutRefIdeal.Gen

theorem reference (x : FVec Ideal _ .bf16) (w : FVec Ideal _ .f32) :
    Host.dotGeneral (F := Ideal) dot_S4096x1024_S1024x1024_S4096x1024_1_0_0_1_n_n none (extf .f32 x bitsLt_bf16_f32) w = nn x w := by
  refine funext fun y => ?_
  idx_vars y
  rw [nn_apply]
  pointwise

end

theorem value : Cert.algebraic_OutIdeal_OutRefIdeal := fun m g m' g' _ hm =>
  ⟨_, (θ_run _ _ _).mono (fun r h c => ⟨(h c).1.trans (array m c), (h c).2⟩) (Cert.OutIdeal.Value.run_blocks m g),
    (θ_run _ _ _).mono (fun r h c => by
      obtain ⟨h0, ha⟩ := h c
      rw [(hm c).1, (hm c).2] at h0
      exact ⟨h0.trans (reference _ _), ha⟩) (Cert.OutRefIdeal.Value.run m' g')⟩

end Out

/-! ## The gradient at its left factor -/

namespace OutDx

section
open Cert.OutDxIdeal Cert.OutDxIdeal.Gen

theorem stored (x w) : out0_2 (F := Ideal) x w = nt x w := by
  refine funext fun y => ?_
  idx_vars y
  rw [nt_apply]
  unfold out0_2
  frame_out
  unfold_payloads
  pointwise

theorem places : ∀ t : Fin cfg0.N, win0_0.index t 0 = win0_2.index t 0 ∧ win0_0.index t 1 = 0 ∧ win0_1.index t 0 = win0_2.index t 1 ∧ win0_1.index t 1 = 0 := by
  decide +kernel

theorem block (t : Fin cfg0.N) (x : Vec Ideal S4096x1024 .bf16) (w : Vec Ideal S1024x1024 .f32) (y : S1024x1024.Idx) :
    out0_2 (((cfg0.win 0).blk t).view.read (Elt Ideal) x) (((cfg0.win 1).blk t).view.read (Elt Ideal) w) y = nt x w ((win0_2.blk t).view.emb y) := by
  obtain ⟨h0, h1, h2, h3⟩ := places t
  rw [stored]
  refine nt_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = nt (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.OutDxRefIdeal Cert.OutDxRefIdeal.Gen

theorem reference (x : FVec Ideal _ .bf16) (w : FVec Ideal _ .f32) :
    Host.dotGeneral (F := Ideal) dot_S4096x1024_S1024x1024_S4096x1024_1_1_0_0_n_n none (extf .f32 x bitsLt_bf16_f32) w = nt x w := by
  refine funext fun y => ?_
  idx_vars y
  rw [nt_apply]
  pointwise

end

theorem value : Cert.algebraic_OutDxIdeal_OutDxRefIdeal := fun m g m' g' _ hm =>
  ⟨_, (θ_run _ _ _).mono (fun r h c => ⟨(h c).1.trans (array m c), (h c).2⟩) (Cert.OutDxIdeal.Value.run_blocks m g),
    (θ_run _ _ _).mono (fun r h c => by
      obtain ⟨h0, ha⟩ := h c
      rw [(hm c).1, (hm c).2] at h0
      exact ⟨h0.trans (reference _ _), ha⟩) (Cert.OutDxRefIdeal.Value.run m' g')⟩

end OutDx

/-! ## The gradient at its right factor -/

namespace OutDw

section
open Cert.OutDwIdeal Cert.OutDwIdeal.Gen

theorem stored (x w) : out0_2 (F := Ideal) x w = tn x w := by
  refine funext fun y => ?_
  idx_vars y
  rw [tn_apply]
  unfold out0_2
  frame_out
  unfold_payloads
  pointwise

theorem places : ∀ t : Fin cfg0.N, win0_0.index t 0 = 0 ∧ win0_0.index t 1 = win0_2.index t 0 ∧ win0_1.index t 0 = 0 ∧ win0_1.index t 1 = win0_2.index t 1 := by
  decide +kernel

theorem block (t : Fin cfg0.N) (x : Vec Ideal S4096x1024 .bf16) (w : Vec Ideal S4096x1024 .bf16) (y : S1024x512.Idx) :
    out0_2 (((cfg0.win 0).blk t).view.read (Elt Ideal) x) (((cfg0.win 1).blk t).view.read (Elt Ideal) w) y = tn x w ((win0_2.blk t).view.emb y) := by
  obtain ⟨h0, h1, h2, h3⟩ := places t
  rw [stored]
  refine tn_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = tn (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.OutDwRefIdeal Cert.OutDwRefIdeal.Gen

theorem reference (x : FVec Ideal _ .bf16) (w : FVec Ideal _ .bf16) :
    truncf .bf16 (transpose S1024x1024 [1, 0] (Host.dotGeneral (F := Ideal) dot_S4096x1024_S4096x1024_S1024x1024_0_0_1_1_n_n none (extf .f32 w bitsLt_bf16_f32)
      (extf .f32 x bitsLt_bf16_f32)) transposes_S1024x1024_S1024x1024_1_0) bitsLt_bf16_f32 = tn x w := by
  refine funext fun y => ?_
  idx_vars y
  rw [tn_apply]
  pointwise
  exact Finset.sum_congr rfl fun k _ => mul_comm _ _

end

theorem value : Cert.algebraic_OutDwIdeal_OutDwRefIdeal := fun m g m' g' _ hm =>
  ⟨_, (θ_run _ _ _).mono (fun r h c => ⟨(h c).1.trans (array m c), (h c).2⟩) (Cert.OutDwIdeal.Value.run_blocks m g),
    (θ_run _ _ _).mono (fun r h c => by
      obtain ⟨h0, ha⟩ := h c
      rw [(hm c).1, (hm c).2] at h0
      exact ⟨h0.trans (reference _ _), ha⟩) (Cert.OutDwRefIdeal.Value.run m' g')⟩

end OutDw

end Cert.Products

end
-- ==== Proof.Products.Proj.lean ====
/- A branch's output projection and its gradients; the third branch's is stored rounded. For each of the four
   calls: `stored`, what one grid point stores; `places`, where its blocks lie; `block` and `array`,
   the array the call leaves; `reference`, the reference's array; and the value claim. -/
module

public import proofs.«01_k».proof.Defs
public import proofs.«01_k».proof.Proof.Products.Common
public import proofs.«01_k».proof.Proof.Gen.ProjDxIdeal.Value
public import proofs.«01_k».proof.Proof.Gen.ProjDxRefIdeal.Run
public import proofs.«01_k».proof.Proof.Gen.ProjDoIdeal.Value
public import proofs.«01_k».proof.Proof.Gen.ProjDoRefIdeal.Run
public import proofs.«01_k».proof.Proof.Gen.ProjDwIdeal.Value
public import proofs.«01_k».proof.Proof.Gen.ProjDwRefIdeal.Run
public import proofs.«01_k».proof.Proof.Gen.ProjIdeal.Value
public import proofs.«01_k».proof.Proof.Gen.ProjRefIdeal.Run

@[expose] public section

set_option maxRecDepth 16384

noncomputable section

namespace Cert.Products

open Idealize.ShloMosaic Idealize.ShloMosaic.TcCoe Idealize.SL.Sem Idealize.ShloMosaic.Tactic

/-! ## The product -/

namespace Proj

section
open Cert.ProjIdeal Cert.ProjIdeal.Gen

theorem stored (x w) : out0_2 (F := Ideal) x w = nn x w := by
  refine funext fun y => ?_
  idx_vars y
  rw [nn_apply]
  unfold out0_2
  frame_out
  unfold_payloads
  pointwise

theorem places : ∀ t : Fin cfg0.N, win0_0.index t 0 = win0_2.index t 0 ∧ win0_0.index t 1 = 0 ∧ win0_1.index t 0 = 0 ∧ win0_1.index t 1 = win0_2.index t 1 := by
  decide +kernel

theorem block (t : Fin cfg0.N) (x : Vec Ideal S4096x512 .bf16) (w : Vec Ideal S512x1024 .f32) (y : S1024x1024.Idx) :
    out0_2 (((cfg0.win 0).blk t).view.read (Elt Ideal) x) (((cfg0.win 1).blk t).view.read (Elt Ideal) w) y = nn x w ((win0_2.blk t).view.emb y) := by
  obtain ⟨h0, h1, h2, h3⟩ := places t
  rw [stored]
  refine nn_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = nn (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.ProjRefIdeal Cert.ProjRefIdeal.Gen

theorem reference (x : FVec Ideal _ .bf16) (w : FVec Ideal _ .f32) :
    Host.dotGeneral (F := Ideal) dot_S4096x512_S512x1024_S4096x1024_1_0_0_1_n_n none (extf .f32 x bitsLt_bf16_f32) w = nn x w := by
  refine funext fun y => ?_
  idx_vars y
  rw [nn_apply]
  pointwise

end

theorem value : Cert.algebraic_ProjIdeal_ProjRefIdeal := fun m g m' g' _ hm =>
  ⟨_, (θ_run _ _ _).mono (fun r h c => ⟨(h c).1.trans (array m c), (h c).2⟩) (Cert.ProjIdeal.Value.run_blocks m g),
    (θ_run _ _ _).mono (fun r h c => by
      obtain ⟨h0, ha⟩ := h c
      rw [(hm c).1, (hm c).2] at h0
      exact ⟨h0.trans (reference _ _), ha⟩) (Cert.ProjRefIdeal.Value.run m' g')⟩

end Proj

/-! ## The gradient at its left factor -/

namespace ProjDx

section
open Cert.ProjDxIdeal Cert.ProjDxIdeal.Gen

theorem stored (x w) : out0_2 (F := Ideal) x w = nt x w := by
  refine funext fun y => ?_
  idx_vars y
  rw [nt_apply]
  unfold out0_2
  frame_out
  unfold_payloads
  pointwise

theorem places : ∀ t : Fin cfg0.N, win0_0.index t 0 = win0_2.index t 0 ∧ win0_0.index t 1 = 0 ∧ win0_1.index t 0 = win0_2.index t 1 ∧ win0_1.index t 1 = 0 := by
  decide +kernel

theorem block (t : Fin cfg0.N) (x : Vec Ideal S4096x1024 .bf16) (w : Vec Ideal S512x1024 .f32) (y : S1024x512.Idx) :
    out0_2 (((cfg0.win 0).blk t).view.read (Elt Ideal) x) (((cfg0.win 1).blk t).view.read (Elt Ideal) w) y = nt x w ((win0_2.blk t).view.emb y) := by
  obtain ⟨h0, h1, h2, h3⟩ := places t
  rw [stored]
  refine nt_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = nt (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.ProjDxRefIdeal Cert.ProjDxRefIdeal.Gen

theorem reference (x : FVec Ideal _ .bf16) (w : FVec Ideal _ .f32) :
    Host.dotGeneral (F := Ideal) dot_S4096x1024_S512x1024_S4096x512_1_1_0_0_n_n none (extf .f32 x bitsLt_bf16_f32) w = nt x w := by
  refine funext fun y => ?_
  idx_vars y
  rw [nt_apply]
  pointwise

end

theorem value : Cert.algebraic_ProjDxIdeal_ProjDxRefIdeal := fun m g m' g' _ hm =>
  ⟨_, (θ_run _ _ _).mono (fun r h c => ⟨(h c).1.trans (array m c), (h c).2⟩) (Cert.ProjDxIdeal.Value.run_blocks m g),
    (θ_run _ _ _).mono (fun r h c => by
      obtain ⟨h0, ha⟩ := h c
      rw [(hm c).1, (hm c).2] at h0
      exact ⟨h0.trans (reference _ _), ha⟩) (Cert.ProjDxRefIdeal.Value.run m' g')⟩

end ProjDx

/-! ## The gradient at its left factor, rounded on storing -/

namespace ProjDo

section
open Cert.ProjDoIdeal Cert.ProjDoIdeal.Gen

theorem stored (x w) : out0_2 (F := Ideal) x w = nt x w := by
  refine funext fun y => ?_
  idx_vars y
  rw [nt_apply]
  unfold out0_2
  frame_out
  unfold_payloads
  pointwise

theorem places : ∀ t : Fin cfg0.N, win0_0.index t 0 = win0_2.index t 0 ∧ win0_0.index t 1 = 0 ∧ win0_1.index t 0 = win0_2.index t 1 ∧ win0_1.index t 1 = 0 := by
  decide +kernel

theorem block (t : Fin cfg0.N) (x : Vec Ideal S4096x1024 .bf16) (w : Vec Ideal S512x1024 .f32) (y : S1024x512.Idx) :
    out0_2 (((cfg0.win 0).blk t).view.read (Elt Ideal) x) (((cfg0.win 1).blk t).view.read (Elt Ideal) w) y = nt x w ((win0_2.blk t).view.emb y) := by
  obtain ⟨h0, h1, h2, h3⟩ := places t
  rw [stored]
  refine nt_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = nt (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.ProjDoRefIdeal Cert.ProjDoRefIdeal.Gen

theorem reference (x : FVec Ideal _ .bf16) (w : FVec Ideal _ .f32) :
    truncf .bf16 (Host.dotGeneral (F := Ideal) dot_S4096x1024_S512x1024_S4096x512_1_1_0_0_n_n none (extf .f32 x bitsLt_bf16_f32) w) bitsLt_bf16_f32 = nt x w := by
  refine funext fun y => ?_
  idx_vars y
  rw [nt_apply]
  pointwise

end

theorem value : Cert.algebraic_ProjDoIdeal_ProjDoRefIdeal := fun m g m' g' _ hm =>
  ⟨_, (θ_run _ _ _).mono (fun r h c => ⟨(h c).1.trans (array m c), (h c).2⟩) (Cert.ProjDoIdeal.Value.run_blocks m g),
    (θ_run _ _ _).mono (fun r h c => by
      obtain ⟨h0, ha⟩ := h c
      rw [(hm c).1, (hm c).2] at h0
      exact ⟨h0.trans (reference _ _), ha⟩) (Cert.ProjDoRefIdeal.Value.run m' g')⟩

end ProjDo

/-! ## The gradient at its right factor -/

namespace ProjDw

section
open Cert.ProjDwIdeal Cert.ProjDwIdeal.Gen

theorem stored (x w) : out0_2 (F := Ideal) x w = tn x w := by
  refine funext fun y => ?_
  idx_vars y
  rw [tn_apply]
  unfold out0_2
  frame_out
  unfold_payloads
  pointwise

theorem places : ∀ t : Fin cfg0.N, win0_0.index t 0 = 0 ∧ win0_0.index t 1 = win0_2.index t 0 ∧ win0_1.index t 0 = 0 ∧ win0_1.index t 1 = win0_2.index t 1 := by
  decide +kernel

theorem block (t : Fin cfg0.N) (x : Vec Ideal S4096x512 .bf16) (w : Vec Ideal S4096x1024 .bf16) (y : S512x1024.Idx) :
    out0_2 (((cfg0.win 0).blk t).view.read (Elt Ideal) x) (((cfg0.win 1).blk t).view.read (Elt Ideal) w) y = tn x w ((win0_2.blk t).view.emb y) := by
  obtain ⟨h0, h1, h2, h3⟩ := places t
  rw [stored]
  refine tn_block _ x w _ _ y (fun k => congrArg x (place_ext _ _ ?_ ?_)) fun k => congrArg w (place_ext _ _ ?_ ?_) <;> blk_simp <;> omega

theorem array (m : (ℓ : Loc nD τ sig) → Buf (Elt Ideal) ℓ) (c : Dev nD) :
    (dats m 0 c).arrAt 2 cfg0.N = tn (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  blk_simp
  rw [after0_2]
  exact block t (V m c main_arg0) (V m c main_arg1) y

end

section
open Cert.ProjDwRefIdeal Cert.ProjDwRefIdeal.Gen

theorem reference (x : FVec Ideal _ .bf16) (w : FVec Ideal _ .bf16) :
    truncf .bf16 (transpose S512x1024 [1, 0] (Host.dotGeneral (F := Ideal) dot_S4096x1024_S4096x512_S1024x512_0_0_1_1_n_n none (extf .f32 w bitsLt_bf16_f32)
      (extf .f32 x bitsLt_bf16_f32)) transposes_S1024x512_S512x1024_1_0) bitsLt_bf16_f32 = tn x w := by
  refine funext fun y => ?_
  idx_vars y
  rw [tn_apply]
  pointwise
  exact Finset.sum_congr rfl fun k _ => mul_comm _ _

end

theorem value : Cert.algebraic_ProjDwIdeal_ProjDwRefIdeal := fun m g m' g' _ hm =>
  ⟨_, (θ_run _ _ _).mono (fun r h c => ⟨(h c).1.trans (array m c), (h c).2⟩) (Cert.ProjDwIdeal.Value.run_blocks m g),
    (θ_run _ _ _).mono (fun r h c => by
      obtain ⟨h0, ha⟩ := h c
      rw [(hm c).1, (hm c).2] at h0
      exact ⟨h0.trans (reference _ _), ha⟩) (Cert.ProjDwRefIdeal.Value.run m' g')⟩

end ProjDw

end Cert.Products

end
-- ==== Proof.Products.Glu.lean ====
/- The products of the S5 branch's gate: the gate's input before its bias, and the two gradients of
   that product. -/
module

public import proofs.«01_k».proof.Defs
public import Idealize.ShloMosaic.Lib.Pointwise
public import Idealize.ShloMosaic.Lib.Pipeline.ValueKit
public import proofs.«01_k».proof.Proof.Gen.GluPreIdeal.Value
public import proofs.«01_k».proof.Proof.Gen.GluPreRefIdeal.Run
public import proofs.«01_k».proof.Proof.Gen.GluDxIdeal.Value
public import proofs.«01_k».proof.Proof.Gen.GluDxRefIdeal.Run
public import proofs.«01_k».proof.Proof.Gen.GluDwIdeal.Value
public import proofs.«01_k».proof.Proof.Gen.GluDwRefIdeal.Run

@[expose] public section

set_option maxRecDepth 16384

noncomputable section

open Idealize.ShloMosaic Idealize.ShloMosaic.TcCoe Idealize.SL.Sem Idealize.ShloMosaic.Tactic

/-! ## The product -/

namespace Cert.GluPreIdeal.Value

open Cert.GluPreIdeal Cert.GluPreIdeal.Gen

theorem places : ∀ t : Fin cfg0.N, win0_0.index t = ![t.val, 0] ∧ win0_1.index t = ![0, 0] ∧ win0_2.index t = ![t.val, 0] :=
  (by decide +kernel : ∀ t : Fin grid0.N, _)

theorem value : Cert.algebraic_GluPreIdeal_GluPreRefIdeal := fun m g m' g' _ hm => by
  refine ⟨_, ?_, Cert.GluPreRefIdeal.Value.run m' g'⟩
  refine (θ_run _ _ _).mono (fun r h c => ?_) (run_blocks m g)
  obtain ⟨h2, ha⟩ := h c
  rw [(hm c).1, (hm c).2]
  refine ⟨h2.trans ?_, ha⟩
  refine (dats m 0 c).arrAt_eq_of_covers 2 _ (by decide +kernel) fun t _ y => ?_
  blk_simp
  rw [after0_2]
  unfold out0_2
  frame_out
  unfold_payloads
  pointwise
  blk_point [iblk, V, places t]

end Cert.GluPreIdeal.Value

/-! ## The gradient at its left factor, added to the gradient already there -/

namespace Cert.GluDxIdeal.Value

open Cert.GluDxIdeal Cert.GluDxIdeal.Gen

theorem places : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem value : Cert.algebraic_GluDxIdeal_GluDxRefIdeal := fun m g m' g' _ hm => by
  refine ⟨_, ?_, Cert.GluDxRefIdeal.Value.run m' g'⟩
  refine (θ_run _ _ _).mono (fun r h c => ?_) (run_blocks m g)
  obtain ⟨h3, ha⟩ := h c
  rw [(hm c).1, (hm c).2.1, (hm c).2.2]
  refine ⟨h3.trans ?_, ha⟩
  refine (dats m 0 c).arrAt_eq_of_covers 3 _ (by decide +kernel) fun t _ y => ?_
  blk_simp
  rw [after0_3]
  unfold out0_3
  frame_out
  unfold_payloads
  pointwise
  rw [add_comm]
  blk_point [iblk, V, places t]

end Cert.GluDxIdeal.Value

/-! ## The gradient at its right factor -/

namespace Cert.GluDwIdeal.Value

open Cert.GluDwIdeal Cert.GluDwIdeal.Gen

theorem places : ∀ t : Fin cfg0.N, win0_0.index t = ![0, 0] ∧ win0_1.index t = ![0, 0] ∧ win0_2.index t = ![0, 0] :=
  (by decide +kernel : ∀ t : Fin grid0.N, _)

theorem value : Cert.algebraic_GluDwIdeal_GluDwRefIdeal := fun m g m' g' _ hm => by
  refine ⟨_, ?_, Cert.GluDwRefIdeal.Value.run m' g'⟩
  refine (θ_run _ _ _).mono (fun r h c => ?_) (run_blocks m g)
  obtain ⟨h2, ha⟩ := h c
  rw [(hm c).1, (hm c).2]
  refine ⟨h2.trans ?_, ha⟩
  refine (dats m 0 c).arrAt_eq_of_covers 2 _ (by decide +kernel) fun t _ y => ?_
  blk_simp
  rw [after0_2]
  unfold out0_2
  frame_out
  unfold_payloads
  pointwise
  refine Fin.sum_fin_congr fun k => (mul_comm (_ : EReal) _).trans ?_
  blk_point [iblk, V, places t]

end Cert.GluDwIdeal.Value

end
-- ==== Proof.Products.Groups.lean ====
/- A product whose weights are blocks on the diagonal: the ones and zeros that the program masks the
   blocks with, and a sum of which only one group of entries is left. -/
module

public import proofs.«01_k».proof.Proof.Products.Common

@[expose] public section

noncomputable section

namespace Cert.Groups

open Idealize.ShloMosaic Idealize.ShloMosaic.Tactic Cert.Products

/-- The mask of the diagonal blocks. -/
theorem eye (a b : ℕ) (ha : a < 64) (hb : b < 64) :
    FloatOps.uitofp (F := Ideal) .f32 (IntOp.cmpi .eq (IntOp.addi (BitVec.ofNat 32 a) 0#32) (BitVec.ofNat 32 b))
      = if a = b then (1 : EReal) else 0 := by
  have e : (BitVec.ofNat 32 a = BitVec.ofNat 32 b) ↔ a = b :=
    ⟨fun h => by simpa [Nat.mod_eq_of_lt (show a < 4294967296 by omega), Nat.mod_eq_of_lt (show b < 4294967296 by omega)] using congrArg BitVec.toNat h,
      fun h => h ▸ rfl⟩
  show ((((IntOp.cmpi .eq (BitVec.ofNat 32 a + 0#32) (BitVec.ofNat 32 b)).toNat : ℝ)) : EReal) = _
  rw [BitVec.add_zero]
  by_cases h : a = b
  · simp [IntOp.cmpi, h]
  · simp [IntOp.cmpi, h, e]

/-- A sum whose entries outside the group `g` of `A` are zero is the sum over that group. -/
theorem sum_group {A N : ℕ} (hA : 0 < A) (g : ℕ) (hg : g * A + A ≤ N) (f : Fin N → EReal) (h : ∀ k : Fin N, k.val / A ≠ g → f k = 0) :
    ∑ k : Fin N, f k = ∑ i : Fin A, f ⟨g * A + i.val, by have := i.isLt; omega⟩ := by
  refine (Finset.sum_of_injOn (fun i : Fin A => (⟨g * A + i.val, by have := i.isLt; omega⟩ : Fin N)) ?_ (fun _ _ => Finset.mem_coe.2 (Finset.mem_univ _)) ?_ fun _ _ => rfl).symm
  · intro a _ b _ e
    have := congrArg Fin.val e
    exact Fin.ext (by simpa using this)
  · intro k _ hk
    refine h k fun e => hk ⟨⟨k.val % A, Nat.mod_lt _ hA⟩, Finset.mem_coe.2 (Finset.mem_univ _), Fin.ext ?_⟩
    show g * A + k.val % A = k.val
    rw [← e, mul_comm]; exact Nat.div_add_mod _ _

/-- The weights into the S5 state, as blocks on the diagonal: 16 inputs and 64 states to each group. -/
def intoState (b : Mat 2048 16) : Mat 512 2048 := fun x =>
  b (ix2 ⟨(x 0).val / 16 * 64 + (x 1).val % 64, by have := (x 0).isLt; simp at this; omega⟩ ⟨(x 0).val % 16, by omega⟩)
    * (if (x 0).val / 16 = (x 1).val / 64 then (1 : EReal) else 0)

/-- The weights out of the S5 state, as blocks on the diagonal. -/
def outOfState (c : (⟨3, ![32, 16, 64]⟩ : Shape).Idx → EReal) : Mat 2048 512 := fun x =>
  c (ix3 ⟨(x 0).val / 64, by have := (x 0).isLt; simp at this; omega⟩ ⟨(x 1).val % 16, by omega⟩ ⟨(x 0).val % 64, by omega⟩)
    * (if (x 0).val / 64 = (x 1).val / 16 then (1 : EReal) else 0)

/-- The weights of one RG-LRU gate, as blocks on the diagonal: 64 inputs and 64 outputs to each head. -/
def ofHeads (w : (⟨3, ![8, 64, 64]⟩ : Shape).Idx → EReal) : Mat 512 512 := fun x =>
  w (ix3 ⟨(x 0).val / 64, by have := (x 0).isLt; simp at this; omega⟩ ⟨(x 0).val % 64, by omega⟩ ⟨(x 1).val % 64, by omega⟩)
    * (if (x 0).val / 64 = (x 1).val / 64 then (1 : EReal) else 0)

/-- The weights of both RG-LRU gates, side by side. -/
def ofBoth (a x : (⟨3, ![8, 64, 64]⟩ : Shape).Idx → EReal) : Mat 512 1024 := fun y =>
  if h : (y 1).val < 512 then ofHeads a (ix2 (y 0) ⟨(y 1).val, h⟩)
  else ofHeads x (ix2 (y 0) ⟨(y 1).val - 512, by have := (y 1).isLt; simp at this; omega⟩)

end Cert.Groups

end
-- ==== Proof.Products.StateIn.lean ====
/- The products into the S5 state and their gradients at their input; the last of them is stored
   rounded. For each call: `places`, where its blocks lie; `weights`, what the host lines hand to it;
   `array`, the array the call leaves; `reference`, the reference's array; and the value claim. -/
module

public import proofs.«01_k».proof.Defs
public import Idealize.ShloMosaic.Lib.StableHlo.RunRead
public import proofs.«01_k».proof.Proof.Products.Groups
public import proofs.«01_k».proof.Proof.Gen.StateInIdeal.Value
public import proofs.«01_k».proof.Proof.Gen.StateInRefIdeal.Run
public import proofs.«01_k».proof.Proof.Gen.StateInDxIdeal.Value
public import proofs.«01_k».proof.Proof.Gen.StateInDxRefIdeal.Run
public import proofs.«01_k».proof.Proof.Gen.StateInDxLastIdeal.Value
public import proofs.«01_k».proof.Proof.Gen.StateInDxLastRefIdeal.Run

@[expose] public section

set_option maxRecDepth 16384

noncomputable section

open Idealize.ShloMosaic Idealize.ShloMosaic.TcCoe Idealize.SL.Sem Idealize.ShloMosaic.Tactic Cert.Products Cert.Groups

/-! ## The product -/

namespace Cert.StateInIdeal.Value

/-- The first 512 columns. -/
def cols (a : Mat 4096 6272) : Mat 4096 512 := fun p => a (ix2 (p 0) ⟨(p 1).val, by have := (p 1).isLt; simp at this; omega⟩)

section
open Cert.StateInIdeal Cert.StateInIdeal.Gen

theorem places : ∀ t : Fin cfg0.N, win0_0.index t = ![t.val / 2, 0] ∧ win0_1.index t = ![0, t.val % 2] ∧ win0_2.index t = ![t.val / 2, t.val % 2] :=
  (by decide +kernel : ∀ t : Fin grid0.N, _)

theorem weights (m : (ℓ : Loc nD τ sig) → Buf (Elt Ideal) ℓ) (c : Dev nD) :
    V m c main_v14 = intoState (m ((c.tc : Thread nD τ).loc main_arg1)) := by
  refine funext fun x => ?_
  idx_vars x
  after_reads_simp
  pointwise
  refine congrArg₂ (· * ·) rfl (eye _ _ ?_ ?_) <;> omega

theorem array (m : (ℓ : Loc nD τ sig) → Buf (Elt Ideal) ℓ) (c : Dev nD) :
    (dats m 0 c).arrAt 2 cfg0.N = nn (cols (m ((c.tc : Thread nD τ).loc main_arg0))) (intoState (m ((c.tc : Thread nD τ).loc main_arg1))) := by
  rw [← weights]
  refine (dats m 0 c).arrAt_eq_of_covers 2 _ (by decide +kernel) fun t _ y => ?_
  blk_simp
  rw [after0_2]
  unfold outsAt0
  frame_out
  unfold_payloads
  pointwise
  refine Fin.sum_fin_congr fun k => congrArg₂ (· * ·) ?_ ?_
  · unfold X0_0 Pipeline.Window.fill cols
    rw [dif_pos (moved0_0 t _)]
    blk_ext [iblk, V, places t]
  · blk_ext [iblk, places t]

end

section
open Cert.StateInRefIdeal Cert.StateInRefIdeal.Gen

theorem reference (a : FVec Ideal S4096x6272 .f32) (b : FVec Ideal S2048x16 .f32) :
    shapeCast _ (transpose S4096x32x64 [2, 0, 1] (Host.dotGeneral (F := Ideal) dot_S32x64x16_S4096x32x16_S32x64x4096_2_2_1_0_0_1 none (shapeCast _ b shapeCasts_S2048x16_S32x64x16) (shapeCast _ (extractStridedSlice S4096x512 ![0, 0] a slices_S4096x6272_S4096x512_0_0) shapeCasts_S4096x512_S4096x32x16)) transposes_S32x64x4096_S4096x32x64_2_0_1) shapeCasts_S4096x32x64_S4096x2048
      = nn (cols a) (intoState b) := by
  refine funext fun y => ?_
  idx_vars y
  rw [nn_apply, sum_group (A := 16) (by decide) (y1.val / 64) (by omega) _ fun k hk => by simp [intoState, hk]]
  pointwise
  refine Fin.sum_fin_congr fun k => ?_
  have hk := k.isLt
  unfold intoState
  rw [mul_comm, if_pos (by show (y1.val / 64 * 16 + k.val) / 16 = y1.val / 64; omega), mul_one]
  exact congrArg₂ (· * ·) rfl (congrArg b (place_ext _ _ (by show y1.val = (y1.val / 64 * 16 + k.val) / 16 * 64 + y1.val % 64; omega)
    (by show k.val = (y1.val / 64 * 16 + k.val) % 16; omega)))

end

theorem value : Cert.algebraic_StateInIdeal_StateInRefIdeal := fun m g m' g' _ hm =>
  ⟨_, (θ_run _ _ _).mono (fun r h c => ⟨(h c).1.trans (array m c), (h c).2⟩) (Cert.StateInIdeal.Value.run_blocks m g),
    (θ_run _ _ _).mono (fun r h c => by
      obtain ⟨h0, ha⟩ := h c
      rw [(hm c).1, (hm c).2] at h0
      exact ⟨h0.trans (reference _ _), ha⟩) (Cert.StateInRefIdeal.Value.run m' g')⟩

end Cert.StateInIdeal.Value

/-! ## The gradient at its input, added to the gradient already there -/

namespace Cert.StateInDxIdeal.Value

section
open Cert.StateInDxIdeal Cert.StateInDxIdeal.Gen

theorem places : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem weights (m : (ℓ : Loc nD τ sig) → Buf (Elt Ideal) ℓ) (c : Dev nD) :
    V m c main_v14 = intoState (m ((c.tc : Thread nD τ).loc main_arg1)) := by
  refine funext fun x => ?_
  idx_vars x
  after_reads_simp
  pointwise
  refine congrArg₂ (· * ·) rfl (eye _ _ ?_ ?_) <;> omega

theorem array (m : (ℓ : Loc nD τ sig) → Buf (Elt Ideal) ℓ) (c : Dev nD) :
    (dats m 0 c).arrAt 3 cfg0.N = ntAdd (m ((c.tc : Thread nD τ).loc main_arg2)) (m ((c.tc : Thread nD τ).loc main_arg0)) (intoState (m ((c.tc : Thread nD τ).loc main_arg1))) := by
  rw [← weights]
  refine (dats m 0 c).arrAt_eq_of_covers 3 _ (by decide +kernel) fun t _ y => ?_
  blk_simp
  rw [after0_3]
  unfold out0_3
  frame_out
  unfold_payloads
  pointwise
  rw [add_comm]
  refine congrArg₂ (· + ·) ?_ (Fin.sum_fin_congr fun k => congrArg₂ (· * ·) ?_ ?_) <;> blk_ext [iblk, V_main_arg0, V_main_arg2, places t]

end

section
open Cert.StateInDxRefIdeal Cert.StateInDxRefIdeal.Gen

theorem reference (g : FVec Ideal S4096x2048 .f32) (b : FVec Ideal S2048x16 .f32) (d : FVec Ideal S4096x512 .f32) :
    addf d (shapeCast _ (transpose S4096x32x16 [1, 0, 2] (Host.dotGeneral (F := Ideal) dot_S32x64x4096_S32x64x16_S32x4096x16_1_1_2_2_0_0 none (transpose S32x64x4096 [1, 2, 0] (shapeCast _ g shapeCasts_S4096x2048_S4096x32x64) transposes_S4096x32x64_S32x64x4096_1_2_0) (shapeCast _ b shapeCasts_S2048x16_S32x64x16)) transposes_S32x4096x16_S4096x32x16_1_0_2) shapeCasts_S4096x32x16_S4096x512)
      = ntAdd d g (intoState b) := by
  refine funext fun y => ?_
  idx_vars y
  rw [ntAdd, nt_apply, sum_group (A := 64) (by decide) (y1.val / 16) (by omega) _ fun k hk => by simp [intoState, Ne.symm hk]]
  pointwise
  refine congrArg₂ (· + ·) rfl (Fin.sum_fin_congr fun k => ?_)
  have hk := k.isLt
  unfold intoState
  rw [if_pos (by show y1.val / 16 = (y1.val / 16 * 64 + k.val) / 64; omega), mul_one]
  exact congrArg₂ (· * ·) rfl (congrArg b (place_ext _ _ (by show y1.val / 16 * 64 + k.val = y1.val / 16 * 64 + (y1.val / 16 * 64 + k.val) % 64; omega) rfl))

end

theorem value : Cert.algebraic_StateInDxIdeal_StateInDxRefIdeal := fun m g m' g' _ hm =>
  ⟨_, (θ_run _ _ _).mono (fun r h c => ⟨(h c).1.trans (array m c), (h c).2⟩) (Cert.StateInDxIdeal.Value.run_blocks m g),
    (θ_run _ _ _).mono (fun r h c => by
      obtain ⟨h0, ha⟩ := h c
      rw [(hm c).1, (hm c).2.1, (hm c).2.2] at h0
      exact ⟨h0.trans (reference _ _ _), ha⟩) (Cert.StateInDxRefIdeal.Value.run m' g')⟩

end Cert.StateInDxIdeal.Value

/-! ## The same, rounded on storing -/

namespace Cert.StateInDxLastIdeal.Value

open Cert.StateInDxLastIdeal Cert.StateInDxLastIdeal.Gen

theorem places : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem weights (m : (ℓ : Loc nD τ sig) → Buf (Elt Ideal) ℓ) (c : Dev nD) :
    V m c main_v14 = intoState (m ((c.tc : Thread nD τ).loc main_arg1)) := by
  refine funext fun x => ?_
  idx_vars x
  after_reads_simp
  pointwise
  refine congrArg₂ (· * ·) rfl (eye _ _ ?_ ?_) <;> omega

theorem array (m : (ℓ : Loc nD τ sig) → Buf (Elt Ideal) ℓ) (c : Dev nD) :
    (dats m 0 c).arrAt 3 cfg0.N = ntAdd (m ((c.tc : Thread nD τ).loc main_arg2)) (m ((c.tc : Thread nD τ).loc main_arg0)) (intoState (m ((c.tc : Thread nD τ).loc main_arg1))) := by
  rw [← weights]
  refine (dats m 0 c).arrAt_eq_of_covers 3 _ (by decide +kernel) fun t _ y => ?_
  blk_simp
  rw [after0_3]
  unfold out0_3
  frame_out
  unfold_payloads
  pointwise
  rw [add_comm]
  refine congrArg₂ (· + ·) ?_ (Fin.sum_fin_congr fun k => congrArg₂ (· * ·) ?_ ?_) <;> blk_ext [iblk, V_main_arg0, V_main_arg2, places t]

theorem value : Cert.algebraic_StateInDxLastIdeal_StateInDxLastRefIdeal := fun m g m' g' _ hm =>
  ⟨_, (θ_run _ _ _).mono (fun r h c => ⟨(h c).1.trans (array m c), (h c).2⟩) (Cert.StateInDxLastIdeal.Value.run_blocks m g),
    (θ_run _ _ _).mono (fun r h c => by
      obtain ⟨h0, ha⟩ := h c
      rw [(hm c).1, (hm c).2.1, (hm c).2.2] at h0
      exact ⟨h0.trans (Cert.StateInDxIdeal.Value.reference _ _ _), ha⟩) (Cert.StateInDxLastRefIdeal.Value.run m' g')⟩

end Cert.StateInDxLastIdeal.Value

end
-- ==== Proof.Products.StateOut.lean ====
/- The product out of the S5 state and its gradient at the state, in the same five steps as the
   products into it. -/
module

public import proofs.«01_k».proof.Defs
public import Idealize.ShloMosaic.Lib.StableHlo.RunRead
public import proofs.«01_k».proof.Proof.Products.Groups
public import proofs.«01_k».proof.Proof.Gen.StateOutIdeal.Value
public import proofs.«01_k».proof.Proof.Gen.StateOutRefIdeal.Run
public import proofs.«01_k».proof.Proof.Gen.StateOutDxIdeal.Value
public import proofs.«01_k».proof.Proof.Gen.StateOutDxRefIdeal.Run

@[expose] public section

set_option maxRecDepth 16384

noncomputable section

open Idealize.ShloMosaic Idealize.ShloMosaic.TcCoe Idealize.SL.Sem Idealize.ShloMosaic.Tactic Cert.Products Cert.Groups

/-! ## The product -/

namespace Cert.StateOutIdeal.Value

section
open Cert.StateOutIdeal Cert.StateOutIdeal.Gen

theorem places : ∀ t : Fin cfg0.N, win0_0.index t = ![t.val, 0] ∧ win0_1.index t = ![0, 0] ∧ win0_2.index t = ![t.val, 0] :=
  (by decide +kernel : ∀ t : Fin grid0.N, _)

theorem weights (m : (ℓ : Loc nD τ sig) → Buf (Elt Ideal) ℓ) (c : Dev nD) :
    V m c main_v13 = outOfState (m ((c.tc : Thread nD τ).loc main_arg1)) := by
  refine funext fun x => ?_
  idx_vars x
  after_reads_simp
  pointwise
  refine congrArg₂ (· * ·) rfl (eye _ _ ?_ ?_) <;> omega

theorem array (m : (ℓ : Loc nD τ sig) → Buf (Elt Ideal) ℓ) (c : Dev nD) :
    (dats m 0 c).arrAt 2 cfg0.N = nn (m ((c.tc : Thread nD τ).loc main_arg0)) (outOfState (m ((c.tc : Thread nD τ).loc main_arg1))) := by
  rw [← weights]
  refine (dats m 0 c).arrAt_eq_of_covers 2 _ (by decide +kernel) fun t _ y => ?_
  blk_simp
  rw [after0_2]
  unfold out0_2
  frame_out
  unfold_payloads
  pointwise
  refine Fin.sum_fin_congr fun k => congrArg₂ (· * ·) ?_ ?_ <;> blk_ext [iblk, V_main_arg0, places t]

end

section
open Cert.StateOutRefIdeal Cert.StateOutRefIdeal.Gen

theorem reference (h : FVec Ideal S4096x2048 .f32) (b : FVec Ideal S32x16x64 .f32) :
    shapeCast _ (transpose S4096x32x16 [2, 0, 1] (Host.dotGeneral (F := Ideal) dot_S32x16x64_S4096x32x64_S32x16x4096_2_2_1_0_0_1 none b (shapeCast _ h shapeCasts_S4096x2048_S4096x32x64)) transposes_S32x16x4096_S4096x32x16_2_0_1) shapeCasts_S4096x32x16_S4096x512
      = nn h (outOfState b) := by
  refine funext fun y => ?_
  idx_vars y
  rw [nn_apply, sum_group (A := 64) (by decide) (y1.val / 16) (by omega) _ fun k hk => by simp [outOfState, hk]]
  pointwise
  refine Fin.sum_fin_congr fun k => ?_
  have hk := k.isLt
  unfold outOfState
  rw [mul_comm, if_pos (by show (y1.val / 16 * 64 + k.val) / 64 = y1.val / 16; omega), mul_one]
  refine congrArg₂ (· * ·) rfl (congrArg b ?_)
  blk_ext []

end

theorem value : Cert.algebraic_StateOutIdeal_StateOutRefIdeal := fun m g m' g' _ hm =>
  ⟨_, (θ_run _ _ _).mono (fun r h c => ⟨(h c).1.trans (array m c), (h c).2⟩) (Cert.StateOutIdeal.Value.run_blocks m g),
    (θ_run _ _ _).mono (fun r h c => by
      obtain ⟨h0, ha⟩ := h c
      rw [(hm c).1, (hm c).2] at h0
      exact ⟨h0.trans (reference _ _), ha⟩) (Cert.StateOutRefIdeal.Value.run m' g')⟩

end Cert.StateOutIdeal.Value

/-! ## The gradient at the state -/

namespace Cert.StateOutDxIdeal.Value

section
open Cert.StateOutDxIdeal Cert.StateOutDxIdeal.Gen

theorem places : ∀ t : Fin cfg0.N, win0_0.index t = ![t.val % 4, 0] ∧ win0_1.index t = ![t.val / 4, 0] ∧ win0_2.index t = ![t.val % 4, t.val / 4] :=
  (by decide +kernel : ∀ t : Fin grid0.N, _)

theorem weights (m : (ℓ : Loc nD τ sig) → Buf (Elt Ideal) ℓ) (c : Dev nD) :
    V m c main_v13 = outOfState (m ((c.tc : Thread nD τ).loc main_arg1)) := by
  refine funext fun x => ?_
  idx_vars x
  after_reads_simp
  pointwise
  refine congrArg₂ (· * ·) rfl (eye _ _ ?_ ?_) <;> omega

theorem array (m : (ℓ : Loc nD τ sig) → Buf (Elt Ideal) ℓ) (c : Dev nD) :
    (dats m 0 c).arrAt 2 cfg0.N = nt (m ((c.tc : Thread nD τ).loc main_arg0)) (outOfState (m ((c.tc : Thread nD τ).loc main_arg1))) := by
  rw [← weights]
  refine (dats m 0 c).arrAt_eq_of_covers 2 _ (by decide +kernel) fun t _ y => ?_
  blk_simp
  rw [after0_2]
  unfold out0_2
  frame_out
  unfold_payloads
  pointwise
  refine Fin.sum_fin_congr fun k => congrArg₂ (· * ·) ?_ ?_ <;> blk_ext [iblk, V_main_arg0, places t]

end

section
open Cert.StateOutDxRefIdeal Cert.StateOutDxRefIdeal.Gen

theorem reference (d : FVec Ideal S4096x512 .bf16) (b : FVec Ideal S32x16x64 .f32) :
    shapeCast _ (transpose S4096x32x64 [1, 0, 2] (Host.dotGeneral (F := Ideal) dot_S32x16x4096_S32x16x64_S32x4096x64_1_1_2_2_0_0 none (transpose S32x16x4096 [1, 2, 0] (shapeCast _ (extf .f32 d bitsLt_bf16_f32) shapeCasts_S4096x512_S4096x32x16) transposes_S4096x32x16_S32x16x4096_1_2_0) b) transposes_S32x4096x64_S4096x32x64_1_0_2) shapeCasts_S4096x32x64_S4096x2048
      = nt d (outOfState b) := by
  refine funext fun y => ?_
  idx_vars y
  rw [nt_apply, sum_group (A := 16) (by decide) (y1.val / 64) (by omega) _ fun k hk => by simp [outOfState, Ne.symm hk]]
  pointwise
  refine Fin.sum_fin_congr fun k => ?_
  have hk := k.isLt
  unfold outOfState
  rw [if_pos (by show y1.val / 64 = (y1.val / 64 * 16 + k.val) / 16; omega), mul_one]
  refine congrArg₂ (· * ·) rfl (congrArg b ?_)
  blk_ext []

end

theorem value : Cert.algebraic_StateOutDxIdeal_StateOutDxRefIdeal := fun m g m' g' _ hm =>
  ⟨_, (θ_run _ _ _).mono (fun r h c => ⟨(h c).1.trans (array m c), (h c).2⟩) (Cert.StateOutDxIdeal.Value.run_blocks m g),
    (θ_run _ _ _).mono (fun r h c => by
      obtain ⟨h0, ha⟩ := h c
      rw [(hm c).1, (hm c).2] at h0
      exact ⟨h0.trans (reference _ _), ha⟩) (Cert.StateOutDxRefIdeal.Value.run m' g')⟩

end Cert.StateOutDxIdeal.Value

end
-- ==== Proof.Products.Heads.lean ====
/- The product of the RG-LRU gates, both side by side, and the gradient of each at its input, in the
   same five steps as the S5 products. -/
module

public import proofs.«01_k».proof.Defs
public import Idealize.ShloMosaic.Lib.StableHlo.RunRead
public import proofs.«01_k».proof.Proof.Products.Groups
public import proofs.«01_k».proof.Proof.Gen.GateInIdeal.Value
public import proofs.«01_k».proof.Proof.Gen.GateInRefIdeal.Run
public import proofs.«01_k».proof.Proof.Gen.GateADxIdeal.Value
public import proofs.«01_k».proof.Proof.Gen.GateADxRefIdeal.Run
public import proofs.«01_k».proof.Proof.Gen.GateXDxIdeal.Value
public import proofs.«01_k».proof.Proof.Gen.GateXDxRefIdeal.Run

@[expose] public section

set_option maxRecDepth 16384

noncomputable section

open Idealize.ShloMosaic Idealize.ShloMosaic.TcCoe Idealize.SL.Sem Idealize.ShloMosaic.Tactic Cert.Products Cert.Groups

/-! ## The product -/

namespace Cert.GateInIdeal.Value

section
open Cert.GateInIdeal Cert.GateInIdeal.Gen

theorem places : ∀ t : Fin cfg0.N, win0_0.index t = ![t.val, 0] ∧ win0_1.index t = ![0, 0] ∧ win0_2.index t = ![t.val, 0] :=
  (by decide +kernel : ∀ t : Fin grid0.N, _)

theorem weights (m : (ℓ : Loc nD τ sig) → Buf (Elt Ideal) ℓ) (c : Dev nD) :
    V m c main_v25 = ofBoth (m ((c.tc : Thread nD τ).loc main_arg1)) (m ((c.tc : Thread nD τ).loc main_arg2)) := by
  refine funext fun x => ?_
  idx_vars x
  unfold ofBoth
  after_reads_simp
  pointwise
  by_cases h : x1.val < 512
  · rw [dif_pos h]
    refine Eq.trans ?_ (dif_pos h).symm
    after_reads_simp
    pointwise
    refine congrArg₂ (· * ·) rfl (eye _ _ ?_ ?_) <;> omega
  · rw [dif_neg h]
    refine Eq.trans ?_ (dif_neg h).symm
    after_reads_simp
    pointwise
    refine congrArg₂ (· * ·) rfl (eye _ _ ?_ ?_) <;> omega

theorem array (m : (ℓ : Loc nD τ sig) → Buf (Elt Ideal) ℓ) (c : Dev nD) :
    (dats m 0 c).arrAt 2 cfg0.N = nn (m ((c.tc : Thread nD τ).loc main_arg0)) (ofBoth (m ((c.tc : Thread nD τ).loc main_arg1)) (m ((c.tc : Thread nD τ).loc main_arg2))) := by
  rw [← weights]
  refine (dats m 0 c).arrAt_eq_of_covers 2 _ (by decide +kernel) fun t _ y => ?_
  blk_simp
  rw [after0_2]
  unfold out0_2
  frame_out
  unfold_payloads
  pointwise
  refine Fin.sum_fin_congr fun k => congrArg₂ (· * ·) ?_ ?_ <;> blk_ext [iblk, V_main_arg0, places t]

end

section
open Cert.GateInRefIdeal Cert.GateInRefIdeal.Gen

/-- The product with one gate's weights. -/
abbrev one (x : FVec Ideal S4096x512 .bf16) (w : FVec Ideal S8x64x64 .f32) : FVec Ideal S4096x512 .f32 :=
  shapeCast _ (transpose S4096x8x64 [2, 0, 1] (Host.dotGeneral (F := Ideal) dot_S8x64x64_S4096x8x64_S8x64x4096_1_2_2_0_0_1 none w (shapeCast _ (extf .f32 x bitsLt_bf16_f32) shapeCasts_S4096x512_S4096x8x64)) transposes_S8x64x4096_S4096x8x64_2_0_1) shapeCasts_S4096x8x64_S4096x512

theorem one_eq (x : FVec Ideal S4096x512 .bf16) (w : FVec Ideal S8x64x64 .f32) (i : Fin 4096) (j : Fin 512) :
    one x w (ix2 i j) = nn x (ofHeads w) (ix2 i j) := by
  rw [nn_apply, sum_group (A := 64) (by decide) (j.val / 64) (by omega) _ fun k hk => by simp [ofHeads, hk]]
  unfold one
  pointwise
  refine Fin.sum_fin_congr fun k => ?_
  have hk := k.isLt
  unfold ofHeads
  rw [mul_comm, if_pos (by show (j.val / 64 * 64 + k.val) / 64 = j.val / 64; omega), mul_one]
  refine congrArg₂ (· * ·) rfl (congrArg w ?_)
  blk_ext []

theorem reference (x : FVec Ideal S4096x512 .bf16) (a b : FVec Ideal S8x64x64 .f32) :
    concatenate S4096x1024 1 [⟨S4096x512, one x a⟩, ⟨S4096x512, one x b⟩] concatenates_S4096x512_S4096x512_S4096x1024_d1 = nn x (ofBoth a b) := by
  refine funext fun y => ?_
  idx_vars y
  generalize ha : one x a = p
  generalize hb : one x b = q
  pointwise
  subst ha hb
  rw [nn_apply]
  by_cases h : y1.val < 512
  · refine (dif_pos h).trans ((one_eq x a _ _).trans (Fin.sum_fin_congr fun k => congrArg₂ (· * ·) rfl (by rw [ofBoth, dif_pos (show (ix2 k y1 1).val < 512 from h)]; rfl)))
  · refine (dif_neg h).trans ((one_eq x b _ _).trans (Fin.sum_fin_congr fun k => congrArg₂ (· * ·) rfl (by rw [ofBoth, dif_neg (show ¬(ix2 k y1 1).val < 512 from h)]; rfl)))

end

theorem value : Cert.algebraic_GateInIdeal_GateInRefIdeal := fun m g m' g' _ hm =>
  ⟨_, (θ_run _ _ _).mono (fun r h c => ⟨(h c).1.trans (array m c), (h c).2⟩) (Cert.GateInIdeal.Value.run_blocks m g),
    (θ_run _ _ _).mono (fun r h c => by
      obtain ⟨h0, ha⟩ := h c
      rw [(hm c).1, (hm c).2.1, (hm c).2.2] at h0
      exact ⟨h0.trans (reference _ _ _), ha⟩) (Cert.GateInRefIdeal.Value.run m' g')⟩

end Cert.GateInIdeal.Value

/-! ## The first gate's gradient at its input, added to the gradient already there -/

namespace Cert.GateADxIdeal.Value

section
open Cert.GateADxIdeal Cert.GateADxIdeal.Gen

theorem places : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem weights (m : (ℓ : Loc nD τ sig) → Buf (Elt Ideal) ℓ) (c : Dev nD) (i j : Fin 512) :
    V m c main_v25 (ix2 i ⟨j.val, by omega⟩) = ofHeads (m ((c.tc : Thread nD τ).loc main_arg1)) (ix2 i j) := by
  after_reads_simp
  pointwise
  after_reads_simp
  pointwise
  refine congrArg₂ (· * ·) rfl (eye _ _ ?_ ?_) <;> omega

theorem array (m : (ℓ : Loc nD τ sig) → Buf (Elt Ideal) ℓ) (c : Dev nD) :
    (dats m 0 c).arrAt 3 cfg0.N = ntAdd (m ((c.tc : Thread nD τ).loc main_arg3)) (m ((c.tc : Thread nD τ).loc main_arg0)) (ofHeads (m ((c.tc : Thread nD τ).loc main_arg1))) := by
  refine (dats m 0 c).arrAt_eq_of_covers 3 _ (by decide +kernel) fun t _ y => ?_
  blk_simp
  rw [after0_3]
  unfold out0_3
  frame_out
  unfold_payloads
  pointwise
  rw [add_comm]
  refine congrArg₂ (· + ·) ?_ (Fin.sum_fin_congr fun k => congrArg₂ (· * ·) ?_ ((?_ : _ = V m c main_v25 (ix2 _ ⟨k.val, by omega⟩)).trans (weights m c _ k)))
    <;> blk_ext [iblk, V_main_arg0, V_main_arg3, places t]

end

section
open Cert.GateADxRefIdeal Cert.GateADxRefIdeal.Gen

theorem reference (d : FVec Ideal S4096x512 .bf16) (w : FVec Ideal S8x64x64 .f32) (e : FVec Ideal S4096x512 .f32) :
    addf e (shapeCast _ (transpose S4096x8x64 [1, 0, 2] (Host.dotGeneral (F := Ideal) dot_S8x64x4096_S8x64x64_S8x4096x64_1_2_2_1_0_0 none (transpose S8x64x4096 [1, 2, 0] (shapeCast _ (extf .f32 d bitsLt_bf16_f32) shapeCasts_S4096x512_S4096x8x64) transposes_S4096x8x64_S8x64x4096_1_2_0) w) transposes_S8x4096x64_S4096x8x64_1_0_2) shapeCasts_S4096x8x64_S4096x512)
      = ntAdd e d (ofHeads w) := by
  refine funext fun y => ?_
  idx_vars y
  rw [ntAdd, nt_apply, sum_group (A := 64) (by decide) (y1.val / 64) (by omega) _ fun k hk => by simp [ofHeads, Ne.symm hk]]
  pointwise
  refine congrArg₂ (· + ·) rfl (Fin.sum_fin_congr fun k => ?_)
  have hk := k.isLt
  unfold ofHeads
  rw [if_pos (by show y1.val / 64 = (y1.val / 64 * 64 + k.val) / 64; omega), mul_one]
  refine congrArg₂ (· * ·) rfl (congrArg w ?_)
  blk_ext []

end

theorem value : Cert.algebraic_GateADxIdeal_GateADxRefIdeal := fun m g m' g' _ hm =>
  ⟨_, (θ_run _ _ _).mono (fun r h c => ⟨(h c).1.trans (array m c), (h c).2⟩) (Cert.GateADxIdeal.Value.run_blocks m g),
    (θ_run _ _ _).mono (fun r h c => by
      obtain ⟨h0, ha⟩ := h c
      rw [(hm c).1, (hm c).2.1, (hm c).2.2.2] at h0
      exact ⟨h0.trans (reference _ _ _), ha⟩) (Cert.GateADxRefIdeal.Value.run m' g')⟩

end Cert.GateADxIdeal.Value

/-! ## The second gate's gradient at its input, added to the gradient already there -/

namespace Cert.GateXDxIdeal.Value

open Cert.GateXDxIdeal Cert.GateXDxIdeal.Gen

theorem places : ∀ t : Fin cfg0.N, win0_0.index t = ![t.val, 0] ∧ win0_1.index t = ![0, 1] ∧ win0_2.index t = ![t.val, 0] ∧ win0_3.index t = ![t.val, 0] :=
  (by decide +kernel : ∀ t : Fin grid0.N, _)

theorem weights (m : (ℓ : Loc nD τ sig) → Buf (Elt Ideal) ℓ) (c : Dev nD) (i j : Fin 512) :
    V m c main_v25 (ix2 i ⟨512 + j.val, by omega⟩) = ofHeads (m ((c.tc : Thread nD τ).loc main_arg2)) (ix2 i j) := by
  after_reads_simp
  pointwise
  after_reads_simp
  pointwise
  refine congrArg₂ (· * ·) rfl (eye _ _ ?_ ?_) <;> omega

theorem array (m : (ℓ : Loc nD τ sig) → Buf (Elt Ideal) ℓ) (c : Dev nD) :
    (dats m 0 c).arrAt 3 cfg0.N = ntAdd (m ((c.tc : Thread nD τ).loc main_arg3)) (m ((c.tc : Thread nD τ).loc main_arg0)) (ofHeads (m ((c.tc : Thread nD τ).loc main_arg2))) := by
  refine (dats m 0 c).arrAt_eq_of_covers 3 _ (by decide +kernel) fun t _ y => ?_
  blk_simp
  rw [after0_3]
  unfold out0_3
  frame_out
  unfold_payloads
  pointwise
  rw [add_comm]
  refine congrArg₂ (· + ·) ?_ (Fin.sum_fin_congr fun k => congrArg₂ (· * ·) ?_ ((?_ : _ = V m c main_v25 (ix2 _ ⟨512 + k.val, by omega⟩)).trans (weights m c _ k)))
    <;> blk_ext [iblk, V_main_arg0, V_main_arg3, places t]

theorem value : Cert.algebraic_GateXDxIdeal_GateXDxRefIdeal := fun m g m' g' _ hm =>
  ⟨_, (θ_run _ _ _).mono (fun r h c => ⟨(h c).1.trans (array m c), (h c).2⟩) (Cert.GateXDxIdeal.Value.run_blocks m g),
    (θ_run _ _ _).mono (fun r h c => by
      obtain ⟨h0, ha⟩ := h c
      rw [(hm c).1, (hm c).2.2.1, (hm c).2.2.2] at h0
      exact ⟨h0.trans (Cert.GateADxIdeal.Value.reference _ _ _), ha⟩) (Cert.GateXDxRefIdeal.Value.run m' g')⟩

end Cert.GateXDxIdeal.Value

end
-- ==== Proof.Products.GroupsDw.lean ====
/- The gradients at the weights of the products that are taken group by group and head by head: the
   whole products, of which the step keeps the diagonal blocks. -/
module

public import proofs.«01_k».proof.Defs
public import Idealize.ShloMosaic.Lib.Pointwise
public import Idealize.ShloMosaic.Lib.Pipeline.ValueKit
public import proofs.«01_k».proof.Proof.Gen.StateInDwIdeal.Value
public import proofs.«01_k».proof.Proof.Gen.StateInDwRefIdeal.Run
public import proofs.«01_k».proof.Proof.Gen.StateOutDwIdeal.Value
public import proofs.«01_k».proof.Proof.Gen.StateOutDwRefIdeal.Run
public import proofs.«01_k».proof.Proof.Gen.GateADwIdeal.Value
public import proofs.«01_k».proof.Proof.Gen.GateADwRefIdeal.Run

@[expose] public section

set_option maxRecDepth 16384

noncomputable section

open Idealize.ShloMosaic Idealize.ShloMosaic.TcCoe Idealize.SL.Sem Idealize.ShloMosaic.Tactic

/-! ## At the weights into the S5 state -/

namespace Cert.StateInDwIdeal.Value

open Cert.StateInDwIdeal Cert.StateInDwIdeal.Gen

theorem places : ∀ t : Fin cfg0.N, win0_0.index t = ![0, 0] ∧ win0_1.index t = ![0, t.val] ∧ win0_2.index t = ![0, t.val] :=
  (by decide +kernel : ∀ t : Fin grid0.N, _)

/-- The block of the first 512 columns. -/
theorem input (m : (ℓ : Loc nD τ sig) → Buf (Elt Ideal) ℓ) (c : Dev nD) (t : Fin cfg0.N) (x : S4096x512.Idx) :
    X0_0 m c t x = m ((c.tc : Thread nD τ).loc main_arg0) (ix2 (x 0) ⟨(x 1).val, by have := (x 1).isLt; simp at *; omega⟩) := by
  unfold X0_0 Pipeline.Window.fill
  rw [dif_pos (moved0_0 t x)]
  blk_ext [iblk, V, places t]

theorem value : Cert.algebraic_StateInDwIdeal_StateInDwRefIdeal := fun m g m' g' _ hm => by
  refine ⟨_, ?_, Cert.StateInDwRefIdeal.Value.run m' g'⟩
  refine (θ_run _ _ _).mono (fun r h c => ?_) (run_blocks m g)
  obtain ⟨h2, ha⟩ := h c
  rw [(hm c).1, (hm c).2]
  refine ⟨h2.trans ?_, ha⟩
  refine (dats m 0 c).arrAt_eq_of_covers 2 _ (by decide +kernel) fun t _ y => ?_
  blk_simp
  rw [after0_2]
  unfold outsAt0
  frame_out
  unfold_payloads
  pointwise
  refine Fin.sum_fin_congr fun k => (mul_comm (_ : EReal) _).trans ?_
  rw [input]
  blk_point [iblk, V, places t]

end Cert.StateInDwIdeal.Value

/-! ## At the weights out of it -/

namespace Cert.StateOutDwIdeal.Value

open Cert.StateOutDwIdeal Cert.StateOutDwIdeal.Gen

theorem places : ∀ t : Fin cfg0.N, win0_0.index t = ![0, t.val] ∧ win0_1.index t = ![0, 0] ∧ win0_2.index t = ![t.val, 0] :=
  (by decide +kernel : ∀ t : Fin grid0.N, _)

theorem value : Cert.algebraic_StateOutDwIdeal_StateOutDwRefIdeal := fun m g m' g' _ hm => by
  refine ⟨_, ?_, Cert.StateOutDwRefIdeal.Value.run m' g'⟩
  refine (θ_run _ _ _).mono (fun r h c => ?_) (run_blocks m g)
  obtain ⟨h2, ha⟩ := h c
  rw [(hm c).1, (hm c).2]
  refine ⟨h2.trans ?_, ha⟩
  refine (dats m 0 c).arrAt_eq_of_covers 2 _ (by decide +kernel) fun t _ y => ?_
  blk_simp
  rw [after0_2]
  unfold out0_2
  frame_out
  unfold_payloads
  pointwise
  refine Fin.sum_fin_congr fun k => (mul_comm (_ : EReal) _).trans ?_
  blk_point [iblk, V, places t]

end Cert.StateOutDwIdeal.Value

/-! ## At the weights of a gate -/

namespace Cert.GateADwIdeal.Value

open Cert.GateADwIdeal Cert.GateADwIdeal.Gen

theorem places : ∀ t : Fin cfg0.N, win0_0.index t = ![0, 0] ∧ win0_1.index t = ![0, 0] ∧ win0_2.index t = ![0, 0] :=
  (by decide +kernel : ∀ t : Fin grid0.N, _)

theorem value : Cert.algebraic_GateADwIdeal_GateADwRefIdeal := fun m g m' g' _ hm => by
  refine ⟨_, ?_, Cert.GateADwRefIdeal.Value.run m' g'⟩
  refine (θ_run _ _ _).mono (fun r h c => ?_) (run_blocks m g)
  obtain ⟨h2, ha⟩ := h c
  rw [(hm c).1, (hm c).2]
  refine ⟨h2.trans ?_, ha⟩
  refine (dats m 0 c).arrAt_eq_of_covers 2 _ (by decide +kernel) fun t _ y => ?_
  blk_simp
  rw [after0_2]
  unfold out0_2
  frame_out
  unfold_payloads
  pointwise
  refine Fin.sum_fin_congr fun k => (mul_comm (_ : EReal) _).trans ?_
  blk_point [iblk, V, places t]

end Cert.GateADwIdeal.Value

end
-- ==== Proof.Elementwise.Swiglu.lean ====
/- The gated product of the channel mixer and its gradients: the value claims. -/
module

public import proofs.«01_k».proof.Defs
public import Idealize.ShloMosaic.Lib.Pointwise
public import Idealize.ShloMosaic.Lib.Pipeline.ValueKit
public import proofs.«01_k».proof.Proof.Gen.SwigluBwdIdeal.Value
public import proofs.«01_k».proof.Proof.Gen.SwigluBwdRefIdeal.Run
public import proofs.«01_k».proof.Proof.Gen.SwigluIdeal.Value
public import proofs.«01_k».proof.Proof.Gen.SwigluRefIdeal.Run

@[expose] public section

set_option maxRecDepth 16384

noncomputable section

open Idealize.ShloMosaic Idealize.ShloMosaic.TcCoe Idealize.SL.Sem Idealize.ShloMosaic.Tactic

/-! ## The gradients -/

namespace Cert.SwigluBwdIdeal.Value

open Cert.SwigluBwdIdeal Cert.SwigluBwdIdeal.Gen

theorem places : ∀ t : Fin cfg0.N, win0_0.index t = ![t.val, 0] ∧ win0_1.index t = ![t.val, 1] ∧ win0_2.index t = ![t.val, 0]
    ∧ win0_3.index t = ![t.val, 0] ∧ win0_4.index t = ![t.val, 0] :=
  (by decide +kernel : ∀ t : Fin grid0.N, _)

theorem value : Cert.algebraic_SwigluBwdIdeal_SwigluBwdRefIdeal := fun m g m' g' _ hm => by
  refine ⟨_, _, ?_, Cert.SwigluBwdRefIdeal.Value.run m' g'⟩
  refine (θ_run _ _ _).mono (fun r h c => ?_) (run_blocks m g)
  obtain ⟨h3, h4, ha⟩ := h c
  rw [(hm c).1, (hm c).2]
  refine ⟨h3.trans ?_, h4.trans ?_, ha⟩
  · refine (dats m 0 c).arrAt_eq_of_covers 3 _ (by decide +kernel) fun t _ y => ?_
    blk_simp
    rw [after0_3]
    unfold out0_3
    frame_out
    unfold_payloads
    pointwise
    simp only [Ideal.logistic]
    blk_point [iblk, V, places t]
  · refine (dats m 0 c).arrAt_eq_of_covers 4 _ (by decide +kernel) fun t _ y => ?_
    blk_simp
    rw [after0_4]
    unfold out0_4
    frame_out
    unfold_payloads
    pointwise
    simp only [Ideal.logistic]
    blk_point [iblk, V, places t]

end Cert.SwigluBwdIdeal.Value

/-! ## The product -/

namespace Cert.SwigluIdeal.Value

open Cert.SwigluIdeal Cert.SwigluIdeal.Gen

theorem places : ∀ t : Fin cfg0.N, win0_0.index t = ![t.val, 0] ∧ win0_1.index t = ![t.val, 1] ∧ win0_2.index t = ![t.val, 0] :=
  (by decide +kernel : ∀ t : Fin grid0.N, _)

theorem value : Cert.algebraic_SwigluIdeal_SwigluRefIdeal := fun m g m' g' _ hm => by
  refine ⟨_, ?_, Cert.SwigluRefIdeal.Value.run m' g'⟩
  refine (θ_run _ _ _).mono (fun r h c => ?_) (run_blocks m g)
  obtain ⟨h2, ha⟩ := h c
  rw [hm c]
  refine ⟨h2.trans ?_, ha⟩
  refine (dats m 0 c).arrAt_eq_of_covers 2 _ (by decide +kernel) fun t _ y => ?_
  blk_simp
  rw [after0_2]
  unfold out0_2
  frame_out
  unfold_payloads
  pointwise
  simp only [Ideal.logistic]
  blk_point [iblk, V, places t]

end Cert.SwigluIdeal.Value

end
-- ==== Proof.Elementwise.LruOut.lean ====
/- The gated output of the RG-LRU branch and its gradients: the value claims. -/
module

public import proofs.«01_k».proof.Defs
public import Idealize.ShloMosaic.Lib.Pointwise
public import Idealize.ShloMosaic.Lib.Pipeline.ValueKit
public import proofs.«01_k».proof.Proof.Gen.LruOutBwdIdeal.Value
public import proofs.«01_k».proof.Proof.Gen.LruOutBwdRefIdeal.Run
public import proofs.«01_k».proof.Proof.Gen.LruOutIdeal.Value
public import proofs.«01_k».proof.Proof.Gen.LruOutRefIdeal.Run

@[expose] public section

set_option maxRecDepth 16384

noncomputable section

open Idealize.ShloMosaic Idealize.ShloMosaic.TcCoe Idealize.SL.Sem Idealize.ShloMosaic.Tactic

/-! ## The gradients -/

namespace Cert.LruOutBwdIdeal.Value

open Cert.LruOutBwdIdeal Cert.LruOutBwdIdeal.Gen

theorem places : ∀ t : Fin cfg0.N, win0_0.index t = ![t.val, 2] ∧ win0_1.index t = ![t.val, 0] ∧ win0_2.index t = ![t.val, 0]
    ∧ win0_3.index t = ![t.val, 0] ∧ win0_4.index t = ![t.val, 0] :=
  (by decide +kernel : ∀ t : Fin grid0.N, _)

/-- The block of the gate's logits at a grid point. -/
theorem gate (m : (ℓ : Loc nD τ sig) → Buf (Elt Ideal) ℓ) (c : Dev nD) (t : Fin cfg0.N) (x : S256x512.Idx) :
    X0_0 m c t x = m ((c.tc : Thread nD τ).loc main_arg0)
      (ix2 ⟨t.val * 256 + (x 0).val, by have := t.isLt; have := (x 0).isLt; have : cfg0.N = 16 := rfl; simp at *; omega⟩ ⟨1024 + (x 1).val, by have := (x 1).isLt; simp at *; omega⟩) := by
  unfold X0_0 Pipeline.Window.fill
  rw [dif_pos (moved0_0 t x)]
  blk_ext [iblk, V, places t]

theorem value : Cert.algebraic_LruOutBwdIdeal_LruOutBwdRefIdeal := fun m g m' g' _ hm => by
  refine ⟨_, _, ?_, Cert.LruOutBwdRefIdeal.Value.run m' g'⟩
  refine (θ_run _ _ _).mono (fun r h c => ?_) (run_blocks m g)
  obtain ⟨h3, h4, ha⟩ := h c
  rw [Cert.LruOutBwdRefIdeal.Value.res_main_v37, (hm c).1, (hm c).2.1, (hm c).2.2]
  refine ⟨h3.trans ?_, h4.trans ?_, ha⟩
  · refine (dats m 0 c).arrAt_eq_of_covers 3 _ (by decide +kernel) fun t _ y => ?_
    blk_simp
    rw [after0_3]
    unfold outsAt0
    frame_out
    unfold_payloads
    pointwise
    simp only [gate]
    blk_point [iblk, V, places t]
  · refine (dats m 0 c).arrAt_eq_of_covers 4 _ (by decide +kernel) fun t _ y => ?_
    blk_simp
    rw [after0_4]
    unfold outsAt0
    frame_out
    unfold_payloads
    pointwise
    simp only [gate]
    blk_point [iblk, V, places t]

end Cert.LruOutBwdIdeal.Value

/-! ## The gated output -/

namespace Cert.LruOutIdeal.Value

open Cert.LruOutIdeal Cert.LruOutIdeal.Gen

theorem places : ∀ t : Fin cfg0.N, win0_0.index t = ![t.val, 2] ∧ win0_1.index t = ![t.val, 0] ∧ win0_2.index t = ![t.val, 0] :=
  (by decide +kernel : ∀ t : Fin grid0.N, _)

/-- The block of the gate's logits at a grid point. -/
theorem gate (m : (ℓ : Loc nD τ sig) → Buf (Elt Ideal) ℓ) (c : Dev nD) (t : Fin cfg0.N) (x : S256x512.Idx) :
    X0_0 m c t x = m ((c.tc : Thread nD τ).loc main_arg0)
      (ix2 ⟨t.val * 256 + (x 0).val, by have := t.isLt; have := (x 0).isLt; have : cfg0.N = 16 := rfl; simp at *; omega⟩ ⟨1024 + (x 1).val, by have := (x 1).isLt; simp at *; omega⟩) := by
  unfold X0_0 Pipeline.Window.fill
  rw [dif_pos (moved0_0 t x)]
  blk_ext [iblk, V, places t]

theorem value : Cert.algebraic_LruOutIdeal_LruOutRefIdeal := fun m g m' g' _ hm => by
  refine ⟨_, ?_, Cert.LruOutRefIdeal.Value.run m' g'⟩
  refine (θ_run _ _ _).mono (fun r h c => ?_) (run_blocks m g)
  obtain ⟨h2, ha⟩ := h c
  rw [(hm c).1, (hm c).2]
  refine ⟨h2.trans ?_, ha⟩
  refine (dats m 0 c).arrAt_eq_of_covers 2 _ (by decide +kernel) fun t _ y => ?_
  blk_simp
  rw [after0_2]
  unfold outsAt0
  frame_out
  unfold_payloads
  pointwise
  simp only [gate]
  blk_point [iblk, V, places t]

end Cert.LruOutIdeal.Value

end
-- ==== Proof.Elementwise.MergeBwd.lean ====
/- The gradients of the three branches' outputs added under their gates: the value claim. -/
module

public import proofs.«01_k».proof.Defs
public import Idealize.ShloMosaic.Lib.Pointwise
public import Idealize.ShloMosaic.Lib.Pipeline.ValueKit
public import proofs.«01_k».proof.Proof.Gen.MergeBwdIdeal.Value
public import proofs.«01_k».proof.Proof.Gen.MergeBwdRefIdeal.Run

@[expose] public section

set_option maxRecDepth 16384

noncomputable section

open Idealize.ShloMosaic Idealize.ShloMosaic.TcCoe Idealize.SL.Sem Idealize.ShloMosaic.Tactic

namespace Cert.MergeBwdIdeal.Value

open Cert.MergeBwdIdeal Cert.MergeBwdIdeal.Gen

theorem places : ∀ t : Fin cfg0.N, win0_0.index t = ![t.val, 0] ∧ win0_1.index t = ![t.val, 0] ∧ win0_2.index t = ![t.val, 0] ∧ win0_3.index t = ![t.val, 3] ∧ win0_4.index t = ![t.val, 4] ∧ win0_5.index t = ![t.val, 5] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![0, 0] ∧ win0_17.index t = ![0, 0] ∧ win0_18.index t = ![0, 0] :=
  (by decide +kernel : ∀ t : Fin grid0.N, _)

/-- The block of gate 0's logits at a grid point. -/
theorem gate0 (m : (ℓ : Loc nD τ sig) → Buf (Elt Ideal) ℓ) (c : Dev nD) (t : Fin cfg0.N) (x : S128x1024.Idx) :
    X0_3 m c t x = m ((c.tc : Thread nD τ).loc main_arg3)
      (ix2 ⟨t.val * 128 + (x 0).val, by have := t.isLt; have := (x 0).isLt; have : cfg0.N = 32 := rfl; simp at *; omega⟩ ⟨3072 + (x 1).val, by have := (x 1).isLt; simp at *; omega⟩) := by
  unfold X0_3 Pipeline.Window.fill
  rw [dif_pos (moved0_3 t x)]
  blk_ext [iblk, V, places t]

/-- The block of gate 1's logits at a grid point. -/
theorem gate1 (m : (ℓ : Loc nD τ sig) → Buf (Elt Ideal) ℓ) (c : Dev nD) (t : Fin cfg0.N) (x : S128x1024.Idx) :
    X0_4 m c t x = m ((c.tc : Thread nD τ).loc main_arg3)
      (ix2 ⟨t.val * 128 + (x 0).val, by have := t.isLt; have := (x 0).isLt; have : cfg0.N = 32 := rfl; simp at *; omega⟩ ⟨4096 + (x 1).val, by have := (x 1).isLt; simp at *; omega⟩) := by
  unfold X0_4 Pipeline.Window.fill
  rw [dif_pos (moved0_4 t x)]
  blk_ext [iblk, V, places t]

/-- The block of gate 2's logits at a grid point. -/
theorem gate2 (m : (ℓ : Loc nD τ sig) → Buf (Elt Ideal) ℓ) (c : Dev nD) (t : Fin cfg0.N) (x : S128x1024.Idx) :
    X0_5 m c t x = m ((c.tc : Thread nD τ).loc main_arg3)
      (ix2 ⟨t.val * 128 + (x 0).val, by have := t.isLt; have := (x 0).isLt; have : cfg0.N = 32 := rfl; simp at *; omega⟩ ⟨5120 + (x 1).val, by have := (x 1).isLt; simp at *; omega⟩) := by
  unfold X0_5 Pipeline.Window.fill
  rw [dif_pos (moved0_5 t x)]
  blk_ext [iblk, V, places t]

set_option maxHeartbeats 8000000 in
theorem value : Cert.algebraic_MergeBwdIdeal_MergeBwdRefIdeal := fun m g m' g' _ hm => by
  refine ⟨_, _, _, _, _, _, _, _, _, ?_, Cert.MergeBwdRefIdeal.Value.run m' g'⟩
  refine (θ_run _ _ _).mono (fun r h c => ?_) (run_blocks m g)
  obtain ⟨h10, h11, h12, h13, h14, h15, h16, h17, h18, ha⟩ := h c
  rw [(hm c).1, (hm c).2.1, (hm c).2.2.1, (hm c).2.2.2.1, (hm c).2.2.2.2.1, (hm c).2.2.2.2.2]
  refine ⟨h10.trans ?_, h11.trans ?_, h12.trans ?_, h13.trans ?_, h14.trans ?_, h15.trans ?_, h16.trans ?_, h17.trans ?_, h18.trans ?_, ha⟩
  · refine (dats m 0 c).arrAt_eq_of_covers 10 _ (by decide +kernel) fun t _ y => ?_
    blk_simp
    rw [after0_10]
    by_cases h0 : t.val % 32 = 0 <;> [rw [outsAt0_A m c t h0]; rw [outsAt0_B m c t h0]] <;>
      (frame_out; unfold_payloads; pointwise; simp only [Ideal.logistic, gate0, gate1, gate2]; blk_point [iblk, V, places t])
  · refine (dats m 0 c).arrAt_eq_of_covers 11 _ (by decide +kernel) fun t _ y => ?_
    blk_simp
    rw [after0_11]
    by_cases h0 : t.val % 32 = 0 <;> [rw [outsAt0_A m c t h0]; rw [outsAt0_B m c t h0]] <;>
      (frame_out; unfold_payloads; pointwise; simp only [Ideal.logistic, gate0, gate1, gate2]; blk_point [iblk, V, places t])
  · refine (dats m 0 c).arrAt_eq_of_covers 12 _ (by decide +kernel) fun t _ y => ?_
    blk_simp
    rw [after0_12]
    by_cases h0 : t.val % 32 = 0 <;> [rw [outsAt0_A m c t h0]; rw [outsAt0_B m c t h0]] <;>
      (frame_out; unfold_payloads; pointwise; simp only [Ideal.logistic, gate0, gate1, gate2]; blk_point [iblk, V, places t])
  · refine (dats m 0 c).arrAt_eq_of_covers 13 _ (by decide +kernel) fun t _ y => ?_
    blk_simp
    have e : (((View.whole main_v6_3).slice (win0_13.rect t)).emb y 1).val = (y 1).val := by blk_point [places t]
    have : (y 1).val < 1024 := (y 1).isLt
    rw [after0_13]
    by_cases h0 : t.val % 32 = 0 <;> [rw [outsAt0_A m c t h0]; rw [outsAt0_B m c t h0]] <;>
      (frame_out; unfold_payloads; pointwise; rw [dif_pos (by omega)]; simp only [Ideal.logistic, gate0, gate1, gate2]; blk_point [iblk, V, places t])
  · refine (dats m 0 c).arrAt_eq_of_covers 14 _ (by decide +kernel) fun t _ y => ?_
    blk_simp
    have e : (((View.whole main_v6_4).slice (win0_14.rect t)).emb y 1).val = (y 1).val := by blk_point [places t]
    have : (y 1).val < 1024 := (y 1).isLt
    rw [after0_14]
    by_cases h0 : t.val % 32 = 0 <;> [rw [outsAt0_A m c t h0]; rw [outsAt0_B m c t h0]] <;>
      (frame_out; unfold_payloads; pointwise; rw [dif_neg (by omega), dif_pos (by omega)]; simp only [Ideal.logistic, gate0, gate1, gate2]; blk_point [iblk, V, places t])
  · refine (dats m 0 c).arrAt_eq_of_covers 15 _ (by decide +kernel) fun t _ y => ?_
    blk_simp
    have e : (((View.whole main_v6_5).slice (win0_15.rect t)).emb y 1).val = (y 1).val := by blk_point [places t]
    have : (y 1).val < 1024 := (y 1).isLt
    rw [after0_15]
    by_cases h0 : t.val % 32 = 0 <;> [rw [outsAt0_A m c t h0]; rw [outsAt0_B m c t h0]] <;>
      (frame_out; unfold_payloads; pointwise; rw [dif_neg (by omega), dif_neg (by omega)]; simp only [Ideal.logistic, gate0, gate1, gate2]; blk_point [iblk, V, places t])
  · refine (dats m 0 c).arrAt_eq_of_covers 16 _ (by decide +kernel) fun t hf y => ?_
    blk_simp
    have e : (((View.whole main_v6_6).slice (win0_16.rect t)).emb y 1).val = (y 1).val := by blk_point [places t]
    have : (y 1).val < 1024 := (y 1).isLt
    rw [after0_16, Pipeline.eq_sum_fin_of_reset_step_apply_last (fun n h => (outsAt0 m c n h).2.2.2.2.2.2.1) 32 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_16 t).mp hf; have : cfg0.N = 32 := N_0; omega) _, zero_add]
    pointwise
    refine Eq.trans ?_ (Fin.sum_univ_one (M := EReal) _).symm
    refine Fin.sum_mul_add_congr fun s k hl => ?_
    rw [dif_pos (by omega)]
    simp only [Ideal.logistic, gate0, gate1, gate2]
    blk_point [iblk, V, places s, places t]
  · refine (dats m 0 c).arrAt_eq_of_covers 17 _ (by decide +kernel) fun t hf y => ?_
    blk_simp
    have e : (((View.whole main_v6_7).slice (win0_17.rect t)).emb y 1).val = (y 1).val := by blk_point [places t]
    have : (y 1).val < 1024 := (y 1).isLt
    rw [after0_17, Pipeline.eq_sum_fin_of_reset_step_apply_last (fun n h => (outsAt0 m c n h).2.2.2.2.2.2.2.1) 32 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_17 t).mp hf; have : cfg0.N = 32 := N_0; omega) _, zero_add]
    pointwise
    refine Eq.trans ?_ (Fin.sum_univ_one (M := EReal) _).symm
    refine Fin.sum_mul_add_congr fun s k hl => ?_
    rw [dif_neg (by omega), dif_pos (by omega)]
    simp only [Ideal.logistic, gate0, gate1, gate2]
    blk_point [iblk, V, places s, places t]
  · refine (dats m 0 c).arrAt_eq_of_covers 18 _ (by decide +kernel) fun t hf y => ?_
    blk_simp
    have e : (((View.whole main_v6_8).slice (win0_18.rect t)).emb y 1).val = (y 1).val := by blk_point [places t]
    have : (y 1).val < 1024 := (y 1).isLt
    rw [after0_18, Pipeline.eq_sum_fin_of_reset_step_apply_last (fun n h => (outsAt0 m c n h).2.2.2.2.2.2.2.2) 32 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_18 t).mp hf; have : cfg0.N = 32 := N_0; omega) _, zero_add]
    pointwise
    refine Eq.trans ?_ (Fin.sum_univ_one (M := EReal) _).symm
    refine Fin.sum_mul_add_congr fun s k hl => ?_
    rw [dif_neg (by omega), dif_neg (by omega)]
    simp only [Ideal.logistic, gate0, gate1, gate2]
    blk_point [iblk, V, places s, places t]

end Cert.MergeBwdIdeal.Value

end
-- ==== Proof.Elementwise.Merge.lean ====
/- The three branches' outputs added under their gates: the value claim. -/
module

public import proofs.«01_k».proof.Defs
public import Idealize.ShloMosaic.Lib.Pointwise
public import Idealize.ShloMosaic.Lib.Pipeline.ValueKit
public import proofs.«01_k».proof.Proof.Gen.MergeIdeal.Value
public import proofs.«01_k».proof.Proof.Gen.MergeRefIdeal.Run

@[expose] public section

set_option maxRecDepth 16384

noncomputable section

open Idealize.ShloMosaic Idealize.ShloMosaic.TcCoe Idealize.SL.Sem Idealize.ShloMosaic.Tactic

namespace Cert.MergeIdeal.Value

open Cert.MergeIdeal Cert.MergeIdeal.Gen

theorem places : ∀ t : Fin cfg0.N, win0_0.index t = ![t.val, 0] ∧ win0_1.index t = ![t.val, 0] ∧ win0_2.index t = ![t.val, 0] ∧ win0_3.index t = ![t.val, 3] ∧ win0_4.index t = ![t.val, 4] ∧ win0_5.index t = ![t.val, 5] ∧ win0_6.index t = ![0, 0] ∧ win0_7.index t = ![0, 0] ∧ win0_8.index t = ![0, 0] ∧ win0_9.index t = ![t.val, 0] :=
  (by decide +kernel : ∀ t : Fin grid0.N, _)

/-- The block of gate 0's logits at a grid point. -/
theorem gate0 (m : (ℓ : Loc nD τ sig) → Buf (Elt Ideal) ℓ) (c : Dev nD) (t : Fin cfg0.N) (x : S128x1024.Idx) :
    X0_3 m c t x = m ((c.tc : Thread nD τ).loc main_arg3)
      (ix2 ⟨t.val * 128 + (x 0).val, by have := t.isLt; have := (x 0).isLt; have : cfg0.N = 32 := rfl; simp at *; omega⟩ ⟨3072 + (x 1).val, by have := (x 1).isLt; simp at *; omega⟩) := by
  unfold X0_3 Pipeline.Window.fill
  rw [dif_pos (moved0_3 t x)]
  blk_ext [iblk, V, places t]

/-- The block of gate 1's logits at a grid point. -/
theorem gate1 (m : (ℓ : Loc nD τ sig) → Buf (Elt Ideal) ℓ) (c : Dev nD) (t : Fin cfg0.N) (x : S128x1024.Idx) :
    X0_4 m c t x = m ((c.tc : Thread nD τ).loc main_arg3)
      (ix2 ⟨t.val * 128 + (x 0).val, by have := t.isLt; have := (x 0).isLt; have : cfg0.N = 32 := rfl; simp at *; omega⟩ ⟨4096 + (x 1).val, by have := (x 1).isLt; simp at *; omega⟩) := by
  unfold X0_4 Pipeline.Window.fill
  rw [dif_pos (moved0_4 t x)]
  blk_ext [iblk, V, places t]

/-- The block of gate 2's logits at a grid point. -/
theorem gate2 (m : (ℓ : Loc nD τ sig) → Buf (Elt Ideal) ℓ) (c : Dev nD) (t : Fin cfg0.N) (x : S128x1024.Idx) :
    X0_5 m c t x = m ((c.tc : Thread nD τ).loc main_arg3)
      (ix2 ⟨t.val * 128 + (x 0).val, by have := t.isLt; have := (x 0).isLt; have : cfg0.N = 32 := rfl; simp at *; omega⟩ ⟨5120 + (x 1).val, by have := (x 1).isLt; simp at *; omega⟩) := by
  unfold X0_5 Pipeline.Window.fill
  rw [dif_pos (moved0_5 t x)]
  blk_ext [iblk, V, places t]

set_option maxHeartbeats 1000000 in
theorem value : Cert.algebraic_MergeIdeal_MergeRefIdeal := fun m g m' g' _ hm => by
  refine ⟨_, ?_, Cert.MergeRefIdeal.Value.run m' g'⟩
  refine (θ_run _ _ _).mono (fun r h c => ?_) (run_blocks m g)
  obtain ⟨h9, ha⟩ := h c
  rw [(hm c).1, (hm c).2.1, (hm c).2.2.1, (hm c).2.2.2.1, (hm c).2.2.2.2]
  refine ⟨h9.trans ?_, ha⟩
  · refine (dats m 0 c).arrAt_eq_of_covers 9 _ (by decide +kernel) fun t _ y => ?_
    blk_simp
    rw [after0_9]
    unfold outsAt0
    frame_out
    unfold_payloads
    pointwise
    refine Eq.trans ?_ (Fin.sum_univ_three (M := EReal) _).symm
    simp only [Ideal.logistic, gate0, gate1, gate2]
    refine congrArg₂ (α := EReal) (β := EReal) (· + ·) (congrArg₂ (α := EReal) (β := EReal) (· + ·) ?_ ?_) ?_
    · rw [dif_pos (by decide)]
      blk_point [iblk, V, places t]
    · rw [dif_neg (by decide), dif_pos (by decide)]
      blk_point [iblk, V, places t]
    · rw [dif_neg (by decide), dif_neg (by decide)]
      blk_point [iblk, V, places t]

end Cert.MergeIdeal.Value

end
-- ==== Proof.Elementwise.Norm.lean ====
/- The layer norms and their gradients: the value claims. -/
module

public import proofs.«01_k».proof.Defs
public import Idealize.ShloMosaic.Lib.Pointwise
public import Idealize.ShloMosaic.Lib.Pipeline.ValueKit
public import proofs.«01_k».proof.Proof.Gen.NormBwdIdeal.Value
public import proofs.«01_k».proof.Proof.Gen.NormBwdRefIdeal.Run
public import proofs.«01_k».proof.Proof.Gen.NormIdeal.Value
public import proofs.«01_k».proof.Proof.Gen.NormRefIdeal.Run

@[expose] public section

set_option maxRecDepth 16384

noncomputable section

open Idealize.ShloMosaic Idealize.ShloMosaic.TcCoe Idealize.SL.Sem Idealize.ShloMosaic.Tactic

/-! ## The norm -/

namespace Cert.NormIdeal.Value

open Cert.NormIdeal Cert.NormIdeal.Gen

theorem places : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem value : Cert.algebraic_NormIdeal_NormRefIdeal := fun m g m' g' _ hm => by
  refine ⟨_, _, ?_, Cert.NormRefIdeal.Value.run m' g'⟩
  refine (θ_run _ _ _).mono (fun r h c => ?_) (run_blocks m g)
  obtain ⟨h4, h5, ha⟩ := h c
  rw [(hm c).1, (hm c).2.1, (hm c).2.2.1, (hm c).2.2.2]
  refine ⟨h4.trans ?_, h5.trans ?_, ha⟩
  · refine (dats m 0 c).arrAt_eq_of_covers 4 _ (by decide +kernel) fun t _ y => ?_
    blk_simp
    rw [after0_4]
    unfold out0_4
    frame_out
    unfold_payloads
    pointwise
    blk_point [iblk, V, places t]
  · refine (dats m 0 c).arrAt_eq_of_covers 5 _ (by decide +kernel) fun t _ y => ?_
    blk_simp
    rw [after0_5]
    unfold out0_5
    frame_out
    unfold_payloads
    pointwise
    blk_point [iblk, V, places t]

end Cert.NormIdeal.Value

/-! ## Its gradients -/

namespace Cert.NormBwdIdeal.Value

open Cert.NormBwdIdeal Cert.NormBwdIdeal.Gen

theorem places : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, _)

set_option maxHeartbeats 8000000 in
theorem value : Cert.algebraic_NormBwdIdeal_NormBwdRefIdeal := fun m g m' g' _ hm => by
  refine ⟨_, _, _, _, ?_, Cert.NormBwdRefIdeal.Value.run m' g'⟩
  refine (θ_run _ _ _).mono (fun r h c => ?_) (run_blocks m g)
  obtain ⟨h5, h6, h7, h8, ha⟩ := h c
  simp only [Cert.NormBwdRefIdeal.Value.res_main_v68, Cert.NormBwdRefIdeal.Value.res_main_v67]
  rw [(hm c).1, (hm c).2.1, (hm c).2.2.1, (hm c).2.2.2.2]
  refine ⟨h5.trans ?_, h6.trans ?_, h7.trans ?_, h8.trans ?_, ha⟩
  · refine (dats m 0 c).arrAt_eq_of_covers 5 _ (by decide +kernel) fun t _ y => ?_
    blk_simp
    rw [after0_5]
    by_cases h0 : t.val % 16 = 0 <;> [rw [outsAt0_A m c t h0]; rw [outsAt0_B m c t h0]] <;>
      (frame_out; unfold_payloads; pointwise; simp only [zero_sub]; blk_point [iblk, V, places t])
  · refine (dats m 0 c).arrAt_eq_of_covers 6 _ (by decide +kernel) fun t _ y => ?_
    blk_simp
    rw [after0_6]
    by_cases h0 : t.val % 16 = 0 <;> [rw [outsAt0_A m c t h0]; rw [outsAt0_B m c t h0]] <;>
      (frame_out; unfold_payloads; pointwise; simp only [zero_sub]; blk_point [iblk, V, places t])
  · refine (dats m 0 c).arrAt_eq_of_covers 7 _ (by decide +kernel) fun t hf y => ?_
    blk_simp
    rw [after0_7, Pipeline.eq_sum_fin_of_reset_step_apply_last (fun n h => (outsAt0 m c n h).2.2.1) 16 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_7 t).mp hf; have : cfg0.N = 16 := N_0; omega) _, zero_add]
    pointwise
    refine Eq.trans ?_ (Fin.sum_univ_one (M := EReal) _).symm
    refine Fin.sum_mul_add_congr fun s k hl => ?_
    blk_point [iblk, V, places s, places t]
  · refine (dats m 0 c).arrAt_eq_of_covers 8 _ (by decide +kernel) fun t hf y => ?_
    blk_simp
    rw [after0_8, Pipeline.eq_sum_fin_of_reset_step_apply_last (fun n h => (outsAt0 m c n h).2.2.2) 16 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_8 t).mp hf; have : cfg0.N = 16 := N_0; omega) _, zero_add]
    pointwise
    refine Eq.trans ?_ (Fin.sum_univ_one (M := EReal) _).symm
    refine Fin.sum_mul_add_congr fun s k hl => ?_
    blk_point [iblk, V, places s, places t]

end Cert.NormBwdIdeal.Value

end
-- ==== Proof.Elementwise.Shift.lean ====
/- The value the rows shifted in are filled with, for the three calls of the convolution. -/
module

public import Idealize.ShloMosaic.Lib.Pointwise

@[expose] public section

set_option maxRecDepth 16384

noncomputable section

open Idealize.ShloMosaic Idealize.ShloMosaic.TcCoe Idealize.SL.Sem Idealize.ShloMosaic.Tactic

namespace Cert.Conv

/-- The whole number 0 converted to a float is 0. -/
theorem zero32 : (FloatOps.sitofp (F := Ideal) FTy.f32 (0#32) : EReal) = 0 := by
  show (((0#32).toInt : ℝ) : EReal) = 0
  simp

end Cert.Conv

end
-- ==== Proof.Elementwise.ConvDx.lean ====
/- The gradient of the convolution at its input: the value claim. -/
module

public import proofs.«01_k».proof.Defs
public import Idealize.ShloMosaic.Lib.Pointwise
public import Idealize.ShloMosaic.Lib.Pipeline.ValueKit
public import Idealize.ShloMosaic.Lib.StableHlo.RunRead
public import proofs.«01_k».proof.Proof.Gen.ConvDxIdeal.Value
public import proofs.«01_k».proof.Proof.Gen.ConvDxRefIdeal.Run
public import proofs.«01_k».proof.Proof.Elementwise.Shift

@[expose] public section

set_option maxRecDepth 16384

noncomputable section

open Idealize.ShloMosaic Idealize.ShloMosaic.TcCoe Idealize.SL.Sem Idealize.ShloMosaic.Tactic Cert.Conv

namespace Cert.ConvDxIdeal.Value

open Cert.ConvDxIdeal Cert.ConvDxIdeal.Gen

theorem places : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

/-- The gradient one row early, as the first lines of the program prepare it. -/
theorem host1 (m : (ℓ : Loc nD τ sig) → Buf (Elt Ideal) ℓ) (c : Dev nD) (x : S4096x512.Idx) :
    V m c main_v13 x = if h : (x 0).val + 1 < 4096 then m ((c.tc : Thread nD τ).loc main_arg0)
      (ix2 ⟨(x 0).val + 1, h⟩ (x 1)) else (0 : EReal) := by
  after_reads_simp
  simp only [StableHlo.TRef.toBuf, StableHlo.TRef.ofBuf, cast_eq]
  pointwise
  by_cases h : (x 0).val + 1 < 4096
  · rw [dif_pos h, dif_pos (by omega)]
    blk_ext []
  · rw [dif_neg h, dif_neg (by omega)]
    exact zero32

/-- Its block at a grid point. -/
theorem early1 (m : (ℓ : Loc nD τ sig) → Buf (Elt Ideal) ℓ) (c : Dev nD) (t : Fin cfg0.N) (x : S256x512.Idx) :
    iblk m c 1 t x = if h : t.val * 256 + (x 0).val + 1 < 4096 then m ((c.tc : Thread nD τ).loc main_arg0)
      (ix2 ⟨t.val * 256 + (x 0).val + 1, h⟩ (x 1)) else (0 : EReal) :=
  Eq.trans (b := V m c main_v13 (ix2 ⟨t.val * 256 + (x 0).val, by have := t.isLt; have := (x 0).isLt; have : cfg0.N = 16 := rfl; simp at *; omega⟩ ⟨(x 1).val, (x 1).isLt⟩))
    (by blk_ext [iblk, places t]) (host1 m c _)

/-- The gradient two rows early, as the first lines of the program prepare it. -/
theorem host2 (m : (ℓ : Loc nD τ sig) → Buf (Elt Ideal) ℓ) (c : Dev nD) (x : S4096x512.Idx) :
    V m c main_v15 x = if h : (x 0).val + 2 < 4096 then m ((c.tc : Thread nD τ).loc main_arg0)
      (ix2 ⟨(x 0).val + 2, h⟩ (x 1)) else (0 : EReal) := by
  after_reads_simp
  simp only [StableHlo.TRef.toBuf, StableHlo.TRef.ofBuf, cast_eq]
  pointwise
  by_cases h : (x 0).val + 2 < 4096
  · rw [dif_pos h, dif_pos (by omega)]
    blk_ext []
  · rw [dif_neg h, dif_neg (by omega)]
    exact zero32

/-- Its block at a grid point. -/
theorem early2 (m : (ℓ : Loc nD τ sig) → Buf (Elt Ideal) ℓ) (c : Dev nD) (t : Fin cfg0.N) (x : S256x512.Idx) :
    iblk m c 2 t x = if h : t.val * 256 + (x 0).val + 2 < 4096 then m ((c.tc : Thread nD τ).loc main_arg0)
      (ix2 ⟨t.val * 256 + (x 0).val + 2, h⟩ (x 1)) else (0 : EReal) :=
  Eq.trans (b := V m c main_v15 (ix2 ⟨t.val * 256 + (x 0).val, by have := t.isLt; have := (x 0).isLt; have : cfg0.N = 16 := rfl; simp at *; omega⟩ ⟨(x 1).val, (x 1).isLt⟩))
    (by blk_ext [iblk, places t]) (host2 m c _)

/-- The gradient three rows early, as the first lines of the program prepare it. -/
theorem host3 (m : (ℓ : Loc nD τ sig) → Buf (Elt Ideal) ℓ) (c : Dev nD) (x : S4096x512.Idx) :
    V m c main_v17 x = if h : (x 0).val + 3 < 4096 then m ((c.tc : Thread nD τ).loc main_arg0)
      (ix2 ⟨(x 0).val + 3, h⟩ (x 1)) else (0 : EReal) := by
  after_reads_simp
  simp only [StableHlo.TRef.toBuf, StableHlo.TRef.ofBuf, cast_eq]
  pointwise
  by_cases h : (x 0).val + 3 < 4096
  · rw [dif_pos h, dif_pos (by omega)]
    blk_ext []
  · rw [dif_neg h, dif_neg (by omega)]
    exact zero32

/-- Its block at a grid point. -/
theorem early3 (m : (ℓ : Loc nD τ sig) → Buf (Elt Ideal) ℓ) (c : Dev nD) (t : Fin cfg0.N) (x : S256x512.Idx) :
    iblk m c 3 t x = if h : t.val * 256 + (x 0).val + 3 < 4096 then m ((c.tc : Thread nD τ).loc main_arg0)
      (ix2 ⟨t.val * 256 + (x 0).val + 3, h⟩ (x 1)) else (0 : EReal) :=
  Eq.trans (b := V m c main_v17 (ix2 ⟨t.val * 256 + (x 0).val, by have := t.isLt; have := (x 0).isLt; have : cfg0.N = 16 := rfl; simp at *; omega⟩ ⟨(x 1).val, (x 1).isLt⟩))
    (by blk_ext [iblk, places t]) (host3 m c _)

/-- Tap 3 of the weights, as the first lines of the program prepare it. -/
theorem weight3 (m : (ℓ : Loc nD τ sig) → Buf (Elt Ideal) ℓ) (c : Dev nD) (t : Fin cfg0.N) (x : S1x512.Idx) :
    iblk m c 4 t x = m ((c.tc : Thread nD τ).loc main_arg1) (ix2 3 (x 1)) := by
  have e : ∀ z : S1x512.Idx, V m c main_v2 z = m ((c.tc : Thread nD τ).loc main_arg1) (ix2 3 (z 1)) := fun z => by
    after_reads_simp
    pointwise
    blk_ext []
  exact Eq.trans (b := V m c main_v2 (ix2 0 (x 1))) (by blk_ext [iblk, places t]) (e _)

/-- Tap 2 of the weights, as the first lines of the program prepare it. -/
theorem weight2 (m : (ℓ : Loc nD τ sig) → Buf (Elt Ideal) ℓ) (c : Dev nD) (t : Fin cfg0.N) (x : S1x512.Idx) :
    iblk m c 5 t x = m ((c.tc : Thread nD τ).loc main_arg1) (ix2 2 (x 1)) := by
  have e : ∀ z : S1x512.Idx, V m c main_v5 z = m ((c.tc : Thread nD τ).loc main_arg1) (ix2 2 (z 1)) := fun z => by
    after_reads_simp
    pointwise
    blk_ext []
  exact Eq.trans (b := V m c main_v5 (ix2 0 (x 1))) (by blk_ext [iblk, places t]) (e _)

/-- Tap 1 of the weights, as the first lines of the program prepare it. -/
theorem weight1 (m : (ℓ : Loc nD τ sig) → Buf (Elt Ideal) ℓ) (c : Dev nD) (t : Fin cfg0.N) (x : S1x512.Idx) :
    iblk m c 6 t x = m ((c.tc : Thread nD τ).loc main_arg1) (ix2 1 (x 1)) := by
  have e : ∀ z : S1x512.Idx, V m c main_v8 z = m ((c.tc : Thread nD τ).loc main_arg1) (ix2 1 (z 1)) := fun z => by
    after_reads_simp
    pointwise
    blk_ext []
  exact Eq.trans (b := V m c main_v8 (ix2 0 (x 1))) (by blk_ext [iblk, places t]) (e _)

/-- Tap 0 of the weights, as the first lines of the program prepare it. -/
theorem weight0 (m : (ℓ : Loc nD τ sig) → Buf (Elt Ideal) ℓ) (c : Dev nD) (t : Fin cfg0.N) (x : S1x512.Idx) :
    iblk m c 7 t x = m ((c.tc : Thread nD τ).loc main_arg1) (ix2 0 (x 1)) := by
  have e : ∀ z : S1x512.Idx, V m c main_v11 z = m ((c.tc : Thread nD τ).loc main_arg1) (ix2 0 (z 1)) := fun z => by
    after_reads_simp
    pointwise
    blk_ext []
  exact Eq.trans (b := V m c main_v11 (ix2 0 (x 1))) (by blk_ext [iblk, places t]) (e _)

set_option maxHeartbeats 1000000 in
theorem value : Cert.algebraic_ConvDxIdeal_ConvDxRefIdeal := fun m g m' g' _ hm => by
  refine ⟨_, ?_, Cert.ConvDxRefIdeal.Value.run m' g'⟩
  refine (θ_run _ _ _).mono (fun r h c => ?_) (run_blocks m g)
  obtain ⟨h8, ha⟩ := h c
  rw [(hm c).1, (hm c).2]
  refine ⟨h8.trans ?_, ha⟩
  · refine (dats m 0 c).arrAt_eq_of_covers 8 _ (by decide +kernel) fun t _ y => ?_
    blk_simp
    rw [after0_8]
    unfold out0_8
    frame_out
    unfold_payloads
    pointwise
    have e : (((View.whole main_v18).slice (win0_8.rect t)).emb y 0).val = t.val * 256 + (y 0).val := by
      blk_point [places t]
    refine congrArg₂ (α := EReal) (β := EReal) (· + ·) (congrArg₂ (α := EReal) (β := EReal) (· + ·)
      (congrArg₂ (α := EReal) (β := EReal) (· + ·) ?_ ?_) ?_) ?_
    · rw [weight3]
      blk_point [iblk, V, places t]
    · rw [weight2, early1]
      by_cases h : t.val * 256 + (y 0).val + 1 < 4096
      · rw [dif_pos h, dif_pos (by omega)]
        blk_point [places t]
      · rw [dif_neg h, dif_neg (by omega)]
        exact mul_zero (M₀ := EReal) _
    · rw [weight1, early2]
      by_cases h : t.val * 256 + (y 0).val + 2 < 4096
      · rw [dif_pos h, dif_pos (by omega)]
        blk_point [places t]
      · rw [dif_neg h, dif_neg (by omega)]
        exact mul_zero (M₀ := EReal) _
    · rw [weight0, early3]
      by_cases h : t.val * 256 + (y 0).val + 3 < 4096
      · rw [dif_pos h, dif_pos (by omega)]
        blk_point [places t]
      · rw [dif_neg h, dif_neg (by omega)]
        exact mul_zero (M₀ := EReal) _

end Cert.ConvDxIdeal.Value

end
-- ==== Proof.Elementwise.ConvDw.lean ====
/- The gradients of the convolution at its weights and bias: the value claim. -/
module

public import proofs.«01_k».proof.Defs
public import Idealize.ShloMosaic.Lib.Pointwise
public import Idealize.ShloMosaic.Lib.Pipeline.ValueKit
public import Idealize.ShloMosaic.Lib.StableHlo.RunRead
public import proofs.«01_k».proof.Proof.Gen.ConvDwIdeal.Value
public import proofs.«01_k».proof.Proof.Gen.ConvDwRefIdeal.Run
public import proofs.«01_k».proof.Proof.Elementwise.Shift

@[expose] public section

set_option maxRecDepth 16384

noncomputable section

open Idealize.ShloMosaic Idealize.ShloMosaic.TcCoe Idealize.SL.Sem Idealize.ShloMosaic.Tactic Cert.Conv

namespace Cert.ConvDwIdeal.Value

open Cert.ConvDwIdeal Cert.ConvDwIdeal.Gen

theorem places : ∀ t : Fin cfg0.N, win0_0.index t = ![t.val, 1] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

/-- The block of the branch's input at a grid point. -/
theorem input (m : (ℓ : Loc nD τ sig) → Buf (Elt Ideal) ℓ) (c : Dev nD) (t : Fin cfg0.N) (x : S256x512.Idx) :
    X0_0 m c t x = m ((c.tc : Thread nD τ).loc main_arg0)
      (ix2 ⟨t.val * 256 + (x 0).val, by have := t.isLt; have := (x 0).isLt; have : cfg0.N = 16 := rfl; simp at *; omega⟩ ⟨512 + (x 1).val, by have := (x 1).isLt; simp at *; omega⟩) := by
  unfold X0_0 Pipeline.Window.fill
  rw [dif_pos (moved0_0 t x)]
  blk_ext [iblk, V, places t]

/-- The input one row late, as the first lines of the program prepare it. -/
theorem host1 (m : (ℓ : Loc nD τ sig) → Buf (Elt Ideal) ℓ) (c : Dev nD) (x : S4096x512.Idx) :
    V m c main_v14 x = if h : 1 ≤ (x 0).val then m ((c.tc : Thread nD τ).loc main_arg0)
      (ix2 ⟨(x 0).val - 1, by have := (x 0).isLt; simp at *; omega⟩ ⟨512 + (x 1).val, by have := (x 1).isLt; simp at *; omega⟩) else (0 : EReal) := by
  after_reads_simp
  simp only [StableHlo.TRef.toBuf, StableHlo.TRef.ofBuf, cast_eq]
  pointwise
  have hx : (x 0).val < 4096 := (x 0).isLt
  by_cases h : 1 ≤ (x 0).val
  · rw [dif_pos h, dif_pos (by omega)]
  · rw [dif_neg h, dif_neg (by omega)]
    exact zero32

/-- Its block at a grid point. -/
theorem late1 (m : (ℓ : Loc nD τ sig) → Buf (Elt Ideal) ℓ) (c : Dev nD) (t : Fin cfg0.N) (x : S256x512.Idx) :
    iblk m c 1 t x = if h : 1 ≤ t.val * 256 + (x 0).val then m ((c.tc : Thread nD τ).loc main_arg0)
      (ix2 ⟨t.val * 256 + (x 0).val - 1, by have := t.isLt; have := (x 0).isLt; have : cfg0.N = 16 := rfl; simp at *; omega⟩
        ⟨512 + (x 1).val, by have := (x 1).isLt; simp at *; omega⟩) else (0 : EReal) :=
  Eq.trans (b := V m c main_v14 (ix2 ⟨t.val * 256 + (x 0).val, by have := t.isLt; have := (x 0).isLt; have : cfg0.N = 16 := rfl; simp at *; omega⟩ ⟨(x 1).val, (x 1).isLt⟩))
    (by blk_ext [iblk, places t]) (host1 m c _)

/-- The input two rows late, as the first lines of the program prepare it. -/
theorem host2 (m : (ℓ : Loc nD τ sig) → Buf (Elt Ideal) ℓ) (c : Dev nD) (x : S4096x512.Idx) :
    V m c main_v16 x = if h : 2 ≤ (x 0).val then m ((c.tc : Thread nD τ).loc main_arg0)
      (ix2 ⟨(x 0).val - 2, by have := (x 0).isLt; simp at *; omega⟩ ⟨512 + (x 1).val, by have := (x 1).isLt; simp at *; omega⟩) else (0 : EReal) := by
  after_reads_simp
  simp only [StableHlo.TRef.toBuf, StableHlo.TRef.ofBuf, cast_eq]
  pointwise
  have hx : (x 0).val < 4096 := (x 0).isLt
  by_cases h : 2 ≤ (x 0).val
  · rw [dif_pos h, dif_pos (by omega)]
  · rw [dif_neg h, dif_neg (by omega)]
    exact zero32

/-- Its block at a grid point. -/
theorem late2 (m : (ℓ : Loc nD τ sig) → Buf (Elt Ideal) ℓ) (c : Dev nD) (t : Fin cfg0.N) (x : S256x512.Idx) :
    iblk m c 2 t x = if h : 2 ≤ t.val * 256 + (x 0).val then m ((c.tc : Thread nD τ).loc main_arg0)
      (ix2 ⟨t.val * 256 + (x 0).val - 2, by have := t.isLt; have := (x 0).isLt; have : cfg0.N = 16 := rfl; simp at *; omega⟩
        ⟨512 + (x 1).val, by have := (x 1).isLt; simp at *; omega⟩) else (0 : EReal) :=
  Eq.trans (b := V m c main_v16 (ix2 ⟨t.val * 256 + (x 0).val, by have := t.isLt; have := (x 0).isLt; have : cfg0.N = 16 := rfl; simp at *; omega⟩ ⟨(x 1).val, (x 1).isLt⟩))
    (by blk_ext [iblk, places t]) (host2 m c _)

/-- The input three rows late, as the first lines of the program prepare it. -/
theorem host3 (m : (ℓ : Loc nD τ sig) → Buf (Elt Ideal) ℓ) (c : Dev nD) (x : S4096x512.Idx) :
    V m c main_v18 x = if h : 3 ≤ (x 0).val then m ((c.tc : Thread nD τ).loc main_arg0)
      (ix2 ⟨(x 0).val - 3, by have := (x 0).isLt; simp at *; omega⟩ ⟨512 + (x 1).val, by have := (x 1).isLt; simp at *; omega⟩) else (0 : EReal) := by
  after_reads_simp
  simp only [StableHlo.TRef.toBuf, StableHlo.TRef.ofBuf, cast_eq]
  pointwise
  have hx : (x 0).val < 4096 := (x 0).isLt
  by_cases h : 3 ≤ (x 0).val
  · rw [dif_pos h, dif_pos (by omega)]
  · rw [dif_neg h, dif_neg (by omega)]
    exact zero32

/-- Its block at a grid point. -/
theorem late3 (m : (ℓ : Loc nD τ sig) → Buf (Elt Ideal) ℓ) (c : Dev nD) (t : Fin cfg0.N) (x : S256x512.Idx) :
    iblk m c 3 t x = if h : 3 ≤ t.val * 256 + (x 0).val then m ((c.tc : Thread nD τ).loc main_arg0)
      (ix2 ⟨t.val * 256 + (x 0).val - 3, by have := t.isLt; have := (x 0).isLt; have : cfg0.N = 16 := rfl; simp at *; omega⟩
        ⟨512 + (x 1).val, by have := (x 1).isLt; simp at *; omega⟩) else (0 : EReal) :=
  Eq.trans (b := V m c main_v18 (ix2 ⟨t.val * 256 + (x 0).val, by have := t.isLt; have := (x 0).isLt; have : cfg0.N = 16 := rfl; simp at *; omega⟩ ⟨(x 1).val, (x 1).isLt⟩))
    (by blk_ext [iblk, places t]) (host3 m c _)

set_option maxHeartbeats 1000000 in
theorem value : Cert.algebraic_ConvDwIdeal_ConvDwRefIdeal := fun m g m' g' _ hm => by
  refine ⟨_, _, _, _, _, ?_, Cert.ConvDwRefIdeal.Value.run m' g'⟩
  refine (θ_run _ _ _).mono (fun r h c => ?_) (run_blocks m g)
  obtain ⟨h10, h11, h12, h13, h14, ha⟩ := h c
  rw [(hm c).1, (hm c).2.2.2]
  refine ⟨h10.trans ?_, h11.trans ?_, h12.trans ?_, h13.trans ?_, h14.trans ?_, ha⟩
  · refine (dats m 0 c).arrAt_eq_of_covers 10 _ (by decide +kernel) fun t hf y => ?_
    blk_simp
    rw [after0_10, Pipeline.eq_sum_fin_of_reset_step_apply_last (fun n h => (outsAt0 m c n h).1) 16 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_10 t).mp hf; have : cfg0.N = 16 := N_0; omega) _, zero_add]
    pointwise
    refine Eq.trans ?_ (Fin.sum_univ_one (M := EReal) _).symm
    refine Fin.sum_mul_add_congr fun s k hl => ?_
    simp only [input]
    blk_point [iblk, V, places s, places t]
  · refine (dats m 0 c).arrAt_eq_of_covers 11 _ (by decide +kernel) fun t hf y => ?_
    blk_simp
    rw [after0_11, Pipeline.eq_sum_fin_of_reset_step_apply_last (fun n h => (outsAt0 m c n h).2.1) 16 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_11 t).mp hf; have : cfg0.N = 16 := N_0; omega) _, zero_add]
    pointwise
    refine Eq.trans ?_ (Fin.sum_univ_one (M := EReal) _).symm
    refine Fin.sum_mul_add_congr fun s k hl => ?_
    refine congrArg₂ (α := EReal) (β := EReal) (· * ·) (by blk_point [iblk, V, places s, places t]) ?_
    rw [late1]
    by_cases h : 1 ≤ s.val * 256 + k.val
    · rw [dif_pos (by simpa using h), dif_neg (by simp only; omega)]
      blk_point [places t]
    · rw [dif_neg (by simpa using h), dif_pos (by simp only; omega)]
  · refine (dats m 0 c).arrAt_eq_of_covers 12 _ (by decide +kernel) fun t hf y => ?_
    blk_simp
    rw [after0_12, Pipeline.eq_sum_fin_of_reset_step_apply_last (fun n h => (outsAt0 m c n h).2.2.1) 16 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_12 t).mp hf; have : cfg0.N = 16 := N_0; omega) _, zero_add]
    pointwise
    refine Eq.trans ?_ (Fin.sum_univ_one (M := EReal) _).symm
    refine Fin.sum_mul_add_congr fun s k hl => ?_
    refine congrArg₂ (α := EReal) (β := EReal) (· * ·) (by blk_point [iblk, V, places s, places t]) ?_
    rw [late2]
    by_cases h : 2 ≤ s.val * 256 + k.val
    · rw [dif_pos (by simpa using h), dif_neg (by simp only; omega)]
      blk_point [places t]
    · rw [dif_neg (by simpa using h), dif_pos (by simp only; omega)]
  · refine (dats m 0 c).arrAt_eq_of_covers 13 _ (by decide +kernel) fun t hf y => ?_
    blk_simp
    rw [after0_13, Pipeline.eq_sum_fin_of_reset_step_apply_last (fun n h => (outsAt0 m c n h).2.2.2.1) 16 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_13 t).mp hf; have : cfg0.N = 16 := N_0; omega) _, zero_add]
    pointwise
    refine Eq.trans ?_ (Fin.sum_univ_one (M := EReal) _).symm
    refine Eq.trans (b := ∑ x : Fin 4096, HMul.hMul (α := EReal) (β := EReal) (γ := EReal)
      (m ((c.tc : Thread nD τ).loc main_arg3) (ix2 x (((View.whole main_v20_3).slice (win0_13.rect t)).emb y 1)))
      (if h : 3 ≤ x.val then m ((c.tc : Thread nD τ).loc main_arg0) (ix2 ⟨x.val - 3, by have := x.isLt; omega⟩
        ⟨512 + (((View.whole main_v20_3).slice (win0_13.rect t)).emb y 1).val, by have := (((View.whole main_v20_3).slice (win0_13.rect t)).emb y 1).isLt; simp at *; omega⟩) else (0 : EReal))) ?_ ?_
    rotate_left
    · refine (Fin.sum_univ_add (M := EReal) (a := 3) (b := 4093) _).trans (congrArg₂ (α := EReal) (β := EReal) (· + ·)
        (Finset.sum_congr rfl fun x _ => ?_) (Finset.sum_congr rfl fun x _ => ?_))
      · rw [dif_neg (by have := x.isLt; simp)]
        rfl
      · rw [dif_pos (by simp)]
        exact congrArg₂ (α := EReal) (β := EReal) (· * ·) rfl (congrArg _ (congrArg₂ ix2 (Fin.ext (by simp)) rfl))
    refine Fin.sum_mul_add_congr fun s k hl => ?_
    refine congrArg₂ (α := EReal) (β := EReal) (· * ·) (by blk_point [iblk, V, places s, places t]) ?_
    rw [late3]
    by_cases h : 3 ≤ s.val * 256 + k.val
    · rw [dif_pos (by simpa using h), dif_pos (by simpa using h)]
      blk_point [places t]
    · rw [dif_neg (by simpa using h), dif_neg (by simpa using h)]
  · refine (dats m 0 c).arrAt_eq_of_covers 14 _ (by decide +kernel) fun t hf y => ?_
    blk_simp
    rw [after0_14, Pipeline.eq_sum_fin_of_reset_step_apply_last (fun n h => (outsAt0 m c n h).2.2.2.2) 16 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_14 t).mp hf; have : cfg0.N = 16 := N_0; omega) _, zero_add]
    pointwise
    refine Eq.trans ?_ (Fin.sum_univ_one (M := EReal) _).symm
    refine Fin.sum_mul_add_congr fun s k hl => ?_
    blk_point [iblk, V, places s, places t]

end Cert.ConvDwIdeal.Value

end
-- ==== Proof.Elementwise.Conv.lean ====
/- The convolution: the value claim. -/
module

public import proofs.«01_k».proof.Defs
public import Idealize.ShloMosaic.Lib.Pointwise
public import Idealize.ShloMosaic.Lib.Pipeline.ValueKit
public import Idealize.ShloMosaic.Lib.StableHlo.RunRead
public import proofs.«01_k».proof.Proof.Gen.ConvIdeal.Value
public import proofs.«01_k».proof.Proof.Gen.ConvRefIdeal.Run
public import proofs.«01_k».proof.Proof.Elementwise.Shift

@[expose] public section

set_option maxRecDepth 16384

noncomputable section

open Idealize.ShloMosaic Idealize.ShloMosaic.TcCoe Idealize.SL.Sem Idealize.ShloMosaic.Tactic Cert.Conv

namespace Cert.ConvIdeal.Value

open Cert.ConvIdeal Cert.ConvIdeal.Gen

theorem places : ∀ t : Fin cfg0.N, win0_0.index t = ![t.val, 1] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] :=
  (by decide +kernel : ∀ t : Fin grid0.N, _)

/-- The block of the branch's input at a grid point. -/
theorem input (m : (ℓ : Loc nD τ sig) → Buf (Elt Ideal) ℓ) (c : Dev nD) (t : Fin cfg0.N) (x : S256x512.Idx) :
    X0_0 m c t x = m ((c.tc : Thread nD τ).loc main_arg0)
      (ix2 ⟨t.val * 256 + (x 0).val, by have := t.isLt; have := (x 0).isLt; have : cfg0.N = 16 := rfl; simp at *; omega⟩ ⟨512 + (x 1).val, by have := (x 1).isLt; simp at *; omega⟩) := by
  unfold X0_0 Pipeline.Window.fill
  rw [dif_pos (moved0_0 t x)]
  blk_ext [iblk, V, places t]

/-- The input one row late, as the first lines of the program prepare it. -/
theorem host1 (m : (ℓ : Loc nD τ sig) → Buf (Elt Ideal) ℓ) (c : Dev nD) (x : S4096x512.Idx) :
    V m c main_v14 x = if h : 1 ≤ (x 0).val then m ((c.tc : Thread nD τ).loc main_arg0)
      (ix2 ⟨(x 0).val - 1, by have := (x 0).isLt; simp at *; omega⟩ ⟨512 + (x 1).val, by have := (x 1).isLt; simp at *; omega⟩) else (0 : EReal) := by
  after_reads_simp
  simp only [StableHlo.TRef.toBuf, StableHlo.TRef.ofBuf, cast_eq]
  pointwise
  have hx : (x 0).val < 4096 := (x 0).isLt
  by_cases h : 1 ≤ (x 0).val
  · rw [dif_pos h, dif_pos (by omega)]
  · rw [dif_neg h, dif_neg (by omega)]
    exact zero32

/-- Its block at a grid point. -/
theorem late1 (m : (ℓ : Loc nD τ sig) → Buf (Elt Ideal) ℓ) (c : Dev nD) (t : Fin cfg0.N) (x : S256x512.Idx) :
    iblk m c 1 t x = if h : 1 ≤ t.val * 256 + (x 0).val then m ((c.tc : Thread nD τ).loc main_arg0)
      (ix2 ⟨t.val * 256 + (x 0).val - 1, by have := t.isLt; have := (x 0).isLt; have : cfg0.N = 16 := rfl; simp at *; omega⟩
        ⟨512 + (x 1).val, by have := (x 1).isLt; simp at *; omega⟩) else (0 : EReal) :=
  Eq.trans (b := V m c main_v14 (ix2 ⟨t.val * 256 + (x 0).val, by have := t.isLt; have := (x 0).isLt; have : cfg0.N = 16 := rfl; simp at *; omega⟩ ⟨(x 1).val, (x 1).isLt⟩))
    (by blk_ext [iblk, places t]) (host1 m c _)

/-- The input two rows late, as the first lines of the program prepare it. -/
theorem host2 (m : (ℓ : Loc nD τ sig) → Buf (Elt Ideal) ℓ) (c : Dev nD) (x : S4096x512.Idx) :
    V m c main_v16 x = if h : 2 ≤ (x 0).val then m ((c.tc : Thread nD τ).loc main_arg0)
      (ix2 ⟨(x 0).val - 2, by have := (x 0).isLt; simp at *; omega⟩ ⟨512 + (x 1).val, by have := (x 1).isLt; simp at *; omega⟩) else (0 : EReal) := by
  after_reads_simp
  simp only [StableHlo.TRef.toBuf, StableHlo.TRef.ofBuf, cast_eq]
  pointwise
  have hx : (x 0).val < 4096 := (x 0).isLt
  by_cases h : 2 ≤ (x 0).val
  · rw [dif_pos h, dif_pos (by omega)]
  · rw [dif_neg h, dif_neg (by omega)]
    exact zero32

/-- Its block at a grid point. -/
theorem late2 (m : (ℓ : Loc nD τ sig) → Buf (Elt Ideal) ℓ) (c : Dev nD) (t : Fin cfg0.N) (x : S256x512.Idx) :
    iblk m c 2 t x = if h : 2 ≤ t.val * 256 + (x 0).val then m ((c.tc : Thread nD τ).loc main_arg0)
      (ix2 ⟨t.val * 256 + (x 0).val - 2, by have := t.isLt; have := (x 0).isLt; have : cfg0.N = 16 := rfl; simp at *; omega⟩
        ⟨512 + (x 1).val, by have := (x 1).isLt; simp at *; omega⟩) else (0 : EReal) :=
  Eq.trans (b := V m c main_v16 (ix2 ⟨t.val * 256 + (x 0).val, by have := t.isLt; have := (x 0).isLt; have : cfg0.N = 16 := rfl; simp at *; omega⟩ ⟨(x 1).val, (x 1).isLt⟩))
    (by blk_ext [iblk, places t]) (host2 m c _)

/-- The input three rows late, as the first lines of the program prepare it. -/
theorem host3 (m : (ℓ : Loc nD τ sig) → Buf (Elt Ideal) ℓ) (c : Dev nD) (x : S4096x512.Idx) :
    V m c main_v18 x = if h : 3 ≤ (x 0).val then m ((c.tc : Thread nD τ).loc main_arg0)
      (ix2 ⟨(x 0).val - 3, by have := (x 0).isLt; simp at *; omega⟩ ⟨512 + (x 1).val, by have := (x 1).isLt; simp at *; omega⟩) else (0 : EReal) := by
  after_reads_simp
  simp only [StableHlo.TRef.toBuf, StableHlo.TRef.ofBuf, cast_eq]
  pointwise
  have hx : (x 0).val < 4096 := (x 0).isLt
  by_cases h : 3 ≤ (x 0).val
  · rw [dif_pos h, dif_pos (by omega)]
  · rw [dif_neg h, dif_neg (by omega)]
    exact zero32

/-- Its block at a grid point. -/
theorem late3 (m : (ℓ : Loc nD τ sig) → Buf (Elt Ideal) ℓ) (c : Dev nD) (t : Fin cfg0.N) (x : S256x512.Idx) :
    iblk m c 3 t x = if h : 3 ≤ t.val * 256 + (x 0).val then m ((c.tc : Thread nD τ).loc main_arg0)
      (ix2 ⟨t.val * 256 + (x 0).val - 3, by have := t.isLt; have := (x 0).isLt; have : cfg0.N = 16 := rfl; simp at *; omega⟩
        ⟨512 + (x 1).val, by have := (x 1).isLt; simp at *; omega⟩) else (0 : EReal) :=
  Eq.trans (b := V m c main_v18 (ix2 ⟨t.val * 256 + (x 0).val, by have := t.isLt; have := (x 0).isLt; have : cfg0.N = 16 := rfl; simp at *; omega⟩ ⟨(x 1).val, (x 1).isLt⟩))
    (by blk_ext [iblk, places t]) (host3 m c _)

/-- Tap 3 of the weights, as the first lines of the program prepare it. -/
theorem weight3 (m : (ℓ : Loc nD τ sig) → Buf (Elt Ideal) ℓ) (c : Dev nD) (t : Fin cfg0.N) (x : S1x512.Idx) :
    iblk m c 4 t x = m ((c.tc : Thread nD τ).loc main_arg1) (ix2 3 (x 1)) := by
  have e : ∀ z : S1x512.Idx, V m c main_v2 z = m ((c.tc : Thread nD τ).loc main_arg1) (ix2 3 (z 1)) := fun z => by
    after_reads_simp
    pointwise
    blk_ext []
  exact Eq.trans (b := V m c main_v2 (ix2 0 (x 1))) (by blk_ext [iblk, places t]) (e _)

/-- Tap 2 of the weights, as the first lines of the program prepare it. -/
theorem weight2 (m : (ℓ : Loc nD τ sig) → Buf (Elt Ideal) ℓ) (c : Dev nD) (t : Fin cfg0.N) (x : S1x512.Idx) :
    iblk m c 5 t x = m ((c.tc : Thread nD τ).loc main_arg1) (ix2 2 (x 1)) := by
  have e : ∀ z : S1x512.Idx, V m c main_v5 z = m ((c.tc : Thread nD τ).loc main_arg1) (ix2 2 (z 1)) := fun z => by
    after_reads_simp
    pointwise
    blk_ext []
  exact Eq.trans (b := V m c main_v5 (ix2 0 (x 1))) (by blk_ext [iblk, places t]) (e _)

/-- Tap 1 of the weights, as the first lines of the program prepare it. -/
theorem weight1 (m : (ℓ : Loc nD τ sig) → Buf (Elt Ideal) ℓ) (c : Dev nD) (t : Fin cfg0.N) (x : S1x512.Idx) :
    iblk m c 6 t x = m ((c.tc : Thread nD τ).loc main_arg1) (ix2 1 (x 1)) := by
  have e : ∀ z : S1x512.Idx, V m c main_v8 z = m ((c.tc : Thread nD τ).loc main_arg1) (ix2 1 (z 1)) := fun z => by
    after_reads_simp
    pointwise
    blk_ext []
  exact Eq.trans (b := V m c main_v8 (ix2 0 (x 1))) (by blk_ext [iblk, places t]) (e _)

/-- Tap 0 of the weights, as the first lines of the program prepare it. -/
theorem weight0 (m : (ℓ : Loc nD τ sig) → Buf (Elt Ideal) ℓ) (c : Dev nD) (t : Fin cfg0.N) (x : S1x512.Idx) :
    iblk m c 7 t x = m ((c.tc : Thread nD τ).loc main_arg1) (ix2 0 (x 1)) := by
  have e : ∀ z : S1x512.Idx, V m c main_v11 z = m ((c.tc : Thread nD τ).loc main_arg1) (ix2 0 (z 1)) := fun z => by
    after_reads_simp
    pointwise
    blk_ext []
  exact Eq.trans (b := V m c main_v11 (ix2 0 (x 1))) (by blk_ext [iblk, places t]) (e _)

/-- The bias, as the first lines of the program prepare it. -/
theorem bias (m : (ℓ : Loc nD τ sig) → Buf (Elt Ideal) ℓ) (c : Dev nD) (t : Fin cfg0.N) (x : S1x512.Idx) :
    iblk m c 8 t x = m ((c.tc : Thread nD τ).loc main_arg2) (ix1 (x 1)) := by
  have e : ∀ z : S1x512.Idx, V m c main_v19 z = m ((c.tc : Thread nD τ).loc main_arg2) (ix1 (z 1)) := fun z => by
    after_reads_simp
    pointwise
    blk_ext []
  exact Eq.trans (b := V m c main_v19 (ix2 0 (x 1))) (by blk_ext [iblk, places t]) (e _)

set_option maxHeartbeats 1000000 in
/-- The bias and the four taps at one place of a block, added in the program's order and in the reference's. -/
theorem taps (m : (ℓ : Loc nD τ sig) → Buf (Elt Ideal) ℓ) (c : Dev nD) (t : Fin cfg0.N) (y : S256x512.Idx) (u : S4096x512.Idx)
    (h0 : (u 0).val = t.val * 256 + (y 0).val) (h1 : (u 1).val = (y 1).val) :
    (HAdd.hAdd (α := EReal) (β := EReal) (γ := EReal) (HAdd.hAdd (α := EReal) (β := EReal) (γ := EReal)
      (HAdd.hAdd (α := EReal) (β := EReal) (γ := EReal) (HAdd.hAdd (α := EReal) (β := EReal) (γ := EReal)
        (iblk m c 8 t (ix2 0 (y 1)))
        (HMul.hMul (α := EReal) (β := EReal) (γ := EReal) (iblk m c 4 t (ix2 0 (y 1))) (X0_0 m c t y)))
        (HMul.hMul (α := EReal) (β := EReal) (γ := EReal) (iblk m c 5 t (ix2 0 (y 1))) (iblk m c 1 t y)))
        (HMul.hMul (α := EReal) (β := EReal) (γ := EReal) (iblk m c 6 t (ix2 0 (y 1))) (iblk m c 2 t y)))
        (HMul.hMul (α := EReal) (β := EReal) (γ := EReal) (iblk m c 7 t (ix2 0 (y 1))) (iblk m c 3 t y))) =
    (HAdd.hAdd (α := EReal) (β := EReal) (γ := EReal)
      (m ((c.tc : Thread nD τ).loc main_arg2) (ix1 (u 1)))
      (HAdd.hAdd (α := EReal) (β := EReal) (γ := EReal)
      (HAdd.hAdd (α := EReal) (β := EReal) (γ := EReal)
      (HAdd.hAdd (α := EReal) (β := EReal) (γ := EReal)
      (HMul.hMul (α := EReal) (β := EReal) (γ := EReal) (m ((c.tc : Thread nD τ).loc main_arg1) (ix2 0 (u 1)))
        (if h : (u 0).val < 3 then (0 : EReal) else m ((c.tc : Thread nD τ).loc main_arg0) (ix2 ⟨(u 0).val - 3, by have := (u 0).isLt; simp at *; omega⟩ ⟨512 + (u 1).val, by have := (u 1).isLt; simp at *; omega⟩)))
      (HMul.hMul (α := EReal) (β := EReal) (γ := EReal) (m ((c.tc : Thread nD τ).loc main_arg1) (ix2 1 (u 1)))
        (if h : 1 + (u 0).val < 3 then (0 : EReal) else m ((c.tc : Thread nD τ).loc main_arg0) (ix2 ⟨1 + (u 0).val - 3, by have := (u 0).isLt; simp at *; omega⟩ ⟨512 + (u 1).val, by have := (u 1).isLt; simp at *; omega⟩))))
      (HMul.hMul (α := EReal) (β := EReal) (γ := EReal) (m ((c.tc : Thread nD τ).loc main_arg1) (ix2 2 (u 1)))
        (if h : 2 + (u 0).val < 3 then (0 : EReal) else m ((c.tc : Thread nD τ).loc main_arg0) (ix2 ⟨2 + (u 0).val - 3, by have := (u 0).isLt; simp at *; omega⟩ ⟨512 + (u 1).val, by have := (u 1).isLt; simp at *; omega⟩))))
      (HMul.hMul (α := EReal) (β := EReal) (γ := EReal) (m ((c.tc : Thread nD τ).loc main_arg1) (ix2 3 (u 1))) (m ((c.tc : Thread nD τ).loc main_arg0) (ix2 (u 0) ⟨512 + (u 1).val, by have := (u 1).isLt; simp at *; omega⟩))))) := by
  have r : ∀ p q r s t : EReal, p + q + r + s + t = p + (((t + s) + r) + q) := fun p q r s t => by ac_rfl
  have hy : ∀ k, m ((c.tc : Thread nD τ).loc main_arg1) (ix2 k (y 1)) = m ((c.tc : Thread nD τ).loc main_arg1) (ix2 k (u 1)) := fun k =>
    congrArg _ (congrArg (ix2 k) (Fin.ext h1.symm))
  have hr : ∀ (k l : Nat) (hk : k < 4096) (hl : l < 4096) (e : k = l) (h : 512 + (y 1).val < 6272) (h' : 512 + (u 1).val < 6272),
      m ((c.tc : Thread nD τ).loc main_arg0) (ix2 ⟨k, hk⟩ ⟨512 + (y 1).val, h⟩) = m ((c.tc : Thread nD τ).loc main_arg0) (ix2 ⟨l, hl⟩ ⟨512 + (u 1).val, h'⟩) :=
    fun k l hk hl e h h' => congrArg _ (congrArg₂ ix2 (Fin.ext e) (Fin.ext (by simp only [h1])))
  refine (r _ _ _ _ _).trans (congrArg₂ (α := EReal) (β := EReal) (· + ·) ?_ (congrArg₂ (α := EReal) (β := EReal) (· + ·)
    (congrArg₂ (α := EReal) (β := EReal) (· + ·) (congrArg₂ (α := EReal) (β := EReal) (· + ·)
      (congrArg₂ (α := EReal) (β := EReal) (· * ·) ((weight0 m c t _).trans (hy 0)) ?_)
      (congrArg₂ (α := EReal) (β := EReal) (· * ·) ((weight1 m c t _).trans (hy 1)) ?_))
      (congrArg₂ (α := EReal) (β := EReal) (· * ·) ((weight2 m c t _).trans (hy 2)) ?_))
      (congrArg₂ (α := EReal) (β := EReal) (· * ·) ((weight3 m c t _).trans (hy 3)) ?_)))
  · rw [bias]
    exact congrArg _ (congrArg ix1 (Fin.ext h1.symm))
  · rw [late3]
    by_cases h : 3 ≤ t.val * 256 + (y 0).val
    · rw [dif_pos h, dif_neg (by omega)]
      exact hr _ _ _ _ (by omega) _ _
    · rw [dif_neg h, dif_pos (by omega)]
  · rw [late2]
    by_cases h : 2 ≤ t.val * 256 + (y 0).val
    · rw [dif_pos h, dif_neg (by omega)]
      exact hr _ _ _ _ (by omega) _ _
    · rw [dif_neg h, dif_pos (by omega)]
  · rw [late1]
    by_cases h : 1 ≤ t.val * 256 + (y 0).val
    · rw [dif_pos h, dif_neg (by omega)]
      exact hr _ _ _ _ (by omega) _ _
    · rw [dif_neg h, dif_pos (by omega)]
  · rw [input]
    exact hr _ _ _ _ h0.symm _ _

set_option maxHeartbeats 2000000 in
theorem value : Cert.algebraic_ConvIdeal_ConvRefIdeal := fun m g m' g' _ hm => by
  refine ⟨_, _, ?_, Cert.ConvRefIdeal.Value.run m' g'⟩
  refine (θ_run _ _ _).mono (fun r h c => ?_) (run_blocks m g)
  obtain ⟨h9, h10, ha⟩ := h c
  rw [(hm c).1, (hm c).2.1, (hm c).2.2]
  refine ⟨h9.trans ?_, h10.trans ?_, ha⟩
  · refine (dats m 0 c).arrAt_eq_of_covers 9 _ (by decide +kernel) fun t _ y => ?_
    blk_simp
    rw [after0_9]
    unfold outsAt0
    frame_out
    unfold_payloads
    pointwise
    exact taps m c t y (((View.whole main_v20_0).slice (win0_9.rect t)).emb y) (by blk_point [places t]) (by blk_point [places t])
  · refine (dats m 0 c).arrAt_eq_of_covers 10 _ (by decide +kernel) fun t _ y => ?_
    blk_simp
    rw [after0_10]
    unfold outsAt0
    frame_out
    unfold_payloads
    pointwise
    exact taps m c t y (((View.whole main_v20_1).slice (win0_10.rect t)).emb y) (by blk_point [places t]) (by blk_point [places t])

end Cert.ConvIdeal.Value

end
-- ==== Proof.Elementwise.Skip.lean ====
/- The S5 branch's output before its gate — the two parts of the scan and the skip added, then the GELU — and its
   gradients: the value claims. -/
module

public import proofs.«01_k».proof.Defs
public import Idealize.ShloMosaic.Lib.Pointwise
public import Idealize.ShloMosaic.Lib.Pipeline.ValueKit
public import proofs.«01_k».proof.Proof.Gen.SkipBwdIdeal.Value
public import proofs.«01_k».proof.Proof.Gen.SkipBwdRefIdeal.Run
public import proofs.«01_k».proof.Proof.Gen.SkipIdeal.Value
public import proofs.«01_k».proof.Proof.Gen.SkipRefIdeal.Run

@[expose] public section

set_option maxRecDepth 16384

noncomputable section

open Idealize.ShloMosaic Idealize.ShloMosaic.TcCoe Idealize.SL.Sem Idealize.ShloMosaic.Tactic

/-! ## The output -/

namespace Cert.SkipIdeal.Value

open Cert.SkipIdeal Cert.SkipIdeal.Gen

theorem places : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] :=
  (by decide +kernel : ∀ t : Fin grid0.N, _)

/-- The block of the branch's input at a grid point. -/
theorem input (m : (ℓ : Loc nD τ sig) → Buf (Elt Ideal) ℓ) (c : Dev nD) (t : Fin cfg0.N) (x : S256x512.Idx) :
    X0_2 m c t x = m ((c.tc : Thread nD τ).loc main_arg2)
      (ix2 ⟨t.val * 256 + (x 0).val, by have := t.isLt; have := (x 0).isLt; have : cfg0.N = 16 := rfl; simp at *; omega⟩ ⟨(x 1).val, by have := (x 1).isLt; simp at *; omega⟩) := by
  unfold X0_2 Pipeline.Window.fill
  rw [dif_pos (moved0_2 t x)]
  blk_ext [iblk, V, places t]

theorem value : Cert.algebraic_SkipIdeal_SkipRefIdeal := fun m g m' g' _ hm => by
  refine ⟨_, _, ?_, Cert.SkipRefIdeal.Value.run m' g'⟩
  refine (θ_run _ _ _).mono (fun r h c => ?_) (run_blocks m g)
  obtain ⟨h4, h5, ha⟩ := h c
  rw [(hm c).1, (hm c).2.1, (hm c).2.2.1, (hm c).2.2.2]
  refine ⟨h4.trans ?_, h5.trans ?_, ha⟩
  · refine (dats m 0 c).arrAt_eq_of_covers 4 _ (by decide +kernel) fun t _ y => ?_
    blk_simp
    rw [after0_4]
    unfold outsAt0
    frame_out
    unfold_payloads
    pointwise
    simp only [input]
    blk_point [iblk, V, places t]
  · refine (dats m 0 c).arrAt_eq_of_covers 5 _ (by decide +kernel) fun t _ y => ?_
    blk_simp
    rw [after0_5]
    unfold outsAt0
    frame_out
    unfold_payloads
    pointwise
    simp only [input]
    blk_point [iblk, V, places t]

end Cert.SkipIdeal.Value

/-! ## Its gradients -/

namespace Cert.SkipBwdIdeal.Value

open Cert.SkipBwdIdeal Cert.SkipBwdIdeal.Gen

theorem places : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

/-- The block of the branch's input at a grid point. -/
theorem input (m : (ℓ : Loc nD τ sig) → Buf (Elt Ideal) ℓ) (c : Dev nD) (t : Fin cfg0.N) (x : S256x512.Idx) :
    X0_2 m c t x = m ((c.tc : Thread nD τ).loc main_arg2)
      (ix2 ⟨t.val * 256 + (x 0).val, by have := t.isLt; have := (x 0).isLt; have : cfg0.N = 16 := rfl; simp at *; omega⟩ ⟨(x 1).val, by have := (x 1).isLt; simp at *; omega⟩) := by
  unfold X0_2 Pipeline.Window.fill
  rw [dif_pos (moved0_2 t x)]
  blk_ext [iblk, V, places t]

set_option maxHeartbeats 1000000 in
theorem value : Cert.algebraic_SkipBwdIdeal_SkipBwdRefIdeal := fun m g m' g' _ hm => by
  refine ⟨_, _, _, ?_, Cert.SkipBwdRefIdeal.Value.run m' g'⟩
  refine (θ_run _ _ _).mono (fun r h c => ?_) (run_blocks m g)
  obtain ⟨h5, h6, h7, ha⟩ := h c
  simp only [Cert.SkipBwdRefIdeal.Value.res_main_v46, Cert.SkipBwdRefIdeal.Value.res_main_v40, Cert.SkipBwdRefIdeal.Value.res_main_v45]
  rw [(hm c).1, (hm c).2.1, (hm c).2.2.1, (hm c).2.2.2.1, (hm c).2.2.2.2]
  refine ⟨h5.trans ?_, h6.trans ?_, h7.trans ?_, ha⟩
  · refine (dats m 0 c).arrAt_eq_of_covers 5 _ (by decide +kernel) fun t _ y => ?_
    blk_simp
    rw [after0_5]
    by_cases h0 : t.val % 16 = 0 <;> [rw [outsAt0_A m c t h0]; rw [outsAt0_B m c t h0]] <;>
      (frame_out; unfold_payloads; pointwise; simp only [input]; blk_point [iblk, V, places t])
  · refine (dats m 0 c).arrAt_eq_of_covers 6 _ (by decide +kernel) fun t _ y => ?_
    blk_simp
    rw [after0_6]
    by_cases h0 : t.val % 16 = 0 <;> [rw [outsAt0_A m c t h0]; rw [outsAt0_B m c t h0]] <;>
      (frame_out; unfold_payloads; pointwise; simp only [input]; blk_point [iblk, V, places t])
  · refine (dats m 0 c).arrAt_eq_of_covers 7 _ (by decide +kernel) fun t hf y => ?_
    blk_simp
    rw [after0_7, Pipeline.eq_sum_fin_of_reset_step_apply_last (fun n h => (outsAt0 m c n h).2.2) 16 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_7 t).mp hf; have : cfg0.N = 16 := N_0; omega) _, zero_add]
    pointwise
    refine Eq.trans ?_ (Fin.sum_univ_one (M := EReal) _).symm
    refine Fin.sum_mul_add_congr fun s k hl => ?_
    simp only [input]
    blk_point [iblk, V, places s, places t]

end Cert.SkipBwdIdeal.Value

end
-- ==== Proof.Elementwise.Glu.lean ====
/- The S5 branch's gate and its gradients: the value claims. -/
module

public import proofs.«01_k».proof.Defs
public import Idealize.ShloMosaic.Lib.Pointwise
public import Idealize.ShloMosaic.Lib.Pipeline.ValueKit
public import proofs.«01_k».proof.Proof.Gen.GluBwdIdeal.Value
public import proofs.«01_k».proof.Proof.Gen.GluBwdRefIdeal.Run
public import proofs.«01_k».proof.Proof.Gen.GluIdeal.Value
public import proofs.«01_k».proof.Proof.Gen.GluRefIdeal.Run

@[expose] public section

set_option maxRecDepth 16384

noncomputable section

open Idealize.ShloMosaic Idealize.ShloMosaic.TcCoe Idealize.SL.Sem Idealize.ShloMosaic.Tactic

/-! ## The gate -/

namespace Cert.GluIdeal.Value

open Cert.GluIdeal Cert.GluIdeal.Gen

theorem places : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem value : Cert.algebraic_GluIdeal_GluRefIdeal := fun m g m' g' _ hm => by
  refine ⟨_, ?_, Cert.GluRefIdeal.Value.run m' g'⟩
  refine (θ_run _ _ _).mono (fun r h c => ?_) (run_blocks m g)
  obtain ⟨h3, ha⟩ := h c
  rw [(hm c).1, (hm c).2.1, (hm c).2.2]
  refine ⟨h3.trans ?_, ha⟩
  refine (dats m 0 c).arrAt_eq_of_covers 3 _ (by decide +kernel) fun t _ y => ?_
  blk_simp
  rw [after0_3]
  unfold out0_3
  frame_out
  unfold_payloads
  pointwise
  simp only [Ideal.logistic]
  blk_point [iblk, V, places t]

end Cert.GluIdeal.Value

/-! ## Its gradients -/

namespace Cert.GluBwdIdeal.Value

open Cert.GluBwdIdeal Cert.GluBwdIdeal.Gen

theorem places : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

theorem value : Cert.algebraic_GluBwdIdeal_GluBwdRefIdeal := fun m g m' g' _ hm => by
  refine ⟨_, _, _, ?_, Cert.GluBwdRefIdeal.Value.run m' g'⟩
  refine (θ_run _ _ _).mono (fun r h c => ?_) (run_blocks m g)
  obtain ⟨h4, h5, h6, ha⟩ := h c
  rw [(hm c).1, (hm c).2.1, (hm c).2.2.1, (hm c).2.2.2]
  refine ⟨h4.trans ?_, h5.trans ?_, h6.trans ?_, ha⟩
  · refine (dats m 0 c).arrAt_eq_of_covers 4 _ (by decide +kernel) fun t _ y => ?_
    blk_simp
    rw [after0_4]
    by_cases h0 : t.val % 16 = 0 <;> [rw [outsAt0_A m c t h0]; rw [outsAt0_B m c t h0]] <;>
      (frame_out; unfold_payloads; pointwise; simp only [Ideal.logistic]; blk_point [iblk, V, places t])
  · refine (dats m 0 c).arrAt_eq_of_covers 5 _ (by decide +kernel) fun t _ y => ?_
    blk_simp
    rw [after0_5]
    by_cases h0 : t.val % 16 = 0 <;> [rw [outsAt0_A m c t h0]; rw [outsAt0_B m c t h0]] <;>
      (frame_out; unfold_payloads; pointwise; simp only [Ideal.logistic]; blk_point [iblk, V, places t])
  · refine (dats m 0 c).arrAt_eq_of_covers 6 _ (by decide +kernel) fun t hf y => ?_
    blk_simp
    rw [after0_6, Pipeline.eq_sum_fin_of_reset_step_apply_last (fun n h => (outsAt0 m c n h).2.2) 16 (fun _ => 0) _
      (fun t h j => by
        rw [outsAt0_A m c t h]
        frame_out
        unfold_payloads
        pointwise
        rfl)
      (fun t h j => by
        rw [outsAt0_B m c t h]
        frame_out
        unfold_payloads
        pointwise) (le_of_eq N_0) t (by have := lt_of_lt_of_eq t.isLt N_0; have := (flush0_6 t).mp hf; have : cfg0.N = 16 := N_0; omega) _, zero_add]
    pointwise
    refine Eq.trans ?_ (Fin.sum_univ_one (M := EReal) _).symm
    refine Fin.sum_mul_add_congr fun s k hl => ?_
    simp only [Ideal.logistic]
    blk_point [iblk, V, places s, places t]

end Cert.GluBwdIdeal.Value

end
-- ==== Proof.lean ====
/- The proof of the certificate's claim: the frames of every program, the named constant of the
   attention kernel's masked score, the value claim about the gradient of the attention's queries, and
   the value claims about the layer's products, its elementwise calls, its convolution and their gradients. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.DqK.Frame
public import proofs.«01_k».proof.Proof.DqI.Value
public import proofs.«01_k».proof.Proof.Fox.Pre
public import proofs.«01_k».proof.Proof.Fox.Reference
public import proofs.«01_k».proof.Proof.Products.In
public import proofs.«01_k».proof.Proof.Products.Channel
public import proofs.«01_k».proof.Proof.Products.Down
public import proofs.«01_k».proof.Proof.Products.Out
public import proofs.«01_k».proof.Proof.Products.Proj
public import proofs.«01_k».proof.Proof.Products.Glu
public import proofs.«01_k».proof.Proof.Products.StateIn
public import proofs.«01_k».proof.Proof.Products.StateOut
public import proofs.«01_k».proof.Proof.Products.Heads
public import proofs.«01_k».proof.Proof.Products.GroupsDw
public import proofs.«01_k».proof.Proof.Elementwise.Swiglu
public import proofs.«01_k».proof.Proof.Elementwise.LruOut
public import proofs.«01_k».proof.Proof.Elementwise.MergeBwd
public import proofs.«01_k».proof.Proof.Elementwise.Merge
public import proofs.«01_k».proof.Proof.Elementwise.Norm
public import proofs.«01_k».proof.Proof.Elementwise.ConvDx
public import proofs.«01_k».proof.Proof.Elementwise.ConvDw
public import proofs.«01_k».proof.Proof.Elementwise.Conv
public import proofs.«01_k».proof.Proof.Elementwise.Skip
public import proofs.«01_k».proof.Proof.Elementwise.Glu
public import proofs.«01_k».proof.Proof.Gen.InDx.Frame
public import proofs.«01_k».proof.Proof.Gen.InDw.Frame
public import proofs.«01_k».proof.Proof.Gen.In.Frame
public import proofs.«01_k».proof.Proof.Gen.GateDx.Frame
public import proofs.«01_k».proof.Proof.Gen.UpDx.Frame
public import proofs.«01_k».proof.Proof.Gen.GateDw.Frame
public import proofs.«01_k».proof.Proof.Gen.Ffn.Frame
public import proofs.«01_k».proof.Proof.Gen.DownDx.Frame
public import proofs.«01_k».proof.Proof.Gen.DownDw.Frame
public import proofs.«01_k».proof.Proof.Gen.Down.Frame
public import proofs.«01_k».proof.Proof.Gen.OutDx.Frame
public import proofs.«01_k».proof.Proof.Gen.OutDw.Frame
public import proofs.«01_k».proof.Proof.Gen.Out.Frame
public import proofs.«01_k».proof.Proof.Gen.ProjDx.Frame
public import proofs.«01_k».proof.Proof.Gen.ProjDo.Frame
public import proofs.«01_k».proof.Proof.Gen.ProjDw.Frame
public import proofs.«01_k».proof.Proof.Gen.Proj.Frame
public import Idealize.ShloMosaic.Lib.Quiescent
public import Idealize.ShloMosaic.Adequacy
public import Idealize.ShloMosaic.Init
public import proofs.«01_k».proof.Proof.Gen.SwigluBwd.Frame
public import proofs.«01_k».proof.Proof.Gen.Swiglu.Frame
public import proofs.«01_k».proof.Proof.Gen.LruOutBwd.Frame
public import proofs.«01_k».proof.Proof.Gen.LruOut.Frame
public import proofs.«01_k».proof.Proof.Gen.MergeBwd.Frame
public import proofs.«01_k».proof.Proof.Gen.Merge.Frame
public import proofs.«01_k».proof.Proof.Gen.NormBwd.Frame
public import proofs.«01_k».proof.Proof.Gen.Norm.Frame
public import proofs.«01_k».proof.Proof.Gen.ConvDx.Frame
public import proofs.«01_k».proof.Proof.Gen.ConvDw.Frame
public import proofs.«01_k».proof.Proof.Gen.Conv.Frame
public import proofs.«01_k».proof.Proof.Gen.SkipBwd.Frame
public import proofs.«01_k».proof.Proof.Gen.Skip.Frame
public import proofs.«01_k».proof.Proof.Gen.GluBwd.Frame
public import proofs.«01_k».proof.Proof.Gen.Glu.Frame
public import proofs.«01_k».proof.Proof.Gen.GluDx.Frame
public import proofs.«01_k».proof.Proof.Gen.GluDw.Frame
public import proofs.«01_k».proof.Proof.Gen.GluPre.Frame
public import proofs.«01_k».proof.Proof.Gen.StateInDx.Frame
public import proofs.«01_k».proof.Proof.Gen.StateInDxLast.Frame
public import proofs.«01_k».proof.Proof.Gen.StateInDw.Frame
public import proofs.«01_k».proof.Proof.Gen.StateIn.Frame
public import proofs.«01_k».proof.Proof.Gen.StateOutDx.Frame
public import proofs.«01_k».proof.Proof.Gen.StateOutDw.Frame
public import proofs.«01_k».proof.Proof.Gen.StateOut.Frame
public import proofs.«01_k».proof.Proof.Gen.GateADx.Frame
public import proofs.«01_k».proof.Proof.Gen.GateXDx.Frame
public import proofs.«01_k».proof.Proof.Gen.GateADw.Frame
public import proofs.«01_k».proof.Proof.Gen.GateIn.Frame

@[expose] public section

noncomputable section

namespace Cert.Proof

open Idealize.ShloMosaic Idealize.SL.Sem Cert.Kernel

theorem frameReference : Cert.quiescent_ReferenceIdeal := fun m g _ =>
  (θ_run _ _ _).mono (fun r h => ⟨fun c => (h c).2.2, sem_eq_zero_of_no_sems (by decide) r.2⟩) (Cert.ReferenceIdeal.Lines.run (F := Ideal) m g)

/-- From finite arguments that agree, the kernel and the reference end with the same two gradients. -/
theorem value : Cert.algebraic_KernelIdeal_ReferenceIdeal_pre_finite := fun m g m' g' hp hm => by
  have hf := fun c => Cert.Fox.finite_of_pre _ _ _ _ _ (fun a => a.elim0) (congrFun (hp c) _)
  refine ⟨fun c => Cert.Fox.queryGrad (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3)),
    fun c => Cert.Fox.decayGrad (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3)), ?_, ?_⟩
  · refine (θ_run _ _ _).mono (fun r h c => ?_) (Cert.KernelIdeal.Value.run_blocks (F := Ideal) m g)
    obtain ⟨hq, hk, hv, hc, hd⟩ := hf c
    obtain ⟨h7, h8, ha⟩ := h c
    exact ⟨h7.trans ((Cert.Fox.array7 m c).trans (Cert.Fox.sumGrad_eq m c hq hk hv hc hd)),
      h8.trans ((Cert.Fox.array8 m c).trans (Cert.Fox.sumDecay_eq m c hq hk hv hc hd)), ha⟩
  · refine (θ_run _ _ _).mono (fun r h c => ?_) (Cert.ReferenceIdeal.Lines.run (F := Ideal) m' g')
    obtain ⟨hq, hk, hv, hc, hd⟩ := hf c
    obtain ⟨e0, e1, e2, e3, e4⟩ := hm c
    obtain ⟨h0, h1, ha⟩ := h c
    rw [e0, e1, e2, e3, e4] at h0 h1
    exact ⟨h0.trans (Cert.Fox.query_eq hq hk hv hc hd), h1.trans (Cert.Fox.decay_eq hq hk hv hc hd), ha⟩

/-! The frames of the other references: programs of host operations alone. -/

theorem frameInDx : Cert.quiescent_InDxRefIdeal := fun m g _ =>
  (θ_run _ _ _).mono (fun r h => ⟨fun c => (h c).2, sem_eq_zero_of_no_sems (by decide) r.2⟩) (Cert.InDxRefIdeal.Value.run m g)

theorem frameInDw : Cert.quiescent_InDwRefIdeal := fun m g _ =>
  (θ_run _ _ _).mono (fun r h => ⟨fun c => (h c).2, sem_eq_zero_of_no_sems (by decide) r.2⟩) (Cert.InDwRefIdeal.Value.run m g)

theorem frameIn : Cert.quiescent_InRefIdeal := fun m g _ =>
  (θ_run _ _ _).mono (fun r h => ⟨fun c => (h c).2, sem_eq_zero_of_no_sems (by decide) r.2⟩) (Cert.InRefIdeal.Value.run m g)

theorem frameGateDx : Cert.quiescent_GateDxRefIdeal := fun m g _ =>
  (θ_run _ _ _).mono (fun r h => ⟨fun c => (h c).2, sem_eq_zero_of_no_sems (by decide) r.2⟩) (Cert.GateDxRefIdeal.Value.run m g)

theorem frameUpDx : Cert.quiescent_UpDxRefIdeal := fun m g _ =>
  (θ_run _ _ _).mono (fun r h => ⟨fun c => (h c).2, sem_eq_zero_of_no_sems (by decide) r.2⟩) (Cert.UpDxRefIdeal.Value.run m g)

theorem frameGateDw : Cert.quiescent_GateDwRefIdeal := fun m g _ =>
  (θ_run _ _ _).mono (fun r h => ⟨fun c => (h c).2, sem_eq_zero_of_no_sems (by decide) r.2⟩) (Cert.GateDwRefIdeal.Value.run m g)

theorem frameFfn : Cert.quiescent_FfnRefIdeal := fun m g _ =>
  (θ_run _ _ _).mono (fun r h => ⟨fun c => (h c).2, sem_eq_zero_of_no_sems (by decide) r.2⟩) (Cert.FfnRefIdeal.Value.run m g)

theorem frameDownDx : Cert.quiescent_DownDxRefIdeal := fun m g _ =>
  (θ_run _ _ _).mono (fun r h => ⟨fun c => (h c).2, sem_eq_zero_of_no_sems (by decide) r.2⟩) (Cert.DownDxRefIdeal.Value.run m g)

theorem frameDownDw : Cert.quiescent_DownDwRefIdeal := fun m g _ =>
  (θ_run _ _ _).mono (fun r h => ⟨fun c => (h c).2, sem_eq_zero_of_no_sems (by decide) r.2⟩) (Cert.DownDwRefIdeal.Value.run m g)

theorem frameDown : Cert.quiescent_DownRefIdeal := fun m g _ =>
  (θ_run _ _ _).mono (fun r h => ⟨fun c => (h c).2, sem_eq_zero_of_no_sems (by decide) r.2⟩) (Cert.DownRefIdeal.Value.run m g)

theorem frameOutDx : Cert.quiescent_OutDxRefIdeal := fun m g _ =>
  (θ_run _ _ _).mono (fun r h => ⟨fun c => (h c).2, sem_eq_zero_of_no_sems (by decide) r.2⟩) (Cert.OutDxRefIdeal.Value.run m g)

theorem frameOutDw : Cert.quiescent_OutDwRefIdeal := fun m g _ =>
  (θ_run _ _ _).mono (fun r h => ⟨fun c => (h c).2, sem_eq_zero_of_no_sems (by decide) r.2⟩) (Cert.OutDwRefIdeal.Value.run m g)

theorem frameOut : Cert.quiescent_OutRefIdeal := fun m g _ =>
  (θ_run _ _ _).mono (fun r h => ⟨fun c => (h c).2, sem_eq_zero_of_no_sems (by decide) r.2⟩) (Cert.OutRefIdeal.Value.run m g)

theorem frameProjDx : Cert.quiescent_ProjDxRefIdeal := fun m g _ =>
  (θ_run _ _ _).mono (fun r h => ⟨fun c => (h c).2, sem_eq_zero_of_no_sems (by decide) r.2⟩) (Cert.ProjDxRefIdeal.Value.run m g)

theorem frameProjDo : Cert.quiescent_ProjDoRefIdeal := fun m g _ =>
  (θ_run _ _ _).mono (fun r h => ⟨fun c => (h c).2, sem_eq_zero_of_no_sems (by decide) r.2⟩) (Cert.ProjDoRefIdeal.Value.run m g)

theorem frameProjDw : Cert.quiescent_ProjDwRefIdeal := fun m g _ =>
  (θ_run _ _ _).mono (fun r h => ⟨fun c => (h c).2, sem_eq_zero_of_no_sems (by decide) r.2⟩) (Cert.ProjDwRefIdeal.Value.run m g)

theorem frameProj : Cert.quiescent_ProjRefIdeal := fun m g _ =>
  (θ_run _ _ _).mono (fun r h => ⟨fun c => (h c).2, sem_eq_zero_of_no_sems (by decide) r.2⟩) (Cert.ProjRefIdeal.Value.run m g)

theorem frameSwigluBwd : Cert.quiescent_SwigluBwdRefIdeal := fun m g _ =>
  (θ_run _ _ _).mono (fun r h => ⟨fun c => (h c).2.2, sem_eq_zero_of_no_sems (by decide) r.2⟩) (Cert.SwigluBwdRefIdeal.Value.run m g)

theorem frameSwiglu : Cert.quiescent_SwigluRefIdeal := fun m g _ =>
  (θ_run _ _ _).mono (fun r h => ⟨fun c => (h c).2, sem_eq_zero_of_no_sems (by decide) r.2⟩) (Cert.SwigluRefIdeal.Value.run m g)

theorem frameLruOutBwd : Cert.quiescent_LruOutBwdRefIdeal := fun m g _ =>
  (θ_run _ _ _).mono (fun r h => ⟨fun c => (h c).2.2, sem_eq_zero_of_no_sems (by decide) r.2⟩) (Cert.LruOutBwdRefIdeal.Value.run m g)

theorem frameLruOut : Cert.quiescent_LruOutRefIdeal := fun m g _ =>
  (θ_run _ _ _).mono (fun r h => ⟨fun c => (h c).2, sem_eq_zero_of_no_sems (by decide) r.2⟩) (Cert.LruOutRefIdeal.Value.run m g)

theorem frameMergeBwd : Cert.quiescent_MergeBwdRefIdeal := fun m g _ =>
  (θ_run _ _ _).mono (fun r h => ⟨fun c => (h c).2.2.2.2.2.2.2.2.2, sem_eq_zero_of_no_sems (by decide) r.2⟩) (Cert.MergeBwdRefIdeal.Value.run m g)

theorem frameMerge : Cert.quiescent_MergeRefIdeal := fun m g _ =>
  (θ_run _ _ _).mono (fun r h => ⟨fun c => (h c).2, sem_eq_zero_of_no_sems (by decide) r.2⟩) (Cert.MergeRefIdeal.Value.run m g)

theorem frameNormBwd : Cert.quiescent_NormBwdRefIdeal := fun m g _ =>
  (θ_run _ _ _).mono (fun r h => ⟨fun c => (h c).2.2.2.2, sem_eq_zero_of_no_sems (by decide) r.2⟩) (Cert.NormBwdRefIdeal.Value.run m g)

theorem frameNorm : Cert.quiescent_NormRefIdeal := fun m g _ =>
  (θ_run _ _ _).mono (fun r h => ⟨fun c => (h c).2.2, sem_eq_zero_of_no_sems (by decide) r.2⟩) (Cert.NormRefIdeal.Value.run m g)

theorem frameConvDx : Cert.quiescent_ConvDxRefIdeal := fun m g _ =>
  (θ_run _ _ _).mono (fun r h => ⟨fun c => (h c).2, sem_eq_zero_of_no_sems (by decide) r.2⟩) (Cert.ConvDxRefIdeal.Value.run m g)

theorem frameConvDw : Cert.quiescent_ConvDwRefIdeal := fun m g _ =>
  (θ_run _ _ _).mono (fun r h => ⟨fun c => (h c).2.2.2.2.2, sem_eq_zero_of_no_sems (by decide) r.2⟩) (Cert.ConvDwRefIdeal.Value.run m g)

theorem frameConv : Cert.quiescent_ConvRefIdeal := fun m g _ =>
  (θ_run _ _ _).mono (fun r h => ⟨fun c => (h c).2.2, sem_eq_zero_of_no_sems (by decide) r.2⟩) (Cert.ConvRefIdeal.Value.run m g)

theorem frameSkipBwd : Cert.quiescent_SkipBwdRefIdeal := fun m g _ =>
  (θ_run _ _ _).mono (fun r h => ⟨fun c => (h c).2.2.2, sem_eq_zero_of_no_sems (by decide) r.2⟩) (Cert.SkipBwdRefIdeal.Value.run m g)

theorem frameSkip : Cert.quiescent_SkipRefIdeal := fun m g _ =>
  (θ_run _ _ _).mono (fun r h => ⟨fun c => (h c).2.2, sem_eq_zero_of_no_sems (by decide) r.2⟩) (Cert.SkipRefIdeal.Value.run m g)

theorem frameGluBwd : Cert.quiescent_GluBwdRefIdeal := fun m g _ =>
  (θ_run _ _ _).mono (fun r h => ⟨fun c => (h c).2.2.2, sem_eq_zero_of_no_sems (by decide) r.2⟩) (Cert.GluBwdRefIdeal.Value.run m g)

theorem frameGlu : Cert.quiescent_GluRefIdeal := fun m g _ =>
  (θ_run _ _ _).mono (fun r h => ⟨fun c => (h c).2, sem_eq_zero_of_no_sems (by decide) r.2⟩) (Cert.GluRefIdeal.Value.run m g)

theorem frameGluDx : Cert.quiescent_GluDxRefIdeal := fun m g _ =>
  (θ_run _ _ _).mono (fun r h => ⟨fun c => (h c).2, sem_eq_zero_of_no_sems (by decide) r.2⟩) (Cert.GluDxRefIdeal.Value.run m g)

theorem frameGluDw : Cert.quiescent_GluDwRefIdeal := fun m g _ =>
  (θ_run _ _ _).mono (fun r h => ⟨fun c => (h c).2, sem_eq_zero_of_no_sems (by decide) r.2⟩) (Cert.GluDwRefIdeal.Value.run m g)

theorem frameGluPre : Cert.quiescent_GluPreRefIdeal := fun m g _ =>
  (θ_run _ _ _).mono (fun r h => ⟨fun c => (h c).2, sem_eq_zero_of_no_sems (by decide) r.2⟩) (Cert.GluPreRefIdeal.Value.run m g)

theorem frameStateInDx : Cert.quiescent_StateInDxRefIdeal := fun m g _ =>
  (θ_run _ _ _).mono (fun r h => ⟨fun c => (h c).2, sem_eq_zero_of_no_sems (by decide) r.2⟩) (Cert.StateInDxRefIdeal.Value.run m g)

theorem frameStateInDxLast : Cert.quiescent_StateInDxLastRefIdeal := fun m g _ =>
  (θ_run _ _ _).mono (fun r h => ⟨fun c => (h c).2, sem_eq_zero_of_no_sems (by decide) r.2⟩) (Cert.StateInDxLastRefIdeal.Value.run m g)

theorem frameStateInDw : Cert.quiescent_StateInDwRefIdeal := fun m g _ =>
  (θ_run _ _ _).mono (fun r h => ⟨fun c => (h c).2, sem_eq_zero_of_no_sems (by decide) r.2⟩) (Cert.StateInDwRefIdeal.Value.run m g)

theorem frameStateIn : Cert.quiescent_StateInRefIdeal := fun m g _ =>
  (θ_run _ _ _).mono (fun r h => ⟨fun c => (h c).2, sem_eq_zero_of_no_sems (by decide) r.2⟩) (Cert.StateInRefIdeal.Value.run m g)

theorem frameStateOutDx : Cert.quiescent_StateOutDxRefIdeal := fun m g _ =>
  (θ_run _ _ _).mono (fun r h => ⟨fun c => (h c).2, sem_eq_zero_of_no_sems (by decide) r.2⟩) (Cert.StateOutDxRefIdeal.Value.run m g)

theorem frameStateOutDw : Cert.quiescent_StateOutDwRefIdeal := fun m g _ =>
  (θ_run _ _ _).mono (fun r h => ⟨fun c => (h c).2, sem_eq_zero_of_no_sems (by decide) r.2⟩) (Cert.StateOutDwRefIdeal.Value.run m g)

theorem frameStateOut : Cert.quiescent_StateOutRefIdeal := fun m g _ =>
  (θ_run _ _ _).mono (fun r h => ⟨fun c => (h c).2, sem_eq_zero_of_no_sems (by decide) r.2⟩) (Cert.StateOutRefIdeal.Value.run m g)

theorem frameGateADx : Cert.quiescent_GateADxRefIdeal := fun m g _ =>
  (θ_run _ _ _).mono (fun r h => ⟨fun c => (h c).2, sem_eq_zero_of_no_sems (by decide) r.2⟩) (Cert.GateADxRefIdeal.Value.run m g)

theorem frameGateXDx : Cert.quiescent_GateXDxRefIdeal := fun m g _ =>
  (θ_run _ _ _).mono (fun r h => ⟨fun c => (h c).2, sem_eq_zero_of_no_sems (by decide) r.2⟩) (Cert.GateXDxRefIdeal.Value.run m g)

theorem frameGateADw : Cert.quiescent_GateADwRefIdeal := fun m g _ =>
  (θ_run _ _ _).mono (fun r h => ⟨fun c => (h c).2, sem_eq_zero_of_no_sems (by decide) r.2⟩) (Cert.GateADwRefIdeal.Value.run m g)

theorem frameGateIn : Cert.quiescent_GateInRefIdeal := fun m g _ =>
  (θ_run _ _ _).mono (fun r h => ⟨fun c => (h c).2, sem_eq_zero_of_no_sems (by decide) r.2⟩) (Cert.GateInRefIdeal.Value.run m g)

theorem claim : Cert.Claim := ⟨Cert.Kernel.Gen.facts, Cert.KernelIdeal.Gen.facts, Cert.ReferenceIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.In.Gen.facts, Cert.InIdeal.Gen.facts, Cert.InRefIdeal.Gen.facts,
  Cert.GateDx.Gen.facts, Cert.GateDxIdeal.Gen.facts, Cert.GateDxRefIdeal.Gen.facts,
  Cert.UpDx.Gen.facts, Cert.UpDxIdeal.Gen.facts, Cert.UpDxRefIdeal.Gen.facts,
  Cert.GateDw.Gen.facts, Cert.GateDwIdeal.Gen.facts, Cert.GateDwRefIdeal.Gen.facts,
  Cert.Ffn.Gen.facts, Cert.FfnIdeal.Gen.facts, Cert.FfnRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.Down.Gen.facts, Cert.DownIdeal.Gen.facts, Cert.DownRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.Out.Gen.facts, Cert.OutIdeal.Gen.facts, Cert.OutRefIdeal.Gen.facts,
  Cert.ProjDx.Gen.facts, Cert.ProjDxIdeal.Gen.facts, Cert.ProjDxRefIdeal.Gen.facts,
  Cert.ProjDo.Gen.facts, Cert.ProjDoIdeal.Gen.facts, Cert.ProjDoRefIdeal.Gen.facts,
  Cert.ProjDw.Gen.facts, Cert.ProjDwIdeal.Gen.facts, Cert.ProjDwRefIdeal.Gen.facts,
  Cert.Proj.Gen.facts, Cert.ProjIdeal.Gen.facts, Cert.ProjRefIdeal.Gen.facts,
  Cert.SwigluBwd.Gen.facts, Cert.SwigluBwdIdeal.Gen.facts, Cert.SwigluBwdRefIdeal.Gen.facts,
  Cert.Swiglu.Gen.facts, Cert.SwigluIdeal.Gen.facts, Cert.SwigluRefIdeal.Gen.facts,
  Cert.LruOutBwd.Gen.facts, Cert.LruOutBwdIdeal.Gen.facts, Cert.LruOutBwdRefIdeal.Gen.facts,
  Cert.LruOut.Gen.facts, Cert.LruOutIdeal.Gen.facts, Cert.LruOutRefIdeal.Gen.facts,
  Cert.MergeBwd.Gen.facts, Cert.MergeBwdIdeal.Gen.facts, Cert.MergeBwdRefIdeal.Gen.facts,
  Cert.Merge.Gen.facts, Cert.MergeIdeal.Gen.facts, Cert.MergeRefIdeal.Gen.facts,
  Cert.NormBwd.Gen.facts, Cert.NormBwdIdeal.Gen.facts, Cert.NormBwdRefIdeal.Gen.facts,
  Cert.Norm.Gen.facts, Cert.NormIdeal.Gen.facts, Cert.NormRefIdeal.Gen.facts,
  Cert.ConvDx.Gen.facts, Cert.ConvDxIdeal.Gen.facts, Cert.ConvDxRefIdeal.Gen.facts,
  Cert.ConvDw.Gen.facts, Cert.ConvDwIdeal.Gen.facts, Cert.ConvDwRefIdeal.Gen.facts,
  Cert.Conv.Gen.facts, Cert.ConvIdeal.Gen.facts, Cert.ConvRefIdeal.Gen.facts,
  Cert.SkipBwd.Gen.facts, Cert.SkipBwdIdeal.Gen.facts, Cert.SkipBwdRefIdeal.Gen.facts,
  Cert.Skip.Gen.facts, Cert.SkipIdeal.Gen.facts, Cert.SkipRefIdeal.Gen.facts,
  Cert.GluBwd.Gen.facts, Cert.GluBwdIdeal.Gen.facts, Cert.GluBwdRefIdeal.Gen.facts,
  Cert.Glu.Gen.facts, Cert.GluIdeal.Gen.facts, Cert.GluRefIdeal.Gen.facts,
  Cert.GluDx.Gen.facts, Cert.GluDxIdeal.Gen.facts, Cert.GluDxRefIdeal.Gen.facts,
  Cert.GluDw.Gen.facts, Cert.GluDwIdeal.Gen.facts, Cert.GluDwRefIdeal.Gen.facts,
  Cert.GluPre.Gen.facts, Cert.GluPreIdeal.Gen.facts, Cert.GluPreRefIdeal.Gen.facts,
  Cert.StateInDx.Gen.facts, Cert.StateInDxIdeal.Gen.facts, Cert.StateInDxRefIdeal.Gen.facts,
  Cert.StateInDxLast.Gen.facts, Cert.StateInDxLastIdeal.Gen.facts, Cert.StateInDxLastRefIdeal.Gen.facts,
  Cert.StateInDw.Gen.facts, Cert.StateInDwIdeal.Gen.facts, Cert.StateInDwRefIdeal.Gen.facts,
  Cert.StateIn.Gen.facts, Cert.StateInIdeal.Gen.facts, Cert.StateInRefIdeal.Gen.facts,
  Cert.StateOutDx.Gen.facts, Cert.StateOutDxIdeal.Gen.facts, Cert.StateOutDxRefIdeal.Gen.facts,
  Cert.StateOutDw.Gen.facts, Cert.StateOutDwIdeal.Gen.facts, Cert.StateOutDwRefIdeal.Gen.facts,
  Cert.StateOut.Gen.facts, Cert.StateOutIdeal.Gen.facts, Cert.StateOutRefIdeal.Gen.facts,
  Cert.GateADx.Gen.facts, Cert.GateADxIdeal.Gen.facts, Cert.GateADxRefIdeal.Gen.facts,
  Cert.GateXDx.Gen.facts, Cert.GateXDxIdeal.Gen.facts, Cert.GateXDxRefIdeal.Gen.facts,
  Cert.GateADw.Gen.facts, Cert.GateADwIdeal.Gen.facts, Cert.GateADwRefIdeal.Gen.facts,
  Cert.GateIn.Gen.facts, Cert.GateInIdeal.Gen.facts, Cert.GateInRefIdeal.Gen.facts,
  Cert.Pre_finite.Gen.facts,
  fun m g _ => Cert.Kernel.Gen.frame m g, fun m g _ => Cert.KernelIdeal.Gen.frame m g, fun m g _ => Cert.KernelIdeal.Gen.frame m g,
  frameReference, fun m g _ => frameReference m g trivial,
  fun m g _ => Cert.InDx.Gen.frame m g, fun m g _ => Cert.InDxIdeal.Gen.frame m g, frameInDx,
  fun m g _ => Cert.InDw.Gen.frame m g, fun m g _ => Cert.InDwIdeal.Gen.frame m g, frameInDw,
  fun m g _ => Cert.In.Gen.frame m g, fun m g _ => Cert.InIdeal.Gen.frame m g, frameIn,
  fun m g _ => Cert.GateDx.Gen.frame m g, fun m g _ => Cert.GateDxIdeal.Gen.frame m g, frameGateDx,
  fun m g _ => Cert.UpDx.Gen.frame m g, fun m g _ => Cert.UpDxIdeal.Gen.frame m g, frameUpDx,
  fun m g _ => Cert.GateDw.Gen.frame m g, fun m g _ => Cert.GateDwIdeal.Gen.frame m g, frameGateDw,
  fun m g _ => Cert.Ffn.Gen.frame m g, fun m g _ => Cert.FfnIdeal.Gen.frame m g, frameFfn,
  fun m g _ => Cert.DownDx.Gen.frame m g, fun m g _ => Cert.DownDxIdeal.Gen.frame m g, frameDownDx,
  fun m g _ => Cert.DownDw.Gen.frame m g, fun m g _ => Cert.DownDwIdeal.Gen.frame m g, frameDownDw,
  fun m g _ => Cert.Down.Gen.frame m g, fun m g _ => Cert.DownIdeal.Gen.frame m g, frameDown,
  fun m g _ => Cert.OutDx.Gen.frame m g, fun m g _ => Cert.OutDxIdeal.Gen.frame m g, frameOutDx,
  fun m g _ => Cert.OutDw.Gen.frame m g, fun m g _ => Cert.OutDwIdeal.Gen.frame m g, frameOutDw,
  fun m g _ => Cert.Out.Gen.frame m g, fun m g _ => Cert.OutIdeal.Gen.frame m g, frameOut,
  fun m g _ => Cert.ProjDx.Gen.frame m g, fun m g _ => Cert.ProjDxIdeal.Gen.frame m g, frameProjDx,
  fun m g _ => Cert.ProjDo.Gen.frame m g, fun m g _ => Cert.ProjDoIdeal.Gen.frame m g, frameProjDo,
  fun m g _ => Cert.ProjDw.Gen.frame m g, fun m g _ => Cert.ProjDwIdeal.Gen.frame m g, frameProjDw,
  fun m g _ => Cert.Proj.Gen.frame m g, fun m g _ => Cert.ProjIdeal.Gen.frame m g, frameProj,
  fun m g _ => Cert.SwigluBwd.Gen.frame m g, fun m g _ => Cert.SwigluBwdIdeal.Gen.frame m g, frameSwigluBwd,
  fun m g _ => Cert.Swiglu.Gen.frame m g, fun m g _ => Cert.SwigluIdeal.Gen.frame m g, frameSwiglu,
  fun m g _ => Cert.LruOutBwd.Gen.frame m g, fun m g _ => Cert.LruOutBwdIdeal.Gen.frame m g, frameLruOutBwd,
  fun m g _ => Cert.LruOut.Gen.frame m g, fun m g _ => Cert.LruOutIdeal.Gen.frame m g, frameLruOut,
  fun m g _ => Cert.MergeBwd.Gen.frame m g, fun m g _ => Cert.MergeBwdIdeal.Gen.frame m g, frameMergeBwd,
  fun m g _ => Cert.Merge.Gen.frame m g, fun m g _ => Cert.MergeIdeal.Gen.frame m g, frameMerge,
  fun m g _ => Cert.NormBwd.Gen.frame m g, fun m g _ => Cert.NormBwdIdeal.Gen.frame m g, frameNormBwd,
  fun m g _ => Cert.Norm.Gen.frame m g, fun m g _ => Cert.NormIdeal.Gen.frame m g, frameNorm,
  fun m g _ => Cert.ConvDx.Gen.frame m g, fun m g _ => Cert.ConvDxIdeal.Gen.frame m g, frameConvDx,
  fun m g _ => Cert.ConvDw.Gen.frame m g, fun m g _ => Cert.ConvDwIdeal.Gen.frame m g, frameConvDw,
  fun m g _ => Cert.Conv.Gen.frame m g, fun m g _ => Cert.ConvIdeal.Gen.frame m g, frameConv,
  fun m g _ => Cert.SkipBwd.Gen.frame m g, fun m g _ => Cert.SkipBwdIdeal.Gen.frame m g, frameSkipBwd,
  fun m g _ => Cert.Skip.Gen.frame m g, fun m g _ => Cert.SkipIdeal.Gen.frame m g, frameSkip,
  fun m g _ => Cert.GluBwd.Gen.frame m g, fun m g _ => Cert.GluBwdIdeal.Gen.frame m g, frameGluBwd,
  fun m g _ => Cert.Glu.Gen.frame m g, fun m g _ => Cert.GluIdeal.Gen.frame m g, frameGlu,
  fun m g _ => Cert.GluDx.Gen.frame m g, fun m g _ => Cert.GluDxIdeal.Gen.frame m g, frameGluDx,
  fun m g _ => Cert.GluDw.Gen.frame m g, fun m g _ => Cert.GluDwIdeal.Gen.frame m g, frameGluDw,
  fun m g _ => Cert.GluPre.Gen.frame m g, fun m g _ => Cert.GluPreIdeal.Gen.frame m g, frameGluPre,
  fun m g _ => Cert.StateInDx.Gen.frame m g, fun m g _ => Cert.StateInDxIdeal.Gen.frame m g, frameStateInDx,
  fun m g _ => Cert.StateInDxLast.Gen.frame m g, fun m g _ => Cert.StateInDxLastIdeal.Gen.frame m g, frameStateInDxLast,
  fun m g _ => Cert.StateInDw.Gen.frame m g, fun m g _ => Cert.StateInDwIdeal.Gen.frame m g, frameStateInDw,
  fun m g _ => Cert.StateIn.Gen.frame m g, fun m g _ => Cert.StateInIdeal.Gen.frame m g, frameStateIn,
  fun m g _ => Cert.StateOutDx.Gen.frame m g, fun m g _ => Cert.StateOutDxIdeal.Gen.frame m g, frameStateOutDx,
  fun m g _ => Cert.StateOutDw.Gen.frame m g, fun m g _ => Cert.StateOutDwIdeal.Gen.frame m g, frameStateOutDw,
  fun m g _ => Cert.StateOut.Gen.frame m g, fun m g _ => Cert.StateOutIdeal.Gen.frame m g, frameStateOut,
  fun m g _ => Cert.GateADx.Gen.frame m g, fun m g _ => Cert.GateADxIdeal.Gen.frame m g, frameGateADx,
  fun m g _ => Cert.GateXDx.Gen.frame m g, fun m g _ => Cert.GateXDxIdeal.Gen.frame m g, frameGateXDx,
  fun m g _ => Cert.GateADw.Gen.frame m g, fun m g _ => Cert.GateADwIdeal.Gen.frame m g, frameGateADw,
  fun m g _ => Cert.GateIn.Gen.frame m g, fun m g _ => Cert.GateInIdeal.Gen.frame m g, frameGateIn,
  IdealRules.named_const.statement Cert.KernelIdeal.κ "neg_big" .f32 0xF149F2CA#32 ⊥ rfl, value,
  trivial, Cert.Products.InDx.value,
  trivial, Cert.Products.InDw.value,
  trivial, Cert.Products.In.value,
  trivial, Cert.Products.GateDx.value,
  trivial, Cert.Products.UpDx.value,
  trivial, Cert.Products.GateDw.value,
  trivial, Cert.Products.Ffn.value,
  trivial, Cert.Products.DownDx.value,
  trivial, Cert.Products.DownDw.value,
  trivial, Cert.Products.Down.value,
  trivial, Cert.Products.OutDx.value,
  trivial, Cert.Products.OutDw.value,
  trivial, Cert.Products.Out.value,
  trivial, Cert.Products.ProjDx.value,
  trivial, Cert.Products.ProjDo.value,
  trivial, Cert.Products.ProjDw.value,
  trivial, Cert.Products.Proj.value,
  trivial, Cert.SwigluBwdIdeal.Value.value,
  trivial, Cert.SwigluIdeal.Value.value,
  trivial, Cert.LruOutBwdIdeal.Value.value,
  trivial, Cert.LruOutIdeal.Value.value,
  trivial, Cert.MergeBwdIdeal.Value.value,
  trivial, Cert.MergeIdeal.Value.value,
  trivial, Cert.NormBwdIdeal.Value.value,
  trivial, Cert.NormIdeal.Value.value,
  trivial, Cert.ConvDxIdeal.Value.value,
  trivial, Cert.ConvDwIdeal.Value.value,
  trivial, Cert.ConvIdeal.Value.value,
  trivial, Cert.SkipBwdIdeal.Value.value,
  trivial, Cert.SkipIdeal.Value.value,
  trivial, Cert.GluBwdIdeal.Value.value,
  trivial, Cert.GluIdeal.Value.value,
  trivial, Cert.GluDxIdeal.Value.value,
  trivial, Cert.GluDwIdeal.Value.value,
  trivial, Cert.GluPreIdeal.Value.value,
  trivial, Cert.StateInDxIdeal.Value.value,
  trivial, Cert.StateInDxLastIdeal.Value.value,
  trivial, Cert.StateInDwIdeal.Value.value,
  trivial, Cert.StateInIdeal.Value.value,
  trivial, Cert.StateOutDxIdeal.Value.value,
  trivial, Cert.StateOutDwIdeal.Value.value,
  trivial, Cert.StateOutIdeal.Value.value,
  trivial, Cert.GateADxIdeal.Value.value,
  trivial, Cert.GateXDxIdeal.Value.value,
  trivial, Cert.GateADwIdeal.Value.value,
  trivial, Cert.GateInIdeal.Value.value⟩

end Cert.Proof

end
